-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)) (v4 : (c : Dev Cert.KernelIdeal.nD) → Buf (Elt Ideal) ((c.tc : Thread Cert.KernelIdeal.nD Cert.KernelIdeal.τ).loc Cert.KernelIdeal.main_v4_4)) (v5 : (c : Dev Cert.KernelIdeal.nD) → Buf (Elt Ideal) ((c.tc : Thread Cert.KernelIdeal.nD Cert.KernelIdeal.τ).loc Cert.KernelIdeal.main_v4_5)) (v6 : (c : Dev Cert.KernelIdeal.nD) → Buf (Elt Ideal) ((c.tc : Thread Cert.KernelIdeal.nD Cert.KernelIdeal.τ).loc Cert.KernelIdeal.main_v4_6)) (v7 : (c : Dev Cert.KernelIdeal.nD) → Buf (Elt Ideal) ((c.tc : Thread Cert.KernelIdeal.nD Cert.KernelIdeal.τ).loc Cert.KernelIdeal.main_v4_7)) (v8 : (c : Dev Cert.KernelIdeal.nD) → Buf (Elt Ideal) ((c.tc : Thread Cert.KernelIdeal.nD Cert.KernelIdeal.τ).loc Cert.KernelIdeal.main_v4_8)) (v9 : (c : Dev Cert.KernelIdeal.nD) → Buf (Elt Ideal) ((c.tc : Thread Cert.KernelIdeal.nD Cert.KernelIdeal.τ).loc Cert.KernelIdeal.main_v4_9)) (v10 : (c : Dev Cert.KernelIdeal.nD) → Buf (Elt Ideal) ((c.tc : Thread Cert.KernelIdeal.nD Cert.KernelIdeal.τ).loc Cert.KernelIdeal.main_v4_10)) (v11 : (c : Dev Cert.KernelIdeal.nD) → Buf (Elt Ideal) ((c.tc : Thread Cert.KernelIdeal.nD Cert.KernelIdeal.τ).loc Cert.KernelIdeal.main_v4_11)) (v12 : (c : Dev Cert.KernelIdeal.nD) → Buf (Elt Ideal) ((c.tc : Thread Cert.KernelIdeal.nD Cert.KernelIdeal.τ).loc Cert.KernelIdeal.main_v4_12)) (v13 : (c : Dev Cert.KernelIdeal.nD) → Buf (Elt Ideal) ((c.tc : Thread Cert.KernelIdeal.nD Cert.KernelIdeal.τ).loc Cert.KernelIdeal.main_v4_13)) (v14 : (c : Dev Cert.KernelIdeal.nD) → Buf (Elt Ideal) ((c.tc : Thread Cert.KernelIdeal.nD Cert.KernelIdeal.τ).loc Cert.KernelIdeal.main_v4_14)) (v15 : (c : Dev Cert.KernelIdeal.nD) → Buf (Elt Ideal) ((c.tc : Thread Cert.KernelIdeal.nD Cert.KernelIdeal.τ).loc Cert.KernelIdeal.main_v4_15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_v4_3) = v3 c
          ∧ r.2.mem ((c.tc : Thread Cert.KernelIdeal.nD Cert.KernelIdeal.τ).loc Cert.KernelIdeal.main_v4_4) = v4 c
          ∧ r.2.mem ((c.tc : Thread Cert.KernelIdeal.nD Cert.KernelIdeal.τ).loc Cert.KernelIdeal.main_v4_5) = v5 c
          ∧ r.2.mem ((c.tc : Thread Cert.KernelIdeal.nD Cert.KernelIdeal.τ).loc Cert.KernelIdeal.main_v4_6) = v6 c
          ∧ r.2.mem ((c.tc : Thread Cert.KernelIdeal.nD Cert.KernelIdeal.τ).loc Cert.KernelIdeal.main_v4_7) = v7 c
          ∧ r.2.mem ((c.tc : Thread Cert.KernelIdeal.nD Cert.KernelIdeal.τ).loc Cert.KernelIdeal.main_v4_8) = v8 c
          ∧ r.2.mem ((c.tc : Thread Cert.KernelIdeal.nD Cert.KernelIdeal.τ).loc Cert.KernelIdeal.main_v4_9) = v9 c
          ∧ r.2.mem ((c.tc : Thread Cert.KernelIdeal.nD Cert.KernelIdeal.τ).loc Cert.KernelIdeal.main_v4_10) = v10 c
          ∧ r.2.mem ((c.tc : Thread Cert.KernelIdeal.nD Cert.KernelIdeal.τ).loc Cert.KernelIdeal.main_v4_11) = v11 c
          ∧ r.2.mem ((c.tc : Thread Cert.KernelIdeal.nD Cert.KernelIdeal.τ).loc Cert.KernelIdeal.main_v4_12) = v12 c
          ∧ r.2.mem ((c.tc : Thread Cert.KernelIdeal.nD Cert.KernelIdeal.τ).loc Cert.KernelIdeal.main_v4_13) = v13 c
          ∧ r.2.mem ((c.tc : Thread Cert.KernelIdeal.nD Cert.KernelIdeal.τ).loc Cert.KernelIdeal.main_v4_14) = v14 c
          ∧ r.2.mem ((c.tc : Thread Cert.KernelIdeal.nD Cert.KernelIdeal.τ).loc Cert.KernelIdeal.main_v4_15) = v15 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_v0_5) = v5 c
          ∧ r.2.mem ((c.tc : Thread Cert.ReferenceIdeal.nD Cert.ReferenceIdeal.τ).loc Cert.ReferenceIdeal.main_v0_6) = v6 c
          ∧ r.2.mem ((c.tc : Thread Cert.ReferenceIdeal.nD Cert.ReferenceIdeal.τ).loc Cert.ReferenceIdeal.main_v0_7) = v7 c
          ∧ r.2.mem ((c.tc : Thread Cert.ReferenceIdeal.nD Cert.ReferenceIdeal.τ).loc Cert.ReferenceIdeal.main_v0_8) = v8 c
          ∧ r.2.mem ((c.tc : Thread Cert.ReferenceIdeal.nD Cert.ReferenceIdeal.τ).loc Cert.ReferenceIdeal.main_v0_9) = v9 c
          ∧ r.2.mem ((c.tc : Thread Cert.ReferenceIdeal.nD Cert.ReferenceIdeal.τ).loc Cert.ReferenceIdeal.main_v0_10) = v10 c
          ∧ r.2.mem ((c.tc : Thread Cert.ReferenceIdeal.nD Cert.ReferenceIdeal.τ).loc Cert.ReferenceIdeal.main_v0_11) = v11 c
          ∧ r.2.mem ((c.tc : Thread Cert.ReferenceIdeal.nD Cert.ReferenceIdeal.τ).loc Cert.ReferenceIdeal.main_v0_12) = v12 c
          ∧ r.2.mem ((c.tc : Thread Cert.ReferenceIdeal.nD Cert.ReferenceIdeal.τ).loc Cert.ReferenceIdeal.main_v0_13) = v13 c
          ∧ r.2.mem ((c.tc : Thread Cert.ReferenceIdeal.nD Cert.ReferenceIdeal.τ).loc Cert.ReferenceIdeal.main_v0_14) = v14 c
          ∧ r.2.mem ((c.tc : Thread Cert.ReferenceIdeal.nD Cert.ReferenceIdeal.τ).loc Cert.ReferenceIdeal.main_v0_15) = v15 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S25x512x768 : Shape := ⟨3, ![25, 512, 768]⟩
abbrev S25x512x384 : Shape := ⟨3, ![25, 512, 384]⟩
abbrev S16x416x512 : Shape := ⟨3, ![16, 416, 512]⟩
abbrev S1x384 : Shape := ⟨2, ![1, 384]⟩
abbrev S384x1536 : Shape := ⟨2, ![384, 1536]⟩
abbrev S1x768 : Shape := ⟨2, ![1, 768]⟩
abbrev S2x768 : Shape := ⟨2, ![2, 768]⟩
abbrev S3072x768 : Shape := ⟨2, ![3072, 768]⟩
abbrev S4x16x48 : Shape := ⟨3, ![4, 16, 48]⟩
abbrev S16x48 : Shape := ⟨2, ![16, 48]⟩
abbrev S768x768 : Shape := ⟨2, ![768, 768]⟩
abbrev S2x768x1536 : Shape := ⟨3, ![2, 768, 1536]⟩
abbrev S2x1536 : Shape := ⟨2, ![2, 1536]⟩
abbrev S1536x768 : Shape := ⟨2, ![1536, 768]⟩
abbrev S3072x1 : Shape := ⟨2, ![3072, 1]⟩
abbrev S3072x128 : Shape := ⟨2, ![3072, 128]⟩
abbrev S768x1 : Shape := ⟨2, ![768, 1]⟩
abbrev S768x128 : Shape := ⟨2, ![768, 128]⟩
abbrev S25x512 : Shape := ⟨2, ![25, 512]⟩
abbrev S25x16x48x512 : Shape := ⟨4, ![25, 16, 48, 512]⟩
abbrev S25x16x512 : Shape := ⟨3, ![25, 16, 512]⟩
abbrev S25x512x1536 : Shape := ⟨3, ![25, 512, 1536]⟩
abbrev S1x512x768 : Shape := ⟨3, ![1, 512, 768]⟩
abbrev S1x512x384 : Shape := ⟨3, ![1, 512, 384]⟩
abbrev S1x16x48x512 : Shape := ⟨4, ![1, 16, 48, 512]⟩
abbrev S1x16x512 : Shape := ⟨3, ![1, 16, 512]⟩
abbrev S1x512x1536 : Shape := ⟨3, ![1, 512, 1536]⟩
abbrev S512x384 : Shape := ⟨2, ![512, 384]⟩
abbrev S512x768 : Shape := ⟨2, ![512, 768]⟩
abbrev S768x512 : Shape := ⟨2, ![768, 512]⟩
abbrev S16x48x512 : Shape := ⟨3, ![16, 48, 512]⟩
abbrev S512x1536 : Shape := ⟨2, ![512, 1536]⟩
abbrev S512 : Shape := ⟨1, ![512]⟩
abbrev S512x1 : Shape := ⟨2, ![512, 1]⟩
abbrev S384x256 : Shape := ⟨2, ![384, 256]⟩
abbrev S512x256 : Shape := ⟨2, ![512, 256]⟩
abbrev S1x256 : Shape := ⟨2, ![1, 256]⟩
abbrev S512x128 : Shape := ⟨2, ![512, 128]⟩
abbrev S128x512 : Shape := ⟨2, ![128, 512]⟩
abbrev S1x512 : Shape := ⟨2, ![1, 512]⟩
abbrev S48x128 : Shape := ⟨2, ![48, 128]⟩
abbrev S48x512 : Shape := ⟨2, ![48, 512]⟩
abbrev S1x1x48x512 : Shape := ⟨4, ![1, 1, 48, 512]⟩
abbrev S1x1x512 : Shape := ⟨3, ![1, 1, 512]⟩
abbrev S1x48x512 : Shape := ⟨3, ![1, 48, 512]⟩
abbrev S512x48 : Shape := ⟨2, ![512, 48]⟩
abbrev S416x48 : Shape := ⟨2, ![416, 48]⟩
abbrev S416x512 : Shape := ⟨2, ![416, 512]⟩
abbrev S416x128 : Shape := ⟨2, ![416, 128]⟩
abbrev S1x416x512 : Shape := ⟨3, ![1, 416, 512]⟩
abbrev S48x416 : Shape := ⟨2, ![48, 416]⟩
abbrev S768x256 : Shape := ⟨2, ![768, 256]⟩
abbrev S1x512x256 : Shape := ⟨3, ![1, 512, 256]⟩
abbrev S1x768x256 : Shape := ⟨3, ![1, 768, 256]⟩
abbrev S1536x256 : Shape := ⟨2, ![1536, 256]⟩

abbrev nBuf : Space → Nat
  | .hbm => 40
  | .vmem => 58
  | .smem => 0
  | _ => 0

abbrev bufTy : (tb : Table) → Fin (tcTables nBuf tb) → BufTy
  | .hbm, ⟨0, _⟩ => ⟨S25x512x768, .bf16⟩
  | .hbm, ⟨1, _⟩ => ⟨S25x512x384, .bf16⟩
  | .hbm, ⟨2, _⟩ => ⟨S16x416x512, .f32⟩
  | .hbm, ⟨3, _⟩ => ⟨S1x384, .f32⟩
  | .hbm, ⟨4, _⟩ => ⟨S1x384, .f32⟩
  | .hbm, ⟨5, _⟩ => ⟨S384x1536, .bf16⟩
  | .hbm, ⟨6, _⟩ => ⟨S1x768, .f32⟩
  | .hbm, ⟨7, _⟩ => ⟨S384x1536, .bf16⟩
  | .hbm, ⟨8, _⟩ => ⟨S1x768, .f32⟩
  | .hbm, ⟨9, _⟩ => ⟨S384x1536, .bf16⟩
  | .hbm, ⟨10, _⟩ => ⟨S2x768, .f32⟩
  | .hbm, ⟨11, _⟩ => ⟨S3072x768, .fp8e4m3⟩
  | .hbm, ⟨12, _⟩ => ⟨S4x16x48, .f32⟩
  | .hbm, ⟨13, _⟩ => ⟨S16x48, .f32⟩
  | .hbm, ⟨14, _⟩ => ⟨S768x768, .fp8e4m3⟩
  | .hbm, ⟨15, _⟩ => ⟨S1x768, .f32⟩
  | .hbm, ⟨16, _⟩ => ⟨S2x768x1536, .fp8e4m3⟩
  | .hbm, ⟨17, _⟩ => ⟨S2x1536, .f32⟩
  | .hbm, ⟨18, _⟩ => ⟨S1536x768, .fp8e4m3⟩
  | .hbm, ⟨19, _⟩ => ⟨S1x768, .f32⟩
  | .hbm, ⟨20, _⟩ => ⟨S3072x1, .f32⟩
  | .hbm, ⟨21, _⟩ => ⟨S3072x128, .f32⟩
  | .hbm, ⟨22, _⟩ => ⟨S768x1, .f32⟩
  | .hbm, ⟨23, _⟩ => ⟨S768x128, .f32⟩
  | .hbm, ⟨24, _⟩ => ⟨S25x512x768, .bf16⟩
  | .hbm, ⟨25, _⟩ => ⟨S25x512x768, .f32⟩
  | .hbm, ⟨26, _⟩ => ⟨S25x512x768, .fp8e4m3⟩
  | .hbm, ⟨27, _⟩ => ⟨S25x512, .f32⟩
  | .hbm, ⟨28, _⟩ => ⟨S25x16x48x512, .fp8e4m3⟩
  | .hbm, ⟨29, _⟩ => ⟨S25x16x512, .f32⟩
  | .hbm, ⟨30, _⟩ => ⟨S25x16x48x512, .fp8e4m3⟩
  | .hbm, ⟨31, _⟩ => ⟨S25x16x512, .f32⟩
  | .hbm, ⟨32, _⟩ => ⟨S25x16x48x512, .fp8e4m3⟩
  | .hbm, ⟨33, _⟩ => ⟨S25x16x512, .f32⟩
  | .hbm, ⟨34, _⟩ => ⟨S25x16x48x512, .fp8e4m3⟩
  | .hbm, ⟨35, _⟩ => ⟨S25x512, .f32⟩
  | .hbm, ⟨36, _⟩ => ⟨S25x512x768, .fp8e4m3⟩
  | .hbm, ⟨37, _⟩ => ⟨S25x512, .f32⟩
  | .hbm, ⟨38, _⟩ => ⟨S25x512x1536, .fp8e4m3⟩
  | .hbm, ⟨39, _⟩ => ⟨S25x512, .f32⟩
  | .local _ .vmem, ⟨0, _⟩ => ⟨S1x512x768, .bf16⟩
  | .local _ .vmem, ⟨1, _⟩ => ⟨S1x512x768, .bf16⟩
  | .local _ .vmem, ⟨2, _⟩ => ⟨S1x512x384, .bf16⟩
  | .local _ .vmem, ⟨3, _⟩ => ⟨S1x512x384, .bf16⟩
  | .local _ .vmem, ⟨4, _⟩ => ⟨S16x416x512, .f32⟩
  | .local _ .vmem, ⟨5, _⟩ => ⟨S1x384, .f32⟩
  | .local _ .vmem, ⟨6, _⟩ => ⟨S1x384, .f32⟩
  | .local _ .vmem, ⟨7, _⟩ => ⟨S384x1536, .bf16⟩
  | .local _ .vmem, ⟨8, _⟩ => ⟨S1x768, .f32⟩
  | .local _ .vmem, ⟨9, _⟩ => ⟨S384x1536, .bf16⟩
  | .local _ .vmem, ⟨10, _⟩ => ⟨S1x768, .f32⟩
  | .local _ .vmem, ⟨11, _⟩ => ⟨S384x1536, .bf16⟩
  | .local _ .vmem, ⟨12, _⟩ => ⟨S2x768, .f32⟩
  | .local _ .vmem, ⟨13, _⟩ => ⟨S3072x768, .fp8e4m3⟩
  | .local _ .vmem, ⟨14, _⟩ => ⟨S3072x128, .f32⟩
  | .local _ .vmem, ⟨15, _⟩ => ⟨S768x128, .f32⟩
  | .local _ .vmem, ⟨16, _⟩ => ⟨S768x768, .fp8e4m3⟩
  | .local _ .vmem, ⟨17, _⟩ => ⟨S1x768, .f32⟩
  | .local _ .vmem, ⟨18, _⟩ => ⟨S2x768x1536, .fp8e4m3⟩
  | .local _ .vmem, ⟨19, _⟩ => ⟨S2x1536, .f32⟩
  | .local _ .vmem, ⟨20, _⟩ => ⟨S1536x768, .fp8e4m3⟩
  | .local _ .vmem, ⟨21, _⟩ => ⟨S1x768, .f32⟩
  | .local _ .vmem, ⟨22, _⟩ => ⟨S1x512x768, .bf16⟩
  | .local _ .vmem, ⟨23, _⟩ => ⟨S1x512x768, .bf16⟩
  | .local _ .vmem, ⟨24, _⟩ => ⟨S1x512x768, .f32⟩
  | .local _ .vmem, ⟨25, _⟩ => ⟨S1x512x768, .f32⟩
  | .local _ .vmem, ⟨26, _⟩ => ⟨S1x512x768, .fp8e4m3⟩
  | .local _ .vmem, ⟨27, _⟩ => ⟨S1x512x768, .fp8e4m3⟩
  | .local _ .vmem, ⟨28, _⟩ => ⟨S25x512, .f32⟩
  | .local _ .vmem, ⟨29, _⟩ => ⟨S1x16x48x512, .fp8e4m3⟩
  | .local _ .vmem, ⟨30, _⟩ => ⟨S1x16x48x512, .fp8e4m3⟩
  | .local _ .vmem, ⟨31, _⟩ => ⟨S1x16x512, .f32⟩
  | .local _ .vmem, ⟨32, _⟩ => ⟨S1x16x512, .f32⟩
  | .local _ .vmem, ⟨33, _⟩ => ⟨S1x16x48x512, .fp8e4m3⟩
  | .local _ .vmem, ⟨34, _⟩ => ⟨S1x16x48x512, .fp8e4m3⟩
  | .local _ .vmem, ⟨35, _⟩ => ⟨S1x16x512, .f32⟩
  | .local _ .vmem, ⟨36, _⟩ => ⟨S1x16x512, .f32⟩
  | .local _ .vmem, ⟨37, _⟩ => ⟨S1x16x48x512, .fp8e4m3⟩
  | .local _ .vmem, ⟨38, _⟩ => ⟨S1x16x48x512, .fp8e4m3⟩
  | .local _ .vmem, ⟨39, _⟩ => ⟨S1x16x512, .f32⟩
  | .local _ .vmem, ⟨40, _⟩ => ⟨S1x16x512, .f32⟩
  | .local _ .vmem, ⟨41, _⟩ => ⟨S1x16x48x512, .fp8e4m3⟩
  | .local _ .vmem, ⟨42, _⟩ => ⟨S1x16x48x512, .fp8e4m3⟩
  | .local _ .vmem, ⟨43, _⟩ => ⟨S25x512, .f32⟩
  | .local _ .vmem, ⟨44, _⟩ => ⟨S1x512x768, .fp8e4m3⟩
  | .local _ .vmem, ⟨45, _⟩ => ⟨S1x512x768, .fp8e4m3⟩
  | .local _ .vmem, ⟨46, _⟩ => ⟨S25x512, .f32⟩
  | .local _ .vmem, ⟨47, _⟩ => ⟨S1x512x1536, .fp8e4m3⟩
  | .local _ .vmem, ⟨48, _⟩ => ⟨S1x512x1536, .fp8e4m3⟩
  | .local _ .vmem, ⟨49, _⟩ => ⟨S25x512, .f32⟩
  | .local _ .vmem, ⟨50, _⟩ => ⟨S512x384, .bf16⟩
  | .local _ .vmem, ⟨51, _⟩ => ⟨S512x384, .bf16⟩
  | .local _ .vmem, ⟨52, _⟩ => ⟨S512x768, .f32⟩
  | .local _ .vmem, ⟨53, _⟩ => ⟨S512x768, .f32⟩
  | .local _ .vmem, ⟨54, _⟩ => ⟨S768x512, .f32⟩
  | .local _ .vmem, ⟨55, _⟩ => ⟨S16x48x512, .f32⟩
  | .local _ .vmem, ⟨56, _⟩ => ⟨S16x48x512, .f32⟩
  | .local _ .vmem, ⟨57, _⟩ => ⟨S512x1536, .f32⟩
  | _, _ => ⟨S25x512x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4_0 : Ref sig .tc := ⟨.hbm, 24, rfl⟩
abbrev main_v4_1 : Ref sig .tc := ⟨.hbm, 25, rfl⟩
abbrev main_v4_2 : Ref sig .tc := ⟨.hbm, 26, rfl⟩
abbrev main_v4_3 : Ref sig .tc := ⟨.hbm, 27, rfl⟩
abbrev main_v4_4 : Ref sig .tc := ⟨.hbm, 28, rfl⟩
abbrev main_v4_5 : Ref sig .tc := ⟨.hbm, 29, rfl⟩
abbrev main_v4_6 : Ref sig .tc := ⟨.hbm, 30, rfl⟩
abbrev main_v4_7 : Ref sig .tc := ⟨.hbm, 31, rfl⟩
abbrev main_v4_8 : Ref sig .tc := ⟨.hbm, 32, rfl⟩
abbrev main_v4_9 : Ref sig .tc := ⟨.hbm, 33, rfl⟩
abbrev main_v4_10 : Ref sig .tc := ⟨.hbm, 34, rfl⟩
abbrev main_v4_11 : Ref sig .tc := ⟨.hbm, 35, rfl⟩
abbrev main_v4_12 : Ref sig .tc := ⟨.hbm, 36, rfl⟩
abbrev main_v4_13 : Ref sig .tc := ⟨.hbm, 37, rfl⟩
abbrev main_v4_14 : Ref sig .tc := ⟨.hbm, 38, rfl⟩
abbrev main_v4_15 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg19_0 : Ref sig .tc := ⟨.vmem, 21, rfl⟩
abbrev cc0_stg20_0 : Ref sig .tc := ⟨.vmem, 22, rfl⟩
abbrev cc0_stg20_1 : Ref sig .tc := ⟨.vmem, 23, rfl⟩
abbrev cc0_stg21_0 : Ref sig .tc := ⟨.vmem, 24, rfl⟩
abbrev cc0_stg21_1 : Ref sig .tc := ⟨.vmem, 25, rfl⟩
abbrev cc0_stg22_0 : Ref sig .tc := ⟨.vmem, 26, rfl⟩
abbrev cc0_stg22_1 : Ref sig .tc := ⟨.vmem, 27, rfl⟩
abbrev cc0_stg23_0 : Ref sig .tc := ⟨.vmem, 28, rfl⟩
abbrev cc0_stg24_0 : Ref sig .tc := ⟨.vmem, 29, rfl⟩
abbrev cc0_stg24_1 : Ref sig .tc := ⟨.vmem, 30, rfl⟩
abbrev cc0_stg25_0 : Ref sig .tc := ⟨.vmem, 31, rfl⟩
abbrev cc0_stg25_1 : Ref sig .tc := ⟨.vmem, 32, rfl⟩
abbrev cc0_stg26_0 : Ref sig .tc := ⟨.vmem, 33, rfl⟩
abbrev cc0_stg26_1 : Ref sig .tc := ⟨.vmem, 34, rfl⟩
abbrev cc0_stg27_0 : Ref sig .tc := ⟨.vmem, 35, rfl⟩
abbrev cc0_stg27_1 : Ref sig .tc := ⟨.vmem, 36, rfl⟩
abbrev cc0_stg28_0 : Ref sig .tc := ⟨.vmem, 37, rfl⟩
abbrev cc0_stg28_1 : Ref sig .tc := ⟨.vmem, 38, rfl⟩
abbrev cc0_stg29_0 : Ref sig .tc := ⟨.vmem, 39, rfl⟩
abbrev cc0_stg29_1 : Ref sig .tc := ⟨.vmem, 40, rfl⟩
abbrev cc0_stg30_0 : Ref sig .tc := ⟨.vmem, 41, rfl⟩
abbrev cc0_stg30_1 : Ref sig .tc := ⟨.vmem, 42, rfl⟩
abbrev cc0_stg31_0 : Ref sig .tc := ⟨.vmem, 43, rfl⟩
abbrev cc0_stg32_0 : Ref sig .tc := ⟨.vmem, 44, rfl⟩
abbrev cc0_stg32_1 : Ref sig .tc := ⟨.vmem, 45, rfl⟩
abbrev cc0_stg33_0 : Ref sig .tc := ⟨.vmem, 46, rfl⟩
abbrev cc0_stg34_0 : Ref sig .tc := ⟨.vmem, 47, rfl⟩
abbrev cc0_stg34_1 : Ref sig .tc := ⟨.vmem, 48, rfl⟩
abbrev cc0_stg35_0 : Ref sig .tc := ⟨.vmem, 49, rfl⟩
abbrev cc0_scratch0 : Ref sig .tc := ⟨.vmem, 50, rfl⟩
abbrev cc0_scratch1 : Ref sig .tc := ⟨.vmem, 51, rfl⟩
abbrev cc0_scratch2 : Ref sig .tc := ⟨.vmem, 52, rfl⟩
abbrev cc0_scratch3 : Ref sig .tc := ⟨.vmem, 53, rfl⟩
abbrev cc0_scratch4 : Ref sig .tc := ⟨.vmem, 54, rfl⟩
abbrev cc0_scratch5 : Ref sig .tc := ⟨.vmem, 55, rfl⟩
abbrev cc0_scratch6 : Ref sig .tc := ⟨.vmem, 56, rfl⟩
abbrev cc0_scratch7 : Ref sig .tc := ⟨.vmem, 57, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem19_0 : DmaSem sig := 21
abbrev cc0_sem20_0 : DmaSem sig := 22
abbrev cc0_sem20_1 : DmaSem sig := 23
abbrev cc0_sem21_0 : DmaSem sig := 24
abbrev cc0_sem21_1 : DmaSem sig := 25
abbrev cc0_sem22_0 : DmaSem sig := 26
abbrev cc0_sem22_1 : DmaSem sig := 27
abbrev cc0_sem23_0 : DmaSem sig := 28
abbrev cc0_sem24_0 : DmaSem sig := 29
abbrev cc0_sem24_1 : DmaSem sig := 30
abbrev cc0_sem25_0 : DmaSem sig := 31
abbrev cc0_sem25_1 : DmaSem sig := 32
abbrev cc0_sem26_0 : DmaSem sig := 33
abbrev cc0_sem26_1 : DmaSem sig := 34
abbrev cc0_sem27_0 : DmaSem sig := 35
abbrev cc0_sem27_1 : DmaSem sig := 36
abbrev cc0_sem28_0 : DmaSem sig := 37
abbrev cc0_sem28_1 : DmaSem sig := 38
abbrev cc0_sem29_0 : DmaSem sig := 39
abbrev cc0_sem29_1 : DmaSem sig := 40
abbrev cc0_sem30_0 : DmaSem sig := 41
abbrev cc0_sem30_1 : DmaSem sig := 42
abbrev cc0_sem31_0 : DmaSem sig := 43
abbrev cc0_sem32_0 : DmaSem sig := 44
abbrev cc0_sem32_1 : DmaSem sig := 45
abbrev cc0_sem33_0 : DmaSem sig := 46
abbrev cc0_sem34_0 : DmaSem sig := 47
abbrev cc0_sem34_1 : DmaSem sig := 48
abbrev cc0_sem35_0 : DmaSem sig := 49

abbrev nD : Nat := 1
abbrev τ : Topo := Topo.v7x

variable {F : FTy → Type} [FloatOps F]

abbrev grid0 : Pipeline.Grid := ⟨1, ![25], ![false]⟩

def k0_off1 (i : grid0.Coords) : Fin 2 → Nat :=
  let arg0 : BitVec 32 := BitVec.ofNat 32 (i 0).val
  let v127 : Index := Scalar.indexCast arg0
  let c0_78 : Index := 0#32
  ![v127.toNat, 0]
@[reducible] def k0_t1_loop : Scf.Loop 32 :=
  let c0_i32 : BitVec 32 := 0#32
  let c16_i32 : BitVec 32 := 16#32
  let v136 : BitVec 32 := Scalar.addi c0_i32 c16_i32
  let c1_i32 : BitVec 32 := 1#32
  ⟨c0_i32, v136, c1_i32⟩
def k0_mult1 (k0_t1 : Fin k0_t1_loop.trips) : BitVec 32 :=
  let c0_i32 : BitVec 32 := 0#32
  let c1_i32 : BitVec 32 := 1#32
  let arg45 : BitVec 32 := Scf.iv c0_i32 c1_i32 k0_t1
  let c48_i32 : BitVec 32 := 48#32
  let v612 : BitVec 32 := Scalar.muli arg45 c48_i32
  v612
def k0_mult2 (k0_t1 : Fin k0_t1_loop.trips) : BitVec 32 :=
  let c0_i32_465 : BitVec 32 := 0#32
  let c0_i32 : BitVec 32 := 0#32
  let c1_i32 : BitVec 32 := 1#32
  let arg45 : BitVec 32 := Scf.iv c0_i32 c1_i32 k0_t1
  let c48_i32_464 : BitVec 32 := 48#32
  let v614 : BitVec 32 := Scalar.muli arg45 c48_i32_464
  let v615 : BitVec 32 := Scalar.addi c0_i32_465 v614
  v615
def k0_off2 (k0_t1 : Fin k0_t1_loop.trips) : Fin 2 → Nat :=
  let c0_i32_465 : BitVec 32 := 0#32
  let c0_i32 : BitVec 32 := 0#32
  let c1_i32 : BitVec 32 := 1#32
  let arg45 : BitVec 32 := Scf.iv c0_i32 c1_i32 k0_t1
  let c48_i32_464 : BitVec 32 := 48#32
  let v614 : BitVec 32 := Scalar.muli arg45 c48_i32_464
  let v615 : BitVec 32 := Scalar.addi c0_i32_465 v614
  let v616 : BitVec 32 := v615
  let v617 : Index := Scalar.indexCast v616
  let c0_466 : Index := 0#32
  ![v617.toNat, 0]
def k0_off3 (k0_t1 : Fin k0_t1_loop.trips) : Fin 2 → Nat :=
  let c0_i32 : BitVec 32 := 0#32
  let c1_i32 : BitVec 32 := 1#32
  let arg45 : BitVec 32 := Scf.iv c0_i32 c1_i32 k0_t1
  let c48_i32 : BitVec 32 := 48#32
  let v612 : BitVec 32 := Scalar.muli arg45 c48_i32
  let v613 : BitVec 32 := v612
  let v621 : Index := Scalar.indexCast v613
  let c0_467 : Index := 0#32
  ![v621.toNat, 0]
def k0_off4 (k0_t1 : Fin k0_t1_loop.trips) : Fin 2 → Nat :=
  let c0_i32 : BitVec 32 := 0#32
  let c1_i32 : BitVec 32 := 1#32
  let arg45 : BitVec 32 := Scf.iv c0_i32 c1_i32 k0_t1
  let c48_i32 : BitVec 32 := 48#32
  let v612 : BitVec 32 := Scalar.muli arg45 c48_i32
  let v613 : BitVec 32 := v612
  let v626 : Index := Scalar.indexCast v613
  let c0_468 : Index := 0#32
  ![v626.toNat, 0]
def k0_off5 (k0_t1 : Fin k0_t1_loop.trips) : Fin 4 → Nat :=
  let c0_475 : Index := 0#32
  let c0_i32 : BitVec 32 := 0#32
  let c1_i32 : BitVec 32 := 1#32
  let arg45 : BitVec 32 := Scf.iv c0_i32 c1_i32 k0_t1
  let v647 : Index := Scalar.indexCast arg45
  let c0_476 : Index := 0#32
  let c0_477 : Index := 0#32
  ![0, v647.toNat, 0, 0]
def k0_off6 (k0_t1 : Fin k0_t1_loop.trips) : Fin 3 → Nat :=
  let c0_478 : Index := 0#32
  let c0_i32 : BitVec 32 := 0#32
  let c1_i32 : BitVec 32 := 1#32
  let arg45 : BitVec 32 := Scf.iv c0_i32 c1_i32 k0_t1
  let v651 : Index := Scalar.indexCast arg45
  let c0_479 : Index := 0#32
  ![0, v651.toNat, 0]
@[reducible] def k0_t2_loop : Scf.Loop 32 :=
  let c0_i32_96 : BitVec 32 := 0#32
  let c16_i32_97 : BitVec 32 := 16#32
  let v144 : BitVec 32 := Scalar.addi c0_i32_96 c16_i32_97
  let c1_i32_98 : BitVec 32 := 1#32
  ⟨c0_i32_96, v144, c1_i32_98⟩
def k0_mult3 (k0_t2 : Fin k0_t2_loop.trips) : BitVec 32 :=
  let c0_i32_96 : BitVec 32 := 0#32
  let c1_i32_98 : BitVec 32 := 1#32
  let arg45 : BitVec 32 := Scf.iv c0_i32_96 c1_i32_98 k0_t2
  let c48_i32 : BitVec 32 := 48#32
  let v612 : BitVec 32 := Scalar.muli arg45 c48_i32
  v612
def k0_mult4 (k0_t2 : Fin k0_t2_loop.trips) : BitVec 32 :=
  let c768_i32 : BitVec 32 := 768#32
  let c0_i32_96 : BitVec 32 := 0#32
  let c1_i32_98 : BitVec 32 := 1#32
  let arg45 : BitVec 32 := Scf.iv c0_i32_96 c1_i32_98 k0_t2
  let c48_i32_464 : BitVec 32 := 48#32
  let v614 : BitVec 32 := Scalar.muli arg45 c48_i32_464
  let v615 : BitVec 32 := Scalar.addi c768_i32 v614
  v615
def k0_off7 (k0_t2 : Fin k0_t2_loop.trips) : Fin 2 → Nat :=
  let c768_i32 : BitVec 32 := 768#32
  let c0_i32_96 : BitVec 32 := 0#32
  let c1_i32_98 : BitVec 32 := 1#32
  let arg45 : BitVec 32 := Scf.iv c0_i32_96 c1_i32_98 k0_t2
  let c48_i32_464 : BitVec 32 := 48#32
  let v614 : BitVec 32 := Scalar.muli arg45 c48_i32_464
  let v615 : BitVec 32 := Scalar.addi c768_i32 v614
  let v616 : BitVec 32 := v615
  let v617 : Index := Scalar.indexCast v616
  let c0_465 : Index := 0#32
  ![v617.toNat, 0]
def k0_off8 (k0_t2 : Fin k0_t2_loop.trips) : Fin 2 → Nat :=
  let c0_i32_96 : BitVec 32 := 0#32
  let c1_i32_98 : BitVec 32 := 1#32
  let arg45 : BitVec 32 := Scf.iv c0_i32_96 c1_i32_98 k0_t2
  let c48_i32 : BitVec 32 := 48#32
  let v612 : BitVec 32 := Scalar.muli arg45 c48_i32
  let v613 : BitVec 32 := v612
  let v621 : Index := Scalar.indexCast v613
  let c0_466 : Index := 0#32
  ![v621.toNat, 0]
def k0_off9 (k0_t2 : Fin k0_t2_loop.trips) : Fin 4 → Nat :=
  let c0_473 : Index := 0#32
  let c0_i32_96 : BitVec 32 := 0#32
  let c1_i32_98 : BitVec 32 := 1#32
  let arg45 : BitVec 32 := Scf.iv c0_i32_96 c1_i32_98 k0_t2
  let v642 : Index := Scalar.indexCast arg45
  let c0_474 : Index := 0#32
  let c0_475 : Index := 0#32
  ![0, v642.toNat, 0, 0]
def k0_off10 (k0_t2 : Fin k0_t2_loop.trips) : Fin 3 → Nat :=
  let c0_476 : Index := 0#32
  let c0_i32_96 : BitVec 32 := 0#32
  let c1_i32_98 : BitVec 32 := 1#32
  let arg45 : BitVec 32 := Scf.iv c0_i32_96 c1_i32_98 k0_t2
  let v646 : Index := Scalar.indexCast arg45
  let c0_477 : Index := 0#32
  ![0, v646.toNat, 0]
@[reducible] def k0_t3_loop : Scf.Loop 32 :=
  let c0_i32_107 : BitVec 32 := 0#32
  let c16_i32_108 : BitVec 32 := 16#32
  let v152 : BitVec 32 := Scalar.addi c0_i32_107 c16_i32_108
  let c1_i32_109 : BitVec 32 := 1#32
  ⟨c0_i32_107, v152, c1_i32_109⟩
def k0_mult5 (k0_t3 : Fin k0_t3_loop.trips) : BitVec 32 :=
  let c0_i32_107 : BitVec 32 := 0#32
  let c1_i32_109 : BitVec 32 := 1#32
  let arg45 : BitVec 32 := Scf.iv c0_i32_107 c1_i32_109 k0_t3
  let c48_i32 : BitVec 32 := 48#32
  let v612 : BitVec 32 := Scalar.muli arg45 c48_i32
  v612
def k0_mult6 (k0_t3 : Fin k0_t3_loop.trips) : BitVec 32 :=
  let c1536_i32 : BitVec 32 := 1536#32
  let c0_i32_107 : BitVec 32 := 0#32
  let c1_i32_109 : BitVec 32 := 1#32
  let arg45 : BitVec 32 := Scf.iv c0_i32_107 c1_i32_109 k0_t3
  let c48_i32_464 : BitVec 32 := 48#32
  let v614 : BitVec 32 := Scalar.muli arg45 c48_i32_464
  let v615 : BitVec 32 := Scalar.addi c1536_i32 v614
  v615
def k0_off11 (k0_t3 : Fin k0_t3_loop.trips) : Fin 2 → Nat :=
  let c1536_i32 : BitVec 32 := 1536#32
  let c0_i32_107 : BitVec 32 := 0#32
  let c1_i32_109 : BitVec 32 := 1#32
  let arg45 : BitVec 32 := Scf.iv c0_i32_107 c1_i32_109 k0_t3
  let c48_i32_464 : BitVec 32 := 48#32
  let v614 : BitVec 32 := Scalar.muli arg45 c48_i32_464
  let v615 : BitVec 32 := Scalar.addi c1536_i32 v614
  let v616 : BitVec 32 := v615
  let v617 : Index := Scalar.indexCast v616
  let c0_465 : Index := 0#32
  ![v617.toNat, 0]
def k0_off12 (k0_t3 : Fin k0_t3_loop.trips) : Fin 2 → Nat :=
  let c0_i32_107 : BitVec 32 := 0#32
  let c1_i32_109 : BitVec 32 := 1#32
  let arg45 : BitVec 32 := Scf.iv c0_i32_107 c1_i32_109 k0_t3
  let c48_i32 : BitVec 32 := 48#32
  let v612 : BitVec 32 := Scalar.muli arg45 c48_i32
  let v613 : BitVec 32 := v612
  let v621 : Index := Scalar.indexCast v613
  let c0_466 : Index := 0#32
  ![v621.toNat, 0]
def k0_off13 (k0_t3 : Fin k0_t3_loop.trips) : Fin 4 → Nat :=
  let c0_473 : Index := 0#32
  let c0_i32_107 : BitVec 32 := 0#32
  let c1_i32_109 : BitVec 32 := 1#32
  let arg45 : BitVec 32 := Scf.iv c0_i32_107 c1_i32_109 k0_t3
  let v642 : Index := Scalar.indexCast arg45
  let c0_474 : Index := 0#32
  let c0_475 : Index := 0#32
  ![0, v642.toNat, 0, 0]
def k0_off14 (k0_t3 : Fin k0_t3_loop.trips) : Fin 3 → Nat :=
  let c0_476 : Index := 0#32
  let c0_i32_107 : BitVec 32 := 0#32
  let c1_i32_109 : BitVec 32 := 1#32
  let arg45 : BitVec 32 := Scf.iv c0_i32_107 c1_i32_109 k0_t3
  let v646 : Index := Scalar.indexCast arg45
  let c0_477 : Index := 0#32
  ![0, v646.toNat, 0]
@[reducible] def k0_t4_loop : Scf.Loop 32 :=
  let c0_i32_118 : BitVec 32 := 0#32
  let c16_i32_119 : BitVec 32 := 16#32
  let v160 : BitVec 32 := Scalar.addi c0_i32_118 c16_i32_119
  let c1_i32_120 : BitVec 32 := 1#32
  ⟨c0_i32_118, v160, c1_i32_120⟩
def k0_mult7 (k0_t4 : Fin k0_t4_loop.trips) : BitVec 32 :=
  let c0_i32_118 : BitVec 32 := 0#32
  let c1_i32_120 : BitVec 32 := 1#32
  let arg45 : BitVec 32 := Scf.iv c0_i32_118 c1_i32_120 k0_t4
  let c48_i32 : BitVec 32 := 48#32
  let v612 : BitVec 32 := Scalar.muli arg45 c48_i32
  v612
def k0_mult8 (k0_t4 : Fin k0_t4_loop.trips) : BitVec 32 :=
  let c2304_i32 : BitVec 32 := 2304#32
  let c0_i32_118 : BitVec 32 := 0#32
  let c1_i32_120 : BitVec 32 := 1#32
  let arg45 : BitVec 32 := Scf.iv c0_i32_118 c1_i32_120 k0_t4
  let c48_i32_464 : BitVec 32 := 48#32
  let v614 : BitVec 32 := Scalar.muli arg45 c48_i32_464
  let v615 : BitVec 32 := Scalar.addi c2304_i32 v614
  v615
def k0_off15 (k0_t4 : Fin k0_t4_loop.trips) : Fin 2 → Nat :=
  let c2304_i32 : BitVec 32 := 2304#32
  let c0_i32_118 : BitVec 32 := 0#32
  let c1_i32_120 : BitVec 32 := 1#32
  let arg45 : BitVec 32 := Scf.iv c0_i32_118 c1_i32_120 k0_t4
  let c48_i32_464 : BitVec 32 := 48#32
  let v614 : BitVec 32 := Scalar.muli arg45 c48_i32_464
  let v615 : BitVec 32 := Scalar.addi c2304_i32 v614
  let v616 : BitVec 32 := v615
  let v617 : Index := Scalar.indexCast v616
  let c0_465 : Index := 0#32
  ![v617.toNat, 0]
def k0_off16 (k0_t4 : Fin k0_t4_loop.trips) : Fin 2 → Nat :=
  let c0_i32_118 : BitVec 32 := 0#32
  let c1_i32_120 : BitVec 32 := 1#32
  let arg45 : BitVec 32 := Scf.iv c0_i32_118 c1_i32_120 k0_t4
  let c48_i32 : BitVec 32 := 48#32
  let v612 : BitVec 32 := Scalar.muli arg45 c48_i32
  let v613 : BitVec 32 := v612
  let v621 : Index := Scalar.indexCast v613
  let c0_466 : Index := 0#32
  ![v621.toNat, 0]
def k0_off17 (k0_t4 : Fin k0_t4_loop.trips) : Fin 3 → Nat :=
  let c0_i32_118 : BitVec 32 := 0#32
  let c1_i32_120 : BitVec 32 := 1#32
  let arg45 : BitVec 32 := Scf.iv c0_i32_118 c1_i32_120 k0_t4
  let v627 : Index := Scalar.indexCast arg45
  let c0_467 : Index := 0#32
  let c0_468 : Index := 0#32
  ![v627.toNat, 0, 0]
@[reducible] def k0_t5_loop : Scf.Loop 32 :=
  let c0_i32_122 : BitVec 32 := 0#32
  let c16_i32_123 : BitVec 32 := 16#32
  let v161 : BitVec 32 := Scalar.addi c0_i32_122 c16_i32_123
  let c1_i32_124 : BitVec 32 := 1#32
  ⟨c0_i32_122, v161, c1_i32_124⟩
def k0_off18 (k0_t5 : Fin k0_t5_loop.trips) : Fin 4 → Nat :=
  let c0_464 : Index := 0#32
  let c0_i32_122 : BitVec 32 := 0#32
  let c1_i32_124 : BitVec 32 := 1#32
  let arg45 : BitVec 32 := Scf.iv c0_i32_122 c1_i32_124 k0_t5
  let v612 : Index := Scalar.indexCast arg45
  let c0_465 : Index := 0#32
  let c0_466 : Index := 0#32
  ![0, v612.toNat, 0, 0]
def k0_off19 (k0_t5 : Fin k0_t5_loop.trips) : Fin 3 → Nat :=
  let c0_471 : Index := 0#32
  let c0_i32_122 : BitVec 32 := 0#32
  let c1_i32_124 : BitVec 32 := 1#32
  let arg45 : BitVec 32 := Scf.iv c0_i32_122 c1_i32_124 k0_t5
  let v621 : Index := Scalar.indexCast arg45
  let c0_472 : Index := 0#32
  ![0, v621.toNat, 0]
def k0_off20 (k0_t5 : Fin k0_t5_loop.trips) : Fin 3 → Nat :=
  let c0_i32_122 : BitVec 32 := 0#32
  let c1_i32_124 : BitVec 32 := 1#32
  let arg45 : BitVec 32 := Scf.iv c0_i32_122 c1_i32_124 k0_t5
  let v637 : Index := Scalar.indexCast arg45
  let c0_476 : Index := 0#32
  let c0_477 : Index := 0#32
  ![v637.toNat, 0, 0]
def k0_off21 (k0_t5 : Fin k0_t5_loop.trips) : Fin 3 → Nat :=
  let c0_i32_122 : BitVec 32 := 0#32
  let c1_i32_124 : BitVec 32 := 1#32
  let arg45 : BitVec 32 := Scf.iv c0_i32_122 c1_i32_124 k0_t5
  let v667 : Index := Scalar.indexCast arg45
  let c0_486 : Index := 0#32
  let c0_487 : Index := 0#32
  ![v667.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_21 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_22 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_25 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_26 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_27 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_28 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_29 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_30 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_31 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_32 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_33 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_34 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_35 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x416x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S384x1536 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S384x1536 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S384x1536 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2x768 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S3072x768 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S3072x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S768x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S768x768 .fp8e4m3 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x768 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S2x768x1536 .fp8e4m3 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S2x1536 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1536x768 .fp8e4m3 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x768 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 2 → Memref sig .tc .vmem S1x512x768 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S1x512x768 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S1x512x768 .fp8e4m3 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 1 → Memref sig .tc .vmem S25x512 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 2 → Memref sig .tc .vmem S1x16x48x512 .fp8e4m3 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S1x16x512 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S1x16x48x512 .fp8e4m3 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S1x16x512 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

abbrev stage0_28 : Fin 2 → Memref sig .tc .vmem S1x16x48x512 .fp8e4m3 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true]

abbrev stage0_29 : Fin 2 → Memref sig .tc .vmem S1x16x512 .f32 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true]

abbrev stage0_30 : Fin 2 → Memref sig .tc .vmem S1x16x48x512 .fp8e4m3 := fun | 0 => Memref.whole cc0_stg30_0 | 1 => Memref.whole cc0_stg30_1 | ⟨_ + 2, h⟩ => absurd h (Nat.not_lt.2 (Nat.le_add_left _ _))
abbrev sem0_30 : Fin 2 → DmaSem sig := fun | 0 => cc0_sem30_0 | 1 => cc0_sem30_1 | ⟨_ + 2, h⟩ => absurd h (Nat.not_lt.2 (Nat.le_add_left _ _))
abbrev reads0_30 : Fin grid0.rank → Bool := ![true]

abbrev stage0_31 : Fin 1 → Memref sig .tc .vmem S25x512 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))
abbrev reads0_31 : Fin grid0.rank → Bool := ![false]

abbrev stage0_32 : Fin 2 → Memref sig .tc .vmem S1x512x768 .fp8e4m3 := fun | 0 => Memref.whole cc0_stg32_0 | 1 => Memref.whole cc0_stg32_1 | ⟨_ + 2, h⟩ => absurd h (Nat.not_lt.2 (Nat.le_add_left _ _))
abbrev sem0_32 : Fin 2 → DmaSem sig := fun | 0 => cc0_sem32_0 | 1 => cc0_sem32_1 | ⟨_ + 2, h⟩ => absurd h (Nat.not_lt.2 (Nat.le_add_left _ _))
abbrev reads0_32 : Fin grid0.rank → Bool := ![true]

abbrev stage0_33 : Fin 1 → Memref sig .tc .vmem S25x512 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))
abbrev reads0_33 : Fin grid0.rank → Bool := ![false]

abbrev stage0_34 : Fin 2 → Memref sig .tc .vmem S1x512x1536 .fp8e4m3 := fun | 0 => Memref.whole cc0_stg34_0 | 1 => Memref.whole cc0_stg34_1 | ⟨_ + 2, h⟩ => absurd h (Nat.not_lt.2 (Nat.le_add_left _ _))
abbrev sem0_34 : Fin 2 → DmaSem sig := fun | 0 => cc0_sem34_0 | 1 => cc0_sem34_1 | ⟨_ + 2, h⟩ => absurd h (Nat.not_lt.2 (Nat.le_add_left _ _))
abbrev reads0_34 : Fin grid0.rank → Bool := ![true]

abbrev stage0_35 : Fin 1 → Memref sig .tc .vmem S25x512 .f32 := fun | 0 => Memref.whole cc0_stg35_0 | ⟨_ + 1, h⟩ => absurd h (Nat.not_lt.2 (Nat.le_add_left _ _))
abbrev sem0_35 : Fin 1 → DmaSem sig := fun | 0 => cc0_sem35_0 | ⟨_ + 1, h⟩ => absurd h (Nat.not_lt.2 (Nat.le_add_left _ _))
abbrev reads0_35 : Fin grid0.rank → Bool := ![false]
-- ==== ReferenceIdeal.lean ====
abbrev S25x512x768 : Shape := ⟨3, ![25, 512, 768]⟩
abbrev S25x512x384 : Shape := ⟨3, ![25, 512, 384]⟩
abbrev S16x416x512 : Shape := ⟨3, ![16, 416, 512]⟩
abbrev S1x384 : Shape := ⟨2, ![1, 384]⟩
abbrev S384x1536 : Shape := ⟨2, ![384, 1536]⟩
abbrev S1x768 : Shape := ⟨2, ![1, 768]⟩
abbrev S2x768 : Shape := ⟨2, ![2, 768]⟩
abbrev S3072x768 : Shape := ⟨2, ![3072, 768]⟩
abbrev S4x16x48 : Shape := ⟨3, ![4, 16, 48]⟩
abbrev S16x48 : Shape := ⟨2, ![16, 48]⟩
abbrev S768x768 : Shape := ⟨2, ![768, 768]⟩
abbrev S2x768x1536 : Shape := ⟨3, ![2, 768, 1536]⟩
abbrev S2x1536 : Shape := ⟨2, ![2, 1536]⟩
abbrev S1536x768 : Shape := ⟨2, ![1536, 768]⟩
abbrev S25x512 : Shape := ⟨2, ![25, 512]⟩
abbrev S25x16x48x512 : Shape := ⟨4, ![25, 16, 48, 512]⟩
abbrev S25x16x512 : Shape := ⟨3, ![25, 16, 512]⟩
abbrev S25x512x1536 : Shape := ⟨3, ![25, 512, 1536]⟩
abbrev S12800x768 : Shape := ⟨2, ![12800, 768]⟩
abbrev S12800x384 : Shape := ⟨2, ![12800, 384]⟩
abbrev S12800 : Shape := ⟨1, ![12800]⟩
abbrev S12800x1 : Shape := ⟨2, ![12800, 1]⟩
abbrev S12800x1536 : Shape := ⟨2, ![12800, 1536]⟩
abbrev S12800x16x48 : Shape := ⟨3, ![12800, 16, 48]⟩
abbrev S1x16x48 : Shape := ⟨3, ![1, 16, 48]⟩
abbrev S12800x16 : Shape := ⟨2, ![12800, 16]⟩
abbrev S12800x16x1 : Shape := ⟨3, ![12800, 16, 1]⟩
abbrev S25x512x16x48 : Shape := ⟨4, ![25, 512, 16, 48]⟩
abbrev S25x512x16 : Shape := ⟨3, ![25, 512, 16]⟩
abbrev S25x16x512x48 : Shape := ⟨4, ![25, 16, 512, 48]⟩
abbrev S400x512x48 : Shape := ⟨3, ![400, 512, 48]⟩
abbrev S400x416x48 : Shape := ⟨3, ![400, 416, 48]⟩
abbrev S25x512x16x1 : Shape := ⟨4, ![25, 512, 16, 1]⟩
abbrev S25x16x512x1 : Shape := ⟨4, ![25, 16, 512, 1]⟩
abbrev S400x512x1 : Shape := ⟨3, ![400, 512, 1]⟩
abbrev S400x416x1 : Shape := ⟨3, ![400, 416, 1]⟩
abbrev S400x512x416 : Shape := ⟨3, ![400, 512, 416]⟩
abbrev S400x1x416 : Shape := ⟨3, ![400, 1, 416]⟩
abbrev S25x16x512x416 : Shape := ⟨4, ![25, 16, 512, 416]⟩
abbrev S16x512x416 : Shape := ⟨3, ![16, 512, 416]⟩
abbrev S1x16x512x416 : Shape := ⟨4, ![1, 16, 512, 416]⟩
abbrev S400x512 : Shape := ⟨2, ![400, 512]⟩
abbrev S1x768x1536 : Shape := ⟨3, ![1, 768, 1536]⟩
abbrev S768x1536 : Shape := ⟨2, ![768, 1536]⟩
abbrev S1x1536 : Shape := ⟨2, ![1, 1536]⟩

abbrev nBuf : Space → Nat
  | .hbm => 36
  | .vmem => 36
  | .smem => 0
  | _ => 0

abbrev bufTy : (tb : Table) → Fin (tcTables nBuf tb) → BufTy
  | .hbm, ⟨0, _⟩ => ⟨S25x512x768, .bf16⟩
  | .hbm, ⟨1, _⟩ => ⟨S25x512x384, .bf16⟩
  | .hbm, ⟨2, _⟩ => ⟨S16x416x512, .f32⟩
  | .hbm, ⟨3, _⟩ => ⟨S1x384, .f32⟩
  | .hbm, ⟨4, _⟩ => ⟨S1x384, .f32⟩
  | .hbm, ⟨5, _⟩ => ⟨S384x1536, .bf16⟩
  | .hbm, ⟨6, _⟩ => ⟨S1x768, .f32⟩
  | .hbm, ⟨7, _⟩ => ⟨S384x1536, .bf16⟩
  | .hbm, ⟨8, _⟩ => ⟨S1x768, .f32⟩
  | .hbm, ⟨9, _⟩ => ⟨S384x1536, .bf16⟩
  | .hbm, ⟨10, _⟩ => ⟨S2x768, .f32⟩
  | .hbm, ⟨11, _⟩ => ⟨S3072x768, .fp8e4m3⟩
  | .hbm, ⟨12, _⟩ => ⟨S4x16x48, .f32⟩
  | .hbm, ⟨13, _⟩ => ⟨S16x48, .f32⟩
  | .hbm, ⟨14, _⟩ => ⟨S768x768, .fp8e4m3⟩
  | .hbm, ⟨15, _⟩ => ⟨S1x768, .f32⟩
  | .hbm, ⟨16, _⟩ => ⟨S2x768x1536, .fp8e4m3⟩
  | .hbm, ⟨17, _⟩ => ⟨S2x1536, .f32⟩
  | .hbm, ⟨18, _⟩ => ⟨S1536x768, .fp8e4m3⟩
  | .hbm, ⟨19, _⟩ => ⟨S1x768, .f32⟩
  | .hbm, ⟨20, _⟩ => ⟨S25x512x768, .bf16⟩
  | .hbm, ⟨21, _⟩ => ⟨S25x512x768, .f32⟩
  | .hbm, ⟨22, _⟩ => ⟨S25x512x768, .fp8e4m3⟩
  | .hbm, ⟨23, _⟩ => ⟨S25x512, .f32⟩
  | .hbm, ⟨24, _⟩ => ⟨S25x16x48x512, .fp8e4m3⟩
  | .hbm, ⟨25, _⟩ => ⟨S25x16x512, .f32⟩
  | .hbm, ⟨26, _⟩ => ⟨S25x16x48x512, .fp8e4m3⟩
  | .hbm, ⟨27, _⟩ => ⟨S25x16x512, .f32⟩
  | .hbm, ⟨28, _⟩ => ⟨S25x16x48x512, .fp8e4m3⟩
  | .hbm, ⟨29, _⟩ => ⟨S25x16x512, .f32⟩
  | .hbm, ⟨30, _⟩ => ⟨S25x16x48x512, .fp8e4m3⟩
  | .hbm, ⟨31, _⟩ => ⟨S25x512, .f32⟩
  | .hbm, ⟨32, _⟩ => ⟨S25x512x768, .fp8e4m3⟩
  | .hbm, ⟨33, _⟩ => ⟨S25x512, .f32⟩
  | .hbm, ⟨34, _⟩ => ⟨S25x512x1536, .fp8e4m3⟩
  | .hbm, ⟨35, _⟩ => ⟨S25x512, .f32⟩
  | .local _ .vmem, ⟨0, _⟩ => ⟨S25x512x768, .bf16⟩
  | .local _ .vmem, ⟨1, _⟩ => ⟨S25x512x384, .bf16⟩
  | .local _ .vmem, ⟨2, _⟩ => ⟨S16x416x512, .f32⟩
  | .local _ .vmem, ⟨3, _⟩ => ⟨S1x384, .f32⟩
  | .local _ .vmem, ⟨4, _⟩ => ⟨S1x384, .f32⟩
  | .local _ .vmem, ⟨5, _⟩ => ⟨S384x1536, .bf16⟩
  | .local _ .vmem, ⟨6, _⟩ => ⟨S1x768, .f32⟩
  | .local _ .vmem, ⟨7, _⟩ => ⟨S384x1536, .bf16⟩
  | .local _ .vmem, ⟨8, _⟩ => ⟨S1x768, .f32⟩
  | .local _ .vmem, ⟨9, _⟩ => ⟨S384x1536, .bf16⟩
  | .local _ .vmem, ⟨10, _⟩ => ⟨S2x768, .f32⟩
  | .local _ .vmem, ⟨11, _⟩ => ⟨S3072x768, .fp8e4m3⟩
  | .local _ .vmem, ⟨12, _⟩ => ⟨S4x16x48, .f32⟩
  | .local _ .vmem, ⟨13, _⟩ => ⟨S16x48, .f32⟩
  | .local _ .vmem, ⟨14, _⟩ => ⟨S768x768, .fp8e4m3⟩
  | .local _ .vmem, ⟨15, _⟩ => ⟨S1x768, .f32⟩
  | .local _ .vmem, ⟨16, _⟩ => ⟨S2x768x1536, .fp8e4m3⟩
  | .local _ .vmem, ⟨17, _⟩ => ⟨S2x1536, .f32⟩
  | .local _ .vmem, ⟨18, _⟩ => ⟨S1536x768, .fp8e4m3⟩
  | .local _ .vmem, ⟨19, _⟩ => ⟨S1x768, .f32⟩
  | .local _ .vmem, ⟨20, _⟩ => ⟨S25x512x768, .bf16⟩
  | .local _ .vmem, ⟨21, _⟩ => ⟨S25x512x768, .f32⟩
  | .local _ .vmem, ⟨22, _⟩ => ⟨S25x512x768, .fp8e4m3⟩
  | .local _ .vmem, ⟨23, _⟩ => ⟨S25x512, .f32⟩
  | .local _ .vmem, ⟨24, _⟩ => ⟨S25x16x48x512, .fp8e4m3⟩
  | .local _ .vmem, ⟨25, _⟩ => ⟨S25x16x512, .f32⟩
  | .local _ .vmem, ⟨26, _⟩ => ⟨S25x16x48x512, .fp8e4m3⟩
  | .local _ .vmem, ⟨27, _⟩ => ⟨S25x16x512, .f32⟩
  | .local _ .vmem, ⟨28, _⟩ => ⟨S25x16x48x512, .fp8e4m3⟩
  | .local _ .vmem, ⟨29, _⟩ => ⟨S25x16x512, .f32⟩
  | .local _ .vmem, ⟨30, _⟩ => ⟨S25x16x48x512, .fp8e4m3⟩
  | .local _ .vmem, ⟨31, _⟩ => ⟨S25x512, .f32⟩
  | .local _ .vmem, ⟨32, _⟩ => ⟨S25x512x768, .fp8e4m3⟩
  | .local _ .vmem, ⟨33, _⟩ => ⟨S25x512, .f32⟩
  | .local _ .vmem, ⟨34, _⟩ => ⟨S25x512x1536, .fp8e4m3⟩
  | .local _ .vmem, ⟨35, _⟩ => ⟨S25x512, .f32⟩
  | _, _ => ⟨S25x512x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0_0 : Ref sig .tc := ⟨.hbm, 20, rfl⟩
abbrev main_v0_1 : Ref sig .tc := ⟨.hbm, 21, rfl⟩
abbrev main_v0_2 : Ref sig .tc := ⟨.hbm, 22, rfl⟩
abbrev main_v0_3 : Ref sig .tc := ⟨.hbm, 23, rfl⟩
abbrev main_v0_4 : Ref sig .tc := ⟨.hbm, 24, rfl⟩
abbrev main_v0_5 : Ref sig .tc := ⟨.hbm, 25, rfl⟩
abbrev main_v0_6 : Ref sig .tc := ⟨.hbm, 26, rfl⟩
abbrev main_v0_7 : Ref sig .tc := ⟨.hbm, 27, rfl⟩
abbrev main_v0_8 : Ref sig .tc := ⟨.hbm, 28, rfl⟩
abbrev main_v0_9 : Ref sig .tc := ⟨.hbm, 29, rfl⟩
abbrev main_v0_10 : Ref sig .tc := ⟨.hbm, 30, rfl⟩
abbrev main_v0_11 : Ref sig .tc := ⟨.hbm, 31, rfl⟩
abbrev main_v0_12 : Ref sig .tc := ⟨.hbm, 32, rfl⟩
abbrev main_v0_13 : Ref sig .tc := ⟨.hbm, 33, rfl⟩
abbrev main_v0_14 : Ref sig .tc := ⟨.hbm, 34, rfl⟩
abbrev main_v0_15 : Ref sig .tc := ⟨.hbm, 35, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_stg28_0 : Ref sig .tc := ⟨.vmem, 28, rfl⟩
abbrev cc0_stg29_0 : Ref sig .tc := ⟨.vmem, 29, rfl⟩
abbrev cc0_stg30_0 : Ref sig .tc := ⟨.vmem, 30, rfl⟩
abbrev cc0_stg31_0 : Ref sig .tc := ⟨.vmem, 31, rfl⟩
abbrev cc0_stg32_0 : Ref sig .tc := ⟨.vmem, 32, rfl⟩
abbrev cc0_stg33_0 : Ref sig .tc := ⟨.vmem, 33, rfl⟩
abbrev cc0_stg34_0 : Ref sig .tc := ⟨.vmem, 34, rfl⟩
abbrev cc0_stg35_0 : Ref sig .tc := ⟨.vmem, 35, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27
abbrev cc0_sem28_0 : DmaSem sig := 28
abbrev cc0_sem29_0 : DmaSem sig := 29
abbrev cc0_sem30_0 : DmaSem sig := 30
abbrev cc0_sem31_0 : DmaSem sig := 31
abbrev cc0_sem32_0 : DmaSem sig := 32
abbrev cc0_sem33_0 : DmaSem sig := 33
abbrev cc0_sem34_0 : DmaSem sig := 34
abbrev cc0_sem35_0 : DmaSem sig := 35

abbrev nD : Nat := 1
abbrev τ : Topo := Topo.v7x

variable {F : FTy → Type} [FloatOps F]

abbrev grid0 : Pipeline.Grid := .none

abbrev stage0_0 : Fin 1 → Memref sig .tc .vmem S25x512x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S25x512x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x416x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S384x1536 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S384x1536 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S384x1536 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x768 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S3072x768 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S4x16x48 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S16x48 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S768x768 .fp8e4m3 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x768 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S2x768x1536 .fp8e4m3 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S2x1536 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1536x768 .fp8e4m3 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x768 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S25x512x768 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S25x512x768 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S25x512x768 .fp8e4m3 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S25x512 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S25x16x48x512 .fp8e4m3 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S25x16x512 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S25x16x48x512 .fp8e4m3 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S25x16x512 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))

abbrev stage0_28 : Fin 1 → Memref sig .tc .vmem S25x16x48x512 .fp8e4m3 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))

abbrev stage0_29 : Fin 1 → Memref sig .tc .vmem S25x16x512 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))

abbrev stage0_30 : Fin 1 → Memref sig .tc .vmem S25x16x48x512 .fp8e4m3 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))

abbrev stage0_31 : Fin 1 → Memref sig .tc .vmem S25x512 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))

abbrev stage0_32 : Fin 1 → Memref sig .tc .vmem S25x512x768 .fp8e4m3 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))

abbrev stage0_33 : Fin 1 → Memref sig .tc .vmem S25x512 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))

abbrev stage0_34 : Fin 1 → Memref sig .tc .vmem S25x512x1536 .fp8e4m3 := fun | 0 => Memref.whole cc0_stg34_0 | ⟨_ + 1, h⟩ => absurd h (Nat.not_lt.2 (Nat.le_add_left _ _))
abbrev sem0_34 : Fin 1 → DmaSem sig := fun | 0 => cc0_sem34_0 | ⟨_ + 1, h⟩ => absurd h (Nat.not_lt.2 (Nat.le_add_left _ _))

abbrev stage0_35 : Fin 1 → Memref sig .tc .vmem S25x512 .f32 := fun | 0 => Memref.whole cc0_stg35_0 | ⟨_ + 1, h⟩ => absurd h (Nat.not_lt.2 (Nat.le_add_left _ _))
abbrev sem0_35 : Fin 1 → DmaSem sig := fun | 0 => cc0_sem35_0 | ⟨_ + 1, h⟩ => absurd h (Nat.not_lt.2 (Nat.le_add_left _ _))
-- ==== Proof.KernelRun.lean ====
/- The run of the kernel body on staging buffers, the results left unnamed. -/
module

public import proofs.«01_k».proof.Proof.Gen.Kernel.Frame
public import proofs.«01_k».proof.Proof.Gen.Kernel.Skeleton
public import proofs.«01_k».proof.Proof.Gen.Kernel.Loops

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- The argument arrays are as launched after any run whose data starts from the arrays at the region's entry. -/
theorem frame_ofR (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      (Pipeline.RDat.FramePost.arr_in h c 4 rfl).trans ((hA c 4).trans (V_main_arg4 m c)),
      (Pipeline.RDat.FramePost.arr_in h c 5 rfl).trans ((hA c 5).trans (V_main_arg5 m c)),
      (Pipeline.RDat.FramePost.arr_in h c 6 rfl).trans ((hA c 6).trans (V_main_arg6 m c)),
      (Pipeline.RDat.FramePost.arr_in h c 7 rfl).trans ((hA c 7).trans (V_main_arg7 m c)),
      (Pipeline.RDat.FramePost.arr_in h c 8 rfl).trans ((hA c 8).trans (V_main_arg8 m c)),
      (Pipeline.RDat.FramePost.arr_in h c 9 rfl).trans ((hA c 9).trans (V_main_arg9 m c)),
      (Pipeline.RDat.FramePost.arr_in h c 10 rfl).trans ((hA c 10).trans (V_main_arg10 m c)),
      (Pipeline.RDat.FramePost.arr_in h c 11 rfl).trans ((hA c 11).trans (V_main_arg11 m c)),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      (Pipeline.RDat.FramePost.arr_in h c 14 rfl).trans ((hA c 14).trans (V_main_arg14 m c)),
      (Pipeline.RDat.FramePost.arr_in h c 15 rfl).trans ((hA c 15).trans (V_main_arg15 m c)),
      (Pipeline.RDat.FramePost.arr_in h c 16 rfl).trans ((hA c 16).trans (V_main_arg16 m c)),
      (Pipeline.RDat.FramePost.arr_in h c 17 rfl).trans ((hA c 17).trans (V_main_arg17 m c)),
      (Pipeline.RDat.FramePost.arr_in h c 18 rfl).trans ((hA c 18).trans (V_main_arg18 m c)),
      (Pipeline.RDat.FramePost.arr_in h c 19 rfl).trans ((hA c 19).trans (V_main_arg19 m c))⟩) h

/-- Each window's current staging memref at point `t`, spelled as the pipeline passes it (`bodyAt0`), and its wholeness. -/
abbrev ms0_0 (t : Fin cfg0.N) : Memref sig .tc .vmem S1x512x768 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x384 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S16x416x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x384 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x384 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S384x1536 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x768 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S384x1536 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x768 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S384x1536 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S2x768 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S3072x768 .fp8e4m3 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S3072x128 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S768x128 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S768x768 .fp8e4m3 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1x768 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S2x768x1536 .fp8e4m3 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S2x1536 .f32 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S1536x768 .fp8e4m3 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S1x768 .f32 := win0_19.stage (cfg0.slots t 19)
abbrev hs0_19 (t : Fin cfg0.N) : (ms0_19 t).IsWhole := hstage0_19 ((cfg0.slots t 19).cast nbuf0_19)
abbrev ms0_20 (t : Fin cfg0.N) : Memref sig .tc .vmem S1x512x768 .bf16 := win0_20.stage (cfg0.slots t 20)
abbrev hs0_20 (t : Fin cfg0.N) : (ms0_20 t).IsWhole := hstage0_20 ((cfg0.slots t 20).cast nbuf0_20)
abbrev ms0_21 (t : Fin cfg0.N) : Memref sig .tc .vmem S1x512x768 .f32 := win0_21.stage (cfg0.slots t 21)
abbrev hs0_21 (t : Fin cfg0.N) : (ms0_21 t).IsWhole := hstage0_21 ((cfg0.slots t 21).cast nbuf0_21)
abbrev ms0_22 (t : Fin cfg0.N) : Memref sig .tc .vmem S1x512x768 .fp8e4m3 := win0_22.stage (cfg0.slots t 22)
abbrev hs0_22 (t : Fin cfg0.N) : (ms0_22 t).IsWhole := hstage0_22 ((cfg0.slots t 22).cast nbuf0_22)
abbrev ms0_23 (t : Fin cfg0.N) : Memref sig .tc .vmem S25x512 .f32 := win0_23.stage (cfg0.slots t 23)
abbrev hs0_23 (t : Fin cfg0.N) : (ms0_23 t).IsWhole := hstage0_23 ((cfg0.slots t 23).cast nbuf0_23)
abbrev ms0_24 (t : Fin cfg0.N) : Memref sig .tc .vmem S1x16x48x512 .fp8e4m3 := win0_24.stage (cfg0.slots t 24)
abbrev hs0_24 (t : Fin cfg0.N) : (ms0_24 t).IsWhole := hstage0_24 ((cfg0.slots t 24).cast nbuf0_24)
abbrev ms0_25 (t : Fin cfg0.N) : Memref sig .tc .vmem S1x16x512 .f32 := win0_25.stage (cfg0.slots t 25)
abbrev hs0_25 (t : Fin cfg0.N) : (ms0_25 t).IsWhole := hstage0_25 ((cfg0.slots t 25).cast nbuf0_25)
abbrev ms0_26 (t : Fin cfg0.N) : Memref sig .tc .vmem S1x16x48x512 .fp8e4m3 := win0_26.stage (cfg0.slots t 26)
abbrev hs0_26 (t : Fin cfg0.N) : (ms0_26 t).IsWhole := hstage0_26 ((cfg0.slots t 26).cast nbuf0_26)
abbrev ms0_27 (t : Fin cfg0.N) : Memref sig .tc .vmem S1x16x512 .f32 := win0_27.stage (cfg0.slots t 27)
abbrev hs0_27 (t : Fin cfg0.N) : (ms0_27 t).IsWhole := hstage0_27 ((cfg0.slots t 27).cast nbuf0_27)
abbrev ms0_28 (t : Fin cfg0.N) : Memref sig .tc .vmem S1x16x48x512 .fp8e4m3 := win0_28.stage (cfg0.slots t 28)
abbrev hs0_28 (t : Fin cfg0.N) : (ms0_28 t).IsWhole := hstage0_28 ((cfg0.slots t 28).cast nbuf0_28)
abbrev ms0_29 (t : Fin cfg0.N) : Memref sig .tc .vmem S1x16x512 .f32 := win0_29.stage (cfg0.slots t 29)
abbrev hs0_29 (t : Fin cfg0.N) : (ms0_29 t).IsWhole := hstage0_29 ((cfg0.slots t 29).cast nbuf0_29)
abbrev ms0_30 (t : Fin cfg0.N) : Memref sig .tc .vmem S1x16x48x512 .fp8e4m3 := win0_30.stage (cfg0.slots t 30)
abbrev hs0_30 (t : Fin cfg0.N) : (ms0_30 t).IsWhole := hstage0_30 ((cfg0.slots t 30).cast nbuf0_30)
abbrev ms0_31 (t : Fin cfg0.N) : Memref sig .tc .vmem S25x512 .f32 := win0_31.stage (cfg0.slots t 31)
abbrev hs0_31 (t : Fin cfg0.N) : (ms0_31 t).IsWhole := hstage0_31 ((cfg0.slots t 31).cast nbuf0_31)
abbrev ms0_32 (t : Fin cfg0.N) : Memref sig .tc .vmem S1x512x768 .fp8e4m3 := win0_32.stage (cfg0.slots t 32)
abbrev hs0_32 (t : Fin cfg0.N) : (ms0_32 t).IsWhole := hstage0_32 ((cfg0.slots t 32).cast nbuf0_32)
abbrev ms0_33 (t : Fin cfg0.N) : Memref sig .tc .vmem S25x512 .f32 := win0_33.stage (cfg0.slots t 33)
abbrev hs0_33 (t : Fin cfg0.N) : (ms0_33 t).IsWhole := hstage0_33 ((cfg0.slots t 33).cast nbuf0_33)
abbrev ms0_34 (t : Fin cfg0.N) : Memref sig .tc .vmem S1x512x1536 .fp8e4m3 := win0_34.stage (cfg0.slots t 34)
abbrev hs0_34 (t : Fin cfg0.N) : (ms0_34 t).IsWhole := hstage0_34 ((cfg0.slots t 34).cast nbuf0_34)
abbrev ms0_35 (t : Fin cfg0.N) : Memref sig .tc .vmem S25x512 .f32 := win0_35.stage (cfg0.slots t 35)
abbrev hs0_35 (t : Fin cfg0.N) : (ms0_35 t).IsWhole := hstage0_35 ((cfg0.slots t 35).cast nbuf0_35)
/-- The scratch operands: whole scoped buffers of the kernel's own, passed beside the windows. -/
abbrev scM0_0 : Memref sig .tc .vmem S512x384 .bf16 := Memref.whole cc0_scratch0
abbrev scM0_1 : Memref sig .tc .vmem S512x384 .bf16 := Memref.whole cc0_scratch1
abbrev scM0_2 : Memref sig .tc .vmem S512x768 .f32 := Memref.whole cc0_scratch2
abbrev scM0_3 : Memref sig .tc .vmem S512x768 .f32 := Memref.whole cc0_scratch3
abbrev scM0_4 : Memref sig .tc .vmem S768x512 .f32 := Memref.whole cc0_scratch4
abbrev scM0_5 : Memref sig .tc .vmem S16x48x512 .f32 := Memref.whole cc0_scratch5
abbrev scM0_6 : Memref sig .tc .vmem S16x48x512 .f32 := Memref.whole cc0_scratch6
abbrev scM0_7 : Memref sig .tc .vmem S512x1536 .f32 := Memref.whole cc0_scratch7

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) ∗ (∃ r, prngReg c r)) := by
  unfold Pipeline.ΦA; rw [scopedRest0_eq]; simp only [scM0_0, scM0_1, scM0_2, scM0_3, scM0_4, scM0_5, scM0_6, scM0_7, owns_whole]; try rfl

-- (the run's proof term is large: checking it walks past the default budget)
set_option maxHeartbeats 40000000 in
/-- The body's triple: on whole staging memrefs — the inputs' at their contents,
    the FORGOTTEN outputs' (20, 21, 22, 23, 24, 25, 26, 27, 28, 29, 30, 31, 32, 33, 34, 35) at anything, handed back at some contents nothing names —
    the body runs to the continuation holding the inputs' as they were, the scratch at some contents: the printed functions are their skeletons (`Gen.*_eq_skeleton`),
    which `sl_exec` runs (Lib/Exec.lean). -/
theorem kernelRun0_A (c : Dev nD) (i : grid0.Coords) (arg1 : Memref sig .tc .vmem S1x512x768 .bf16) (harg1 : arg1.IsWhole) (arg2 : Memref sig .tc .vmem S1x512x384 .bf16) (harg2 : arg2.IsWhole) (arg3 : Memref sig .tc .vmem S16x416x512 .f32) (harg3 : arg3.IsWhole) (arg4 : Memref sig .tc .vmem S1x384 .f32) (harg4 : arg4.IsWhole) (arg5 : Memref sig .tc .vmem S1x384 .f32) (harg5 : arg5.IsWhole) (arg6 : Memref sig .tc .vmem S384x1536 .bf16) (harg6 : arg6.IsWhole) (arg7 : Memref sig .tc .vmem S1x768 .f32) (harg7 : arg7.IsWhole) (arg8 : Memref sig .tc .vmem S384x1536 .bf16) (harg8 : arg8.IsWhole) (arg9 : Memref sig .tc .vmem S1x768 .f32) (harg9 : arg9.IsWhole) (arg10 : Memref sig .tc .vmem S384x1536 .bf16) (harg10 : arg10.IsWhole) (arg11 : Memref sig .tc .vmem S2x768 .f32) (harg11 : arg11.IsWhole) (arg12 : Memref sig .tc .vmem S3072x768 .fp8e4m3) (harg12 : arg12.IsWhole) (arg13 : Memref sig .tc .vmem S3072x128 .f32) (harg13 : arg13.IsWhole) (arg14 : Memref sig .tc .vmem S768x128 .f32) (harg14 : arg14.IsWhole) (arg15 : Memref sig .tc .vmem S768x768 .fp8e4m3) (harg15 : arg15.IsWhole) (arg16 : Memref sig .tc .vmem S1x768 .f32) (harg16 : arg16.IsWhole) (arg17 : Memref sig .tc .vmem S2x768x1536 .fp8e4m3) (harg17 : arg17.IsWhole) (arg18 : Memref sig .tc .vmem S2x1536 .f32) (harg18 : arg18.IsWhole) (arg19 : Memref sig .tc .vmem S1536x768 .fp8e4m3) (harg19 : arg19.IsWhole) (arg20 : Memref sig .tc .vmem S1x768 .f32) (harg20 : arg20.IsWhole) (arg21 : Memref sig .tc .vmem S1x512x768 .bf16) (harg21 : arg21.IsWhole) (arg22 : Memref sig .tc .vmem S1x512x768 .f32) (harg22 : arg22.IsWhole) (arg23 : Memref sig .tc .vmem S1x512x768 .fp8e4m3) (harg23 : arg23.IsWhole) (arg24 : Memref sig .tc .vmem S25x512 .f32) (harg24 : arg24.IsWhole) (arg25 : Memref sig .tc .vmem S1x16x48x512 .fp8e4m3) (harg25 : arg25.IsWhole) (arg26 : Memref sig .tc .vmem S1x16x512 .f32) (harg26 : arg26.IsWhole) (arg27 : Memref sig .tc .vmem S1x16x48x512 .fp8e4m3) (harg27 : arg27.IsWhole) (arg28 : Memref sig .tc .vmem S1x16x512 .f32) (harg28 : arg28.IsWhole) (arg29 : Memref sig .tc .vmem S1x16x48x512 .fp8e4m3) (harg29 : arg29.IsWhole) (arg30 : Memref sig .tc .vmem S1x16x512 .f32) (harg30 : arg30.IsWhole) (arg31 : Memref sig .tc .vmem S1x16x48x512 .fp8e4m3) (harg31 : arg31.IsWhole) (arg32 : Memref sig .tc .vmem S25x512 .f32) (harg32 : arg32.IsWhole) (arg33 : Memref sig .tc .vmem S1x512x768 .fp8e4m3) (harg33 : arg33.IsWhole) (arg34 : Memref sig .tc .vmem S25x512 .f32) (harg34 : arg34.IsWhole) (arg35 : Memref sig .tc .vmem S1x512x1536 .fp8e4m3) (harg35 : arg35.IsWhole) (arg36 : Memref sig .tc .vmem S25x512 .f32) (harg36 : arg36.IsWhole) (arg37 : Memref sig .tc .vmem S512x384 .bf16) (harg37 : arg37.IsWhole) (arg38 : Memref sig .tc .vmem S512x384 .bf16) (harg38 : arg38.IsWhole) (arg39 : Memref sig .tc .vmem S512x768 .f32) (harg39 : arg39.IsWhole) (arg40 : Memref sig .tc .vmem S512x768 .f32) (harg40 : arg40.IsWhole) (arg41 : Memref sig .tc .vmem S768x512 .f32) (harg41 : arg41.IsWhole) (arg42 : Memref sig .tc .vmem S16x48x512 .f32) (harg42 : arg42.IsWhole) (arg43 : Memref sig .tc .vmem S16x48x512 .f32) (harg43 : arg43.IsWhole) (arg44 : Memref sig .tc .vmem S512x1536 .f32) (harg44 : arg44.IsWhole)
    (x0 : Vec F S1x512x768 .bf16) (x1 : Vec F S1x512x384 .bf16) (x2 : Vec F S16x416x512 .f32) (x3 : Vec F S1x384 .f32) (x4 : Vec F S1x384 .f32) (x5 : Vec F S384x1536 .bf16) (x6 : Vec F S1x768 .f32) (x7 : Vec F S384x1536 .bf16) (x8 : Vec F S1x768 .f32) (x9 : Vec F S384x1536 .bf16) (x10 : Vec F S2x768 .f32) (x11 : Vec F S3072x768 .fp8e4m3) (x12 : Vec F S3072x128 .f32) (x13 : Vec F S768x128 .f32) (x14 : Vec F S768x768 .fp8e4m3) (x15 : Vec F S1x768 .f32) (x16 : Vec F S2x768x1536 .fp8e4m3) (x17 : Vec F S2x1536 .f32) (x18 : Vec F S1536x768 .fp8e4m3) (x19 : Vec F S1x768 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d) ∗ (∃ d, owns (c : Thread nD τ) arg36 fullShare d) ∗ (∃ d, owns (c : Thread nD τ) arg37 fullShare d) ∗ (∃ d, owns (c : Thread nD τ) arg38 fullShare d) ∗ (∃ d, owns (c : Thread nD τ) arg39 fullShare d) ∗ (∃ d, owns (c : Thread nD τ) arg40 fullShare d) ∗ (∃ d, owns (c : Thread nD τ) arg41 fullShare d) ∗ (∃ d, owns (c : Thread nD τ) arg42 fullShare d) ∗ (∃ d, owns (c : Thread nD τ) arg43 fullShare d) ∗ (∃ d, owns (c : Thread nD τ) arg44 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d) ∗ (∃ d, owns (c : Thread nD τ) arg36 fullShare d) ∗ (∃ d, owns (c : Thread nD τ) arg37 fullShare d) ∗ (∃ d, owns (c : Thread nD τ) arg38 fullShare d) ∗ (∃ d, owns (c : Thread nD τ) arg39 fullShare d) ∗ (∃ d, owns (c : Thread nD τ) arg40 fullShare d) ∗ (∃ d, owns (c : Thread nD τ) arg41 fullShare d) ∗ (∃ d, owns (c : Thread nD τ) arg42 fullShare d) ∗ (∃ d, owns (c : Thread nD τ) arg43 fullShare d) ∗ (∃ d, owns (c : Thread nD τ) arg44 fullShare d)) -∗ K ⟨⟩))
          ⊢ wp frame (wpE (defs₀ (F := F)) Variants.none c none) E (cc0_layer i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44) K := by
    intro E K
    simp only [cc0_layer_eq_skeleton]; unfold cc0_layer_skel
    simp only [k0_part21_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, ⟨%d30, %f30, -, H30⟩, ⟨%d31, %f31, -, H31⟩, ⟨%d32, %f32, -, H32⟩, ⟨%d33, %f33, -, H33⟩, ⟨%d34, %f34, -, H34⟩, ⟨%d35, %f35, -, H35⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _, _; isplitr; swap; · iexact H20
      ipureintro; rfl
    isplitl [H21]
    · iexists _, _; isplitr; swap; · iexact H21
      ipureintro; rfl
    isplitl [H22]
    · iexists _, _; isplitr; swap; · iexact H22
      ipureintro; rfl
    isplitl [H23]
    · iexists _, _; isplitr; swap; · iexact H23
      ipureintro; rfl
    isplitl [H24]
    · iexists _, _; isplitr; swap; · iexact H24
      ipureintro; rfl
    isplitl [H25]
    · iexists _, _; isplitr; swap; · iexact H25
      ipureintro; rfl
    isplitl [H26]
    · iexists _, _; isplitr; swap; · iexact H26
      ipureintro; rfl
    isplitl [H27]
    · iexists _, _; isplitr; swap; · iexact H27
      ipureintro; rfl
    isplitl [H28]
    · iexists _, _; isplitr; swap; · iexact H28
      ipureintro; rfl
    isplitl [H29]
    · iexists _, _; isplitr; swap; · iexact H29
      ipureintro; rfl
    isplitl [H30]
    · iexists _, _; isplitr; swap; · iexact H30
      ipureintro; rfl
    isplitl [H31]
    · iexists _, _; isplitr; swap; · iexact H31
      ipureintro; rfl
    isplitl [H32]
    · iexists _, _; isplitr; swap; · iexact H32
      ipureintro; rfl
    isplitl [H33]
    · iexists _, _; isplitr; swap; · iexact H33
      ipureintro; rfl
    isplitl [H34]
    · iexists _, _; isplitr; swap; · iexact H34
      ipureintro; rfl
    isplitl [H35]
    · iexists _, _; isplitr; swap; · iexact H35
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    iexists _, _; isplitr; swap; · iexact HS7
    ipureintro; rfl

end Cert.Kernel.Gen

end
-- ==== Proof.KernelFrame.lean ====
/- The frame of the kernel: every run ends, with the arguments unchanged and the semaphores at zero. -/
module

public import proofs.«01_k».proof.Proof.KernelRun
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (20, 21, 22, 23, 24, 25, 26, 27, 28, 29, 30, 31, 32, 33, 34, 35): nothing reads what the kernel leaves in them, so nothing
    of it is named (Lib/Pipeline/Dat.lean `Dat.toRForget`). -/
def forgets0 : Fin 36 → Bool := fun w => w.val == 20 || w.val == 21 || w.val == 22 || w.val == 23 || w.val == 24 || w.val == 25 || w.val == 26 || w.val == 27 || w.val == 28 || w.val == 29 || w.val == 30 || w.val == 31 || w.val == 32 || w.val == 33 || w.val == 34 || w.val == 35

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, h⟩ => Pipeline.Dat.unnamed (cfg := cfg0) ⟨20, h⟩ t
    | ⟨21, h⟩ => Pipeline.Dat.unnamed (cfg := cfg0) ⟨21, h⟩ t
    | ⟨22, h⟩ => Pipeline.Dat.unnamed (cfg := cfg0) ⟨22, h⟩ t
    | ⟨23, h⟩ => Pipeline.Dat.unnamed (cfg := cfg0) ⟨23, h⟩ t
    | ⟨24, h⟩ => Pipeline.Dat.unnamed (cfg := cfg0) ⟨24, h⟩ t
    | ⟨25, h⟩ => Pipeline.Dat.unnamed (cfg := cfg0) ⟨25, h⟩ t
    | ⟨26, h⟩ => Pipeline.Dat.unnamed (cfg := cfg0) ⟨26, h⟩ t
    | ⟨27, h⟩ => Pipeline.Dat.unnamed (cfg := cfg0) ⟨27, h⟩ t
    | ⟨28, h⟩ => Pipeline.Dat.unnamed (cfg := cfg0) ⟨28, h⟩ t
    | ⟨29, h⟩ => Pipeline.Dat.unnamed (cfg := cfg0) ⟨29, h⟩ t
    | ⟨30, h⟩ => Pipeline.Dat.unnamed (cfg := cfg0) ⟨30, h⟩ t
    | ⟨31, h⟩ => Pipeline.Dat.unnamed (cfg := cfg0) ⟨31, h⟩ t
    | ⟨32, h⟩ => Pipeline.Dat.unnamed (cfg := cfg0) ⟨32, h⟩ t
    | ⟨33, h⟩ => Pipeline.Dat.unnamed (cfg := cfg0) ⟨33, h⟩ t
    | ⟨34, h⟩ => Pipeline.Dat.unnamed (cfg := cfg0) ⟨34, h⟩ t
    | ⟨35, h⟩ => Pipeline.Dat.unnamed (cfg := cfg0) ⟨35, h⟩ t
    | ⟨_ + 36, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare d)
    ∗ (∃ d, owns (c : Thread nD τ) (ms0_21 t) fullShare d)
    ∗ (∃ d, owns (c : Thread nD τ) (ms0_22 t) fullShare d)
    ∗ (∃ d, owns (c : Thread nD τ) (ms0_23 t) fullShare d)
    ∗ (∃ d, owns (c : Thread nD τ) (ms0_24 t) fullShare d)
    ∗ (∃ d, owns (c : Thread nD τ) (ms0_25 t) fullShare d)
    ∗ (∃ d, owns (c : Thread nD τ) (ms0_26 t) fullShare d)
    ∗ (∃ d, owns (c : Thread nD τ) (ms0_27 t) fullShare d)
    ∗ (∃ d, owns (c : Thread nD τ) (ms0_28 t) fullShare d)
    ∗ (∃ d, owns (c : Thread nD τ) (ms0_29 t) fullShare d)
    ∗ (∃ d, owns (c : Thread nD τ) (ms0_30 t) fullShare d)
    ∗ (∃ d, owns (c : Thread nD τ) (ms0_31 t) fullShare d)
    ∗ (∃ d, owns (c : Thread nD τ) (ms0_32 t) fullShare d)
    ∗ (∃ d, owns (c : Thread nD τ) (ms0_33 t) fullShare d)
    ∗ (∃ d, owns (c : Thread nD τ) (ms0_34 t) fullShare d)
    ∗ (∃ d, owns (c : Thread nD τ) (ms0_35 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ (∃ d, owns (c : Thread nD τ) (ms0_20 t) fullShare d)
    ∗ (∃ d, owns (c : Thread nD τ) (ms0_21 t) fullShare d)
    ∗ (∃ d, owns (c : Thread nD τ) (ms0_22 t) fullShare d)
    ∗ (∃ d, owns (c : Thread nD τ) (ms0_23 t) fullShare d)
    ∗ (∃ d, owns (c : Thread nD τ) (ms0_24 t) fullShare d)
    ∗ (∃ d, owns (c : Thread nD τ) (ms0_25 t) fullShare d)
    ∗ (∃ d, owns (c : Thread nD τ) (ms0_26 t) fullShare d)
    ∗ (∃ d, owns (c : Thread nD τ) (ms0_27 t) fullShare d)
    ∗ (∃ d, owns (c : Thread nD τ) (ms0_28 t) fullShare d)
    ∗ (∃ d, owns (c : Thread nD τ) (ms0_29 t) fullShare d)
    ∗ (∃ d, owns (c : Thread nD τ) (ms0_30 t) fullShare d)
    ∗ (∃ d, owns (c : Thread nD τ) (ms0_31 t) fullShare d)
    ∗ (∃ d, owns (c : Thread nD τ) (ms0_32 t) fullShare d)
    ∗ (∃ d, owns (c : Thread nD τ) (ms0_33 t) fullShare d)
    ∗ (∃ d, owns (c : Thread nD τ) (ms0_34 t) fullShare d)
    ∗ (∃ d, owns (c : Thread nD τ) (ms0_35 t) fullShare d))

set_option maxHeartbeats 40000000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19]
  rw [show (dats m 0 c).Φ t.castSucc = Pipeline.ΦA spec0 c from rfl, PhiA0_eq]
  iintro ⟨⟨⟨HS0, HS1, HS2, HS3, HS4, HS5, HS6, HS7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  isplitl [H28]; · iexists _; iexact H28
  isplitl [H29]; · iexists _; iexact H29
  isplitl [H30]; · iexists _; iexact H30
  isplitl [H31]; · iexists _; iexact H31
  isplitl [H32]; · iexists _; iexact H32
  isplitl [H33]; · iexists _; iexact H33
  isplitl [H34]; · iexists _; iexact H34
  isplitl [H35]; · iexists _; iexact H35
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  iintro ⟨H0, H1, H2, H3, H4, H5, H6, H7, H8, H9, H10, H11, H12, H13, H14, H15, H16, H17, H18, H19, H20, H21, H22, H23, H24, H25, H26, H27, H28, H29, H30, H31, H32, H33, H34, H35, HS0, HS1, HS2, HS3, HS4, HS5, HS6, HS7⟩
  isplitl [HS0 HS1 HS2 HS3 HS4 HS5 HS6 HS7 Hg]
  · isplitl [HS0 HS1 HS2 HS3 HS4 HS5 HS6 HS7]
    · isplitl [HS0]
      · iexact HS0
      isplitl [HS1]
      · iexact HS1
      isplitl [HS2]
      · iexact HS2
      isplitl [HS3]
      · iexact HS3
      isplitl [HS4]
      · iexact HS4
      isplitl [HS5]
      · iexact HS5
      isplitl [HS6]
      · iexact HS6
      iexact HS7
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  iexact H35

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 20000000 in
/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 20, 21, 22, 23, 24, 25, 26, 27, 28, 29, 30, 31, 32, 33, 34, 35) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  frame_ofR m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19))
      ∧ r.2.sem = fun _ => 0) :=
  θ_run_and (unchanged m ρ) ((θ_run defs _ _).mono (fun _ h => h.2) (run_main_quiescent m ρ))

end Cert.Kernel.Gen

end
-- ==== Proof.Spec.lean ====
module

public import Idealize.ShloMosaic.Lib.Pointwise
public import Idealize.ShloMosaic.Lib.VecWindow

@[expose] public section

set_option maxRecDepth 16384

noncomputable section

namespace Cert.Spec

open Idealize.ShloMosaic

/-! Index helpers and arrays given by a function of their coordinates. -/

/-- Position `b + l`. -/
def sh {m B : ℕ} (b : ℕ) (h : b + m ≤ B) (l : Fin m) : Fin B := ⟨b + l.val, by omega⟩
/-- The same position in a longer range. -/
def lo {m B : ℕ} (h : m ≤ B) (l : Fin m) : Fin B := ⟨l.val, by omega⟩

theorem sh_sh {m A B : ℕ} (a b : ℕ) (h : a + A ≤ B) (h' : b + m ≤ A) (l : Fin m) : sh a h (sh b h' l) = sh (a + b) (by omega) l :=
  Fin.ext (Nat.add_assoc a b l.val).symm
theorem lo_sh {m A B : ℕ} (b : ℕ) (h : A ≤ B) (h' : b + m ≤ A) (l : Fin m) : lo h (sh b h' l) = sh b (by omega) l := rfl
theorem sh_zero {m : ℕ} (h : 0 + m ≤ m) (l : Fin m) : sh 0 h l = l := Fin.ext (Nat.zero_add _)
theorem lo_eq_sh {m B : ℕ} (h : m ≤ B) (l : Fin m) : lo h l = sh 0 (by omega) l := Fin.ext (Nat.zero_add _).symm

section
variable {a b d k : ℕ} {α : Type}

def tab1 (f : Fin a → α) : (⟨1, ![a]⟩ : Shape).Idx → α := fun j => f (j 0)
def tab2 (f : Fin a → Fin b → α) : (⟨2, ![a, b]⟩ : Shape).Idx → α := fun j => f (j 0) (j 1)
def tab3 (f : Fin a → Fin b → Fin d → α) : (⟨3, ![a, b, d]⟩ : Shape).Idx → α := fun j => f (j 0) (j 1) (j 2)
def row2 (f : Fin b → α) : (⟨2, ![1, b]⟩ : Shape).Idx → α := fun j => f (j 1)
def col2 (f : Fin a → α) : (⟨2, ![a, 1]⟩ : Shape).Idx → α := fun j => f (j 0)
def lane (f : Fin a → α) : (⟨2, ![a, 128]⟩ : Shape).Idx → α := fun j => f (j 0)
def row3 (f : Fin a → Fin b → α) : (⟨3, ![1, a, b]⟩ : Shape).Idx → α := fun j => f (j 1) (j 2)
def row4 (f : Fin a → Fin b → Fin d → α) : (⟨4, ![1, a, b, d]⟩ : Shape).Idx → α := fun j => f (j 1) (j 2) (j 3)

theorem eta1 (j : (⟨1, ![a]⟩ : Shape).Idx) : j = ix1 (j 0) := by funext x; fin_cases x; rfl
theorem eta2 (j : (⟨2, ![a, b]⟩ : Shape).Idx) : j = ix2 (j 0) (j 1) := by funext x; fin_cases x <;> rfl
theorem eta3 (j : (⟨3, ![a, b, d]⟩ : Shape).Idx) : j = ix3 (j 0) (j 1) (j 2) := by funext x; fin_cases x <;> rfl
theorem eta4 (j : (⟨4, ![a, b, d, k]⟩ : Shape).Idx) : j = ix4 (j 0) (j 1) (j 2) (j 3) := by funext x; fin_cases x <;> rfl

theorem eq_tab1 (X : (⟨1, ![a]⟩ : Shape).Idx → α) (f : Fin a → α) (h : ∀ r, X (ix1 r) = f r) : X = tab1 f :=
  funext fun j => (congrArg X (eta1 j)).trans (h _)
theorem eq_tab2 (X : (⟨2, ![a, b]⟩ : Shape).Idx → α) (f : Fin a → Fin b → α) (h : ∀ r l, X (ix2 r l) = f r l) : X = tab2 f :=
  funext fun j => (congrArg X (eta2 j)).trans (h _ _)
theorem eq_tab3 (X : (⟨3, ![a, b, d]⟩ : Shape).Idx → α) (f : Fin a → Fin b → Fin d → α) (h : ∀ r l e, X (ix3 r l e) = f r l e) : X = tab3 f :=
  funext fun j => (congrArg X (eta3 j)).trans (h _ _ _)
theorem eq_row2 (X : (⟨2, ![1, b]⟩ : Shape).Idx → α) (f : Fin b → α) (h : ∀ l, X (ix2 0 l) = f l) : X = row2 f :=
  funext fun j => (congrArg X ((eta2 j).trans (congrArg (fun z : Fin 1 => ix2 z (j 1)) (Subsingleton.elim (α := Fin 1) _ _)))).trans (h _)
theorem eq_col2 (X : (⟨2, ![a, 1]⟩ : Shape).Idx → α) (f : Fin a → α) (h : ∀ l, X (ix2 l 0) = f l) : X = col2 f :=
  funext fun j => (congrArg X ((eta2 j).trans (congrArg (fun z : Fin 1 => ix2 (j 0) z) (Subsingleton.elim (α := Fin 1) _ _)))).trans (h _)
theorem eq_row3 (X : (⟨3, ![1, a, b]⟩ : Shape).Idx → α) (f : Fin a → Fin b → α) (h : ∀ r l, X (ix3 0 r l) = f r l) : X = row3 f :=
  funext fun j => (congrArg X ((eta3 j).trans (congrArg (fun z : Fin 1 => ix3 z (j 1) (j 2)) (Subsingleton.elim (α := Fin 1) _ _)))).trans (h _ _)
theorem eq_row4 (X : (⟨4, ![1, a, b, d]⟩ : Shape).Idx → α) (f : Fin a → Fin b → Fin d → α) (h : ∀ r l e, X (ix4 0 r l e) = f r l e) : X = row4 f :=
  funext fun j => (congrArg X ((eta4 j).trans (congrArg (fun z : Fin 1 => ix4 z (j 1) (j 2) (j 3)) (Subsingleton.elim (α := Fin 1) _ _)))).trans (h _ _ _)

/-- A window of columns of a table. -/
theorem window_tab2 {n m A B : ℕ} (f : Fin A → Fin B → α) (p q : ℕ) (inb : ∀ x, (![p, q] : Fin 2 → ℕ) x + (![n, m] : Fin 2 → ℕ) x ≤ (![A, B] : Fin 2 → ℕ) x)
    (hp : p + n ≤ A) (hq : q + m ≤ B) :
    VecWindow.window (s := ⟨2, ![A, B]⟩) (tab2 f) ![p, q] ![n, m] inb = tab2 fun r l => f (sh p hp r) (sh q hq l) := by
  funext y
  show f _ _ = f _ _
  congr 1
  · exact Fin.ext (show p + 1 * (y 0).val = p + (y 0).val by omega)
  · exact Fin.ext (show q + 1 * (y 1).val = q + (y 1).val by omega)
/-- A window of a one-row table. -/
theorem window_row2 {m B : ℕ} (f : Fin B → α) (q : ℕ) (inb : ∀ x, (![0, q] : Fin 2 → ℕ) x + (![1, m] : Fin 2 → ℕ) x ≤ (![1, B] : Fin 2 → ℕ) x)
    (hq : q + m ≤ B) :
    VecWindow.window (s := ⟨2, ![1, B]⟩) (row2 f) ![0, q] ![1, m] inb = row2 fun l => f (sh q hq l) := by
  funext y
  show f _ = f _
  congr 1
  exact Fin.ext (show q + 1 * (y 1).val = q + (y 1).val by omega)
/-- A window of one row of a table. -/
theorem window_row2' {m A B : ℕ} (f : Fin A → Fin B → α) (p q : ℕ) (inb : ∀ x, (![p, q] : Fin 2 → ℕ) x + (![1, m] : Fin 2 → ℕ) x ≤ (![A, B] : Fin 2 → ℕ) x)
    (hp : p < A) (hq : q + m ≤ B) :
    VecWindow.window (s := ⟨2, ![A, B]⟩) (tab2 f) ![p, q] ![1, m] inb = row2 fun l => f ⟨p, hp⟩ (sh q hq l) := by
  funext y
  show f _ _ = f _ _
  congr 1
  · exact Fin.ext (show p + 1 * (y 0).val = p by have : (y 0).val < 1 := (y 0).isLt; omega)
  · exact Fin.ext (show q + 1 * (y 1).val = q + (y 1).val by omega)
/-- A window of columns of a one-plane table. -/
theorem window_row3 {m A B : ℕ} (f : Fin A → Fin B → α) (q : ℕ) (inb : ∀ x, (![0, 0, q] : Fin 3 → ℕ) x + (![1, A, m] : Fin 3 → ℕ) x ≤ (![1, A, B] : Fin 3 → ℕ) x)
    (hq : q + m ≤ B) :
    VecWindow.window (s := ⟨3, ![1, A, B]⟩) (row3 f) ![0, 0, q] ![1, A, m] inb = row3 fun r l => f r (sh q hq l) := by
  funext y
  show f _ _ = f _ _
  congr 1
  · exact Fin.ext (show 0 + 1 * (y 1).val = (y 1).val by omega)
  · exact Fin.ext (show q + 1 * (y 2).val = q + (y 2).val by omega)
/-- A window of columns of one plane of a table. -/
theorem window_row3' {m P A B : ℕ} (f : Fin P → Fin A → Fin B → α) (p q : ℕ) (inb : ∀ x, (![p, 0, q] : Fin 3 → ℕ) x + (![1, A, m] : Fin 3 → ℕ) x ≤ (![P, A, B] : Fin 3 → ℕ) x)
    (hp : p < P) (hq : q + m ≤ B) :
    VecWindow.window (s := ⟨3, ![P, A, B]⟩) (tab3 f) ![p, 0, q] ![1, A, m] inb = row3 fun r l => f ⟨p, hp⟩ r (sh q hq l) := by
  funext y
  show f _ _ _ = f _ _ _
  congr 1
  · exact Fin.ext (show p + 1 * (y 0).val = p by have : (y 0).val < 1 := (y 0).isLt; omega)
  · exact Fin.ext (show 0 + 1 * (y 1).val = (y 1).val by omega)
  · exact Fin.ext (show q + 1 * (y 2).val = q + (y 2).val by omega)

/-- Reading after a band of columns was put. -/
theorem put_band2 {m A B : ℕ} (Y : (⟨2, ![A, B]⟩ : Shape).Idx → α) (q : ℕ) (g : Fin A → Fin m → α) (r : Fin A) (l : Fin B) :
    VecWindow.put (s := ⟨2, ![A, B]⟩) Y ![0, q] ![A, m] (tab2 g) (ix2 r l)
      = if h : q ≤ l.val ∧ l.val < q + m then g r ⟨l.val - q, by omega⟩ else Y (ix2 r l) := by
  by_cases h : q ≤ l.val ∧ l.val < q + m
  · rw [dif_pos h]
    have hm : ∀ x : Fin 2, (![0, q] : Fin 2 → ℕ) x ≤ ((ix2 r l) x).val ∧ ((ix2 r l) x).val < (![0, q] : Fin 2 → ℕ) x + (![A, m] : Fin 2 → ℕ) x := fun x => by
      fin_cases x
      · show 0 ≤ r.val ∧ r.val < 0 + A; omega
      · exact h
    refine (dif_pos hm).trans ?_
    show g _ _ = g _ _
    congr 1
  · rw [dif_neg h]
    exact dif_neg fun hm => h (hm 1)
/-- Reading after a band of columns was put, one plane. -/
theorem put_band3 {m A B : ℕ} (Y : (⟨3, ![1, A, B]⟩ : Shape).Idx → α) (q : ℕ) (g : Fin A → Fin m → α) (r : Fin A) (l : Fin B) :
    VecWindow.put (s := ⟨3, ![1, A, B]⟩) Y ![0, 0, q] ![1, A, m] (row3 g) (ix3 0 r l)
      = if h : q ≤ l.val ∧ l.val < q + m then g r ⟨l.val - q, by omega⟩ else Y (ix3 0 r l) := by
  by_cases h : q ≤ l.val ∧ l.val < q + m
  · rw [dif_pos h]
    have hm : ∀ x : Fin 3, (![0, 0, q] : Fin 3 → ℕ) x ≤ ((ix3 (0 : Fin 1) r l) x).val ∧ ((ix3 (0 : Fin 1) r l) x).val < (![0, 0, q] : Fin 3 → ℕ) x + (![1, A, m] : Fin 3 → ℕ) x := fun x => by
      fin_cases x
      · show 0 ≤ 0 ∧ 0 < 0 + 1; omega
      · show 0 ≤ r.val ∧ r.val < 0 + A; omega
      · exact h
    refine (dif_pos hm).trans ?_
    show g _ _ = g _ _
    congr 1
  · rw [dif_neg h]
    exact dif_neg fun hm => h (hm 2)

/-- Three bands of 256 columns make the table. -/
theorem bands3 {A : ℕ} (Y : (⟨2, ![A, 768]⟩ : Shape).Idx → α) (f : Fin A → Fin 768 → α) :
    VecWindow.put (s := ⟨2, ![A, 768]⟩) (VecWindow.put (s := ⟨2, ![A, 768]⟩) (VecWindow.put (s := ⟨2, ![A, 768]⟩) Y
      ![0, 0] ![A, 256] (tab2 (b := 256) fun r l => f r (sh 0 (by decide) l))) ![0, 256] ![A, 256] (tab2 (b := 256) fun r l => f r (sh 256 (by decide) l)))
      ![0, 512] ![A, 256] (tab2 (b := 256) fun r l => f r (sh 512 (by decide) l)) = tab2 f := by
  refine eq_tab2 _ _ fun r l => ?_
  have hl := l.isLt
  rw [put_band2, put_band2, put_band2]
  split_ifs <;> first | (congr 1; exact Fin.ext (by simp only [sh]; omega)) | omega
/-- Three bands of 256 columns make the one-plane table. -/
theorem bands3' {A : ℕ} (Y : (⟨3, ![1, A, 768]⟩ : Shape).Idx → α) (f : Fin A → Fin 768 → α) :
    VecWindow.put (s := ⟨3, ![1, A, 768]⟩) (VecWindow.put (s := ⟨3, ![1, A, 768]⟩) (VecWindow.put (s := ⟨3, ![1, A, 768]⟩) Y
      ![0, 0, 0] ![1, A, 256] (row3 (b := 256) fun r l => f r (sh 0 (by decide) l))) ![0, 0, 256] ![1, A, 256] (row3 (b := 256) fun r l => f r (sh 256 (by decide) l)))
      ![0, 0, 512] ![1, A, 256] (row3 (b := 256) fun r l => f r (sh 512 (by decide) l)) = row3 f := by
  refine eq_row3 _ _ fun r l => ?_
  have hl := l.isLt
  rw [put_band3, put_band3, put_band3]
  split_ifs <;> first | (congr 1; exact Fin.ext (by simp only [sh]; omega)) | omega
/-- Six bands of 256 columns make the table. -/
theorem bands6 {A : ℕ} (Y : (⟨2, ![A, 1536]⟩ : Shape).Idx → α) (f : Fin A → Fin 1536 → α) :
    VecWindow.put (s := ⟨2, ![A, 1536]⟩) (VecWindow.put (s := ⟨2, ![A, 1536]⟩) (VecWindow.put (s := ⟨2, ![A, 1536]⟩)
     (VecWindow.put (s := ⟨2, ![A, 1536]⟩) (VecWindow.put (s := ⟨2, ![A, 1536]⟩) (VecWindow.put (s := ⟨2, ![A, 1536]⟩) Y
      ![0, 0] ![A, 256] (tab2 (b := 256) fun r l => f r (sh 0 (by decide) l))) ![0, 256] ![A, 256] (tab2 (b := 256) fun r l => f r (sh 256 (by decide) l)))
      ![0, 512] ![A, 256] (tab2 (b := 256) fun r l => f r (sh 512 (by decide) l))) ![0, 768] ![A, 256] (tab2 (b := 256) fun r l => f r (sh 768 (by decide) l)))
      ![0, 1024] ![A, 256] (tab2 (b := 256) fun r l => f r (sh 1024 (by decide) l))) ![0, 1280] ![A, 256] (tab2 (b := 256) fun r l => f r (sh 1280 (by decide) l)) = tab2 f := by
  refine eq_tab2 _ _ fun r l => ?_
  have hl := l.isLt
  rw [put_band2, put_band2, put_band2, put_band2, put_band2, put_band2]
  split_ifs <;> first | (congr 1; exact Fin.ext (by simp only [sh]; omega)) | omega
end

/-! The layer, one batch entry, as formulas. -/

/-- 448, the greatest finite value of the codes. -/
def top : EReal := Ideal.ofBits FTy.f32 1138753536#32
/-- -448. -/
def bot : EReal := Ideal.ofBits FTy.f32 3286237184#32
/-- The greatest absolute value. -/
def amax {n : ℕ} (f : Fin n → EReal) : EReal :=
  Finset.fold max (Ideal.ofBits FTy.f32 4286578688#32) (fun x => FloatOps.absf (F := Ideal) (φ := .f32) (f x)) Finset.univ
/-- The greatest value. -/
def fmax {n : ℕ} (f : Fin n → EReal) : EReal :=
  Finset.fold max (Ideal.ofBits FTy.f32 4286578688#32) (fun x => f x) Finset.univ
/-- The scale of a greatest absolute value. -/
def scl (m : EReal) : EReal := if m = 0 then 1 else Ideal.div m top
/-- The code of a value at a scale. -/
def cod (v s : EReal) : EReal := min top (max bot (Ideal.div v s))
/-- A row, centred and divided by its deviation. -/
def lnr {n : ℕ} (N : EReal) (f : Fin n → EReal) (l : Fin n) : EReal :=
  (f l - Ideal.div (∑ x, f x) N) * Ideal.rsqrt (Ideal.div (∑ x, (f x - Ideal.div (∑ x, f x) N) * (f x - Ideal.div (∑ x, f x) N)) N + Ideal.ofBits FTy.f32 925353388#32)
/-- 384. -/
def n384 : EReal := Ideal.ofBits FTy.f32 1136656384#32
/-- 768. -/
def n768 : EReal := Ideal.ofBits FTy.f32 1145044992#32
/-- The score factor. -/
def sfac : EReal := Ideal.ofBits FTy.f32 1045773205#32
/-- The adaptive gain and shift of a normalised row. -/
def ada (ln : Fin 768 → EReal) (sg : Fin 384 → EReal) (w : Fin 384 → Fin 1536 → EReal) (b : Fin 768 → EReal) (l : Fin 768) : EReal :=
  ln l * Ideal.logistic (∑ x, sg x * w x (lo (by decide) l) + b l) + ∑ x, sg x * w x (sh 768 (by decide) l)

/-- The arrays the layer reads, one batch entry. -/
structure D where
  a : Fin 512 → Fin 768 → EReal
  s : Fin 512 → Fin 384 → EReal
  bias : Fin 16 → Fin 416 → Fin 512 → EReal
  g1 : Fin 384 → EReal
  g2 : Fin 384 → EReal
  wa1 : Fin 384 → Fin 1536 → EReal
  ba1 : Fin 768 → EReal
  wa2 : Fin 384 → Fin 1536 → EReal
  ba2 : Fin 768 → EReal
  wsg : Fin 384 → Fin 1536 → EReal
  bsg : Fin 2 → Fin 768 → EReal
  wq : Fin 3072 → Fin 768 → EReal
  wqs : Fin 4 → Fin 16 → Fin 48 → EReal
  bq : Fin 16 → Fin 48 → EReal
  wo : Fin 768 → Fin 768 → EReal
  wos : Fin 768 → EReal
  wi : Fin 2 → Fin 768 → Fin 1536 → EReal
  wis : Fin 2 → Fin 1536 → EReal
  wu : Fin 1536 → Fin 768 → EReal
  wus : Fin 768 → EReal

/-- Row `48 h + r` of band `p` of the fused projection. -/
def prow (p : Fin 4) (h : Fin 16) (r : Fin 48) : Fin 3072 := ⟨768 * p.val + 48 * h.val + r.val, by omega⟩
/-- Channel `48 h + r`. -/
def hrow (h : Fin 16) (r : Fin 48) : Fin 768 := ⟨h.val * 48 + r.val, by omega⟩
/-- The head of a channel. -/
def hd (j : Fin 768) : Fin 16 := ⟨j.val / 48, by omega⟩
/-- The place of a channel in its head. -/
def hp (j : Fin 768) : Fin 48 := ⟨j.val % 48, by omega⟩

namespace D
variable (d : D)
def sn0 (n : Fin 512) (l : Fin 384) : EReal := lnr n384 (d.s n) l
def sn1 (n : Fin 512) (l : Fin 384) : EReal := d.sn0 n l * d.g1 l
def sn2 (n : Fin 512) (l : Fin 384) : EReal := d.sn0 n l * d.g2 l
def an (n : Fin 512) (l : Fin 768) : EReal := lnr n768 (d.a n) l
def x1 (n : Fin 512) (l : Fin 768) : EReal := ada (d.an n) (d.sn1 n) d.wa1 d.ba1 l
def x1s (n : Fin 512) : EReal := scl (amax (d.x1 n))
def x1c (n : Fin 512) (l : Fin 768) : EReal := cod (d.x1 n l) (d.x1s n)
def pj (R : Fin 3072) (n : Fin 512) : EReal := ∑ x, d.wq R x * d.x1c n x
def qv (h : Fin 16) (r : Fin 48) (n : Fin 512) : EReal := d.pj (prow 0 h r) n * d.x1s n * d.wqs 0 h r + d.bq h r
def qs (h : Fin 16) (n : Fin 512) : EReal := scl (amax fun r => d.qv h r n)
def qc (h : Fin 16) (r : Fin 48) (n : Fin 512) : EReal := cod (d.qv h r n) (d.qs h n)
def kv (h : Fin 16) (r : Fin 48) (n : Fin 512) : EReal := d.pj (prow 1 h r) n * d.x1s n * d.wqs 1 h r
def ks (h : Fin 16) (n : Fin 512) : EReal := scl (amax fun r => d.kv h r n)
def kc (h : Fin 16) (r : Fin 48) (n : Fin 512) : EReal := cod (d.kv h r n) (d.ks h n)
def vv (h : Fin 16) (r : Fin 48) (n : Fin 512) : EReal := d.pj (prow 2 h r) n * d.x1s n * d.wqs 2 h r
def vs (h : Fin 16) (n : Fin 512) : EReal := scl (amax fun r => d.vv h r n)
def vc (h : Fin 16) (r : Fin 48) (n : Fin 512) : EReal := cod (d.vv h r n) (d.vs h n)
def gt (h : Fin 16) (r : Fin 48) (n : Fin 512) : EReal := Ideal.logistic (d.pj (prow 3 h r) n * d.x1s n * d.wqs 3 h r)
def sc (h : Fin 16) (m : Fin 416) (n : Fin 512) : EReal :=
  (∑ x, d.kc h x (lo (by decide) m) * d.qc h x n) * (d.qs h n * sfac) * d.ks h (lo (by decide) m) + d.bias h m n
def pm (h : Fin 16) (n : Fin 512) : EReal := Ideal.liftRound Int.ceil (fmax fun m => d.sc h m n)
def p (h : Fin 16) (m : Fin 416) (n : Fin 512) : EReal := FloatOps.exp2 (F := Ideal) (φ := .f32) (d.sc h m n - d.pm h n)
def den (h : Fin 16) (n : Fin 512) : EReal := ∑ m, d.p h m n
def ov (h : Fin 16) (r : Fin 48) (n : Fin 512) : EReal :=
  Ideal.div (∑ m, d.vc h r (lo (by decide) m) * (d.p h m n * d.vs h (lo (by decide) m))) (d.den h n) * d.gt h r n
def og (j : Fin 768) (n : Fin 512) : EReal := d.ov (hd j) (hp j) n
def ogs (n : Fin 512) : EReal := scl (amax fun j => d.og j n)
def ogc (j : Fin 768) (n : Fin 512) : EReal := cod (d.og j n) (d.ogs n)
def yo (n : Fin 512) (l : Fin 768) : EReal := (∑ x, d.ogc x n * d.wo x l) * d.ogs n * d.wos l
def a1 (n : Fin 512) (l : Fin 768) : EReal :=
  d.a n l + Ideal.logistic (∑ x, d.s n x * d.wsg x (lo (by decide) l) + d.bsg 0 l) * d.yo n l
def an2 (n : Fin 512) (l : Fin 768) : EReal := lnr n768 (d.a1 n) l
def x2 (n : Fin 512) (l : Fin 768) : EReal := ada (d.an2 n) (d.sn2 n) d.wa2 d.ba2 l
def x2s (n : Fin 512) : EReal := scl (amax (d.x2 n))
def x2c (n : Fin 512) (l : Fin 768) : EReal := cod (d.x2 n l) (d.x2s n)
def hz (k : Fin 2) (n : Fin 512) (l : Fin 1536) : EReal := (∑ x, d.x2c n x * d.wi k x l) * d.x2s n * d.wis k l
def hv (n : Fin 512) (l : Fin 1536) : EReal := d.hz 0 n l * Ideal.logistic (d.hz 0 n l) * d.hz 1 n l
def hs (n : Fin 512) : EReal := scl (amax (d.hv n))
def hc (n : Fin 512) (l : Fin 1536) : EReal := cod (d.hv n l) (d.hs n)
def yt (n : Fin 512) (l : Fin 768) : EReal := (∑ x, d.hc n x * d.wu x l) * d.hs n * d.wus l
def y (n : Fin 512) (l : Fin 768) : EReal :=
  d.a1 n l + Ideal.logistic (∑ x, d.s n x * d.wsg x (sh 768 (by decide) l) + d.bsg 1 l) * d.yt n l
end D

end Cert.Spec

end
-- ==== Proof.Args.lean ====
/- The layer's arrays, read at one batch entry. -/
module

public import proofs.«01_k».proof.Proof.Spec

@[expose] public section

noncomputable section

namespace Cert.Spec

open Idealize.ShloMosaic

/-- The arrays the layer reads at batch entry `b`, from the argument arrays. -/
def D.ofArgs (a0 : (⟨3, ![25, 512, 768]⟩ : Shape).Idx → EReal) (a1 : (⟨3, ![25, 512, 384]⟩ : Shape).Idx → EReal) (a2 : (⟨3, ![16, 416, 512]⟩ : Shape).Idx → EReal) (a3 : (⟨2, ![1, 384]⟩ : Shape).Idx → EReal) (a4 : (⟨2, ![1, 384]⟩ : Shape).Idx → EReal) (a5 : (⟨2, ![384, 1536]⟩ : Shape).Idx → EReal) (a6 : (⟨2, ![1, 768]⟩ : Shape).Idx → EReal) (a7 : (⟨2, ![384, 1536]⟩ : Shape).Idx → EReal) (a8 : (⟨2, ![1, 768]⟩ : Shape).Idx → EReal) (a9 : (⟨2, ![384, 1536]⟩ : Shape).Idx → EReal) (a10 : (⟨2, ![2, 768]⟩ : Shape).Idx → EReal) (a11 : (⟨2, ![3072, 768]⟩ : Shape).Idx → EReal) (a12 : (⟨3, ![4, 16, 48]⟩ : Shape).Idx → EReal) (a13 : (⟨2, ![16, 48]⟩ : Shape).Idx → EReal) (a14 : (⟨2, ![768, 768]⟩ : Shape).Idx → EReal) (a15 : (⟨2, ![1, 768]⟩ : Shape).Idx → EReal) (a16 : (⟨3, ![2, 768, 1536]⟩ : Shape).Idx → EReal) (a17 : (⟨2, ![2, 1536]⟩ : Shape).Idx → EReal) (a18 : (⟨2, ![1536, 768]⟩ : Shape).Idx → EReal) (a19 : (⟨2, ![1, 768]⟩ : Shape).Idx → EReal) (b : Fin 25) : D where
  a := fun n x => a0 (ix3 b n x)
  s := fun n x => a1 (ix3 b n x)
  bias := fun h k n => a2 (ix3 h k n)
  g1 := fun x => a3 (ix2 0 x)
  g2 := fun x => a4 (ix2 0 x)
  wa1 := fun x l => a5 (ix2 x l)
  ba1 := fun l => a6 (ix2 0 l)
  wa2 := fun x l => a7 (ix2 x l)
  ba2 := fun l => a8 (ix2 0 l)
  wsg := fun x l => a9 (ix2 x l)
  bsg := fun k l => a10 (ix2 k l)
  wq := fun r x => a11 (ix2 r x)
  wqs := fun p h r => a12 (ix3 p h r)
  bq := fun h r => a13 (ix2 h r)
  wo := fun x l => a14 (ix2 x l)
  wos := fun l => a15 (ix2 0 l)
  wi := fun k x l => a16 (ix3 k x l)
  wis := fun k l => a17 (ix2 k l)
  wu := fun x l => a18 (ix2 x l)
  wus := fun l => a19 (ix2 0 l)

/-- A table of the batch from its entries' rows. -/
def all2 {a b : ℕ} (f : Fin a → Fin b → EReal) : (⟨2, ![a, b]⟩ : Shape).Idx → EReal := fun i => f (i 0) (i 1)
/-- A table of the batch from its entries' tables. -/
def all3 {a b d : ℕ} (f : Fin a → Fin b → Fin d → EReal) : (⟨3, ![a, b, d]⟩ : Shape).Idx → EReal := fun i => f (i 0) (i 1) (i 2)
/-- A table of the batch from its entries' tables of three axes. -/
def all4 {a b d e : ℕ} (f : Fin a → Fin b → Fin d → Fin e → EReal) : (⟨4, ![a, b, d, e]⟩ : Shape).Idx → EReal := fun i => f (i 0) (i 1) (i 2) (i 3)

end Cert.Spec

end
-- ==== Proof.Base.lean ====
module

public import proofs.«01_k».proof.Proof.Gen.KernelIdeal.Skeleton
public import Idealize.ShloMosaic.Lib.Exec
public import Idealize.ShloMosaic.Lib.Tactic
public import Idealize.ShloMosaic.Lib.Pipeline.Kit
public import Idealize.ShloMosaic.Lib.Pointwise
public import Idealize.ShloMosaic.Lib.VecWindow

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

local notation "𝕄" => MT nD τ sig Unit (Elt Ideal) ℕ (UR sig nD τ) ℕ

/-- Core `c` holds the whole of memref `m`, which reads `X`. -/
abbrev ow {s : Shape} {e : EltTy} (c : Dev nD) (m : Memref sig .tc .vmem s e) (X : Vec Ideal s e) : sProp 𝕄 :=
  owns (c : Thread nD τ) m fullShare X

section
variable {sig : RefSig} {κ : Kind} {sp : Space} {s : Shape} {e : EltTy} {Val : EltTy → Type}

/-- A load of a box reads the window of what the view reads. -/
theorem readAt_win (v : View sig κ sp s e) (f : v.ty.Contents Val) {off size : Fin s.rank → ℕ} (inb : ∀ a, off a + size a ≤ s.size a) :
    v.readAt Val (Rect.unit off size inb).toLoadRect f = VecWindow.window (v.read Val f) off size inb := rfl

/-- A load covered by earlier stores is a load of those stores over any contents. -/
theorem readCov_eq_readAt [∀ e, Nonempty (Val e)] (v : View sig κ sp s e) (L : List (View.Piece Val s e)) (B : LoadRect s) :
    v.readCov L B = v.readAt Val B (v.writes Val v.junk L) := rfl
end

/-- A window of the whole array is the array. -/
theorem window_full2 {a b : ℕ} {α : Type} (X : (⟨2, ![a, b]⟩ : Shape).Idx → α) (inb : ∀ x, (![0, 0] : Fin 2 → ℕ) x + (![a, b] : Fin 2 → ℕ) x ≤ (![a, b] : Fin 2 → ℕ) x) :
    VecWindow.window (s := ⟨2, ![a, b]⟩) X ![0, 0] ![a, b] inb = X := by
  funext y
  exact congrArg X (Rect.emb_unit_full (s := ⟨2, ![a, b]⟩) inb y)

/-- Putting a whole array leaves the array put. -/
theorem put_full2 {a b : ℕ} {α : Type} (X w : (⟨2, ![a, b]⟩ : Shape).Idx → α) :
    VecWindow.put (s := ⟨2, ![a, b]⟩) X ![0, 0] ![a, b] w = w := by
  funext y
  have hz : ∀ x : Fin 2, (![0, 0] : Fin 2 → ℕ) x = 0 := fun x => by fin_cases x <;> rfl
  have h : ∀ x : Fin 2, (![0, 0] : Fin 2 → ℕ) x ≤ (y x).val ∧ (y x).val < (![0, 0] : Fin 2 → ℕ) x + (![a, b] : Fin 2 → ℕ) x := fun x => by
    rw [hz x]; exact ⟨Nat.zero_le _, by rw [Nat.zero_add]; exact (y x).isLt⟩
  refine (dif_pos h).trans (congrArg w (funext fun x => Fin.ext ?_))
  show (y x).val - (![0, 0] : Fin 2 → ℕ) x = (y x).val
  rw [hz x]; rfl

/-- A window of the whole array is the array. -/
theorem window_full3 {a b d : ℕ} {α : Type} (X : (⟨3, ![a, b, d]⟩ : Shape).Idx → α) (inb : ∀ x, (![0, 0, 0] : Fin 3 → ℕ) x + (![a, b, d] : Fin 3 → ℕ) x ≤ (![a, b, d] : Fin 3 → ℕ) x) :
    VecWindow.window (s := ⟨3, ![a, b, d]⟩) X ![0, 0, 0] ![a, b, d] inb = X := by
  funext y
  exact congrArg X (Rect.emb_unit_full (s := ⟨3, ![a, b, d]⟩) inb y)

/-- Putting a whole array leaves the array put. -/
theorem put_full3 {a b d : ℕ} {α : Type} (X w : (⟨3, ![a, b, d]⟩ : Shape).Idx → α) :
    VecWindow.put (s := ⟨3, ![a, b, d]⟩) X ![0, 0, 0] ![a, b, d] w = w := by
  funext y
  have hz : ∀ x : Fin 3, (![0, 0, 0] : Fin 3 → ℕ) x = 0 := fun x => by fin_cases x <;> rfl
  have h : ∀ x : Fin 3, (![0, 0, 0] : Fin 3 → ℕ) x ≤ (y x).val ∧ (y x).val < (![0, 0, 0] : Fin 3 → ℕ) x + (![a, b, d] : Fin 3 → ℕ) x := fun x => by
    rw [hz x]; exact ⟨Nat.zero_le _, by rw [Nat.zero_add]; exact (y x).isLt⟩
  refine (dif_pos h).trans (congrArg w (funext fun x => Fin.ext ?_))
  show (y x).val - (![0, 0, 0] : Fin 3 → ℕ) x = (y x).val
  rw [hz x]; rfl

/-- A window of the whole array is the array. -/
theorem window_full4 {a b d k : ℕ} {α : Type} (X : (⟨4, ![a, b, d, k]⟩ : Shape).Idx → α) (inb : ∀ x, (![0, 0, 0, 0] : Fin 4 → ℕ) x + (![a, b, d, k] : Fin 4 → ℕ) x ≤ (![a, b, d, k] : Fin 4 → ℕ) x) :
    VecWindow.window (s := ⟨4, ![a, b, d, k]⟩) X ![0, 0, 0, 0] ![a, b, d, k] inb = X := by
  funext y
  exact congrArg X (Rect.emb_unit_full (s := ⟨4, ![a, b, d, k]⟩) inb y)

/-- Putting a whole array leaves the array put. -/
theorem put_full4 {a b d k : ℕ} {α : Type} (X w : (⟨4, ![a, b, d, k]⟩ : Shape).Idx → α) :
    VecWindow.put (s := ⟨4, ![a, b, d, k]⟩) X ![0, 0, 0, 0] ![a, b, d, k] w = w := by
  funext y
  have hz : ∀ x : Fin 4, (![0, 0, 0, 0] : Fin 4 → ℕ) x = 0 := fun x => by fin_cases x <;> rfl
  have h : ∀ x : Fin 4, (![0, 0, 0, 0] : Fin 4 → ℕ) x ≤ (y x).val ∧ (y x).val < (![0, 0, 0, 0] : Fin 4 → ℕ) x + (![a, b, d, k] : Fin 4 → ℕ) x := fun x => by
    rw [hz x]; exact ⟨Nat.zero_le _, by rw [Nat.zero_add]; exact (y x).isLt⟩
  refine (dif_pos h).trans (congrArg w (funext fun x => Fin.ext ?_))
  show (y x).val - (![0, 0, 0, 0] : Fin 4 → ℕ) x = (y x).val
  rw [hz x]; rfl
/-! The same at the shapes of the kernel. -/

theorem wf_S1536x768 {α : Type} (X : S1536x768.Idx → α) (inb : ∀ a, (![0, 0] : Fin 2 → ℕ) a + S1536x768.size a ≤ S1536x768.size a) :
    VecWindow.window (s := S1536x768) X ![0, 0] S1536x768.size inb = X := window_full2 X inb
theorem pf_S1536x768 {α : Type} (X w : S1536x768.Idx → α) : VecWindow.put (s := S1536x768) X ![0, 0] S1536x768.size w = w := put_full2 X w

theorem wf_S16x416x512 {α : Type} (X : S16x416x512.Idx → α) (inb : ∀ a, (![0, 0, 0] : Fin 3 → ℕ) a + S16x416x512.size a ≤ S16x416x512.size a) :
    VecWindow.window (s := S16x416x512) X ![0, 0, 0] S16x416x512.size inb = X := window_full3 X inb
theorem pf_S16x416x512 {α : Type} (X w : S16x416x512.Idx → α) : VecWindow.put (s := S16x416x512) X ![0, 0, 0] S16x416x512.size w = w := put_full3 X w

theorem wf_S16x48x512 {α : Type} (X : S16x48x512.Idx → α) (inb : ∀ a, (![0, 0, 0] : Fin 3 → ℕ) a + S16x48x512.size a ≤ S16x48x512.size a) :
    VecWindow.window (s := S16x48x512) X ![0, 0, 0] S16x48x512.size inb = X := window_full3 X inb
theorem pf_S16x48x512 {α : Type} (X w : S16x48x512.Idx → α) : VecWindow.put (s := S16x48x512) X ![0, 0, 0] S16x48x512.size w = w := put_full3 X w

theorem wf_S1x16x48x512 {α : Type} (X : S1x16x48x512.Idx → α) (inb : ∀ a, (![0, 0, 0, 0] : Fin 4 → ℕ) a + S1x16x48x512.size a ≤ S1x16x48x512.size a) :
    VecWindow.window (s := S1x16x48x512) X ![0, 0, 0, 0] S1x16x48x512.size inb = X := window_full4 X inb
theorem pf_S1x16x48x512 {α : Type} (X w : S1x16x48x512.Idx → α) : VecWindow.put (s := S1x16x48x512) X ![0, 0, 0, 0] S1x16x48x512.size w = w := put_full4 X w

theorem wf_S1x16x512 {α : Type} (X : S1x16x512.Idx → α) (inb : ∀ a, (![0, 0, 0] : Fin 3 → ℕ) a + S1x16x512.size a ≤ S1x16x512.size a) :
    VecWindow.window (s := S1x16x512) X ![0, 0, 0] S1x16x512.size inb = X := window_full3 X inb
theorem pf_S1x16x512 {α : Type} (X w : S1x16x512.Idx → α) : VecWindow.put (s := S1x16x512) X ![0, 0, 0] S1x16x512.size w = w := put_full3 X w

theorem wf_S1x384 {α : Type} (X : S1x384.Idx → α) (inb : ∀ a, (![0, 0] : Fin 2 → ℕ) a + S1x384.size a ≤ S1x384.size a) :
    VecWindow.window (s := S1x384) X ![0, 0] S1x384.size inb = X := window_full2 X inb
theorem pf_S1x384 {α : Type} (X w : S1x384.Idx → α) : VecWindow.put (s := S1x384) X ![0, 0] S1x384.size w = w := put_full2 X w

theorem wf_S1x512x1536 {α : Type} (X : S1x512x1536.Idx → α) (inb : ∀ a, (![0, 0, 0] : Fin 3 → ℕ) a + S1x512x1536.size a ≤ S1x512x1536.size a) :
    VecWindow.window (s := S1x512x1536) X ![0, 0, 0] S1x512x1536.size inb = X := window_full3 X inb
theorem pf_S1x512x1536 {α : Type} (X w : S1x512x1536.Idx → α) : VecWindow.put (s := S1x512x1536) X ![0, 0, 0] S1x512x1536.size w = w := put_full3 X w

theorem wf_S1x512x384 {α : Type} (X : S1x512x384.Idx → α) (inb : ∀ a, (![0, 0, 0] : Fin 3 → ℕ) a + S1x512x384.size a ≤ S1x512x384.size a) :
    VecWindow.window (s := S1x512x384) X ![0, 0, 0] S1x512x384.size inb = X := window_full3 X inb
theorem pf_S1x512x384 {α : Type} (X w : S1x512x384.Idx → α) : VecWindow.put (s := S1x512x384) X ![0, 0, 0] S1x512x384.size w = w := put_full3 X w

theorem wf_S1x512x768 {α : Type} (X : S1x512x768.Idx → α) (inb : ∀ a, (![0, 0, 0] : Fin 3 → ℕ) a + S1x512x768.size a ≤ S1x512x768.size a) :
    VecWindow.window (s := S1x512x768) X ![0, 0, 0] S1x512x768.size inb = X := window_full3 X inb
theorem pf_S1x512x768 {α : Type} (X w : S1x512x768.Idx → α) : VecWindow.put (s := S1x512x768) X ![0, 0, 0] S1x512x768.size w = w := put_full3 X w

theorem wf_S1x768 {α : Type} (X : S1x768.Idx → α) (inb : ∀ a, (![0, 0] : Fin 2 → ℕ) a + S1x768.size a ≤ S1x768.size a) :
    VecWindow.window (s := S1x768) X ![0, 0] S1x768.size inb = X := window_full2 X inb
theorem pf_S1x768 {α : Type} (X w : S1x768.Idx → α) : VecWindow.put (s := S1x768) X ![0, 0] S1x768.size w = w := put_full2 X w

theorem wf_S25x512 {α : Type} (X : S25x512.Idx → α) (inb : ∀ a, (![0, 0] : Fin 2 → ℕ) a + S25x512.size a ≤ S25x512.size a) :
    VecWindow.window (s := S25x512) X ![0, 0] S25x512.size inb = X := window_full2 X inb
theorem pf_S25x512 {α : Type} (X w : S25x512.Idx → α) : VecWindow.put (s := S25x512) X ![0, 0] S25x512.size w = w := put_full2 X w

theorem wf_S2x1536 {α : Type} (X : S2x1536.Idx → α) (inb : ∀ a, (![0, 0] : Fin 2 → ℕ) a + S2x1536.size a ≤ S2x1536.size a) :
    VecWindow.window (s := S2x1536) X ![0, 0] S2x1536.size inb = X := window_full2 X inb
theorem pf_S2x1536 {α : Type} (X w : S2x1536.Idx → α) : VecWindow.put (s := S2x1536) X ![0, 0] S2x1536.size w = w := put_full2 X w

theorem wf_S2x768 {α : Type} (X : S2x768.Idx → α) (inb : ∀ a, (![0, 0] : Fin 2 → ℕ) a + S2x768.size a ≤ S2x768.size a) :
    VecWindow.window (s := S2x768) X ![0, 0] S2x768.size inb = X := window_full2 X inb
theorem pf_S2x768 {α : Type} (X w : S2x768.Idx → α) : VecWindow.put (s := S2x768) X ![0, 0] S2x768.size w = w := put_full2 X w

theorem wf_S2x768x1536 {α : Type} (X : S2x768x1536.Idx → α) (inb : ∀ a, (![0, 0, 0] : Fin 3 → ℕ) a + S2x768x1536.size a ≤ S2x768x1536.size a) :
    VecWindow.window (s := S2x768x1536) X ![0, 0, 0] S2x768x1536.size inb = X := window_full3 X inb
theorem pf_S2x768x1536 {α : Type} (X w : S2x768x1536.Idx → α) : VecWindow.put (s := S2x768x1536) X ![0, 0, 0] S2x768x1536.size w = w := put_full3 X w

theorem wf_S3072x128 {α : Type} (X : S3072x128.Idx → α) (inb : ∀ a, (![0, 0] : Fin 2 → ℕ) a + S3072x128.size a ≤ S3072x128.size a) :
    VecWindow.window (s := S3072x128) X ![0, 0] S3072x128.size inb = X := window_full2 X inb
theorem pf_S3072x128 {α : Type} (X w : S3072x128.Idx → α) : VecWindow.put (s := S3072x128) X ![0, 0] S3072x128.size w = w := put_full2 X w

theorem wf_S3072x768 {α : Type} (X : S3072x768.Idx → α) (inb : ∀ a, (![0, 0] : Fin 2 → ℕ) a + S3072x768.size a ≤ S3072x768.size a) :
    VecWindow.window (s := S3072x768) X ![0, 0] S3072x768.size inb = X := window_full2 X inb
theorem pf_S3072x768 {α : Type} (X w : S3072x768.Idx → α) : VecWindow.put (s := S3072x768) X ![0, 0] S3072x768.size w = w := put_full2 X w

theorem wf_S384x1536 {α : Type} (X : S384x1536.Idx → α) (inb : ∀ a, (![0, 0] : Fin 2 → ℕ) a + S384x1536.size a ≤ S384x1536.size a) :
    VecWindow.window (s := S384x1536) X ![0, 0] S384x1536.size inb = X := window_full2 X inb
theorem pf_S384x1536 {α : Type} (X w : S384x1536.Idx → α) : VecWindow.put (s := S384x1536) X ![0, 0] S384x1536.size w = w := put_full2 X w

theorem wf_S512x1536 {α : Type} (X : S512x1536.Idx → α) (inb : ∀ a, (![0, 0] : Fin 2 → ℕ) a + S512x1536.size a ≤ S512x1536.size a) :
    VecWindow.window (s := S512x1536) X ![0, 0] S512x1536.size inb = X := window_full2 X inb
theorem pf_S512x1536 {α : Type} (X w : S512x1536.Idx → α) : VecWindow.put (s := S512x1536) X ![0, 0] S512x1536.size w = w := put_full2 X w

theorem wf_S512x384 {α : Type} (X : S512x384.Idx → α) (inb : ∀ a, (![0, 0] : Fin 2 → ℕ) a + S512x384.size a ≤ S512x384.size a) :
    VecWindow.window (s := S512x384) X ![0, 0] S512x384.size inb = X := window_full2 X inb
theorem pf_S512x384 {α : Type} (X w : S512x384.Idx → α) : VecWindow.put (s := S512x384) X ![0, 0] S512x384.size w = w := put_full2 X w

theorem wf_S512x768 {α : Type} (X : S512x768.Idx → α) (inb : ∀ a, (![0, 0] : Fin 2 → ℕ) a + S512x768.size a ≤ S512x768.size a) :
    VecWindow.window (s := S512x768) X ![0, 0] S512x768.size inb = X := window_full2 X inb
theorem pf_S512x768 {α : Type} (X w : S512x768.Idx → α) : VecWindow.put (s := S512x768) X ![0, 0] S512x768.size w = w := put_full2 X w

theorem wf_S768x128 {α : Type} (X : S768x128.Idx → α) (inb : ∀ a, (![0, 0] : Fin 2 → ℕ) a + S768x128.size a ≤ S768x128.size a) :
    VecWindow.window (s := S768x128) X ![0, 0] S768x128.size inb = X := window_full2 X inb
theorem pf_S768x128 {α : Type} (X w : S768x128.Idx → α) : VecWindow.put (s := S768x128) X ![0, 0] S768x128.size w = w := put_full2 X w

theorem wf_S768x512 {α : Type} (X : S768x512.Idx → α) (inb : ∀ a, (![0, 0] : Fin 2 → ℕ) a + S768x512.size a ≤ S768x512.size a) :
    VecWindow.window (s := S768x512) X ![0, 0] S768x512.size inb = X := window_full2 X inb
theorem pf_S768x512 {α : Type} (X w : S768x512.Idx → α) : VecWindow.put (s := S768x512) X ![0, 0] S768x512.size w = w := put_full2 X w

theorem wf_S768x768 {α : Type} (X : S768x768.Idx → α) (inb : ∀ a, (![0, 0] : Fin 2 → ℕ) a + S768x768.size a ≤ S768x768.size a) :
    VecWindow.window (s := S768x768) X ![0, 0] S768x768.size inb = X := window_full2 X inb
theorem pf_S768x768 {α : Type} (X w : S768x768.Idx → α) : VecWindow.put (s := S768x768) X ![0, 0] S768x768.size w = w := put_full2 X w

end Cert.KernelIdeal.Hand

end
-- ==== Proof.LoopKit.lean ====
module

public import proofs.«01_k».proof.Proof.Base

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

section
variable {α : Type}

/-- Forty-eight rows of a 3072-row array: head `h` of band `p`. -/
def rows13 {m : ℕ} (X : (⟨2, ![3072, m]⟩ : Shape).Idx → α) (p : Fin 4) (h : Fin 16) : (⟨2, ![48, m]⟩ : Shape).Idx → α :=
  fun y => X (ix2 ⟨768 * p.val + 48 * h.val + (y 0).val, by have : (y 0).val < 48 := (y 0).isLt; omega⟩ (y 1))
/-- Forty-eight rows of a 768-row array: head `h`. -/
def rows41 {m : ℕ} (X : (⟨2, ![768, m]⟩ : Shape).Idx → α) (h : Fin 16) : (⟨2, ![48, m]⟩ : Shape).Idx → α :=
  fun y => X (ix2 ⟨48 * h.val + (y 0).val, by have : (y 0).val < 48 := (y 0).isLt; omega⟩ (y 1))
/-- Plane `h` of a stack of sixteen. -/
def plane3 {a b : ℕ} (X : (⟨3, ![16, a, b]⟩ : Shape).Idx → α) (h : Fin 16) : (⟨3, ![1, a, b]⟩ : Shape).Idx → α :=
  fun y => X (ix3 h (y 1) (y 2))
/-- Plane `h` of a stack of sixteen with one leading coordinate. -/
def plane4 {a b : ℕ} (X : (⟨4, ![1, 16, a, b]⟩ : Shape).Idx → α) (h : Fin 16) : (⟨4, ![1, 1, a, b]⟩ : Shape).Idx → α :=
  fun y => X (ix4 0 h (y 2) (y 3))
/-- Row `h` of sixteen with one leading coordinate. -/
def line3 {b : ℕ} (X : (⟨3, ![1, 16, b]⟩ : Shape).Idx → α) (h : Fin 16) : (⟨3, ![1, 1, b]⟩ : Shape).Idx → α :=
  fun y => X (ix3 0 h (y 2))

/-- A window of forty-eight rows of a 3072-row array. -/
theorem window_rows13 {m : ℕ} (X : (⟨2, ![3072, m]⟩ : Shape).Idx → α) (p : Fin 4) (h : Fin 16) (off : Fin 2 → ℕ)
    (e : off = ![48 * h.val + 768 * p.val, 0]) (inb : ∀ a, off a + (![48, m] : Fin 2 → ℕ) a ≤ (![3072, m] : Fin 2 → ℕ) a) :
    VecWindow.window (s := ⟨2, ![3072, m]⟩) X off ![48, m] inb = rows13 X p h := by
  subst e
  funext y
  refine congrArg X (funext fun a => Fin.ext ?_)
  fin_cases a
  · show 48 * h.val + 768 * p.val + 1 * (y 0).val = 768 * p.val + 48 * h.val + (y 0).val; omega
  · show 0 + 1 * (y 1).val = (y 1).val; omega
/-- A window of forty-eight rows of a 768-row array. -/
theorem window_rows41 {m : ℕ} (X : (⟨2, ![768, m]⟩ : Shape).Idx → α) (h : Fin 16) (off : Fin 2 → ℕ)
    (e : off = ![48 * h.val, 0]) (inb : ∀ a, off a + (![48, m] : Fin 2 → ℕ) a ≤ (![768, m] : Fin 2 → ℕ) a) :
    VecWindow.window (s := ⟨2, ![768, m]⟩) X off ![48, m] inb = rows41 X h := by
  subst e
  funext y
  refine congrArg X (funext fun a => Fin.ext ?_)
  fin_cases a
  · show 48 * h.val + 1 * (y 0).val = 48 * h.val + (y 0).val; omega
  · show 0 + 1 * (y 1).val = (y 1).val; omega
/-- A window of one plane. -/
theorem window_plane3 {a b : ℕ} (X : (⟨3, ![16, a, b]⟩ : Shape).Idx → α) (h : Fin 16) (off : Fin 3 → ℕ)
    (e : off = ![h.val, 0, 0]) (inb : ∀ x, off x + (![1, a, b] : Fin 3 → ℕ) x ≤ (![16, a, b] : Fin 3 → ℕ) x) :
    VecWindow.window (s := ⟨3, ![16, a, b]⟩) X off ![1, a, b] inb = plane3 X h := by
  subst e
  funext y
  refine congrArg X (funext fun x => Fin.ext ?_)
  fin_cases x
  · show h.val + 1 * (y 0).val = h.val; have : (y 0).val < 1 := (y 0).isLt; omega
  · show 0 + 1 * (y 1).val = (y 1).val; omega
  · show 0 + 1 * (y 2).val = (y 2).val; omega
/-- A window of one plane, with one leading coordinate. -/
theorem window_plane4 {a b : ℕ} (X : (⟨4, ![1, 16, a, b]⟩ : Shape).Idx → α) (h : Fin 16) (off : Fin 4 → ℕ)
    (e : off = ![0, h.val, 0, 0]) (inb : ∀ x, off x + (![1, 1, a, b] : Fin 4 → ℕ) x ≤ (![1, 16, a, b] : Fin 4 → ℕ) x) :
    VecWindow.window (s := ⟨4, ![1, 16, a, b]⟩) X off ![1, 1, a, b] inb = plane4 X h := by
  subst e
  funext y
  refine congrArg X (funext fun x => Fin.ext ?_)
  fin_cases x
  · show 0 + 1 * (y 0).val = 0; have : (y 0).val < 1 := (y 0).isLt; omega
  · show h.val + 1 * (y 1).val = h.val; have : (y 1).val < 1 := (y 1).isLt; omega
  · show 0 + 1 * (y 2).val = (y 2).val; omega
  · show 0 + 1 * (y 3).val = (y 3).val; omega
/-- A window of one row, with one leading coordinate. -/
theorem window_line3 {b : ℕ} (X : (⟨3, ![1, 16, b]⟩ : Shape).Idx → α) (h : Fin 16) (off : Fin 3 → ℕ)
    (e : off = ![0, h.val, 0]) (inb : ∀ x, off x + (![1, 1, b] : Fin 3 → ℕ) x ≤ (![1, 16, b] : Fin 3 → ℕ) x) :
    VecWindow.window (s := ⟨3, ![1, 16, b]⟩) X off ![1, 1, b] inb = line3 X h := by
  subst e
  funext y
  refine congrArg X (funext fun x => Fin.ext ?_)
  fin_cases x
  · show 0 + 1 * (y 0).val = 0; have : (y 0).val < 1 := (y 0).isLt; omega
  · show h.val + 1 * (y 1).val = h.val; have : (y 1).val < 1 := (y 1).isLt; omega
  · show 0 + 1 * (y 2).val = (y 2).val; omega

/-- Reading after one plane was put: the plane's values at its head, the earlier ones at the others. -/
theorem put_plane4 {a b : ℕ} (Y : (⟨4, ![1, 16, a, b]⟩ : Shape).Idx → α) (k : ℕ) (off : Fin 4 → ℕ) (e : off = ![0, k, 0, 0])
    (w : (⟨4, ![1, 1, a, b]⟩ : Shape).Idx → α) (h : Fin 16) (r : Fin a) (l : Fin b) :
    VecWindow.put (s := ⟨4, ![1, 16, a, b]⟩) Y off ![1, 1, a, b] w (ix4 0 h r l) = if h.val = k then w (ix4 0 0 r l) else Y (ix4 0 h r l) := by
  subst e
  by_cases hk : h.val = k
  · rw [if_pos hk]
    have hm : ∀ x : Fin 4, (![0, k, 0, 0] : Fin 4 → ℕ) x ≤ ((ix4 (0 : Fin 1) h r l) x).val ∧ ((ix4 (0 : Fin 1) h r l) x).val < (![0, k, 0, 0] : Fin 4 → ℕ) x + (![1, 1, a, b] : Fin 4 → ℕ) x := fun x => by
      fin_cases x
      · show 0 ≤ 0 ∧ 0 < 0 + 1; omega
      · show k ≤ h.val ∧ h.val < k + 1; omega
      · show 0 ≤ r.val ∧ r.val < 0 + a; omega
      · show 0 ≤ l.val ∧ l.val < 0 + b; omega
    refine (dif_pos hm).trans (congrArg w (funext fun x => Fin.ext ?_))
    fin_cases x
    · show 0 - 0 = 0; omega
    · show h.val - k = 0; omega
    · show r.val - 0 = r.val; omega
    · show l.val - 0 = l.val; omega
  · rw [if_neg hk]
    refine dif_neg fun hm => hk ?_
    have := hm 1
    have h1 : k ≤ h.val ∧ h.val < k + 1 := this
    omega
/-- The same for a stack of rows. -/
theorem put_line3 {b : ℕ} (Y : (⟨3, ![1, 16, b]⟩ : Shape).Idx → α) (k : ℕ) (off : Fin 3 → ℕ) (e : off = ![0, k, 0])
    (w : (⟨3, ![1, 1, b]⟩ : Shape).Idx → α) (h : Fin 16) (l : Fin b) :
    VecWindow.put (s := ⟨3, ![1, 16, b]⟩) Y off ![1, 1, b] w (ix3 0 h l) = if h.val = k then w (ix3 0 0 l) else Y (ix3 0 h l) := by
  subst e
  by_cases hk : h.val = k
  · rw [if_pos hk]
    have hm : ∀ x : Fin 3, (![0, k, 0] : Fin 3 → ℕ) x ≤ ((ix3 (0 : Fin 1) h l) x).val ∧ ((ix3 (0 : Fin 1) h l) x).val < (![0, k, 0] : Fin 3 → ℕ) x + (![1, 1, b] : Fin 3 → ℕ) x := fun x => by
      fin_cases x
      · show 0 ≤ 0 ∧ 0 < 0 + 1; omega
      · show k ≤ h.val ∧ h.val < k + 1; omega
      · show 0 ≤ l.val ∧ l.val < 0 + b; omega
    refine (dif_pos hm).trans (congrArg w (funext fun x => Fin.ext ?_))
    fin_cases x
    · show 0 - 0 = 0; omega
    · show h.val - k = 0; omega
    · show l.val - 0 = l.val; omega
  · rw [if_neg hk]
    refine dif_neg fun hm => hk ?_
    have := hm 1
    have h1 : k ≤ h.val ∧ h.val < k + 1 := this
    omega
/-- The same for a stack of planes without a leading coordinate. -/
theorem put_plane3 {a b : ℕ} (Y : (⟨3, ![16, a, b]⟩ : Shape).Idx → α) (k : ℕ) (off : Fin 3 → ℕ) (e : off = ![k, 0, 0])
    (w : (⟨3, ![1, a, b]⟩ : Shape).Idx → α) (h : Fin 16) (r : Fin a) (l : Fin b) :
    VecWindow.put (s := ⟨3, ![16, a, b]⟩) Y off ![1, a, b] w (ix3 h r l) = if h.val = k then w (ix3 0 r l) else Y (ix3 h r l) := by
  subst e
  by_cases hk : h.val = k
  · rw [if_pos hk]
    have hm : ∀ x : Fin 3, (![k, 0, 0] : Fin 3 → ℕ) x ≤ ((ix3 h r l) x).val ∧ ((ix3 h r l) x).val < (![k, 0, 0] : Fin 3 → ℕ) x + (![1, a, b] : Fin 3 → ℕ) x := fun x => by
      fin_cases x
      · show k ≤ h.val ∧ h.val < k + 1; omega
      · show 0 ≤ r.val ∧ r.val < 0 + a; omega
      · show 0 ≤ l.val ∧ l.val < 0 + b; omega
    refine (dif_pos hm).trans (congrArg w (funext fun x => Fin.ext ?_))
    fin_cases x
    · show h.val - k = 0; omega
    · show r.val - 0 = r.val; omega
    · show l.val - 0 = l.val; omega
  · rw [if_neg hk]
    refine dif_neg fun hm => hk ?_
    have := hm 0
    have h1 : k ≤ h.val ∧ h.val < k + 1 := this
    omega
end

/-- Each head loop runs sixteen times. -/
theorem trips1 : k0_t1_loop.trips = 16 := by decide +kernel
/-- Each head loop runs sixteen times. -/
theorem trips2 : k0_t2_loop.trips = 16 := by decide +kernel
/-- Each head loop runs sixteen times. -/
theorem trips3 : k0_t3_loop.trips = 16 := by decide +kernel
/-- Each head loop runs sixteen times. -/
theorem trips4 : k0_t4_loop.trips = 16 := by decide +kernel
/-- Each head loop runs sixteen times. -/
theorem trips5 : k0_t5_loop.trips = 16 := by decide +kernel

end Cert.KernelIdeal.Hand

end
-- ==== Proof.Stage2.lean ====
module

public import proofs.«01_k».proof.Proof.LoopKit
public import proofs.«01_k».proof.Proof.Spec

@[expose] public section

set_option maxRecDepth 16384
set_option maxHeartbeats 1000000

noncomputable section

namespace Cert.KernelIdeal.Hand

open Idealize.ShloMosaic Cert.KernelIdeal Cert.KernelIdeal.Gen Cert.Spec

variable (d : D)

/-- What `k0_pay21` is of the layer's values. -/
theorem st21 : k0_pay21 (F := Ideal) (VecWindow.window (s := S3072x768) (tab2 d.wq) ![0, 0] S768x768.size inb_S3072x768_S768x768_0_0) (row3 d.x1c)
    = tab2 (fun R n => d.pj (sh 0 (by decide) R) n) := by
  refine eq_tab2 _ _ fun r l => ?_
  pointwise [k0_pay21]
  rw [window_tab2 d.wq 0 0 _ (by decide) (by decide)]
  try simp only [D.pj, sh_sh, sh_zero, lo_sh, Nat.reduceAdd]
  rfl

/-- What `k0_pay23` is of the layer's values. -/
theorem st23 : k0_pay23 (F := Ideal) (VecWindow.window (s := S3072x768) (tab2 d.wq) ![768, 0] S768x768.size inb_S3072x768_S768x768_768_0) (row3 d.x1c)
    = tab2 (fun R n => d.pj (sh 768 (by decide) R) n) := by
  refine eq_tab2 _ _ fun r l => ?_
  pointwise [k0_pay23]
  rw [window_tab2 d.wq 768 0 _ (by decide) (by decide)]
  try simp only [D.pj, sh_sh, sh_zero, lo_sh, Nat.reduceAdd]
  rfl

/-- What `k0_pay28` is of the layer's values. -/
theorem st28 : k0_pay28 (F := Ideal) (VecWindow.window (s := S3072x768) (tab2 d.wq) ![1536, 0] S768x768.size inb_S3072x768_S768x768_1536_0) (row3 d.x1c)
    = tab2 (fun R n => d.pj (sh 1536 (by decide) R) n) := by
  refine eq_tab2 _ _ fun r l => ?_
  pointwise [k0_pay28]
  rw [window_tab2 d.wq 1536 0 _ (by decide) (by decide)]
  try simp only [D.pj, sh_sh, sh_zero, lo_sh, Nat.reduceAdd]
  rfl

/-- What `k0_pay33` is of the layer's values. -/
theorem st33 : k0_pay33 (F := Ideal) (VecWindow.window (s := S3072x768) (tab2 d.wq) ![2304, 0] S768x768.size inb_S3072x768_S768x768_2304_0) (row3 d.x1c)
    = tab2 (fun R n => d.pj (sh 2304 (by decide) R) n) := by
  refine eq_tab2 _ _ fun r l => ?_
  pointwise [k0_pay33]
  rw [window_tab2 d.wq 2304 0 _ (by decide) (by decide)]
  try simp only [D.pj, sh_sh, sh_zero, lo_sh, Nat.reduceAdd]
  rfl

/-- The weight scale of a row of the fused projection. -/
def wqsR (R : Fin 3072) : EReal := d.wqs ⟨R.val / 768, by omega⟩ ⟨R.val % 768 / 48, by omega⟩ ⟨R.val % 48, by omega⟩
/-- The query bias of a channel. -/
def bqR (R : Fin 768) : EReal := d.bq (hd R) (hp R)
/-- The forty-eight weight scales of one head of one band. -/
theorem rows13_wqs (p : Fin 4) (h : Fin 16) : rows13 (lane (wqsR d)) p h = lane (d.wqs p h) := by
  refine funext fun y => ?_
  have hy : (y 0).val < 48 := (y 0).isLt
  have e (a a' : Fin 4) (b b' : Fin 16) (c c' : Fin 48) (h1 : a = a') (h2 : b = b') (h3 : c = c') : d.wqs a b c = d.wqs a' b' c' := by
    subst h1 h2 h3; rfl
  exact e _ _ _ _ _ _ (Fin.ext (show (768 * p.val + 48 * h.val + (y 0).val) / 768 = p.val by omega))
    (Fin.ext (show (768 * p.val + 48 * h.val + (y 0).val) % 768 / 48 = h.val by omega))
    (Fin.ext (show (768 * p.val + 48 * h.val + (y 0).val) % 48 = (y 0).val by omega))
/-- The forty-eight query biases of one head. -/
theorem rows41_bq (h : Fin 16) : rows41 (lane (bqR d)) h = lane (d.bq h) := by
  refine funext fun y => ?_
  have hy : (y 0).val < 48 := (y 0).isLt
  show d.bq _ _ = d.bq h (y 0)
  congr 1
  · exact Fin.ext (show (48 * h.val + (y 0).val) / 48 = h.val by omega)
  · exact Fin.ext (show (48 * h.val + (y 0).val) % 48 = (y 0).val by omega)
/-- The forty-eight rows of one head of one band of the projection. -/
theorem rows41_pj (p : Fin 4) (k : ℕ) (hk : k = 768 * p.val) (hb : k + 768 ≤ 3072) (h : Fin 16) :
    rows41 (tab2 fun R n => d.pj (sh k hb R) n) h = tab2 fun r n => d.pj (prow p h r) n := by
  subst hk
  refine funext fun y => ?_
  show d.pj _ _ = d.pj _ _
  congr 1
  exact Fin.ext (Nat.add_assoc _ _ _).symm

/-- One head before quantising. -/
theorem st2 (h : Fin 16) : k0_pay2 (F := Ideal) (row2 d.x1s) (lane (d.wqs 0 h)) (tab2 fun r n => d.pj (prow 0 h r) n) (lane (d.bq h)) = tab2 (d.qv h) := by
  refine eq_tab2 _ _ fun r n => ?_
  pointwise [k0_pay2]
  split_ifs <;> rfl
/-- The scales of one head. -/
theorem st3 (h : Fin 16) : k0_pay3 (F := Ideal) (row2 d.x1s) (lane (d.wqs 0 h)) (tab2 fun r n => d.pj (prow 0 h r) n) (lane (d.bq h)) = row2 (d.qs h) := by
  refine eq_row2 _ _ fun n => ?_
  pointwise [k0_pay3]
  rw [st2]
  rfl
/-- The codes of one head. -/
theorem st4 (h : Fin 16) (r : Fin 48) (n : Fin 512) : k0_pay4 (F := Ideal) (row2 d.x1s) (lane (d.wqs 0 h)) (tab2 fun r n => d.pj (prow 0 h r) n) (lane (d.bq h)) (ix4 0 0 r n) = d.qc h r n := by
  pointwise [k0_pay4]
  rw [st2, st3]
  rfl
/-- The scales of one head. -/
theorem st22 (h : Fin 16) (n : Fin 512) : k0_pay22 (F := Ideal) (k0_pay3 (F := Ideal) (row2 d.x1s) (lane (d.wqs 0 h)) (tab2 fun r n => d.pj (prow 0 h r) n) (lane (d.bq h))) (ix3 0 0 n) = d.qs h n := by
  pointwise [k0_pay22]
  rw [st3]
  rfl

/-- One head before quantising. -/
theorem st24 (h : Fin 16) : k0_pay24 (F := Ideal) (row2 d.x1s) (lane (d.wqs 1 h)) (tab2 fun r n => d.pj (prow 1 h r) n) = tab2 (d.kv h) := by
  refine eq_tab2 _ _ fun r n => ?_
  pointwise [k0_pay24]
  split_ifs <;> rfl
/-- The scales of one head. -/
theorem st25 (h : Fin 16) : k0_pay25 (F := Ideal) (row2 d.x1s) (lane (d.wqs 1 h)) (tab2 fun r n => d.pj (prow 1 h r) n) = row2 (d.ks h) := by
  refine eq_row2 _ _ fun n => ?_
  pointwise [k0_pay25]
  rw [st24]
  rfl
/-- The codes of one head. -/
theorem st26 (h : Fin 16) (r : Fin 48) (n : Fin 512) : k0_pay26 (F := Ideal) (row2 d.x1s) (lane (d.wqs 1 h)) (tab2 fun r n => d.pj (prow 1 h r) n) (ix4 0 0 r n) = d.kc h r n := by
  pointwise [k0_pay26]
  rw [st24, st25]
  rfl
/-- The scales of one head. -/
theorem st27 (h : Fin 16) (n : Fin 512) : k0_pay27 (F := Ideal) (row2 d.x1s) (lane (d.wqs 1 h)) (tab2 fun r n => d.pj (prow 1 h r) n) (ix3 0 0 n) = d.ks h n := by
  pointwise [k0_pay27]
  rw [st25]
  rfl

/-- One head before quantising. -/
theorem st29 (h : Fin 16) : k0_pay29 (F := Ideal) (row2 d.x1s) (lane (d.wqs 2 h)) (tab2 fun r n => d.pj (prow 2 h r) n) = tab2 (d.vv h) := by
  refine eq_tab2 _ _ fun r n => ?_
  pointwise [k0_pay29]
  split_ifs <;> rfl
/-- The scales of one head. -/
theorem st30 (h : Fin 16) : k0_pay30 (F := Ideal) (row2 d.x1s) (lane (d.wqs 2 h)) (tab2 fun r n => d.pj (prow 2 h r) n) = row2 (d.vs h) := by
  refine eq_row2 _ _ fun n => ?_
  pointwise [k0_pay30]
  rw [st29]
  rfl
/-- The codes of one head. -/
theorem st31 (h : Fin 16) (r : Fin 48) (n : Fin 512) : k0_pay31 (F := Ideal) (row2 d.x1s) (lane (d.wqs 2 h)) (tab2 fun r n => d.pj (prow 2 h r) n) (ix4 0 0 r n) = d.vc h r n := by
  pointwise [k0_pay31]
  rw [st29, st30]
  rfl
/-- The scales of one head. -/
theorem st32 (h : Fin 16) (n : Fin 512) : k0_pay32 (F := Ideal) (row2 d.x1s) (lane (d.wqs 2 h)) (tab2 fun r n => d.pj (prow 2 h r) n) (ix3 0 0 n) = d.vs h n := by
  pointwise [k0_pay32]
  rw [st30]
  rfl

end Cert.KernelIdeal.Hand

end
-- ==== Proof.KBlk.lean ====
/- The blocks the pipeline hands the layer's body at a grid point, as tables of the argument arrays. -/
module

public import proofs.«01_k».proof.Proof.Args
public import proofs.«01_k».proof.Proof.Stage2
public import proofs.«01_k».proof.Proof.Gen.KernelIdeal.Frame
public import Idealize.ShloMosaic.Lib.Claim
public import Idealize.ShloMosaic.Lib.Pointwise
public import Idealize.ShloMosaic.Lib.Pipeline.ValueKit.Point

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Cert.Spec

variable (m : (ℓ : Loc nD τ sig) → Buf (Elt Ideal) ℓ)

/-- The batch entry of a grid point. -/
def bt (t : Fin cfg0.N) : Fin 25 := ⟨t.val, t.isLt.trans_eq (by decide)⟩

/-- The layer's arrays on core `c` at batch entry `b`. -/
def kA (c : Dev nD) (b : Fin 25) : D :=
  D.ofArgs (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) b

/-- The layer's arrays on core `c` at grid point `t`. -/
abbrev kD (c : Dev nD) (t : Fin cfg0.N) : D := kA m c (bt t)

theorem idx_0 : ∀ t : Fin cfg0.N, win0_0.index t = ![t.val, 0, 0] := by decide +kernel
theorem idx_1 : ∀ t : Fin cfg0.N, win0_1.index t = ![t.val, 0, 0] := by decide +kernel
theorem idx_2 : ∀ t : Fin cfg0.N, win0_2.index t = ![0, 0, 0] := by decide +kernel
theorem idx_3 : ∀ t : Fin cfg0.N, win0_3.index t = ![0, 0] := by decide +kernel
theorem idx_4 : ∀ t : Fin cfg0.N, win0_4.index t = ![0, 0] := by decide +kernel
theorem idx_5 : ∀ t : Fin cfg0.N, win0_5.index t = ![0, 0] := by decide +kernel
theorem idx_6 : ∀ t : Fin cfg0.N, win0_6.index t = ![0, 0] := by decide +kernel
theorem idx_7 : ∀ t : Fin cfg0.N, win0_7.index t = ![0, 0] := by decide +kernel
theorem idx_8 : ∀ t : Fin cfg0.N, win0_8.index t = ![0, 0] := by decide +kernel
theorem idx_9 : ∀ t : Fin cfg0.N, win0_9.index t = ![0, 0] := by decide +kernel
theorem idx_10 : ∀ t : Fin cfg0.N, win0_10.index t = ![0, 0] := by decide +kernel
theorem idx_11 : ∀ t : Fin cfg0.N, win0_11.index t = ![0, 0] := by decide +kernel
theorem idx_12 : ∀ t : Fin cfg0.N, win0_12.index t = ![0, 0] := by decide +kernel
theorem idx_13 : ∀ t : Fin cfg0.N, win0_13.index t = ![0, 0] := by decide +kernel
theorem idx_14 : ∀ t : Fin cfg0.N, win0_14.index t = ![0, 0] := by decide +kernel
theorem idx_15 : ∀ t : Fin cfg0.N, win0_15.index t = ![0, 0] := by decide +kernel
theorem idx_16 : ∀ t : Fin cfg0.N, win0_16.index t = ![0, 0, 0] := by decide +kernel
theorem idx_17 : ∀ t : Fin cfg0.N, win0_17.index t = ![0, 0] := by decide +kernel
theorem idx_18 : ∀ t : Fin cfg0.N, win0_18.index t = ![0, 0] := by decide +kernel
theorem idx_19 : ∀ t : Fin cfg0.N, win0_19.index t = ![0, 0] := by decide +kernel

/-- The block of argument 1. -/
theorem iblk_0 (c : Dev nD) (t : Fin cfg0.N) : iblk m c 0 t = row3 (kD m c t).a := by
  refine eq_row3 _ _ fun r l => ?_
  unfold iblk
  rw [show V m c (Pipeline.arrRef spec0 0) = m _ from V_main_arg0 m c]
  show _ = m ((c.tc : Thread nD τ).loc main_arg0) (ix3 (bt t) r l)
  blk_ext [idx_0 t, bt]

/-- The block of argument 2. -/
theorem iblk_1 (c : Dev nD) (t : Fin cfg0.N) : iblk m c 1 t = row3 (kD m c t).s := by
  refine eq_row3 _ _ fun r l => ?_
  unfold iblk
  rw [show V m c (Pipeline.arrRef spec0 1) = m _ from V_main_arg1 m c]
  show _ = m ((c.tc : Thread nD τ).loc main_arg1) (ix3 (bt t) r l)
  blk_ext [idx_1 t, bt]

/-- The block of argument 3. -/
theorem iblk_2 (c : Dev nD) (t : Fin cfg0.N) : iblk m c 2 t = tab3 (kD m c t).bias := by
  refine eq_tab3 _ _ fun r l e => ?_
  unfold iblk
  rw [show V m c (Pipeline.arrRef spec0 2) = m _ from V_main_arg2 m c]
  show _ = m ((c.tc : Thread nD τ).loc main_arg2) (ix3 r l e)
  blk_ext [idx_2 t, bt]

/-- The block of argument 4. -/
theorem iblk_3 (c : Dev nD) (t : Fin cfg0.N) : iblk m c 3 t = row2 (kD m c t).g1 := by
  refine eq_row2 _ _ fun l => ?_
  unfold iblk
  rw [show V m c (Pipeline.arrRef spec0 3) = m _ from V_main_arg3 m c]
  show _ = m ((c.tc : Thread nD τ).loc main_arg3) (ix2 0 l)
  blk_ext [idx_3 t, bt]

/-- The block of argument 5. -/
theorem iblk_4 (c : Dev nD) (t : Fin cfg0.N) : iblk m c 4 t = row2 (kD m c t).g2 := by
  refine eq_row2 _ _ fun l => ?_
  unfold iblk
  rw [show V m c (Pipeline.arrRef spec0 4) = m _ from V_main_arg4 m c]
  show _ = m ((c.tc : Thread nD τ).loc main_arg4) (ix2 0 l)
  blk_ext [idx_4 t, bt]

/-- The block of argument 6. -/
theorem iblk_5 (c : Dev nD) (t : Fin cfg0.N) : iblk m c 5 t = tab2 (kD m c t).wa1 := by
  refine eq_tab2 _ _ fun r l => ?_
  unfold iblk
  rw [show V m c (Pipeline.arrRef spec0 5) = m _ from V_main_arg5 m c]
  show _ = m ((c.tc : Thread nD τ).loc main_arg5) (ix2 r l)
  blk_ext [idx_5 t, bt]

/-- The block of argument 7. -/
theorem iblk_6 (c : Dev nD) (t : Fin cfg0.N) : iblk m c 6 t = row2 (kD m c t).ba1 := by
  refine eq_row2 _ _ fun l => ?_
  unfold iblk
  rw [show V m c (Pipeline.arrRef spec0 6) = m _ from V_main_arg6 m c]
  show _ = m ((c.tc : Thread nD τ).loc main_arg6) (ix2 0 l)
  blk_ext [idx_6 t, bt]

/-- The block of argument 8. -/
theorem iblk_7 (c : Dev nD) (t : Fin cfg0.N) : iblk m c 7 t = tab2 (kD m c t).wa2 := by
  refine eq_tab2 _ _ fun r l => ?_
  unfold iblk
  rw [show V m c (Pipeline.arrRef spec0 7) = m _ from V_main_arg7 m c]
  show _ = m ((c.tc : Thread nD τ).loc main_arg7) (ix2 r l)
  blk_ext [idx_7 t, bt]

/-- The block of argument 9. -/
theorem iblk_8 (c : Dev nD) (t : Fin cfg0.N) : iblk m c 8 t = row2 (kD m c t).ba2 := by
  refine eq_row2 _ _ fun l => ?_
  unfold iblk
  rw [show V m c (Pipeline.arrRef spec0 8) = m _ from V_main_arg8 m c]
  show _ = m ((c.tc : Thread nD τ).loc main_arg8) (ix2 0 l)
  blk_ext [idx_8 t, bt]

/-- The block of argument 10. -/
theorem iblk_9 (c : Dev nD) (t : Fin cfg0.N) : iblk m c 9 t = tab2 (kD m c t).wsg := by
  refine eq_tab2 _ _ fun r l => ?_
  unfold iblk
  rw [show V m c (Pipeline.arrRef spec0 9) = m _ from V_main_arg9 m c]
  show _ = m ((c.tc : Thread nD τ).loc main_arg9) (ix2 r l)
  blk_ext [idx_9 t, bt]

/-- The block of argument 11. -/
theorem iblk_10 (c : Dev nD) (t : Fin cfg0.N) : iblk m c 10 t = tab2 (kD m c t).bsg := by
  refine eq_tab2 _ _ fun r l => ?_
  unfold iblk
  rw [show V m c (Pipeline.arrRef spec0 10) = m _ from V_main_arg10 m c]
  show _ = m ((c.tc : Thread nD τ).loc main_arg10) (ix2 r l)
  blk_ext [idx_10 t, bt]

/-- The block of argument 12. -/
theorem iblk_11 (c : Dev nD) (t : Fin cfg0.N) : iblk m c 11 t = tab2 (kD m c t).wq := by
  refine eq_tab2 _ _ fun r l => ?_
  unfold iblk
  rw [show V m c (Pipeline.arrRef spec0 11) = m _ from V_main_arg11 m c]
  show _ = m ((c.tc : Thread nD τ).loc main_arg11) (ix2 r l)
  blk_ext [idx_11 t, bt]

/-- The block of argument 13. -/
theorem iblk_12 (c : Dev nD) (t : Fin cfg0.N) : iblk m c 12 t = lane (wqsR (kD m c t)) := by
  show iblk m c 12 t = (fun j => _)
  refine eq_tab2 (a := 3072) (b := 128) (iblk m c 12 t) (fun R _ => wqsR (kD m c t) R) fun R l => ?_
  unfold iblk
  blk_simp
  entry_read
  have e : ((View.whole main_v1).slice (win0_12.rect t)).emb (ix2 R l) = (ix2 R l : S3072x128.Idx) := by
    blk_ext [idx_12 t]
  rw [e]
  pointwise []
  refine congrArg (fun z : Fin 16 => m (c, Proc.tc.devRef main_arg12) (ix3 ⟨R.val / 768, by omega⟩ z ⟨R.val % 48, by omega⟩)) (Fin.ext (show R.val / 48 % 16 = R.val % 768 / 48 by omega))

/-- The block of argument 14. -/
theorem iblk_13 (c : Dev nD) (t : Fin cfg0.N) : iblk m c 13 t = lane (bqR (kD m c t)) := by
  show iblk m c 13 t = (fun j => _)
  refine eq_tab2 (a := 768) (b := 128) (iblk m c 13 t) (fun R _ => bqR (kD m c t) R) fun R l => ?_
  unfold iblk
  blk_simp
  entry_read
  have e : ((View.whole main_v3).slice (win0_13.rect t)).emb (ix2 R l) = (ix2 R l : S768x128.Idx) := by
    blk_ext [idx_13 t]
  rw [e]
  pointwise []
  rfl

/-- The block of argument 15. -/
theorem iblk_14 (c : Dev nD) (t : Fin cfg0.N) : iblk m c 14 t = tab2 (kD m c t).wo := by
  refine eq_tab2 _ _ fun r l => ?_
  unfold iblk
  rw [show V m c (Pipeline.arrRef spec0 14) = m _ from V_main_arg14 m c]
  show _ = m ((c.tc : Thread nD τ).loc main_arg14) (ix2 r l)
  blk_ext [idx_14 t, bt]

/-- The block of argument 16. -/
theorem iblk_15 (c : Dev nD) (t : Fin cfg0.N) : iblk m c 15 t = row2 (kD m c t).wos := by
  refine eq_row2 _ _ fun l => ?_
  unfold iblk
  rw [show V m c (Pipeline.arrRef spec0 15) = m _ from V_main_arg15 m c]
  show _ = m ((c.tc : Thread nD τ).loc main_arg15) (ix2 0 l)
  blk_ext [idx_15 t, bt]

/-- The block of argument 17. -/
theorem iblk_16 (c : Dev nD) (t : Fin cfg0.N) : iblk m c 16 t = tab3 (kD m c t).wi := by
  refine eq_tab3 _ _ fun r l e => ?_
  unfold iblk
  rw [show V m c (Pipeline.arrRef spec0 16) = m _ from V_main_arg16 m c]
  show _ = m ((c.tc : Thread nD τ).loc main_arg16) (ix3 r l e)
  blk_ext [idx_16 t, bt]

/-- The block of argument 18. -/
theorem iblk_17 (c : Dev nD) (t : Fin cfg0.N) : iblk m c 17 t = tab2 (kD m c t).wis := by
  refine eq_tab2 _ _ fun r l => ?_
  unfold iblk
  rw [show V m c (Pipeline.arrRef spec0 17) = m _ from V_main_arg17 m c]
  show _ = m ((c.tc : Thread nD τ).loc main_arg17) (ix2 r l)
  blk_ext [idx_17 t, bt]

/-- The block of argument 19. -/
theorem iblk_18 (c : Dev nD) (t : Fin cfg0.N) : iblk m c 18 t = tab2 (kD m c t).wu := by
  refine eq_tab2 _ _ fun r l => ?_
  unfold iblk
  rw [show V m c (Pipeline.arrRef spec0 18) = m _ from V_main_arg18 m c]
  show _ = m ((c.tc : Thread nD τ).loc main_arg18) (ix2 r l)
  blk_ext [idx_18 t, bt]

/-- The block of argument 20. -/
theorem iblk_19 (c : Dev nD) (t : Fin cfg0.N) : iblk m c 19 t = row2 (kD m c t).wus := by
  refine eq_row2 _ _ fun l => ?_
  unfold iblk
  rw [show V m c (Pipeline.arrRef spec0 19) = m _ from V_main_arg19 m c]
  show _ = m ((c.tc : Thread nD τ).loc main_arg19) (ix2 0 l)
  blk_ext [idx_19 t, bt]

end Cert.KernelIdeal.Hand

end
-- ==== Proof.RunAB.lean ====
module

public import proofs.«01_k».proof.Proof.Base

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

local notation "𝕄" => MT nD τ sig Unit (Elt Ideal) ℕ (UR sig nD τ) ℕ

variable {c : Dev nD} {i : grid0.Coords}
variable {arg1 : Memref sig .tc .vmem S1x512x768 .bf16} {harg1 : arg1.IsWhole}
variable {arg2 : Memref sig .tc .vmem S1x512x384 .bf16} {harg2 : arg2.IsWhole}
variable {arg3 : Memref sig .tc .vmem S16x416x512 .f32} {harg3 : arg3.IsWhole}
variable {arg4 : Memref sig .tc .vmem S1x384 .f32} {harg4 : arg4.IsWhole}
variable {arg5 : Memref sig .tc .vmem S1x384 .f32} {harg5 : arg5.IsWhole}
variable {arg6 : Memref sig .tc .vmem S384x1536 .bf16} {harg6 : arg6.IsWhole}
variable {arg7 : Memref sig .tc .vmem S1x768 .f32} {harg7 : arg7.IsWhole}
variable {arg8 : Memref sig .tc .vmem S384x1536 .bf16} {harg8 : arg8.IsWhole}
variable {arg9 : Memref sig .tc .vmem S1x768 .f32} {harg9 : arg9.IsWhole}
variable {arg10 : Memref sig .tc .vmem S384x1536 .bf16} {harg10 : arg10.IsWhole}
variable {arg11 : Memref sig .tc .vmem S2x768 .f32} {harg11 : arg11.IsWhole}
variable {arg12 : Memref sig .tc .vmem S3072x768 .fp8e4m3} {harg12 : arg12.IsWhole}
variable {arg13 : Memref sig .tc .vmem S3072x128 .f32} {harg13 : arg13.IsWhole}
variable {arg14 : Memref sig .tc .vmem S768x128 .f32} {harg14 : arg14.IsWhole}
variable {arg15 : Memref sig .tc .vmem S768x768 .fp8e4m3} {harg15 : arg15.IsWhole}
variable {arg16 : Memref sig .tc .vmem S1x768 .f32} {harg16 : arg16.IsWhole}
variable {arg17 : Memref sig .tc .vmem S2x768x1536 .fp8e4m3} {harg17 : arg17.IsWhole}
variable {arg18 : Memref sig .tc .vmem S2x1536 .f32} {harg18 : arg18.IsWhole}
variable {arg19 : Memref sig .tc .vmem S1536x768 .fp8e4m3} {harg19 : arg19.IsWhole}
variable {arg20 : Memref sig .tc .vmem S1x768 .f32} {harg20 : arg20.IsWhole}
variable {arg21 : Memref sig .tc .vmem S1x512x768 .bf16} {harg21 : arg21.IsWhole}
variable {arg22 : Memref sig .tc .vmem S1x512x768 .f32} {harg22 : arg22.IsWhole}
variable {arg23 : Memref sig .tc .vmem S1x512x768 .fp8e4m3} {harg23 : arg23.IsWhole}
variable {arg24 : Memref sig .tc .vmem S25x512 .f32} {harg24 : arg24.IsWhole}
variable {arg25 : Memref sig .tc .vmem S1x16x48x512 .fp8e4m3} {harg25 : arg25.IsWhole}
variable {arg26 : Memref sig .tc .vmem S1x16x512 .f32} {harg26 : arg26.IsWhole}
variable {arg27 : Memref sig .tc .vmem S1x16x48x512 .fp8e4m3} {harg27 : arg27.IsWhole}
variable {arg28 : Memref sig .tc .vmem S1x16x512 .f32} {harg28 : arg28.IsWhole}
variable {arg29 : Memref sig .tc .vmem S1x16x48x512 .fp8e4m3} {harg29 : arg29.IsWhole}
variable {arg30 : Memref sig .tc .vmem S1x16x512 .f32} {harg30 : arg30.IsWhole}
variable {arg31 : Memref sig .tc .vmem S1x16x48x512 .fp8e4m3} {harg31 : arg31.IsWhole}
variable {arg32 : Memref sig .tc .vmem S25x512 .f32} {harg32 : arg32.IsWhole}
variable {arg33 : Memref sig .tc .vmem S1x512x768 .fp8e4m3} {harg33 : arg33.IsWhole}
variable {arg34 : Memref sig .tc .vmem S25x512 .f32} {harg34 : arg34.IsWhole}
variable {arg35 : Memref sig .tc .vmem S1x512x1536 .fp8e4m3} {harg35 : arg35.IsWhole}
variable {arg36 : Memref sig .tc .vmem S25x512 .f32} {harg36 : arg36.IsWhole}
variable {arg37 : Memref sig .tc .vmem S512x384 .bf16} {harg37 : arg37.IsWhole}
variable {arg38 : Memref sig .tc .vmem S512x384 .bf16} {harg38 : arg38.IsWhole}
variable {arg39 : Memref sig .tc .vmem S512x768 .f32} {harg39 : arg39.IsWhole}
variable {arg40 : Memref sig .tc .vmem S512x768 .f32} {harg40 : arg40.IsWhole}
variable {arg41 : Memref sig .tc .vmem S768x512 .f32} {harg41 : arg41.IsWhole}
variable {arg42 : Memref sig .tc .vmem S16x48x512 .f32} {harg42 : arg42.IsWhole}
variable {arg43 : Memref sig .tc .vmem S16x48x512 .f32} {harg43 : arg43.IsWhole}
variable {arg44 : Memref sig .tc .vmem S512x1536 .f32} {harg44 : arg44.IsWhole}
variable {E : Set ℕ}

/-- What `k0_part3` leaves in the buffers it writes, and what it returns, from what it reads. -/
theorem k0_part3_run  (X2 : Vec Ideal S1x512x384 .bf16) (X4 : Vec Ideal S1x384 .f32) (X5 : Vec Ideal S1x384 .f32) (X1 : Vec Ideal S1x512x768 .bf16)
    (K : (Σ' (arg0 : BitVec 32) (v35 : FVec Ideal S512x768 .f32), FVec Ideal S512 .f32) → sProp 𝕄) :
    iprop(ow c arg2 X2
        ∗ ow c arg4 X4
        ∗ ow c arg5 X5
        ∗ ow c arg1 X1
        ∗ (∃ d, ow c arg37 d)
        ∗ (∃ d, ow c arg38 d)
        ∗ (iprop(ow c arg2 X2
            ∗ ow c arg4 X4
            ∗ ow c arg5 X5
            ∗ ow c arg1 X1
            ∗ (∃ Y, ⌜Y = k0_pay9 X2 X4⌝ ∗ ow c arg37 Y)
            ∗ (∃ Y, ⌜Y = k0_pay10 X2 X5⌝ ∗ ow c arg38 Y)) -∗ K ⟨BitVec.ofNat 32 (i 0).val, k0_pay11 X1, k0_pay12 X1⟩))
      ⊢ wp frame (wpE (defs₀ (F := Ideal)) Variants.none c none) E (k0_part3 (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 ) K := by
  simp only [k0_part3_eq_skeleton]; unfold k0_part3_skel
  unfold ow owns
  iintro ⟨⟨%f2, %hf2, H2⟩, ⟨%f4, %hf4, H4⟩, ⟨%f5, %hf5, H5⟩, ⟨%f1, %hf1, H1⟩, ⟨%d37, %f37, %hf37, H37⟩, ⟨%d38, %f38, %hf38, H38⟩, Hk⟩
  obtain rfl := harg2.eq_unread hf2; obtain rfl := harg4.eq_unread hf4; obtain rfl := harg5.eq_unread hf5; obtain rfl := harg1.eq_unread hf1
  sl_exec
  sl_step
  simp (proj := false) only [readCov_eq_readAt, readAt_win, View.read_writes_cons_put _ _ _ _ _ rfl, View.writes_nil, Memref.IsWhole.read_unread, wf_S1x384, pf_S1x384, wf_S1x512x384, pf_S1x512x384, wf_S1x512x768, pf_S1x512x768, wf_S512x384, pf_S512x384]
  iapply Hk
  isplitl [H2]
  · iexists _; isplitr; · ipureintro; exact harg2.read_unread _
    iexact H2
  isplitl [H4]
  · iexists _; isplitr; · ipureintro; exact harg4.read_unread _
    iexact H4
  isplitl [H5]
  · iexists _; isplitr; · ipureintro; exact harg5.read_unread _
    iexact H5
  isplitl [H1]
  · iexists _; isplitr; · ipureintro; exact harg1.read_unread _
    iexact H1
  isplitl [H37]
  · iexists _; isplitr; · ipureintro; exact rfl
    iexists _; isplitr; swap; · iexact H37
    ipureintro
    try simp (proj := false) only [readCov_eq_readAt, readAt_win, View.read_writes_cons_put _ _ _ _ _ rfl, View.writes_nil, Memref.IsWhole.read_unread, wf_S1x384, pf_S1x384, wf_S1x512x384, pf_S1x512x384, wf_S1x512x768, pf_S1x512x768, wf_S512x384, pf_S512x384]
  iexists _; isplitr; · ipureintro; exact rfl
  iexists _; isplitr; swap; · iexact H38
  ipureintro
  try simp (proj := false) only [readCov_eq_readAt, readAt_win, View.read_writes_cons_put _ _ _ _ _ rfl, View.writes_nil, Memref.IsWhole.read_unread, wf_S1x384, pf_S1x384, wf_S1x512x384, pf_S1x512x384, wf_S1x512x768, pf_S1x512x768, wf_S512x384, pf_S512x384]

/-- What `k0_part4` leaves in the buffers it writes, and what it returns, from what it reads. -/
theorem k0_part4_run (v35 : FVec Ideal S512x768 .f32) (v36 : FVec Ideal S512 .f32) (X37 : Vec Ideal S512x384 .bf16) (X6 : Vec Ideal S384x1536 .bf16) (X7 : Vec Ideal S1x768 .f32) (X40 : Vec Ideal S512x768 .f32)
    (K : (PUnit) → sProp 𝕄) :
    iprop(ow c arg37 X37
        ∗ ow c arg6 X6
        ∗ ow c arg7 X7
        ∗ ow c arg40 X40
        ∗ (∃ d, ow c arg39 d)
        ∗ (iprop(ow c arg37 X37
            ∗ ow c arg6 X6
            ∗ ow c arg7 X7
            ∗ (∃ Y, ⌜Y = VecWindow.put (s := S512x768) (X40) ![0, 0] S512x256.size (k0_pay14 X37 (VecWindow.window (s := S384x1536) (X6) ![0, 0] S384x256.size inb_S384x1536_S384x256_0_0) X37 (VecWindow.window (s := S384x1536) (X6) ![0, 768] S384x256.size inb_S384x1536_S384x256_0_768) (VecWindow.window (s := S512x768) (k0_pay13 v35 v36) ![0, 0] S512x256.size inb_S512x768_S512x256_0_0) (VecWindow.window (s := S1x768) (X7) ![0, 0] S1x256.size inb_S1x768_S1x256_0_0))⌝ ∗ ow c arg40 Y)
            ∗ (∃ Y, ⌜Y = k0_pay13 v35 v36⌝ ∗ ow c arg39 Y)) -∗ K ⟨⟩))
      ⊢ wp frame (wpE (defs₀ (F := Ideal)) Variants.none c none) E (k0_part4 (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 v35 v36) K := by
  simp only [k0_part4_eq_skeleton]; unfold k0_part4_skel
  unfold ow owns
  iintro ⟨⟨%f37, %hf37, H37⟩, ⟨%f6, %hf6, H6⟩, ⟨%f7, %hf7, H7⟩, ⟨%f40, %hf40, H40⟩, ⟨%d39, %f39, %hf39, H39⟩, Hk⟩
  obtain rfl := harg37.eq_unread hf37; obtain rfl := harg6.eq_unread hf6; obtain rfl := harg7.eq_unread hf7; obtain rfl := harg40.eq_unread hf40
  sl_exec
  sl_step
  try delta k0_part4_run.sl.v61
  try delta k0_part4_run.sl.H39_1
  try delta k0_part4_run.sl.H39_2
  try delta k0_part4_run.sl.v61
  try delta k0_part4_run.sl.H39_1
  try delta k0_part4_run.sl.H39_2
  simp (proj := false) only [readCov_eq_readAt, readAt_win, View.read_writes_cons_put _ _ _ _ _ rfl, View.writes_nil, Memref.IsWhole.read_unread, wf_S1x768, pf_S1x768, wf_S384x1536, pf_S384x1536, wf_S512x384, pf_S512x384, wf_S512x768, pf_S512x768]
  iapply Hk
  isplitl [H37]
  · iexists _; isplitr; · ipureintro; exact harg37.read_unread _
    iexact H37
  isplitl [H6]
  · iexists _; isplitr; · ipureintro; exact harg6.read_unread _
    iexact H6
  isplitl [H7]
  · iexists _; isplitr; · ipureintro; exact harg7.read_unread _
    iexact H7
  isplitl [H40]
  · iexists _; isplitr; · ipureintro; exact rfl
    iexists _; isplitr; swap; · iexact H40
    ipureintro
    try delta k0_part4_run.sl.v61
    try delta k0_part4_run.sl.H39_1
    try delta k0_part4_run.sl.H39_2
    try delta k0_part4_run.sl.v61
    try delta k0_part4_run.sl.H39_1
    try delta k0_part4_run.sl.H39_2
    try simp (proj := false) only [readCov_eq_readAt, readAt_win, View.read_writes_cons_put _ _ _ _ _ rfl, View.writes_nil, Memref.IsWhole.read_unread, wf_S1x768, pf_S1x768, wf_S384x1536, pf_S384x1536, wf_S512x384, pf_S512x384, wf_S512x768, pf_S512x768]
  iexists _; isplitr; · ipureintro; exact rfl
  iexists _; isplitr; swap; · iexact H39
  ipureintro
  try delta k0_part4_run.sl.v61
  try delta k0_part4_run.sl.H39_1
  try delta k0_part4_run.sl.H39_2
  try delta k0_part4_run.sl.v61
  try delta k0_part4_run.sl.H39_1
  try delta k0_part4_run.sl.H39_2
  try simp (proj := false) only [readCov_eq_readAt, readAt_win, View.read_writes_cons_put _ _ _ _ _ rfl, View.writes_nil, Memref.IsWhole.read_unread, wf_S1x768, pf_S1x768, wf_S384x1536, pf_S384x1536, wf_S512x384, pf_S512x384, wf_S512x768, pf_S512x768]

/-- What `k0_part5` leaves in the buffers it writes, and what it returns, from what it reads. -/
theorem k0_part5_run  (X37 : Vec Ideal S512x384 .bf16) (X6 : Vec Ideal S384x1536 .bf16) (X39 : Vec Ideal S512x768 .f32) (X7 : Vec Ideal S1x768 .f32) (X40 : Vec Ideal S512x768 .f32)
    (K : (FVec Ideal S512x256 .f32) → sProp 𝕄) :
    iprop(ow c arg37 X37
        ∗ ow c arg6 X6
        ∗ ow c arg39 X39
        ∗ ow c arg7 X7
        ∗ ow c arg40 X40
        ∗ (iprop(ow c arg37 X37
            ∗ ow c arg6 X6
            ∗ ow c arg39 X39
            ∗ ow c arg7 X7
            ∗ (∃ Y, ⌜Y = VecWindow.put (s := S512x768) (X40) ![0, 256] S512x256.size (k0_pay15 X37 (VecWindow.window (s := S384x1536) (X6) ![0, 256] S384x256.size inb_S384x1536_S384x256_0_256) X37 (VecWindow.window (s := S384x1536) (X6) ![0, 1024] S384x256.size inb_S384x1536_S384x256_0_1024) (VecWindow.window (s := S512x768) (X39) ![0, 256] S512x256.size inb_S512x768_S512x256_0_256) (VecWindow.window (s := S1x768) (X7) ![0, 256] S1x256.size inb_S1x768_S1x256_0_256))⌝ ∗ ow c arg40 Y)) -∗ K (k0_pay16 X37 (VecWindow.window (s := S384x1536) (X6) ![0, 512] S384x256.size inb_S384x1536_S384x256_0_512) X37 (VecWindow.window (s := S384x1536) (X6) ![0, 1280] S384x256.size inb_S384x1536_S384x256_0_1280) (VecWindow.window (s := S512x768) (X39) ![0, 512] S512x256.size inb_S512x768_S512x256_0_512) (VecWindow.window (s := S1x768) (X7) ![0, 512] S1x256.size inb_S1x768_S1x256_0_512))))
      ⊢ wp frame (wpE (defs₀ (F := Ideal)) Variants.none c none) E (k0_part5 (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 ) K := by
  simp only [k0_part5_eq_skeleton]; unfold k0_part5_skel
  unfold ow owns
  iintro ⟨⟨%f37, %hf37, H37⟩, ⟨%f6, %hf6, H6⟩, ⟨%f39, %hf39, H39⟩, ⟨%f7, %hf7, H7⟩, ⟨%f40, %hf40, H40⟩, Hk⟩
  obtain rfl := harg37.eq_unread hf37; obtain rfl := harg6.eq_unread hf6; obtain rfl := harg39.eq_unread hf39; obtain rfl := harg7.eq_unread hf7; obtain rfl := harg40.eq_unread hf40
  sl_exec
  sl_step
  simp (proj := false) only [readCov_eq_readAt, readAt_win, View.read_writes_cons_put _ _ _ _ _ rfl, View.writes_nil, Memref.IsWhole.read_unread, wf_S1x768, pf_S1x768, wf_S384x1536, pf_S384x1536, wf_S512x384, pf_S512x384, wf_S512x768, pf_S512x768]
  iapply Hk
  isplitl [H37]
  · iexists _; isplitr; · ipureintro; exact harg37.read_unread _
    iexact H37
  isplitl [H6]
  · iexists _; isplitr; · ipureintro; exact harg6.read_unread _
    iexact H6
  isplitl [H39]
  · iexists _; isplitr; · ipureintro; exact harg39.read_unread _
    iexact H39
  isplitl [H7]
  · iexists _; isplitr; · ipureintro; exact harg7.read_unread _
    iexact H7
  iexists _; isplitr; · ipureintro; exact rfl
  iexists _; isplitr; swap; · iexact H40
  ipureintro
  try simp (proj := false) only [readCov_eq_readAt, readAt_win, View.read_writes_cons_put _ _ _ _ _ rfl, View.writes_nil, Memref.IsWhole.read_unread, wf_S1x768, pf_S1x768, wf_S384x1536, pf_S384x1536, wf_S512x384, pf_S512x384, wf_S512x768, pf_S512x768]

/-- What `k0_part6` leaves in the buffers it writes, and what it returns, from what it reads. -/
theorem k0_part6_run (arg0 : BitVec 32) (v99 : FVec Ideal S512x256 .f32) (X40 : Vec Ideal S512x768 .f32) (X24 : Vec Ideal S25x512 .f32) (X12 : Vec Ideal S3072x768 .fp8e4m3)
    (K : (FVec Ideal S1x512 .f32) → sProp 𝕄) :
    iprop(ow c arg40 X40
        ∗ ow c arg24 X24
        ∗ ow c arg12 X12
        ∗ (∃ d, ow c arg23 d)
        ∗ (∃ d, ow c arg41 d)
        ∗ (iprop((∃ Y, ⌜Y = VecWindow.put (s := S512x768) (X40) ![0, 512] S512x256.size (k0_pay17 v99)⌝ ∗ ow c arg40 Y)
            ∗ (∃ Y, ⌜Y = VecWindow.put (s := S25x512) (X24) (k0_off1 i) S1x512.size (k0_pay20 (VecWindow.put (s := S512x768) (X40) ![0, 512] S512x256.size (k0_pay17 v99)))⌝ ∗ ow c arg24 Y)
            ∗ ow c arg12 X12
            ∗ (∃ Y, ⌜Y = k0_pay19 (VecWindow.put (s := S512x768) (X40) ![0, 512] S512x256.size (k0_pay17 v99))⌝ ∗ ow c arg23 Y)
            ∗ (∃ Y, ⌜Y = k0_pay21 (VecWindow.window (s := S3072x768) (X12) ![0, 0] S768x768.size inb_S3072x768_S768x768_0_0) (k0_pay19 (VecWindow.put (s := S512x768) (X40) ![0, 512] S512x256.size (k0_pay17 v99)))⌝ ∗ ow c arg41 Y)) -∗ K (k0_pay20 (VecWindow.put (s := S512x768) (X40) ![0, 512] S512x256.size (k0_pay17 v99)))))
      ⊢ wp frame (wpE (defs₀ (F := Ideal)) Variants.none c none) E (k0_part6 (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg0 v99) K := by
  simp only [k0_part6_eq_skeleton]; unfold k0_part6_skel
  unfold ow owns
  iintro ⟨⟨%f40, %hf40, H40⟩, ⟨%f24, %hf24, H24⟩, ⟨%f12, %hf12, H12⟩, ⟨%d23, %f23, %hf23, H23⟩, ⟨%d41, %f41, %hf41, H41⟩, Hk⟩
  obtain rfl := harg40.eq_unread hf40; obtain rfl := harg24.eq_unread hf24; obtain rfl := harg12.eq_unread hf12
  sl_exec
  sl_step
  try delta k0_part6_run.sl.v103
  try delta k0_part6_run.sl.v130
  try delta k0_part6_run.sl.H23_1
  try delta k0_part6_run.sl.H23_2
  try delta k0_part6_run.sl.H40_1
  try delta k0_part6_run.sl.H40_2
  try delta k0_part6_run.sl.v103
  try delta k0_part6_run.sl.v130
  try delta k0_part6_run.sl.H23_1
  try delta k0_part6_run.sl.H23_2
  try delta k0_part6_run.sl.H40_1
  try delta k0_part6_run.sl.H40_2
  simp (proj := false) only [readCov_eq_readAt, readAt_win, View.read_writes_cons_put _ _ _ _ _ rfl, View.writes_nil, Memref.IsWhole.read_unread, wf_S1x512x768, pf_S1x512x768, wf_S25x512, pf_S25x512, wf_S3072x768, pf_S3072x768, wf_S512x768, pf_S512x768, wf_S768x512, pf_S768x512]
  iapply Hk
  isplitl [H40]
  · iexists _; isplitr; · ipureintro; exact rfl
    iexists _; isplitr; swap; · iexact H40
    ipureintro
    try delta k0_part6_run.sl.v103
    try delta k0_part6_run.sl.v130
    try delta k0_part6_run.sl.H23_1
    try delta k0_part6_run.sl.H23_2
    try delta k0_part6_run.sl.H40_1
    try delta k0_part6_run.sl.H40_2
    try delta k0_part6_run.sl.v103
    try delta k0_part6_run.sl.v130
    try delta k0_part6_run.sl.H23_1
    try delta k0_part6_run.sl.H23_2
    try delta k0_part6_run.sl.H40_1
    try delta k0_part6_run.sl.H40_2
    try simp (proj := false) only [readCov_eq_readAt, readAt_win, View.read_writes_cons_put _ _ _ _ _ rfl, View.writes_nil, Memref.IsWhole.read_unread, wf_S1x512x768, pf_S1x512x768, wf_S25x512, pf_S25x512, wf_S3072x768, pf_S3072x768, wf_S512x768, pf_S512x768, wf_S768x512, pf_S768x512]
  isplitl [H24]
  · iexists _; isplitr; · ipureintro; exact rfl
    iexists _; isplitr; swap; · iexact H24
    ipureintro
    try delta k0_part6_run.sl.v103
    try delta k0_part6_run.sl.v130
    try delta k0_part6_run.sl.H23_1
    try delta k0_part6_run.sl.H23_2
    try delta k0_part6_run.sl.H40_1
    try delta k0_part6_run.sl.H40_2
    try delta k0_part6_run.sl.v103
    try delta k0_part6_run.sl.v130
    try delta k0_part6_run.sl.H23_1
    try delta k0_part6_run.sl.H23_2
    try delta k0_part6_run.sl.H40_1
    try delta k0_part6_run.sl.H40_2
    try simp (proj := false) only [readCov_eq_readAt, readAt_win, View.read_writes_cons_put _ _ _ _ _ rfl, View.writes_nil, Memref.IsWhole.read_unread, wf_S1x512x768, pf_S1x512x768, wf_S25x512, pf_S25x512, wf_S3072x768, pf_S3072x768, wf_S512x768, pf_S512x768, wf_S768x512, pf_S768x512]
  isplitl [H12]
  · iexists _; isplitr; · ipureintro; exact harg12.read_unread _
    iexact H12
  isplitl [H23]
  · iexists _; isplitr; · ipureintro; exact rfl
    iexists _; isplitr; swap; · iexact H23
    ipureintro
    try delta k0_part6_run.sl.v103
    try delta k0_part6_run.sl.v130
    try delta k0_part6_run.sl.H23_1
    try delta k0_part6_run.sl.H23_2
    try delta k0_part6_run.sl.H40_1
    try delta k0_part6_run.sl.H40_2
    try delta k0_part6_run.sl.v103
    try delta k0_part6_run.sl.v130
    try delta k0_part6_run.sl.H23_1
    try delta k0_part6_run.sl.H23_2
    try delta k0_part6_run.sl.H40_1
    try delta k0_part6_run.sl.H40_2
    try simp (proj := false) only [readCov_eq_readAt, readAt_win, View.read_writes_cons_put _ _ _ _ _ rfl, View.writes_nil, Memref.IsWhole.read_unread, wf_S1x512x768, pf_S1x512x768, wf_S25x512, pf_S25x512, wf_S3072x768, pf_S3072x768, wf_S512x768, pf_S512x768, wf_S768x512, pf_S768x512]
  iexists _; isplitr; · ipureintro; exact rfl
  iexists _; isplitr; swap; · iexact H41
  ipureintro
  try delta k0_part6_run.sl.v103
  try delta k0_part6_run.sl.v130
  try delta k0_part6_run.sl.H23_1
  try delta k0_part6_run.sl.H23_2
  try delta k0_part6_run.sl.H40_1
  try delta k0_part6_run.sl.H40_2
  try delta k0_part6_run.sl.v103
  try delta k0_part6_run.sl.v130
  try delta k0_part6_run.sl.H23_1
  try delta k0_part6_run.sl.H23_2
  try delta k0_part6_run.sl.H40_1
  try delta k0_part6_run.sl.H40_2
  try simp (proj := false) only [readCov_eq_readAt, readAt_win, View.read_writes_cons_put _ _ _ _ _ rfl, View.writes_nil, Memref.IsWhole.read_unread, wf_S1x512x768, pf_S1x512x768, wf_S25x512, pf_S25x512, wf_S3072x768, pf_S3072x768, wf_S512x768, pf_S512x768, wf_S768x512, pf_S768x512]

/-- What `k0_part9` leaves in the buffers it writes, and what it returns, from what it reads. -/
theorem k0_part9_run (v186 : FVec Ideal S512x768 .fp8e4m3) (v187 : FVec Ideal S1x512 .f32) (X15 : Vec Ideal S768x768 .fp8e4m3) (X16 : Vec Ideal S1x768 .f32) (X2 : Vec Ideal S1x512x384 .bf16) (X10 : Vec Ideal S384x1536 .bf16) (X11 : Vec Ideal S2x768 .f32) (X1 : Vec Ideal S1x512x768 .bf16) (X22 : Vec Ideal S1x512x768 .f32)
    (K : (Σ' (v190 : FVec Ideal S512x1 .f32), FVec Ideal S512x256 .f32) → sProp 𝕄) :
    iprop(ow c arg15 X15
        ∗ ow c arg16 X16
        ∗ ow c arg2 X2
        ∗ ow c arg10 X10
        ∗ ow c arg11 X11
        ∗ ow c arg1 X1
        ∗ ow c arg22 X22
        ∗ (iprop(ow c arg15 X15
            ∗ ow c arg16 X16
            ∗ ow c arg2 X2
            ∗ ow c arg10 X10
            ∗ ow c arg11 X11
            ∗ ow c arg1 X1
            ∗ (∃ Y, ⌜Y = VecWindow.put (s := S1x512x768) (X22) ![0, 0, 0] S1x512x256.size (k0_pay44 v186 v187 (VecWindow.window (s := S768x768) (X15) ![0, 0] S768x256.size inb_S768x768_S768x256_0_0) (VecWindow.window (s := S1x768) (X16) ![0, 0] S1x256.size inb_S1x768_S1x256_0_0) X2 (VecWindow.window (s := S384x1536) (X10) ![0, 0] S384x256.size inb_S384x1536_S384x256_0_0) (VecWindow.window (s := S2x768) (X11) ![0, 0] S1x256.size inb_S2x768_S1x256_0_0) (VecWindow.window (s := S1x512x768) (X1) ![0, 0, 0] S1x512x256.size inb_S1x512x768_S1x512x256_0_0_0))⌝ ∗ ow c arg22 Y)) -∗ K ⟨k0_pay43 v187, k0_pay45 v186 v187 (VecWindow.window (s := S768x768) (X15) ![0, 256] S768x256.size inb_S768x768_S768x256_0_256) (VecWindow.window (s := S1x768) (X16) ![0, 256] S1x256.size inb_S1x768_S1x256_0_256)⟩))
      ⊢ wp frame (wpE (defs₀ (F := Ideal)) Variants.none c none) E (k0_part9 (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 v186 v187) K := by
  simp only [k0_part9_eq_skeleton]; unfold k0_part9_skel
  unfold ow owns
  iintro ⟨⟨%f15, %hf15, H15⟩, ⟨%f16, %hf16, H16⟩, ⟨%f2, %hf2, H2⟩, ⟨%f10, %hf10, H10⟩, ⟨%f11, %hf11, H11⟩, ⟨%f1, %hf1, H1⟩, ⟨%f22, %hf22, H22⟩, Hk⟩
  obtain rfl := harg15.eq_unread hf15; obtain rfl := harg16.eq_unread hf16; obtain rfl := harg2.eq_unread hf2; obtain rfl := harg10.eq_unread hf10; obtain rfl := harg11.eq_unread hf11; obtain rfl := harg1.eq_unread hf1; obtain rfl := harg22.eq_unread hf22
  sl_exec
  sl_step
  simp (proj := false) only [readCov_eq_readAt, readAt_win, View.read_writes_cons_put _ _ _ _ _ rfl, View.writes_nil, Memref.IsWhole.read_unread, wf_S1x512x384, pf_S1x512x384, wf_S1x512x768, pf_S1x512x768, wf_S1x768, pf_S1x768, wf_S2x768, pf_S2x768, wf_S384x1536, pf_S384x1536, wf_S768x768, pf_S768x768]
  iapply Hk
  isplitl [H15]
  · iexists _; isplitr; · ipureintro; exact harg15.read_unread _
    iexact H15
  isplitl [H16]
  · iexists _; isplitr; · ipureintro; exact harg16.read_unread _
    iexact H16
  isplitl [H2]
  · iexists _; isplitr; · ipureintro; exact harg2.read_unread _
    iexact H2
  isplitl [H10]
  · iexists _; isplitr; · ipureintro; exact harg10.read_unread _
    iexact H10
  isplitl [H11]
  · iexists _; isplitr; · ipureintro; exact harg11.read_unread _
    iexact H11
  isplitl [H1]
  · iexists _; isplitr; · ipureintro; exact harg1.read_unread _
    iexact H1
  iexists _; isplitr; · ipureintro; exact rfl
  iexists _; isplitr; swap; · iexact H22
  ipureintro
  try simp (proj := false) only [readCov_eq_readAt, readAt_win, View.read_writes_cons_put _ _ _ _ _ rfl, View.writes_nil, Memref.IsWhole.read_unread, wf_S1x512x384, pf_S1x512x384, wf_S1x512x768, pf_S1x512x768, wf_S1x768, pf_S1x768, wf_S2x768, pf_S2x768, wf_S384x1536, pf_S384x1536, wf_S768x768, pf_S768x768]

/-- What `k0_part10` leaves in the buffers it writes, and what it returns, from what it reads. -/
theorem k0_part10_run (v186 : FVec Ideal S512x768 .fp8e4m3) (v190 : FVec Ideal S512x1 .f32) (v220 : FVec Ideal S512x256 .f32) (X2 : Vec Ideal S1x512x384 .bf16) (X10 : Vec Ideal S384x1536 .bf16) (X11 : Vec Ideal S2x768 .f32) (X1 : Vec Ideal S1x512x768 .bf16) (X22 : Vec Ideal S1x512x768 .f32) (X15 : Vec Ideal S768x768 .fp8e4m3) (X16 : Vec Ideal S1x768 .f32)
    (K : (Σ' (v243 : FVec Ideal S512x256 .f32) (v250 : FVec Ideal S512x256 .f32), Vec Ideal S1x512x256 .bf16) → sProp 𝕄) :
    iprop(ow c arg2 X2
        ∗ ow c arg10 X10
        ∗ ow c arg11 X11
        ∗ ow c arg1 X1
        ∗ ow c arg22 X22
        ∗ ow c arg15 X15
        ∗ ow c arg16 X16
        ∗ (iprop(ow c arg2 X2
            ∗ ow c arg10 X10
            ∗ ow c arg11 X11
            ∗ ow c arg1 X1
            ∗ (∃ Y, ⌜Y = VecWindow.put (s := S1x512x768) (X22) ![0, 0, 256] S1x512x256.size (k0_pay46 v220 X2 (VecWindow.window (s := S384x1536) (X10) ![0, 256] S384x256.size inb_S384x1536_S384x256_0_256) (VecWindow.window (s := S2x768) (X11) ![0, 256] S1x256.size inb_S2x768_S1x256_0_256) (VecWindow.window (s := S1x512x768) (X1) ![0, 0, 256] S1x512x256.size inb_S1x512x768_S1x512x256_0_0_256))⌝ ∗ ow c arg22 Y)
            ∗ ow c arg15 X15
            ∗ ow c arg16 X16) -∗ K ⟨k0_pay47 v186 v190 (VecWindow.window (s := S768x768) (X15) ![0, 512] S768x256.size inb_S768x768_S768x256_0_512) (VecWindow.window (s := S1x768) (X16) ![0, 512] S1x256.size inb_S1x768_S1x256_0_512), k0_pay48 X2 (VecWindow.window (s := S384x1536) (X10) ![0, 512] S384x256.size inb_S384x1536_S384x256_0_512) (VecWindow.window (s := S2x768) (X11) ![0, 512] S1x256.size inb_S2x768_S1x256_0_512), (VecWindow.window (s := S1x512x768) (X1) ![0, 0, 512] S1x512x256.size inb_S1x512x768_S1x512x256_0_0_512)⟩))
      ⊢ wp frame (wpE (defs₀ (F := Ideal)) Variants.none c none) E (k0_part10 (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 v186 v190 v220) K := by
  simp only [k0_part10_eq_skeleton]; unfold k0_part10_skel
  unfold ow owns
  iintro ⟨⟨%f2, %hf2, H2⟩, ⟨%f10, %hf10, H10⟩, ⟨%f11, %hf11, H11⟩, ⟨%f1, %hf1, H1⟩, ⟨%f22, %hf22, H22⟩, ⟨%f15, %hf15, H15⟩, ⟨%f16, %hf16, H16⟩, Hk⟩
  obtain rfl := harg2.eq_unread hf2; obtain rfl := harg10.eq_unread hf10; obtain rfl := harg11.eq_unread hf11; obtain rfl := harg1.eq_unread hf1; obtain rfl := harg22.eq_unread hf22; obtain rfl := harg15.eq_unread hf15; obtain rfl := harg16.eq_unread hf16
  sl_exec
  sl_step
  simp (proj := false) only [readCov_eq_readAt, readAt_win, View.read_writes_cons_put _ _ _ _ _ rfl, View.writes_nil, Memref.IsWhole.read_unread, wf_S1x512x384, pf_S1x512x384, wf_S1x512x768, pf_S1x512x768, wf_S1x768, pf_S1x768, wf_S2x768, pf_S2x768, wf_S384x1536, pf_S384x1536, wf_S768x768, pf_S768x768]
  iapply Hk
  isplitl [H2]
  · iexists _; isplitr; · ipureintro; exact harg2.read_unread _
    iexact H2
  isplitl [H10]
  · iexists _; isplitr; · ipureintro; exact harg10.read_unread _
    iexact H10
  isplitl [H11]
  · iexists _; isplitr; · ipureintro; exact harg11.read_unread _
    iexact H11
  isplitl [H1]
  · iexists _; isplitr; · ipureintro; exact harg1.read_unread _
    iexact H1
  isplitl [H22]
  · iexists _; isplitr; · ipureintro; exact rfl
    iexists _; isplitr; swap; · iexact H22
    ipureintro
    try simp (proj := false) only [readCov_eq_readAt, readAt_win, View.read_writes_cons_put _ _ _ _ _ rfl, View.writes_nil, Memref.IsWhole.read_unread, wf_S1x512x384, pf_S1x512x384, wf_S1x512x768, pf_S1x512x768, wf_S1x768, pf_S1x768, wf_S2x768, pf_S2x768, wf_S384x1536, pf_S384x1536, wf_S768x768, pf_S768x768]
  isplitl [H15]
  · iexists _; isplitr; · ipureintro; exact harg15.read_unread _
    iexact H15
  iexists _; isplitr; · ipureintro; exact harg16.read_unread _
  iexact H16

/-- What `k0_part11` leaves in the buffers it writes, and what it returns, from what it reads. -/
theorem k0_part11_run (v243 : FVec Ideal S512x256 .f32) (v250 : FVec Ideal S512x256 .f32) (v251 : Vec Ideal S1x512x256 .bf16) (X22 : Vec Ideal S1x512x768 .f32) (X38 : Vec Ideal S512x384 .bf16) (X8 : Vec Ideal S384x1536 .bf16)
    (K : (Σ' (v283 : FVec Ideal S512x256 .f32), FVec Ideal S512x256 .f32) → sProp 𝕄) :
    iprop(ow c arg22 X22
        ∗ ow c arg38 X38
        ∗ ow c arg8 X8
        ∗ (∃ d, ow c arg39 d)
        ∗ (iprop((∃ Y, ⌜Y = VecWindow.put (s := S1x512x768) (X22) ![0, 0, 512] S1x512x256.size (k0_pay49 v243 v250 v251)⌝ ∗ ow c arg22 Y)
            ∗ ow c arg38 X38
            ∗ ow c arg8 X8
            ∗ (∃ Y, ⌜Y = k0_pay50 (VecWindow.put (s := S1x512x768) (X22) ![0, 0, 512] S1x512x256.size (k0_pay49 v243 v250 v251))⌝ ∗ ow c arg39 Y)) -∗ K ⟨k0_pay51 X38 (VecWindow.window (s := S384x1536) (X8) ![0, 0] S384x256.size inb_S384x1536_S384x256_0_0), k0_pay52 X38 (VecWindow.window (s := S384x1536) (X8) ![0, 768] S384x256.size inb_S384x1536_S384x256_0_768)⟩))
      ⊢ wp frame (wpE (defs₀ (F := Ideal)) Variants.none c none) E (k0_part11 (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 v243 v250 v251) K := by
  simp only [k0_part11_eq_skeleton]; unfold k0_part11_skel
  unfold ow owns
  iintro ⟨⟨%f22, %hf22, H22⟩, ⟨%f38, %hf38, H38⟩, ⟨%f8, %hf8, H8⟩, ⟨%d39, %f39, %hf39, H39⟩, Hk⟩
  obtain rfl := harg22.eq_unread hf22; obtain rfl := harg38.eq_unread hf38; obtain rfl := harg8.eq_unread hf8
  sl_exec
  sl_step
  try delta k0_part11_run.sl.v260
  try delta k0_part11_run.sl.H22_1
  try delta k0_part11_run.sl.H22_2
  try delta k0_part11_run.sl.v260
  try delta k0_part11_run.sl.H22_1
  try delta k0_part11_run.sl.H22_2
  simp (proj := false) only [readCov_eq_readAt, readAt_win, View.read_writes_cons_put _ _ _ _ _ rfl, View.writes_nil, Memref.IsWhole.read_unread, wf_S1x512x768, pf_S1x512x768, wf_S384x1536, pf_S384x1536, wf_S512x384, pf_S512x384, wf_S512x768, pf_S512x768]
  iapply Hk
  isplitl [H22]
  · iexists _; isplitr; · ipureintro; exact rfl
    iexists _; isplitr; swap; · iexact H22
    ipureintro
    try delta k0_part11_run.sl.v260
    try delta k0_part11_run.sl.H22_1
    try delta k0_part11_run.sl.H22_2
    try delta k0_part11_run.sl.v260
    try delta k0_part11_run.sl.H22_1
    try delta k0_part11_run.sl.H22_2
    try simp (proj := false) only [readCov_eq_readAt, readAt_win, View.read_writes_cons_put _ _ _ _ _ rfl, View.writes_nil, Memref.IsWhole.read_unread, wf_S1x512x768, pf_S1x512x768, wf_S384x1536, pf_S384x1536, wf_S512x384, pf_S512x384, wf_S512x768, pf_S512x768]
  isplitl [H38]
  · iexists _; isplitr; · ipureintro; exact harg38.read_unread _
    iexact H38
  isplitl [H8]
  · iexists _; isplitr; · ipureintro; exact harg8.read_unread _
    iexact H8
  iexists _; isplitr; · ipureintro; exact rfl
  iexists _; isplitr; swap; · iexact H39
  ipureintro
  try delta k0_part11_run.sl.v260
  try delta k0_part11_run.sl.H22_1
  try delta k0_part11_run.sl.H22_2
  try delta k0_part11_run.sl.v260
  try delta k0_part11_run.sl.H22_1
  try delta k0_part11_run.sl.H22_2
  try simp (proj := false) only [readCov_eq_readAt, readAt_win, View.read_writes_cons_put _ _ _ _ _ rfl, View.writes_nil, Memref.IsWhole.read_unread, wf_S1x512x768, pf_S1x512x768, wf_S384x1536, pf_S384x1536, wf_S512x384, pf_S512x384, wf_S512x768, pf_S512x768]

/-- What `k0_part12` leaves in the buffers it writes, and what it returns, from what it reads. -/
theorem k0_part12_run (v283 : FVec Ideal S512x256 .f32) (v286 : FVec Ideal S512x256 .f32) (X39 : Vec Ideal S512x768 .f32) (X9 : Vec Ideal S1x768 .f32) (X40 : Vec Ideal S512x768 .f32) (X38 : Vec Ideal S512x384 .bf16) (X8 : Vec Ideal S384x1536 .bf16)
    (K : (FVec Ideal S512x256 .f32) → sProp 𝕄) :
    iprop(ow c arg39 X39
        ∗ ow c arg9 X9
        ∗ ow c arg40 X40
        ∗ ow c arg38 X38
        ∗ ow c arg8 X8
        ∗ (iprop(ow c arg39 X39
            ∗ ow c arg9 X9
            ∗ (∃ Y, ⌜Y = VecWindow.put (s := S512x768) (VecWindow.put (s := S512x768) (X40) ![0, 0] S512x256.size (k0_pay53 v283 v286 (VecWindow.window (s := S512x768) (X39) ![0, 0] S512x256.size inb_S512x768_S512x256_0_0) (VecWindow.window (s := S1x768) (X9) ![0, 0] S1x256.size inb_S1x768_S1x256_0_0))) ![0, 256] S512x256.size (k0_pay54 X38 (VecWindow.window (s := S384x1536) (X8) ![0, 256] S384x256.size inb_S384x1536_S384x256_0_256) X38 (VecWindow.window (s := S384x1536) (X8) ![0, 1024] S384x256.size inb_S384x1536_S384x256_0_1024) (VecWindow.window (s := S512x768) (X39) ![0, 256] S512x256.size inb_S512x768_S512x256_0_256) (VecWindow.window (s := S1x768) (X9) ![0, 256] S1x256.size inb_S1x768_S1x256_0_256))⌝ ∗ ow c arg40 Y)
            ∗ ow c arg38 X38
            ∗ ow c arg8 X8) -∗ K (k0_pay55 X38 (VecWindow.window (s := S384x1536) (X8) ![0, 512] S384x256.size inb_S384x1536_S384x256_0_512))))
      ⊢ wp frame (wpE (defs₀ (F := Ideal)) Variants.none c none) E (k0_part12 (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 v283 v286) K := by
  simp only [k0_part12_eq_skeleton]; unfold k0_part12_skel
  unfold ow owns
  iintro ⟨⟨%f39, %hf39, H39⟩, ⟨%f9, %hf9, H9⟩, ⟨%f40, %hf40, H40⟩, ⟨%f38, %hf38, H38⟩, ⟨%f8, %hf8, H8⟩, Hk⟩
  obtain rfl := harg39.eq_unread hf39; obtain rfl := harg9.eq_unread hf9; obtain rfl := harg40.eq_unread hf40; obtain rfl := harg38.eq_unread hf38; obtain rfl := harg8.eq_unread hf8
  sl_exec
  sl_step
  simp (proj := false) only [readCov_eq_readAt, readAt_win, View.read_writes_cons_put _ _ _ _ _ rfl, View.writes_nil, Memref.IsWhole.read_unread, wf_S1x768, pf_S1x768, wf_S384x1536, pf_S384x1536, wf_S512x384, pf_S512x384, wf_S512x768, pf_S512x768]
  iapply Hk
  isplitl [H39]
  · iexists _; isplitr; · ipureintro; exact harg39.read_unread _
    iexact H39
  isplitl [H9]
  · iexists _; isplitr; · ipureintro; exact harg9.read_unread _
    iexact H9
  isplitl [H40]
  · iexists _; isplitr; · ipureintro; exact rfl
    iexists _; isplitr; swap; · iexact H40
    ipureintro
    try simp (proj := false) only [readCov_eq_readAt, readAt_win, View.read_writes_cons_put _ _ _ _ _ rfl, View.writes_nil, Memref.IsWhole.read_unread, wf_S1x768, pf_S1x768, wf_S384x1536, pf_S384x1536, wf_S512x384, pf_S512x384, wf_S512x768, pf_S512x768]
  isplitl [H38]
  · iexists _; isplitr; · ipureintro; exact harg38.read_unread _
    iexact H38
  iexists _; isplitr; · ipureintro; exact harg8.read_unread _
  iexact H8

end Cert.KernelIdeal.Hand

end
-- ==== Proof.RunCD.lean ====
module

public import proofs.«01_k».proof.Proof.Base

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

local notation "𝕄" => MT nD τ sig Unit (Elt Ideal) ℕ (UR sig nD τ) ℕ

variable {c : Dev nD} {i : grid0.Coords}
variable {arg1 : Memref sig .tc .vmem S1x512x768 .bf16} {harg1 : arg1.IsWhole}
variable {arg2 : Memref sig .tc .vmem S1x512x384 .bf16} {harg2 : arg2.IsWhole}
variable {arg3 : Memref sig .tc .vmem S16x416x512 .f32} {harg3 : arg3.IsWhole}
variable {arg4 : Memref sig .tc .vmem S1x384 .f32} {harg4 : arg4.IsWhole}
variable {arg5 : Memref sig .tc .vmem S1x384 .f32} {harg5 : arg5.IsWhole}
variable {arg6 : Memref sig .tc .vmem S384x1536 .bf16} {harg6 : arg6.IsWhole}
variable {arg7 : Memref sig .tc .vmem S1x768 .f32} {harg7 : arg7.IsWhole}
variable {arg8 : Memref sig .tc .vmem S384x1536 .bf16} {harg8 : arg8.IsWhole}
variable {arg9 : Memref sig .tc .vmem S1x768 .f32} {harg9 : arg9.IsWhole}
variable {arg10 : Memref sig .tc .vmem S384x1536 .bf16} {harg10 : arg10.IsWhole}
variable {arg11 : Memref sig .tc .vmem S2x768 .f32} {harg11 : arg11.IsWhole}
variable {arg12 : Memref sig .tc .vmem S3072x768 .fp8e4m3} {harg12 : arg12.IsWhole}
variable {arg13 : Memref sig .tc .vmem S3072x128 .f32} {harg13 : arg13.IsWhole}
variable {arg14 : Memref sig .tc .vmem S768x128 .f32} {harg14 : arg14.IsWhole}
variable {arg15 : Memref sig .tc .vmem S768x768 .fp8e4m3} {harg15 : arg15.IsWhole}
variable {arg16 : Memref sig .tc .vmem S1x768 .f32} {harg16 : arg16.IsWhole}
variable {arg17 : Memref sig .tc .vmem S2x768x1536 .fp8e4m3} {harg17 : arg17.IsWhole}
variable {arg18 : Memref sig .tc .vmem S2x1536 .f32} {harg18 : arg18.IsWhole}
variable {arg19 : Memref sig .tc .vmem S1536x768 .fp8e4m3} {harg19 : arg19.IsWhole}
variable {arg20 : Memref sig .tc .vmem S1x768 .f32} {harg20 : arg20.IsWhole}
variable {arg21 : Memref sig .tc .vmem S1x512x768 .bf16} {harg21 : arg21.IsWhole}
variable {arg22 : Memref sig .tc .vmem S1x512x768 .f32} {harg22 : arg22.IsWhole}
variable {arg23 : Memref sig .tc .vmem S1x512x768 .fp8e4m3} {harg23 : arg23.IsWhole}
variable {arg24 : Memref sig .tc .vmem S25x512 .f32} {harg24 : arg24.IsWhole}
variable {arg25 : Memref sig .tc .vmem S1x16x48x512 .fp8e4m3} {harg25 : arg25.IsWhole}
variable {arg26 : Memref sig .tc .vmem S1x16x512 .f32} {harg26 : arg26.IsWhole}
variable {arg27 : Memref sig .tc .vmem S1x16x48x512 .fp8e4m3} {harg27 : arg27.IsWhole}
variable {arg28 : Memref sig .tc .vmem S1x16x512 .f32} {harg28 : arg28.IsWhole}
variable {arg29 : Memref sig .tc .vmem S1x16x48x512 .fp8e4m3} {harg29 : arg29.IsWhole}
variable {arg30 : Memref sig .tc .vmem S1x16x512 .f32} {harg30 : arg30.IsWhole}
variable {arg31 : Memref sig .tc .vmem S1x16x48x512 .fp8e4m3} {harg31 : arg31.IsWhole}
variable {arg32 : Memref sig .tc .vmem S25x512 .f32} {harg32 : arg32.IsWhole}
variable {arg33 : Memref sig .tc .vmem S1x512x768 .fp8e4m3} {harg33 : arg33.IsWhole}
variable {arg34 : Memref sig .tc .vmem S25x512 .f32} {harg34 : arg34.IsWhole}
variable {arg35 : Memref sig .tc .vmem S1x512x1536 .fp8e4m3} {harg35 : arg35.IsWhole}
variable {arg36 : Memref sig .tc .vmem S25x512 .f32} {harg36 : arg36.IsWhole}
variable {arg37 : Memref sig .tc .vmem S512x384 .bf16} {harg37 : arg37.IsWhole}
variable {arg38 : Memref sig .tc .vmem S512x384 .bf16} {harg38 : arg38.IsWhole}
variable {arg39 : Memref sig .tc .vmem S512x768 .f32} {harg39 : arg39.IsWhole}
variable {arg40 : Memref sig .tc .vmem S512x768 .f32} {harg40 : arg40.IsWhole}
variable {arg41 : Memref sig .tc .vmem S768x512 .f32} {harg41 : arg41.IsWhole}
variable {arg42 : Memref sig .tc .vmem S16x48x512 .f32} {harg42 : arg42.IsWhole}
variable {arg43 : Memref sig .tc .vmem S16x48x512 .f32} {harg43 : arg43.IsWhole}
variable {arg44 : Memref sig .tc .vmem S512x1536 .f32} {harg44 : arg44.IsWhole}
variable {E : Set ℕ}

/-- What `k0_part13` leaves in the buffers it writes, and what it returns, from what it reads. -/
theorem k0_part13_run (arg0 : BitVec 32) (v315 : FVec Ideal S512x256 .f32) (X38 : Vec Ideal S512x384 .bf16) (X8 : Vec Ideal S384x1536 .bf16) (X39 : Vec Ideal S512x768 .f32) (X9 : Vec Ideal S1x768 .f32) (X40 : Vec Ideal S512x768 .f32)
    (K : (Σ' (v338 : FVec Ideal S512x1 .f32), FVec Ideal S1x512 .f32) → sProp 𝕄) :
    iprop(ow c arg38 X38
        ∗ ow c arg8 X8
        ∗ ow c arg39 X39
        ∗ ow c arg9 X9
        ∗ ow c arg40 X40
        ∗ (∃ d, ow c arg33 d)
        ∗ (iprop(ow c arg38 X38
            ∗ ow c arg8 X8
            ∗ ow c arg39 X39
            ∗ ow c arg9 X9
            ∗ (∃ Y, ⌜Y = VecWindow.put (s := S512x768) (X40) ![0, 512] S512x256.size (k0_pay56 v315 X38 (VecWindow.window (s := S384x1536) (X8) ![0, 1280] S384x256.size inb_S384x1536_S384x256_0_1280) (VecWindow.window (s := S512x768) (X39) ![0, 512] S512x256.size inb_S512x768_S512x256_0_512) (VecWindow.window (s := S1x768) (X9) ![0, 512] S1x256.size inb_S1x768_S1x256_0_512))⌝ ∗ ow c arg40 Y)
            ∗ (∃ Y, ⌜Y = k0_pay58 (VecWindow.put (s := S512x768) (X40) ![0, 512] S512x256.size (k0_pay56 v315 X38 (VecWindow.window (s := S384x1536) (X8) ![0, 1280] S384x256.size inb_S384x1536_S384x256_0_1280) (VecWindow.window (s := S512x768) (X39) ![0, 512] S512x256.size inb_S512x768_S512x256_0_512) (VecWindow.window (s := S1x768) (X9) ![0, 512] S1x256.size inb_S1x768_S1x256_0_512)))⌝ ∗ ow c arg33 Y)) -∗ K ⟨k0_pay57 (VecWindow.put (s := S512x768) (X40) ![0, 512] S512x256.size (k0_pay56 v315 X38 (VecWindow.window (s := S384x1536) (X8) ![0, 1280] S384x256.size inb_S384x1536_S384x256_0_1280) (VecWindow.window (s := S512x768) (X39) ![0, 512] S512x256.size inb_S512x768_S512x256_0_512) (VecWindow.window (s := S1x768) (X9) ![0, 512] S1x256.size inb_S1x768_S1x256_0_512))), k0_pay59 (VecWindow.put (s := S512x768) (X40) ![0, 512] S512x256.size (k0_pay56 v315 X38 (VecWindow.window (s := S384x1536) (X8) ![0, 1280] S384x256.size inb_S384x1536_S384x256_0_1280) (VecWindow.window (s := S512x768) (X39) ![0, 512] S512x256.size inb_S512x768_S512x256_0_512) (VecWindow.window (s := S1x768) (X9) ![0, 512] S1x256.size inb_S1x768_S1x256_0_512)))⟩))
      ⊢ wp frame (wpE (defs₀ (F := Ideal)) Variants.none c none) E (k0_part13 (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg0 v315) K := by
  simp only [k0_part13_eq_skeleton]; unfold k0_part13_skel
  unfold ow owns
  iintro ⟨⟨%f38, %hf38, H38⟩, ⟨%f8, %hf8, H8⟩, ⟨%f39, %hf39, H39⟩, ⟨%f9, %hf9, H9⟩, ⟨%f40, %hf40, H40⟩, ⟨%d33, %f33, %hf33, H33⟩, Hk⟩
  obtain rfl := harg38.eq_unread hf38; obtain rfl := harg8.eq_unread hf8; obtain rfl := harg39.eq_unread hf39; obtain rfl := harg9.eq_unread hf9; obtain rfl := harg40.eq_unread hf40
  sl_exec
  sl_step
  try delta k0_part13_run.sl.v329
  try delta k0_part13_run.sl.H40_1
  try delta k0_part13_run.sl.H40_2
  try delta k0_part13_run.sl.v329
  try delta k0_part13_run.sl.H40_1
  try delta k0_part13_run.sl.H40_2
  simp (proj := false) only [readCov_eq_readAt, readAt_win, View.read_writes_cons_put _ _ _ _ _ rfl, View.writes_nil, Memref.IsWhole.read_unread, wf_S1x512x768, pf_S1x512x768, wf_S1x768, pf_S1x768, wf_S384x1536, pf_S384x1536, wf_S512x384, pf_S512x384, wf_S512x768, pf_S512x768]
  iapply Hk
  isplitl [H38]
  · iexists _; isplitr; · ipureintro; exact harg38.read_unread _
    iexact H38
  isplitl [H8]
  · iexists _; isplitr; · ipureintro; exact harg8.read_unread _
    iexact H8
  isplitl [H39]
  · iexists _; isplitr; · ipureintro; exact harg39.read_unread _
    iexact H39
  isplitl [H9]
  · iexists _; isplitr; · ipureintro; exact harg9.read_unread _
    iexact H9
  isplitl [H40]
  · iexists _; isplitr; · ipureintro; exact rfl
    iexists _; isplitr; swap; · iexact H40
    ipureintro
    try delta k0_part13_run.sl.v329
    try delta k0_part13_run.sl.H40_1
    try delta k0_part13_run.sl.H40_2
    try delta k0_part13_run.sl.v329
    try delta k0_part13_run.sl.H40_1
    try delta k0_part13_run.sl.H40_2
    try simp (proj := false) only [readCov_eq_readAt, readAt_win, View.read_writes_cons_put _ _ _ _ _ rfl, View.writes_nil, Memref.IsWhole.read_unread, wf_S1x512x768, pf_S1x512x768, wf_S1x768, pf_S1x768, wf_S384x1536, pf_S384x1536, wf_S512x384, pf_S512x384, wf_S512x768, pf_S512x768]
  iexists _; isplitr; · ipureintro; exact rfl
  iexists _; isplitr; swap; · iexact H33
  ipureintro
  try delta k0_part13_run.sl.v329
  try delta k0_part13_run.sl.H40_1
  try delta k0_part13_run.sl.H40_2
  try delta k0_part13_run.sl.v329
  try delta k0_part13_run.sl.H40_1
  try delta k0_part13_run.sl.H40_2
  try simp (proj := false) only [readCov_eq_readAt, readAt_win, View.read_writes_cons_put _ _ _ _ _ rfl, View.writes_nil, Memref.IsWhole.read_unread, wf_S1x512x768, pf_S1x512x768, wf_S1x768, pf_S1x768, wf_S384x1536, pf_S384x1536, wf_S512x384, pf_S512x384, wf_S512x768, pf_S512x768]

/-- What `k0_part14` leaves in the buffers it writes, and what it returns, from what it reads. -/
theorem k0_part14_run (v338 : FVec Ideal S512x1 .f32) (v352 : FVec Ideal S1x512 .f32) (X34 : Vec Ideal S25x512 .f32) (X33 : Vec Ideal S1x512x768 .fp8e4m3) (X17 : Vec Ideal S2x768x1536 .fp8e4m3) (X18 : Vec Ideal S2x1536 .f32) (X44 : Vec Ideal S512x1536 .f32)
    (K : (Σ' (v382 : FVec Ideal S512x768 .fp8e4m3), FVec Ideal S768x256 .fp8e4m3) → sProp 𝕄) :
    iprop(ow c arg34 X34
        ∗ ow c arg33 X33
        ∗ ow c arg17 X17
        ∗ ow c arg18 X18
        ∗ ow c arg44 X44
        ∗ (iprop((∃ Y, ⌜Y = VecWindow.put (s := S25x512) (X34) (k0_off1 i) S1x512.size (v352)⌝ ∗ ow c arg34 Y)
            ∗ ow c arg33 X33
            ∗ ow c arg17 X17
            ∗ ow c arg18 X18
            ∗ (∃ Y, ⌜Y = VecWindow.put (s := S512x1536) (X44) ![0, 0] S512x256.size (k0_pay60 v338 X33 (VecWindow.window (s := S2x768x1536) (X17) ![0, 0, 0] S1x768x256.size inb_S2x768x1536_S1x768x256_0_0_0) (VecWindow.window (s := S2x1536) (X18) ![0, 0] S1x256.size inb_S2x1536_S1x256_0_0) X33 (VecWindow.window (s := S2x768x1536) (X17) ![1, 0, 0] S1x768x256.size inb_S2x768x1536_S1x768x256_1_0_0) (VecWindow.window (s := S2x1536) (X18) ![1, 0] S1x256.size inb_S2x1536_S1x256_1_0))⌝ ∗ ow c arg44 Y)) -∗ K ⟨k0_pay61 X33, k0_pay62 (VecWindow.window (s := S2x768x1536) (X17) ![0, 0, 256] S1x768x256.size inb_S2x768x1536_S1x768x256_0_0_256)⟩))
      ⊢ wp frame (wpE (defs₀ (F := Ideal)) Variants.none c none) E (k0_part14 (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 v338 v352) K := by
  simp only [k0_part14_eq_skeleton]; unfold k0_part14_skel
  unfold ow owns
  iintro ⟨⟨%f34, %hf34, H34⟩, ⟨%f33, %hf33, H33⟩, ⟨%f17, %hf17, H17⟩, ⟨%f18, %hf18, H18⟩, ⟨%f44, %hf44, H44⟩, Hk⟩
  obtain rfl := harg34.eq_unread hf34; obtain rfl := harg33.eq_unread hf33; obtain rfl := harg17.eq_unread hf17; obtain rfl := harg18.eq_unread hf18; obtain rfl := harg44.eq_unread hf44
  sl_exec
  sl_step
  simp (proj := false) only [readCov_eq_readAt, readAt_win, View.read_writes_cons_put _ _ _ _ _ rfl, View.writes_nil, Memref.IsWhole.read_unread, wf_S1x512x768, pf_S1x512x768, wf_S25x512, pf_S25x512, wf_S2x1536, pf_S2x1536, wf_S2x768x1536, pf_S2x768x1536, wf_S512x1536, pf_S512x1536]
  iapply Hk
  isplitl [H34]
  · iexists _; isplitr; · ipureintro; exact rfl
    iexists _; isplitr; swap; · iexact H34
    ipureintro
    try simp (proj := false) only [readCov_eq_readAt, readAt_win, View.read_writes_cons_put _ _ _ _ _ rfl, View.writes_nil, Memref.IsWhole.read_unread, wf_S1x512x768, pf_S1x512x768, wf_S25x512, pf_S25x512, wf_S2x1536, pf_S2x1536, wf_S2x768x1536, pf_S2x768x1536, wf_S512x1536, pf_S512x1536]
  isplitl [H33]
  · iexists _; isplitr; · ipureintro; exact harg33.read_unread _
    iexact H33
  isplitl [H17]
  · iexists _; isplitr; · ipureintro; exact harg17.read_unread _
    iexact H17
  isplitl [H18]
  · iexists _; isplitr; · ipureintro; exact harg18.read_unread _
    iexact H18
  iexists _; isplitr; · ipureintro; exact rfl
  iexists _; isplitr; swap; · iexact H44
  ipureintro
  try simp (proj := false) only [readCov_eq_readAt, readAt_win, View.read_writes_cons_put _ _ _ _ _ rfl, View.writes_nil, Memref.IsWhole.read_unread, wf_S1x512x768, pf_S1x512x768, wf_S25x512, pf_S25x512, wf_S2x1536, pf_S2x1536, wf_S2x768x1536, pf_S2x768x1536, wf_S512x1536, pf_S512x1536]

/-- What `k0_part15` leaves in the buffers it writes, and what it returns, from what it reads. -/
theorem k0_part15_run (v338 : FVec Ideal S512x1 .f32) (v382 : FVec Ideal S512x768 .fp8e4m3) (v384 : FVec Ideal S768x256 .fp8e4m3) (X18 : Vec Ideal S2x1536 .f32) (X33 : Vec Ideal S1x512x768 .fp8e4m3) (X17 : Vec Ideal S2x768x1536 .fp8e4m3) (X44 : Vec Ideal S512x1536 .f32)
    (K : (Σ' (v416 : FVec Ideal S512x256 .f32), Vec Ideal S1x512x768 .fp8e4m3) → sProp 𝕄) :
    iprop(ow c arg18 X18
        ∗ ow c arg33 X33
        ∗ ow c arg17 X17
        ∗ ow c arg44 X44
        ∗ (iprop(ow c arg18 X18
            ∗ ow c arg33 X33
            ∗ ow c arg17 X17
            ∗ (∃ Y, ⌜Y = VecWindow.put (s := S512x1536) (X44) ![0, 256] S512x256.size (k0_pay63 v338 v382 v384 (VecWindow.window (s := S2x1536) (X18) ![0, 256] S1x256.size inb_S2x1536_S1x256_0_256) X33 (VecWindow.window (s := S2x768x1536) (X17) ![1, 0, 256] S1x768x256.size inb_S2x768x1536_S1x768x256_1_0_256) (VecWindow.window (s := S2x1536) (X18) ![1, 256] S1x256.size inb_S2x1536_S1x256_1_256))⌝ ∗ ow c arg44 Y)) -∗ K ⟨k0_pay64 v338 X33 (VecWindow.window (s := S2x768x1536) (X17) ![0, 0, 512] S1x768x256.size inb_S2x768x1536_S1x768x256_0_0_512) (VecWindow.window (s := S2x1536) (X18) ![0, 512] S1x256.size inb_S2x1536_S1x256_0_512), X33⟩))
      ⊢ wp frame (wpE (defs₀ (F := Ideal)) Variants.none c none) E (k0_part15 (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 v338 v382 v384) K := by
  simp only [k0_part15_eq_skeleton]; unfold k0_part15_skel
  unfold ow owns
  iintro ⟨⟨%f18, %hf18, H18⟩, ⟨%f33, %hf33, H33⟩, ⟨%f17, %hf17, H17⟩, ⟨%f44, %hf44, H44⟩, Hk⟩
  obtain rfl := harg18.eq_unread hf18; obtain rfl := harg33.eq_unread hf33; obtain rfl := harg17.eq_unread hf17; obtain rfl := harg44.eq_unread hf44
  sl_exec
  sl_step
  simp (proj := false) only [readCov_eq_readAt, readAt_win, View.read_writes_cons_put _ _ _ _ _ rfl, View.writes_nil, Memref.IsWhole.read_unread, wf_S1x512x768, pf_S1x512x768, wf_S2x1536, pf_S2x1536, wf_S2x768x1536, pf_S2x768x1536, wf_S512x1536, pf_S512x1536]
  iapply Hk
  isplitl [H18]
  · iexists _; isplitr; · ipureintro; exact harg18.read_unread _
    iexact H18
  isplitl [H33]
  · iexists _; isplitr; · ipureintro; exact harg33.read_unread _
    iexact H33
  isplitl [H17]
  · iexists _; isplitr; · ipureintro; exact harg17.read_unread _
    iexact H17
  iexists _; isplitr; · ipureintro; exact rfl
  iexists _; isplitr; swap; · iexact H44
  ipureintro
  try simp (proj := false) only [readCov_eq_readAt, readAt_win, View.read_writes_cons_put _ _ _ _ _ rfl, View.writes_nil, Memref.IsWhole.read_unread, wf_S1x512x768, pf_S1x512x768, wf_S2x1536, pf_S2x1536, wf_S2x768x1536, pf_S2x768x1536, wf_S512x1536, pf_S512x1536]

/-- What `k0_part16` leaves in the buffers it writes, and what it returns, from what it reads. -/
theorem k0_part16_run (v338 : FVec Ideal S512x1 .f32) (v416 : FVec Ideal S512x256 .f32) (v417 : Vec Ideal S1x512x768 .fp8e4m3) (X17 : Vec Ideal S2x768x1536 .fp8e4m3) (X18 : Vec Ideal S2x1536 .f32) (X44 : Vec Ideal S512x1536 .f32) (X33 : Vec Ideal S1x512x768 .fp8e4m3)
    (K : (Σ' (v442 : FVec Ideal S512x256 .f32) (v449 : FVec Ideal S512x256 .f32), Vec Ideal S1x256 .f32) → sProp 𝕄) :
    iprop(ow c arg17 X17
        ∗ ow c arg18 X18
        ∗ ow c arg44 X44
        ∗ ow c arg33 X33
        ∗ (iprop(ow c arg17 X17
            ∗ ow c arg18 X18
            ∗ (∃ Y, ⌜Y = VecWindow.put (s := S512x1536) (X44) ![0, 512] S512x256.size (k0_pay65 v338 v416 v417 (VecWindow.window (s := S2x768x1536) (X17) ![1, 0, 512] S1x768x256.size inb_S2x768x1536_S1x768x256_1_0_512) (VecWindow.window (s := S2x1536) (X18) ![1, 512] S1x256.size inb_S2x1536_S1x256_1_512))⌝ ∗ ow c arg44 Y)
            ∗ ow c arg33 X33) -∗ K ⟨k0_pay66 v338 X33 (VecWindow.window (s := S2x768x1536) (X17) ![0, 0, 768] S1x768x256.size inb_S2x768x1536_S1x768x256_0_0_768) (VecWindow.window (s := S2x1536) (X18) ![0, 768] S1x256.size inb_S2x1536_S1x256_0_768), k0_pay67 v338 X33 (VecWindow.window (s := S2x768x1536) (X17) ![1, 0, 768] S1x768x256.size inb_S2x768x1536_S1x768x256_1_0_768), (VecWindow.window (s := S2x1536) (X18) ![1, 768] S1x256.size inb_S2x1536_S1x256_1_768)⟩))
      ⊢ wp frame (wpE (defs₀ (F := Ideal)) Variants.none c none) E (k0_part16 (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 v338 v416 v417) K := by
  simp only [k0_part16_eq_skeleton]; unfold k0_part16_skel
  unfold ow owns
  iintro ⟨⟨%f17, %hf17, H17⟩, ⟨%f18, %hf18, H18⟩, ⟨%f44, %hf44, H44⟩, ⟨%f33, %hf33, H33⟩, Hk⟩
  obtain rfl := harg17.eq_unread hf17; obtain rfl := harg18.eq_unread hf18; obtain rfl := harg44.eq_unread hf44; obtain rfl := harg33.eq_unread hf33
  sl_exec
  sl_step
  simp (proj := false) only [readCov_eq_readAt, readAt_win, View.read_writes_cons_put _ _ _ _ _ rfl, View.writes_nil, Memref.IsWhole.read_unread, wf_S1x512x768, pf_S1x512x768, wf_S2x1536, pf_S2x1536, wf_S2x768x1536, pf_S2x768x1536, wf_S512x1536, pf_S512x1536]
  iapply Hk
  isplitl [H17]
  · iexists _; isplitr; · ipureintro; exact harg17.read_unread _
    iexact H17
  isplitl [H18]
  · iexists _; isplitr; · ipureintro; exact harg18.read_unread _
    iexact H18
  isplitl [H44]
  · iexists _; isplitr; · ipureintro; exact rfl
    iexists _; isplitr; swap; · iexact H44
    ipureintro
    try simp (proj := false) only [readCov_eq_readAt, readAt_win, View.read_writes_cons_put _ _ _ _ _ rfl, View.writes_nil, Memref.IsWhole.read_unread, wf_S1x512x768, pf_S1x512x768, wf_S2x1536, pf_S2x1536, wf_S2x768x1536, pf_S2x768x1536, wf_S512x1536, pf_S512x1536]
  iexists _; isplitr; · ipureintro; exact harg33.read_unread _
  iexact H33

/-- What `k0_part17` leaves in the buffers it writes, and what it returns, from what it reads. -/
theorem k0_part17_run (v338 : FVec Ideal S512x1 .f32) (v442 : FVec Ideal S512x256 .f32) (v449 : FVec Ideal S512x256 .f32) (v450 : Vec Ideal S1x256 .f32) (X44 : Vec Ideal S512x1536 .f32) (X33 : Vec Ideal S1x512x768 .fp8e4m3) (X17 : Vec Ideal S2x768x1536 .fp8e4m3) (X18 : Vec Ideal S2x1536 .f32)
    (K : (PUnit) → sProp 𝕄) :
    iprop(ow c arg44 X44
        ∗ ow c arg33 X33
        ∗ ow c arg17 X17
        ∗ ow c arg18 X18
        ∗ (iprop((∃ Y, ⌜Y = VecWindow.put (s := S512x1536) (VecWindow.put (s := S512x1536) (X44) ![0, 768] S512x256.size (k0_pay68 v442 v449 v450)) ![0, 1024] S512x256.size (k0_pay69 v338 X33 (VecWindow.window (s := S2x768x1536) (X17) ![0, 0, 1024] S1x768x256.size inb_S2x768x1536_S1x768x256_0_0_1024) (VecWindow.window (s := S2x1536) (X18) ![0, 1024] S1x256.size inb_S2x1536_S1x256_0_1024) X33 (VecWindow.window (s := S2x768x1536) (X17) ![1, 0, 1024] S1x768x256.size inb_S2x768x1536_S1x768x256_1_0_1024) (VecWindow.window (s := S2x1536) (X18) ![1, 1024] S1x256.size inb_S2x1536_S1x256_1_1024))⌝ ∗ ow c arg44 Y)
            ∗ ow c arg33 X33
            ∗ ow c arg17 X17
            ∗ ow c arg18 X18) -∗ K ⟨⟩))
      ⊢ wp frame (wpE (defs₀ (F := Ideal)) Variants.none c none) E (k0_part17 (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 v338 v442 v449 v450) K := by
  simp only [k0_part17_eq_skeleton]; unfold k0_part17_skel
  unfold ow owns
  iintro ⟨⟨%f44, %hf44, H44⟩, ⟨%f33, %hf33, H33⟩, ⟨%f17, %hf17, H17⟩, ⟨%f18, %hf18, H18⟩, Hk⟩
  obtain rfl := harg44.eq_unread hf44; obtain rfl := harg33.eq_unread hf33; obtain rfl := harg17.eq_unread hf17; obtain rfl := harg18.eq_unread hf18
  sl_exec
  sl_step
  simp (proj := false) only [readCov_eq_readAt, readAt_win, View.read_writes_cons_put _ _ _ _ _ rfl, View.writes_nil, Memref.IsWhole.read_unread, wf_S1x512x768, pf_S1x512x768, wf_S2x1536, pf_S2x1536, wf_S2x768x1536, pf_S2x768x1536, wf_S512x1536, pf_S512x1536]
  iapply Hk
  isplitl [H44]
  · iexists _; isplitr; · ipureintro; exact rfl
    iexists _; isplitr; swap; · iexact H44
    ipureintro
    try simp (proj := false) only [readCov_eq_readAt, readAt_win, View.read_writes_cons_put _ _ _ _ _ rfl, View.writes_nil, Memref.IsWhole.read_unread, wf_S1x512x768, pf_S1x512x768, wf_S2x1536, pf_S2x1536, wf_S2x768x1536, pf_S2x768x1536, wf_S512x1536, pf_S512x1536]
  isplitl [H33]
  · iexists _; isplitr; · ipureintro; exact harg33.read_unread _
    iexact H33
  isplitl [H17]
  · iexists _; isplitr; · ipureintro; exact harg17.read_unread _
    iexact H17
  iexists _; isplitr; · ipureintro; exact harg18.read_unread _
  iexact H18

/-- What `k0_part18` leaves in the buffers it writes, and what it returns, from what it reads. -/
theorem k0_part18_run (v338 : FVec Ideal S512x1 .f32) (X33 : Vec Ideal S1x512x768 .fp8e4m3) (X17 : Vec Ideal S2x768x1536 .fp8e4m3) (X18 : Vec Ideal S2x1536 .f32) (X44 : Vec Ideal S512x1536 .f32)
    (K : (Σ' (v511 : Vec Ideal S512x1536 .f32) (v516 : IVec S512x1 1) (v518 : FVec Ideal S512x1 .f32), FVec Ideal S512x1 .f32) → sProp 𝕄) :
    iprop(ow c arg33 X33
        ∗ ow c arg17 X17
        ∗ ow c arg18 X18
        ∗ ow c arg44 X44
        ∗ (iprop(ow c arg33 X33
            ∗ ow c arg17 X17
            ∗ ow c arg18 X18
            ∗ (∃ Y, ⌜Y = VecWindow.put (s := S512x1536) (X44) ![0, 1280] S512x256.size (k0_pay70 v338 X33 (VecWindow.window (s := S2x768x1536) (X17) ![0, 0, 1280] S1x768x256.size inb_S2x768x1536_S1x768x256_0_0_1280) (VecWindow.window (s := S2x1536) (X18) ![0, 1280] S1x256.size inb_S2x1536_S1x256_0_1280) X33 (VecWindow.window (s := S2x768x1536) (X17) ![1, 0, 1280] S1x768x256.size inb_S2x768x1536_S1x768x256_1_0_1280) (VecWindow.window (s := S2x1536) (X18) ![1, 1280] S1x256.size inb_S2x1536_S1x256_1_1280))⌝ ∗ ow c arg44 Y)) -∗ K ⟨(VecWindow.put (s := S512x1536) (X44) ![0, 1280] S512x256.size (k0_pay70 v338 X33 (VecWindow.window (s := S2x768x1536) (X17) ![0, 0, 1280] S1x768x256.size inb_S2x768x1536_S1x768x256_0_0_1280) (VecWindow.window (s := S2x1536) (X18) ![0, 1280] S1x256.size inb_S2x1536_S1x256_0_1280) X33 (VecWindow.window (s := S2x768x1536) (X17) ![1, 0, 1280] S1x768x256.size inb_S2x768x1536_S1x768x256_1_0_1280) (VecWindow.window (s := S2x1536) (X18) ![1, 1280] S1x256.size inb_S2x1536_S1x256_1_1280))), k0_pay72 (VecWindow.put (s := S512x1536) (X44) ![0, 1280] S512x256.size (k0_pay70 v338 X33 (VecWindow.window (s := S2x768x1536) (X17) ![0, 0, 1280] S1x768x256.size inb_S2x768x1536_S1x768x256_0_0_1280) (VecWindow.window (s := S2x1536) (X18) ![0, 1280] S1x256.size inb_S2x1536_S1x256_0_1280) X33 (VecWindow.window (s := S2x768x1536) (X17) ![1, 0, 1280] S1x768x256.size inb_S2x768x1536_S1x768x256_1_0_1280) (VecWindow.window (s := S2x1536) (X18) ![1, 1280] S1x256.size inb_S2x1536_S1x256_1_1280))), k0_pay73 (VecWindow.put (s := S512x1536) (X44) ![0, 1280] S512x256.size (k0_pay70 v338 X33 (VecWindow.window (s := S2x768x1536) (X17) ![0, 0, 1280] S1x768x256.size inb_S2x768x1536_S1x768x256_0_0_1280) (VecWindow.window (s := S2x1536) (X18) ![0, 1280] S1x256.size inb_S2x1536_S1x256_0_1280) X33 (VecWindow.window (s := S2x768x1536) (X17) ![1, 0, 1280] S1x768x256.size inb_S2x768x1536_S1x768x256_1_0_1280) (VecWindow.window (s := S2x1536) (X18) ![1, 1280] S1x256.size inb_S2x1536_S1x256_1_1280))), k0_pay74 (F := Ideal)⟩))
      ⊢ wp frame (wpE (defs₀ (F := Ideal)) Variants.none c none) E (k0_part18 (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 v338) K := by
  simp only [k0_part18_eq_skeleton]; unfold k0_part18_skel
  unfold ow owns
  iintro ⟨⟨%f33, %hf33, H33⟩, ⟨%f17, %hf17, H17⟩, ⟨%f18, %hf18, H18⟩, ⟨%f44, %hf44, H44⟩, Hk⟩
  obtain rfl := harg33.eq_unread hf33; obtain rfl := harg17.eq_unread hf17; obtain rfl := harg18.eq_unread hf18; obtain rfl := harg44.eq_unread hf44
  sl_exec
  sl_step
  try delta k0_part18_run.sl.v511
  try delta k0_part18_run.sl.H44_1
  try delta k0_part18_run.sl.H44_2
  try delta k0_part18_run.sl.v511
  try delta k0_part18_run.sl.H44_1
  try delta k0_part18_run.sl.H44_2
  simp (proj := false) only [readCov_eq_readAt, readAt_win, View.read_writes_cons_put _ _ _ _ _ rfl, View.writes_nil, Memref.IsWhole.read_unread, wf_S1x512x768, pf_S1x512x768, wf_S2x1536, pf_S2x1536, wf_S2x768x1536, pf_S2x768x1536, wf_S512x1536, pf_S512x1536]
  iapply Hk
  isplitl [H33]
  · iexists _; isplitr; · ipureintro; exact harg33.read_unread _
    iexact H33
  isplitl [H17]
  · iexists _; isplitr; · ipureintro; exact harg17.read_unread _
    iexact H17
  isplitl [H18]
  · iexists _; isplitr; · ipureintro; exact harg18.read_unread _
    iexact H18
  iexists _; isplitr; · ipureintro; exact rfl
  iexists _; isplitr; swap; · iexact H44
  ipureintro
  try delta k0_part18_run.sl.v511
  try delta k0_part18_run.sl.H44_1
  try delta k0_part18_run.sl.H44_2
  try delta k0_part18_run.sl.v511
  try delta k0_part18_run.sl.H44_1
  try delta k0_part18_run.sl.H44_2
  try simp (proj := false) only [readCov_eq_readAt, readAt_win, View.read_writes_cons_put _ _ _ _ _ rfl, View.writes_nil, Memref.IsWhole.read_unread, wf_S1x512x768, pf_S1x512x768, wf_S2x1536, pf_S2x1536, wf_S2x768x1536, pf_S2x768x1536, wf_S512x1536, pf_S512x1536]

/-- What `k0_part19` leaves in the buffers it writes, and what it returns, from what it reads. -/
theorem k0_part19_run (arg0 : BitVec 32) (v511 : Vec Ideal S512x1536 .f32) (v516 : IVec S512x1 1) (v518 : FVec Ideal S512x1 .f32) (v519 : FVec Ideal S512x1 .f32) (X36 : Vec Ideal S25x512 .f32) (X19 : Vec Ideal S1536x768 .fp8e4m3) (X20 : Vec Ideal S1x768 .f32) (X2 : Vec Ideal S1x512x384 .bf16) (X10 : Vec Ideal S384x1536 .bf16) (X11 : Vec Ideal S2x768 .f32)
    (K : (Σ' (v520 : FVec Ideal S512x1 .f32) (v545 : FVec Ideal S512x256 .f32), FVec Ideal S512x256 .f32) → sProp 𝕄) :
    iprop(ow c arg36 X36
        ∗ ow c arg19 X19
        ∗ ow c arg20 X20
        ∗ ow c arg2 X2
        ∗ ow c arg10 X10
        ∗ ow c arg11 X11
        ∗ (∃ d, ow c arg35 d)
        ∗ (iprop((∃ Y, ⌜Y = VecWindow.put (s := S25x512) (X36) (k0_off1 i) S1x512.size (k0_pay77 v516 v518 v519)⌝ ∗ ow c arg36 Y)
            ∗ ow c arg19 X19
            ∗ ow c arg20 X20
            ∗ ow c arg2 X2
            ∗ ow c arg10 X10
            ∗ ow c arg11 X11
            ∗ (∃ Y, ⌜Y = k0_pay76 v511 v516 v518 v519⌝ ∗ ow c arg35 Y)) -∗ K ⟨k0_pay75 v516 v518 v519, k0_pay78 v516 v518 v519 (k0_pay76 v511 v516 v518 v519) (VecWindow.window (s := S1536x768) (X19) ![0, 0] S1536x256.size inb_S1536x768_S1536x256_0_0) (VecWindow.window (s := S1x768) (X20) ![0, 0] S1x256.size inb_S1x768_S1x256_0_0), k0_pay79 X2 (VecWindow.window (s := S384x1536) (X10) ![0, 768] S384x256.size inb_S384x1536_S384x256_0_768) (VecWindow.window (s := S2x768) (X11) ![1, 0] S1x256.size inb_S2x768_S1x256_1_0)⟩))
      ⊢ wp frame (wpE (defs₀ (F := Ideal)) Variants.none c none) E (k0_part19 (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg0 v511 v516 v518 v519) K := by
  simp only [k0_part19_eq_skeleton]; unfold k0_part19_skel
  unfold ow owns
  iintro ⟨⟨%f36, %hf36, H36⟩, ⟨%f19, %hf19, H19⟩, ⟨%f20, %hf20, H20⟩, ⟨%f2, %hf2, H2⟩, ⟨%f10, %hf10, H10⟩, ⟨%f11, %hf11, H11⟩, ⟨%d35, %f35, %hf35, H35⟩, Hk⟩
  obtain rfl := harg36.eq_unread hf36; obtain rfl := harg19.eq_unread hf19; obtain rfl := harg20.eq_unread hf20; obtain rfl := harg2.eq_unread hf2; obtain rfl := harg10.eq_unread hf10; obtain rfl := harg11.eq_unread hf11
  sl_exec
  sl_step
  try delta k0_part19_run.sl.v537
  try delta k0_part19_run.sl.H35_1
  try delta k0_part19_run.sl.H35_2
  try delta k0_part19_run.sl.v537
  try delta k0_part19_run.sl.H35_1
  try delta k0_part19_run.sl.H35_2
  simp (proj := false) only [readCov_eq_readAt, readAt_win, View.read_writes_cons_put _ _ _ _ _ rfl, View.writes_nil, Memref.IsWhole.read_unread, wf_S1536x768, pf_S1536x768, wf_S1x512x1536, pf_S1x512x1536, wf_S1x512x384, pf_S1x512x384, wf_S1x768, pf_S1x768, wf_S25x512, pf_S25x512, wf_S2x768, pf_S2x768, wf_S384x1536, pf_S384x1536]
  iapply Hk
  isplitl [H36]
  · iexists _; isplitr; · ipureintro; exact rfl
    iexists _; isplitr; swap; · iexact H36
    ipureintro
    try delta k0_part19_run.sl.v537
    try delta k0_part19_run.sl.H35_1
    try delta k0_part19_run.sl.H35_2
    try delta k0_part19_run.sl.v537
    try delta k0_part19_run.sl.H35_1
    try delta k0_part19_run.sl.H35_2
    try simp (proj := false) only [readCov_eq_readAt, readAt_win, View.read_writes_cons_put _ _ _ _ _ rfl, View.writes_nil, Memref.IsWhole.read_unread, wf_S1536x768, pf_S1536x768, wf_S1x512x1536, pf_S1x512x1536, wf_S1x512x384, pf_S1x512x384, wf_S1x768, pf_S1x768, wf_S25x512, pf_S25x512, wf_S2x768, pf_S2x768, wf_S384x1536, pf_S384x1536]
  isplitl [H19]
  · iexists _; isplitr; · ipureintro; exact harg19.read_unread _
    iexact H19
  isplitl [H20]
  · iexists _; isplitr; · ipureintro; exact harg20.read_unread _
    iexact H20
  isplitl [H2]
  · iexists _; isplitr; · ipureintro; exact harg2.read_unread _
    iexact H2
  isplitl [H10]
  · iexists _; isplitr; · ipureintro; exact harg10.read_unread _
    iexact H10
  isplitl [H11]
  · iexists _; isplitr; · ipureintro; exact harg11.read_unread _
    iexact H11
  iexists _; isplitr; · ipureintro; exact rfl
  iexists _; isplitr; swap; · iexact H35
  ipureintro
  try delta k0_part19_run.sl.v537
  try delta k0_part19_run.sl.H35_1
  try delta k0_part19_run.sl.H35_2
  try delta k0_part19_run.sl.v537
  try delta k0_part19_run.sl.H35_1
  try delta k0_part19_run.sl.H35_2
  try simp (proj := false) only [readCov_eq_readAt, readAt_win, View.read_writes_cons_put _ _ _ _ _ rfl, View.writes_nil, Memref.IsWhole.read_unread, wf_S1536x768, pf_S1536x768, wf_S1x512x1536, pf_S1x512x1536, wf_S1x512x384, pf_S1x512x384, wf_S1x768, pf_S1x768, wf_S25x512, pf_S25x512, wf_S2x768, pf_S2x768, wf_S384x1536, pf_S384x1536]

/-- What `k0_part20` leaves in the buffers it writes, and what it returns, from what it reads. -/
theorem k0_part20_run (v520 : FVec Ideal S512x1 .f32) (v545 : FVec Ideal S512x256 .f32) (v552 : FVec Ideal S512x256 .f32) (X22 : Vec Ideal S1x512x768 .f32) (X21 : Vec Ideal S1x512x768 .bf16) (X35 : Vec Ideal S1x512x1536 .fp8e4m3) (X19 : Vec Ideal S1536x768 .fp8e4m3) (X20 : Vec Ideal S1x768 .f32) (X2 : Vec Ideal S1x512x384 .bf16) (X10 : Vec Ideal S384x1536 .bf16) (X11 : Vec Ideal S2x768 .f32)
    (K : (FVec Ideal S1x512x256 .bf16) → sProp 𝕄) :
    iprop(ow c arg22 X22
        ∗ ow c arg21 X21
        ∗ ow c arg35 X35
        ∗ ow c arg19 X19
        ∗ ow c arg20 X20
        ∗ ow c arg2 X2
        ∗ ow c arg10 X10
        ∗ ow c arg11 X11
        ∗ (iprop(ow c arg22 X22
            ∗ (∃ Y, ⌜Y = VecWindow.put (s := S1x512x768) (X21) ![0, 0, 0] S1x512x256.size (k0_pay80 v545 v552 (VecWindow.window (s := S1x512x768) (X22) ![0, 0, 0] S1x512x256.size inb_S1x512x768_S1x512x256_0_0_0))⌝ ∗ ow c arg21 Y)
            ∗ ow c arg35 X35
            ∗ ow c arg19 X19
            ∗ ow c arg20 X20
            ∗ ow c arg2 X2
            ∗ ow c arg10 X10
            ∗ ow c arg11 X11) -∗ K (k0_pay81 v520 X35 (VecWindow.window (s := S1536x768) (X19) ![0, 256] S1536x256.size inb_S1536x768_S1536x256_0_256) (VecWindow.window (s := S1x768) (X20) ![0, 256] S1x256.size inb_S1x768_S1x256_0_256) X2 (VecWindow.window (s := S384x1536) (X10) ![0, 1024] S384x256.size inb_S384x1536_S384x256_0_1024) (VecWindow.window (s := S2x768) (X11) ![1, 256] S1x256.size inb_S2x768_S1x256_1_256) (VecWindow.window (s := S1x512x768) (X22) ![0, 0, 256] S1x512x256.size inb_S1x512x768_S1x512x256_0_0_256))))
      ⊢ wp frame (wpE (defs₀ (F := Ideal)) Variants.none c none) E (k0_part20 (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 v520 v545 v552) K := by
  simp only [k0_part20_eq_skeleton]; unfold k0_part20_skel
  unfold ow owns
  iintro ⟨⟨%f22, %hf22, H22⟩, ⟨%f21, %hf21, H21⟩, ⟨%f35, %hf35, H35⟩, ⟨%f19, %hf19, H19⟩, ⟨%f20, %hf20, H20⟩, ⟨%f2, %hf2, H2⟩, ⟨%f10, %hf10, H10⟩, ⟨%f11, %hf11, H11⟩, Hk⟩
  obtain rfl := harg22.eq_unread hf22; obtain rfl := harg21.eq_unread hf21; obtain rfl := harg35.eq_unread hf35; obtain rfl := harg19.eq_unread hf19; obtain rfl := harg20.eq_unread hf20; obtain rfl := harg2.eq_unread hf2; obtain rfl := harg10.eq_unread hf10; obtain rfl := harg11.eq_unread hf11
  sl_exec
  sl_step
  simp (proj := false) only [readCov_eq_readAt, readAt_win, View.read_writes_cons_put _ _ _ _ _ rfl, View.writes_nil, Memref.IsWhole.read_unread, wf_S1536x768, pf_S1536x768, wf_S1x512x1536, pf_S1x512x1536, wf_S1x512x384, pf_S1x512x384, wf_S1x512x768, pf_S1x512x768, wf_S1x768, pf_S1x768, wf_S2x768, pf_S2x768, wf_S384x1536, pf_S384x1536]
  iapply Hk
  isplitl [H22]
  · iexists _; isplitr; · ipureintro; exact harg22.read_unread _
    iexact H22
  isplitl [H21]
  · iexists _; isplitr; · ipureintro; exact rfl
    iexists _; isplitr; swap; · iexact H21
    ipureintro
    try simp (proj := false) only [readCov_eq_readAt, readAt_win, View.read_writes_cons_put _ _ _ _ _ rfl, View.writes_nil, Memref.IsWhole.read_unread, wf_S1536x768, pf_S1536x768, wf_S1x512x1536, pf_S1x512x1536, wf_S1x512x384, pf_S1x512x384, wf_S1x512x768, pf_S1x512x768, wf_S1x768, pf_S1x768, wf_S2x768, pf_S2x768, wf_S384x1536, pf_S384x1536]
  isplitl [H35]
  · iexists _; isplitr; · ipureintro; exact harg35.read_unread _
    iexact H35
  isplitl [H19]
  · iexists _; isplitr; · ipureintro; exact harg19.read_unread _
    iexact H19
  isplitl [H20]
  · iexists _; isplitr; · ipureintro; exact harg20.read_unread _
    iexact H20
  isplitl [H2]
  · iexists _; isplitr; · ipureintro; exact harg2.read_unread _
    iexact H2
  isplitl [H10]
  · iexists _; isplitr; · ipureintro; exact harg10.read_unread _
    iexact H10
  iexists _; isplitr; · ipureintro; exact harg11.read_unread _
  iexact H11

end Cert.KernelIdeal.Hand

end
-- ==== Proof.HeadLoops.lean ====
module

public import proofs.«01_k».proof.Proof.LoopKit

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

local notation "𝕄" => MT nD τ sig Unit (Elt Ideal) ℕ (UR sig nD τ) ℕ

variable {c : Dev nD} {i : grid0.Coords}
variable {arg1 : Memref sig .tc .vmem S1x512x768 .bf16} {harg1 : arg1.IsWhole}
variable {arg2 : Memref sig .tc .vmem S1x512x384 .bf16} {harg2 : arg2.IsWhole}
variable {arg3 : Memref sig .tc .vmem S16x416x512 .f32} {harg3 : arg3.IsWhole}
variable {arg4 : Memref sig .tc .vmem S1x384 .f32} {harg4 : arg4.IsWhole}
variable {arg5 : Memref sig .tc .vmem S1x384 .f32} {harg5 : arg5.IsWhole}
variable {arg6 : Memref sig .tc .vmem S384x1536 .bf16} {harg6 : arg6.IsWhole}
variable {arg7 : Memref sig .tc .vmem S1x768 .f32} {harg7 : arg7.IsWhole}
variable {arg8 : Memref sig .tc .vmem S384x1536 .bf16} {harg8 : arg8.IsWhole}
variable {arg9 : Memref sig .tc .vmem S1x768 .f32} {harg9 : arg9.IsWhole}
variable {arg10 : Memref sig .tc .vmem S384x1536 .bf16} {harg10 : arg10.IsWhole}
variable {arg11 : Memref sig .tc .vmem S2x768 .f32} {harg11 : arg11.IsWhole}
variable {arg12 : Memref sig .tc .vmem S3072x768 .fp8e4m3} {harg12 : arg12.IsWhole}
variable {arg13 : Memref sig .tc .vmem S3072x128 .f32} {harg13 : arg13.IsWhole}
variable {arg14 : Memref sig .tc .vmem S768x128 .f32} {harg14 : arg14.IsWhole}
variable {arg15 : Memref sig .tc .vmem S768x768 .fp8e4m3} {harg15 : arg15.IsWhole}
variable {arg16 : Memref sig .tc .vmem S1x768 .f32} {harg16 : arg16.IsWhole}
variable {arg17 : Memref sig .tc .vmem S2x768x1536 .fp8e4m3} {harg17 : arg17.IsWhole}
variable {arg18 : Memref sig .tc .vmem S2x1536 .f32} {harg18 : arg18.IsWhole}
variable {arg19 : Memref sig .tc .vmem S1536x768 .fp8e4m3} {harg19 : arg19.IsWhole}
variable {arg20 : Memref sig .tc .vmem S1x768 .f32} {harg20 : arg20.IsWhole}
variable {arg21 : Memref sig .tc .vmem S1x512x768 .bf16} {harg21 : arg21.IsWhole}
variable {arg22 : Memref sig .tc .vmem S1x512x768 .f32} {harg22 : arg22.IsWhole}
variable {arg23 : Memref sig .tc .vmem S1x512x768 .fp8e4m3} {harg23 : arg23.IsWhole}
variable {arg24 : Memref sig .tc .vmem S25x512 .f32} {harg24 : arg24.IsWhole}
variable {arg25 : Memref sig .tc .vmem S1x16x48x512 .fp8e4m3} {harg25 : arg25.IsWhole}
variable {arg26 : Memref sig .tc .vmem S1x16x512 .f32} {harg26 : arg26.IsWhole}
variable {arg27 : Memref sig .tc .vmem S1x16x48x512 .fp8e4m3} {harg27 : arg27.IsWhole}
variable {arg28 : Memref sig .tc .vmem S1x16x512 .f32} {harg28 : arg28.IsWhole}
variable {arg29 : Memref sig .tc .vmem S1x16x48x512 .fp8e4m3} {harg29 : arg29.IsWhole}
variable {arg30 : Memref sig .tc .vmem S1x16x512 .f32} {harg30 : arg30.IsWhole}
variable {arg31 : Memref sig .tc .vmem S1x16x48x512 .fp8e4m3} {harg31 : arg31.IsWhole}
variable {arg32 : Memref sig .tc .vmem S25x512 .f32} {harg32 : arg32.IsWhole}
variable {arg33 : Memref sig .tc .vmem S1x512x768 .fp8e4m3} {harg33 : arg33.IsWhole}
variable {arg34 : Memref sig .tc .vmem S25x512 .f32} {harg34 : arg34.IsWhole}
variable {arg35 : Memref sig .tc .vmem S1x512x1536 .fp8e4m3} {harg35 : arg35.IsWhole}
variable {arg36 : Memref sig .tc .vmem S25x512 .f32} {harg36 : arg36.IsWhole}
variable {arg37 : Memref sig .tc .vmem S512x384 .bf16} {harg37 : arg37.IsWhole}
variable {arg38 : Memref sig .tc .vmem S512x384 .bf16} {harg38 : arg38.IsWhole}
variable {arg39 : Memref sig .tc .vmem S512x768 .f32} {harg39 : arg39.IsWhole}
variable {arg40 : Memref sig .tc .vmem S512x768 .f32} {harg40 : arg40.IsWhole}
variable {arg41 : Memref sig .tc .vmem S768x512 .f32} {harg41 : arg41.IsWhole}
variable {arg42 : Memref sig .tc .vmem S16x48x512 .f32} {harg42 : arg42.IsWhole}
variable {arg43 : Memref sig .tc .vmem S16x48x512 .f32} {harg43 : arg43.IsWhole}
variable {arg44 : Memref sig .tc .vmem S512x1536 .f32} {harg44 : arg44.IsWhole}
variable {E : Set ℕ}

/-- One trip of head loop 1: what it leaves in the buffers it writes, from what it reads. -/
theorem k0_t1_trip (v126 : FVec Ideal S1x512 .f32) (k : Fin k0_t1_loop.trips) (u : Unit) (X13 : Vec Ideal S3072x128 .f32) (X14 : Vec Ideal S768x128 .f32) (X41 : Vec Ideal S768x512 .f32) (X25 : Vec Ideal S1x16x48x512 .fp8e4m3) (X26 : Vec Ideal S1x16x512 .f32)
    (K : Unit → sProp 𝕄) :
    iprop(ow c arg13 X13
        ∗ ow c arg14 X14
        ∗ ow c arg41 X41
        ∗ ow c arg25 X25
        ∗ ow c arg26 X26
        ∗ (iprop(ow c arg13 X13
            ∗ ow c arg14 X14
            ∗ ow c arg41 X41
            ∗ (∃ Y, ⌜Y = VecWindow.put (s := S1x16x48x512) X25 (k0_off5 k) S1x1x48x512.size (k0_pay4 v126 (VecWindow.window (s := S3072x128) X13 (k0_off2 k) S48x128.size (k0_off2_inb k)) (VecWindow.window (s := S768x512) X41 (k0_off3 k) S48x512.size (k0_off3_inb k)) (VecWindow.window (s := S768x128) X14 (k0_off4 k) S48x128.size (k0_off4_inb k)))⌝ ∗ ow c arg25 Y)
            ∗ (∃ Y, ⌜Y = VecWindow.put (s := S1x16x512) X26 (k0_off6 k) S1x1x512.size (k0_pay22 (k0_pay3 v126 (VecWindow.window (s := S3072x128) X13 (k0_off2 k) S48x128.size (k0_off2_inb k)) (VecWindow.window (s := S768x512) X41 (k0_off3 k) S48x512.size (k0_off3_inb k)) (VecWindow.window (s := S768x128) X14 (k0_off4 k) S48x128.size (k0_off4_inb k))))⌝ ∗ ow c arg26 Y)) -∗ K ⟨⟩))
      ⊢ wp frame (wpE (defs₀ (F := Ideal)) Variants.none c none) E (k0_t1_body (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 v126 k u) K := by
  have hk : k.val < 16 := Nat.lt_of_lt_of_le k.isLt k0_t1_abs.2.1
  unfold k0_t1_body
  unfold ow owns
  iintro ⟨⟨%f13, %hf13, H13⟩, ⟨%f14, %hf14, H14⟩, ⟨%f41, %hf41, H41⟩, ⟨%f25, %hf25, H25⟩, ⟨%f26, %hf26, H26⟩, Hk⟩
  obtain rfl := harg13.eq_unread hf13; obtain rfl := harg14.eq_unread hf14; obtain rfl := harg41.eq_unread hf41; obtain rfl := harg25.eq_unread hf25; obtain rfl := harg26.eq_unread hf26
  sl_exec
  sl_step
  iapply Hk
  isplitl [H13]
  · iexists _; isplitr; · ipureintro; exact harg13.read_unread _
    iexact H13
  isplitl [H14]
  · iexists _; isplitr; · ipureintro; exact harg14.read_unread _
    iexact H14
  isplitl [H41]
  · iexists _; isplitr; · ipureintro; exact harg41.read_unread _
    iexact H41
  isplitl [H25]
  · iexists _; isplitr; · ipureintro; exact rfl
    iexists _; isplitr; swap; · iexact H25
    ipureintro
    try delta k0_t1_trip.sl.r
    try delta k0_t1_trip.sl.r_1
    try delta k0_t1_trip.sl.r_2
    try delta k0_t1_trip.sl.r_3
    try simp (proj := false) only [readCov_eq_readAt, readAt_win, View.read_writes_cons_put _ _ _ _ _ rfl, View.writes_nil, Memref.IsWhole.read_unread]
  iexists _; isplitr; · ipureintro; exact rfl
  iexists _; isplitr; swap; · iexact H26
  ipureintro
  try delta k0_t1_trip.sl.r
  try delta k0_t1_trip.sl.r_1
  try delta k0_t1_trip.sl.r_2
  try delta k0_t1_trip.sl.r_3
  try simp (proj := false) only [readCov_eq_readAt, readAt_win, View.read_writes_cons_put _ _ _ _ _ rfl, View.writes_nil, Memref.IsWhole.read_unread]

/-- One trip of head loop 2: what it leaves in the buffers it writes, from what it reads. -/
theorem k0_t2_trip (v126 : FVec Ideal S1x512 .f32) (k : Fin k0_t2_loop.trips) (u : Unit) (X13 : Vec Ideal S3072x128 .f32) (X41 : Vec Ideal S768x512 .f32) (X27 : Vec Ideal S1x16x48x512 .fp8e4m3) (X28 : Vec Ideal S1x16x512 .f32)
    (K : Unit → sProp 𝕄) :
    iprop(ow c arg13 X13
        ∗ ow c arg41 X41
        ∗ ow c arg27 X27
        ∗ ow c arg28 X28
        ∗ (iprop(ow c arg13 X13
            ∗ ow c arg41 X41
            ∗ (∃ Y, ⌜Y = VecWindow.put (s := S1x16x48x512) X27 (k0_off9 k) S1x1x48x512.size (k0_pay26 v126 (VecWindow.window (s := S3072x128) X13 (k0_off7 k) S48x128.size (k0_off7_inb k)) (VecWindow.window (s := S768x512) X41 (k0_off8 k) S48x512.size (k0_off8_inb k)))⌝ ∗ ow c arg27 Y)
            ∗ (∃ Y, ⌜Y = VecWindow.put (s := S1x16x512) X28 (k0_off10 k) S1x1x512.size (k0_pay27 v126 (VecWindow.window (s := S3072x128) X13 (k0_off7 k) S48x128.size (k0_off7_inb k)) (VecWindow.window (s := S768x512) X41 (k0_off8 k) S48x512.size (k0_off8_inb k)))⌝ ∗ ow c arg28 Y)) -∗ K ⟨⟩))
      ⊢ wp frame (wpE (defs₀ (F := Ideal)) Variants.none c none) E (k0_t2_body (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 v126 k u) K := by
  have hk : k.val < 16 := Nat.lt_of_lt_of_le k.isLt k0_t2_abs.2.1
  unfold k0_t2_body
  unfold ow owns
  iintro ⟨⟨%f13, %hf13, H13⟩, ⟨%f41, %hf41, H41⟩, ⟨%f27, %hf27, H27⟩, ⟨%f28, %hf28, H28⟩, Hk⟩
  obtain rfl := harg13.eq_unread hf13; obtain rfl := harg41.eq_unread hf41; obtain rfl := harg27.eq_unread hf27; obtain rfl := harg28.eq_unread hf28
  sl_exec
  sl_step
  iapply Hk
  isplitl [H13]
  · iexists _; isplitr; · ipureintro; exact harg13.read_unread _
    iexact H13
  isplitl [H41]
  · iexists _; isplitr; · ipureintro; exact harg41.read_unread _
    iexact H41
  isplitl [H27]
  · iexists _; isplitr; · ipureintro; exact rfl
    iexists _; isplitr; swap; · iexact H27
    ipureintro
    try delta k0_t2_trip.sl.r
    try delta k0_t2_trip.sl.r_1
    try delta k0_t2_trip.sl.r_2
    try delta k0_t2_trip.sl.r_3
    try simp (proj := false) only [readCov_eq_readAt, readAt_win, View.read_writes_cons_put _ _ _ _ _ rfl, View.writes_nil, Memref.IsWhole.read_unread]
  iexists _; isplitr; · ipureintro; exact rfl
  iexists _; isplitr; swap; · iexact H28
  ipureintro
  try delta k0_t2_trip.sl.r
  try delta k0_t2_trip.sl.r_1
  try delta k0_t2_trip.sl.r_2
  try delta k0_t2_trip.sl.r_3
  try simp (proj := false) only [readCov_eq_readAt, readAt_win, View.read_writes_cons_put _ _ _ _ _ rfl, View.writes_nil, Memref.IsWhole.read_unread]

/-- One trip of head loop 3: what it leaves in the buffers it writes, from what it reads. -/
theorem k0_t3_trip (v126 : FVec Ideal S1x512 .f32) (k : Fin k0_t3_loop.trips) (u : Unit) (X13 : Vec Ideal S3072x128 .f32) (X41 : Vec Ideal S768x512 .f32) (X29 : Vec Ideal S1x16x48x512 .fp8e4m3) (X30 : Vec Ideal S1x16x512 .f32)
    (K : Unit → sProp 𝕄) :
    iprop(ow c arg13 X13
        ∗ ow c arg41 X41
        ∗ ow c arg29 X29
        ∗ ow c arg30 X30
        ∗ (iprop(ow c arg13 X13
            ∗ ow c arg41 X41
            ∗ (∃ Y, ⌜Y = VecWindow.put (s := S1x16x48x512) X29 (k0_off13 k) S1x1x48x512.size (k0_pay31 v126 (VecWindow.window (s := S3072x128) X13 (k0_off11 k) S48x128.size (k0_off11_inb k)) (VecWindow.window (s := S768x512) X41 (k0_off12 k) S48x512.size (k0_off12_inb k)))⌝ ∗ ow c arg29 Y)
            ∗ (∃ Y, ⌜Y = VecWindow.put (s := S1x16x512) X30 (k0_off14 k) S1x1x512.size (k0_pay32 v126 (VecWindow.window (s := S3072x128) X13 (k0_off11 k) S48x128.size (k0_off11_inb k)) (VecWindow.window (s := S768x512) X41 (k0_off12 k) S48x512.size (k0_off12_inb k)))⌝ ∗ ow c arg30 Y)) -∗ K ⟨⟩))
      ⊢ wp frame (wpE (defs₀ (F := Ideal)) Variants.none c none) E (k0_t3_body (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 v126 k u) K := by
  have hk : k.val < 16 := Nat.lt_of_lt_of_le k.isLt k0_t3_abs.2.1
  unfold k0_t3_body
  unfold ow owns
  iintro ⟨⟨%f13, %hf13, H13⟩, ⟨%f41, %hf41, H41⟩, ⟨%f29, %hf29, H29⟩, ⟨%f30, %hf30, H30⟩, Hk⟩
  obtain rfl := harg13.eq_unread hf13; obtain rfl := harg41.eq_unread hf41; obtain rfl := harg29.eq_unread hf29; obtain rfl := harg30.eq_unread hf30
  sl_exec
  sl_step
  iapply Hk
  isplitl [H13]
  · iexists _; isplitr; · ipureintro; exact harg13.read_unread _
    iexact H13
  isplitl [H41]
  · iexists _; isplitr; · ipureintro; exact harg41.read_unread _
    iexact H41
  isplitl [H29]
  · iexists _; isplitr; · ipureintro; exact rfl
    iexists _; isplitr; swap; · iexact H29
    ipureintro
    try delta k0_t3_trip.sl.r
    try delta k0_t3_trip.sl.r_1
    try delta k0_t3_trip.sl.r_2
    try delta k0_t3_trip.sl.r_3
    try simp (proj := false) only [readCov_eq_readAt, readAt_win, View.read_writes_cons_put _ _ _ _ _ rfl, View.writes_nil, Memref.IsWhole.read_unread]
  iexists _; isplitr; · ipureintro; exact rfl
  iexists _; isplitr; swap; · iexact H30
  ipureintro
  try delta k0_t3_trip.sl.r
  try delta k0_t3_trip.sl.r_1
  try delta k0_t3_trip.sl.r_2
  try delta k0_t3_trip.sl.r_3
  try simp (proj := false) only [readCov_eq_readAt, readAt_win, View.read_writes_cons_put _ _ _ _ _ rfl, View.writes_nil, Memref.IsWhole.read_unread]

/-- One trip of head loop 4: what it leaves in the buffers it writes, from what it reads. -/
theorem k0_t4_trip (z : BitVec 32) (v126 : FVec Ideal S1x512 .f32) (v156 : FVec Ideal S768x512 .f32) (k : Fin k0_t4_loop.trips) (u : Unit) (X13 : Vec Ideal S3072x128 .f32) (X41 : Vec Ideal S768x512 .f32) (X42 : Vec Ideal S16x48x512 .f32)
    (K : Unit → sProp 𝕄) :
    iprop(ow c arg13 X13
        ∗ ow c arg41 X41
        ∗ ow c arg42 X42
        ∗ (iprop(ow c arg13 X13
            ∗ ow c arg41 X41
            ∗ (∃ Y, ⌜Y = VecWindow.put (s := S16x48x512) X42 (k0_off17 k) S1x48x512.size (k0_pay35 v126 (VecWindow.window (s := S3072x128) X13 (k0_off15 k) S48x128.size (k0_off15_inb k)) (VecWindow.window (s := S768x512) X41 (k0_off16 k) S48x512.size (k0_off16_inb k)))⌝ ∗ ow c arg42 Y)) -∗ K ⟨⟩))
      ⊢ wp frame (wpE (defs₀ (F := Ideal)) Variants.none c none) E (k0_t4_body (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 z v126 v156 k u) K := by
  have hk : k.val < 16 := Nat.lt_of_lt_of_le k.isLt k0_t4_abs.2.1
  unfold k0_t4_body
  unfold ow owns
  iintro ⟨⟨%f13, %hf13, H13⟩, ⟨%f41, %hf41, H41⟩, ⟨%f42, %hf42, H42⟩, Hk⟩
  obtain rfl := harg13.eq_unread hf13; obtain rfl := harg41.eq_unread hf41; obtain rfl := harg42.eq_unread hf42
  sl_exec
  sl_step
  iapply Hk
  isplitl [H13]
  · iexists _; isplitr; · ipureintro; exact harg13.read_unread _
    iexact H13
  isplitl [H41]
  · iexists _; isplitr; · ipureintro; exact harg41.read_unread _
    iexact H41
  iexists _; isplitr; · ipureintro; exact rfl
  iexists _; isplitr; swap; · iexact H42
  ipureintro
  try delta k0_t4_trip.sl.r
  try delta k0_t4_trip.sl.r_1
  try delta k0_t4_trip.sl.r_2
  try delta k0_t4_trip.sl.r_3
  try simp (proj := false) only [readCov_eq_readAt, readAt_win, View.read_writes_cons_put _ _ _ _ _ rfl, View.writes_nil, Memref.IsWhole.read_unread]

set_option maxHeartbeats 4000000 in
/-- One trip of head loop 5: what it leaves in the buffers it writes, from what it reads. -/
theorem k0_t5_trip (z : BitVec 32) (v126 : FVec Ideal S1x512 .f32) (v156 : FVec Ideal S768x512 .f32) (k : Fin k0_t5_loop.trips) (u : Unit) (X3 : Vec Ideal S16x416x512 .f32) (X25 : Vec Ideal S1x16x48x512 .fp8e4m3) (X26 : Vec Ideal S1x16x512 .f32) (X27 : Vec Ideal S1x16x48x512 .fp8e4m3) (X28 : Vec Ideal S1x16x512 .f32) (X29 : Vec Ideal S1x16x48x512 .fp8e4m3) (X30 : Vec Ideal S1x16x512 .f32) (X42 : Vec Ideal S16x48x512 .f32) (X43 : Vec Ideal S16x48x512 .f32)
    (K : Unit → sProp 𝕄) :
    iprop(ow c arg3 X3
        ∗ ow c arg25 X25
        ∗ ow c arg26 X26
        ∗ ow c arg27 X27
        ∗ ow c arg28 X28
        ∗ ow c arg29 X29
        ∗ ow c arg30 X30
        ∗ ow c arg42 X42
        ∗ ow c arg43 X43
        ∗ (iprop(ow c arg3 X3
            ∗ ow c arg25 X25
            ∗ ow c arg26 X26
            ∗ ow c arg27 X27
            ∗ ow c arg28 X28
            ∗ ow c arg29 X29
            ∗ ow c arg30 X30
            ∗ ow c arg42 X42
            ∗ (∃ Y, ⌜Y = VecWindow.put (s := S16x48x512) X43 (k0_off21 k) S1x48x512.size (k0_pay36 (k0_pay5 (VecWindow.window (s := S1x16x48x512) X27 (k0_off18 k) S1x1x48x512.size (k0_off18_inb k)) (VecWindow.window (s := S1x16x48x512) X25 (k0_off18 k) S1x1x48x512.size (k0_off18_inb k)) (VecWindow.window (s := S1x16x512) X26 (k0_off19 k) S1x1x512.size (k0_off19_inb k)) (VecWindow.window (s := S1x16x512) X28 (k0_off19 k) S1x1x512.size (k0_off19_inb k)) (VecWindow.window (s := S16x416x512) X3 (k0_off20 k) S1x416x512.size (k0_off20_inb k))) (k0_pay6 (VecWindow.window (s := S1x16x48x512) X27 (k0_off18 k) S1x1x48x512.size (k0_off18_inb k)) (VecWindow.window (s := S1x16x48x512) X25 (k0_off18 k) S1x1x48x512.size (k0_off18_inb k)) (VecWindow.window (s := S1x16x512) X26 (k0_off19 k) S1x1x512.size (k0_off19_inb k)) (VecWindow.window (s := S1x16x512) X28 (k0_off19 k) S1x1x512.size (k0_off19_inb k)) (VecWindow.window (s := S16x416x512) X3 (k0_off20 k) S1x416x512.size (k0_off20_inb k))) (k0_pay7 (VecWindow.window (s := S1x16x512) X30 (k0_off19 k) S1x1x512.size (k0_off19_inb k))) (VecWindow.window (s := S1x16x48x512) X29 (k0_off18 k) S1x1x48x512.size (k0_off18_inb k)) (VecWindow.window (s := S16x48x512) X42 (k0_off21 k) S1x48x512.size (k0_off21_inb k)))⌝ ∗ ow c arg43 Y)) -∗ K ⟨⟩))
      ⊢ wp frame (wpE (defs₀ (F := Ideal)) Variants.none c none) E (k0_t5_body (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 z v126 v156 k u) K := by
  have hk : k.val < 16 := Nat.lt_of_lt_of_le k.isLt k0_t5_abs.2.1
  unfold k0_t5_body
  unfold ow owns
  iintro ⟨⟨%f3, %hf3, H3⟩, ⟨%f25, %hf25, H25⟩, ⟨%f26, %hf26, H26⟩, ⟨%f27, %hf27, H27⟩, ⟨%f28, %hf28, H28⟩, ⟨%f29, %hf29, H29⟩, ⟨%f30, %hf30, H30⟩, ⟨%f42, %hf42, H42⟩, ⟨%f43, %hf43, H43⟩, Hk⟩
  obtain rfl := harg3.eq_unread hf3; obtain rfl := harg25.eq_unread hf25; obtain rfl := harg26.eq_unread hf26; obtain rfl := harg27.eq_unread hf27; obtain rfl := harg28.eq_unread hf28; obtain rfl := harg29.eq_unread hf29; obtain rfl := harg30.eq_unread hf30; obtain rfl := harg42.eq_unread hf42; obtain rfl := harg43.eq_unread hf43
  sl_exec
  sl_step
  iapply Hk
  isplitl [H3]
  · iexists _; isplitr; · ipureintro; exact harg3.read_unread _
    iexact H3
  isplitl [H25]
  · iexists _; isplitr; · ipureintro; exact harg25.read_unread _
    iexact H25
  isplitl [H26]
  · iexists _; isplitr; · ipureintro; exact harg26.read_unread _
    iexact H26
  isplitl [H27]
  · iexists _; isplitr; · ipureintro; exact harg27.read_unread _
    iexact H27
  isplitl [H28]
  · iexists _; isplitr; · ipureintro; exact harg28.read_unread _
    iexact H28
  isplitl [H29]
  · iexists _; isplitr; · ipureintro; exact harg29.read_unread _
    iexact H29
  isplitl [H30]
  · iexists _; isplitr; · ipureintro; exact harg30.read_unread _
    iexact H30
  isplitl [H42]
  · iexists _; isplitr; · ipureintro; exact harg42.read_unread _
    iexact H42
  iexists _; isplitr; · ipureintro; exact rfl
  iexists _; isplitr; swap; · iexact H43
  ipureintro
  try delta k0_t5_trip.sl.r
  try delta k0_t5_trip.sl.r_1
  try delta k0_t5_trip.sl.r_2
  try delta k0_t5_trip.sl.r_3
  try simp (proj := false) only [readCov_eq_readAt, readAt_win, View.read_writes_cons_put _ _ _ _ _ rfl, View.writes_nil, Memref.IsWhole.read_unread]

/-- What trip `k` of head loop 1 puts into buffer 25, by head. -/
theorem k0_t1_pay25 (v126 : FVec Ideal S1x512 .f32) (k : Fin k0_t1_loop.trips) (h : Fin 16) (hk : h.val = k.val) (X13 : Vec Ideal S3072x128 .f32) (X14 : Vec Ideal S768x128 .f32) (X41 : Vec Ideal S768x512 .f32) :
    k0_pay4 v126 (VecWindow.window (s := S3072x128) X13 (k0_off2 k) S48x128.size (k0_off2_inb k)) (VecWindow.window (s := S768x512) X41 (k0_off3 k) S48x512.size (k0_off3_inb k)) (VecWindow.window (s := S768x128) X14 (k0_off4 k) S48x128.size (k0_off4_inb k)) = k0_pay4 v126 (rows13 X13 0 h) (rows41 X41 h) (rows41 X14 h) := by
  have e0 : (VecWindow.window (s := S3072x128) X13 (k0_off2 k) S48x128.size (k0_off2_inb k)) = (rows13 X13 0 h) := window_rows13 X13 0 h (k0_off2 k) (by rw [k0_off2_eq, hk]; try rfl) (k0_off2_inb k)
  have e1 : (VecWindow.window (s := S768x512) X41 (k0_off3 k) S48x512.size (k0_off3_inb k)) = (rows41 X41 h) := window_rows41 X41 h (k0_off3 k) (by rw [k0_off3_eq, hk]; try rfl) (k0_off3_inb k)
  have e2 : (VecWindow.window (s := S768x128) X14 (k0_off4 k) S48x128.size (k0_off4_inb k)) = (rows41 X14 h) := window_rows41 X14 h (k0_off4 k) (by rw [k0_off4_eq, hk]; try rfl) (k0_off4_inb k)
  rw [e0, e1, e2]

/-- What trip `k` of head loop 1 puts into buffer 26, by head. -/
theorem k0_t1_pay26 (v126 : FVec Ideal S1x512 .f32) (k : Fin k0_t1_loop.trips) (h : Fin 16) (hk : h.val = k.val) (X13 : Vec Ideal S3072x128 .f32) (X14 : Vec Ideal S768x128 .f32) (X41 : Vec Ideal S768x512 .f32) :
    k0_pay22 (k0_pay3 v126 (VecWindow.window (s := S3072x128) X13 (k0_off2 k) S48x128.size (k0_off2_inb k)) (VecWindow.window (s := S768x512) X41 (k0_off3 k) S48x512.size (k0_off3_inb k)) (VecWindow.window (s := S768x128) X14 (k0_off4 k) S48x128.size (k0_off4_inb k))) = k0_pay22 (k0_pay3 v126 (rows13 X13 0 h) (rows41 X41 h) (rows41 X14 h)) := by
  have e0 : (VecWindow.window (s := S3072x128) X13 (k0_off2 k) S48x128.size (k0_off2_inb k)) = (rows13 X13 0 h) := window_rows13 X13 0 h (k0_off2 k) (by rw [k0_off2_eq, hk]; try rfl) (k0_off2_inb k)
  have e1 : (VecWindow.window (s := S768x512) X41 (k0_off3 k) S48x512.size (k0_off3_inb k)) = (rows41 X41 h) := window_rows41 X41 h (k0_off3 k) (by rw [k0_off3_eq, hk]; try rfl) (k0_off3_inb k)
  have e2 : (VecWindow.window (s := S768x128) X14 (k0_off4 k) S48x128.size (k0_off4_inb k)) = (rows41 X14 h) := window_rows41 X14 h (k0_off4 k) (by rw [k0_off4_eq, hk]; try rfl) (k0_off4_inb k)
  rw [e0, e1, e2]

/-- Head loop 1: it leaves in each buffer it writes, at each head, what that head's trip computes. -/
theorem k0_t1_run (v126 : FVec Ideal S1x512 .f32) (X13 : Vec Ideal S3072x128 .f32) (X14 : Vec Ideal S768x128 .f32) (X41 : Vec Ideal S768x512 .f32)
    (K : Unit → sProp 𝕄) :
    iprop(ow c arg13 X13
        ∗ ow c arg14 X14
        ∗ ow c arg41 X41
        ∗ (∃ d, ow c arg25 d)
        ∗ (∃ d, ow c arg26 d)
        ∗ (iprop(ow c arg13 X13
            ∗ ow c arg14 X14
            ∗ ow c arg41 X41
            ∗ (∃ Y : Vec Ideal S1x16x48x512 .fp8e4m3, ⌜∀ h : Fin 16, ∀ r l, Y (ix4 0 h r l) = k0_pay4 v126 (rows13 X13 0 h) (rows41 X41 h) (rows41 X14 h) (ix4 0 0 r l)⌝ ∗ ow c arg25 Y)
            ∗ (∃ Y : Vec Ideal S1x16x512 .f32, ⌜∀ h : Fin 16, ∀ l, Y (ix3 0 h l) = k0_pay22 (k0_pay3 v126 (rows13 X13 0 h) (rows41 X41 h) (rows41 X14 h)) (ix3 0 0 l)⌝ ∗ ow c arg26 Y)) -∗ K ⟨⟩))
      ⊢ wp frame (wpE (defs₀ (F := Ideal)) Variants.none c none) E (Scf.Loop.for k0_t1_loop k0_t1_ok ⟨⟩ (k0_t1_body (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 v126)) K := by
  have hstep : ∀ (k : Fin k0_t1_loop.trips) (acc : Unit), (fun n _ => iprop(ow c arg13 X13 ∗ ow c arg14 X14 ∗ ow c arg41 X41 ∗ (∃ Y : Vec Ideal S1x16x48x512 .fp8e4m3, ⌜∀ h : Fin 16, h.val < n → ∀ r l, Y (ix4 0 h r l) = k0_pay4 v126 (rows13 X13 0 h) (rows41 X41 h) (rows41 X14 h) (ix4 0 0 r l)⌝ ∗ ow c arg25 Y) ∗ (∃ Y : Vec Ideal S1x16x512 .f32, ⌜∀ h : Fin 16, h.val < n → ∀ l, Y (ix3 0 h l) = k0_pay22 (k0_pay3 v126 (rows13 X13 0 h) (rows41 X41 h) (rows41 X14 h)) (ix3 0 0 l)⌝ ∗ ow c arg26 Y)) : ℕ → Unit → sProp 𝕄) k.val acc ⊢ wp frame (wpE (defs₀ (F := Ideal)) Variants.none (c : Thread nD τ) none) E (k0_t1_body (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 v126 k acc) ((fun n _ => iprop(ow c arg13 X13 ∗ ow c arg14 X14 ∗ ow c arg41 X41 ∗ (∃ Y : Vec Ideal S1x16x48x512 .fp8e4m3, ⌜∀ h : Fin 16, h.val < n → ∀ r l, Y (ix4 0 h r l) = k0_pay4 v126 (rows13 X13 0 h) (rows41 X41 h) (rows41 X14 h) (ix4 0 0 r l)⌝ ∗ ow c arg25 Y) ∗ (∃ Y : Vec Ideal S1x16x512 .f32, ⌜∀ h : Fin 16, h.val < n → ∀ l, Y (ix3 0 h l) = k0_pay22 (k0_pay3 v126 (rows13 X13 0 h) (rows41 X41 h) (rows41 X14 h)) (ix3 0 0 l)⌝ ∗ ow c arg26 Y)) : ℕ → Unit → sProp 𝕄) (k.val + 1)) := by
    intro k acc
    beta_reduce
    iintro ⟨H13, H14, H41, ⟨%Y25, %hY25, H25⟩, ⟨%Y26, %hY26, H26⟩⟩
    iapply (k0_t1_trip (c := c) (i := i) (E := E) v126 k acc X13 X14 X41 Y25 Y26)
    isplitl [H13]; · iexact H13
    isplitl [H14]; · iexact H14
    isplitl [H41]; · iexact H41
    isplitl [H25]; · iexact H25
    isplitl [H26]; · iexact H26
    iintro ⟨H13, H14, H41, ⟨%Z25, %hZ25, H25⟩, ⟨%Z26, %hZ26, H26⟩⟩
    isplitl [H13]; · iexact H13
    isplitl [H14]; · iexact H14
    isplitl [H41]; · iexact H41
    isplitl [H25]
    · iexists Z25; isplitr
      · ipureintro; intro h hh r l; subst hZ25
        refine (put_plane4 Y25 k.val (k0_off5 k) (k0_off5_eq k) _ h r l).trans ?_
        by_cases hk : h.val = k.val
        · rw [if_pos hk]; exact congrFun (k0_t1_pay25 v126 k h hk X13 X14 X41) (ix4 0 0 r l)
        · rw [if_neg hk]; exact hY25 h (by omega) r l
      iexact H25
    iexists Z26; isplitr
    · ipureintro; intro h hh l; subst hZ26
      refine (put_line3 Y26 k.val (k0_off6 k) (k0_off6_eq k) _ h l).trans ?_
      by_cases hk : h.val = k.val
      · rw [if_pos hk]; exact congrFun (k0_t1_pay26 v126 k h hk X13 X14 X41) (ix3 0 0 l)
      · rw [if_neg hk]; exact hY26 h (by omega) l
    iexact H26
  iintro ⟨H13, H14, H41, ⟨%d25, H25⟩, ⟨%d26, H26⟩, Hk⟩
  iapply (Scf.wp_for frame (wpE (defs₀ (F := Ideal)) Variants.none (c : Thread nD τ) none) E k0_t1_loop.lb k0_t1_loop.ub k0_t1_loop.st k0_t1_ok () (k0_t1_body (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 v126)
    (fun n _ => iprop(ow c arg13 X13 ∗ ow c arg14 X14 ∗ ow c arg41 X41 ∗ (∃ Y : Vec Ideal S1x16x48x512 .fp8e4m3, ⌜∀ h : Fin 16, h.val < n → ∀ r l, Y (ix4 0 h r l) = k0_pay4 v126 (rows13 X13 0 h) (rows41 X41 h) (rows41 X14 h) (ix4 0 0 r l)⌝ ∗ ow c arg25 Y) ∗ (∃ Y : Vec Ideal S1x16x512 .f32, ⌜∀ h : Fin 16, h.val < n → ∀ l, Y (ix3 0 h l) = k0_pay22 (k0_pay3 v126 (rows13 X13 0 h) (rows41 X41 h) (rows41 X14 h)) (ix3 0 0 l)⌝ ∗ ow c arg26 Y))) hstep)
  · isplitl [H13 H14 H41 H25 H26]
    · isplitl [H13]; · iexact H13
      isplitl [H14]; · iexact H14
      isplitl [H41]; · iexact H41
      isplitl [H25]
      · iexists d25; isplitr; · ipureintro; intro h hh; exact absurd hh (Nat.not_lt_zero _)
        iexact H25
      iexists d26; isplitr; · ipureintro; intro h hh; exact absurd hh (Nat.not_lt_zero _)
      iexact H26
    · iintro %acc ⟨H13, H14, H41, ⟨%Y25, %hY25, H25⟩, ⟨%Y26, %hY26, H26⟩⟩
      iapply Hk
      isplitl [H13]; · iexact H13
      isplitl [H14]; · iexact H14
      isplitl [H41]; · iexact H41
      isplitl [H25]
      · iexists Y25; isplitr; · ipureintro; exact fun h => hY25 h (h.isLt.trans_eq trips1.symm)
        iexact H25
      iexists Y26; isplitr; · ipureintro; exact fun h => hY26 h (h.isLt.trans_eq trips1.symm)
      iexact H26

/-- What trip `k` of head loop 2 puts into buffer 27, by head. -/
theorem k0_t2_pay27 (v126 : FVec Ideal S1x512 .f32) (k : Fin k0_t2_loop.trips) (h : Fin 16) (hk : h.val = k.val) (X13 : Vec Ideal S3072x128 .f32) (X41 : Vec Ideal S768x512 .f32) :
    k0_pay26 v126 (VecWindow.window (s := S3072x128) X13 (k0_off7 k) S48x128.size (k0_off7_inb k)) (VecWindow.window (s := S768x512) X41 (k0_off8 k) S48x512.size (k0_off8_inb k)) = k0_pay26 v126 (rows13 X13 1 h) (rows41 X41 h) := by
  have e0 : (VecWindow.window (s := S3072x128) X13 (k0_off7 k) S48x128.size (k0_off7_inb k)) = (rows13 X13 1 h) := window_rows13 X13 1 h (k0_off7 k) (by rw [k0_off7_eq, hk]; try rfl) (k0_off7_inb k)
  have e1 : (VecWindow.window (s := S768x512) X41 (k0_off8 k) S48x512.size (k0_off8_inb k)) = (rows41 X41 h) := window_rows41 X41 h (k0_off8 k) (by rw [k0_off8_eq, hk]; try rfl) (k0_off8_inb k)
  rw [e0, e1]

/-- What trip `k` of head loop 2 puts into buffer 28, by head. -/
theorem k0_t2_pay28 (v126 : FVec Ideal S1x512 .f32) (k : Fin k0_t2_loop.trips) (h : Fin 16) (hk : h.val = k.val) (X13 : Vec Ideal S3072x128 .f32) (X41 : Vec Ideal S768x512 .f32) :
    k0_pay27 v126 (VecWindow.window (s := S3072x128) X13 (k0_off7 k) S48x128.size (k0_off7_inb k)) (VecWindow.window (s := S768x512) X41 (k0_off8 k) S48x512.size (k0_off8_inb k)) = k0_pay27 v126 (rows13 X13 1 h) (rows41 X41 h) := by
  have e0 : (VecWindow.window (s := S3072x128) X13 (k0_off7 k) S48x128.size (k0_off7_inb k)) = (rows13 X13 1 h) := window_rows13 X13 1 h (k0_off7 k) (by rw [k0_off7_eq, hk]; try rfl) (k0_off7_inb k)
  have e1 : (VecWindow.window (s := S768x512) X41 (k0_off8 k) S48x512.size (k0_off8_inb k)) = (rows41 X41 h) := window_rows41 X41 h (k0_off8 k) (by rw [k0_off8_eq, hk]; try rfl) (k0_off8_inb k)
  rw [e0, e1]

/-- Head loop 2: it leaves in each buffer it writes, at each head, what that head's trip computes. -/
theorem k0_t2_run (v126 : FVec Ideal S1x512 .f32) (X13 : Vec Ideal S3072x128 .f32) (X41 : Vec Ideal S768x512 .f32)
    (K : Unit → sProp 𝕄) :
    iprop(ow c arg13 X13
        ∗ ow c arg41 X41
        ∗ (∃ d, ow c arg27 d)
        ∗ (∃ d, ow c arg28 d)
        ∗ (iprop(ow c arg13 X13
            ∗ ow c arg41 X41
            ∗ (∃ Y : Vec Ideal S1x16x48x512 .fp8e4m3, ⌜∀ h : Fin 16, ∀ r l, Y (ix4 0 h r l) = k0_pay26 v126 (rows13 X13 1 h) (rows41 X41 h) (ix4 0 0 r l)⌝ ∗ ow c arg27 Y)
            ∗ (∃ Y : Vec Ideal S1x16x512 .f32, ⌜∀ h : Fin 16, ∀ l, Y (ix3 0 h l) = k0_pay27 v126 (rows13 X13 1 h) (rows41 X41 h) (ix3 0 0 l)⌝ ∗ ow c arg28 Y)) -∗ K ⟨⟩))
      ⊢ wp frame (wpE (defs₀ (F := Ideal)) Variants.none c none) E (Scf.Loop.for k0_t2_loop k0_t2_ok ⟨⟩ (k0_t2_body (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 v126)) K := by
  have hstep : ∀ (k : Fin k0_t2_loop.trips) (acc : Unit), (fun n _ => iprop(ow c arg13 X13 ∗ ow c arg41 X41 ∗ (∃ Y : Vec Ideal S1x16x48x512 .fp8e4m3, ⌜∀ h : Fin 16, h.val < n → ∀ r l, Y (ix4 0 h r l) = k0_pay26 v126 (rows13 X13 1 h) (rows41 X41 h) (ix4 0 0 r l)⌝ ∗ ow c arg27 Y) ∗ (∃ Y : Vec Ideal S1x16x512 .f32, ⌜∀ h : Fin 16, h.val < n → ∀ l, Y (ix3 0 h l) = k0_pay27 v126 (rows13 X13 1 h) (rows41 X41 h) (ix3 0 0 l)⌝ ∗ ow c arg28 Y)) : ℕ → Unit → sProp 𝕄) k.val acc ⊢ wp frame (wpE (defs₀ (F := Ideal)) Variants.none (c : Thread nD τ) none) E (k0_t2_body (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 v126 k acc) ((fun n _ => iprop(ow c arg13 X13 ∗ ow c arg41 X41 ∗ (∃ Y : Vec Ideal S1x16x48x512 .fp8e4m3, ⌜∀ h : Fin 16, h.val < n → ∀ r l, Y (ix4 0 h r l) = k0_pay26 v126 (rows13 X13 1 h) (rows41 X41 h) (ix4 0 0 r l)⌝ ∗ ow c arg27 Y) ∗ (∃ Y : Vec Ideal S1x16x512 .f32, ⌜∀ h : Fin 16, h.val < n → ∀ l, Y (ix3 0 h l) = k0_pay27 v126 (rows13 X13 1 h) (rows41 X41 h) (ix3 0 0 l)⌝ ∗ ow c arg28 Y)) : ℕ → Unit → sProp 𝕄) (k.val + 1)) := by
    intro k acc
    beta_reduce
    iintro ⟨H13, H41, ⟨%Y27, %hY27, H27⟩, ⟨%Y28, %hY28, H28⟩⟩
    iapply (k0_t2_trip (c := c) (i := i) (E := E) v126 k acc X13 X41 Y27 Y28)
    isplitl [H13]; · iexact H13
    isplitl [H41]; · iexact H41
    isplitl [H27]; · iexact H27
    isplitl [H28]; · iexact H28
    iintro ⟨H13, H41, ⟨%Z27, %hZ27, H27⟩, ⟨%Z28, %hZ28, H28⟩⟩
    isplitl [H13]; · iexact H13
    isplitl [H41]; · iexact H41
    isplitl [H27]
    · iexists Z27; isplitr
      · ipureintro; intro h hh r l; subst hZ27
        refine (put_plane4 Y27 k.val (k0_off9 k) (k0_off9_eq k) _ h r l).trans ?_
        by_cases hk : h.val = k.val
        · rw [if_pos hk]; exact congrFun (k0_t2_pay27 v126 k h hk X13 X41) (ix4 0 0 r l)
        · rw [if_neg hk]; exact hY27 h (by omega) r l
      iexact H27
    iexists Z28; isplitr
    · ipureintro; intro h hh l; subst hZ28
      refine (put_line3 Y28 k.val (k0_off10 k) (k0_off10_eq k) _ h l).trans ?_
      by_cases hk : h.val = k.val
      · rw [if_pos hk]; exact congrFun (k0_t2_pay28 v126 k h hk X13 X41) (ix3 0 0 l)
      · rw [if_neg hk]; exact hY28 h (by omega) l
    iexact H28
  iintro ⟨H13, H41, ⟨%d27, H27⟩, ⟨%d28, H28⟩, Hk⟩
  iapply (Scf.wp_for frame (wpE (defs₀ (F := Ideal)) Variants.none (c : Thread nD τ) none) E k0_t2_loop.lb k0_t2_loop.ub k0_t2_loop.st k0_t2_ok () (k0_t2_body (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 v126)
    (fun n _ => iprop(ow c arg13 X13 ∗ ow c arg41 X41 ∗ (∃ Y : Vec Ideal S1x16x48x512 .fp8e4m3, ⌜∀ h : Fin 16, h.val < n → ∀ r l, Y (ix4 0 h r l) = k0_pay26 v126 (rows13 X13 1 h) (rows41 X41 h) (ix4 0 0 r l)⌝ ∗ ow c arg27 Y) ∗ (∃ Y : Vec Ideal S1x16x512 .f32, ⌜∀ h : Fin 16, h.val < n → ∀ l, Y (ix3 0 h l) = k0_pay27 v126 (rows13 X13 1 h) (rows41 X41 h) (ix3 0 0 l)⌝ ∗ ow c arg28 Y))) hstep)
  · isplitl [H13 H41 H27 H28]
    · isplitl [H13]; · iexact H13
      isplitl [H41]; · iexact H41
      isplitl [H27]
      · iexists d27; isplitr; · ipureintro; intro h hh; exact absurd hh (Nat.not_lt_zero _)
        iexact H27
      iexists d28; isplitr; · ipureintro; intro h hh; exact absurd hh (Nat.not_lt_zero _)
      iexact H28
    · iintro %acc ⟨H13, H41, ⟨%Y27, %hY27, H27⟩, ⟨%Y28, %hY28, H28⟩⟩
      iapply Hk
      isplitl [H13]; · iexact H13
      isplitl [H41]; · iexact H41
      isplitl [H27]
      · iexists Y27; isplitr; · ipureintro; exact fun h => hY27 h (h.isLt.trans_eq trips2.symm)
        iexact H27
      iexists Y28; isplitr; · ipureintro; exact fun h => hY28 h (h.isLt.trans_eq trips2.symm)
      iexact H28

/-- What trip `k` of head loop 3 puts into buffer 29, by head. -/
theorem k0_t3_pay29 (v126 : FVec Ideal S1x512 .f32) (k : Fin k0_t3_loop.trips) (h : Fin 16) (hk : h.val = k.val) (X13 : Vec Ideal S3072x128 .f32) (X41 : Vec Ideal S768x512 .f32) :
    k0_pay31 v126 (VecWindow.window (s := S3072x128) X13 (k0_off11 k) S48x128.size (k0_off11_inb k)) (VecWindow.window (s := S768x512) X41 (k0_off12 k) S48x512.size (k0_off12_inb k)) = k0_pay31 v126 (rows13 X13 2 h) (rows41 X41 h) := by
  have e0 : (VecWindow.window (s := S3072x128) X13 (k0_off11 k) S48x128.size (k0_off11_inb k)) = (rows13 X13 2 h) := window_rows13 X13 2 h (k0_off11 k) (by rw [k0_off11_eq, hk]; try rfl) (k0_off11_inb k)
  have e1 : (VecWindow.window (s := S768x512) X41 (k0_off12 k) S48x512.size (k0_off12_inb k)) = (rows41 X41 h) := window_rows41 X41 h (k0_off12 k) (by rw [k0_off12_eq, hk]; try rfl) (k0_off12_inb k)
  rw [e0, e1]

/-- What trip `k` of head loop 3 puts into buffer 30, by head. -/
theorem k0_t3_pay30 (v126 : FVec Ideal S1x512 .f32) (k : Fin k0_t3_loop.trips) (h : Fin 16) (hk : h.val = k.val) (X13 : Vec Ideal S3072x128 .f32) (X41 : Vec Ideal S768x512 .f32) :
    k0_pay32 v126 (VecWindow.window (s := S3072x128) X13 (k0_off11 k) S48x128.size (k0_off11_inb k)) (VecWindow.window (s := S768x512) X41 (k0_off12 k) S48x512.size (k0_off12_inb k)) = k0_pay32 v126 (rows13 X13 2 h) (rows41 X41 h) := by
  have e0 : (VecWindow.window (s := S3072x128) X13 (k0_off11 k) S48x128.size (k0_off11_inb k)) = (rows13 X13 2 h) := window_rows13 X13 2 h (k0_off11 k) (by rw [k0_off11_eq, hk]; try rfl) (k0_off11_inb k)
  have e1 : (VecWindow.window (s := S768x512) X41 (k0_off12 k) S48x512.size (k0_off12_inb k)) = (rows41 X41 h) := window_rows41 X41 h (k0_off12 k) (by rw [k0_off12_eq, hk]; try rfl) (k0_off12_inb k)
  rw [e0, e1]

/-- Head loop 3: it leaves in each buffer it writes, at each head, what that head's trip computes. -/
theorem k0_t3_run (v126 : FVec Ideal S1x512 .f32) (X13 : Vec Ideal S3072x128 .f32) (X41 : Vec Ideal S768x512 .f32)
    (K : Unit → sProp 𝕄) :
    iprop(ow c arg13 X13
        ∗ ow c arg41 X41
        ∗ (∃ d, ow c arg29 d)
        ∗ (∃ d, ow c arg30 d)
        ∗ (iprop(ow c arg13 X13
            ∗ ow c arg41 X41
            ∗ (∃ Y : Vec Ideal S1x16x48x512 .fp8e4m3, ⌜∀ h : Fin 16, ∀ r l, Y (ix4 0 h r l) = k0_pay31 v126 (rows13 X13 2 h) (rows41 X41 h) (ix4 0 0 r l)⌝ ∗ ow c arg29 Y)
            ∗ (∃ Y : Vec Ideal S1x16x512 .f32, ⌜∀ h : Fin 16, ∀ l, Y (ix3 0 h l) = k0_pay32 v126 (rows13 X13 2 h) (rows41 X41 h) (ix3 0 0 l)⌝ ∗ ow c arg30 Y)) -∗ K ⟨⟩))
      ⊢ wp frame (wpE (defs₀ (F := Ideal)) Variants.none c none) E (Scf.Loop.for k0_t3_loop k0_t3_ok ⟨⟩ (k0_t3_body (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 v126)) K := by
  have hstep : ∀ (k : Fin k0_t3_loop.trips) (acc : Unit), (fun n _ => iprop(ow c arg13 X13 ∗ ow c arg41 X41 ∗ (∃ Y : Vec Ideal S1x16x48x512 .fp8e4m3, ⌜∀ h : Fin 16, h.val < n → ∀ r l, Y (ix4 0 h r l) = k0_pay31 v126 (rows13 X13 2 h) (rows41 X41 h) (ix4 0 0 r l)⌝ ∗ ow c arg29 Y) ∗ (∃ Y : Vec Ideal S1x16x512 .f32, ⌜∀ h : Fin 16, h.val < n → ∀ l, Y (ix3 0 h l) = k0_pay32 v126 (rows13 X13 2 h) (rows41 X41 h) (ix3 0 0 l)⌝ ∗ ow c arg30 Y)) : ℕ → Unit → sProp 𝕄) k.val acc ⊢ wp frame (wpE (defs₀ (F := Ideal)) Variants.none (c : Thread nD τ) none) E (k0_t3_body (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 v126 k acc) ((fun n _ => iprop(ow c arg13 X13 ∗ ow c arg41 X41 ∗ (∃ Y : Vec Ideal S1x16x48x512 .fp8e4m3, ⌜∀ h : Fin 16, h.val < n → ∀ r l, Y (ix4 0 h r l) = k0_pay31 v126 (rows13 X13 2 h) (rows41 X41 h) (ix4 0 0 r l)⌝ ∗ ow c arg29 Y) ∗ (∃ Y : Vec Ideal S1x16x512 .f32, ⌜∀ h : Fin 16, h.val < n → ∀ l, Y (ix3 0 h l) = k0_pay32 v126 (rows13 X13 2 h) (rows41 X41 h) (ix3 0 0 l)⌝ ∗ ow c arg30 Y)) : ℕ → Unit → sProp 𝕄) (k.val + 1)) := by
    intro k acc
    beta_reduce
    iintro ⟨H13, H41, ⟨%Y29, %hY29, H29⟩, ⟨%Y30, %hY30, H30⟩⟩
    iapply (k0_t3_trip (c := c) (i := i) (E := E) v126 k acc X13 X41 Y29 Y30)
    isplitl [H13]; · iexact H13
    isplitl [H41]; · iexact H41
    isplitl [H29]; · iexact H29
    isplitl [H30]; · iexact H30
    iintro ⟨H13, H41, ⟨%Z29, %hZ29, H29⟩, ⟨%Z30, %hZ30, H30⟩⟩
    isplitl [H13]; · iexact H13
    isplitl [H41]; · iexact H41
    isplitl [H29]
    · iexists Z29; isplitr
      · ipureintro; intro h hh r l; subst hZ29
        refine (put_plane4 Y29 k.val (k0_off13 k) (k0_off13_eq k) _ h r l).trans ?_
        by_cases hk : h.val = k.val
        · rw [if_pos hk]; exact congrFun (k0_t3_pay29 v126 k h hk X13 X41) (ix4 0 0 r l)
        · rw [if_neg hk]; exact hY29 h (by omega) r l
      iexact H29
    iexists Z30; isplitr
    · ipureintro; intro h hh l; subst hZ30
      refine (put_line3 Y30 k.val (k0_off14 k) (k0_off14_eq k) _ h l).trans ?_
      by_cases hk : h.val = k.val
      · rw [if_pos hk]; exact congrFun (k0_t3_pay30 v126 k h hk X13 X41) (ix3 0 0 l)
      · rw [if_neg hk]; exact hY30 h (by omega) l
    iexact H30
  iintro ⟨H13, H41, ⟨%d29, H29⟩, ⟨%d30, H30⟩, Hk⟩
  iapply (Scf.wp_for frame (wpE (defs₀ (F := Ideal)) Variants.none (c : Thread nD τ) none) E k0_t3_loop.lb k0_t3_loop.ub k0_t3_loop.st k0_t3_ok () (k0_t3_body (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 v126)
    (fun n _ => iprop(ow c arg13 X13 ∗ ow c arg41 X41 ∗ (∃ Y : Vec Ideal S1x16x48x512 .fp8e4m3, ⌜∀ h : Fin 16, h.val < n → ∀ r l, Y (ix4 0 h r l) = k0_pay31 v126 (rows13 X13 2 h) (rows41 X41 h) (ix4 0 0 r l)⌝ ∗ ow c arg29 Y) ∗ (∃ Y : Vec Ideal S1x16x512 .f32, ⌜∀ h : Fin 16, h.val < n → ∀ l, Y (ix3 0 h l) = k0_pay32 v126 (rows13 X13 2 h) (rows41 X41 h) (ix3 0 0 l)⌝ ∗ ow c arg30 Y))) hstep)
  · isplitl [H13 H41 H29 H30]
    · isplitl [H13]; · iexact H13
      isplitl [H41]; · iexact H41
      isplitl [H29]
      · iexists d29; isplitr; · ipureintro; intro h hh; exact absurd hh (Nat.not_lt_zero _)
        iexact H29
      iexists d30; isplitr; · ipureintro; intro h hh; exact absurd hh (Nat.not_lt_zero _)
      iexact H30
    · iintro %acc ⟨H13, H41, ⟨%Y29, %hY29, H29⟩, ⟨%Y30, %hY30, H30⟩⟩
      iapply Hk
      isplitl [H13]; · iexact H13
      isplitl [H41]; · iexact H41
      isplitl [H29]
      · iexists Y29; isplitr; · ipureintro; exact fun h => hY29 h (h.isLt.trans_eq trips3.symm)
        iexact H29
      iexists Y30; isplitr; · ipureintro; exact fun h => hY30 h (h.isLt.trans_eq trips3.symm)
      iexact H30

/-- What trip `k` of head loop 4 puts into buffer 42, by head. -/
theorem k0_t4_pay42 (v126 : FVec Ideal S1x512 .f32) (k : Fin k0_t4_loop.trips) (h : Fin 16) (hk : h.val = k.val) (X13 : Vec Ideal S3072x128 .f32) (X41 : Vec Ideal S768x512 .f32) :
    k0_pay35 v126 (VecWindow.window (s := S3072x128) X13 (k0_off15 k) S48x128.size (k0_off15_inb k)) (VecWindow.window (s := S768x512) X41 (k0_off16 k) S48x512.size (k0_off16_inb k)) = k0_pay35 v126 (rows13 X13 3 h) (rows41 X41 h) := by
  have e0 : (VecWindow.window (s := S3072x128) X13 (k0_off15 k) S48x128.size (k0_off15_inb k)) = (rows13 X13 3 h) := window_rows13 X13 3 h (k0_off15 k) (by rw [k0_off15_eq, hk]; try rfl) (k0_off15_inb k)
  have e1 : (VecWindow.window (s := S768x512) X41 (k0_off16 k) S48x512.size (k0_off16_inb k)) = (rows41 X41 h) := window_rows41 X41 h (k0_off16 k) (by rw [k0_off16_eq, hk]; try rfl) (k0_off16_inb k)
  rw [e0, e1]

/-- Head loop 4: it leaves in each buffer it writes, at each head, what that head's trip computes. -/
theorem k0_t4_run (z : BitVec 32) (v126 : FVec Ideal S1x512 .f32) (v156 : FVec Ideal S768x512 .f32) (X13 : Vec Ideal S3072x128 .f32) (X41 : Vec Ideal S768x512 .f32)
    (K : Unit → sProp 𝕄) :
    iprop(ow c arg13 X13
        ∗ ow c arg41 X41
        ∗ (∃ d, ow c arg42 d)
        ∗ (iprop(ow c arg13 X13
            ∗ ow c arg41 X41
            ∗ (∃ Y : Vec Ideal S16x48x512 .f32, ⌜∀ h : Fin 16, ∀ r l, Y (ix3 h r l) = k0_pay35 v126 (rows13 X13 3 h) (rows41 X41 h) (ix3 0 r l)⌝ ∗ ow c arg42 Y)) -∗ K ⟨⟩))
      ⊢ wp frame (wpE (defs₀ (F := Ideal)) Variants.none c none) E (Scf.Loop.for k0_t4_loop k0_t4_ok ⟨⟩ (k0_t4_body (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 z v126 v156)) K := by
  have hstep : ∀ (k : Fin k0_t4_loop.trips) (acc : Unit), (fun n _ => iprop(ow c arg13 X13 ∗ ow c arg41 X41 ∗ (∃ Y : Vec Ideal S16x48x512 .f32, ⌜∀ h : Fin 16, h.val < n → ∀ r l, Y (ix3 h r l) = k0_pay35 v126 (rows13 X13 3 h) (rows41 X41 h) (ix3 0 r l)⌝ ∗ ow c arg42 Y)) : ℕ → Unit → sProp 𝕄) k.val acc ⊢ wp frame (wpE (defs₀ (F := Ideal)) Variants.none (c : Thread nD τ) none) E (k0_t4_body (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 z v126 v156 k acc) ((fun n _ => iprop(ow c arg13 X13 ∗ ow c arg41 X41 ∗ (∃ Y : Vec Ideal S16x48x512 .f32, ⌜∀ h : Fin 16, h.val < n → ∀ r l, Y (ix3 h r l) = k0_pay35 v126 (rows13 X13 3 h) (rows41 X41 h) (ix3 0 r l)⌝ ∗ ow c arg42 Y)) : ℕ → Unit → sProp 𝕄) (k.val + 1)) := by
    intro k acc
    beta_reduce
    iintro ⟨H13, H41, ⟨%Y42, %hY42, H42⟩⟩
    iapply (k0_t4_trip (c := c) (i := i) (E := E) z v126 v156 k acc X13 X41 Y42)
    isplitl [H13]; · iexact H13
    isplitl [H41]; · iexact H41
    isplitl [H42]; · iexact H42
    iintro ⟨H13, H41, ⟨%Z42, %hZ42, H42⟩⟩
    isplitl [H13]; · iexact H13
    isplitl [H41]; · iexact H41
    iexists Z42; isplitr
    · ipureintro; intro h hh r l; subst hZ42
      refine (put_plane3 Y42 k.val (k0_off17 k) (k0_off17_eq k) _ h r l).trans ?_
      by_cases hk : h.val = k.val
      · rw [if_pos hk]; exact congrFun (k0_t4_pay42 v126 k h hk X13 X41) (ix3 0 r l)
      · rw [if_neg hk]; exact hY42 h (by omega) r l
    iexact H42
  iintro ⟨H13, H41, ⟨%d42, H42⟩, Hk⟩
  iapply (Scf.wp_for frame (wpE (defs₀ (F := Ideal)) Variants.none (c : Thread nD τ) none) E k0_t4_loop.lb k0_t4_loop.ub k0_t4_loop.st k0_t4_ok () (k0_t4_body (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 z v126 v156)
    (fun n _ => iprop(ow c arg13 X13 ∗ ow c arg41 X41 ∗ (∃ Y : Vec Ideal S16x48x512 .f32, ⌜∀ h : Fin 16, h.val < n → ∀ r l, Y (ix3 h r l) = k0_pay35 v126 (rows13 X13 3 h) (rows41 X41 h) (ix3 0 r l)⌝ ∗ ow c arg42 Y))) hstep)
  · isplitl [H13 H41 H42]
    · isplitl [H13]; · iexact H13
      isplitl [H41]; · iexact H41
      iexists d42; isplitr; · ipureintro; intro h hh; exact absurd hh (Nat.not_lt_zero _)
      iexact H42
    · iintro %acc ⟨H13, H41, ⟨%Y42, %hY42, H42⟩⟩
      iapply Hk
      isplitl [H13]; · iexact H13
      isplitl [H41]; · iexact H41
      iexists Y42; isplitr; · ipureintro; exact fun h => hY42 h (h.isLt.trans_eq trips4.symm)
      iexact H42

/-- What trip `k` of head loop 5 puts into buffer 43, by head. -/
theorem k0_t5_pay43 (v126 : FVec Ideal S1x512 .f32) (k : Fin k0_t5_loop.trips) (h : Fin 16) (hk : h.val = k.val) (X3 : Vec Ideal S16x416x512 .f32) (X25 : Vec Ideal S1x16x48x512 .fp8e4m3) (X26 : Vec Ideal S1x16x512 .f32) (X27 : Vec Ideal S1x16x48x512 .fp8e4m3) (X28 : Vec Ideal S1x16x512 .f32) (X29 : Vec Ideal S1x16x48x512 .fp8e4m3) (X30 : Vec Ideal S1x16x512 .f32) (X42 : Vec Ideal S16x48x512 .f32) :
    k0_pay36 (k0_pay5 (VecWindow.window (s := S1x16x48x512) X27 (k0_off18 k) S1x1x48x512.size (k0_off18_inb k)) (VecWindow.window (s := S1x16x48x512) X25 (k0_off18 k) S1x1x48x512.size (k0_off18_inb k)) (VecWindow.window (s := S1x16x512) X26 (k0_off19 k) S1x1x512.size (k0_off19_inb k)) (VecWindow.window (s := S1x16x512) X28 (k0_off19 k) S1x1x512.size (k0_off19_inb k)) (VecWindow.window (s := S16x416x512) X3 (k0_off20 k) S1x416x512.size (k0_off20_inb k))) (k0_pay6 (VecWindow.window (s := S1x16x48x512) X27 (k0_off18 k) S1x1x48x512.size (k0_off18_inb k)) (VecWindow.window (s := S1x16x48x512) X25 (k0_off18 k) S1x1x48x512.size (k0_off18_inb k)) (VecWindow.window (s := S1x16x512) X26 (k0_off19 k) S1x1x512.size (k0_off19_inb k)) (VecWindow.window (s := S1x16x512) X28 (k0_off19 k) S1x1x512.size (k0_off19_inb k)) (VecWindow.window (s := S16x416x512) X3 (k0_off20 k) S1x416x512.size (k0_off20_inb k))) (k0_pay7 (VecWindow.window (s := S1x16x512) X30 (k0_off19 k) S1x1x512.size (k0_off19_inb k))) (VecWindow.window (s := S1x16x48x512) X29 (k0_off18 k) S1x1x48x512.size (k0_off18_inb k)) (VecWindow.window (s := S16x48x512) X42 (k0_off21 k) S1x48x512.size (k0_off21_inb k)) = k0_pay36 (k0_pay5 (plane4 X27 h) (plane4 X25 h) (line3 X26 h) (line3 X28 h) (plane3 X3 h)) (k0_pay6 (plane4 X27 h) (plane4 X25 h) (line3 X26 h) (line3 X28 h) (plane3 X3 h)) (k0_pay7 (line3 X30 h)) (plane4 X29 h) (plane3 X42 h) := by
  have e0 : (VecWindow.window (s := S1x16x48x512) X27 (k0_off18 k) S1x1x48x512.size (k0_off18_inb k)) = (plane4 X27 h) := window_plane4 X27 h (k0_off18 k) (by rw [k0_off18_eq, hk]; try rfl) (k0_off18_inb k)
  have e1 : (VecWindow.window (s := S1x16x48x512) X25 (k0_off18 k) S1x1x48x512.size (k0_off18_inb k)) = (plane4 X25 h) := window_plane4 X25 h (k0_off18 k) (by rw [k0_off18_eq, hk]; try rfl) (k0_off18_inb k)
  have e2 : (VecWindow.window (s := S1x16x512) X26 (k0_off19 k) S1x1x512.size (k0_off19_inb k)) = (line3 X26 h) := window_line3 X26 h (k0_off19 k) (by rw [k0_off19_eq, hk]; try rfl) (k0_off19_inb k)
  have e3 : (VecWindow.window (s := S1x16x512) X28 (k0_off19 k) S1x1x512.size (k0_off19_inb k)) = (line3 X28 h) := window_line3 X28 h (k0_off19 k) (by rw [k0_off19_eq, hk]; try rfl) (k0_off19_inb k)
  have e4 : (VecWindow.window (s := S16x416x512) X3 (k0_off20 k) S1x416x512.size (k0_off20_inb k)) = (plane3 X3 h) := window_plane3 X3 h (k0_off20 k) (by rw [k0_off20_eq, hk]; try rfl) (k0_off20_inb k)
  have e5 : (VecWindow.window (s := S1x16x512) X30 (k0_off19 k) S1x1x512.size (k0_off19_inb k)) = (line3 X30 h) := window_line3 X30 h (k0_off19 k) (by rw [k0_off19_eq, hk]; try rfl) (k0_off19_inb k)
  have e6 : (VecWindow.window (s := S1x16x48x512) X29 (k0_off18 k) S1x1x48x512.size (k0_off18_inb k)) = (plane4 X29 h) := window_plane4 X29 h (k0_off18 k) (by rw [k0_off18_eq, hk]; try rfl) (k0_off18_inb k)
  have e7 : (VecWindow.window (s := S16x48x512) X42 (k0_off21 k) S1x48x512.size (k0_off21_inb k)) = (plane3 X42 h) := window_plane3 X42 h (k0_off21 k) (by rw [k0_off21_eq, hk]; try rfl) (k0_off21_inb k)
  rw [e0, e1, e2, e3, e4, e5, e6, e7]

/-- Head loop 5: it leaves in each buffer it writes, at each head, what that head's trip computes. -/
theorem k0_t5_run (z : BitVec 32) (v126 : FVec Ideal S1x512 .f32) (v156 : FVec Ideal S768x512 .f32) (X3 : Vec Ideal S16x416x512 .f32) (X25 : Vec Ideal S1x16x48x512 .fp8e4m3) (X26 : Vec Ideal S1x16x512 .f32) (X27 : Vec Ideal S1x16x48x512 .fp8e4m3) (X28 : Vec Ideal S1x16x512 .f32) (X29 : Vec Ideal S1x16x48x512 .fp8e4m3) (X30 : Vec Ideal S1x16x512 .f32) (X42 : Vec Ideal S16x48x512 .f32)
    (K : Unit → sProp 𝕄) :
    iprop(ow c arg3 X3
        ∗ ow c arg25 X25
        ∗ ow c arg26 X26
        ∗ ow c arg27 X27
        ∗ ow c arg28 X28
        ∗ ow c arg29 X29
        ∗ ow c arg30 X30
        ∗ ow c arg42 X42
        ∗ (∃ d, ow c arg43 d)
        ∗ (iprop(ow c arg3 X3
            ∗ ow c arg25 X25
            ∗ ow c arg26 X26
            ∗ ow c arg27 X27
            ∗ ow c arg28 X28
            ∗ ow c arg29 X29
            ∗ ow c arg30 X30
            ∗ ow c arg42 X42
            ∗ (∃ Y : Vec Ideal S16x48x512 .f32, ⌜∀ h : Fin 16, ∀ r l, Y (ix3 h r l) = k0_pay36 (k0_pay5 (plane4 X27 h) (plane4 X25 h) (line3 X26 h) (line3 X28 h) (plane3 X3 h)) (k0_pay6 (plane4 X27 h) (plane4 X25 h) (line3 X26 h) (line3 X28 h) (plane3 X3 h)) (k0_pay7 (line3 X30 h)) (plane4 X29 h) (plane3 X42 h) (ix3 0 r l)⌝ ∗ ow c arg43 Y)) -∗ K ⟨⟩))
      ⊢ wp frame (wpE (defs₀ (F := Ideal)) Variants.none c none) E (Scf.Loop.for k0_t5_loop k0_t5_ok ⟨⟩ (k0_t5_body (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 z v126 v156)) K := by
  have hstep : ∀ (k : Fin k0_t5_loop.trips) (acc : Unit), (fun n _ => iprop(ow c arg3 X3 ∗ ow c arg25 X25 ∗ ow c arg26 X26 ∗ ow c arg27 X27 ∗ ow c arg28 X28 ∗ ow c arg29 X29 ∗ ow c arg30 X30 ∗ ow c arg42 X42 ∗ (∃ Y : Vec Ideal S16x48x512 .f32, ⌜∀ h : Fin 16, h.val < n → ∀ r l, Y (ix3 h r l) = k0_pay36 (k0_pay5 (plane4 X27 h) (plane4 X25 h) (line3 X26 h) (line3 X28 h) (plane3 X3 h)) (k0_pay6 (plane4 X27 h) (plane4 X25 h) (line3 X26 h) (line3 X28 h) (plane3 X3 h)) (k0_pay7 (line3 X30 h)) (plane4 X29 h) (plane3 X42 h) (ix3 0 r l)⌝ ∗ ow c arg43 Y)) : ℕ → Unit → sProp 𝕄) k.val acc ⊢ wp frame (wpE (defs₀ (F := Ideal)) Variants.none (c : Thread nD τ) none) E (k0_t5_body (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 z v126 v156 k acc) ((fun n _ => iprop(ow c arg3 X3 ∗ ow c arg25 X25 ∗ ow c arg26 X26 ∗ ow c arg27 X27 ∗ ow c arg28 X28 ∗ ow c arg29 X29 ∗ ow c arg30 X30 ∗ ow c arg42 X42 ∗ (∃ Y : Vec Ideal S16x48x512 .f32, ⌜∀ h : Fin 16, h.val < n → ∀ r l, Y (ix3 h r l) = k0_pay36 (k0_pay5 (plane4 X27 h) (plane4 X25 h) (line3 X26 h) (line3 X28 h) (plane3 X3 h)) (k0_pay6 (plane4 X27 h) (plane4 X25 h) (line3 X26 h) (line3 X28 h) (plane3 X3 h)) (k0_pay7 (line3 X30 h)) (plane4 X29 h) (plane3 X42 h) (ix3 0 r l)⌝ ∗ ow c arg43 Y)) : ℕ → Unit → sProp 𝕄) (k.val + 1)) := by
    intro k acc
    beta_reduce
    iintro ⟨H3, H25, H26, H27, H28, H29, H30, H42, ⟨%Y43, %hY43, H43⟩⟩
    iapply (k0_t5_trip (c := c) (i := i) (E := E) z v126 v156 k acc X3 X25 X26 X27 X28 X29 X30 X42 Y43)
    isplitl [H3]; · iexact H3
    isplitl [H25]; · iexact H25
    isplitl [H26]; · iexact H26
    isplitl [H27]; · iexact H27
    isplitl [H28]; · iexact H28
    isplitl [H29]; · iexact H29
    isplitl [H30]; · iexact H30
    isplitl [H42]; · iexact H42
    isplitl [H43]; · iexact H43
    iintro ⟨H3, H25, H26, H27, H28, H29, H30, H42, ⟨%Z43, %hZ43, H43⟩⟩
    isplitl [H3]; · iexact H3
    isplitl [H25]; · iexact H25
    isplitl [H26]; · iexact H26
    isplitl [H27]; · iexact H27
    isplitl [H28]; · iexact H28
    isplitl [H29]; · iexact H29
    isplitl [H30]; · iexact H30
    isplitl [H42]; · iexact H42
    iexists Z43; isplitr
    · ipureintro; intro h hh r l; subst hZ43
      refine (put_plane3 Y43 k.val (k0_off21 k) (k0_off21_eq k) _ h r l).trans ?_
      by_cases hk : h.val = k.val
      · rw [if_pos hk]; exact congrFun (k0_t5_pay43 v126 k h hk X3 X25 X26 X27 X28 X29 X30 X42) (ix3 0 r l)
      · rw [if_neg hk]; exact hY43 h (by omega) r l
    iexact H43
  iintro ⟨H3, H25, H26, H27, H28, H29, H30, H42, ⟨%d43, H43⟩, Hk⟩
  iapply (Scf.wp_for frame (wpE (defs₀ (F := Ideal)) Variants.none (c : Thread nD τ) none) E k0_t5_loop.lb k0_t5_loop.ub k0_t5_loop.st k0_t5_ok () (k0_t5_body (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 z v126 v156)
    (fun n _ => iprop(ow c arg3 X3 ∗ ow c arg25 X25 ∗ ow c arg26 X26 ∗ ow c arg27 X27 ∗ ow c arg28 X28 ∗ ow c arg29 X29 ∗ ow c arg30 X30 ∗ ow c arg42 X42 ∗ (∃ Y : Vec Ideal S16x48x512 .f32, ⌜∀ h : Fin 16, h.val < n → ∀ r l, Y (ix3 h r l) = k0_pay36 (k0_pay5 (plane4 X27 h) (plane4 X25 h) (line3 X26 h) (line3 X28 h) (plane3 X3 h)) (k0_pay6 (plane4 X27 h) (plane4 X25 h) (line3 X26 h) (line3 X28 h) (plane3 X3 h)) (k0_pay7 (line3 X30 h)) (plane4 X29 h) (plane3 X42 h) (ix3 0 r l)⌝ ∗ ow c arg43 Y))) hstep)
  · isplitl [H3 H25 H26 H27 H28 H29 H30 H42 H43]
    · isplitl [H3]; · iexact H3
      isplitl [H25]; · iexact H25
      isplitl [H26]; · iexact H26
      isplitl [H27]; · iexact H27
      isplitl [H28]; · iexact H28
      isplitl [H29]; · iexact H29
      isplitl [H30]; · iexact H30
      isplitl [H42]; · iexact H42
      iexists d43; isplitr; · ipureintro; intro h hh; exact absurd hh (Nat.not_lt_zero _)
      iexact H43
    · iintro %acc ⟨H3, H25, H26, H27, H28, H29, H30, H42, ⟨%Y43, %hY43, H43⟩⟩
      iapply Hk
      isplitl [H3]; · iexact H3
      isplitl [H25]; · iexact H25
      isplitl [H26]; · iexact H26
      isplitl [H27]; · iexact H27
      isplitl [H28]; · iexact H28
      isplitl [H29]; · iexact H29
      isplitl [H30]; · iexact H30
      isplitl [H42]; · iexact H42
      iexists Y43; isplitr; · ipureintro; exact fun h => hY43 h (h.isLt.trans_eq trips5.symm)
      iexact H43

end Cert.KernelIdeal.Hand

end
-- ==== Proof.RunEF.lean ====
module

public import proofs.«01_k».proof.Proof.HeadLoops

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

local notation "𝕄" => MT nD τ sig Unit (Elt Ideal) ℕ (UR sig nD τ) ℕ

variable {c : Dev nD} {i : grid0.Coords}
variable {arg1 : Memref sig .tc .vmem S1x512x768 .bf16} {harg1 : arg1.IsWhole}
variable {arg2 : Memref sig .tc .vmem S1x512x384 .bf16} {harg2 : arg2.IsWhole}
variable {arg3 : Memref sig .tc .vmem S16x416x512 .f32} {harg3 : arg3.IsWhole}
variable {arg4 : Memref sig .tc .vmem S1x384 .f32} {harg4 : arg4.IsWhole}
variable {arg5 : Memref sig .tc .vmem S1x384 .f32} {harg5 : arg5.IsWhole}
variable {arg6 : Memref sig .tc .vmem S384x1536 .bf16} {harg6 : arg6.IsWhole}
variable {arg7 : Memref sig .tc .vmem S1x768 .f32} {harg7 : arg7.IsWhole}
variable {arg8 : Memref sig .tc .vmem S384x1536 .bf16} {harg8 : arg8.IsWhole}
variable {arg9 : Memref sig .tc .vmem S1x768 .f32} {harg9 : arg9.IsWhole}
variable {arg10 : Memref sig .tc .vmem S384x1536 .bf16} {harg10 : arg10.IsWhole}
variable {arg11 : Memref sig .tc .vmem S2x768 .f32} {harg11 : arg11.IsWhole}
variable {arg12 : Memref sig .tc .vmem S3072x768 .fp8e4m3} {harg12 : arg12.IsWhole}
variable {arg13 : Memref sig .tc .vmem S3072x128 .f32} {harg13 : arg13.IsWhole}
variable {arg14 : Memref sig .tc .vmem S768x128 .f32} {harg14 : arg14.IsWhole}
variable {arg15 : Memref sig .tc .vmem S768x768 .fp8e4m3} {harg15 : arg15.IsWhole}
variable {arg16 : Memref sig .tc .vmem S1x768 .f32} {harg16 : arg16.IsWhole}
variable {arg17 : Memref sig .tc .vmem S2x768x1536 .fp8e4m3} {harg17 : arg17.IsWhole}
variable {arg18 : Memref sig .tc .vmem S2x1536 .f32} {harg18 : arg18.IsWhole}
variable {arg19 : Memref sig .tc .vmem S1536x768 .fp8e4m3} {harg19 : arg19.IsWhole}
variable {arg20 : Memref sig .tc .vmem S1x768 .f32} {harg20 : arg20.IsWhole}
variable {arg21 : Memref sig .tc .vmem S1x512x768 .bf16} {harg21 : arg21.IsWhole}
variable {arg22 : Memref sig .tc .vmem S1x512x768 .f32} {harg22 : arg22.IsWhole}
variable {arg23 : Memref sig .tc .vmem S1x512x768 .fp8e4m3} {harg23 : arg23.IsWhole}
variable {arg24 : Memref sig .tc .vmem S25x512 .f32} {harg24 : arg24.IsWhole}
variable {arg25 : Memref sig .tc .vmem S1x16x48x512 .fp8e4m3} {harg25 : arg25.IsWhole}
variable {arg26 : Memref sig .tc .vmem S1x16x512 .f32} {harg26 : arg26.IsWhole}
variable {arg27 : Memref sig .tc .vmem S1x16x48x512 .fp8e4m3} {harg27 : arg27.IsWhole}
variable {arg28 : Memref sig .tc .vmem S1x16x512 .f32} {harg28 : arg28.IsWhole}
variable {arg29 : Memref sig .tc .vmem S1x16x48x512 .fp8e4m3} {harg29 : arg29.IsWhole}
variable {arg30 : Memref sig .tc .vmem S1x16x512 .f32} {harg30 : arg30.IsWhole}
variable {arg31 : Memref sig .tc .vmem S1x16x48x512 .fp8e4m3} {harg31 : arg31.IsWhole}
variable {arg32 : Memref sig .tc .vmem S25x512 .f32} {harg32 : arg32.IsWhole}
variable {arg33 : Memref sig .tc .vmem S1x512x768 .fp8e4m3} {harg33 : arg33.IsWhole}
variable {arg34 : Memref sig .tc .vmem S25x512 .f32} {harg34 : arg34.IsWhole}
variable {arg35 : Memref sig .tc .vmem S1x512x1536 .fp8e4m3} {harg35 : arg35.IsWhole}
variable {arg36 : Memref sig .tc .vmem S25x512 .f32} {harg36 : arg36.IsWhole}
variable {arg37 : Memref sig .tc .vmem S512x384 .bf16} {harg37 : arg37.IsWhole}
variable {arg38 : Memref sig .tc .vmem S512x384 .bf16} {harg38 : arg38.IsWhole}
variable {arg39 : Memref sig .tc .vmem S512x768 .f32} {harg39 : arg39.IsWhole}
variable {arg40 : Memref sig .tc .vmem S512x768 .f32} {harg40 : arg40.IsWhole}
variable {arg41 : Memref sig .tc .vmem S768x512 .f32} {harg41 : arg41.IsWhole}
variable {arg42 : Memref sig .tc .vmem S16x48x512 .f32} {harg42 : arg42.IsWhole}
variable {arg43 : Memref sig .tc .vmem S16x48x512 .f32} {harg43 : arg43.IsWhole}
variable {arg44 : Memref sig .tc .vmem S512x1536 .f32} {harg44 : arg44.IsWhole}
variable {E : Set ℕ}

set_option maxHeartbeats 2000000 in
/-- What `k0_part7` leaves in the buffers it writes, and what it returns, from what it reads. -/
theorem k0_part7_run (v126 : FVec Ideal S1x512 .f32) (X12 : Vec Ideal S3072x768 .fp8e4m3) (X13 : Vec Ideal S3072x128 .f32) (X14 : Vec Ideal S768x128 .f32) (X23 : Vec Ideal S1x512x768 .fp8e4m3) (X41 : Vec Ideal S768x512 .f32)
    (K : FVec Ideal S768x512 .f32 → sProp 𝕄) :
    iprop(ow c arg12 X12 ∗ ow c arg13 X13 ∗ ow c arg14 X14 ∗ ow c arg23 X23 ∗ ow c arg41 X41
        ∗ (∃ d, ow c arg25 d) ∗ (∃ d, ow c arg26 d) ∗ (∃ d, ow c arg27 d) ∗ (∃ d, ow c arg28 d) ∗ (∃ d, ow c arg29 d) ∗ (∃ d, ow c arg30 d)
        ∗ (iprop(ow c arg12 X12 ∗ ow c arg13 X13 ∗ ow c arg14 X14 ∗ ow c arg23 X23 ∗ ow c arg41 (k0_pay28 (VecWindow.window (s := S3072x768) X12 ![1536, 0] S768x768.size inb_S3072x768_S768x768_1536_0) X23)
            ∗ (∃ Y : Vec Ideal S1x16x48x512 .fp8e4m3, ⌜∀ h : Fin 16, ∀ r l, Y (ix4 0 h r l) = k0_pay4 v126 (rows13 X13 0 h) (rows41 X41 h) (rows41 X14 h) (ix4 0 0 r l)⌝ ∗ ow c arg25 Y)
            ∗ (∃ Y : Vec Ideal S1x16x512 .f32, ⌜∀ h : Fin 16, ∀ l, Y (ix3 0 h l) = k0_pay22 (k0_pay3 v126 (rows13 X13 0 h) (rows41 X41 h) (rows41 X14 h)) (ix3 0 0 l)⌝ ∗ ow c arg26 Y)
            ∗ (∃ Y : Vec Ideal S1x16x48x512 .fp8e4m3, ⌜∀ h : Fin 16, ∀ r l, Y (ix4 0 h r l) = k0_pay26 v126 (rows13 X13 1 h) (rows41 (k0_pay23 (VecWindow.window (s := S3072x768) X12 ![768, 0] S768x768.size inb_S3072x768_S768x768_768_0) X23) h) (ix4 0 0 r l)⌝ ∗ ow c arg27 Y)
            ∗ (∃ Y : Vec Ideal S1x16x512 .f32, ⌜∀ h : Fin 16, ∀ l, Y (ix3 0 h l) = k0_pay27 v126 (rows13 X13 1 h) (rows41 (k0_pay23 (VecWindow.window (s := S3072x768) X12 ![768, 0] S768x768.size inb_S3072x768_S768x768_768_0) X23) h) (ix3 0 0 l)⌝ ∗ ow c arg28 Y)
            ∗ (∃ Y : Vec Ideal S1x16x48x512 .fp8e4m3, ⌜∀ h : Fin 16, ∀ r l, Y (ix4 0 h r l) = k0_pay31 v126 (rows13 X13 2 h) (rows41 (k0_pay28 (VecWindow.window (s := S3072x768) X12 ![1536, 0] S768x768.size inb_S3072x768_S768x768_1536_0) X23) h) (ix4 0 0 r l)⌝ ∗ ow c arg29 Y)
            ∗ (∃ Y : Vec Ideal S1x16x512 .f32, ⌜∀ h : Fin 16, ∀ l, Y (ix3 0 h l) = k0_pay32 v126 (rows13 X13 2 h) (rows41 (k0_pay28 (VecWindow.window (s := S3072x768) X12 ![1536, 0] S768x768.size inb_S3072x768_S768x768_1536_0) X23) h) (ix3 0 0 l)⌝ ∗ ow c arg30 Y)) -∗ K (k0_pay33 (VecWindow.window (s := S3072x768) X12 ![2304, 0] S768x768.size inb_S3072x768_S768x768_2304_0) X23)))
      ⊢ wp frame (wpE (defs₀ (F := Ideal)) Variants.none c none) E (k0_part7 (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 v126) K := by
  simp only [k0_part7_eq_skeleton]; unfold k0_part7_skel
  try unfold ow owns
  iintro ⟨H12, H13, H14, H23, H41, H25, H26, H27, H28, H29, H30, Hk⟩
  rw [wp_bind]
  iapply (k0_t1_run (c := c) (i := i) (E := E) v126 X13 X14 X41)
  try unfold ow owns
  isplitl [H13]; · iexact H13
  isplitl [H14]; · iexact H14
  isplitl [H41]; · iexact H41
  isplitl [H25]; · iexact H25
  isplitl [H26]; · iexact H26
  iintro ⟨H13, H14, H41, H25, H26⟩
  try unfold ow owns
  icases H12 with ⟨%f12, %hf12, H12⟩
  icases H23 with ⟨%f23, %hf23, H23⟩
  icases H41 with ⟨%f41, %hf41, H41⟩
  obtain rfl := harg12.eq_unread hf12; obtain rfl := harg23.eq_unread hf23; obtain rfl := harg41.eq_unread hf41
  sl_exec
  rw [wp_bind]
  iapply (k0_t2_run (c := c) (i := i) (E := E) v126 X13 (k0_pay23 (VecWindow.window (s := S3072x768) X12 ![768, 0] S768x768.size inb_S3072x768_S768x768_768_0) X23))
  try unfold ow owns
  isplitl [H13]; · iexact H13
  isplitl [H41]
  · iexists _; isplitr; swap; · iexact H41
    ipureintro
    try delta k0_part7_run.sl.H41_1
    try delta k0_part7_run.sl.H41_1_1
    try delta k0_part8_run.sl.H41_1
    simp (proj := false) only [readCov_eq_readAt, readAt_win, View.read_writes_cons_put _ _ _ _ _ rfl, View.writes_nil, Memref.IsWhole.read_unread, wf_S1536x768, pf_S1536x768, wf_S16x416x512, pf_S16x416x512, wf_S16x48x512, pf_S16x48x512, wf_S1x16x48x512, pf_S1x16x48x512, wf_S1x16x512, pf_S1x16x512, wf_S1x384, pf_S1x384, wf_S1x512x1536, pf_S1x512x1536, wf_S1x512x384, pf_S1x512x384, wf_S1x512x768, pf_S1x512x768, wf_S1x768, pf_S1x768, wf_S25x512, pf_S25x512, wf_S2x1536, pf_S2x1536, wf_S2x768, pf_S2x768, wf_S2x768x1536, pf_S2x768x1536, wf_S3072x128, pf_S3072x128, wf_S3072x768, pf_S3072x768, wf_S384x1536, pf_S384x1536, wf_S512x1536, pf_S512x1536, wf_S512x384, pf_S512x384, wf_S512x768, pf_S512x768, wf_S768x128, pf_S768x128, wf_S768x512, pf_S768x512, wf_S768x768, pf_S768x768]
  isplitl [H27]; · iexact H27
  isplitl [H28]; · iexact H28
  iintro ⟨H13, H41, H27, H28⟩
  try unfold ow owns
  icases H41 with ⟨%f41, %hf41, H41⟩
  obtain rfl := harg41.eq_unread hf41
  sl_exec
  rw [wp_bind]
  iapply (k0_t3_run (c := c) (i := i) (E := E) v126 X13 (k0_pay28 (VecWindow.window (s := S3072x768) X12 ![1536, 0] S768x768.size inb_S3072x768_S768x768_1536_0) X23))
  try unfold ow owns
  isplitl [H13]; · iexact H13
  isplitl [H41]
  · iexists _; isplitr; swap; · iexact H41
    ipureintro
    try delta k0_part7_run.sl.H41_1
    try delta k0_part7_run.sl.H41_1_1
    try delta k0_part8_run.sl.H41_1
    simp (proj := false) only [readCov_eq_readAt, readAt_win, View.read_writes_cons_put _ _ _ _ _ rfl, View.writes_nil, Memref.IsWhole.read_unread, wf_S1536x768, pf_S1536x768, wf_S16x416x512, pf_S16x416x512, wf_S16x48x512, pf_S16x48x512, wf_S1x16x48x512, pf_S1x16x48x512, wf_S1x16x512, pf_S1x16x512, wf_S1x384, pf_S1x384, wf_S1x512x1536, pf_S1x512x1536, wf_S1x512x384, pf_S1x512x384, wf_S1x512x768, pf_S1x512x768, wf_S1x768, pf_S1x768, wf_S25x512, pf_S25x512, wf_S2x1536, pf_S2x1536, wf_S2x768, pf_S2x768, wf_S2x768x1536, pf_S2x768x1536, wf_S3072x128, pf_S3072x128, wf_S3072x768, pf_S3072x768, wf_S384x1536, pf_S384x1536, wf_S512x1536, pf_S512x1536, wf_S512x384, pf_S512x384, wf_S512x768, pf_S512x768, wf_S768x128, pf_S768x128, wf_S768x512, pf_S768x512, wf_S768x768, pf_S768x768]
  isplitl [H29]; · iexact H29
  isplitl [H30]; · iexact H30
  iintro ⟨H13, H41, H29, H30⟩
  try unfold ow owns
  sl_exec
  sl_step
  try simp (proj := false) only [readCov_eq_readAt, readAt_win, View.read_writes_cons_put _ _ _ _ _ rfl, View.writes_nil, Memref.IsWhole.read_unread, wf_S1536x768, pf_S1536x768, wf_S16x416x512, pf_S16x416x512, wf_S16x48x512, pf_S16x48x512, wf_S1x16x48x512, pf_S1x16x48x512, wf_S1x16x512, pf_S1x16x512, wf_S1x384, pf_S1x384, wf_S1x512x1536, pf_S1x512x1536, wf_S1x512x384, pf_S1x512x384, wf_S1x512x768, pf_S1x512x768, wf_S1x768, pf_S1x768, wf_S25x512, pf_S25x512, wf_S2x1536, pf_S2x1536, wf_S2x768, pf_S2x768, wf_S2x768x1536, pf_S2x768x1536, wf_S3072x128, pf_S3072x128, wf_S3072x768, pf_S3072x768, wf_S384x1536, pf_S384x1536, wf_S512x1536, pf_S512x1536, wf_S512x384, pf_S512x384, wf_S512x768, pf_S512x768, wf_S768x128, pf_S768x128, wf_S768x512, pf_S768x512, wf_S768x768, pf_S768x768]
  iapply Hk
  try unfold ow owns
  isplitl [H12]
  · iexists _; isplitr; · ipureintro; exact harg12.read_unread _
    iexact H12
  isplitl [H13]; · iexact H13
  isplitl [H14]; · iexact H14
  isplitl [H23]
  · iexists _; isplitr; · ipureintro; exact harg23.read_unread _
    iexact H23
  isplitl [H41]; · iexact H41
  isplitl [H25]; · iexact H25
  isplitl [H26]; · iexact H26
  isplitl [H27]; · iexact H27
  isplitl [H28]; · iexact H28
  isplitl [H29]; · iexact H29
  iexact H30

set_option maxHeartbeats 2000000 in
/-- What `k0_part8` leaves in the buffers it writes, and what it returns, from what it reads. -/
theorem k0_part8_run (v126 : FVec Ideal S1x512 .f32) (v156 : FVec Ideal S768x512 .f32) (X13 : Vec Ideal S3072x128 .f32) (X3 : Vec Ideal S16x416x512 .f32) (X25 : Vec Ideal S1x16x48x512 .fp8e4m3) (X26 : Vec Ideal S1x16x512 .f32) (X27 : Vec Ideal S1x16x48x512 .fp8e4m3) (X28 : Vec Ideal S1x16x512 .f32) (X29 : Vec Ideal S1x16x48x512 .fp8e4m3) (X30 : Vec Ideal S1x16x512 .f32) (X32 : Vec Ideal S25x512 .f32)
    (K : (Σ' (v186 : FVec Ideal S512x768 .fp8e4m3), FVec Ideal S1x512 .f32) → sProp 𝕄) :
    iprop(ow c arg13 X13 ∗ ow c arg3 X3 ∗ ow c arg25 X25 ∗ ow c arg26 X26 ∗ ow c arg27 X27 ∗ ow c arg28 X28 ∗ ow c arg29 X29 ∗ ow c arg30 X30 ∗ ow c arg32 X32
        ∗ (∃ d, ow c arg41 d) ∗ (∃ d, ow c arg42 d) ∗ (∃ d, ow c arg43 d) ∗ (∃ d, ow c arg31 d)
        ∗ (∀ (Y : Vec Ideal S16x48x512 .f32) (Z : Vec Ideal S16x48x512 .f32), ⌜(∀ h : Fin 16, ∀ r l, Y (ix3 h r l) = k0_pay35 v126 (rows13 X13 3 h) (rows41 (k0_pay34 v156) h) (ix3 0 r l)) ∧ (∀ h : Fin 16, ∀ r l, Z (ix3 h r l) = k0_pay36 (k0_pay5 (plane4 X27 h) (plane4 X25 h) (line3 X26 h) (line3 X28 h) (plane3 X3 h)) (k0_pay6 (plane4 X27 h) (plane4 X25 h) (line3 X26 h) (line3 X28 h) (plane3 X3 h)) (k0_pay7 (line3 X30 h)) (plane4 X29 h) (plane3 Y h) (ix3 0 r l))⌝ -∗ iprop(ow c arg13 X13 ∗ ow c arg3 X3 ∗ ow c arg25 X25 ∗ ow c arg26 X26 ∗ ow c arg27 X27 ∗ ow c arg28 X28 ∗ ow c arg29 X29 ∗ ow c arg30 X30 ∗ ow c arg32 (VecWindow.put (s := S25x512) X32 (k0_off1 i) S1x512.size (k0_pay38 Z))
            ∗ ow c arg41 (k0_pay34 v156) ∗ ow c arg42 Y ∗ ow c arg43 Z ∗ ow c arg31 (k0_pay40 Z)) -∗ K ⟨k0_pay41 Z, k0_pay42 Z⟩))
      ⊢ wp frame (wpE (defs₀ (F := Ideal)) Variants.none c none) E (k0_part8 (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 (BitVec.ofNat 32 (i 0).val) v126 v156) K := by
  simp only [k0_part8_eq_skeleton]; unfold k0_part8_skel
  try unfold ow owns
  iintro ⟨H13, H3, H25, H26, H27, H28, H29, H30, H32, ⟨%d41, H41⟩, H42, H43, ⟨%d31, H31⟩, Hk⟩
  try unfold ow owns
  icases H41 with ⟨%f41, %hf41, H41⟩
  obtain rfl := harg41.eq_unread hf41
  sl_exec
  rw [wp_bind]
  iapply (k0_t4_run (c := c) (i := i) (E := E) (BitVec.ofNat 32 (i 0).val) v126 v156 X13 (k0_pay34 v156))
  try unfold ow owns
  isplitl [H13]; · iexact H13
  isplitl [H41]
  · iexists _; isplitr; swap; · iexact H41
    ipureintro
    try delta k0_part7_run.sl.H41_1
    try delta k0_part7_run.sl.H41_1_1
    try delta k0_part8_run.sl.H41_1
    simp (proj := false) only [readCov_eq_readAt, readAt_win, View.read_writes_cons_put _ _ _ _ _ rfl, View.writes_nil, Memref.IsWhole.read_unread, wf_S1536x768, pf_S1536x768, wf_S16x416x512, pf_S16x416x512, wf_S16x48x512, pf_S16x48x512, wf_S1x16x48x512, pf_S1x16x48x512, wf_S1x16x512, pf_S1x16x512, wf_S1x384, pf_S1x384, wf_S1x512x1536, pf_S1x512x1536, wf_S1x512x384, pf_S1x512x384, wf_S1x512x768, pf_S1x512x768, wf_S1x768, pf_S1x768, wf_S25x512, pf_S25x512, wf_S2x1536, pf_S2x1536, wf_S2x768, pf_S2x768, wf_S2x768x1536, pf_S2x768x1536, wf_S3072x128, pf_S3072x128, wf_S3072x768, pf_S3072x768, wf_S384x1536, pf_S384x1536, wf_S512x1536, pf_S512x1536, wf_S512x384, pf_S512x384, wf_S512x768, pf_S512x768, wf_S768x128, pf_S768x128, wf_S768x512, pf_S768x512, wf_S768x768, pf_S768x768]
  isplitl [H42]; · iexact H42
  iintro ⟨H13, H41, ⟨%Y, %hY, H42⟩⟩
  rw [wp_bind]
  iapply (k0_t5_run (c := c) (i := i) (E := E) (BitVec.ofNat 32 (i 0).val) v126 v156 X3 X25 X26 X27 X28 X29 X30 Y)
  try unfold ow owns
  isplitl [H3]; · iexact H3
  isplitl [H25]; · iexact H25
  isplitl [H26]; · iexact H26
  isplitl [H27]; · iexact H27
  isplitl [H28]; · iexact H28
  isplitl [H29]; · iexact H29
  isplitl [H30]; · iexact H30
  isplitl [H42]; · iexact H42
  isplitl [H43]; · iexact H43
  iintro ⟨H3, H25, H26, H27, H28, H29, H30, H42, ⟨%Z, %hZ, H43⟩⟩
  try unfold ow owns
  icases H43 with ⟨%f43, %hf43, H43⟩
  icases H32 with ⟨%f32, %hf32, H32⟩
  icases H31 with ⟨%f31, %hf31, H31⟩
  obtain rfl := harg43.eq_unread hf43; obtain rfl := harg32.eq_unread hf32; obtain rfl := harg31.eq_unread hf31
  sl_exec
  sl_step
  try simp (proj := false) only [readCov_eq_readAt, readAt_win, View.read_writes_cons_put _ _ _ _ _ rfl, View.writes_nil, Memref.IsWhole.read_unread, wf_S1536x768, pf_S1536x768, wf_S16x416x512, pf_S16x416x512, wf_S16x48x512, pf_S16x48x512, wf_S1x16x48x512, pf_S1x16x48x512, wf_S1x16x512, pf_S1x16x512, wf_S1x384, pf_S1x384, wf_S1x512x1536, pf_S1x512x1536, wf_S1x512x384, pf_S1x512x384, wf_S1x512x768, pf_S1x512x768, wf_S1x768, pf_S1x768, wf_S25x512, pf_S25x512, wf_S2x1536, pf_S2x1536, wf_S2x768, pf_S2x768, wf_S2x768x1536, pf_S2x768x1536, wf_S3072x128, pf_S3072x128, wf_S3072x768, pf_S3072x768, wf_S384x1536, pf_S384x1536, wf_S512x1536, pf_S512x1536, wf_S512x384, pf_S512x384, wf_S512x768, pf_S512x768, wf_S768x128, pf_S768x128, wf_S768x512, pf_S768x512, wf_S768x768, pf_S768x768]
  ispecialize Hk $$ %Y
  ispecialize Hk $$ %Z
  ihave Hk2 := Hk $$ %⟨hY, hZ⟩
  iapply Hk2
  try unfold ow owns
  isplitl [H13]; · iexact H13
  isplitl [H3]; · iexact H3
  isplitl [H25]; · iexact H25
  isplitl [H26]; · iexact H26
  isplitl [H27]; · iexact H27
  isplitl [H28]; · iexact H28
  isplitl [H29]; · iexact H29
  isplitl [H30]; · iexact H30
  isplitl [H32]
  · iexists _; isplitr; swap; · iexact H32
    ipureintro
    try delta k0_part7_run.sl.H41_1
    try delta k0_part7_run.sl.H41_1_1
    try delta k0_part8_run.sl.H41_1
    simp (proj := false) only [readCov_eq_readAt, readAt_win, View.read_writes_cons_put _ _ _ _ _ rfl, View.writes_nil, Memref.IsWhole.read_unread, wf_S1536x768, pf_S1536x768, wf_S16x416x512, pf_S16x416x512, wf_S16x48x512, pf_S16x48x512, wf_S1x16x48x512, pf_S1x16x48x512, wf_S1x16x512, pf_S1x16x512, wf_S1x384, pf_S1x384, wf_S1x512x1536, pf_S1x512x1536, wf_S1x512x384, pf_S1x512x384, wf_S1x512x768, pf_S1x512x768, wf_S1x768, pf_S1x768, wf_S25x512, pf_S25x512, wf_S2x1536, pf_S2x1536, wf_S2x768, pf_S2x768, wf_S2x768x1536, pf_S2x768x1536, wf_S3072x128, pf_S3072x128, wf_S3072x768, pf_S3072x768, wf_S384x1536, pf_S384x1536, wf_S512x1536, pf_S512x1536, wf_S512x384, pf_S512x384, wf_S512x768, pf_S512x768, wf_S768x128, pf_S768x128, wf_S768x512, pf_S768x512, wf_S768x768, pf_S768x768]
  isplitl [H41]; · iexact H41
  isplitl [H42]; · iexact H42
  isplitl [H43]
  · iexists _; isplitr; · ipureintro; exact harg43.read_unread _
    iexact H43
  iexists _; isplitr; swap; · iexact H31
  ipureintro
  try delta k0_part7_run.sl.H41_1
  try delta k0_part7_run.sl.H41_1_1
  try delta k0_part8_run.sl.H41_1
  simp (proj := false) only [readCov_eq_readAt, readAt_win, View.read_writes_cons_put _ _ _ _ _ rfl, View.writes_nil, Memref.IsWhole.read_unread, wf_S1536x768, pf_S1536x768, wf_S16x416x512, pf_S16x416x512, wf_S16x48x512, pf_S16x48x512, wf_S1x16x48x512, pf_S1x16x48x512, wf_S1x16x512, pf_S1x16x512, wf_S1x384, pf_S1x384, wf_S1x512x1536, pf_S1x512x1536, wf_S1x512x384, pf_S1x512x384, wf_S1x512x768, pf_S1x512x768, wf_S1x768, pf_S1x768, wf_S25x512, pf_S25x512, wf_S2x1536, pf_S2x1536, wf_S2x768, pf_S2x768, wf_S2x768x1536, pf_S2x768x1536, wf_S3072x128, pf_S3072x128, wf_S3072x768, pf_S3072x768, wf_S384x1536, pf_S384x1536, wf_S512x1536, pf_S512x1536, wf_S512x384, pf_S512x384, wf_S512x768, pf_S512x768, wf_S768x128, pf_S768x128, wf_S768x512, pf_S768x512, wf_S768x768, pf_S768x768]

end Cert.KernelIdeal.Hand

end
-- ==== Proof.Stage1.lean ====
module

public import proofs.«01_k».proof.Proof.LoopKit
public import proofs.«01_k».proof.Proof.Spec

@[expose] public section

set_option maxRecDepth 16384
set_option maxHeartbeats 1000000

noncomputable section

namespace Cert.KernelIdeal.Hand

open Idealize.ShloMosaic Cert.KernelIdeal Cert.KernelIdeal.Gen Cert.Spec

variable (d : D)

/-- What `k0_pay9` is of the layer's values. -/
theorem st9 : k0_pay9 (F := Ideal) (row3 d.s) (row2 d.g1)
    = tab2 d.sn1 := by
  refine eq_tab2 _ _ fun r l => ?_
  pointwise [k0_pay9, k0_pay8]
  try simp only [sh_sh, sh_zero, lo_sh, Nat.reduceAdd]
  rfl

/-- What `k0_pay10` is of the layer's values. -/
theorem st10 : k0_pay10 (F := Ideal) (row3 d.s) (row2 d.g2)
    = tab2 d.sn2 := by
  refine eq_tab2 _ _ fun r l => ?_
  pointwise [k0_pay10, k0_pay8]
  try simp only [sh_sh, sh_zero, lo_sh, Nat.reduceAdd]
  rfl

/-- What `k0_pay11` is of the layer's values. -/
theorem st11 : k0_pay11 (F := Ideal) (row3 d.a)
    = tab2 d.a := by
  refine eq_tab2 _ _ fun r l => ?_
  pointwise [k0_pay11]
  try simp only [sh_sh, sh_zero, lo_sh, Nat.reduceAdd]
  rfl

/-- What `k0_pay12` is of the layer's values. -/
theorem st12 : k0_pay12 (F := Ideal) (row3 d.a)
    = tab1 (fun r => ∑ x, d.a r x) := by
  refine eq_tab1 _ _ fun r => ?_
  pointwise [k0_pay12, k0_pay11]
  try simp only [sh_sh, sh_zero, lo_sh, Nat.reduceAdd]
  rfl

/-- What `k0_pay13` is of the layer's values. -/
theorem st13 : k0_pay13 (F := Ideal) (tab2 d.a) (tab1 fun r => ∑ x, d.a r x)
    = tab2 d.an := by
  refine eq_tab2 _ _ fun r l => ?_
  pointwise [k0_pay13]
  try simp only [sh_sh, sh_zero, lo_sh, Nat.reduceAdd]
  rfl

/-- What `k0_pay14` is of the layer's values. -/
theorem st14 : k0_pay14 (F := Ideal) (tab2 d.sn1) (VecWindow.window (s := S384x1536) (tab2 d.wa1) ![0, 0] S384x256.size inb_S384x1536_S384x256_0_0) (tab2 d.sn1) (VecWindow.window (s := S384x1536) (tab2 d.wa1) ![0, 768] S384x256.size inb_S384x1536_S384x256_0_768) (VecWindow.window (s := S512x768) (tab2 d.an) ![0, 0] S512x256.size inb_S512x768_S512x256_0_0) (VecWindow.window (s := S1x768) (row2 d.ba1) ![0, 0] S1x256.size inb_S1x768_S1x256_0_0)
    = tab2 (fun r (l : Fin 256) => d.x1 r (sh 0 (by decide) l)) := by
  refine eq_tab2 _ _ fun r l => ?_
  pointwise [k0_pay14]
  rw [window_tab2 d.wa1 0 0 _ (by decide) (by decide), window_tab2 d.wa1 0 768 _ (by decide) (by decide), window_tab2 d.an 0 0 _ (by decide) (by decide), window_row2 d.ba1 0 _ (by decide)]
  try simp only [D.x1, ada, sh_sh, sh_zero, lo_sh, Nat.reduceAdd]
  rfl

/-- What `k0_pay15` is of the layer's values. -/
theorem st15 : k0_pay15 (F := Ideal) (tab2 d.sn1) (VecWindow.window (s := S384x1536) (tab2 d.wa1) ![0, 256] S384x256.size inb_S384x1536_S384x256_0_256) (tab2 d.sn1) (VecWindow.window (s := S384x1536) (tab2 d.wa1) ![0, 1024] S384x256.size inb_S384x1536_S384x256_0_1024) (VecWindow.window (s := S512x768) (tab2 d.an) ![0, 256] S512x256.size inb_S512x768_S512x256_0_256) (VecWindow.window (s := S1x768) (row2 d.ba1) ![0, 256] S1x256.size inb_S1x768_S1x256_0_256)
    = tab2 (fun r (l : Fin 256) => d.x1 r (sh 256 (by decide) l)) := by
  refine eq_tab2 _ _ fun r l => ?_
  pointwise [k0_pay15]
  rw [window_tab2 d.wa1 0 256 _ (by decide) (by decide), window_tab2 d.wa1 0 1024 _ (by decide) (by decide), window_tab2 d.an 0 256 _ (by decide) (by decide), window_row2 d.ba1 256 _ (by decide)]
  try simp only [D.x1, ada, sh_sh, sh_zero, lo_sh, Nat.reduceAdd]
  rfl

/-- What `k0_pay16` is of the layer's values. -/
theorem st16 : k0_pay16 (F := Ideal) (tab2 d.sn1) (VecWindow.window (s := S384x1536) (tab2 d.wa1) ![0, 512] S384x256.size inb_S384x1536_S384x256_0_512) (tab2 d.sn1) (VecWindow.window (s := S384x1536) (tab2 d.wa1) ![0, 1280] S384x256.size inb_S384x1536_S384x256_0_1280) (VecWindow.window (s := S512x768) (tab2 d.an) ![0, 512] S512x256.size inb_S512x768_S512x256_0_512) (VecWindow.window (s := S1x768) (row2 d.ba1) ![0, 512] S1x256.size inb_S1x768_S1x256_0_512)
    = tab2 (fun r (l : Fin 256) => d.x1 r (sh 512 (by decide) l)) := by
  refine eq_tab2 _ _ fun r l => ?_
  pointwise [k0_pay16]
  rw [window_tab2 d.wa1 0 512 _ (by decide) (by decide), window_tab2 d.wa1 0 1280 _ (by decide) (by decide), window_tab2 d.an 0 512 _ (by decide) (by decide), window_row2 d.ba1 512 _ (by decide)]
  try simp only [D.x1, ada, sh_sh, sh_zero, lo_sh, Nat.reduceAdd]
  rfl

/-- `k0_pay17` gives its argument. -/
theorem st17 (X : FVec Ideal S512x256 .f32) : k0_pay17 (F := Ideal) X = X := by
  funext j; rw [eta2 j]; pointwise [k0_pay17]

/-- What `k0_pay19` is of the layer's values. -/
theorem st19 : k0_pay19 (F := Ideal) (tab2 d.x1)
    = row3 d.x1c := by
  refine eq_row3 _ _ fun r l => ?_
  pointwise [k0_pay19, k0_pay18]
  try simp only [sh_sh, sh_zero, lo_sh, Nat.reduceAdd]
  rfl

/-- What `k0_pay20` is of the layer's values. -/
theorem st20 : k0_pay20 (F := Ideal) (tab2 d.x1)
    = row2 d.x1s := by
  refine eq_row2 _ _ fun l => ?_
  pointwise [k0_pay20, k0_pay18]
  try simp only [sh_sh, sh_zero, lo_sh, Nat.reduceAdd]
  rfl

end Cert.KernelIdeal.Hand

end
-- ==== Proof.Stage3.lean ====
module

public import proofs.«01_k».proof.Proof.LoopKit
public import proofs.«01_k».proof.Proof.Spec

@[expose] public section

set_option maxRecDepth 16384
set_option maxHeartbeats 1000000

noncomputable section

namespace Cert.KernelIdeal.Hand

open Idealize.ShloMosaic Cert.KernelIdeal Cert.KernelIdeal.Gen Cert.Spec

variable (d : D)

/-- `k0_pay34` gives its argument. -/
theorem st34 (X : FVec Ideal S768x512 .f32) : k0_pay34 (F := Ideal) X = X := by
  funext j; rw [eta2 j]; pointwise [k0_pay34]
/-- The gate of one head. -/
theorem st35 (h : Fin 16) (r : Fin 48) (n : Fin 512) : k0_pay35 (F := Ideal) (row2 d.x1s) (lane (d.wqs 3 h)) (tab2 fun r n => d.pj (prow 3 h r) n) (ix3 0 r n) = d.gt h r n := by
  pointwise [k0_pay35]
  split_ifs <;> rfl
/-- The weights of one head. -/
theorem st5 (h : Fin 16) : k0_pay5 (F := Ideal) (plane4 (row4 d.kc) h) (plane4 (row4 d.qc) h) (line3 (row3 d.qs) h) (line3 (row3 d.ks) h) (plane3 (tab3 d.bias) h) = tab2 (d.p h) := by
  refine eq_tab2 _ _ fun m n => ?_
  pointwise [k0_pay5]
  show FloatOps.exp2 (F := Ideal) (φ := .f32) ((∑ x, d.kc h x (lo (by decide) m) * d.qc h x n) * (d.qs h n * Ideal.ofBits .f32 1045773205#32) * (if _ : n.val < 128 then d.ks h (lo (by decide) m) else if _ : n.val - 128 < 128 then d.ks h (lo (by decide) m) else if _ : n.val - 128 - 128 < 128 then d.ks h (lo (by decide) m) else d.ks h (lo (by decide) m)) + d.bias h m n - Ideal.liftRound Int.ceil (Finset.fold max (Ideal.ofBits .f32 4286578688#32) (fun y : Fin 416 => (∑ x, d.kc h x (lo (by decide) y) * d.qc h x n) * (d.qs h n * Ideal.ofBits .f32 1045773205#32) * (if _ : n.val < 128 then d.ks h (lo (by decide) y) else if _ : n.val - 128 < 128 then d.ks h (lo (by decide) y) else if _ : n.val - 128 - 128 < 128 then d.ks h (lo (by decide) y) else d.ks h (lo (by decide) y)) + d.bias h y n) Finset.univ)) = d.p h m n
  simp only [dite_eq_ite, ite_self]
  rfl
/-- The sum of the weights of one head. -/
theorem st6 (h : Fin 16) : k0_pay6 (F := Ideal) (plane4 (row4 d.kc) h) (plane4 (row4 d.qc) h) (line3 (row3 d.qs) h) (line3 (row3 d.ks) h) (plane3 (tab3 d.bias) h) = row2 (d.den h) := by
  refine eq_row2 _ _ fun n => ?_
  pointwise [k0_pay6]
  rw [st5]
  rfl
/-- The value scales of one head. -/
theorem st7 (h : Fin 16) : k0_pay7 (F := Ideal) (line3 (row3 d.vs) h) = row2 (d.vs h) := by
  refine eq_row2 _ _ fun n => ?_
  pointwise [k0_pay7]
  rfl
/-- The gated output of one head. -/
theorem st36 (h : Fin 16) (r : Fin 48) (n : Fin 512) : k0_pay36 (F := Ideal) (tab2 (d.p h)) (row2 (d.den h)) (row2 (d.vs h)) (plane4 (row4 d.vc) h) (plane3 (tab3 d.gt) h) (ix3 0 r n) = d.ov h r n := by
  pointwise [k0_pay36]
  show Ideal.div (∑ x : Fin 416, d.vc h r (lo (by decide) x) * (d.p h x n * (if _ : n.val < 128 then d.vs h (lo (by decide) x) else if _ : n.val - 128 < 128 then d.vs h (lo (by decide) x) else if _ : n.val - 128 - 128 < 128 then d.vs h (lo (by decide) x) else d.vs h (lo (by decide) x)))) (d.den h n) * d.gt h r n = d.ov h r n
  simp only [dite_eq_ite, ite_self]
  rfl
theorem st37 : k0_pay37 (F := Ideal) (tab3 d.ov) = tab2 d.og := by
  refine eq_tab2 _ _ fun r l => ?_
  pointwise [k0_pay37]
  rfl
theorem e38 (n : Fin 512) : k0_pay38 (F := Ideal) (tab3 d.ov) (ix2 0 n) = d.ogs n := by
  pointwise [k0_pay38]
  rw [st37]
  rfl
theorem e39 (j : Fin 768) (n : Fin 512) : k0_pay39 (F := Ideal) (tab3 d.ov) (ix2 j n) = d.ogc j n := by
  pointwise [k0_pay39]
  rw [st37, e38]
  rfl
/-- The scales of the attention output. -/
theorem st38 : k0_pay38 (F := Ideal) (tab3 d.ov) = row2 d.ogs := eq_row2 _ _ fun n => e38 d n
/-- The codes of the attention output. -/
theorem st40 : k0_pay40 (F := Ideal) (tab3 d.ov) = row4 fun h r n => d.ogc (hrow h r) n := by
  refine eq_row4 _ _ fun h r n => ?_
  pointwise [k0_pay40]
  exact e39 d _ _
theorem st41 : k0_pay41 (F := Ideal) (tab3 d.ov) = tab2 fun n j => d.ogc j n := by
  refine eq_tab2 _ _ fun n j => ?_
  pointwise [k0_pay41]
  exact e39 d _ _
theorem st42 : k0_pay42 (F := Ideal) (tab3 d.ov) = row2 d.ogs := by
  refine eq_row2 _ _ fun n => ?_
  pointwise [k0_pay42]
  exact e38 d n
theorem st43 : k0_pay43 (F := Ideal) (row2 d.ogs) = col2 d.ogs := by
  refine eq_col2 _ _ fun n => ?_
  pointwise [k0_pay43]
  rfl

/-- What `k0_pay44` is of the layer's values. -/
theorem st44 : k0_pay44 (F := Ideal) (tab2 fun n j => d.ogc j n) (row2 d.ogs) (VecWindow.window (s := S768x768) (tab2 d.wo) ![0, 0] S768x256.size inb_S768x768_S768x256_0_0) (VecWindow.window (s := S1x768) (row2 d.wos) ![0, 0] S1x256.size inb_S1x768_S1x256_0_0) (row3 d.s) (VecWindow.window (s := S384x1536) (tab2 d.wsg) ![0, 0] S384x256.size inb_S384x1536_S384x256_0_0) (VecWindow.window (s := S2x768) (tab2 d.bsg) ![0, 0] S1x256.size inb_S2x768_S1x256_0_0) (VecWindow.window (s := S1x512x768) (row3 d.a) ![0, 0, 0] S1x512x256.size inb_S1x512x768_S1x512x256_0_0_0)
    = row3 (fun r (l : Fin 256) => d.a1 r (sh 0 (by decide) l)) := by
  refine eq_row3 _ _ fun r l => ?_
  pointwise [k0_pay44]
  rw [st43]
  rw [window_tab2 d.wo 0 0 _ (by decide) (by decide), window_row2 d.wos 0 _ (by decide), window_tab2 d.wsg 0 0 _ (by decide) (by decide), window_row2' d.bsg 0 0 _ (by decide) (by decide), window_row3 d.a 0 _ (by decide)]
  try simp only [D.a1, D.yo, sh_sh, sh_zero, lo_sh, Nat.reduceAdd]
  rfl

/-- What `k0_pay45` is of the layer's values. -/
theorem st45 : k0_pay45 (F := Ideal) (tab2 fun n j => d.ogc j n) (row2 d.ogs) (VecWindow.window (s := S768x768) (tab2 d.wo) ![0, 256] S768x256.size inb_S768x768_S768x256_0_256) (VecWindow.window (s := S1x768) (row2 d.wos) ![0, 256] S1x256.size inb_S1x768_S1x256_0_256)
    = tab2 (fun r (l : Fin 256) => d.yo r (sh 256 (by decide) l)) := by
  refine eq_tab2 _ _ fun r l => ?_
  pointwise [k0_pay45]
  rw [st43]
  rw [window_tab2 d.wo 0 256 _ (by decide) (by decide), window_row2 d.wos 256 _ (by decide)]
  try simp only [D.yo, sh_sh, sh_zero, lo_sh, Nat.reduceAdd]
  rfl

/-- What `k0_pay46` is of the layer's values. -/
theorem st46 : k0_pay46 (F := Ideal) (tab2 (fun r (l : Fin 256) => d.yo r (sh 256 (by decide) l))) (row3 d.s) (VecWindow.window (s := S384x1536) (tab2 d.wsg) ![0, 256] S384x256.size inb_S384x1536_S384x256_0_256) (VecWindow.window (s := S2x768) (tab2 d.bsg) ![0, 256] S1x256.size inb_S2x768_S1x256_0_256) (VecWindow.window (s := S1x512x768) (row3 d.a) ![0, 0, 256] S1x512x256.size inb_S1x512x768_S1x512x256_0_0_256)
    = row3 (fun r (l : Fin 256) => d.a1 r (sh 256 (by decide) l)) := by
  refine eq_row3 _ _ fun r l => ?_
  pointwise [k0_pay46]
  rw [window_tab2 d.wsg 0 256 _ (by decide) (by decide), window_row2' d.bsg 0 256 _ (by decide) (by decide), window_row3 d.a 256 _ (by decide)]
  try simp only [D.a1, sh_sh, sh_zero, lo_sh, Nat.reduceAdd]
  rfl

/-- What `k0_pay47` is of the layer's values. -/
theorem st47 : k0_pay47 (F := Ideal) (tab2 fun n j => d.ogc j n) (col2 d.ogs) (VecWindow.window (s := S768x768) (tab2 d.wo) ![0, 512] S768x256.size inb_S768x768_S768x256_0_512) (VecWindow.window (s := S1x768) (row2 d.wos) ![0, 512] S1x256.size inb_S1x768_S1x256_0_512)
    = tab2 (fun r (l : Fin 256) => d.yo r (sh 512 (by decide) l)) := by
  refine eq_tab2 _ _ fun r l => ?_
  pointwise [k0_pay47]
  rw [window_tab2 d.wo 0 512 _ (by decide) (by decide), window_row2 d.wos 512 _ (by decide)]
  try simp only [D.yo, sh_sh, sh_zero, lo_sh, Nat.reduceAdd]
  rfl

/-- What `k0_pay48` is of the layer's values. -/
theorem st48 : k0_pay48 (F := Ideal) (row3 d.s) (VecWindow.window (s := S384x1536) (tab2 d.wsg) ![0, 512] S384x256.size inb_S384x1536_S384x256_0_512) (VecWindow.window (s := S2x768) (tab2 d.bsg) ![0, 512] S1x256.size inb_S2x768_S1x256_0_512)
    = tab2 (fun r (l : Fin 256) => ∑ x, d.s r x * d.wsg x (sh 512 (by decide) l) + d.bsg 0 (sh 512 (by decide) l)) := by
  refine eq_tab2 _ _ fun r l => ?_
  pointwise [k0_pay48]
  rw [window_tab2 d.wsg 0 512 _ (by decide) (by decide), window_row2' d.bsg 0 512 _ (by decide) (by decide)]
  try simp only [sh_sh, sh_zero, lo_sh, Nat.reduceAdd]
  rfl

/-- What `k0_pay49` is of the layer's values. -/
theorem st49 : k0_pay49 (F := Ideal) (tab2 (fun r (l : Fin 256) => d.yo r (sh 512 (by decide) l))) (tab2 (fun r (l : Fin 256) => ∑ x, d.s r x * d.wsg x (sh 512 (by decide) l) + d.bsg 0 (sh 512 (by decide) l))) (VecWindow.window (s := S1x512x768) (row3 d.a) ![0, 0, 512] S1x512x256.size inb_S1x512x768_S1x512x256_0_0_512)
    = row3 (fun r (l : Fin 256) => d.a1 r (sh 512 (by decide) l)) := by
  refine eq_row3 _ _ fun r l => ?_
  pointwise [k0_pay49]
  rw [window_row3 d.a 512 _ (by decide)]
  try simp only [D.a1, sh_sh, sh_zero, lo_sh, Nat.reduceAdd]
  rfl

/-- What `k0_pay50` is of the layer's values. -/
theorem st50 : k0_pay50 (F := Ideal) (row3 d.a1)
    = tab2 d.an2 := by
  refine eq_tab2 _ _ fun r l => ?_
  pointwise [k0_pay50]
  try simp only [sh_sh, sh_zero, lo_sh, Nat.reduceAdd]
  rfl

end Cert.KernelIdeal.Hand

end
-- ==== Proof.Stage4.lean ====
module

public import proofs.«01_k».proof.Proof.LoopKit
public import proofs.«01_k».proof.Proof.Spec

@[expose] public section

set_option maxRecDepth 16384
set_option maxHeartbeats 1000000

noncomputable section

namespace Cert.KernelIdeal.Hand

open Idealize.ShloMosaic Cert.KernelIdeal Cert.KernelIdeal.Gen Cert.Spec

variable (d : D)

/-- What `k0_pay51` is of the layer's values. -/
theorem st51 : k0_pay51 (F := Ideal) (tab2 d.sn2) (VecWindow.window (s := S384x1536) (tab2 d.wa2) ![0, 0] S384x256.size inb_S384x1536_S384x256_0_0)
    = tab2 (fun r (l : Fin 256) => ∑ x, d.sn2 r x * d.wa2 x (sh 0 (by decide) l)) := by
  refine eq_tab2 _ _ fun r l => ?_
  pointwise [k0_pay51]
  rw [window_tab2 d.wa2 0 0 _ (by decide) (by decide)]
  try simp only [sh_sh, sh_zero, lo_sh, Nat.reduceAdd]
  rfl

/-- What `k0_pay52` is of the layer's values. -/
theorem st52 : k0_pay52 (F := Ideal) (tab2 d.sn2) (VecWindow.window (s := S384x1536) (tab2 d.wa2) ![0, 768] S384x256.size inb_S384x1536_S384x256_0_768)
    = tab2 (fun r (l : Fin 256) => ∑ x, d.sn2 r x * d.wa2 x (sh 768 (by decide) l)) := by
  refine eq_tab2 _ _ fun r l => ?_
  pointwise [k0_pay52]
  rw [window_tab2 d.wa2 0 768 _ (by decide) (by decide)]
  try simp only [sh_sh, sh_zero, lo_sh, Nat.reduceAdd]
  rfl

/-- What `k0_pay53` is of the layer's values. -/
theorem st53 : k0_pay53 (F := Ideal) (tab2 (fun r (l : Fin 256) => ∑ x, d.sn2 r x * d.wa2 x (sh 0 (by decide) l))) (tab2 (fun r (l : Fin 256) => ∑ x, d.sn2 r x * d.wa2 x (sh 768 (by decide) l))) (VecWindow.window (s := S512x768) (tab2 d.an2) ![0, 0] S512x256.size inb_S512x768_S512x256_0_0) (VecWindow.window (s := S1x768) (row2 d.ba2) ![0, 0] S1x256.size inb_S1x768_S1x256_0_0)
    = tab2 (fun r (l : Fin 256) => d.x2 r (sh 0 (by decide) l)) := by
  refine eq_tab2 _ _ fun r l => ?_
  pointwise [k0_pay53]
  rw [window_tab2 d.an2 0 0 _ (by decide) (by decide), window_row2 d.ba2 0 _ (by decide)]
  try simp only [D.x2, ada, sh_sh, sh_zero, lo_sh, Nat.reduceAdd]
  rfl

/-- What `k0_pay54` is of the layer's values. -/
theorem st54 : k0_pay54 (F := Ideal) (tab2 d.sn2) (VecWindow.window (s := S384x1536) (tab2 d.wa2) ![0, 256] S384x256.size inb_S384x1536_S384x256_0_256) (tab2 d.sn2) (VecWindow.window (s := S384x1536) (tab2 d.wa2) ![0, 1024] S384x256.size inb_S384x1536_S384x256_0_1024) (VecWindow.window (s := S512x768) (tab2 d.an2) ![0, 256] S512x256.size inb_S512x768_S512x256_0_256) (VecWindow.window (s := S1x768) (row2 d.ba2) ![0, 256] S1x256.size inb_S1x768_S1x256_0_256)
    = tab2 (fun r (l : Fin 256) => d.x2 r (sh 256 (by decide) l)) := by
  refine eq_tab2 _ _ fun r l => ?_
  pointwise [k0_pay54]
  rw [window_tab2 d.wa2 0 256 _ (by decide) (by decide), window_tab2 d.wa2 0 1024 _ (by decide) (by decide), window_tab2 d.an2 0 256 _ (by decide) (by decide), window_row2 d.ba2 256 _ (by decide)]
  try simp only [D.x2, ada, sh_sh, sh_zero, lo_sh, Nat.reduceAdd]
  rfl

/-- What `k0_pay55` is of the layer's values. -/
theorem st55 : k0_pay55 (F := Ideal) (tab2 d.sn2) (VecWindow.window (s := S384x1536) (tab2 d.wa2) ![0, 512] S384x256.size inb_S384x1536_S384x256_0_512)
    = tab2 (fun r (l : Fin 256) => ∑ x, d.sn2 r x * d.wa2 x (sh 512 (by decide) l)) := by
  refine eq_tab2 _ _ fun r l => ?_
  pointwise [k0_pay55]
  rw [window_tab2 d.wa2 0 512 _ (by decide) (by decide)]
  try simp only [sh_sh, sh_zero, lo_sh, Nat.reduceAdd]
  rfl

/-- What `k0_pay56` is of the layer's values. -/
theorem st56 : k0_pay56 (F := Ideal) (tab2 (fun r (l : Fin 256) => ∑ x, d.sn2 r x * d.wa2 x (sh 512 (by decide) l))) (tab2 d.sn2) (VecWindow.window (s := S384x1536) (tab2 d.wa2) ![0, 1280] S384x256.size inb_S384x1536_S384x256_0_1280) (VecWindow.window (s := S512x768) (tab2 d.an2) ![0, 512] S512x256.size inb_S512x768_S512x256_0_512) (VecWindow.window (s := S1x768) (row2 d.ba2) ![0, 512] S1x256.size inb_S1x768_S1x256_0_512)
    = tab2 (fun r (l : Fin 256) => d.x2 r (sh 512 (by decide) l)) := by
  refine eq_tab2 _ _ fun r l => ?_
  pointwise [k0_pay56]
  rw [window_tab2 d.wa2 0 1280 _ (by decide) (by decide), window_tab2 d.an2 0 512 _ (by decide) (by decide), window_row2 d.ba2 512 _ (by decide)]
  try simp only [D.x2, ada, sh_sh, sh_zero, lo_sh, Nat.reduceAdd]
  rfl

/-- What `k0_pay57` is of the layer's values. -/
theorem st57 : k0_pay57 (F := Ideal) (tab2 d.x2)
    = col2 d.x2s := by
  refine eq_col2 _ _ fun l => ?_
  pointwise [k0_pay57]
  try simp only [sh_sh, sh_zero, lo_sh, Nat.reduceAdd]
  rfl

/-- What `k0_pay58` is of the layer's values. -/
theorem st58 : k0_pay58 (F := Ideal) (tab2 d.x2)
    = row3 d.x2c := by
  refine eq_row3 _ _ fun r l => ?_
  pointwise [k0_pay58, k0_pay57]
  try simp only [sh_sh, sh_zero, lo_sh, Nat.reduceAdd]
  rfl

/-- What `k0_pay59` is of the layer's values. -/
theorem st59 : k0_pay59 (F := Ideal) (tab2 d.x2)
    = row2 d.x2s := by
  refine eq_row2 _ _ fun l => ?_
  pointwise [k0_pay59, k0_pay57]
  try simp only [sh_sh, sh_zero, lo_sh, Nat.reduceAdd]
  rfl

/-- What `k0_pay60` is of the layer's values. -/
theorem st60 : k0_pay60 (F := Ideal) (col2 d.x2s) (row3 d.x2c) (VecWindow.window (s := S2x768x1536) (tab3 d.wi) ![0, 0, 0] S1x768x256.size inb_S2x768x1536_S1x768x256_0_0_0) (VecWindow.window (s := S2x1536) (tab2 d.wis) ![0, 0] S1x256.size inb_S2x1536_S1x256_0_0) (row3 d.x2c) (VecWindow.window (s := S2x768x1536) (tab3 d.wi) ![1, 0, 0] S1x768x256.size inb_S2x768x1536_S1x768x256_1_0_0) (VecWindow.window (s := S2x1536) (tab2 d.wis) ![1, 0] S1x256.size inb_S2x1536_S1x256_1_0)
    = tab2 (fun r (l : Fin 256) => d.hv r (sh 0 (by decide) l)) := by
  refine eq_tab2 _ _ fun r l => ?_
  pointwise [k0_pay60]
  rw [window_row3' d.wi 0 0 _ (by decide) (by decide), window_row2' d.wis 0 0 _ (by decide) (by decide), window_row3' d.wi 1 0 _ (by decide) (by decide), window_row2' d.wis 1 0 _ (by decide) (by decide)]
  try simp only [D.hv, D.hz, sh_sh, sh_zero, lo_sh, Nat.reduceAdd]
  rfl

/-- What `k0_pay69` is of the layer's values. -/
theorem st69 : k0_pay69 (F := Ideal) (col2 d.x2s) (row3 d.x2c) (VecWindow.window (s := S2x768x1536) (tab3 d.wi) ![0, 0, 1024] S1x768x256.size inb_S2x768x1536_S1x768x256_0_0_1024) (VecWindow.window (s := S2x1536) (tab2 d.wis) ![0, 1024] S1x256.size inb_S2x1536_S1x256_0_1024) (row3 d.x2c) (VecWindow.window (s := S2x768x1536) (tab3 d.wi) ![1, 0, 1024] S1x768x256.size inb_S2x768x1536_S1x768x256_1_0_1024) (VecWindow.window (s := S2x1536) (tab2 d.wis) ![1, 1024] S1x256.size inb_S2x1536_S1x256_1_1024)
    = tab2 (fun r (l : Fin 256) => d.hv r (sh 1024 (by decide) l)) := by
  refine eq_tab2 _ _ fun r l => ?_
  pointwise [k0_pay69]
  rw [window_row3' d.wi 0 1024 _ (by decide) (by decide), window_row2' d.wis 0 1024 _ (by decide) (by decide), window_row3' d.wi 1 1024 _ (by decide) (by decide), window_row2' d.wis 1 1024 _ (by decide) (by decide)]
  try simp only [D.hv, D.hz, sh_sh, sh_zero, lo_sh, Nat.reduceAdd]
  rfl

/-- What `k0_pay70` is of the layer's values. -/
theorem st70 : k0_pay70 (F := Ideal) (col2 d.x2s) (row3 d.x2c) (VecWindow.window (s := S2x768x1536) (tab3 d.wi) ![0, 0, 1280] S1x768x256.size inb_S2x768x1536_S1x768x256_0_0_1280) (VecWindow.window (s := S2x1536) (tab2 d.wis) ![0, 1280] S1x256.size inb_S2x1536_S1x256_0_1280) (row3 d.x2c) (VecWindow.window (s := S2x768x1536) (tab3 d.wi) ![1, 0, 1280] S1x768x256.size inb_S2x768x1536_S1x768x256_1_0_1280) (VecWindow.window (s := S2x1536) (tab2 d.wis) ![1, 1280] S1x256.size inb_S2x1536_S1x256_1_1280)
    = tab2 (fun r (l : Fin 256) => d.hv r (sh 1280 (by decide) l)) := by
  refine eq_tab2 _ _ fun r l => ?_
  pointwise [k0_pay70]
  rw [window_row3' d.wi 0 1280 _ (by decide) (by decide), window_row2' d.wis 0 1280 _ (by decide) (by decide), window_row3' d.wi 1 1280 _ (by decide) (by decide), window_row2' d.wis 1 1280 _ (by decide) (by decide)]
  try simp only [D.hv, D.hz, sh_sh, sh_zero, lo_sh, Nat.reduceAdd]
  rfl

/-- What `k0_pay61` is of the layer's values. -/
theorem st61 : k0_pay61 (F := Ideal) (row3 d.x2c)
    = tab2 d.x2c := by
  refine eq_tab2 _ _ fun r l => ?_
  pointwise [k0_pay61]
  try simp only [sh_sh, sh_zero, lo_sh, Nat.reduceAdd]
  rfl

/-- What `k0_pay62` is of the layer's values. -/
theorem st62 : k0_pay62 (F := Ideal) (VecWindow.window (s := S2x768x1536) (tab3 d.wi) ![0, 0, 256] S1x768x256.size inb_S2x768x1536_S1x768x256_0_0_256)
    = tab2 (fun r (l : Fin 256) => d.wi 0 r (sh 256 (by decide) l)) := by
  refine eq_tab2 _ _ fun r l => ?_
  pointwise [k0_pay62]
  rw [window_row3' d.wi 0 256 _ (by decide) (by decide)]
  try simp only [sh_sh, sh_zero, lo_sh, Nat.reduceAdd]
  rfl

/-- What `k0_pay63` is of the layer's values. -/
theorem st63 : k0_pay63 (F := Ideal) (col2 d.x2s) (tab2 d.x2c) (tab2 (fun r (l : Fin 256) => d.wi 0 r (sh 256 (by decide) l))) (VecWindow.window (s := S2x1536) (tab2 d.wis) ![0, 256] S1x256.size inb_S2x1536_S1x256_0_256) (row3 d.x2c) (VecWindow.window (s := S2x768x1536) (tab3 d.wi) ![1, 0, 256] S1x768x256.size inb_S2x768x1536_S1x768x256_1_0_256) (VecWindow.window (s := S2x1536) (tab2 d.wis) ![1, 256] S1x256.size inb_S2x1536_S1x256_1_256)
    = tab2 (fun r (l : Fin 256) => d.hv r (sh 256 (by decide) l)) := by
  refine eq_tab2 _ _ fun r l => ?_
  pointwise [k0_pay63]
  rw [window_row2' d.wis 0 256 _ (by decide) (by decide), window_row3' d.wi 1 256 _ (by decide) (by decide), window_row2' d.wis 1 256 _ (by decide) (by decide)]
  try simp only [D.hv, D.hz, sh_sh, sh_zero, lo_sh, Nat.reduceAdd]
  rfl

/-- What `k0_pay64` is of the layer's values. -/
theorem st64 : k0_pay64 (F := Ideal) (col2 d.x2s) (row3 d.x2c) (VecWindow.window (s := S2x768x1536) (tab3 d.wi) ![0, 0, 512] S1x768x256.size inb_S2x768x1536_S1x768x256_0_0_512) (VecWindow.window (s := S2x1536) (tab2 d.wis) ![0, 512] S1x256.size inb_S2x1536_S1x256_0_512)
    = tab2 (fun r (l : Fin 256) => d.hz 0 r (sh 512 (by decide) l)) := by
  refine eq_tab2 _ _ fun r l => ?_
  pointwise [k0_pay64]
  rw [window_row3' d.wi 0 512 _ (by decide) (by decide), window_row2' d.wis 0 512 _ (by decide) (by decide)]
  try simp only [D.hz, sh_sh, sh_zero, lo_sh, Nat.reduceAdd]
  rfl

/-- What `k0_pay65` is of the layer's values. -/
theorem st65 : k0_pay65 (F := Ideal) (col2 d.x2s) (tab2 (fun r (l : Fin 256) => d.hz 0 r (sh 512 (by decide) l))) (row3 d.x2c) (VecWindow.window (s := S2x768x1536) (tab3 d.wi) ![1, 0, 512] S1x768x256.size inb_S2x768x1536_S1x768x256_1_0_512) (VecWindow.window (s := S2x1536) (tab2 d.wis) ![1, 512] S1x256.size inb_S2x1536_S1x256_1_512)
    = tab2 (fun r (l : Fin 256) => d.hv r (sh 512 (by decide) l)) := by
  refine eq_tab2 _ _ fun r l => ?_
  pointwise [k0_pay65]
  rw [window_row3' d.wi 1 512 _ (by decide) (by decide), window_row2' d.wis 1 512 _ (by decide) (by decide)]
  try simp only [D.hv, D.hz, sh_sh, sh_zero, lo_sh, Nat.reduceAdd]
  rfl

/-- What `k0_pay66` is of the layer's values. -/
theorem st66 : k0_pay66 (F := Ideal) (col2 d.x2s) (row3 d.x2c) (VecWindow.window (s := S2x768x1536) (tab3 d.wi) ![0, 0, 768] S1x768x256.size inb_S2x768x1536_S1x768x256_0_0_768) (VecWindow.window (s := S2x1536) (tab2 d.wis) ![0, 768] S1x256.size inb_S2x1536_S1x256_0_768)
    = tab2 (fun r (l : Fin 256) => d.hz 0 r (sh 768 (by decide) l)) := by
  refine eq_tab2 _ _ fun r l => ?_
  pointwise [k0_pay66]
  rw [window_row3' d.wi 0 768 _ (by decide) (by decide), window_row2' d.wis 0 768 _ (by decide) (by decide)]
  try simp only [D.hz, sh_sh, sh_zero, lo_sh, Nat.reduceAdd]
  rfl

/-- What `k0_pay67` is of the layer's values. -/
theorem st67 : k0_pay67 (F := Ideal) (col2 d.x2s) (row3 d.x2c) (VecWindow.window (s := S2x768x1536) (tab3 d.wi) ![1, 0, 768] S1x768x256.size inb_S2x768x1536_S1x768x256_1_0_768)
    = tab2 (fun r (l : Fin 256) => (∑ x, d.x2c r x * d.wi 1 x (sh 768 (by decide) l)) * d.x2s r) := by
  refine eq_tab2 _ _ fun r l => ?_
  pointwise [k0_pay67]
  rw [window_row3' d.wi 1 768 _ (by decide) (by decide)]
  try simp only [sh_sh, sh_zero, lo_sh, Nat.reduceAdd]
  rfl

/-- What `k0_pay68` is of the layer's values. -/
theorem st68 : k0_pay68 (F := Ideal) (tab2 (fun r (l : Fin 256) => d.hz 0 r (sh 768 (by decide) l))) (tab2 (fun r (l : Fin 256) => (∑ x, d.x2c r x * d.wi 1 x (sh 768 (by decide) l)) * d.x2s r)) (VecWindow.window (s := S2x1536) (tab2 d.wis) ![1, 768] S1x256.size inb_S2x1536_S1x256_1_768)
    = tab2 (fun r (l : Fin 256) => d.hv r (sh 768 (by decide) l)) := by
  refine eq_tab2 _ _ fun r l => ?_
  pointwise [k0_pay68]
  rw [window_row2' d.wis 1 768 _ (by decide) (by decide)]
  try simp only [D.hv, D.hz, sh_sh, sh_zero, lo_sh, Nat.reduceAdd]
  rfl

/-- What `k0_pay75` is of the layer's values. -/
theorem st75 : k0_pay75 (F := Ideal) (k0_pay72 (F := Ideal) (tab2 d.hv)) (k0_pay73 (F := Ideal) (tab2 d.hv)) (k0_pay74 (F := Ideal))
    = col2 d.hs := by
  refine eq_col2 _ _ fun l => ?_
  pointwise [k0_pay75, k0_pay72, k0_pay73, k0_pay74, k0_pay71]
  try simp only [sh_sh, sh_zero, lo_sh, Nat.reduceAdd]
  rfl

/-- What `k0_pay76` is of the layer's values. -/
theorem st76 : k0_pay76 (F := Ideal) (tab2 d.hv) (k0_pay72 (F := Ideal) (tab2 d.hv)) (k0_pay73 (F := Ideal) (tab2 d.hv)) (k0_pay74 (F := Ideal))
    = row3 d.hc := by
  refine eq_row3 _ _ fun r l => ?_
  pointwise [k0_pay76]
  rw [st75]
  try simp only [sh_sh, sh_zero, lo_sh, Nat.reduceAdd]
  rfl

/-- What `k0_pay77` is of the layer's values. -/
theorem st77 : k0_pay77 (F := Ideal) (k0_pay72 (F := Ideal) (tab2 d.hv)) (k0_pay73 (F := Ideal) (tab2 d.hv)) (k0_pay74 (F := Ideal))
    = row2 d.hs := by
  refine eq_row2 _ _ fun l => ?_
  pointwise [k0_pay77]
  rw [st75]
  try simp only [sh_sh, sh_zero, lo_sh, Nat.reduceAdd]
  rfl

/-- What `k0_pay78` is of the layer's values. -/
theorem st78 : k0_pay78 (F := Ideal) (k0_pay72 (F := Ideal) (tab2 d.hv)) (k0_pay73 (F := Ideal) (tab2 d.hv)) (k0_pay74 (F := Ideal)) (row3 d.hc) (VecWindow.window (s := S1536x768) (tab2 d.wu) ![0, 0] S1536x256.size inb_S1536x768_S1536x256_0_0) (VecWindow.window (s := S1x768) (row2 d.wus) ![0, 0] S1x256.size inb_S1x768_S1x256_0_0)
    = tab2 (fun r (l : Fin 256) => d.yt r (sh 0 (by decide) l)) := by
  refine eq_tab2 _ _ fun r l => ?_
  pointwise [k0_pay78]
  rw [st75]
  rw [window_tab2 d.wu 0 0 _ (by decide) (by decide), window_row2 d.wus 0 _ (by decide)]
  try simp only [D.yt, sh_sh, sh_zero, lo_sh, Nat.reduceAdd]
  rfl

/-- What `k0_pay79` is of the layer's values. -/
theorem st79 : k0_pay79 (F := Ideal) (row3 d.s) (VecWindow.window (s := S384x1536) (tab2 d.wsg) ![0, 768] S384x256.size inb_S384x1536_S384x256_0_768) (VecWindow.window (s := S2x768) (tab2 d.bsg) ![1, 0] S1x256.size inb_S2x768_S1x256_1_0)
    = tab2 (fun r (l : Fin 256) => ∑ x, d.s r x * d.wsg x (sh 768 (by decide) l) + d.bsg 1 (sh 0 (by decide) l)) := by
  refine eq_tab2 _ _ fun r l => ?_
  pointwise [k0_pay79]
  rw [window_tab2 d.wsg 0 768 _ (by decide) (by decide), window_row2' d.bsg 1 0 _ (by decide) (by decide)]
  try simp only [sh_sh, sh_zero, lo_sh, Nat.reduceAdd]
  rfl

/-- What `k0_pay80` is of the layer's values. -/
theorem st80 : k0_pay80 (F := Ideal) (tab2 (fun r (l : Fin 256) => d.yt r (sh 0 (by decide) l))) (tab2 (fun r (l : Fin 256) => ∑ x, d.s r x * d.wsg x (sh 768 (by decide) l) + d.bsg 1 (sh 0 (by decide) l))) (VecWindow.window (s := S1x512x768) (row3 d.a1) ![0, 0, 0] S1x512x256.size inb_S1x512x768_S1x512x256_0_0_0)
    = row3 (fun r (l : Fin 256) => d.y r (sh 0 (by decide) l)) := by
  refine eq_row3 _ _ fun r l => ?_
  pointwise [k0_pay80]
  rw [window_row3 d.a1 0 _ (by decide)]
  try simp only [D.y, sh_sh, sh_zero, lo_sh, Nat.reduceAdd]
  rfl

/-- What `k0_pay81` is of the layer's values. -/
theorem st81 : k0_pay81 (F := Ideal) (col2 d.hs) (row3 d.hc) (VecWindow.window (s := S1536x768) (tab2 d.wu) ![0, 256] S1536x256.size inb_S1536x768_S1536x256_0_256) (VecWindow.window (s := S1x768) (row2 d.wus) ![0, 256] S1x256.size inb_S1x768_S1x256_0_256) (row3 d.s) (VecWindow.window (s := S384x1536) (tab2 d.wsg) ![0, 1024] S384x256.size inb_S384x1536_S384x256_0_1024) (VecWindow.window (s := S2x768) (tab2 d.bsg) ![1, 256] S1x256.size inb_S2x768_S1x256_1_256) (VecWindow.window (s := S1x512x768) (row3 d.a1) ![0, 0, 256] S1x512x256.size inb_S1x512x768_S1x512x256_0_0_256)
    = row3 (fun r (l : Fin 256) => d.y r (sh 256 (by decide) l)) := by
  refine eq_row3 _ _ fun r l => ?_
  pointwise [k0_pay81]
  rw [window_tab2 d.wu 0 256 _ (by decide) (by decide), window_row2 d.wus 256 _ (by decide), window_tab2 d.wsg 0 1024 _ (by decide) (by decide), window_row2' d.bsg 1 256 _ (by decide) (by decide), window_row3 d.a1 256 _ (by decide)]
  try simp only [D.y, D.yt, sh_sh, sh_zero, lo_sh, Nat.reduceAdd]
  rfl

/-- What `k0_pay82` is of the layer's values. -/
theorem st82 : k0_pay82 (F := Ideal) (col2 d.hs) (row3 d.hc) (VecWindow.window (s := S1536x768) (tab2 d.wu) ![0, 512] S1536x256.size inb_S1536x768_S1536x256_0_512) (VecWindow.window (s := S1x768) (row2 d.wus) ![0, 512] S1x256.size inb_S1x768_S1x256_0_512) (row3 d.s) (VecWindow.window (s := S384x1536) (tab2 d.wsg) ![0, 1280] S384x256.size inb_S384x1536_S384x256_0_1280) (VecWindow.window (s := S2x768) (tab2 d.bsg) ![1, 512] S1x256.size inb_S2x768_S1x256_1_512) (VecWindow.window (s := S1x512x768) (row3 d.a1) ![0, 0, 512] S1x512x256.size inb_S1x512x768_S1x512x256_0_0_512)
    = tab2 (fun r (l : Fin 256) => d.y r (sh 512 (by decide) l)) := by
  refine eq_tab2 _ _ fun r l => ?_
  pointwise [k0_pay82]
  rw [window_tab2 d.wu 0 512 _ (by decide) (by decide), window_row2 d.wus 512 _ (by decide), window_tab2 d.wsg 0 1280 _ (by decide) (by decide), window_row2' d.bsg 1 512 _ (by decide) (by decide), window_row3 d.a1 512 _ (by decide)]
  try simp only [D.y, D.yt, sh_sh, sh_zero, lo_sh, Nat.reduceAdd]
  rfl

/-- `k0_pay1` adds a leading coordinate. -/
theorem st1 (g : Fin 512 → Fin 256 → EReal) : k0_pay1 (F := Ideal) (tab2 g) = row3 g := by
  refine eq_row3 _ _ fun r l => ?_
  pointwise [k0_pay1]
  rfl

end Cert.KernelIdeal.Hand

end
-- ==== Proof.Body.lean ====
module

public import proofs.«01_k».proof.Proof.RunAB
public import proofs.«01_k».proof.Proof.RunCD
public import proofs.«01_k».proof.Proof.RunEF
public import proofs.«01_k».proof.Proof.Stage1
public import proofs.«01_k».proof.Proof.Stage2
public import proofs.«01_k».proof.Proof.Stage3
public import proofs.«01_k».proof.Proof.Stage4

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Cert.Spec

local notation "𝕄" => MT nD τ sig Unit (Elt Ideal) ℕ (UR sig nD τ) ℕ

variable {c : Dev nD} {i : grid0.Coords}
variable {arg1 : Memref sig .tc .vmem S1x512x768 .bf16} {harg1 : arg1.IsWhole}
variable {arg2 : Memref sig .tc .vmem S1x512x384 .bf16} {harg2 : arg2.IsWhole}
variable {arg3 : Memref sig .tc .vmem S16x416x512 .f32} {harg3 : arg3.IsWhole}
variable {arg4 : Memref sig .tc .vmem S1x384 .f32} {harg4 : arg4.IsWhole}
variable {arg5 : Memref sig .tc .vmem S1x384 .f32} {harg5 : arg5.IsWhole}
variable {arg6 : Memref sig .tc .vmem S384x1536 .bf16} {harg6 : arg6.IsWhole}
variable {arg7 : Memref sig .tc .vmem S1x768 .f32} {harg7 : arg7.IsWhole}
variable {arg8 : Memref sig .tc .vmem S384x1536 .bf16} {harg8 : arg8.IsWhole}
variable {arg9 : Memref sig .tc .vmem S1x768 .f32} {harg9 : arg9.IsWhole}
variable {arg10 : Memref sig .tc .vmem S384x1536 .bf16} {harg10 : arg10.IsWhole}
variable {arg11 : Memref sig .tc .vmem S2x768 .f32} {harg11 : arg11.IsWhole}
variable {arg12 : Memref sig .tc .vmem S3072x768 .fp8e4m3} {harg12 : arg12.IsWhole}
variable {arg13 : Memref sig .tc .vmem S3072x128 .f32} {harg13 : arg13.IsWhole}
variable {arg14 : Memref sig .tc .vmem S768x128 .f32} {harg14 : arg14.IsWhole}
variable {arg15 : Memref sig .tc .vmem S768x768 .fp8e4m3} {harg15 : arg15.IsWhole}
variable {arg16 : Memref sig .tc .vmem S1x768 .f32} {harg16 : arg16.IsWhole}
variable {arg17 : Memref sig .tc .vmem S2x768x1536 .fp8e4m3} {harg17 : arg17.IsWhole}
variable {arg18 : Memref sig .tc .vmem S2x1536 .f32} {harg18 : arg18.IsWhole}
variable {arg19 : Memref sig .tc .vmem S1536x768 .fp8e4m3} {harg19 : arg19.IsWhole}
variable {arg20 : Memref sig .tc .vmem S1x768 .f32} {harg20 : arg20.IsWhole}
variable {arg21 : Memref sig .tc .vmem S1x512x768 .bf16} {harg21 : arg21.IsWhole}
variable {arg22 : Memref sig .tc .vmem S1x512x768 .f32} {harg22 : arg22.IsWhole}
variable {arg23 : Memref sig .tc .vmem S1x512x768 .fp8e4m3} {harg23 : arg23.IsWhole}
variable {arg24 : Memref sig .tc .vmem S25x512 .f32} {harg24 : arg24.IsWhole}
variable {arg25 : Memref sig .tc .vmem S1x16x48x512 .fp8e4m3} {harg25 : arg25.IsWhole}
variable {arg26 : Memref sig .tc .vmem S1x16x512 .f32} {harg26 : arg26.IsWhole}
variable {arg27 : Memref sig .tc .vmem S1x16x48x512 .fp8e4m3} {harg27 : arg27.IsWhole}
variable {arg28 : Memref sig .tc .vmem S1x16x512 .f32} {harg28 : arg28.IsWhole}
variable {arg29 : Memref sig .tc .vmem S1x16x48x512 .fp8e4m3} {harg29 : arg29.IsWhole}
variable {arg30 : Memref sig .tc .vmem S1x16x512 .f32} {harg30 : arg30.IsWhole}
variable {arg31 : Memref sig .tc .vmem S1x16x48x512 .fp8e4m3} {harg31 : arg31.IsWhole}
variable {arg32 : Memref sig .tc .vmem S25x512 .f32} {harg32 : arg32.IsWhole}
variable {arg33 : Memref sig .tc .vmem S1x512x768 .fp8e4m3} {harg33 : arg33.IsWhole}
variable {arg34 : Memref sig .tc .vmem S25x512 .f32} {harg34 : arg34.IsWhole}
variable {arg35 : Memref sig .tc .vmem S1x512x1536 .fp8e4m3} {harg35 : arg35.IsWhole}
variable {arg36 : Memref sig .tc .vmem S25x512 .f32} {harg36 : arg36.IsWhole}
variable {arg37 : Memref sig .tc .vmem S512x384 .bf16} {harg37 : arg37.IsWhole}
variable {arg38 : Memref sig .tc .vmem S512x384 .bf16} {harg38 : arg38.IsWhole}
variable {arg39 : Memref sig .tc .vmem S512x768 .f32} {harg39 : arg39.IsWhole}
variable {arg40 : Memref sig .tc .vmem S512x768 .f32} {harg40 : arg40.IsWhole}
variable {arg41 : Memref sig .tc .vmem S768x512 .f32} {harg41 : arg41.IsWhole}
variable {arg42 : Memref sig .tc .vmem S16x48x512 .f32} {harg42 : arg42.IsWhole}
variable {arg43 : Memref sig .tc .vmem S16x48x512 .f32} {harg43 : arg43.IsWhole}
variable {arg44 : Memref sig .tc .vmem S512x1536 .f32} {harg44 : arg44.IsWhole}
variable {E : Set ℕ}

set_option maxHeartbeats 8000000 in
/-- What all but the last store of the layer leave in the buffers. -/
theorem k0_part21_run (d : D) (X24 : Vec Ideal S25x512 .f32) (X32 : Vec Ideal S25x512 .f32) (X34 : Vec Ideal S25x512 .f32) (X36 : Vec Ideal S25x512 .f32)
    (K : FVec Ideal S512x256 .bf16 → sProp 𝕄) :
    iprop(ow c arg1 (row3 d.a) ∗ ow c arg2 (row3 d.s) ∗ ow c arg3 (tab3 d.bias) ∗ ow c arg4 (row2 d.g1) ∗ ow c arg5 (row2 d.g2) ∗ ow c arg6 (tab2 d.wa1) ∗ ow c arg7 (row2 d.ba1) ∗ ow c arg8 (tab2 d.wa2) ∗ ow c arg9 (row2 d.ba2) ∗ ow c arg10 (tab2 d.wsg) ∗ ow c arg11 (tab2 d.bsg) ∗ ow c arg12 (tab2 d.wq) ∗ ow c arg13 (lane (wqsR d)) ∗ ow c arg14 (lane (bqR d)) ∗ ow c arg15 (tab2 d.wo) ∗ ow c arg16 (row2 d.wos) ∗ ow c arg17 (tab3 d.wi) ∗ ow c arg18 (tab2 d.wis) ∗ ow c arg19 (tab2 d.wu) ∗ ow c arg20 (row2 d.wus) ∗ (∃ d, ow c arg21 d) ∗ (∃ d, ow c arg22 d) ∗ (∃ d, ow c arg23 d) ∗ ow c arg24 X24 ∗ (∃ d, ow c arg25 d) ∗ (∃ d, ow c arg26 d) ∗ (∃ d, ow c arg27 d) ∗ (∃ d, ow c arg28 d) ∗ (∃ d, ow c arg29 d) ∗ (∃ d, ow c arg30 d) ∗ (∃ d, ow c arg31 d) ∗ ow c arg32 X32 ∗ (∃ d, ow c arg33 d) ∗ ow c arg34 X34 ∗ (∃ d, ow c arg35 d) ∗ ow c arg36 X36 ∗ (∃ d, ow c arg37 d) ∗ (∃ d, ow c arg38 d) ∗ (∃ d, ow c arg39 d) ∗ (∃ d, ow c arg40 d) ∗ (∃ d, ow c arg41 d) ∗ (∃ d, ow c arg42 d) ∗ (∃ d, ow c arg43 d) ∗ (∃ d, ow c arg44 d)
        ∗ (iprop(ow c arg1 (row3 d.a) ∗ ow c arg2 (row3 d.s) ∗ ow c arg3 (tab3 d.bias) ∗ ow c arg4 (row2 d.g1) ∗ ow c arg5 (row2 d.g2) ∗ ow c arg6 (tab2 d.wa1) ∗ ow c arg7 (row2 d.ba1) ∗ ow c arg8 (tab2 d.wa2) ∗ ow c arg9 (row2 d.ba2) ∗ ow c arg10 (tab2 d.wsg) ∗ ow c arg11 (tab2 d.bsg) ∗ ow c arg12 (tab2 d.wq) ∗ ow c arg13 (lane (wqsR d)) ∗ ow c arg14 (lane (bqR d)) ∗ ow c arg15 (tab2 d.wo) ∗ ow c arg16 (row2 d.wos) ∗ ow c arg17 (tab3 d.wi) ∗ ow c arg18 (tab2 d.wis) ∗ ow c arg19 (tab2 d.wu) ∗ ow c arg20 (row2 d.wus) ∗ (∃ Z, ow c arg21 (VecWindow.put (s := S1x512x768) (VecWindow.put (s := S1x512x768) Z ![0, 0, 0] S1x512x256.size (row3 (fun r (l : Fin 256) => d.y r (sh 0 (by decide) l)))) ![0, 0, 256] S1x512x256.size (row3 (fun r (l : Fin 256) => d.y r (sh 256 (by decide) l))))) ∗ ow c arg22 (row3 d.a1) ∗ ow c arg23 (row3 d.x1c) ∗ ow c arg24 (VecWindow.put (s := S25x512) X24 (k0_off1 i) S1x512.size (row2 d.x1s)) ∗ ow c arg25 (row4 d.qc) ∗ ow c arg26 (row3 d.qs) ∗ ow c arg27 (row4 d.kc) ∗ ow c arg28 (row3 d.ks) ∗ ow c arg29 (row4 d.vc) ∗ ow c arg30 (row3 d.vs) ∗ ow c arg31 (row4 fun h r n => d.ogc (hrow h r) n) ∗ ow c arg32 (VecWindow.put (s := S25x512) X32 (k0_off1 i) S1x512.size (row2 d.ogs)) ∗ ow c arg33 (row3 d.x2c) ∗ ow c arg34 (VecWindow.put (s := S25x512) X34 (k0_off1 i) S1x512.size (row2 d.x2s)) ∗ ow c arg35 (row3 d.hc) ∗ ow c arg36 (VecWindow.put (s := S25x512) X36 (k0_off1 i) S1x512.size (row2 d.hs)) ∗ (∃ d, ow c arg37 d) ∗ (∃ d, ow c arg38 d) ∗ (∃ d, ow c arg39 d) ∗ (∃ d, ow c arg40 d) ∗ (∃ d, ow c arg41 d) ∗ (∃ d, ow c arg42 d) ∗ (∃ d, ow c arg43 d) ∗ (∃ d, ow c arg44 d)) -∗ K (tab2 (fun r (l : Fin 256) => d.y r (sh 512 (by decide) l)))))
      ⊢ wp frame (wpE (defs₀ (F := Ideal)) Variants.none c none) E (k0_part21 (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44) K := by
  simp only [k0_part21_eq_skeleton]; unfold k0_part21_skel
  iintro ⟨H1, H2, H3, H4, H5, H6, H7, H8, H9, H10, H11, H12, H13, H14, H15, H16, H17, H18, H19, H20, H21, H22, H23, H24, H25, H26, H27, H28, H29, H30, H31, H32, H33, H34, H35, H36, H37, H38, H39, H40, H41, H42, H43, H44, Hk⟩
  rw [wp_bind]
  iapply (k0_part3_run (c := c) (i := i) (E := E)  (row3 d.s) (row2 d.g1) (row2 d.g2) (row3 d.a))
  isplitl [H2]; · iexact H2
  isplitl [H4]; · iexact H4
  isplitl [H5]; · iexact H5
  isplitl [H1]; · iexact H1
  isplitl [H37]; · iexact H37
  isplitl [H38]; · iexact H38
  rw [st9 d, st10 d, st11 d, st12 d]
  iintro ⟨H2, H4, H5, H1, ⟨%Y37_3, %h37_3, H37⟩, ⟨%Y38_3, %h38_3, H38⟩⟩
  subst h37_3; subst h38_3
  try dsimp (proj := false) only
  icases H40 with ⟨%Z40, H40⟩
  rw [wp_bind]
  iapply (k0_part4_run (c := c) (i := i) (E := E) (tab2 d.a) (tab1 fun r => ∑ x, d.a r x) (tab2 d.sn1) (tab2 d.wa1) (row2 d.ba1) Z40)
  isplitl [H37]; · iexact H37
  isplitl [H6]; · iexact H6
  isplitl [H7]; · iexact H7
  isplitl [H40]; · iexact H40
  isplitl [H39]; · iexact H39
  rw [st13 d, st14 d]
  iintro ⟨H37, H6, H7, ⟨%Y40_4, %h40_4, H40⟩, ⟨%Y39_4, %h39_4, H39⟩⟩
  subst h40_4; subst h39_4
  try dsimp (proj := false) only
  rw [wp_bind]
  iapply (k0_part5_run (c := c) (i := i) (E := E)  (tab2 d.sn1) (tab2 d.wa1) (tab2 d.an) (row2 d.ba1) (VecWindow.put (s := S512x768) Z40 ![0, 0] S512x256.size (tab2 (fun r (l : Fin 256) => d.x1 r (sh 0 _ l)))))
  isplitl [H37]; · iexact H37
  isplitl [H6]; · iexact H6
  isplitl [H39]; · iexact H39
  isplitl [H7]; · iexact H7
  isplitl [H40]; · iexact H40
  rw [st15 d, st16 d]
  iintro ⟨H37, H6, H39, H7, ⟨%Y40_5, %h40_5, H40⟩⟩
  subst h40_5
  try dsimp (proj := false) only
  rw [wp_bind]
  iapply (k0_part6_run (c := c) (i := i) (E := E) (BitVec.ofNat 32 (i 0).val) (tab2 (fun r (l : Fin 256) => d.x1 r (sh 512 _ l))) (VecWindow.put (s := S512x768) (VecWindow.put (s := S512x768) Z40 ![0, 0] S512x256.size (tab2 (fun r (l : Fin 256) => d.x1 r (sh 0 _ l)))) ![0, 256] S512x256.size (tab2 (fun r (l : Fin 256) => d.x1 r (sh 256 _ l)))) X24 (tab2 d.wq))
  isplitl [H40]; · iexact H40
  isplitl [H24]; · iexact H24
  isplitl [H12]; · iexact H12
  isplitl [H23]; · iexact H23
  isplitl [H41]; · iexact H41
  rw [st17, bands3 Z40 d.x1, st19 d, st20 d, st21 d]
  iintro ⟨⟨%Y40_6, %h40_6, H40⟩, ⟨%Y24_6, %h24_6, H24⟩, H12, ⟨%Y23_6, %h23_6, H23⟩, ⟨%Y41_6, %h41_6, H41⟩⟩
  subst h40_6; subst h24_6; subst h23_6; subst h41_6
  try dsimp (proj := false) only
  rw [wp_bind]
  iapply (k0_part7_run (c := c) (i := i) (E := E) (row2 d.x1s) (tab2 d.wq) (lane (wqsR d)) (lane (bqR d)) (row3 d.x1c) (tab2 fun R n => d.pj (sh 0 _ R) n))
  isplitl [H12]; · iexact H12
  isplitl [H13]; · iexact H13
  isplitl [H14]; · iexact H14
  isplitl [H23]; · iexact H23
  isplitl [H41]; · iexact H41
  isplitl [H25]; · iexact H25
  isplitl [H26]; · iexact H26
  isplitl [H27]; · iexact H27
  isplitl [H28]; · iexact H28
  isplitl [H29]; · iexact H29
  isplitl [H30]; · iexact H30
  rw [st23 d, st28 d, st33 d]
  iintro ⟨H12, H13, H14, H23, H41, ⟨%Y25, %h25, H25⟩, ⟨%Y26, %h26, H26⟩, ⟨%Y27, %h27, H27⟩, ⟨%Y28, %h28, H28⟩, ⟨%Y29, %h29, H29⟩, ⟨%Y30, %h30, H30⟩⟩
  have e25 : Y25 = row4 d.qc := eq_row4 _ _ fun h r l => (h25 h r l).trans (by rw [rows13_wqs, rows41_pj d 0 0 rfl (by decide), rows41_bq]; exact st4 d h r l)
  subst e25
  have e26 : Y26 = row3 d.qs := eq_row3 _ _ fun h l => (h26 h l).trans (by rw [rows13_wqs, rows41_pj d 0 0 rfl (by decide), rows41_bq]; exact st22 d h l)
  subst e26
  have e27 : Y27 = row4 d.kc := eq_row4 _ _ fun h r l => (h27 h r l).trans (by rw [rows13_wqs, rows41_pj d 1 768 rfl (by decide)]; exact st26 d h r l)
  subst e27
  have e28 : Y28 = row3 d.ks := eq_row3 _ _ fun h l => (h28 h l).trans (by rw [rows13_wqs, rows41_pj d 1 768 rfl (by decide)]; exact st27 d h l)
  subst e28
  have e29 : Y29 = row4 d.vc := eq_row4 _ _ fun h r l => (h29 h r l).trans (by rw [rows13_wqs, rows41_pj d 2 1536 rfl (by decide)]; exact st31 d h r l)
  subst e29
  have e30 : Y30 = row3 d.vs := eq_row3 _ _ fun h l => (h30 h l).trans (by rw [rows13_wqs, rows41_pj d 2 1536 rfl (by decide)]; exact st32 d h l)
  subst e30
  try dsimp (proj := false) only
  rw [wp_bind]
  iapply (k0_part8_run (c := c) (i := i) (E := E) (row2 d.x1s) (tab2 fun R n => d.pj (sh 2304 _ R) n) (lane (wqsR d)) (tab3 d.bias) (row4 d.qc) (row3 d.qs) (row4 d.kc) (row3 d.ks) (row4 d.vc) (row3 d.vs) X32)
  isplitl [H13]; · iexact H13
  isplitl [H3]; · iexact H3
  isplitl [H25]; · iexact H25
  isplitl [H26]; · iexact H26
  isplitl [H27]; · iexact H27
  isplitl [H28]; · iexact H28
  isplitl [H29]; · iexact H29
  isplitl [H30]; · iexact H30
  isplitl [H32]; · iexact H32
  isplitl [H41]; · iexists _; iexact H41
  isplitl [H42]; · iexact H42
  isplitl [H43]; · iexact H43
  isplitl [H31]; · iexact H31
  iintro %Y42 %Z43 %hYZ ⟨H13, H3, H25, H26, H27, H28, H29, H30, H32, H41, H42, H43, H31⟩
  rw [st34] at hYZ
  rw [st34]
  obtain ⟨h42, h43⟩ := hYZ
  have e42 : Y42 = tab3 d.gt := eq_tab3 _ _ fun h r l => (h42 h r l).trans (by rw [rows13_wqs, rows41_pj d 3 2304 rfl (by decide)]; exact st35 d h r l)
  subst e42
  have e43 : Z43 = tab3 d.ov := eq_tab3 _ _ fun h r l => (h43 h r l).trans (by rw [st5, st6, st7]; exact st36 d h r l)
  subst e43
  rw [st38 d, st40 d, st41 d, st42 d]
  try dsimp (proj := false) only
  icases H22 with ⟨%Z22, H22⟩
  rw [wp_bind]
  iapply (k0_part9_run (c := c) (i := i) (E := E) (tab2 fun n j => d.ogc j n) (row2 d.ogs) (tab2 d.wo) (row2 d.wos) (row3 d.s) (tab2 d.wsg) (tab2 d.bsg) (row3 d.a) Z22)
  isplitl [H15]; · iexact H15
  isplitl [H16]; · iexact H16
  isplitl [H2]; · iexact H2
  isplitl [H10]; · iexact H10
  isplitl [H11]; · iexact H11
  isplitl [H1]; · iexact H1
  isplitl [H22]; · iexact H22
  rw [st43 d, st44 d, st45 d]
  iintro ⟨H15, H16, H2, H10, H11, H1, ⟨%Y22_9, %h22_9, H22⟩⟩
  subst h22_9
  try dsimp (proj := false) only
  rw [wp_bind]
  iapply (k0_part10_run (c := c) (i := i) (E := E) (tab2 fun n j => d.ogc j n) (col2 d.ogs) (tab2 (fun r (l : Fin 256) => d.yo r (sh 256 _ l))) (row3 d.s) (tab2 d.wsg) (tab2 d.bsg) (row3 d.a) (VecWindow.put (s := S1x512x768) Z22 ![0, 0, 0] S1x512x256.size (row3 (fun r (l : Fin 256) => d.a1 r (sh 0 _ l)))) (tab2 d.wo) (row2 d.wos))
  isplitl [H2]; · iexact H2
  isplitl [H10]; · iexact H10
  isplitl [H11]; · iexact H11
  isplitl [H1]; · iexact H1
  isplitl [H22]; · iexact H22
  isplitl [H15]; · iexact H15
  isplitl [H16]; · iexact H16
  rw [st46 d, st47 d, st48 d]
  iintro ⟨H2, H10, H11, H1, ⟨%Y22_10, %h22_10, H22⟩, H15, H16⟩
  subst h22_10
  try dsimp (proj := false) only
  rw [wp_bind]
  iapply (k0_part11_run (c := c) (i := i) (E := E) (tab2 (fun r (l : Fin 256) => d.yo r (sh 512 _ l))) (tab2 (fun r (l : Fin 256) => ∑ x, d.s r x * d.wsg x (sh 512 _ l) + d.bsg 0 (sh 512 _ l))) (VecWindow.window (s := S1x512x768) (row3 d.a) ![0, 0, 512] S1x512x256.size inb_S1x512x768_S1x512x256_0_0_512) (VecWindow.put (s := S1x512x768) (VecWindow.put (s := S1x512x768) Z22 ![0, 0, 0] S1x512x256.size (row3 (fun r (l : Fin 256) => d.a1 r (sh 0 _ l)))) ![0, 0, 256] S1x512x256.size (row3 (fun r (l : Fin 256) => d.a1 r (sh 256 _ l)))) (tab2 d.sn2) (tab2 d.wa2))
  isplitl [H22]; · iexact H22
  isplitl [H38]; · iexact H38
  isplitl [H8]; · iexact H8
  isplitl [H39]; · iexists _; iexact H39
  rw [st49 d, bands3' Z22 d.a1, st50 d, st51 d, st52 d]
  iintro ⟨⟨%Y22_11, %h22_11, H22⟩, H38, H8, ⟨%Y39_11, %h39_11, H39⟩⟩
  subst h22_11; subst h39_11
  try dsimp (proj := false) only
  rw [wp_bind]
  iapply (k0_part12_run (c := c) (i := i) (E := E) (tab2 (fun r (l : Fin 256) => ∑ x, d.sn2 r x * d.wa2 x (sh 0 _ l))) (tab2 (fun r (l : Fin 256) => ∑ x, d.sn2 r x * d.wa2 x (sh 768 _ l))) (tab2 d.an2) (row2 d.ba2) (tab2 d.x1) (tab2 d.sn2) (tab2 d.wa2))
  isplitl [H39]; · iexact H39
  isplitl [H9]; · iexact H9
  isplitl [H40]; · iexact H40
  isplitl [H38]; · iexact H38
  isplitl [H8]; · iexact H8
  rw [st53 d, st54 d, st55 d]
  iintro ⟨H39, H9, ⟨%Y40_12, %h40_12, H40⟩, H38, H8⟩
  subst h40_12
  try dsimp (proj := false) only
  rw [wp_bind]
  iapply (k0_part13_run (c := c) (i := i) (E := E) (BitVec.ofNat 32 (i 0).val) (tab2 (fun r (l : Fin 256) => ∑ x, d.sn2 r x * d.wa2 x (sh 512 _ l))) (tab2 d.sn2) (tab2 d.wa2) (tab2 d.an2) (row2 d.ba2) (VecWindow.put (s := S512x768) (VecWindow.put (s := S512x768) (tab2 d.x1) ![0, 0] S512x256.size (tab2 (fun r (l : Fin 256) => d.x2 r (sh 0 _ l)))) ![0, 256] S512x256.size (tab2 (fun r (l : Fin 256) => d.x2 r (sh 256 _ l)))))
  isplitl [H38]; · iexact H38
  isplitl [H8]; · iexact H8
  isplitl [H39]; · iexact H39
  isplitl [H9]; · iexact H9
  isplitl [H40]; · iexact H40
  isplitl [H33]; · iexact H33
  rw [st56 d, bands3 (tab2 d.x1) d.x2, st57 d, st58 d, st59 d]
  iintro ⟨H38, H8, H39, H9, ⟨%Y40_13, %h40_13, H40⟩, ⟨%Y33_13, %h33_13, H33⟩⟩
  subst h40_13; subst h33_13
  try dsimp (proj := false) only
  icases H44 with ⟨%Z44, H44⟩
  rw [wp_bind]
  iapply (k0_part14_run (c := c) (i := i) (E := E) (col2 d.x2s) (row2 d.x2s) X34 (row3 d.x2c) (tab3 d.wi) (tab2 d.wis) Z44)
  isplitl [H34]; · iexact H34
  isplitl [H33]; · iexact H33
  isplitl [H17]; · iexact H17
  isplitl [H18]; · iexact H18
  isplitl [H44]; · iexact H44
  rw [st60 d, st61 d, st62 d]
  iintro ⟨⟨%Y34_14, %h34_14, H34⟩, H33, H17, H18, ⟨%Y44_14, %h44_14, H44⟩⟩
  subst h34_14; subst h44_14
  try dsimp (proj := false) only
  rw [wp_bind]
  iapply (k0_part15_run (c := c) (i := i) (E := E) (col2 d.x2s) (tab2 d.x2c) (tab2 (fun r (l : Fin 256) => d.wi 0 r (sh 256 _ l))) (tab2 d.wis) (row3 d.x2c) (tab3 d.wi) (VecWindow.put (s := S512x1536) Z44 ![0, 0] S512x256.size (tab2 (fun r (l : Fin 256) => d.hv r (sh 0 _ l)))))
  isplitl [H18]; · iexact H18
  isplitl [H33]; · iexact H33
  isplitl [H17]; · iexact H17
  isplitl [H44]; · iexact H44
  rw [st63 d, st64 d]
  iintro ⟨H18, H33, H17, ⟨%Y44_15, %h44_15, H44⟩⟩
  subst h44_15
  try dsimp (proj := false) only
  rw [wp_bind]
  iapply (k0_part16_run (c := c) (i := i) (E := E) (col2 d.x2s) (tab2 (fun r (l : Fin 256) => d.hz 0 r (sh 512 _ l))) (row3 d.x2c) (tab3 d.wi) (tab2 d.wis) (VecWindow.put (s := S512x1536) (VecWindow.put (s := S512x1536) Z44 ![0, 0] S512x256.size (tab2 (fun r (l : Fin 256) => d.hv r (sh 0 _ l)))) ![0, 256] S512x256.size (tab2 (fun r (l : Fin 256) => d.hv r (sh 256 _ l)))) (row3 d.x2c))
  isplitl [H17]; · iexact H17
  isplitl [H18]; · iexact H18
  isplitl [H44]; · iexact H44
  isplitl [H33]; · iexact H33
  rw [st65 d, st66 d, st67 d]
  iintro ⟨H17, H18, ⟨%Y44_16, %h44_16, H44⟩, H33⟩
  subst h44_16
  try dsimp (proj := false) only
  rw [wp_bind]
  iapply (k0_part17_run (c := c) (i := i) (E := E) (col2 d.x2s) (tab2 (fun r (l : Fin 256) => d.hz 0 r (sh 768 _ l))) (tab2 (fun r (l : Fin 256) => (∑ x, d.x2c r x * d.wi 1 x (sh 768 _ l)) * d.x2s r)) (VecWindow.window (s := S2x1536) (tab2 d.wis) ![1, 768] S1x256.size inb_S2x1536_S1x256_1_768) (VecWindow.put (s := S512x1536) (VecWindow.put (s := S512x1536) (VecWindow.put (s := S512x1536) Z44 ![0, 0] S512x256.size (tab2 (fun r (l : Fin 256) => d.hv r (sh 0 _ l)))) ![0, 256] S512x256.size (tab2 (fun r (l : Fin 256) => d.hv r (sh 256 _ l)))) ![0, 512] S512x256.size (tab2 (fun r (l : Fin 256) => d.hv r (sh 512 _ l)))) (row3 d.x2c) (tab3 d.wi) (tab2 d.wis))
  isplitl [H44]; · iexact H44
  isplitl [H33]; · iexact H33
  isplitl [H17]; · iexact H17
  isplitl [H18]; · iexact H18
  rw [st68 d, st69 d]
  iintro ⟨⟨%Y44_17, %h44_17, H44⟩, H33, H17, H18⟩
  subst h44_17
  try dsimp (proj := false) only
  rw [wp_bind]
  iapply (k0_part18_run (c := c) (i := i) (E := E) (col2 d.x2s) (row3 d.x2c) (tab3 d.wi) (tab2 d.wis) (VecWindow.put (s := S512x1536) (VecWindow.put (s := S512x1536) (VecWindow.put (s := S512x1536) (VecWindow.put (s := S512x1536) (VecWindow.put (s := S512x1536) Z44 ![0, 0] S512x256.size (tab2 (fun r (l : Fin 256) => d.hv r (sh 0 _ l)))) ![0, 256] S512x256.size (tab2 (fun r (l : Fin 256) => d.hv r (sh 256 _ l)))) ![0, 512] S512x256.size (tab2 (fun r (l : Fin 256) => d.hv r (sh 512 _ l)))) ![0, 768] S512x256.size (tab2 (fun r (l : Fin 256) => d.hv r (sh 768 _ l)))) ![0, 1024] S512x256.size (tab2 (fun r (l : Fin 256) => d.hv r (sh 1024 _ l)))))
  isplitl [H33]; · iexact H33
  isplitl [H17]; · iexact H17
  isplitl [H18]; · iexact H18
  isplitl [H44]; · iexact H44
  rw [st70 d, bands6 Z44 d.hv]
  iintro ⟨H33, H17, H18, ⟨%Y44_18, %h44_18, H44⟩⟩
  subst h44_18
  try dsimp (proj := false) only
  rw [wp_bind]
  iapply (k0_part19_run (c := c) (i := i) (E := E) (BitVec.ofNat 32 (i 0).val) (tab2 d.hv) (k0_pay72 (F := Ideal) (tab2 d.hv)) (k0_pay73 (F := Ideal) (tab2 d.hv)) (k0_pay74 (F := Ideal)) X36 (tab2 d.wu) (row2 d.wus) (row3 d.s) (tab2 d.wsg) (tab2 d.bsg))
  isplitl [H36]; · iexact H36
  isplitl [H19]; · iexact H19
  isplitl [H20]; · iexact H20
  isplitl [H2]; · iexact H2
  isplitl [H10]; · iexact H10
  isplitl [H11]; · iexact H11
  isplitl [H35]; · iexact H35
  rw [st75 d, st76 d, st77 d, st78 d, st79 d]
  iintro ⟨⟨%Y36_19, %h36_19, H36⟩, H19, H20, H2, H10, H11, ⟨%Y35_19, %h35_19, H35⟩⟩
  subst h36_19; subst h35_19
  try dsimp (proj := false) only
  icases H21 with ⟨%Z21, H21⟩
  rw [wp_bind]
  iapply (k0_part20_run (c := c) (i := i) (E := E) (col2 d.hs) (tab2 (fun r (l : Fin 256) => d.yt r (sh 0 _ l))) (tab2 (fun r (l : Fin 256) => ∑ x, d.s r x * d.wsg x (sh 768 _ l) + d.bsg 1 (sh 0 _ l))) (row3 d.a1) Z21 (row3 d.hc) (tab2 d.wu) (row2 d.wus) (row3 d.s) (tab2 d.wsg) (tab2 d.bsg))
  isplitl [H22]; · iexact H22
  isplitl [H21]; · iexact H21
  isplitl [H35]; · iexact H35
  isplitl [H19]; · iexact H19
  isplitl [H20]; · iexact H20
  isplitl [H2]; · iexact H2
  isplitl [H10]; · iexact H10
  isplitl [H11]; · iexact H11
  rw [st80 d, st81 d]
  iintro ⟨H22, ⟨%Y21_20, %h21_20, H21⟩, H35, H19, H20, H2, H10, H11⟩
  subst h21_20
  try dsimp (proj := false) only
  unfold ow owns
  icases H2 with ⟨%f2, %hf2, H2⟩
  icases H10 with ⟨%f10, %hf10, H10⟩
  icases H11 with ⟨%f11, %hf11, H11⟩
  icases H19 with ⟨%f19, %hf19, H19⟩
  icases H20 with ⟨%f20, %hf20, H20⟩
  icases H21 with ⟨%f21, %hf21, H21⟩
  icases H22 with ⟨%f22, %hf22, H22⟩
  icases H35 with ⟨%f35, %hf35, H35⟩
  sl_exec
  sl_step
  simp (proj := false) only [readCov_eq_readAt, readAt_win, View.read_writes_cons_put _ _ _ _ _ rfl, View.writes_nil, Memref.IsWhole.read_unread, wf_S1536x768, pf_S1536x768, wf_S1x512x1536, pf_S1x512x1536, wf_S1x512x384, pf_S1x512x384, wf_S1x512x768, pf_S1x512x768, wf_S1x768, pf_S1x768, wf_S2x768, pf_S2x768, wf_S384x1536, pf_S384x1536]
  rw [hf2, hf10, hf11, hf19, hf20, hf22, hf35, st82 d]
  iapply Hk
  isplitl [H1]
  · iexact H1
  isplitl [H2]
  · iexists _; isplitr; swap; · iexact H2
    ipureintro; exact hf2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexists _; isplitr; swap; · iexact H10
    ipureintro; exact hf10
  isplitl [H11]
  · iexists _; isplitr; swap; · iexact H11
    ipureintro; exact hf11
  isplitl [H12]
  · iexact H12
  isplitl [H13]
  · iexact H13
  isplitl [H14]
  · iexact H14
  isplitl [H15]
  · iexact H15
  isplitl [H16]
  · iexact H16
  isplitl [H17]
  · iexact H17
  isplitl [H18]
  · iexact H18
  isplitl [H19]
  · iexists _; isplitr; swap; · iexact H19
    ipureintro; exact hf19
  isplitl [H20]
  · iexists _; isplitr; swap; · iexact H20
    ipureintro; exact hf20
  isplitl [H21]
  · iexists Z21; iexists _; isplitr; swap; · iexact H21
    ipureintro
    try simp (proj := false) only [readCov_eq_readAt, readAt_win, View.read_writes_cons_put _ _ _ _ _ rfl, View.writes_nil, Memref.IsWhole.read_unread, wf_S1536x768, pf_S1536x768, wf_S1x512x1536, pf_S1x512x1536, wf_S1x512x384, pf_S1x512x384, wf_S1x512x768, pf_S1x512x768, wf_S1x768, pf_S1x768, wf_S2x768, pf_S2x768, wf_S384x1536, pf_S384x1536]
    try rw [hf21]
  isplitl [H22]
  · iexists _; isplitr; swap; · iexact H22
    ipureintro; exact hf22
  isplitl [H23]
  · iexact H23
  isplitl [H24]
  · iexact H24
  isplitl [H25]
  · iexact H25
  isplitl [H26]
  · iexact H26
  isplitl [H27]
  · iexact H27
  isplitl [H28]
  · iexact H28
  isplitl [H29]
  · iexact H29
  isplitl [H30]
  · iexact H30
  isplitl [H31]
  · iexact H31
  isplitl [H32]
  · iexact H32
  isplitl [H33]
  · iexact H33
  isplitl [H34]
  · iexact H34
  isplitl [H35]
  · iexists _; isplitr; swap; · iexact H35
    ipureintro; exact hf35
  isplitl [H36]
  · iexact H36
  isplitl [H37]
  · iexists _; iexact H37
  isplitl [H38]
  · iexists _; iexact H38
  isplitl [H39]
  · iexists _; iexact H39
  isplitl [H40]
  · iexists _; iexact H40
  isplitl [H41]
  · iexists _; iexact H41
  isplitl [H42]
  · iexists _; iexact H42
  isplitl [H43]
  · iexists _; iexact H43
  iexists _; iexact H44

set_option maxHeartbeats 4000000 in
/-- What the layer's body leaves in the buffers. -/
theorem cc0_layer_run (d : D) (X24 : Vec Ideal S25x512 .f32) (X32 : Vec Ideal S25x512 .f32) (X34 : Vec Ideal S25x512 .f32) (X36 : Vec Ideal S25x512 .f32)
    (K : PUnit → sProp 𝕄) :
    iprop(ow c arg1 (row3 d.a) ∗ ow c arg2 (row3 d.s) ∗ ow c arg3 (tab3 d.bias) ∗ ow c arg4 (row2 d.g1) ∗ ow c arg5 (row2 d.g2) ∗ ow c arg6 (tab2 d.wa1) ∗ ow c arg7 (row2 d.ba1) ∗ ow c arg8 (tab2 d.wa2) ∗ ow c arg9 (row2 d.ba2) ∗ ow c arg10 (tab2 d.wsg) ∗ ow c arg11 (tab2 d.bsg) ∗ ow c arg12 (tab2 d.wq) ∗ ow c arg13 (lane (wqsR d)) ∗ ow c arg14 (lane (bqR d)) ∗ ow c arg15 (tab2 d.wo) ∗ ow c arg16 (row2 d.wos) ∗ ow c arg17 (tab3 d.wi) ∗ ow c arg18 (tab2 d.wis) ∗ ow c arg19 (tab2 d.wu) ∗ ow c arg20 (row2 d.wus) ∗ (∃ d, ow c arg21 d) ∗ (∃ d, ow c arg22 d) ∗ (∃ d, ow c arg23 d) ∗ ow c arg24 X24 ∗ (∃ d, ow c arg25 d) ∗ (∃ d, ow c arg26 d) ∗ (∃ d, ow c arg27 d) ∗ (∃ d, ow c arg28 d) ∗ (∃ d, ow c arg29 d) ∗ (∃ d, ow c arg30 d) ∗ (∃ d, ow c arg31 d) ∗ ow c arg32 X32 ∗ (∃ d, ow c arg33 d) ∗ ow c arg34 X34 ∗ (∃ d, ow c arg35 d) ∗ ow c arg36 X36 ∗ (∃ d, ow c arg37 d) ∗ (∃ d, ow c arg38 d) ∗ (∃ d, ow c arg39 d) ∗ (∃ d, ow c arg40 d) ∗ (∃ d, ow c arg41 d) ∗ (∃ d, ow c arg42 d) ∗ (∃ d, ow c arg43 d) ∗ (∃ d, ow c arg44 d)
        ∗ (iprop(ow c arg1 (row3 d.a) ∗ ow c arg2 (row3 d.s) ∗ ow c arg3 (tab3 d.bias) ∗ ow c arg4 (row2 d.g1) ∗ ow c arg5 (row2 d.g2) ∗ ow c arg6 (tab2 d.wa1) ∗ ow c arg7 (row2 d.ba1) ∗ ow c arg8 (tab2 d.wa2) ∗ ow c arg9 (row2 d.ba2) ∗ ow c arg10 (tab2 d.wsg) ∗ ow c arg11 (tab2 d.bsg) ∗ ow c arg12 (tab2 d.wq) ∗ ow c arg13 (lane (wqsR d)) ∗ ow c arg14 (lane (bqR d)) ∗ ow c arg15 (tab2 d.wo) ∗ ow c arg16 (row2 d.wos) ∗ ow c arg17 (tab3 d.wi) ∗ ow c arg18 (tab2 d.wis) ∗ ow c arg19 (tab2 d.wu) ∗ ow c arg20 (row2 d.wus) ∗ ow c arg21 (row3 d.y) ∗ ow c arg22 (row3 d.a1) ∗ ow c arg23 (row3 d.x1c) ∗ ow c arg24 (VecWindow.put (s := S25x512) X24 (k0_off1 i) S1x512.size (row2 d.x1s)) ∗ ow c arg25 (row4 d.qc) ∗ ow c arg26 (row3 d.qs) ∗ ow c arg27 (row4 d.kc) ∗ ow c arg28 (row3 d.ks) ∗ ow c arg29 (row4 d.vc) ∗ ow c arg30 (row3 d.vs) ∗ ow c arg31 (row4 fun h r n => d.ogc (hrow h r) n) ∗ ow c arg32 (VecWindow.put (s := S25x512) X32 (k0_off1 i) S1x512.size (row2 d.ogs)) ∗ ow c arg33 (row3 d.x2c) ∗ ow c arg34 (VecWindow.put (s := S25x512) X34 (k0_off1 i) S1x512.size (row2 d.x2s)) ∗ ow c arg35 (row3 d.hc) ∗ ow c arg36 (VecWindow.put (s := S25x512) X36 (k0_off1 i) S1x512.size (row2 d.hs)) ∗ (∃ d, ow c arg37 d) ∗ (∃ d, ow c arg38 d) ∗ (∃ d, ow c arg39 d) ∗ (∃ d, ow c arg40 d) ∗ (∃ d, ow c arg41 d) ∗ (∃ d, ow c arg42 d) ∗ (∃ d, ow c arg43 d) ∗ (∃ d, ow c arg44 d)) -∗ K ⟨⟩))
      ⊢ wp frame (wpE (defs₀ (F := Ideal)) Variants.none c none) E (cc0_layer (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44) K := by
  simp only [cc0_layer_eq_skeleton]; unfold cc0_layer_skel
  iintro ⟨H1, H2, H3, H4, H5, H6, H7, H8, H9, H10, H11, H12, H13, H14, H15, H16, H17, H18, H19, H20, H21, H22, H23, H24, H25, H26, H27, H28, H29, H30, H31, H32, H33, H34, H35, H36, H37, H38, H39, H40, H41, H42, H43, H44, Hk⟩
  rw [wp_bind]
  iapply (k0_part21_run (c := c) (i := i) (E := E) d X24 X32 X34 X36)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  isplitl [H39]; · iexact H39
  isplitl [H40]; · iexact H40
  isplitl [H41]; · iexact H41
  isplitl [H42]; · iexact H42
  isplitl [H43]; · iexact H43
  isplitl [H44]; · iexact H44
  iintro ⟨H1, H2, H3, H4, H5, H6, H7, H8, H9, H10, H11, H12, H13, H14, H15, H16, H17, H18, H19, H20, H21, H22, H23, H24, H25, H26, H27, H28, H29, H30, H31, H32, H33, H34, H35, H36, H37, H38, H39, H40, H41, H42, H43, H44⟩
  icases H21 with ⟨%Z21, H21⟩
  unfold ow owns
  icases H21 with ⟨%f21, %hf21, H21⟩
  sl_exec
  sl_step
  iapply Hk
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  isplitl [H16]
  · iexact H16
  isplitl [H17]
  · iexact H17
  isplitl [H18]
  · iexact H18
  isplitl [H19]
  · iexact H19
  isplitl [H20]
  · iexact H20
  isplitl [H21]
  · iexists _; isplitr; swap; · iexact H21
    ipureintro
    simp (proj := false) only [readCov_eq_readAt, readAt_win, View.read_writes_cons_put _ _ _ _ _ rfl, View.writes_nil, Memref.IsWhole.read_unread, wf_S1536x768, pf_S1536x768, wf_S1x512x1536, pf_S1x512x1536, wf_S1x512x384, pf_S1x512x384, wf_S1x512x768, pf_S1x512x768, wf_S1x768, pf_S1x768, wf_S2x768, pf_S2x768, wf_S384x1536, pf_S384x1536]
    rw [hf21, st1]
    exact bands3' Z21 d.y
  isplitl [H22]
  · iexact H22
  isplitl [H23]
  · iexact H23
  isplitl [H24]
  · iexact H24
  isplitl [H25]
  · iexact H25
  isplitl [H26]
  · iexact H26
  isplitl [H27]
  · iexact H27
  isplitl [H28]
  · iexact H28
  isplitl [H29]
  · iexact H29
  isplitl [H30]
  · iexact H30
  isplitl [H31]
  · iexact H31
  isplitl [H32]
  · iexact H32
  isplitl [H33]
  · iexact H33
  isplitl [H34]
  · iexact H34
  isplitl [H35]
  · iexact H35
  isplitl [H36]
  · iexact H36
  isplitl [H37]
  · iexact H37
  isplitl [H38]
  · iexact H38
  isplitl [H39]
  · iexact H39
  isplitl [H40]
  · iexact H40
  isplitl [H41]
  · iexact H41
  isplitl [H42]
  · iexact H42
  isplitl [H43]
  · iexact H43
  iexact H44

end Cert.KernelIdeal.Hand

end
-- ==== Proof.KRun.lean ====
/- The run of the idealized kernel: what every execution leaves in the result arrays. -/
module

public import proofs.«01_k».proof.Proof.KBlk
public import proofs.«01_k».proof.Proof.Body

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Idealize.ShloMosaic.Rounds
open Idealize.ShloMosaic.Pipeline (Dat RDat Cfg Window cellOf)
open Cert.Spec

local notation "𝕄" => MT nD τ sig Unit (Elt Ideal) ℕ (UR sig nD τ) ℕ

variable (m : (ℓ : Loc nD τ sig) → Buf (Elt Ideal) ℓ) (ρ : Dev nD → PrngReg)

/-- What the body leaves in each window's buffer at a grid point; the four arrays of row scales, of which a point
    writes one row, are left open here. -/
def dats (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => row3 (kD m c t).y
    | ⟨21, _⟩ => row3 (kD m c t).a1
    | ⟨22, _⟩ => row3 (kD m c t).x1c
    | ⟨23, h⟩ => Pipeline.Dat.unnamed (cfg := cfg0) ⟨23, h⟩ t
    | ⟨24, _⟩ => row4 (kD m c t).qc
    | ⟨25, _⟩ => row3 (kD m c t).qs
    | ⟨26, _⟩ => row4 (kD m c t).kc
    | ⟨27, _⟩ => row3 (kD m c t).ks
    | ⟨28, _⟩ => row4 (kD m c t).vc
    | ⟨29, _⟩ => row3 (kD m c t).vs
    | ⟨30, _⟩ => row4 fun h r n => (kD m c t).ogc (hrow h r) n
    | ⟨31, h⟩ => Pipeline.Dat.unnamed (cfg := cfg0) ⟨31, h⟩ t
    | ⟨32, _⟩ => row3 (kD m c t).x2c
    | ⟨33, h⟩ => Pipeline.Dat.unnamed (cfg := cfg0) ⟨33, h⟩ t
    | ⟨34, _⟩ => row3 (kD m c t).hc
    | ⟨35, h⟩ => Pipeline.Dat.unnamed (cfg := cfg0) ⟨35, h⟩ t
    | ⟨_ + 36, h⟩ => absurd h (Nat.not_lt.2 (Nat.le_add_left _ _))
  Φ _ := Pipeline.ΦA spec0 c
  q _ := fullShare
  owed _ := 0

theorem A_eq (c : Dev nD) (w : Fin cfg0.W) : (dats m c).A w = V m c (Pipeline.arrRef spec0 w) := by
  dsimp only [dats]

/-- A point overwrites row `t` of an array of row scales by `f` and leaves the rest. -/
def rowAfter (f : Fin 512 → EReal) (t : Fin cfg0.N) (Y X : Vec Ideal S25x512 .f32) : Prop :=
  X = VecWindow.put (s := S25x512) Y (k0_off1 (grid0.coords t)) S1x512.size (row2 f)

/-- The relations of the four arrays of row scales. -/
def ovr (c : Dev nD) : (w : Fin cfg0.W) → Option (Fin cfg0.N → (Y X : (cfg0.win w).block.Idx → Elt Ideal (cfg0.win w).elt) → Prop)
  | ⟨0, _⟩ => none
  | ⟨1, _⟩ => none
  | ⟨2, _⟩ => none
  | ⟨3, _⟩ => none
  | ⟨4, _⟩ => none
  | ⟨5, _⟩ => none
  | ⟨6, _⟩ => none
  | ⟨7, _⟩ => none
  | ⟨8, _⟩ => none
  | ⟨9, _⟩ => none
  | ⟨10, _⟩ => none
  | ⟨11, _⟩ => none
  | ⟨12, _⟩ => none
  | ⟨13, _⟩ => none
  | ⟨14, _⟩ => none
  | ⟨15, _⟩ => none
  | ⟨16, _⟩ => none
  | ⟨17, _⟩ => none
  | ⟨18, _⟩ => none
  | ⟨19, _⟩ => none
  | ⟨20, _⟩ => none
  | ⟨21, _⟩ => none
  | ⟨22, _⟩ => none
  | ⟨23, _⟩ => some fun t Y X => rowAfter (kD m c t).x1s t Y X
  | ⟨24, _⟩ => none
  | ⟨25, _⟩ => none
  | ⟨26, _⟩ => none
  | ⟨27, _⟩ => none
  | ⟨28, _⟩ => none
  | ⟨29, _⟩ => none
  | ⟨30, _⟩ => none
  | ⟨31, _⟩ => some fun t Y X => rowAfter (kD m c t).ogs t Y X
  | ⟨32, _⟩ => none
  | ⟨33, _⟩ => some fun t Y X => rowAfter (kD m c t).x2s t Y X
  | ⟨34, _⟩ => none
  | ⟨35, _⟩ => some fun t Y X => rowAfter (kD m c t).hs t Y X
  | ⟨_ + 36, h⟩ => absurd h (Nat.not_lt.2 (Nat.le_add_left _ _))

/-- The run's data: the windows' contents, the rows by their relation. -/
def rdat (c : Dev nD) : RDat τ (Elt Ideal) Unit ℕ (UR sig nD τ) ℕ cfg0 c := (dats m c).toR.override (ovr m c)

theorem after_0 (c : Dev nD) (t : Fin cfg0.N) : (dats m c).after 0 t = iblk m c 0 t := by dsimp only [dats]
theorem finds_0 (c : Dev nD) (t : Fin cfg0.N) (Y) (h : (rdat m c).Finds 0 t Y) : Y = iblk m c 0 t := by
  obtain ⟨e, he⟩ := (dats m c).toR_finds 0 t Y ((RDat.override_finds (rd := (dats m c).toR) (ovr := ovr m c) (w := 0) rfl t Y).mp h)
  exact he.trans (before0_0_of m (dats m c) (A_eq m c 0) (after_0 m c) t e)
theorem after_1 (c : Dev nD) (t : Fin cfg0.N) : (dats m c).after 1 t = iblk m c 1 t := by dsimp only [dats]
theorem finds_1 (c : Dev nD) (t : Fin cfg0.N) (Y) (h : (rdat m c).Finds 1 t Y) : Y = iblk m c 1 t := by
  obtain ⟨e, he⟩ := (dats m c).toR_finds 1 t Y ((RDat.override_finds (rd := (dats m c).toR) (ovr := ovr m c) (w := 1) rfl t Y).mp h)
  exact he.trans (before0_1_of m (dats m c) (A_eq m c 1) (after_1 m c) t e)
theorem after_2 (c : Dev nD) (t : Fin cfg0.N) : (dats m c).after 2 t = iblk m c 2 t := by dsimp only [dats]
theorem finds_2 (c : Dev nD) (t : Fin cfg0.N) (Y) (h : (rdat m c).Finds 2 t Y) : Y = iblk m c 2 t := by
  obtain ⟨e, he⟩ := (dats m c).toR_finds 2 t Y ((RDat.override_finds (rd := (dats m c).toR) (ovr := ovr m c) (w := 2) rfl t Y).mp h)
  exact he.trans (before0_2_of m (dats m c) (A_eq m c 2) (after_2 m c) t e)
theorem after_3 (c : Dev nD) (t : Fin cfg0.N) : (dats m c).after 3 t = iblk m c 3 t := by dsimp only [dats]
theorem finds_3 (c : Dev nD) (t : Fin cfg0.N) (Y) (h : (rdat m c).Finds 3 t Y) : Y = iblk m c 3 t := by
  obtain ⟨e, he⟩ := (dats m c).toR_finds 3 t Y ((RDat.override_finds (rd := (dats m c).toR) (ovr := ovr m c) (w := 3) rfl t Y).mp h)
  exact he.trans (before0_3_of m (dats m c) (A_eq m c 3) (after_3 m c) t e)
theorem after_4 (c : Dev nD) (t : Fin cfg0.N) : (dats m c).after 4 t = iblk m c 4 t := by dsimp only [dats]
theorem finds_4 (c : Dev nD) (t : Fin cfg0.N) (Y) (h : (rdat m c).Finds 4 t Y) : Y = iblk m c 4 t := by
  obtain ⟨e, he⟩ := (dats m c).toR_finds 4 t Y ((RDat.override_finds (rd := (dats m c).toR) (ovr := ovr m c) (w := 4) rfl t Y).mp h)
  exact he.trans (before0_4_of m (dats m c) (A_eq m c 4) (after_4 m c) t e)
theorem after_5 (c : Dev nD) (t : Fin cfg0.N) : (dats m c).after 5 t = iblk m c 5 t := by dsimp only [dats]
theorem finds_5 (c : Dev nD) (t : Fin cfg0.N) (Y) (h : (rdat m c).Finds 5 t Y) : Y = iblk m c 5 t := by
  obtain ⟨e, he⟩ := (dats m c).toR_finds 5 t Y ((RDat.override_finds (rd := (dats m c).toR) (ovr := ovr m c) (w := 5) rfl t Y).mp h)
  exact he.trans (before0_5_of m (dats m c) (A_eq m c 5) (after_5 m c) t e)
theorem after_6 (c : Dev nD) (t : Fin cfg0.N) : (dats m c).after 6 t = iblk m c 6 t := by dsimp only [dats]
theorem finds_6 (c : Dev nD) (t : Fin cfg0.N) (Y) (h : (rdat m c).Finds 6 t Y) : Y = iblk m c 6 t := by
  obtain ⟨e, he⟩ := (dats m c).toR_finds 6 t Y ((RDat.override_finds (rd := (dats m c).toR) (ovr := ovr m c) (w := 6) rfl t Y).mp h)
  exact he.trans (before0_6_of m (dats m c) (A_eq m c 6) (after_6 m c) t e)
theorem after_7 (c : Dev nD) (t : Fin cfg0.N) : (dats m c).after 7 t = iblk m c 7 t := by dsimp only [dats]
theorem finds_7 (c : Dev nD) (t : Fin cfg0.N) (Y) (h : (rdat m c).Finds 7 t Y) : Y = iblk m c 7 t := by
  obtain ⟨e, he⟩ := (dats m c).toR_finds 7 t Y ((RDat.override_finds (rd := (dats m c).toR) (ovr := ovr m c) (w := 7) rfl t Y).mp h)
  exact he.trans (before0_7_of m (dats m c) (A_eq m c 7) (after_7 m c) t e)
theorem after_8 (c : Dev nD) (t : Fin cfg0.N) : (dats m c).after 8 t = iblk m c 8 t := by dsimp only [dats]
theorem finds_8 (c : Dev nD) (t : Fin cfg0.N) (Y) (h : (rdat m c).Finds 8 t Y) : Y = iblk m c 8 t := by
  obtain ⟨e, he⟩ := (dats m c).toR_finds 8 t Y ((RDat.override_finds (rd := (dats m c).toR) (ovr := ovr m c) (w := 8) rfl t Y).mp h)
  exact he.trans (before0_8_of m (dats m c) (A_eq m c 8) (after_8 m c) t e)
theorem after_9 (c : Dev nD) (t : Fin cfg0.N) : (dats m c).after 9 t = iblk m c 9 t := by dsimp only [dats]
theorem finds_9 (c : Dev nD) (t : Fin cfg0.N) (Y) (h : (rdat m c).Finds 9 t Y) : Y = iblk m c 9 t := by
  obtain ⟨e, he⟩ := (dats m c).toR_finds 9 t Y ((RDat.override_finds (rd := (dats m c).toR) (ovr := ovr m c) (w := 9) rfl t Y).mp h)
  exact he.trans (before0_9_of m (dats m c) (A_eq m c 9) (after_9 m c) t e)
theorem after_10 (c : Dev nD) (t : Fin cfg0.N) : (dats m c).after 10 t = iblk m c 10 t := by dsimp only [dats]
theorem finds_10 (c : Dev nD) (t : Fin cfg0.N) (Y) (h : (rdat m c).Finds 10 t Y) : Y = iblk m c 10 t := by
  obtain ⟨e, he⟩ := (dats m c).toR_finds 10 t Y ((RDat.override_finds (rd := (dats m c).toR) (ovr := ovr m c) (w := 10) rfl t Y).mp h)
  exact he.trans (before0_10_of m (dats m c) (A_eq m c 10) (after_10 m c) t e)
theorem after_11 (c : Dev nD) (t : Fin cfg0.N) : (dats m c).after 11 t = iblk m c 11 t := by dsimp only [dats]
theorem finds_11 (c : Dev nD) (t : Fin cfg0.N) (Y) (h : (rdat m c).Finds 11 t Y) : Y = iblk m c 11 t := by
  obtain ⟨e, he⟩ := (dats m c).toR_finds 11 t Y ((RDat.override_finds (rd := (dats m c).toR) (ovr := ovr m c) (w := 11) rfl t Y).mp h)
  exact he.trans (before0_11_of m (dats m c) (A_eq m c 11) (after_11 m c) t e)
theorem after_12 (c : Dev nD) (t : Fin cfg0.N) : (dats m c).after 12 t = iblk m c 12 t := by dsimp only [dats]
theorem finds_12 (c : Dev nD) (t : Fin cfg0.N) (Y) (h : (rdat m c).Finds 12 t Y) : Y = iblk m c 12 t := by
  obtain ⟨e, he⟩ := (dats m c).toR_finds 12 t Y ((RDat.override_finds (rd := (dats m c).toR) (ovr := ovr m c) (w := 12) rfl t Y).mp h)
  exact he.trans (before0_12_of m (dats m c) (A_eq m c 12) (after_12 m c) t e)
theorem after_13 (c : Dev nD) (t : Fin cfg0.N) : (dats m c).after 13 t = iblk m c 13 t := by dsimp only [dats]
theorem finds_13 (c : Dev nD) (t : Fin cfg0.N) (Y) (h : (rdat m c).Finds 13 t Y) : Y = iblk m c 13 t := by
  obtain ⟨e, he⟩ := (dats m c).toR_finds 13 t Y ((RDat.override_finds (rd := (dats m c).toR) (ovr := ovr m c) (w := 13) rfl t Y).mp h)
  exact he.trans (before0_13_of m (dats m c) (A_eq m c 13) (after_13 m c) t e)
theorem after_14 (c : Dev nD) (t : Fin cfg0.N) : (dats m c).after 14 t = iblk m c 14 t := by dsimp only [dats]
theorem finds_14 (c : Dev nD) (t : Fin cfg0.N) (Y) (h : (rdat m c).Finds 14 t Y) : Y = iblk m c 14 t := by
  obtain ⟨e, he⟩ := (dats m c).toR_finds 14 t Y ((RDat.override_finds (rd := (dats m c).toR) (ovr := ovr m c) (w := 14) rfl t Y).mp h)
  exact he.trans (before0_14_of m (dats m c) (A_eq m c 14) (after_14 m c) t e)
theorem after_15 (c : Dev nD) (t : Fin cfg0.N) : (dats m c).after 15 t = iblk m c 15 t := by dsimp only [dats]
theorem finds_15 (c : Dev nD) (t : Fin cfg0.N) (Y) (h : (rdat m c).Finds 15 t Y) : Y = iblk m c 15 t := by
  obtain ⟨e, he⟩ := (dats m c).toR_finds 15 t Y ((RDat.override_finds (rd := (dats m c).toR) (ovr := ovr m c) (w := 15) rfl t Y).mp h)
  exact he.trans (before0_15_of m (dats m c) (A_eq m c 15) (after_15 m c) t e)
theorem after_16 (c : Dev nD) (t : Fin cfg0.N) : (dats m c).after 16 t = iblk m c 16 t := by dsimp only [dats]
theorem finds_16 (c : Dev nD) (t : Fin cfg0.N) (Y) (h : (rdat m c).Finds 16 t Y) : Y = iblk m c 16 t := by
  obtain ⟨e, he⟩ := (dats m c).toR_finds 16 t Y ((RDat.override_finds (rd := (dats m c).toR) (ovr := ovr m c) (w := 16) rfl t Y).mp h)
  exact he.trans (before0_16_of m (dats m c) (A_eq m c 16) (after_16 m c) t e)
theorem after_17 (c : Dev nD) (t : Fin cfg0.N) : (dats m c).after 17 t = iblk m c 17 t := by dsimp only [dats]
theorem finds_17 (c : Dev nD) (t : Fin cfg0.N) (Y) (h : (rdat m c).Finds 17 t Y) : Y = iblk m c 17 t := by
  obtain ⟨e, he⟩ := (dats m c).toR_finds 17 t Y ((RDat.override_finds (rd := (dats m c).toR) (ovr := ovr m c) (w := 17) rfl t Y).mp h)
  exact he.trans (before0_17_of m (dats m c) (A_eq m c 17) (after_17 m c) t e)
theorem after_18 (c : Dev nD) (t : Fin cfg0.N) : (dats m c).after 18 t = iblk m c 18 t := by dsimp only [dats]
theorem finds_18 (c : Dev nD) (t : Fin cfg0.N) (Y) (h : (rdat m c).Finds 18 t Y) : Y = iblk m c 18 t := by
  obtain ⟨e, he⟩ := (dats m c).toR_finds 18 t Y ((RDat.override_finds (rd := (dats m c).toR) (ovr := ovr m c) (w := 18) rfl t Y).mp h)
  exact he.trans (before0_18_of m (dats m c) (A_eq m c 18) (after_18 m c) t e)
theorem after_19 (c : Dev nD) (t : Fin cfg0.N) : (dats m c).after 19 t = iblk m c 19 t := by dsimp only [dats]
theorem finds_19 (c : Dev nD) (t : Fin cfg0.N) (Y) (h : (rdat m c).Finds 19 t Y) : Y = iblk m c 19 t := by
  obtain ⟨e, he⟩ := (dats m c).toR_finds 19 t Y ((RDat.override_finds (rd := (dats m c).toR) (ovr := ovr m c) (w := 19) rfl t Y).mp h)
  exact he.trans (before0_19_of m (dats m c) (A_eq m c 19) (after_19 m c) t e)
theorem after_20 (c : Dev nD) (t : Fin cfg0.N) : (dats m c).after 20 t = row3 (kD m c t).y := by dsimp only [dats]
theorem after_21 (c : Dev nD) (t : Fin cfg0.N) : (dats m c).after 21 t = row3 (kD m c t).a1 := by dsimp only [dats]
theorem after_22 (c : Dev nD) (t : Fin cfg0.N) : (dats m c).after 22 t = row3 (kD m c t).x1c := by dsimp only [dats]
theorem after_24 (c : Dev nD) (t : Fin cfg0.N) : (dats m c).after 24 t = row4 (kD m c t).qc := by dsimp only [dats]
theorem after_25 (c : Dev nD) (t : Fin cfg0.N) : (dats m c).after 25 t = row3 (kD m c t).qs := by dsimp only [dats]
theorem after_26 (c : Dev nD) (t : Fin cfg0.N) : (dats m c).after 26 t = row4 (kD m c t).kc := by dsimp only [dats]
theorem after_27 (c : Dev nD) (t : Fin cfg0.N) : (dats m c).after 27 t = row3 (kD m c t).ks := by dsimp only [dats]
theorem after_28 (c : Dev nD) (t : Fin cfg0.N) : (dats m c).after 28 t = row4 (kD m c t).vc := by dsimp only [dats]
theorem after_29 (c : Dev nD) (t : Fin cfg0.N) : (dats m c).after 29 t = row3 (kD m c t).vs := by dsimp only [dats]
theorem after_30 (c : Dev nD) (t : Fin cfg0.N) : (dats m c).after 30 t = row4 fun h r n => (kD m c t).ogc (hrow h r) n := by dsimp only [dats]
theorem after_32 (c : Dev nD) (t : Fin cfg0.N) : (dats m c).after 32 t = row3 (kD m c t).x2c := by dsimp only [dats]
theorem after_34 (c : Dev nD) (t : Fin cfg0.N) : (dats m c).after 34 t = row3 (kD m c t).hc := by dsimp only [dats]
theorem leave_0 (c : Dev nD) (t : Fin cfg0.N) (Y X) (h : X = row3 (kD m c t).a) : (rdat m c).after 0 t Y X := by
  unfold rdat; rw [RDat.override_after_of_eq_none (dats m c).toR (ovr := ovr m c) (w := 0) rfl]
  show X = (dats m c).after 0 t
  rw [after_0, iblk_0]; exact h
theorem leave_1 (c : Dev nD) (t : Fin cfg0.N) (Y X) (h : X = row3 (kD m c t).s) : (rdat m c).after 1 t Y X := by
  unfold rdat; rw [RDat.override_after_of_eq_none (dats m c).toR (ovr := ovr m c) (w := 1) rfl]
  show X = (dats m c).after 1 t
  rw [after_1, iblk_1]; exact h
theorem leave_2 (c : Dev nD) (t : Fin cfg0.N) (Y X) (h : X = tab3 (kD m c t).bias) : (rdat m c).after 2 t Y X := by
  unfold rdat; rw [RDat.override_after_of_eq_none (dats m c).toR (ovr := ovr m c) (w := 2) rfl]
  show X = (dats m c).after 2 t
  rw [after_2, iblk_2]; exact h
theorem leave_3 (c : Dev nD) (t : Fin cfg0.N) (Y X) (h : X = row2 (kD m c t).g1) : (rdat m c).after 3 t Y X := by
  unfold rdat; rw [RDat.override_after_of_eq_none (dats m c).toR (ovr := ovr m c) (w := 3) rfl]
  show X = (dats m c).after 3 t
  rw [after_3, iblk_3]; exact h
theorem leave_4 (c : Dev nD) (t : Fin cfg0.N) (Y X) (h : X = row2 (kD m c t).g2) : (rdat m c).after 4 t Y X := by
  unfold rdat; rw [RDat.override_after_of_eq_none (dats m c).toR (ovr := ovr m c) (w := 4) rfl]
  show X = (dats m c).after 4 t
  rw [after_4, iblk_4]; exact h
theorem leave_5 (c : Dev nD) (t : Fin cfg0.N) (Y X) (h : X = tab2 (kD m c t).wa1) : (rdat m c).after 5 t Y X := by
  unfold rdat; rw [RDat.override_after_of_eq_none (dats m c).toR (ovr := ovr m c) (w := 5) rfl]
  show X = (dats m c).after 5 t
  rw [after_5, iblk_5]; exact h
theorem leave_6 (c : Dev nD) (t : Fin cfg0.N) (Y X) (h : X = row2 (kD m c t).ba1) : (rdat m c).after 6 t Y X := by
  unfold rdat; rw [RDat.override_after_of_eq_none (dats m c).toR (ovr := ovr m c) (w := 6) rfl]
  show X = (dats m c).after 6 t
  rw [after_6, iblk_6]; exact h
theorem leave_7 (c : Dev nD) (t : Fin cfg0.N) (Y X) (h : X = tab2 (kD m c t).wa2) : (rdat m c).after 7 t Y X := by
  unfold rdat; rw [RDat.override_after_of_eq_none (dats m c).toR (ovr := ovr m c) (w := 7) rfl]
  show X = (dats m c).after 7 t
  rw [after_7, iblk_7]; exact h
theorem leave_8 (c : Dev nD) (t : Fin cfg0.N) (Y X) (h : X = row2 (kD m c t).ba2) : (rdat m c).after 8 t Y X := by
  unfold rdat; rw [RDat.override_after_of_eq_none (dats m c).toR (ovr := ovr m c) (w := 8) rfl]
  show X = (dats m c).after 8 t
  rw [after_8, iblk_8]; exact h
theorem leave_9 (c : Dev nD) (t : Fin cfg0.N) (Y X) (h : X = tab2 (kD m c t).wsg) : (rdat m c).after 9 t Y X := by
  unfold rdat; rw [RDat.override_after_of_eq_none (dats m c).toR (ovr := ovr m c) (w := 9) rfl]
  show X = (dats m c).after 9 t
  rw [after_9, iblk_9]; exact h
theorem leave_10 (c : Dev nD) (t : Fin cfg0.N) (Y X) (h : X = tab2 (kD m c t).bsg) : (rdat m c).after 10 t Y X := by
  unfold rdat; rw [RDat.override_after_of_eq_none (dats m c).toR (ovr := ovr m c) (w := 10) rfl]
  show X = (dats m c).after 10 t
  rw [after_10, iblk_10]; exact h
theorem leave_11 (c : Dev nD) (t : Fin cfg0.N) (Y X) (h : X = tab2 (kD m c t).wq) : (rdat m c).after 11 t Y X := by
  unfold rdat; rw [RDat.override_after_of_eq_none (dats m c).toR (ovr := ovr m c) (w := 11) rfl]
  show X = (dats m c).after 11 t
  rw [after_11, iblk_11]; exact h
theorem leave_12 (c : Dev nD) (t : Fin cfg0.N) (Y X) (h : X = lane (wqsR (kD m c t))) : (rdat m c).after 12 t Y X := by
  unfold rdat; rw [RDat.override_after_of_eq_none (dats m c).toR (ovr := ovr m c) (w := 12) rfl]
  show X = (dats m c).after 12 t
  rw [after_12, iblk_12]; exact h
theorem leave_13 (c : Dev nD) (t : Fin cfg0.N) (Y X) (h : X = lane (bqR (kD m c t))) : (rdat m c).after 13 t Y X := by
  unfold rdat; rw [RDat.override_after_of_eq_none (dats m c).toR (ovr := ovr m c) (w := 13) rfl]
  show X = (dats m c).after 13 t
  rw [after_13, iblk_13]; exact h
theorem leave_14 (c : Dev nD) (t : Fin cfg0.N) (Y X) (h : X = tab2 (kD m c t).wo) : (rdat m c).after 14 t Y X := by
  unfold rdat; rw [RDat.override_after_of_eq_none (dats m c).toR (ovr := ovr m c) (w := 14) rfl]
  show X = (dats m c).after 14 t
  rw [after_14, iblk_14]; exact h
theorem leave_15 (c : Dev nD) (t : Fin cfg0.N) (Y X) (h : X = row2 (kD m c t).wos) : (rdat m c).after 15 t Y X := by
  unfold rdat; rw [RDat.override_after_of_eq_none (dats m c).toR (ovr := ovr m c) (w := 15) rfl]
  show X = (dats m c).after 15 t
  rw [after_15, iblk_15]; exact h
theorem leave_16 (c : Dev nD) (t : Fin cfg0.N) (Y X) (h : X = tab3 (kD m c t).wi) : (rdat m c).after 16 t Y X := by
  unfold rdat; rw [RDat.override_after_of_eq_none (dats m c).toR (ovr := ovr m c) (w := 16) rfl]
  show X = (dats m c).after 16 t
  rw [after_16, iblk_16]; exact h
theorem leave_17 (c : Dev nD) (t : Fin cfg0.N) (Y X) (h : X = tab2 (kD m c t).wis) : (rdat m c).after 17 t Y X := by
  unfold rdat; rw [RDat.override_after_of_eq_none (dats m c).toR (ovr := ovr m c) (w := 17) rfl]
  show X = (dats m c).after 17 t
  rw [after_17, iblk_17]; exact h
theorem leave_18 (c : Dev nD) (t : Fin cfg0.N) (Y X) (h : X = tab2 (kD m c t).wu) : (rdat m c).after 18 t Y X := by
  unfold rdat; rw [RDat.override_after_of_eq_none (dats m c).toR (ovr := ovr m c) (w := 18) rfl]
  show X = (dats m c).after 18 t
  rw [after_18, iblk_18]; exact h
theorem leave_19 (c : Dev nD) (t : Fin cfg0.N) (Y X) (h : X = row2 (kD m c t).wus) : (rdat m c).after 19 t Y X := by
  unfold rdat; rw [RDat.override_after_of_eq_none (dats m c).toR (ovr := ovr m c) (w := 19) rfl]
  show X = (dats m c).after 19 t
  rw [after_19, iblk_19]; exact h
theorem leave_20 (c : Dev nD) (t : Fin cfg0.N) (Y X) (h : X = (row3 (kD m c t).y)) : (rdat m c).after 20 t Y X := by
  unfold rdat; rw [RDat.override_after_of_eq_none (dats m c).toR (ovr := ovr m c) (w := 20) rfl]
  show X = (dats m c).after 20 t
  rw [after_20]; exact h
theorem leave_21 (c : Dev nD) (t : Fin cfg0.N) (Y X) (h : X = (row3 (kD m c t).a1)) : (rdat m c).after 21 t Y X := by
  unfold rdat; rw [RDat.override_after_of_eq_none (dats m c).toR (ovr := ovr m c) (w := 21) rfl]
  show X = (dats m c).after 21 t
  rw [after_21]; exact h
theorem leave_22 (c : Dev nD) (t : Fin cfg0.N) (Y X) (h : X = (row3 (kD m c t).x1c)) : (rdat m c).after 22 t Y X := by
  unfold rdat; rw [RDat.override_after_of_eq_none (dats m c).toR (ovr := ovr m c) (w := 22) rfl]
  show X = (dats m c).after 22 t
  rw [after_22]; exact h
theorem leave_23 (c : Dev nD) (t : Fin cfg0.N) (Y X) (h : rowAfter (kD m c t).x1s t Y X) : (rdat m c).after 23 t Y X := by
  unfold rdat; rw [RDat.override_after_of_eq_some (dats m c).toR (ovr := ovr m c) (w := 23) rfl]; exact h
theorem leave_24 (c : Dev nD) (t : Fin cfg0.N) (Y X) (h : X = (row4 (kD m c t).qc)) : (rdat m c).after 24 t Y X := by
  unfold rdat; rw [RDat.override_after_of_eq_none (dats m c).toR (ovr := ovr m c) (w := 24) rfl]
  show X = (dats m c).after 24 t
  rw [after_24]; exact h
theorem leave_25 (c : Dev nD) (t : Fin cfg0.N) (Y X) (h : X = (row3 (kD m c t).qs)) : (rdat m c).after 25 t Y X := by
  unfold rdat; rw [RDat.override_after_of_eq_none (dats m c).toR (ovr := ovr m c) (w := 25) rfl]
  show X = (dats m c).after 25 t
  rw [after_25]; exact h
theorem leave_26 (c : Dev nD) (t : Fin cfg0.N) (Y X) (h : X = (row4 (kD m c t).kc)) : (rdat m c).after 26 t Y X := by
  unfold rdat; rw [RDat.override_after_of_eq_none (dats m c).toR (ovr := ovr m c) (w := 26) rfl]
  show X = (dats m c).after 26 t
  rw [after_26]; exact h
theorem leave_27 (c : Dev nD) (t : Fin cfg0.N) (Y X) (h : X = (row3 (kD m c t).ks)) : (rdat m c).after 27 t Y X := by
  unfold rdat; rw [RDat.override_after_of_eq_none (dats m c).toR (ovr := ovr m c) (w := 27) rfl]
  show X = (dats m c).after 27 t
  rw [after_27]; exact h
theorem leave_28 (c : Dev nD) (t : Fin cfg0.N) (Y X) (h : X = (row4 (kD m c t).vc)) : (rdat m c).after 28 t Y X := by
  unfold rdat; rw [RDat.override_after_of_eq_none (dats m c).toR (ovr := ovr m c) (w := 28) rfl]
  show X = (dats m c).after 28 t
  rw [after_28]; exact h
theorem leave_29 (c : Dev nD) (t : Fin cfg0.N) (Y X) (h : X = (row3 (kD m c t).vs)) : (rdat m c).after 29 t Y X := by
  unfold rdat; rw [RDat.override_after_of_eq_none (dats m c).toR (ovr := ovr m c) (w := 29) rfl]
  show X = (dats m c).after 29 t
  rw [after_29]; exact h
theorem leave_30 (c : Dev nD) (t : Fin cfg0.N) (Y X) (h : X = (row4 fun h r n => (kD m c t).ogc (hrow h r) n)) : (rdat m c).after 30 t Y X := by
  unfold rdat; rw [RDat.override_after_of_eq_none (dats m c).toR (ovr := ovr m c) (w := 30) rfl]
  show X = (dats m c).after 30 t
  rw [after_30]; exact h
theorem leave_31 (c : Dev nD) (t : Fin cfg0.N) (Y X) (h : rowAfter (kD m c t).ogs t Y X) : (rdat m c).after 31 t Y X := by
  unfold rdat; rw [RDat.override_after_of_eq_some (dats m c).toR (ovr := ovr m c) (w := 31) rfl]; exact h
theorem leave_32 (c : Dev nD) (t : Fin cfg0.N) (Y X) (h : X = (row3 (kD m c t).x2c)) : (rdat m c).after 32 t Y X := by
  unfold rdat; rw [RDat.override_after_of_eq_none (dats m c).toR (ovr := ovr m c) (w := 32) rfl]
  show X = (dats m c).after 32 t
  rw [after_32]; exact h
theorem leave_33 (c : Dev nD) (t : Fin cfg0.N) (Y X) (h : rowAfter (kD m c t).x2s t Y X) : (rdat m c).after 33 t Y X := by
  unfold rdat; rw [RDat.override_after_of_eq_some (dats m c).toR (ovr := ovr m c) (w := 33) rfl]; exact h
theorem leave_34 (c : Dev nD) (t : Fin cfg0.N) (Y X) (h : X = (row3 (kD m c t).hc)) : (rdat m c).after 34 t Y X := by
  unfold rdat; rw [RDat.override_after_of_eq_none (dats m c).toR (ovr := ovr m c) (w := 34) rfl]
  show X = (dats m c).after 34 t
  rw [after_34]; exact h
theorem leave_35 (c : Dev nD) (t : Fin cfg0.N) (Y X) (h : rowAfter (kD m c t).hs t Y X) : (rdat m c).after 35 t Y X := by
  unfold rdat; rw [RDat.override_after_of_eq_some (dats m c).toR (ovr := ovr m c) (w := 35) rfl]; exact h

theorem PhiA_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d)) ∗ (∃ r, prngReg c r)) := by
  unfold Pipeline.ΦA; rw [scopedRest0_eq]; simp only [owns_whole]; try rfl

set_option maxHeartbeats 40000000 in
/-- The body run on what the pipeline hands it at a point. -/
theorem sound_body (c : Dev nD) (t : Fin cfg0.N) (Y : (w : Fin cfg0.W) → (cfg0.win w).block.Idx → Elt Ideal (cfg0.win w).elt)
    (hY : ∀ w, (rdat m c).Finds w t (Y w)) :
    iprop((rdat m c).Φ t.castSucc ∗ (rdat m c).owesAt () t.castSucc
      ∗ owns (c : Thread nD τ) ((cfg0.win 0).stage (cfg0.slots t 0)) fullShare (Y 0) ∗ owns (c : Thread nD τ) ((cfg0.win 1).stage (cfg0.slots t 1)) fullShare (Y 1) ∗ owns (c : Thread nD τ) ((cfg0.win 2).stage (cfg0.slots t 2)) fullShare (Y 2) ∗ owns (c : Thread nD τ) ((cfg0.win 3).stage (cfg0.slots t 3)) fullShare (Y 3) ∗ owns (c : Thread nD τ) ((cfg0.win 4).stage (cfg0.slots t 4)) fullShare (Y 4) ∗ owns (c : Thread nD τ) ((cfg0.win 5).stage (cfg0.slots t 5)) fullShare (Y 5) ∗ owns (c : Thread nD τ) ((cfg0.win 6).stage (cfg0.slots t 6)) fullShare (Y 6) ∗ owns (c : Thread nD τ) ((cfg0.win 7).stage (cfg0.slots t 7)) fullShare (Y 7) ∗ owns (c : Thread nD τ) ((cfg0.win 8).stage (cfg0.slots t 8)) fullShare (Y 8) ∗ owns (c : Thread nD τ) ((cfg0.win 9).stage (cfg0.slots t 9)) fullShare (Y 9) ∗ owns (c : Thread nD τ) ((cfg0.win 10).stage (cfg0.slots t 10)) fullShare (Y 10) ∗ owns (c : Thread nD τ) ((cfg0.win 11).stage (cfg0.slots t 11)) fullShare (Y 11) ∗ owns (c : Thread nD τ) ((cfg0.win 12).stage (cfg0.slots t 12)) fullShare (Y 12) ∗ owns (c : Thread nD τ) ((cfg0.win 13).stage (cfg0.slots t 13)) fullShare (Y 13) ∗ owns (c : Thread nD τ) ((cfg0.win 14).stage (cfg0.slots t 14)) fullShare (Y 14) ∗ owns (c : Thread nD τ) ((cfg0.win 15).stage (cfg0.slots t 15)) fullShare (Y 15) ∗ owns (c : Thread nD τ) ((cfg0.win 16).stage (cfg0.slots t 16)) fullShare (Y 16) ∗ owns (c : Thread nD τ) ((cfg0.win 17).stage (cfg0.slots t 17)) fullShare (Y 17) ∗ owns (c : Thread nD τ) ((cfg0.win 18).stage (cfg0.slots t 18)) fullShare (Y 18) ∗ owns (c : Thread nD τ) ((cfg0.win 19).stage (cfg0.slots t 19)) fullShare (Y 19) ∗ owns (c : Thread nD τ) ((cfg0.win 20).stage (cfg0.slots t 20)) fullShare (Y 20) ∗ owns (c : Thread nD τ) ((cfg0.win 21).stage (cfg0.slots t 21)) fullShare (Y 21) ∗ owns (c : Thread nD τ) ((cfg0.win 22).stage (cfg0.slots t 22)) fullShare (Y 22) ∗ owns (c : Thread nD τ) ((cfg0.win 23).stage (cfg0.slots t 23)) fullShare (Y 23) ∗ owns (c : Thread nD τ) ((cfg0.win 24).stage (cfg0.slots t 24)) fullShare (Y 24) ∗ owns (c : Thread nD τ) ((cfg0.win 25).stage (cfg0.slots t 25)) fullShare (Y 25) ∗ owns (c : Thread nD τ) ((cfg0.win 26).stage (cfg0.slots t 26)) fullShare (Y 26) ∗ owns (c : Thread nD τ) ((cfg0.win 27).stage (cfg0.slots t 27)) fullShare (Y 27) ∗ owns (c : Thread nD τ) ((cfg0.win 28).stage (cfg0.slots t 28)) fullShare (Y 28) ∗ owns (c : Thread nD τ) ((cfg0.win 29).stage (cfg0.slots t 29)) fullShare (Y 29) ∗ owns (c : Thread nD τ) ((cfg0.win 30).stage (cfg0.slots t 30)) fullShare (Y 30) ∗ owns (c : Thread nD τ) ((cfg0.win 31).stage (cfg0.slots t 31)) fullShare (Y 31) ∗ owns (c : Thread nD τ) ((cfg0.win 32).stage (cfg0.slots t 32)) fullShare (Y 32) ∗ owns (c : Thread nD τ) ((cfg0.win 33).stage (cfg0.slots t 33)) fullShare (Y 33) ∗ owns (c : Thread nD τ) ((cfg0.win 34).stage (cfg0.slots t 34)) fullShare (Y 34) ∗ owns (c : Thread nD τ) ((cfg0.win 35).stage (cfg0.slots t 35)) fullShare (Y 35))
    ⊢ wp frame (wpE (defs₀ (F := Ideal)) Variants.none c none) Set.univ (bodyAt0 t) (fun _ =>
      iprop((rdat m c).Φ t.succ ∗ (rdat m c).owesAt () t.succ
      ∗ (∃ X, ⌜(rdat m c).after 0 t (Y 0) X⌝ ∗ owns (c : Thread nD τ) ((cfg0.win 0).stage (cfg0.slots t 0)) fullShare X) ∗ (∃ X, ⌜(rdat m c).after 1 t (Y 1) X⌝ ∗ owns (c : Thread nD τ) ((cfg0.win 1).stage (cfg0.slots t 1)) fullShare X) ∗ (∃ X, ⌜(rdat m c).after 2 t (Y 2) X⌝ ∗ owns (c : Thread nD τ) ((cfg0.win 2).stage (cfg0.slots t 2)) fullShare X) ∗ (∃ X, ⌜(rdat m c).after 3 t (Y 3) X⌝ ∗ owns (c : Thread nD τ) ((cfg0.win 3).stage (cfg0.slots t 3)) fullShare X) ∗ (∃ X, ⌜(rdat m c).after 4 t (Y 4) X⌝ ∗ owns (c : Thread nD τ) ((cfg0.win 4).stage (cfg0.slots t 4)) fullShare X) ∗ (∃ X, ⌜(rdat m c).after 5 t (Y 5) X⌝ ∗ owns (c : Thread nD τ) ((cfg0.win 5).stage (cfg0.slots t 5)) fullShare X) ∗ (∃ X, ⌜(rdat m c).after 6 t (Y 6) X⌝ ∗ owns (c : Thread nD τ) ((cfg0.win 6).stage (cfg0.slots t 6)) fullShare X) ∗ (∃ X, ⌜(rdat m c).after 7 t (Y 7) X⌝ ∗ owns (c : Thread nD τ) ((cfg0.win 7).stage (cfg0.slots t 7)) fullShare X) ∗ (∃ X, ⌜(rdat m c).after 8 t (Y 8) X⌝ ∗ owns (c : Thread nD τ) ((cfg0.win 8).stage (cfg0.slots t 8)) fullShare X) ∗ (∃ X, ⌜(rdat m c).after 9 t (Y 9) X⌝ ∗ owns (c : Thread nD τ) ((cfg0.win 9).stage (cfg0.slots t 9)) fullShare X) ∗ (∃ X, ⌜(rdat m c).after 10 t (Y 10) X⌝ ∗ owns (c : Thread nD τ) ((cfg0.win 10).stage (cfg0.slots t 10)) fullShare X) ∗ (∃ X, ⌜(rdat m c).after 11 t (Y 11) X⌝ ∗ owns (c : Thread nD τ) ((cfg0.win 11).stage (cfg0.slots t 11)) fullShare X) ∗ (∃ X, ⌜(rdat m c).after 12 t (Y 12) X⌝ ∗ owns (c : Thread nD τ) ((cfg0.win 12).stage (cfg0.slots t 12)) fullShare X) ∗ (∃ X, ⌜(rdat m c).after 13 t (Y 13) X⌝ ∗ owns (c : Thread nD τ) ((cfg0.win 13).stage (cfg0.slots t 13)) fullShare X) ∗ (∃ X, ⌜(rdat m c).after 14 t (Y 14) X⌝ ∗ owns (c : Thread nD τ) ((cfg0.win 14).stage (cfg0.slots t 14)) fullShare X) ∗ (∃ X, ⌜(rdat m c).after 15 t (Y 15) X⌝ ∗ owns (c : Thread nD τ) ((cfg0.win 15).stage (cfg0.slots t 15)) fullShare X) ∗ (∃ X, ⌜(rdat m c).after 16 t (Y 16) X⌝ ∗ owns (c : Thread nD τ) ((cfg0.win 16).stage (cfg0.slots t 16)) fullShare X) ∗ (∃ X, ⌜(rdat m c).after 17 t (Y 17) X⌝ ∗ owns (c : Thread nD τ) ((cfg0.win 17).stage (cfg0.slots t 17)) fullShare X) ∗ (∃ X, ⌜(rdat m c).after 18 t (Y 18) X⌝ ∗ owns (c : Thread nD τ) ((cfg0.win 18).stage (cfg0.slots t 18)) fullShare X) ∗ (∃ X, ⌜(rdat m c).after 19 t (Y 19) X⌝ ∗ owns (c : Thread nD τ) ((cfg0.win 19).stage (cfg0.slots t 19)) fullShare X) ∗ (∃ X, ⌜(rdat m c).after 20 t (Y 20) X⌝ ∗ owns (c : Thread nD τ) ((cfg0.win 20).stage (cfg0.slots t 20)) fullShare X) ∗ (∃ X, ⌜(rdat m c).after 21 t (Y 21) X⌝ ∗ owns (c : Thread nD τ) ((cfg0.win 21).stage (cfg0.slots t 21)) fullShare X) ∗ (∃ X, ⌜(rdat m c).after 22 t (Y 22) X⌝ ∗ owns (c : Thread nD τ) ((cfg0.win 22).stage (cfg0.slots t 22)) fullShare X) ∗ (∃ X, ⌜(rdat m c).after 23 t (Y 23) X⌝ ∗ owns (c : Thread nD τ) ((cfg0.win 23).stage (cfg0.slots t 23)) fullShare X) ∗ (∃ X, ⌜(rdat m c).after 24 t (Y 24) X⌝ ∗ owns (c : Thread nD τ) ((cfg0.win 24).stage (cfg0.slots t 24)) fullShare X) ∗ (∃ X, ⌜(rdat m c).after 25 t (Y 25) X⌝ ∗ owns (c : Thread nD τ) ((cfg0.win 25).stage (cfg0.slots t 25)) fullShare X) ∗ (∃ X, ⌜(rdat m c).after 26 t (Y 26) X⌝ ∗ owns (c : Thread nD τ) ((cfg0.win 26).stage (cfg0.slots t 26)) fullShare X) ∗ (∃ X, ⌜(rdat m c).after 27 t (Y 27) X⌝ ∗ owns (c : Thread nD τ) ((cfg0.win 27).stage (cfg0.slots t 27)) fullShare X) ∗ (∃ X, ⌜(rdat m c).after 28 t (Y 28) X⌝ ∗ owns (c : Thread nD τ) ((cfg0.win 28).stage (cfg0.slots t 28)) fullShare X) ∗ (∃ X, ⌜(rdat m c).after 29 t (Y 29) X⌝ ∗ owns (c : Thread nD τ) ((cfg0.win 29).stage (cfg0.slots t 29)) fullShare X) ∗ (∃ X, ⌜(rdat m c).after 30 t (Y 30) X⌝ ∗ owns (c : Thread nD τ) ((cfg0.win 30).stage (cfg0.slots t 30)) fullShare X) ∗ (∃ X, ⌜(rdat m c).after 31 t (Y 31) X⌝ ∗ owns (c : Thread nD τ) ((cfg0.win 31).stage (cfg0.slots t 31)) fullShare X) ∗ (∃ X, ⌜(rdat m c).after 32 t (Y 32) X⌝ ∗ owns (c : Thread nD τ) ((cfg0.win 32).stage (cfg0.slots t 32)) fullShare X) ∗ (∃ X, ⌜(rdat m c).after 33 t (Y 33) X⌝ ∗ owns (c : Thread nD τ) ((cfg0.win 33).stage (cfg0.slots t 33)) fullShare X) ∗ (∃ X, ⌜(rdat m c).after 34 t (Y 34) X⌝ ∗ owns (c : Thread nD τ) ((cfg0.win 34).stage (cfg0.slots t 34)) fullShare X) ∗ (∃ X, ⌜(rdat m c).after 35 t (Y 35) X⌝ ∗ owns (c : Thread nD τ) ((cfg0.win 35).stage (cfg0.slots t 35)) fullShare X))) := by
  unfold bodyAt0
  rw [(finds_0 m c t _ (hY 0)).trans (iblk_0 m c t), (finds_1 m c t _ (hY 1)).trans (iblk_1 m c t), (finds_2 m c t _ (hY 2)).trans (iblk_2 m c t), (finds_3 m c t _ (hY 3)).trans (iblk_3 m c t), (finds_4 m c t _ (hY 4)).trans (iblk_4 m c t), (finds_5 m c t _ (hY 5)).trans (iblk_5 m c t), (finds_6 m c t _ (hY 6)).trans (iblk_6 m c t), (finds_7 m c t _ (hY 7)).trans (iblk_7 m c t), (finds_8 m c t _ (hY 8)).trans (iblk_8 m c t), (finds_9 m c t _ (hY 9)).trans (iblk_9 m c t), (finds_10 m c t _ (hY 10)).trans (iblk_10 m c t), (finds_11 m c t _ (hY 11)).trans (iblk_11 m c t), (finds_12 m c t _ (hY 12)).trans (iblk_12 m c t), (finds_13 m c t _ (hY 13)).trans (iblk_13 m c t), (finds_14 m c t _ (hY 14)).trans (iblk_14 m c t), (finds_15 m c t _ (hY 15)).trans (iblk_15 m c t), (finds_16 m c t _ (hY 16)).trans (iblk_16 m c t), (finds_17 m c t _ (hY 17)).trans (iblk_17 m c t), (finds_18 m c t _ (hY 18)).trans (iblk_18 m c t), (finds_19 m c t _ (hY 19)).trans (iblk_19 m c t)]
  rw [show (rdat m c).Φ t.succ = (rdat m c).Φ t.castSucc from rfl,
    show (rdat m c).owesAt () t.succ = (rdat m c).owesAt () t.castSucc from rfl,
    show (rdat m c).Φ t.castSucc = Pipeline.ΦA spec0 c from rfl, PhiA_eq]
  iintro ⟨⟨⟨HS0, HS1, HS2, HS3, HS4, HS5, HS6, HS7⟩, Hg⟩, Ho, H0, H1, H2, H3, H4, H5, H6, H7, H8, H9, H10, H11, H12, H13, H14, H15, H16, H17, H18, H19, H20, H21, H22, H23, H24, H25, H26, H27, H28, H29, H30, H31, H32, H33, H34, H35⟩
  iapply (cc0_layer_run (c := c) (i := grid0.coords t) (E := Set.univ) (kD m c t) (Y 23) (Y 31) (Y 33) (Y 35))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexists _; iexact H20
  isplitl [H21]; · iexists _; iexact H21
  isplitl [H22]; · iexists _; iexact H22
  isplitl [H23]; · iexact H23
  isplitl [H24]; · iexists _; iexact H24
  isplitl [H25]; · iexists _; iexact H25
  isplitl [H26]; · iexists _; iexact H26
  isplitl [H27]; · iexists _; iexact H27
  isplitl [H28]; · iexists _; iexact H28
  isplitl [H29]; · iexists _; iexact H29
  isplitl [H30]; · iexists _; iexact H30
  isplitl [H31]; · iexact H31
  isplitl [H32]; · iexists _; iexact H32
  isplitl [H33]; · iexact H33
  isplitl [H34]; · iexists _; iexact H34
  isplitl [H35]; · iexact H35
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  iintro ⟨H0, H1, H2, H3, H4, H5, H6, H7, H8, H9, H10, H11, H12, H13, H14, H15, H16, H17, H18, H19, H20, H21, H22, H23, H24, H25, H26, H27, H28, H29, H30, H31, H32, H33, H34, H35, HS0, HS1, HS2, HS3, HS4, HS5, HS6, HS7⟩
  isplitl [HS0 HS1 HS2 HS3 HS4 HS5 HS6 HS7 Hg]
  · isplitl [HS0 HS1 HS2 HS3 HS4 HS5 HS6 HS7]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      iexact HS7
    iexact Hg
  isplitl [Ho]; · iexact Ho
  isplitl [H0]
  · iexists _; isplitr; swap; · iexact H0
    ipureintro; exact leave_0 m c t _ _ rfl
  isplitl [H1]
  · iexists _; isplitr; swap; · iexact H1
    ipureintro; exact leave_1 m c t _ _ rfl
  isplitl [H2]
  · iexists _; isplitr; swap; · iexact H2
    ipureintro; exact leave_2 m c t _ _ rfl
  isplitl [H3]
  · iexists _; isplitr; swap; · iexact H3
    ipureintro; exact leave_3 m c t _ _ rfl
  isplitl [H4]
  · iexists _; isplitr; swap; · iexact H4
    ipureintro; exact leave_4 m c t _ _ rfl
  isplitl [H5]
  · iexists _; isplitr; swap; · iexact H5
    ipureintro; exact leave_5 m c t _ _ rfl
  isplitl [H6]
  · iexists _; isplitr; swap; · iexact H6
    ipureintro; exact leave_6 m c t _ _ rfl
  isplitl [H7]
  · iexists _; isplitr; swap; · iexact H7
    ipureintro; exact leave_7 m c t _ _ rfl
  isplitl [H8]
  · iexists _; isplitr; swap; · iexact H8
    ipureintro; exact leave_8 m c t _ _ rfl
  isplitl [H9]
  · iexists _; isplitr; swap; · iexact H9
    ipureintro; exact leave_9 m c t _ _ rfl
  isplitl [H10]
  · iexists _; isplitr; swap; · iexact H10
    ipureintro; exact leave_10 m c t _ _ rfl
  isplitl [H11]
  · iexists _; isplitr; swap; · iexact H11
    ipureintro; exact leave_11 m c t _ _ rfl
  isplitl [H12]
  · iexists _; isplitr; swap; · iexact H12
    ipureintro; exact leave_12 m c t _ _ rfl
  isplitl [H13]
  · iexists _; isplitr; swap; · iexact H13
    ipureintro; exact leave_13 m c t _ _ rfl
  isplitl [H14]
  · iexists _; isplitr; swap; · iexact H14
    ipureintro; exact leave_14 m c t _ _ rfl
  isplitl [H15]
  · iexists _; isplitr; swap; · iexact H15
    ipureintro; exact leave_15 m c t _ _ rfl
  isplitl [H16]
  · iexists _; isplitr; swap; · iexact H16
    ipureintro; exact leave_16 m c t _ _ rfl
  isplitl [H17]
  · iexists _; isplitr; swap; · iexact H17
    ipureintro; exact leave_17 m c t _ _ rfl
  isplitl [H18]
  · iexists _; isplitr; swap; · iexact H18
    ipureintro; exact leave_18 m c t _ _ rfl
  isplitl [H19]
  · iexists _; isplitr; swap; · iexact H19
    ipureintro; exact leave_19 m c t _ _ rfl
  isplitl [H20]
  · iexists _; isplitr; swap; · iexact H20
    ipureintro; exact leave_20 m c t _ _ rfl
  isplitl [H21]
  · iexists _; isplitr; swap; · iexact H21
    ipureintro; exact leave_21 m c t _ _ rfl
  isplitl [H22]
  · iexists _; isplitr; swap; · iexact H22
    ipureintro; exact leave_22 m c t _ _ rfl
  isplitl [H23]
  · iexists _; isplitr; swap; · iexact H23
    ipureintro; exact leave_23 m c t _ _ rfl
  isplitl [H24]
  · iexists _; isplitr; swap; · iexact H24
    ipureintro; exact leave_24 m c t _ _ rfl
  isplitl [H25]
  · iexists _; isplitr; swap; · iexact H25
    ipureintro; exact leave_25 m c t _ _ rfl
  isplitl [H26]
  · iexists _; isplitr; swap; · iexact H26
    ipureintro; exact leave_26 m c t _ _ rfl
  isplitl [H27]
  · iexists _; isplitr; swap; · iexact H27
    ipureintro; exact leave_27 m c t _ _ rfl
  isplitl [H28]
  · iexists _; isplitr; swap; · iexact H28
    ipureintro; exact leave_28 m c t _ _ rfl
  isplitl [H29]
  · iexists _; isplitr; swap; · iexact H29
    ipureintro; exact leave_29 m c t _ _ rfl
  isplitl [H30]
  · iexists _; isplitr; swap; · iexact H30
    ipureintro; exact leave_30 m c t _ _ rfl
  isplitl [H31]
  · iexists _; isplitr; swap; · iexact H31
    ipureintro; exact leave_31 m c t _ _ rfl
  isplitl [H32]
  · iexists _; isplitr; swap; · iexact H32
    ipureintro; exact leave_32 m c t _ _ rfl
  isplitl [H33]
  · iexists _; isplitr; swap; · iexact H33
    ipureintro; exact leave_33 m c t _ _ rfl
  isplitl [H34]
  · iexists _; isplitr; swap; · iexact H34
    ipureintro; exact leave_34 m c t _ _ rfl
  iexists _; isplitr; swap; · iexact H35
  ipureintro; exact leave_35 m c t _ _ rfl

theorem defs₀_row (t : Fin cfg0.N) :
    defs₀ (F := Ideal) .tc cfg0.body (cfg0.bodyArgs t (cfg0.slots t)) = bodyAt0 t := by
  unfold defs₀; rw [Defs.onTc_tc]

set_option maxHeartbeats 20000000 in
/-- The body's obligation at every point. -/
theorem body_obligation (c : Dev nD) : (rdat m c).BodyObligation (defs₀ (F := Ideal)) Variants.none () Set.univ := fun t Y hY => by
  rw [bigSep_W0, bigSep_W0, defs₀_row]
  exact triple_restated (sound_body m c t Y hY) rfl .rfl fun _ => .rfl

set_option backward.isDefEq.respectTransparency.types false in
/-- Every execution ends, the arrays as the run's data say and the semaphores at zero. -/
theorem run_main_quiescent : θ_run defs (onTc (τ := τ) (main (F := Ideal))) (s₀ m ρ)
    (fun r => (RDat.FramePost (cfgs 0) (rdat m) (V m)) r ∧ r.2.sem = fun _ => 0) :=
  RDat.θ_run_frame (Q' := _) cfgs (0 : Fin 1) launch0 defs₀ Variants.none (rdat m) m ρ main
    (hbody := body_obligation m) (hshare := fun c => (rdat m c).share_full fun _ => rfl)
    (howed := fun _ _ => rfl) (V := V m) (hmain := hmain m Variants.none) (hA := A_eq m) (hΦ := fun _ _ => rfl) (hQ' := fun _ h => h)

end Cert.KernelIdeal.Hand

end
-- ==== Proof.KFrame.lean ====
/- The frame of the idealized kernel: every run ends, the arguments unchanged and the semaphores at zero. -/
module

public import proofs.«01_k».proof.Proof.KRun

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Idealize.ShloMosaic.Rounds
open Idealize.ShloMosaic.Pipeline (Dat RDat Cfg Window cellOf)

variable (m : (ℓ : Loc nD τ sig) → Buf (Elt Ideal) ℓ) (ρ : Dev nD → PrngReg)

set_option maxHeartbeats 8000000 in
/-- The argument arrays are as launched in every state the run's data allow. -/
theorem args_kept {r : PUnit × MemSt nD τ sig (Elt Ideal)} (h : RDat.FramePost (cfgs 0) (rdat m) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19) :=
  ⟨(RDat.FramePost.arr_in h c 0 rfl).trans ((A_eq m c 0).trans (V_main_arg0 m c)),
   (RDat.FramePost.arr_in h c 1 rfl).trans ((A_eq m c 1).trans (V_main_arg1 m c)),
   (RDat.FramePost.arr_in h c 2 rfl).trans ((A_eq m c 2).trans (V_main_arg2 m c)),
   (RDat.FramePost.arr_in h c 3 rfl).trans ((A_eq m c 3).trans (V_main_arg3 m c)),
   (RDat.FramePost.arr_in h c 4 rfl).trans ((A_eq m c 4).trans (V_main_arg4 m c)),
   (RDat.FramePost.arr_in h c 5 rfl).trans ((A_eq m c 5).trans (V_main_arg5 m c)),
   (RDat.FramePost.arr_in h c 6 rfl).trans ((A_eq m c 6).trans (V_main_arg6 m c)),
   (RDat.FramePost.arr_in h c 7 rfl).trans ((A_eq m c 7).trans (V_main_arg7 m c)),
   (RDat.FramePost.arr_in h c 8 rfl).trans ((A_eq m c 8).trans (V_main_arg8 m c)),
   (RDat.FramePost.arr_in h c 9 rfl).trans ((A_eq m c 9).trans (V_main_arg9 m c)),
   (RDat.FramePost.arr_in h c 10 rfl).trans ((A_eq m c 10).trans (V_main_arg10 m c)),
   (RDat.FramePost.arr_in h c 11 rfl).trans ((A_eq m c 11).trans (V_main_arg11 m c)),
   ((h c).2 main_arg12 (Pipeline.mem_restRefs_of main_arg12 (by decide) (by decide))).trans (V_main_arg12 m c),
   ((h c).2 main_arg13 (Pipeline.mem_restRefs_of main_arg13 (by decide) (by decide))).trans (V_main_arg13 m c),
   (RDat.FramePost.arr_in h c 14 rfl).trans ((A_eq m c 14).trans (V_main_arg14 m c)),
   (RDat.FramePost.arr_in h c 15 rfl).trans ((A_eq m c 15).trans (V_main_arg15 m c)),
   (RDat.FramePost.arr_in h c 16 rfl).trans ((A_eq m c 16).trans (V_main_arg16 m c)),
   (RDat.FramePost.arr_in h c 17 rfl).trans ((A_eq m c 17).trans (V_main_arg17 m c)),
   (RDat.FramePost.arr_in h c 18 rfl).trans ((A_eq m c 18).trans (V_main_arg18 m c)),
   (RDat.FramePost.arr_in h c 19 rfl).trans ((A_eq m c 19).trans (V_main_arg19 m c))⟩

set_option maxHeartbeats 8000000 in
/-- The frame: every execution ends, the arguments unchanged and the semaphores at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19))
      ∧ r.2.sem = fun _ => 0) :=
  (θ_run defs _ _).mono (fun _ h => ⟨args_kept m h.1, h.2⟩) (run_main_quiescent m ρ)

end Cert.KernelIdeal.Hand

end
-- ==== Proof.RefFrame.lean ====
/- The frame of the reference: every run ends, with the arguments unchanged and the semaphores at zero. -/
module

public import proofs.«01_k».proof.Proof.Gen.ReferenceIdeal.Launch
public import proofs.«01_k».proof.Proof.Gen.ReferenceIdeal.Skeleton
public import proofs.«01_k».proof.Proof.Gen.ReferenceIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.ReferenceIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl
theorem V_main_arg7 (c : Dev nD) : V m c main_arg7 = m ((c : Thread nD τ).loc main_arg7) := rfl
theorem V_main_arg8 (c : Dev nD) : V m c main_arg8 = m ((c : Thread nD τ).loc main_arg8) := rfl
theorem V_main_arg9 (c : Dev nD) : V m c main_arg9 = m ((c : Thread nD τ).loc main_arg9) := rfl
theorem V_main_arg10 (c : Dev nD) : V m c main_arg10 = m ((c : Thread nD τ).loc main_arg10) := rfl
theorem V_main_arg11 (c : Dev nD) : V m c main_arg11 = m ((c : Thread nD τ).loc main_arg11) := rfl
theorem V_main_arg12 (c : Dev nD) : V m c main_arg12 = m ((c : Thread nD τ).loc main_arg12) := rfl
theorem V_main_arg13 (c : Dev nD) : V m c main_arg13 = m ((c : Thread nD τ).loc main_arg13) := rfl
theorem V_main_arg14 (c : Dev nD) : V m c main_arg14 = m ((c : Thread nD τ).loc main_arg14) := rfl
theorem V_main_arg15 (c : Dev nD) : V m c main_arg15 = m ((c : Thread nD τ).loc main_arg15) := rfl
theorem V_main_arg16 (c : Dev nD) : V m c main_arg16 = m ((c : Thread nD τ).loc main_arg16) := rfl
theorem V_main_arg17 (c : Dev nD) : V m c main_arg17 = m ((c : Thread nD τ).loc main_arg17) := rfl
theorem V_main_arg18 (c : Dev nD) : V m c main_arg18 = m ((c : Thread nD τ).loc main_arg18) := rfl
theorem V_main_arg19 (c : Dev nD) : V m c main_arg19 = m ((c : Thread nD τ).loc main_arg19) := rfl

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
theorem before0_17_of {c : Dev nD} (dat : Dat τ (Elt F) Unit ℕ (UR sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)
theorem before0_18_of {c : Dev nD} (dat : Dat τ (Elt F) Unit ℕ (UR sig nD τ) ℕ cfg0 c) (hA : dat.A 18 = V m c (Pipeline.arrRef spec0 18))
    (hafter : ∀ t, dat.after 18 t = iblk m c 18 t) (t : Fin cfg0.N) (d) : dat.before 18 t d = iblk m c 18 t :=
  (dat.before_in_eq_fetched 18 rfl (fun _ => rfl) (fun _ _ _ => rfl) (fun t => by rw [hafter]; unfold Dat.blockOf iblk; rw [hA]; try rfl) t d).trans
    (by unfold Dat.fetched Dat.blockOf iblk; rw [hA]; try rfl)
theorem before0_19_of {c : Dev nD} (dat : Dat τ (Elt F) Unit ℕ (UR sig nD τ) ℕ cfg0 c) (hA : dat.A 19 = V m c (Pipeline.arrRef spec0 19))
    (hafter : ∀ t, dat.after 19 t = iblk m c 19 t) (t : Fin cfg0.N) (d) : dat.before 19 t d = iblk m c 19 t :=
  (dat.before_in_eq_fetched 19 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 2160000 in
/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_ReferenceIdeal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).1 3).trans (((dats 0 c).arrAt_in 3 rfl _).trans ((hA c 3).trans (V_main_arg3 m c))),
      ((h c).1 4).trans (((dats 0 c).arrAt_in 4 rfl _).trans ((hA c 4).trans (V_main_arg4 m c))),
      ((h c).1 5).trans (((dats 0 c).arrAt_in 5 rfl _).trans ((hA c 5).trans (V_main_arg5 m c))),
      ((h c).1 6).trans (((dats 0 c).arrAt_in 6 rfl _).trans ((hA c 6).trans (V_main_arg6 m c))),
      ((h c).1 7).trans (((dats 0 c).arrAt_in 7 rfl _).trans ((hA c 7).trans (V_main_arg7 m c))),
      ((h c).1 8).trans (((dats 0 c).arrAt_in 8 rfl _).trans ((hA c 8).trans (V_main_arg8 m c))),
      ((h c).1 9).trans (((dats 0 c).arrAt_in 9 rfl _).trans ((hA c 9).trans (V_main_arg9 m c))),
      ((h c).1 10).trans (((dats 0 c).arrAt_in 10 rfl _).trans ((hA c 10).trans (V_main_arg10 m c))),
      ((h c).1 11).trans (((dats 0 c).arrAt_in 11 rfl _).trans ((hA c 11).trans (V_main_arg11 m c))),
      ((h c).1 12).trans (((dats 0 c).arrAt_in 12 rfl _).trans ((hA c 12).trans (V_main_arg12 m c))),
      ((h c).1 13).trans (((dats 0 c).arrAt_in 13 rfl _).trans ((hA c 13).trans (V_main_arg13 m c))),
      ((h c).1 14).trans (((dats 0 c).arrAt_in 14 rfl _).trans ((hA c 14).trans (V_main_arg14 m c))),
      ((h c).1 15).trans (((dats 0 c).arrAt_in 15 rfl _).trans ((hA c 15).trans (V_main_arg15 m c))),
      ((h c).1 16).trans (((dats 0 c).arrAt_in 16 rfl _).trans ((hA c 16).trans (V_main_arg16 m c))),
      ((h c).1 17).trans (((dats 0 c).arrAt_in 17 rfl _).trans ((hA c 17).trans (V_main_arg17 m c))),
      ((h c).1 18).trans (((dats 0 c).arrAt_in 18 rfl _).trans ((hA c 18).trans (V_main_arg18 m c))),
      ((h c).1 19).trans (((dats 0 c).arrAt_in 19 rfl _).trans ((hA c 19).trans (V_main_arg19 m c)))⟩) h

/-! ## The body's accesses -/

abbrev r0_0 : Rect S25x512x768 := Rect.unit (s := S25x512x768) ![0, 0, 0] S25x512x768.size inb_S25x512x768_S25x512x768_0_0_0
abbrev r0_1 : Rect S25x512x384 := Rect.unit (s := S25x512x384) ![0, 0, 0] S25x512x384.size inb_S25x512x384_S25x512x384_0_0_0
abbrev r0_2 : Rect S1x384 := Rect.unit (s := S1x384) ![0, 0] S1x384.size inb_S1x384_S1x384_0_0
abbrev r0_3 : Rect S384x1536 := Rect.unit (s := S384x1536) ![0, 0] S384x1536.size inb_S384x1536_S384x1536_0_0
abbrev r0_4 : Rect S1x768 := Rect.unit (s := S1x768) ![0, 0] S1x768.size inb_S1x768_S1x768_0_0
abbrev r0_5 : Rect S25x512 := Rect.unit (s := S25x512) ![0, 0] S25x512.size inb_S25x512_S25x512_0_0
abbrev r0_6 : Rect S3072x768 := Rect.unit (s := S3072x768) ![0, 0] S768x768.size inb_S3072x768_S768x768_0_0
abbrev r0_7 : Rect S4x16x48 := Rect.unit (s := S4x16x48) ![0, 0, 0] S1x16x48.size inb_S4x16x48_S1x16x48_0_0_0
abbrev r0_8 : Rect S16x48 := Rect.unit (s := S16x48) ![0, 0] S16x48.size inb_S16x48_S16x48_0_0
abbrev r0_9 : Rect S3072x768 := Rect.unit (s := S3072x768) ![768, 0] S768x768.size inb_S3072x768_S768x768_768_0
abbrev r0_10 : Rect S4x16x48 := Rect.unit (s := S4x16x48) ![1, 0, 0] S1x16x48.size inb_S4x16x48_S1x16x48_1_0_0
abbrev r0_11 : Rect S3072x768 := Rect.unit (s := S3072x768) ![1536, 0] S768x768.size inb_S3072x768_S768x768_1536_0
abbrev r0_12 : Rect S4x16x48 := Rect.unit (s := S4x16x48) ![2, 0, 0] S1x16x48.size inb_S4x16x48_S1x16x48_2_0_0
abbrev r0_13 : Rect S3072x768 := Rect.unit (s := S3072x768) ![2304, 0] S768x768.size inb_S3072x768_S768x768_2304_0
abbrev r0_14 : Rect S4x16x48 := Rect.unit (s := S4x16x48) ![3, 0, 0] S1x16x48.size inb_S4x16x48_S1x16x48_3_0_0
abbrev r0_15 : Rect S25x16x48x512 := Rect.unit (s := S25x16x48x512) ![0, 0, 0, 0] S25x16x48x512.size inb_S25x16x48x512_S25x16x48x512_0_0_0_0
abbrev r0_16 : Rect S25x16x512 := Rect.unit (s := S25x16x512) ![0, 0, 0] S25x16x512.size inb_S25x16x512_S25x16x512_0_0_0
abbrev r0_17 : Rect S16x416x512 := Rect.unit (s := S16x416x512) ![0, 0, 0] S16x416x512.size inb_S16x416x512_S16x416x512_0_0_0
abbrev r0_18 : Rect S768x768 := Rect.unit (s := S768x768) ![0, 0] S768x768.size inb_S768x768_S768x768_0_0
abbrev r0_19 : Rect S2x768 := Rect.unit (s := S2x768) ![0, 0] S1x768.size inb_S2x768_S1x768_0_0
abbrev r0_20 : Rect S2x768 := Rect.unit (s := S2x768) ![1, 0] S1x768.size inb_S2x768_S1x768_1_0
abbrev r0_21 : Rect S2x768x1536 := Rect.unit (s := S2x768x1536) ![0, 0, 0] S1x768x1536.size inb_S2x768x1536_S1x768x1536_0_0_0
abbrev r0_22 : Rect S2x1536 := Rect.unit (s := S2x1536) ![0, 0] S1x1536.size inb_S2x1536_S1x1536_0_0
abbrev r0_23 : Rect S2x768x1536 := Rect.unit (s := S2x768x1536) ![1, 0, 0] S1x768x1536.size inb_S2x768x1536_S1x768x1536_1_0_0
abbrev r0_24 : Rect S2x1536 := Rect.unit (s := S2x1536) ![1, 0] S1x1536.size inb_S2x1536_S1x1536_1_0
abbrev r0_25 : Rect S25x512x1536 := Rect.unit (s := S25x512x1536) ![0, 0, 0] S25x512x1536.size inb_S25x512x1536_S25x512x1536_0_0_0
abbrev r0_26 : Rect S1536x768 := Rect.unit (s := S1536x768) ![0, 0] S1536x768.size inb_S1536x768_S1536x768_0_0

/-! ## What the body leaves in each output window's buffer -/

/-! ### Values of the body that the stores' payloads, spelt out, would write more than once

    Each is a vector the body binds (often a part call's result), stated over the input windows' blocks and
    numbered on from the skeleton's payload functions (`k0_pay64` …, after `k0_pay63`), so that
    `out0_W` and the values after it name it instead of spelling it out (`unfold_out out0_W` opens a canon
    with them, `unfold_payloads` opens them with the payloads). -/

/-- A function of the twenty input blocks. -/
abbrev Of (F : FTy → Type) (β : Type) : Type :=
  Vec F S25x512x768 .bf16 → Vec F S25x512x384 .bf16 → Vec F S16x416x512 .f32 → Vec F S1x384 .f32 → Vec F S1x384 .f32 → Vec F S384x1536 .bf16 → Vec F S1x768 .f32 → Vec F S384x1536 .bf16 → Vec F S1x768 .f32 → Vec F S384x1536 .bf16 → Vec F S2x768 .f32 → Vec F S3072x768 .fp8e4m3 → Vec F S4x16x48 .f32 → Vec F S16x48 .f32 → Vec F S768x768 .fp8e4m3 → Vec F S1x768 .f32 → Vec F S2x768x1536 .fp8e4m3 → Vec F S2x1536 .f32 → Vec F S1536x768 .fp8e4m3 → Vec F S1x768 .f32 → β
def k0_pay64 : Of F (FVec F S12800x768 .f32) := fun x0 x1 x2 x3 x4 x5 x6 x7 x8 x9 x10 x11 x12 x13 x14 x15 x16 x17 x18 x19 =>
  k0_pay6 (View.ld x0 r0_0)
def k0_pay65 : Of F (FVec F S12800x384 .bf16) := fun x0 x1 x2 x3 x4 x5 x6 x7 x8 x9 x10 x11 x12 x13 x14 x15 x16 x17 x18 x19 =>
  k0_pay7 (View.ld x1 r0_1)
def k0_pay66 : Of F (FVec F S12800x384 .f32) := fun x0 x1 x2 x3 x4 x5 x6 x7 x8 x9 x10 x11 x12 x13 x14 x15 x16 x17 x18 x19 =>
  k0_pay8 (View.ld x1 r0_1)
def k0_pay67 : Of F (FVec F S12800x1536 .f32) := fun x0 x1 x2 x3 x4 x5 x6 x7 x8 x9 x10 x11 x12 x13 x14 x15 x16 x17 x18 x19 =>
  k0_pay9 (View.ld x1 r0_1) (View.ld x3 r0_2) (View.ld x5 r0_3)
def k0_pay68 : Of F (FVec F S12800x768 .f32) := fun x0 x1 x2 x3 x4 x5 x6 x7 x8 x9 x10 x11 x12 x13 x14 x15 x16 x17 x18 x19 =>
  k0_pay10 (View.ld x0 r0_0)
def k0_pay69 : Of F (FVec F S12800x1 .f32) := fun x0 x1 x2 x3 x4 x5 x6 x7 x8 x9 x10 x11 x12 x13 x14 x15 x16 x17 x18 x19 =>
  k0_pay11 (View.ld x0 r0_0)
def k0_pay70 : Of F (FVec F S12800x1 .f32) := fun x0 x1 x2 x3 x4 x5 x6 x7 x8 x9 x10 x11 x12 x13 x14 x15 x16 x17 x18 x19 =>
  k0_pay13 (k0_pay67 x0 x1 x2 x3 x4 x5 x6 x7 x8 x9 x10 x11 x12 x13 x14 x15 x16 x17 x18 x19) (k0_pay68 x0 x1 x2 x3 x4 x5 x6 x7 x8 x9 x10 x11 x12 x13 x14 x15 x16 x17 x18 x19) (k0_pay69 x0 x1 x2 x3 x4 x5 x6 x7 x8 x9 x10 x11 x12 x13 x14 x15 x16 x17 x18 x19) (Scalar.ofBits .f32 0x3727C5AC#32) (View.ld x6 r0_4)
def k0_pay71 : Of F (FVec F S12800x768 .fp8e4m3) := fun x0 x1 x2 x3 x4 x5 x6 x7 x8 x9 x10 x11 x12 x13 x14 x15 x16 x17 x18 x19 =>
  k0_pay14 (k0_pay67 x0 x1 x2 x3 x4 x5 x6 x7 x8 x9 x10 x11 x12 x13 x14 x15 x16 x17 x18 x19) (k0_pay68 x0 x1 x2 x3 x4 x5 x6 x7 x8 x9 x10 x11 x12 x13 x14 x15 x16 x17 x18 x19) (k0_pay69 x0 x1 x2 x3 x4 x5 x6 x7 x8 x9 x10 x11 x12 x13 x14 x15 x16 x17 x18 x19) (Scalar.ofBits .f32 0x3727C5AC#32) (View.ld x6 r0_4)
def k0_pay72 : Of F (FVec F S12800x16x48 .f32) := fun x0 x1 x2 x3 x4 x5 x6 x7 x8 x9 x10 x11 x12 x13 x14 x15 x16 x17 x18 x19 =>
  k0_pay17 (k0_pay67 x0 x1 x2 x3 x4 x5 x6 x7 x8 x9 x10 x11 x12 x13 x14 x15 x16 x17 x18 x19) (k0_pay68 x0 x1 x2 x3 x4 x5 x6 x7 x8 x9 x10 x11 x12 x13 x14 x15 x16 x17 x18 x19) (k0_pay69 x0 x1 x2 x3 x4 x5 x6 x7 x8 x9 x10 x11 x12 x13 x14 x15 x16 x17 x18 x19) (Scalar.ofBits .f32 0x3727C5AC#32) (View.ld x6 r0_4) (View.ld x11 r0_6)
def k0_pay73 : Of F (FVec F S12800x16x1 .f32) := fun x0 x1 x2 x3 x4 x5 x6 x7 x8 x9 x10 x11 x12 x13 x14 x15 x16 x17 x18 x19 =>
  k0_pay19 (k0_pay72 x0 x1 x2 x3 x4 x5 x6 x7 x8 x9 x10 x11 x12 x13 x14 x15 x16 x17 x18 x19) (View.ld x12 r0_7) (View.ld x13 r0_8)
def k0_pay74 : Of F (FVec F S12800x16x48 .fp8e4m3) := fun x0 x1 x2 x3 x4 x5 x6 x7 x8 x9 x10 x11 x12 x13 x14 x15 x16 x17 x18 x19 =>
  k0_pay20 (k0_pay72 x0 x1 x2 x3 x4 x5 x6 x7 x8 x9 x10 x11 x12 x13 x14 x15 x16 x17 x18 x19) (View.ld x12 r0_7) (View.ld x13 r0_8)
def k0_pay75 : Of F (IVec S12800x16x1 1) := fun x0 x1 x2 x3 x4 x5 x6 x7 x8 x9 x10 x11 x12 x13 x14 x15 x16 x17 x18 x19 =>
  k0_pay23 (k0_pay70 x0 x1 x2 x3 x4 x5 x6 x7 x8 x9 x10 x11 x12 x13 x14 x15 x16 x17 x18 x19) (k0_pay71 x0 x1 x2 x3 x4 x5 x6 x7 x8 x9 x10 x11 x12 x13 x14 x15 x16 x17 x18 x19) (View.ld x11 r0_9) (View.ld x12 r0_10)
def k0_pay76 : Of F (FVec F S12800x16x1 .f32) := fun x0 x1 x2 x3 x4 x5 x6 x7 x8 x9 x10 x11 x12 x13 x14 x15 x16 x17 x18 x19 =>
  k0_pay24 (k0_pay70 x0 x1 x2 x3 x4 x5 x6 x7 x8 x9 x10 x11 x12 x13 x14 x15 x16 x17 x18 x19) (k0_pay71 x0 x1 x2 x3 x4 x5 x6 x7 x8 x9 x10 x11 x12 x13 x14 x15 x16 x17 x18 x19) (View.ld x11 r0_9) (View.ld x12 r0_10)
def k0_pay77 : Of F (FVec F S12800x16x1 .f32) := fun x0 x1 x2 x3 x4 x5 x6 x7 x8 x9 x10 x11 x12 x13 x14 x15 x16 x17 x18 x19 =>
  k0_pay25 (F := F)
def k0_pay78 : Of F (FVec F S12800x16x1 .f32) := fun x0 x1 x2 x3 x4 x5 x6 x7 x8 x9 x10 x11 x12 x13 x14 x15 x16 x17 x18 x19 =>
  k0_pay26 (k0_pay75 x0 x1 x2 x3 x4 x5 x6 x7 x8 x9 x10 x11 x12 x13 x14 x15 x16 x17 x18 x19) (k0_pay76 x0 x1 x2 x3 x4 x5 x6 x7 x8 x9 x10 x11 x12 x13 x14 x15 x16 x17 x18 x19) (k0_pay77 x0 x1 x2 x3 x4 x5 x6 x7 x8 x9 x10 x11 x12 x13 x14 x15 x16 x17 x18 x19)
def k0_pay79 : Of F (FVec F S12800x16x48 .fp8e4m3) := fun x0 x1 x2 x3 x4 x5 x6 x7 x8 x9 x10 x11 x12 x13 x14 x15 x16 x17 x18 x19 =>
  k0_pay27 (k0_pay21 (k0_pay70 x0 x1 x2 x3 x4 x5 x6 x7 x8 x9 x10 x11 x12 x13 x14 x15 x16 x17 x18 x19) (k0_pay71 x0 x1 x2 x3 x4 x5 x6 x7 x8 x9 x10 x11 x12 x13 x14 x15 x16 x17 x18 x19) (View.ld x11 r0_9) (View.ld x12 r0_10)) (k0_pay75 x0 x1 x2 x3 x4 x5 x6 x7 x8 x9 x10 x11 x12 x13 x14 x15 x16 x17 x18 x19) (k0_pay76 x0 x1 x2 x3 x4 x5 x6 x7 x8 x9 x10 x11 x12 x13 x14 x15 x16 x17 x18 x19) (k0_pay77 x0 x1 x2 x3 x4 x5 x6 x7 x8 x9 x10 x11 x12 x13 x14 x15 x16 x17 x18 x19)
def k0_pay80 : Of F (FVec F S12800x16x1 .f32) := fun x0 x1 x2 x3 x4 x5 x6 x7 x8 x9 x10 x11 x12 x13 x14 x15 x16 x17 x18 x19 =>
  k0_pay29 (k0_pay70 x0 x1 x2 x3 x4 x5 x6 x7 x8 x9 x10 x11 x12 x13 x14 x15 x16 x17 x18 x19) (k0_pay71 x0 x1 x2 x3 x4 x5 x6 x7 x8 x9 x10 x11 x12 x13 x14 x15 x16 x17 x18 x19) (View.ld x11 r0_11) (View.ld x12 r0_12)
def k0_pay81 : Of F (FVec F S12800x16x48 .fp8e4m3) := fun x0 x1 x2 x3 x4 x5 x6 x7 x8 x9 x10 x11 x12 x13 x14 x15 x16 x17 x18 x19 =>
  k0_pay30 (k0_pay70 x0 x1 x2 x3 x4 x5 x6 x7 x8 x9 x10 x11 x12 x13 x14 x15 x16 x17 x18 x19) (k0_pay71 x0 x1 x2 x3 x4 x5 x6 x7 x8 x9 x10 x11 x12 x13 x14 x15 x16 x17 x18 x19) (View.ld x11 r0_11) (View.ld x12 r0_12)
def k0_pay82 : Of F (FVec F S12800x16x48 .f32) := fun x0 x1 x2 x3 x4 x5 x6 x7 x8 x9 x10 x11 x12 x13 x14 x15 x16 x17 x18 x19 =>
  k0_pay32 (k0_pay31 (k0_pay70 x0 x1 x2 x3 x4 x5 x6 x7 x8 x9 x10 x11 x12 x13 x14 x15 x16 x17 x18 x19) (k0_pay71 x0 x1 x2 x3 x4 x5 x6 x7 x8 x9 x10 x11 x12 x13 x14 x15 x16 x17 x18 x19) (View.ld x11 r0_13)) (View.ld x12 r0_14)
def k0_pay83 : Of F (FVec F S400x512x48 .fp8e4m3) := fun x0 x1 x2 x3 x4 x5 x6 x7 x8 x9 x10 x11 x12 x13 x14 x15 x16 x17 x18 x19 =>
  k0_pay39 (k0_pay74 x0 x1 x2 x3 x4 x5 x6 x7 x8 x9 x10 x11 x12 x13 x14 x15 x16 x17 x18 x19)
def k0_pay84 : Of F (FVec F S400x416x48 .fp8e4m3) := fun x0 x1 x2 x3 x4 x5 x6 x7 x8 x9 x10 x11 x12 x13 x14 x15 x16 x17 x18 x19 =>
  k0_pay40 (k0_pay79 x0 x1 x2 x3 x4 x5 x6 x7 x8 x9 x10 x11 x12 x13 x14 x15 x16 x17 x18 x19)
def k0_pay85 : Of F (FVec F S400x512x48 .fp8e4m3) := fun x0 x1 x2 x3 x4 x5 x6 x7 x8 x9 x10 x11 x12 x13 x14 x15 x16 x17 x18 x19 =>
  k0_pay41 (k0_pay81 x0 x1 x2 x3 x4 x5 x6 x7 x8 x9 x10 x11 x12 x13 x14 x15 x16 x17 x18 x19)
def k0_pay86 : Of F (FVec F S12800x768 .f32) := fun x0 x1 x2 x3 x4 x5 x6 x7 x8 x9 x10 x11 x12 x13 x14 x15 x16 x17 x18 x19 =>
  k0_pay42 (k0_pay73 x0 x1 x2 x3 x4 x5 x6 x7 x8 x9 x10 x11 x12 x13 x14 x15 x16 x17 x18 x19) (k0_pay78 x0 x1 x2 x3 x4 x5 x6 x7 x8 x9 x10 x11 x12 x13 x14 x15 x16 x17 x18 x19) (k0_pay80 x0 x1 x2 x3 x4 x5 x6 x7 x8 x9 x10 x11 x12 x13 x14 x15 x16 x17 x18 x19) (k0_pay82 x0 x1 x2 x3 x4 x5 x6 x7 x8 x9 x10 x11 x12 x13 x14 x15 x16 x17 x18 x19) (k0_pay83 x0 x1 x2 x3 x4 x5 x6 x7 x8 x9 x10 x11 x12 x13 x14 x15 x16 x17 x18 x19) (k0_pay84 x0 x1 x2 x3 x4 x5 x6 x7 x8 x9 x10 x11 x12 x13 x14 x15 x16 x17 x18 x19) (k0_pay85 x0 x1 x2 x3 x4 x5 x6 x7 x8 x9 x10 x11 x12 x13 x14 x15 x16 x17 x18 x19) (View.ld x2 r0_17)
def k0_pay87 : Of F (FVec F S12800x1 .f32) := fun x0 x1 x2 x3 x4 x5 x6 x7 x8 x9 x10 x11 x12 x13 x14 x15 x16 x17 x18 x19 =>
  k0_pay43 (k0_pay73 x0 x1 x2 x3 x4 x5 x6 x7 x8 x9 x10 x11 x12 x13 x14 x15 x16 x17 x18 x19) (k0_pay78 x0 x1 x2 x3 x4 x5 x6 x7 x8 x9 x10 x11 x12 x13 x14 x15 x16 x17 x18 x19) (k0_pay80 x0 x1 x2 x3 x4 x5 x6 x7 x8 x9 x10 x11 x12 x13 x14 x15 x16 x17 x18 x19) (k0_pay82 x0 x1 x2 x3 x4 x5 x6 x7 x8 x9 x10 x11 x12 x13 x14 x15 x16 x17 x18 x19) (k0_pay83 x0 x1 x2 x3 x4 x5 x6 x7 x8 x9 x10 x11 x12 x13 x14 x15 x16 x17 x18 x19) (k0_pay84 x0 x1 x2 x3 x4 x5 x6 x7 x8 x9 x10 x11 x12 x13 x14 x15 x16 x17 x18 x19) (k0_pay85 x0 x1 x2 x3 x4 x5 x6 x7 x8 x9 x10 x11 x12 x13 x14 x15 x16 x17 x18 x19) (View.ld x2 r0_17)
def k0_pay88 : Of F (FVec F S12800x768 .f32) := fun x0 x1 x2 x3 x4 x5 x6 x7 x8 x9 x10 x11 x12 x13 x14 x15 x16 x17 x18 x19 =>
  k0_pay48 (k0_pay86 x0 x1 x2 x3 x4 x5 x6 x7 x8 x9 x10 x11 x12 x13 x14 x15 x16 x17 x18 x19) (k0_pay87 x0 x1 x2 x3 x4 x5 x6 x7 x8 x9 x10 x11 x12 x13 x14 x15 x16 x17 x18 x19) (View.ld x14 r0_18) (View.ld x15 r0_4)
def k0_pay89 : Of F (FVec F S12800x768 .f32) := fun x0 x1 x2 x3 x4 x5 x6 x7 x8 x9 x10 x11 x12 x13 x14 x15 x16 x17 x18 x19 =>
  k0_pay50 (k0_pay65 x0 x1 x2 x3 x4 x5 x6 x7 x8 x9 x10 x11 x12 x13 x14 x15 x16 x17 x18 x19) (View.ld x9 r0_3) (View.ld x10 r0_19)
def k0_pay90 : Of F (FVec F S12800x768 .f32) := fun x0 x1 x2 x3 x4 x5 x6 x7 x8 x9 x10 x11 x12 x13 x14 x15 x16 x17 x18 x19 =>
  k0_pay54 (k0_pay64 x0 x1 x2 x3 x4 x5 x6 x7 x8 x9 x10 x11 x12 x13 x14 x15 x16 x17 x18 x19) (k0_pay66 x0 x1 x2 x3 x4 x5 x6 x7 x8 x9 x10 x11 x12 x13 x14 x15 x16 x17 x18 x19) (k0_pay88 x0 x1 x2 x3 x4 x5 x6 x7 x8 x9 x10 x11 x12 x13 x14 x15 x16 x17 x18 x19) (k0_pay89 x0 x1 x2 x3 x4 x5 x6 x7 x8 x9 x10 x11 x12 x13 x14 x15 x16 x17 x18 x19) (View.ld x4 r0_2) (View.ld x7 r0_3) (View.ld x8 r0_4)
def k0_pay91 : Of F (FVec F S12800x1 .f32) := fun x0 x1 x2 x3 x4 x5 x6 x7 x8 x9 x10 x11 x12 x13 x14 x15 x16 x17 x18 x19 =>
  k0_pay55 (k0_pay64 x0 x1 x2 x3 x4 x5 x6 x7 x8 x9 x10 x11 x12 x13 x14 x15 x16 x17 x18 x19) (k0_pay66 x0 x1 x2 x3 x4 x5 x6 x7 x8 x9 x10 x11 x12 x13 x14 x15 x16 x17 x18 x19) (k0_pay88 x0 x1 x2 x3 x4 x5 x6 x7 x8 x9 x10 x11 x12 x13 x14 x15 x16 x17 x18 x19) (k0_pay89 x0 x1 x2 x3 x4 x5 x6 x7 x8 x9 x10 x11 x12 x13 x14 x15 x16 x17 x18 x19) (View.ld x4 r0_2) (View.ld x7 r0_3) (View.ld x8 r0_4)
def k0_pay92 : Of F (IVec S12800x1 1) := fun x0 x1 x2 x3 x4 x5 x6 x7 x8 x9 x10 x11 x12 x13 x14 x15 x16 x17 x18 x19 =>
  k0_pay56 (k0_pay64 x0 x1 x2 x3 x4 x5 x6 x7 x8 x9 x10 x11 x12 x13 x14 x15 x16 x17 x18 x19) (k0_pay66 x0 x1 x2 x3 x4 x5 x6 x7 x8 x9 x10 x11 x12 x13 x14 x15 x16 x17 x18 x19) (k0_pay88 x0 x1 x2 x3 x4 x5 x6 x7 x8 x9 x10 x11 x12 x13 x14 x15 x16 x17 x18 x19) (k0_pay89 x0 x1 x2 x3 x4 x5 x6 x7 x8 x9 x10 x11 x12 x13 x14 x15 x16 x17 x18 x19) (View.ld x4 r0_2) (View.ld x7 r0_3) (View.ld x8 r0_4)
def k0_pay93 : Of F (FVec F S12800x1 .f32) := fun x0 x1 x2 x3 x4 x5 x6 x7 x8 x9 x10 x11 x12 x13 x14 x15 x16 x17 x18 x19 =>
  k0_pay57 (F := F)
def k0_pay94 : Of F (FVec F S12800x1536 .f32) := fun x0 x1 x2 x3 x4 x5 x6 x7 x8 x9 x10 x11 x12 x13 x14 x15 x16 x17 x18 x19 =>
  k0_pay62 (k0_pay90 x0 x1 x2 x3 x4 x5 x6 x7 x8 x9 x10 x11 x12 x13 x14 x15 x16 x17 x18 x19) (k0_pay91 x0 x1 x2 x3 x4 x5 x6 x7 x8 x9 x10 x11 x12 x13 x14 x15 x16 x17 x18 x19) (k0_pay92 x0 x1 x2 x3 x4 x5 x6 x7 x8 x9 x10 x11 x12 x13 x14 x15 x16 x17 x18 x19) (k0_pay93 x0 x1 x2 x3 x4 x5 x6 x7 x8 x9 x10 x11 x12 x13 x14 x15 x16 x17 x18 x19) (View.ld x16 r0_21) (View.ld x17 r0_22) (View.ld x16 r0_23) (View.ld x17 r0_24)
def k0_pay95 : Of F (FVec F S12800x1 .f32) := fun x0 x1 x2 x3 x4 x5 x6 x7 x8 x9 x10 x11 x12 x13 x14 x15 x16 x17 x18 x19 =>
  k0_pay63 (k0_pay90 x0 x1 x2 x3 x4 x5 x6 x7 x8 x9 x10 x11 x12 x13 x14 x15 x16 x17 x18 x19) (k0_pay91 x0 x1 x2 x3 x4 x5 x6 x7 x8 x9 x10 x11 x12 x13 x14 x15 x16 x17 x18 x19) (k0_pay92 x0 x1 x2 x3 x4 x5 x6 x7 x8 x9 x10 x11 x12 x13 x14 x15 x16 x17 x18 x19) (k0_pay93 x0 x1 x2 x3 x4 x5 x6 x7 x8 x9 x10 x11 x12 x13 x14 x15 x16 x17 x18 x19) (View.ld x16 r0_21) (View.ld x17 r0_22) (View.ld x16 r0_23) (View.ld x17 r0_24)

/-- Window 20's staging buffer after the body, from the input windows' blocks. -/
def out0_20 : Of F (Vec F S25x512x768 .bf16) := fun x0 x1 x2 x3 x4 x5 x6 x7 x8 x9 x10 x11 x12 x13 x14 x15 x16 x17 x18 x19 =>
  View.canon [⟨r0_0, k0_pay5 (k0_pay51 (k0_pay65 x0 x1 x2 x3 x4 x5 x6 x7 x8 x9 x10 x11 x12 x13 x14 x15 x16 x17 x18 x19) (View.ld x9 r0_3) (View.ld x10 r0_20)) (k0_pay52 (k0_pay64 x0 x1 x2 x3 x4 x5 x6 x7 x8 x9 x10 x11 x12 x13 x14 x15 x16 x17 x18 x19) (k0_pay88 x0 x1 x2 x3 x4 x5 x6 x7 x8 x9 x10 x11 x12 x13 x14 x15 x16 x17 x18 x19) (k0_pay89 x0 x1 x2 x3 x4 x5 x6 x7 x8 x9 x10 x11 x12 x13 x14 x15 x16 x17 x18 x19)) (k0_pay94 x0 x1 x2 x3 x4 x5 x6 x7 x8 x9 x10 x11 x12 x13 x14 x15 x16 x17 x18 x19) (k0_pay95 x0 x1 x2 x3 x4 x5 x6 x7 x8 x9 x10 x11 x12 x13 x14 x15 x16 x17 x18 x19) (Scalar.ofBits .f32 0x00000000#32) (View.ld x18 r0_26) (View.ld x19 r0_4)⟩]

/-- Its stores tile the buffer (checked by evaluation), so they cover it. -/
theorem cover0_20 (p0 : Vec F S25x512x768 .bf16) (y : S25x512x768.Idx) :
    ∃ pc ∈ ([⟨r0_0, p0⟩] : List (View.Piece (Elt F) S25x512x768 .bf16)), y ∈ pc.1.set :=
  View.cover_of_tiled [⟨r0_0, p0⟩] S25x512x768.size (by rfl) y

/-- Window 21's staging buffer after the body, from the input windows' blocks. -/
def out0_21 : Of F (Vec F S25x512x768 .f32) := fun x0 x1 x2 x3 x4 x5 x6 x7 x8 x9 x10 x11 x12 x13 x14 x15 x16 x17 x18 x19 =>
  View.canon [⟨r0_0, k0_pay53 (k0_pay64 x0 x1 x2 x3 x4 x5 x6 x7 x8 x9 x10 x11 x12 x13 x14 x15 x16 x17 x18 x19) (k0_pay88 x0 x1 x2 x3 x4 x5 x6 x7 x8 x9 x10 x11 x12 x13 x14 x15 x16 x17 x18 x19) (k0_pay89 x0 x1 x2 x3 x4 x5 x6 x7 x8 x9 x10 x11 x12 x13 x14 x15 x16 x17 x18 x19)⟩]

/-- Its stores tile the buffer (checked by evaluation), so they cover it. -/
theorem cover0_21 (p0 : Vec F S25x512x768 .f32) (y : S25x512x768.Idx) :
    ∃ pc ∈ ([⟨r0_0, p0⟩] : List (View.Piece (Elt F) S25x512x768 .f32)), y ∈ pc.1.set :=
  View.cover_of_tiled [⟨r0_0, p0⟩] S25x512x768.size (by rfl) y

/-- Window 22's staging buffer after the body, from the input windows' blocks. -/
def out0_22 : Of F (Vec F S25x512x768 .fp8e4m3) := fun x0 x1 x2 x3 x4 x5 x6 x7 x8 x9 x10 x11 x12 x13 x14 x15 x16 x17 x18 x19 =>
  View.canon [⟨r0_0, k0_pay15 (k0_pay67 x0 x1 x2 x3 x4 x5 x6 x7 x8 x9 x10 x11 x12 x13 x14 x15 x16 x17 x18 x19) (k0_pay68 x0 x1 x2 x3 x4 x5 x6 x7 x8 x9 x10 x11 x12 x13 x14 x15 x16 x17 x18 x19) (k0_pay69 x0 x1 x2 x3 x4 x5 x6 x7 x8 x9 x10 x11 x12 x13 x14 x15 x16 x17 x18 x19) (Scalar.ofBits .f32 0x3727C5AC#32) (View.ld x6 r0_4)⟩]

/-- Its stores tile the buffer (checked by evaluation), so they cover it. -/
theorem cover0_22 (p0 : Vec F S25x512x768 .fp8e4m3) (y : S25x512x768.Idx) :
    ∃ pc ∈ ([⟨r0_0, p0⟩] : List (View.Piece (Elt F) S25x512x768 .fp8e4m3)), y ∈ pc.1.set :=
  View.cover_of_tiled [⟨r0_0, p0⟩] S25x512x768.size (by rfl) y

/-- Window 23's staging buffer after the body, from the input windows' blocks. -/
def out0_23 : Of F (Vec F S25x512 .f32) := fun x0 x1 x2 x3 x4 x5 x6 x7 x8 x9 x10 x11 x12 x13 x14 x15 x16 x17 x18 x19 =>
  View.canon [⟨r0_5, k0_pay16 (k0_pay67 x0 x1 x2 x3 x4 x5 x6 x7 x8 x9 x10 x11 x12 x13 x14 x15 x16 x17 x18 x19) (k0_pay68 x0 x1 x2 x3 x4 x5 x6 x7 x8 x9 x10 x11 x12 x13 x14 x15 x16 x17 x18 x19) (k0_pay69 x0 x1 x2 x3 x4 x5 x6 x7 x8 x9 x10 x11 x12 x13 x14 x15 x16 x17 x18 x19) (Scalar.ofBits .f32 0x3727C5AC#32) (View.ld x6 r0_4)⟩]

/-- Its stores tile the buffer (checked by evaluation), so they cover it. -/
theorem cover0_23 (p0 : Vec F S25x512 .f32) (y : S25x512.Idx) :
    ∃ pc ∈ ([⟨r0_5, p0⟩] : List (View.Piece (Elt F) S25x512 .f32)), y ∈ pc.1.set :=
  View.cover_of_tiled [⟨r0_5, p0⟩] S25x512.size (by rfl) y

/-- Window 24's staging buffer after the body, from the input windows' blocks. -/
def out0_24 : Of F (Vec F S25x16x48x512 .fp8e4m3) := fun x0 x1 x2 x3 x4 x5 x6 x7 x8 x9 x10 x11 x12 x13 x14 x15 x16 x17 x18 x19 =>
  View.canon [⟨r0_15, k0_pay33 (k0_pay74 x0 x1 x2 x3 x4 x5 x6 x7 x8 x9 x10 x11 x12 x13 x14 x15 x16 x17 x18 x19)⟩]

/-- Its stores tile the buffer (checked by evaluation), so they cover it. -/
theorem cover0_24 (p0 : Vec F S25x16x48x512 .fp8e4m3) (y : S25x16x48x512.Idx) :
    ∃ pc ∈ ([⟨r0_15, p0⟩] : List (View.Piece (Elt F) S25x16x48x512 .fp8e4m3)), y ∈ pc.1.set :=
  View.cover_of_tiled [⟨r0_15, p0⟩] S25x16x48x512.size (by rfl) y

/-- Window 25's staging buffer after the body, from the input windows' blocks. -/
def out0_25 : Of F (Vec F S25x16x512 .f32) := fun x0 x1 x2 x3 x4 x5 x6 x7 x8 x9 x10 x11 x12 x13 x14 x15 x16 x17 x18 x19 =>
  View.canon [⟨r0_16, k0_pay34 (k0_pay73 x0 x1 x2 x3 x4 x5 x6 x7 x8 x9 x10 x11 x12 x13 x14 x15 x16 x17 x18 x19)⟩]

/-- Its stores tile the buffer (checked by evaluation), so they cover it. -/
theorem cover0_25 (p0 : Vec F S25x16x512 .f32) (y : S25x16x512.Idx) :
    ∃ pc ∈ ([⟨r0_16, p0⟩] : List (View.Piece (Elt F) S25x16x512 .f32)), y ∈ pc.1.set :=
  View.cover_of_tiled [⟨r0_16, p0⟩] S25x16x512.size (by rfl) y

/-- Window 26's staging buffer after the body, from the input windows' blocks. -/
def out0_26 : Of F (Vec F S25x16x48x512 .fp8e4m3) := fun x0 x1 x2 x3 x4 x5 x6 x7 x8 x9 x10 x11 x12 x13 x14 x15 x16 x17 x18 x19 =>
  View.canon [⟨r0_15, k0_pay35 (k0_pay79 x0 x1 x2 x3 x4 x5 x6 x7 x8 x9 x10 x11 x12 x13 x14 x15 x16 x17 x18 x19)⟩]

/-- Its stores tile the buffer (checked by evaluation), so they cover it. -/
theorem cover0_26 (p0 : Vec F S25x16x48x512 .fp8e4m3) (y : S25x16x48x512.Idx) :
    ∃ pc ∈ ([⟨r0_15, p0⟩] : List (View.Piece (Elt F) S25x16x48x512 .fp8e4m3)), y ∈ pc.1.set :=
  View.cover_of_tiled [⟨r0_15, p0⟩] S25x16x48x512.size (by rfl) y

/-- Window 27's staging buffer after the body, from the input windows' blocks. -/
def out0_27 : Of F (Vec F S25x16x512 .f32) := fun x0 x1 x2 x3 x4 x5 x6 x7 x8 x9 x10 x11 x12 x13 x14 x15 x16 x17 x18 x19 =>
  View.canon [⟨r0_16, k0_pay36 (k0_pay78 x0 x1 x2 x3 x4 x5 x6 x7 x8 x9 x10 x11 x12 x13 x14 x15 x16 x17 x18 x19)⟩]

/-- Its stores tile the buffer (checked by evaluation), so they cover it. -/
theorem cover0_27 (p0 : Vec F S25x16x512 .f32) (y : S25x16x512.Idx) :
    ∃ pc ∈ ([⟨r0_16, p0⟩] : List (View.Piece (Elt F) S25x16x512 .f32)), y ∈ pc.1.set :=
  View.cover_of_tiled [⟨r0_16, p0⟩] S25x16x512.size (by rfl) y

/-- Window 28's staging buffer after the body, from the input windows' blocks. -/
def out0_28 : Of F (Vec F S25x16x48x512 .fp8e4m3) := fun x0 x1 x2 x3 x4 x5 x6 x7 x8 x9 x10 x11 x12 x13 x14 x15 x16 x17 x18 x19 =>
  View.canon [⟨r0_15, k0_pay37 (k0_pay81 x0 x1 x2 x3 x4 x5 x6 x7 x8 x9 x10 x11 x12 x13 x14 x15 x16 x17 x18 x19)⟩]

/-- Its stores tile the buffer (checked by evaluation), so they cover it. -/
theorem cover0_28 (p0 : Vec F S25x16x48x512 .fp8e4m3) (y : S25x16x48x512.Idx) :
    ∃ pc ∈ ([⟨r0_15, p0⟩] : List (View.Piece (Elt F) S25x16x48x512 .fp8e4m3)), y ∈ pc.1.set :=
  View.cover_of_tiled [⟨r0_15, p0⟩] S25x16x48x512.size (by rfl) y

/-- Window 29's staging buffer after the body, from the input windows' blocks. -/
def out0_29 : Of F (Vec F S25x16x512 .f32) := fun x0 x1 x2 x3 x4 x5 x6 x7 x8 x9 x10 x11 x12 x13 x14 x15 x16 x17 x18 x19 =>
  View.canon [⟨r0_16, k0_pay38 (k0_pay80 x0 x1 x2 x3 x4 x5 x6 x7 x8 x9 x10 x11 x12 x13 x14 x15 x16 x17 x18 x19)⟩]

/-- Its stores tile the buffer (checked by evaluation), so they cover it. -/
theorem cover0_29 (p0 : Vec F S25x16x512 .f32) (y : S25x16x512.Idx) :
    ∃ pc ∈ ([⟨r0_16, p0⟩] : List (View.Piece (Elt F) S25x16x512 .f32)), y ∈ pc.1.set :=
  View.cover_of_tiled [⟨r0_16, p0⟩] S25x16x512.size (by rfl) y

/-- Window 30's staging buffer after the body, from the input windows' blocks. -/
def out0_30 : Of F (Vec F S25x16x48x512 .fp8e4m3) := fun x0 x1 x2 x3 x4 x5 x6 x7 x8 x9 x10 x11 x12 x13 x14 x15 x16 x17 x18 x19 =>
  View.canon [⟨r0_15, k0_pay46 (k0_pay86 x0 x1 x2 x3 x4 x5 x6 x7 x8 x9 x10 x11 x12 x13 x14 x15 x16 x17 x18 x19) (k0_pay87 x0 x1 x2 x3 x4 x5 x6 x7 x8 x9 x10 x11 x12 x13 x14 x15 x16 x17 x18 x19)⟩]

/-- Its stores tile the buffer (checked by evaluation), so they cover it. -/
theorem cover0_30 (p0 : Vec F S25x16x48x512 .fp8e4m3) (y : S25x16x48x512.Idx) :
    ∃ pc ∈ ([⟨r0_15, p0⟩] : List (View.Piece (Elt F) S25x16x48x512 .fp8e4m3)), y ∈ pc.1.set :=
  View.cover_of_tiled [⟨r0_15, p0⟩] S25x16x48x512.size (by rfl) y

/-- Window 31's staging buffer after the body, from the input windows' blocks. -/
def out0_31 : Of F (Vec F S25x512 .f32) := fun x0 x1 x2 x3 x4 x5 x6 x7 x8 x9 x10 x11 x12 x13 x14 x15 x16 x17 x18 x19 =>
  View.canon [⟨r0_5, k0_pay47 (k0_pay87 x0 x1 x2 x3 x4 x5 x6 x7 x8 x9 x10 x11 x12 x13 x14 x15 x16 x17 x18 x19)⟩]

/-- Its stores tile the buffer (checked by evaluation), so they cover it. -/
theorem cover0_31 (p0 : Vec F S25x512 .f32) (y : S25x512.Idx) :
    ∃ pc ∈ ([⟨r0_5, p0⟩] : List (View.Piece (Elt F) S25x512 .f32)), y ∈ pc.1.set :=
  View.cover_of_tiled [⟨r0_5, p0⟩] S25x512.size (by rfl) y

/-- Window 32's staging buffer after the body, from the input windows' blocks. -/
def out0_32 : Of F (Vec F S25x512x768 .fp8e4m3) := fun x0 x1 x2 x3 x4 x5 x6 x7 x8 x9 x10 x11 x12 x13 x14 x15 x16 x17 x18 x19 =>
  View.canon [⟨r0_0, k0_pay60 (k0_pay90 x0 x1 x2 x3 x4 x5 x6 x7 x8 x9 x10 x11 x12 x13 x14 x15 x16 x17 x18 x19) (k0_pay91 x0 x1 x2 x3 x4 x5 x6 x7 x8 x9 x10 x11 x12 x13 x14 x15 x16 x17 x18 x19) (k0_pay92 x0 x1 x2 x3 x4 x5 x6 x7 x8 x9 x10 x11 x12 x13 x14 x15 x16 x17 x18 x19) (k0_pay93 x0 x1 x2 x3 x4 x5 x6 x7 x8 x9 x10 x11 x12 x13 x14 x15 x16 x17 x18 x19)⟩]

/-- Its stores tile the buffer (checked by evaluation), so they cover it. -/
theorem cover0_32 (p0 : Vec F S25x512x768 .fp8e4m3) (y : S25x512x768.Idx) :
    ∃ pc ∈ ([⟨r0_0, p0⟩] : List (View.Piece (Elt F) S25x512x768 .fp8e4m3)), y ∈ pc.1.set :=
  View.cover_of_tiled [⟨r0_0, p0⟩] S25x512x768.size (by rfl) y

/-- Window 33's staging buffer after the body, from the input windows' blocks. -/
def out0_33 : Of F (Vec F S25x512 .f32) := fun x0 x1 x2 x3 x4 x5 x6 x7 x8 x9 x10 x11 x12 x13 x14 x15 x16 x17 x18 x19 =>
  View.canon [⟨r0_5, k0_pay61 (k0_pay91 x0 x1 x2 x3 x4 x5 x6 x7 x8 x9 x10 x11 x12 x13 x14 x15 x16 x17 x18 x19) (k0_pay92 x0 x1 x2 x3 x4 x5 x6 x7 x8 x9 x10 x11 x12 x13 x14 x15 x16 x17 x18 x19) (k0_pay93 x0 x1 x2 x3 x4 x5 x6 x7 x8 x9 x10 x11 x12 x13 x14 x15 x16 x17 x18 x19)⟩]

/-- Its stores tile the buffer (checked by evaluation), so they cover it. -/
theorem cover0_33 (p0 : Vec F S25x512 .f32) (y : S25x512.Idx) :
    ∃ pc ∈ ([⟨r0_5, p0⟩] : List (View.Piece (Elt F) S25x512 .f32)), y ∈ pc.1.set :=
  View.cover_of_tiled [⟨r0_5, p0⟩] S25x512.size (by rfl) y

/-- Window 34's staging buffer after the body, from the input windows' blocks. -/
def out0_34 : Of F (Vec F S25x512x1536 .fp8e4m3) := fun x0 x1 x2 x3 x4 x5 x6 x7 x8 x9 x10 x11 x12 x13 x14 x15 x16 x17 x18 x19 =>
  View.canon [⟨r0_25, k0_pay3 (k0_pay94 x0 x1 x2 x3 x4 x5 x6 x7 x8 x9 x10 x11 x12 x13 x14 x15 x16 x17 x18 x19) (k0_pay95 x0 x1 x2 x3 x4 x5 x6 x7 x8 x9 x10 x11 x12 x13 x14 x15 x16 x17 x18 x19) (Scalar.ofBits .f32 0x00000000#32)⟩]

/-- Its stores tile the buffer (checked by evaluation), so they cover it. -/
theorem cover0_34 (p0 : Vec F S25x512x1536 .fp8e4m3) (y : S25x512x1536.Idx) :
    ∃ pc ∈ ([⟨r0_25, p0⟩] : List (View.Piece (Elt F) S25x512x1536 .fp8e4m3)), y ∈ pc.1.set :=
  View.cover_of_tiled [⟨r0_25, p0⟩] S25x512x1536.size (by rfl) y

/-- Window 35's staging buffer after the body, from the input windows' blocks. -/
def out0_35 : Of F (Vec F S25x512 .f32) := fun x0 x1 x2 x3 x4 x5 x6 x7 x8 x9 x10 x11 x12 x13 x14 x15 x16 x17 x18 x19 =>
  View.canon [⟨r0_5, k0_pay4 (k0_pay95 x0 x1 x2 x3 x4 x5 x6 x7 x8 x9 x10 x11 x12 x13 x14 x15 x16 x17 x18 x19) (Scalar.ofBits .f32 0x00000000#32)⟩]

/-- Its stores tile the buffer (checked by evaluation), so they cover it. -/
theorem cover0_35 (p0 : Vec F S25x512 .f32) (y : S25x512.Idx) :
    ∃ pc ∈ ([⟨r0_5, p0⟩] : List (View.Piece (Elt F) S25x512 .f32)), y ∈ pc.1.set :=
  View.cover_of_tiled [⟨r0_5, p0⟩] S25x512.size (by rfl) y

/-! ## The body's triple -/

set_option maxHeartbeats 40000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (arg0 : Memref sig .tc .vmem S25x512x768 .bf16) (harg0 : arg0.IsWhole) (arg1 : Memref sig .tc .vmem S25x512x384 .bf16) (harg1 : arg1.IsWhole) (arg2 : Memref sig .tc .vmem S16x416x512 .f32) (harg2 : arg2.IsWhole) (arg3 : Memref sig .tc .vmem S1x384 .f32) (harg3 : arg3.IsWhole) (arg4 : Memref sig .tc .vmem S1x384 .f32) (harg4 : arg4.IsWhole) (arg5 : Memref sig .tc .vmem S384x1536 .bf16) (harg5 : arg5.IsWhole) (arg6 : Memref sig .tc .vmem S1x768 .f32) (harg6 : arg6.IsWhole) (arg7 : Memref sig .tc .vmem S384x1536 .bf16) (harg7 : arg7.IsWhole) (arg8 : Memref sig .tc .vmem S1x768 .f32) (harg8 : arg8.IsWhole) (arg9 : Memref sig .tc .vmem S384x1536 .bf16) (harg9 : arg9.IsWhole) (arg10 : Memref sig .tc .vmem S2x768 .f32) (harg10 : arg10.IsWhole) (arg11 : Memref sig .tc .vmem S3072x768 .fp8e4m3) (harg11 : arg11.IsWhole) (arg12 : Memref sig .tc .vmem S4x16x48 .f32) (harg12 : arg12.IsWhole) (arg13 : Memref sig .tc .vmem S16x48 .f32) (harg13 : arg13.IsWhole) (arg14 : Memref sig .tc .vmem S768x768 .fp8e4m3) (harg14 : arg14.IsWhole) (arg15 : Memref sig .tc .vmem S1x768 .f32) (harg15 : arg15.IsWhole) (arg16 : Memref sig .tc .vmem S2x768x1536 .fp8e4m3) (harg16 : arg16.IsWhole) (arg17 : Memref sig .tc .vmem S2x1536 .f32) (harg17 : arg17.IsWhole) (arg18 : Memref sig .tc .vmem S1536x768 .fp8e4m3) (harg18 : arg18.IsWhole) (arg19 : Memref sig .tc .vmem S1x768 .f32) (harg19 : arg19.IsWhole) (arg20 : Memref sig .tc .vmem S25x512x768 .bf16) (harg20 : arg20.IsWhole) (arg21 : Memref sig .tc .vmem S25x512x768 .f32) (harg21 : arg21.IsWhole) (arg22 : Memref sig .tc .vmem S25x512x768 .fp8e4m3) (harg22 : arg22.IsWhole) (arg23 : Memref sig .tc .vmem S25x512 .f32) (harg23 : arg23.IsWhole) (arg24 : Memref sig .tc .vmem S25x16x48x512 .fp8e4m3) (harg24 : arg24.IsWhole) (arg25 : Memref sig .tc .vmem S25x16x512 .f32) (harg25 : arg25.IsWhole) (arg26 : Memref sig .tc .vmem S25x16x48x512 .fp8e4m3) (harg26 : arg26.IsWhole) (arg27 : Memref sig .tc .vmem S25x16x512 .f32) (harg27 : arg27.IsWhole) (arg28 : Memref sig .tc .vmem S25x16x48x512 .fp8e4m3) (harg28 : arg28.IsWhole) (arg29 : Memref sig .tc .vmem S25x16x512 .f32) (harg29 : arg29.IsWhole) (arg30 : Memref sig .tc .vmem S25x16x48x512 .fp8e4m3) (harg30 : arg30.IsWhole) (arg31 : Memref sig .tc .vmem S25x512 .f32) (harg31 : arg31.IsWhole) (arg32 : Memref sig .tc .vmem S25x512x768 .fp8e4m3) (harg32 : arg32.IsWhole) (arg33 : Memref sig .tc .vmem S25x512 .f32) (harg33 : arg33.IsWhole) (arg34 : Memref sig .tc .vmem S25x512x1536 .fp8e4m3) (harg34 : arg34.IsWhole) (arg35 : Memref sig .tc .vmem S25x512 .f32) (harg35 : arg35.IsWhole)
    (x0 : Vec F S25x512x768 .bf16) (x1 : Vec F S25x512x384 .bf16) (x2 : Vec F S16x416x512 .f32) (x3 : Vec F S1x384 .f32) (x4 : Vec F S1x384 .f32) (x5 : Vec F S384x1536 .bf16) (x6 : Vec F S1x768 .f32) (x7 : Vec F S384x1536 .bf16) (x8 : Vec F S1x768 .f32) (x9 : Vec F S384x1536 .bf16) (x10 : Vec F S2x768 .f32) (x11 : Vec F S3072x768 .fp8e4m3) (x12 : Vec F S4x16x48 .f32) (x13 : Vec F S16x48 .f32) (x14 : Vec F S768x768 .fp8e4m3) (x15 : Vec F S1x768 .f32) (x16 : Vec F S2x768x1536 .fp8e4m3) (x17 : Vec F S2x1536 .f32) (x18 : Vec F S1536x768 .fp8e4m3) (x19 : Vec F S1x768 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare (out0_20 x0 x1 x2 x3 x4 x5 x6 x7 x8 x9 x10 x11 x12 x13 x14 x15 x16 x17 x18 x19) ∗ owns (c : Thread nD τ) arg21 fullShare (out0_21 x0 x1 x2 x3 x4 x5 x6 x7 x8 x9 x10 x11 x12 x13 x14 x15 x16 x17 x18 x19) ∗ owns (c : Thread nD τ) arg22 fullShare (out0_22 x0 x1 x2 x3 x4 x5 x6 x7 x8 x9 x10 x11 x12 x13 x14 x15 x16 x17 x18 x19) ∗ owns (c : Thread nD τ) arg23 fullShare (out0_23 x0 x1 x2 x3 x4 x5 x6 x7 x8 x9 x10 x11 x12 x13 x14 x15 x16 x17 x18 x19) ∗ owns (c : Thread nD τ) arg24 fullShare (out0_24 x0 x1 x2 x3 x4 x5 x6 x7 x8 x9 x10 x11 x12 x13 x14 x15 x16 x17 x18 x19) ∗ owns (c : Thread nD τ) arg25 fullShare (out0_25 x0 x1 x2 x3 x4 x5 x6 x7 x8 x9 x10 x11 x12 x13 x14 x15 x16 x17 x18 x19) ∗ owns (c : Thread nD τ) arg26 fullShare (out0_26 x0 x1 x2 x3 x4 x5 x6 x7 x8 x9 x10 x11 x12 x13 x14 x15 x16 x17 x18 x19) ∗ owns (c : Thread nD τ) arg27 fullShare (out0_27 x0 x1 x2 x3 x4 x5 x6 x7 x8 x9 x10 x11 x12 x13 x14 x15 x16 x17 x18 x19) ∗ owns (c : Thread nD τ) arg28 fullShare (out0_28 x0 x1 x2 x3 x4 x5 x6 x7 x8 x9 x10 x11 x12 x13 x14 x15 x16 x17 x18 x19) ∗ owns (c : Thread nD τ) arg29 fullShare (out0_29 x0 x1 x2 x3 x4 x5 x6 x7 x8 x9 x10 x11 x12 x13 x14 x15 x16 x17 x18 x19) ∗ owns (c : Thread nD τ) arg30 fullShare (out0_30 x0 x1 x2 x3 x4 x5 x6 x7 x8 x9 x10 x11 x12 x13 x14 x15 x16 x17 x18 x19) ∗ owns (c : Thread nD τ) arg31 fullShare (out0_31 x0 x1 x2 x3 x4 x5 x6 x7 x8 x9 x10 x11 x12 x13 x14 x15 x16 x17 x18 x19) ∗ owns (c : Thread nD τ) arg32 fullShare (out0_32 x0 x1 x2 x3 x4 x5 x6 x7 x8 x9 x10 x11 x12 x13 x14 x15 x16 x17 x18 x19) ∗ owns (c : Thread nD τ) arg33 fullShare (out0_33 x0 x1 x2 x3 x4 x5 x6 x7 x8 x9 x10 x11 x12 x13 x14 x15 x16 x17 x18 x19) ∗ owns (c : Thread nD τ) arg34 fullShare (out0_34 x0 x1 x2 x3 x4 x5 x6 x7 x8 x9 x10 x11 x12 x13 x14 x15 x16 x17 x18 x19) ∗ owns (c : Thread nD τ) arg35 fullShare (out0_35 x0 x1 x2 x3 x4 x5 x6 x7 x8 x9 x10 x11 x12 x13 x14 x15 x16 x17 x18 x19)) -∗ K ⟨⟩))
      ⊢ wp frame (wpE (defs₀ (F := F)) Variants.none c none) E (cc0_reference arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35) K := by
  simp only [cc0_reference_eq_skeleton]; unfold cc0_reference_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, ⟨%d30, %f30, -, H30⟩, ⟨%d31, %f31, -, H31⟩, ⟨%d32, %f32, -, H32⟩, ⟨%d33, %f33, -, H33⟩, ⟨%d34, %f34, -, H34⟩, ⟨%d35, %f35, -, H35⟩, Hk⟩
  subst hf0 hf1 hf2 hf3 hf4 hf5 hf6 hf7 hf8 hf9 hf10 hf11 hf12 hf13 hf14 hf15 hf16 hf17 hf18 hf19
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists _; isplitr
    swap; · iexact H20
    ipureintro
    refine (View.read_writes_eq_canon _ _ _ (cover0_20 _)).trans ?_
    rfl
  isplitl [H21]
  · iexists _; isplitr
    swap; · iexact H21
    ipureintro
    refine (View.read_writes_eq_canon _ _ _ (cover0_21 _)).trans ?_
    rfl
  isplitl [H22]
  · iexists _; isplitr
    swap; · iexact H22
    ipureintro
    refine (View.read_writes_eq_canon _ _ _ (cover0_22 _)).trans ?_
    rfl
  isplitl [H23]
  · iexists _; isplitr
    swap; · iexact H23
    ipureintro
    refine (View.read_writes_eq_canon _ _ _ (cover0_23 _)).trans ?_
    rfl
  isplitl [H24]
  · iexists _; isplitr
    swap; · iexact H24
    ipureintro
    refine (View.read_writes_eq_canon _ _ _ (cover0_24 _)).trans ?_
    rfl
  isplitl [H25]
  · iexists _; isplitr
    swap; · iexact H25
    ipureintro
    refine (View.read_writes_eq_canon _ _ _ (cover0_25 _)).trans ?_
    rfl
  isplitl [H26]
  · iexists _; isplitr
    swap; · iexact H26
    ipureintro
    refine (View.read_writes_eq_canon _ _ _ (cover0_26 _)).trans ?_
    rfl
  isplitl [H27]
  · iexists _; isplitr
    swap; · iexact H27
    ipureintro
    refine (View.read_writes_eq_canon _ _ _ (cover0_27 _)).trans ?_
    rfl
  isplitl [H28]
  · iexists _; isplitr
    swap; · iexact H28
    ipureintro
    refine (View.read_writes_eq_canon _ _ _ (cover0_28 _)).trans ?_
    rfl
  isplitl [H29]
  · iexists _; isplitr
    swap; · iexact H29
    ipureintro
    refine (View.read_writes_eq_canon _ _ _ (cover0_29 _)).trans ?_
    rfl
  isplitl [H30]
  · iexists _; isplitr
    swap; · iexact H30
    ipureintro
    refine (View.read_writes_eq_canon _ _ _ (cover0_30 _)).trans ?_
    rfl
  isplitl [H31]
  · iexists _; isplitr
    swap; · iexact H31
    ipureintro
    refine (View.read_writes_eq_canon _ _ _ (cover0_31 _)).trans ?_
    rfl
  isplitl [H32]
  · iexists _; isplitr
    swap; · iexact H32
    ipureintro
    refine (View.read_writes_eq_canon _ _ _ (cover0_32 _)).trans ?_
    rfl
  isplitl [H33]
  · iexists _; isplitr
    swap; · iexact H33
    ipureintro
    refine (View.read_writes_eq_canon _ _ _ (cover0_33 _)).trans ?_
    rfl
  isplitl [H34]
  · iexists _; isplitr
    swap; · iexact H34
    ipureintro
    refine (View.read_writes_eq_canon _ _ _ (cover0_34 _)).trans ?_
    rfl
  iexists _; isplitr
  swap; · iexact H35
  ipureintro
  refine (View.read_writes_eq_canon _ _ _ (cover0_35 _)).trans ?_
  rfl

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    | ⟨21, _⟩ => out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    | ⟨22, _⟩ => out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    | ⟨23, _⟩ => out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    | ⟨24, _⟩ => out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    | ⟨25, _⟩ => out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    | ⟨26, _⟩ => out0_26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    | ⟨27, _⟩ => out0_27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    | ⟨28, _⟩ => out0_28 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    | ⟨29, _⟩ => out0_29 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    | ⟨30, _⟩ => out0_30 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    | ⟨31, _⟩ => out0_31 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    | ⟨32, _⟩ => out0_32 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    | ⟨33, _⟩ => out0_33 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    | ⟨34, _⟩ => out0_34 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    | ⟨35, _⟩ => out0_35 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    | ⟨_ + 36, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) := by dsimp only [dats]
theorem after0_21 (c : Dev nD) (t : Fin cfg0.N) : (dats m 0 c).after 21 t = out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) := by dsimp only [dats]
theorem after0_22 (c : Dev nD) (t : Fin cfg0.N) : (dats m 0 c).after 22 t = out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) := by dsimp only [dats]
theorem after0_23 (c : Dev nD) (t : Fin cfg0.N) : (dats m 0 c).after 23 t = out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) := by dsimp only [dats]
theorem after0_24 (c : Dev nD) (t : Fin cfg0.N) : (dats m 0 c).after 24 t = out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) := by dsimp only [dats]
theorem after0_25 (c : Dev nD) (t : Fin cfg0.N) : (dats m 0 c).after 25 t = out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) := by dsimp only [dats]
theorem after0_26 (c : Dev nD) (t : Fin cfg0.N) : (dats m 0 c).after 26 t = out0_26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) := by dsimp only [dats]
theorem after0_27 (c : Dev nD) (t : Fin cfg0.N) : (dats m 0 c).after 27 t = out0_27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) := by dsimp only [dats]
theorem after0_28 (c : Dev nD) (t : Fin cfg0.N) : (dats m 0 c).after 28 t = out0_28 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) := by dsimp only [dats]
theorem after0_29 (c : Dev nD) (t : Fin cfg0.N) : (dats m 0 c).after 29 t = out0_29 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) := by dsimp only [dats]
theorem after0_30 (c : Dev nD) (t : Fin cfg0.N) : (dats m 0 c).after 30 t = out0_30 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) := by dsimp only [dats]
theorem after0_31 (c : Dev nD) (t : Fin cfg0.N) : (dats m 0 c).after 31 t = out0_31 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) := by dsimp only [dats]
theorem after0_32 (c : Dev nD) (t : Fin cfg0.N) : (dats m 0 c).after 32 t = out0_32 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) := by dsimp only [dats]
theorem after0_33 (c : Dev nD) (t : Fin cfg0.N) : (dats m 0 c).after 33 t = out0_33 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) := by dsimp only [dats]
theorem after0_34 (c : Dev nD) (t : Fin cfg0.N) : (dats m 0 c).after 34 t = out0_34 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) := by dsimp only [dats]
theorem after0_35 (c : Dev nD) (t : Fin cfg0.N) : (dats m 0 c).after 35 t = out0_35 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d))
    ∗ (∃ d, owns (c : Thread nD τ) (st0_28 t) fullShare ((dats m 0 c).before 28 t d))
    ∗ (∃ d, owns (c : Thread nD τ) (st0_29 t) fullShare ((dats m 0 c).before 29 t d))
    ∗ (∃ d, owns (c : Thread nD τ) (st0_30 t) fullShare ((dats m 0 c).before 30 t d))
    ∗ (∃ d, owns (c : Thread nD τ) (st0_31 t) fullShare ((dats m 0 c).before 31 t d))
    ∗ (∃ d, owns (c : Thread nD τ) (st0_32 t) fullShare ((dats m 0 c).before 32 t d))
    ∗ (∃ d, owns (c : Thread nD τ) (st0_33 t) fullShare ((dats m 0 c).before 33 t d))
    ∗ (∃ d, owns (c : Thread nD τ) (st0_34 t) fullShare ((dats m 0 c).before 34 t d))
    ∗ (∃ d, owns (c : Thread nD τ) (st0_35 t) fullShare ((dats m 0 c).before 35 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t)
    ∗ owns (c : Thread nD τ) (st0_28 t) fullShare ((dats m 0 c).after 28 t)
    ∗ owns (c : Thread nD τ) (st0_29 t) fullShare ((dats m 0 c).after 29 t)
    ∗ owns (c : Thread nD τ) (st0_30 t) fullShare ((dats m 0 c).after 30 t)
    ∗ owns (c : Thread nD τ) (st0_31 t) fullShare ((dats m 0 c).after 31 t)
    ∗ owns (c : Thread nD τ) (st0_32 t) fullShare ((dats m 0 c).after 32 t)
    ∗ owns (c : Thread nD τ) (st0_33 t) fullShare ((dats m 0 c).after 33 t)
    ∗ owns (c : Thread nD τ) (st0_34 t) fullShare ((dats m 0 c).after 34 t)
    ∗ owns (c : Thread nD τ) (st0_35 t) fullShare ((dats m 0 c).after 35 t))

set_option maxHeartbeats 20000000 in
/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29, after0_30, after0_31, after0_32, after0_33, after0_34, after0_35]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩⟩
  iapply (sound_kernel c Set.univ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  isplitl [H28]; · iexists _; iexact H28
  isplitl [H29]; · iexists _; iexact H29
  isplitl [H30]; · iexists _; iexact H30
  isplitl [H31]; · iexists _; iexact H31
  isplitl [H32]; · iexists _; iexact H32
  isplitl [H33]; · iexists _; iexact H33
  isplitl [H34]; · iexists _; iexact H34
  isplitl [H35]; · iexists _; iexact H35
  iintro ⟨H0, H1, H2, H3, H4, H5, H6, H7, H8, H9, H10, H11, H12, H13, H14, H15, H16, H17, H18, H19, H20, H21, H22, H23, H24, H25, H26, H27, H28, H29, H30, H31, H32, H33, H34, H35⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  iexact H35

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 20000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  frame_of m ρ (dats m) (A_eq m) (run_main m ρ)

/-- THE FRAME: `Cert.quiescent_ReferenceIdeal`'s statement (Defs.lean) at any `F` — Proof.lean cites it at `Bits`:
    `theorem Cert.Proof.claim : Cert.Claim := ⟨Cert.ReferenceIdeal.Gen.facts, fun m ρ _ => Cert.ReferenceIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19))
      ∧ r.2.sem = fun _ => 0) :=
  θ_run_and (unchanged m ρ) ((θ_run defs _ _).mono (fun _ h => h.2) (run_main_quiescent m ρ))

end Cert.ReferenceIdeal.Gen

end
-- ==== Proof.KFinal.lean ====
/- The result arrays of the idealized kernel after a run. -/
module

public import proofs.«01_k».proof.Proof.KRun
public import Idealize.ShloMosaic.Lib.Pipeline.ArrRel

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Idealize.ShloMosaic.Rounds
open Idealize.ShloMosaic.Pipeline (Dat RDat Cfg Window cellOf)
open Cert.Spec

variable (m : (ℓ : Loc nD τ sig) → Buf (Elt Ideal) ℓ)

theorem idx_20 : ∀ t : Fin cfg0.N, win0_20.index t = ![t.val, 0, 0] := by decide +kernel
theorem idx_21 : ∀ t : Fin cfg0.N, win0_21.index t = ![t.val, 0, 0] := by decide +kernel
theorem idx_22 : ∀ t : Fin cfg0.N, win0_22.index t = ![t.val, 0, 0] := by decide +kernel
theorem idx_24 : ∀ t : Fin cfg0.N, win0_24.index t = ![t.val, 0, 0, 0] := by decide +kernel
theorem idx_25 : ∀ t : Fin cfg0.N, win0_25.index t = ![t.val, 0, 0] := by decide +kernel
theorem idx_26 : ∀ t : Fin cfg0.N, win0_26.index t = ![t.val, 0, 0, 0] := by decide +kernel
theorem idx_27 : ∀ t : Fin cfg0.N, win0_27.index t = ![t.val, 0, 0] := by decide +kernel
theorem idx_28 : ∀ t : Fin cfg0.N, win0_28.index t = ![t.val, 0, 0, 0] := by decide +kernel
theorem idx_29 : ∀ t : Fin cfg0.N, win0_29.index t = ![t.val, 0, 0] := by decide +kernel
theorem idx_30 : ∀ t : Fin cfg0.N, win0_30.index t = ![t.val, 0, 0, 0] := by decide +kernel
theorem idx_32 : ∀ t : Fin cfg0.N, win0_32.index t = ![t.val, 0, 0] := by decide +kernel
theorem idx_34 : ∀ t : Fin cfg0.N, win0_34.index t = ![t.val, 0, 0] := by decide +kernel

theorem arr_20 (c : Dev nD) : (dats m c).arrAt 20 cfg0.N = (all3 fun b => (kA m c b).y) := by
  refine (dats m c).arrAt_eq_of_covers 20 _ (by decide +kernel) (fun t hf y => ?_)
  blk_simp
  rw [after_20]
  have e : ((View.whole main_v4_0).slice (win0_20.rect t)).emb y = ix3 (bt t) (y 1) (y 2) := by blk_ext [idx_20 t, bt]
  rw [e]
  rfl

theorem arr_21 (c : Dev nD) : (dats m c).arrAt 21 cfg0.N = (all3 fun b => (kA m c b).a1) := by
  refine (dats m c).arrAt_eq_of_covers 21 _ (by decide +kernel) (fun t hf y => ?_)
  blk_simp
  rw [after_21]
  have e : ((View.whole main_v4_1).slice (win0_21.rect t)).emb y = ix3 (bt t) (y 1) (y 2) := by blk_ext [idx_21 t, bt]
  rw [e]
  rfl

theorem arr_22 (c : Dev nD) : (dats m c).arrAt 22 cfg0.N = (all3 fun b => (kA m c b).x1c) := by
  refine (dats m c).arrAt_eq_of_covers 22 _ (by decide +kernel) (fun t hf y => ?_)
  blk_simp
  rw [after_22]
  have e : ((View.whole main_v4_2).slice (win0_22.rect t)).emb y = ix3 (bt t) (y 1) (y 2) := by blk_ext [idx_22 t, bt]
  rw [e]
  rfl

theorem arr_24 (c : Dev nD) : (dats m c).arrAt 24 cfg0.N = (all4 fun b => (kA m c b).qc) := by
  refine (dats m c).arrAt_eq_of_covers 24 _ (by decide +kernel) (fun t hf y => ?_)
  blk_simp
  rw [after_24]
  have e : ((View.whole main_v4_4).slice (win0_24.rect t)).emb y = ix4 (bt t) (y 1) (y 2) (y 3) := by blk_ext [idx_24 t, bt]
  rw [e]
  rfl

theorem arr_25 (c : Dev nD) : (dats m c).arrAt 25 cfg0.N = (all3 fun b => (kA m c b).qs) := by
  refine (dats m c).arrAt_eq_of_covers 25 _ (by decide +kernel) (fun t hf y => ?_)
  blk_simp
  rw [after_25]
  have e : ((View.whole main_v4_5).slice (win0_25.rect t)).emb y = ix3 (bt t) (y 1) (y 2) := by blk_ext [idx_25 t, bt]
  rw [e]
  rfl

theorem arr_26 (c : Dev nD) : (dats m c).arrAt 26 cfg0.N = (all4 fun b => (kA m c b).kc) := by
  refine (dats m c).arrAt_eq_of_covers 26 _ (by decide +kernel) (fun t hf y => ?_)
  blk_simp
  rw [after_26]
  have e : ((View.whole main_v4_6).slice (win0_26.rect t)).emb y = ix4 (bt t) (y 1) (y 2) (y 3) := by blk_ext [idx_26 t, bt]
  rw [e]
  rfl

theorem arr_27 (c : Dev nD) : (dats m c).arrAt 27 cfg0.N = (all3 fun b => (kA m c b).ks) := by
  refine (dats m c).arrAt_eq_of_covers 27 _ (by decide +kernel) (fun t hf y => ?_)
  blk_simp
  rw [after_27]
  have e : ((View.whole main_v4_7).slice (win0_27.rect t)).emb y = ix3 (bt t) (y 1) (y 2) := by blk_ext [idx_27 t, bt]
  rw [e]
  rfl

theorem arr_28 (c : Dev nD) : (dats m c).arrAt 28 cfg0.N = (all4 fun b => (kA m c b).vc) := by
  refine (dats m c).arrAt_eq_of_covers 28 _ (by decide +kernel) (fun t hf y => ?_)
  blk_simp
  rw [after_28]
  have e : ((View.whole main_v4_8).slice (win0_28.rect t)).emb y = ix4 (bt t) (y 1) (y 2) (y 3) := by blk_ext [idx_28 t, bt]
  rw [e]
  rfl

theorem arr_29 (c : Dev nD) : (dats m c).arrAt 29 cfg0.N = (all3 fun b => (kA m c b).vs) := by
  refine (dats m c).arrAt_eq_of_covers 29 _ (by decide +kernel) (fun t hf y => ?_)
  blk_simp
  rw [after_29]
  have e : ((View.whole main_v4_9).slice (win0_29.rect t)).emb y = ix3 (bt t) (y 1) (y 2) := by blk_ext [idx_29 t, bt]
  rw [e]
  rfl

theorem arr_30 (c : Dev nD) : (dats m c).arrAt 30 cfg0.N = (all4 fun b => (fun h r n => (kA m c b).ogc (hrow h r) n)) := by
  refine (dats m c).arrAt_eq_of_covers 30 _ (by decide +kernel) (fun t hf y => ?_)
  blk_simp
  rw [after_30]
  have e : ((View.whole main_v4_10).slice (win0_30.rect t)).emb y = ix4 (bt t) (y 1) (y 2) (y 3) := by blk_ext [idx_30 t, bt]
  rw [e]
  rfl

theorem arr_32 (c : Dev nD) : (dats m c).arrAt 32 cfg0.N = (all3 fun b => (kA m c b).x2c) := by
  refine (dats m c).arrAt_eq_of_covers 32 _ (by decide +kernel) (fun t hf y => ?_)
  blk_simp
  rw [after_32]
  have e : ((View.whole main_v4_12).slice (win0_32.rect t)).emb y = ix3 (bt t) (y 1) (y 2) := by blk_ext [idx_32 t, bt]
  rw [e]
  rfl

theorem arr_34 (c : Dev nD) : (dats m c).arrAt 34 cfg0.N = (all3 fun b => (kA m c b).hc) := by
  refine (dats m c).arrAt_eq_of_covers 34 _ (by decide +kernel) (fun t hf y => ?_)
  blk_simp
  rw [after_34]
  have e : ((View.whole main_v4_14).slice (win0_34.rect t)).emb y = ix3 (bt t) (y 1) (y 2) := by blk_ext [idx_34 t, bt]
  rw [e]
  rfl

/-- Row `t` of the table is the row put there, every other row the earlier table's. -/
theorem put_row {A B : ℕ} (Y : (⟨2, ![A, B]⟩ : Shape).Idx → EReal) (f : Fin B → EReal) (t : ℕ) (n : Fin A) (l : Fin B) :
    VecWindow.put (s := ⟨2, ![A, B]⟩) Y ![t, 0] ![1, B] (row2 f) (ix2 n l) = if n.val = t then f l else Y (ix2 n l) := by
  by_cases h : n.val = t
  · rw [if_pos h]
    have hm : ∀ x, (![t, 0] : Fin 2 → ℕ) x ≤ (ix2 n l x).val ∧ (ix2 n l x).val < (![t, 0] : Fin 2 → ℕ) x + (![1, B] : Fin 2 → ℕ) x := by
      intro x; fin_cases x
      · exact ⟨h.ge, h.trans_lt (Nat.lt_succ_self t)⟩
      · exact ⟨Nat.zero_le _, (Nat.zero_add B).symm ▸ l.isLt⟩
    refine (dif_pos hm).trans ?_
    rfl
  · rw [if_neg h]
    exact dif_neg fun hm => h (Nat.le_antisymm (Nat.lt_succ_iff.mp (hm 0).2) (hm 0).1)

/-- A table whose rows are put one after the other, row `t` at step `t`, holds them all after the last. -/
theorem rows_of {N A B : ℕ} (L : Fin N → ((⟨2, ![A, B]⟩ : Shape).Idx → EReal) → Prop) (f : Fin A → Fin B → EReal) (g : Fin N → Fin A) (hg : ∀ t, (g t).val = t.val)
    (step : ∀ t X, L t X → ∃ Y, (∀ ht : t.val ≠ 0, L ⟨t.val - 1, by omega⟩ Y)
      ∧ X = VecWindow.put (s := ⟨2, ![A, B]⟩) Y ![t.val, 0] ![1, B] (row2 (f (g t)))) :
    ∀ k (hk : k < N) X, L ⟨k, hk⟩ X → ∀ n : Fin A, n.val ≤ k → ∀ l, X (ix2 n l) = f n l := by
  intro k
  induction k with
  | zero =>
    intro hk X h n hn l
    obtain ⟨Y, -, rfl⟩ := step _ X h
    rw [put_row, if_pos (Nat.le_zero.mp hn)]
    exact congrArg (fun z => f z l) (Fin.ext ((hg _).trans (Nat.le_zero.mp hn).symm))
  | succ k ih =>
    intro hk X h n hn l
    obtain ⟨Y, hY, rfl⟩ := step _ X h
    rw [put_row]
    by_cases e : n.val = k + 1
    · rw [if_pos e]
      exact congrArg (fun z => f z l) (Fin.ext ((hg _).trans e.symm))
    · rw [if_neg e]
      exact ih (by omega) Y (hY (Nat.succ_ne_zero k)) n (by omega) l

theorem off1_eq : ∀ t : Fin cfg0.N, k0_off1 (grid0.coords t) = ![t.val, 0] := by decide +kernel

theorem arr_23 (c : Dev nD) (G) (hG : (rdat m c).ArrAt 23 cfg0.N G) : G = (all2 fun b => (kA m c b).x1s : (⟨2, ![25, 512]⟩ : Shape).Idx → EReal) := by
  obtain ⟨X, hX, hj⟩ := RDat.ArrAt.emb_eq_of_wholeAt hG (t₀ := (⟨24, by decide⟩ : Fin cfg0.N)) (by decide +kernel)
  have hr := rows_of (fun t X => (rdat m c).Leaves 23 t X) (fun b => (kA m c b).x1s) bt (fun _ => rfl) (fun t X h => by
    obtain ⟨Y, hY, ha⟩ := h
    refine ⟨Y, fun ht => ?_, ?_⟩
    · have hf : (cfg0.win 23).fetch t = false := (by decide +kernel : ∀ t : Fin cfg0.N, (cfg0.win 23).fetch t = false) t
      refine ((RDat.finds_of_pos (rd := rdat m c) hf ht Y).mp hY).resolve_left ?_
      have hl : (cfg0.win 23).flush ⟨t.val - 1, Nat.lt_of_le_of_lt (Nat.sub_le _ _) t.isLt⟩ = false :=
        (by decide +kernel : ∀ t : Fin cfg0.N, t.val ≠ 24 → (cfg0.win 23).flush t = false) _
          (by have h1 : t.val < 25 := t.isLt.trans_eq (by decide); show t.val - 1 ≠ 24; omega)
      rw [hl]; exact Bool.false_ne_true
    · unfold rdat at ha
      rw [RDat.override_after_of_eq_some (dats m c).toR (ovr := ovr m c) (w := 23) rfl] at ha
      have hx : X = VecWindow.put (s := S25x512) Y (k0_off1 (grid0.coords t)) S1x512.size (row2 (kA m c (bt t)).x1s) := ha
      rw [off1_eq] at hx
      exact hx) 24 (by decide) X hX
  funext i
  have e : i = ix2 (i 0) (i 1) := eta2 i
  have h2 := hj i
  refine Eq.trans (b := X (ix2 (i 0) (i 1))) ?_ (hr (i 0) (Nat.lt_succ_iff.mp (i 0).isLt) (i 1))
  refine Eq.trans ?_ (h2.trans ?_)
  · rfl
  · exact congrArg X (by funext a; fin_cases a <;> rfl)

theorem arr_31 (c : Dev nD) (G) (hG : (rdat m c).ArrAt 31 cfg0.N G) : G = (all2 fun b => (kA m c b).ogs : (⟨2, ![25, 512]⟩ : Shape).Idx → EReal) := by
  obtain ⟨X, hX, hj⟩ := RDat.ArrAt.emb_eq_of_wholeAt hG (t₀ := (⟨24, by decide⟩ : Fin cfg0.N)) (by decide +kernel)
  have hr := rows_of (fun t X => (rdat m c).Leaves 31 t X) (fun b => (kA m c b).ogs) bt (fun _ => rfl) (fun t X h => by
    obtain ⟨Y, hY, ha⟩ := h
    refine ⟨Y, fun ht => ?_, ?_⟩
    · have hf : (cfg0.win 31).fetch t = false := (by decide +kernel : ∀ t : Fin cfg0.N, (cfg0.win 31).fetch t = false) t
      refine ((RDat.finds_of_pos (rd := rdat m c) hf ht Y).mp hY).resolve_left ?_
      have hl : (cfg0.win 31).flush ⟨t.val - 1, Nat.lt_of_le_of_lt (Nat.sub_le _ _) t.isLt⟩ = false :=
        (by decide +kernel : ∀ t : Fin cfg0.N, t.val ≠ 24 → (cfg0.win 31).flush t = false) _
          (by have h1 : t.val < 25 := t.isLt.trans_eq (by decide); show t.val - 1 ≠ 24; omega)
      rw [hl]; exact Bool.false_ne_true
    · unfold rdat at ha
      rw [RDat.override_after_of_eq_some (dats m c).toR (ovr := ovr m c) (w := 31) rfl] at ha
      have hx : X = VecWindow.put (s := S25x512) Y (k0_off1 (grid0.coords t)) S1x512.size (row2 (kA m c (bt t)).ogs) := ha
      rw [off1_eq] at hx
      exact hx) 24 (by decide) X hX
  funext i
  have e : i = ix2 (i 0) (i 1) := eta2 i
  have h2 := hj i
  refine Eq.trans (b := X (ix2 (i 0) (i 1))) ?_ (hr (i 0) (Nat.lt_succ_iff.mp (i 0).isLt) (i 1))
  refine Eq.trans ?_ (h2.trans ?_)
  · rfl
  · exact congrArg X (by funext a; fin_cases a <;> rfl)

theorem arr_33 (c : Dev nD) (G) (hG : (rdat m c).ArrAt 33 cfg0.N G) : G = (all2 fun b => (kA m c b).x2s : (⟨2, ![25, 512]⟩ : Shape).Idx → EReal) := by
  obtain ⟨X, hX, hj⟩ := RDat.ArrAt.emb_eq_of_wholeAt hG (t₀ := (⟨24, by decide⟩ : Fin cfg0.N)) (by decide +kernel)
  have hr := rows_of (fun t X => (rdat m c).Leaves 33 t X) (fun b => (kA m c b).x2s) bt (fun _ => rfl) (fun t X h => by
    obtain ⟨Y, hY, ha⟩ := h
    refine ⟨Y, fun ht => ?_, ?_⟩
    · have hf : (cfg0.win 33).fetch t = false := (by decide +kernel : ∀ t : Fin cfg0.N, (cfg0.win 33).fetch t = false) t
      refine ((RDat.finds_of_pos (rd := rdat m c) hf ht Y).mp hY).resolve_left ?_
      have hl : (cfg0.win 33).flush ⟨t.val - 1, Nat.lt_of_le_of_lt (Nat.sub_le _ _) t.isLt⟩ = false :=
        (by decide +kernel : ∀ t : Fin cfg0.N, t.val ≠ 24 → (cfg0.win 33).flush t = false) _
          (by have h1 : t.val < 25 := t.isLt.trans_eq (by decide); show t.val - 1 ≠ 24; omega)
      rw [hl]; exact Bool.false_ne_true
    · unfold rdat at ha
      rw [RDat.override_after_of_eq_some (dats m c).toR (ovr := ovr m c) (w := 33) rfl] at ha
      have hx : X = VecWindow.put (s := S25x512) Y (k0_off1 (grid0.coords t)) S1x512.size (row2 (kA m c (bt t)).x2s) := ha
      rw [off1_eq] at hx
      exact hx) 24 (by decide) X hX
  funext i
  have e : i = ix2 (i 0) (i 1) := eta2 i
  have h2 := hj i
  refine Eq.trans (b := X (ix2 (i 0) (i 1))) ?_ (hr (i 0) (Nat.lt_succ_iff.mp (i 0).isLt) (i 1))
  refine Eq.trans ?_ (h2.trans ?_)
  · rfl
  · exact congrArg X (by funext a; fin_cases a <;> rfl)

theorem arr_35 (c : Dev nD) (G) (hG : (rdat m c).ArrAt 35 cfg0.N G) : G = (all2 fun b => (kA m c b).hs : (⟨2, ![25, 512]⟩ : Shape).Idx → EReal) := by
  obtain ⟨X, hX, hj⟩ := RDat.ArrAt.emb_eq_of_wholeAt hG (t₀ := (⟨24, by decide⟩ : Fin cfg0.N)) (by decide +kernel)
  have hr := rows_of (fun t X => (rdat m c).Leaves 35 t X) (fun b => (kA m c b).hs) bt (fun _ => rfl) (fun t X h => by
    obtain ⟨Y, hY, ha⟩ := h
    refine ⟨Y, fun ht => ?_, ?_⟩
    · have hf : (cfg0.win 35).fetch t = false := (by decide +kernel : ∀ t : Fin cfg0.N, (cfg0.win 35).fetch t = false) t
      refine ((RDat.finds_of_pos (rd := rdat m c) hf ht Y).mp hY).resolve_left ?_
      have hl : (cfg0.win 35).flush ⟨t.val - 1, Nat.lt_of_le_of_lt (Nat.sub_le _ _) t.isLt⟩ = false :=
        (by decide +kernel : ∀ t : Fin cfg0.N, t.val ≠ 24 → (cfg0.win 35).flush t = false) _
          (by have h1 : t.val < 25 := t.isLt.trans_eq (by decide); show t.val - 1 ≠ 24; omega)
      rw [hl]; exact Bool.false_ne_true
    · unfold rdat at ha
      rw [RDat.override_after_of_eq_some (dats m c).toR (ovr := ovr m c) (w := 35) rfl] at ha
      have hx : X = VecWindow.put (s := S25x512) Y (k0_off1 (grid0.coords t)) S1x512.size (row2 (kA m c (bt t)).hs) := ha
      rw [off1_eq] at hx
      exact hx) 24 (by decide) X hX
  funext i
  have e : i = ix2 (i 0) (i 1) := eta2 i
  have h2 := hj i
  refine Eq.trans (b := X (ix2 (i 0) (i 1))) ?_ (hr (i 0) (Nat.lt_succ_iff.mp (i 0).isLt) (i 1))
  refine Eq.trans ?_ (h2.trans ?_)
  · rfl
  · exact congrArg X (by funext a; fin_cases a <;> rfl)

end Cert.KernelIdeal.Hand

end
-- ==== Proof.RefValue.lean ====
/- What the reference leaves in each result array, as a function of the argument arrays. -/
module

public import proofs.«01_k».proof.Proof.RefFrame
public import Idealize.ShloMosaic.Lib.Pipeline.Value
public import Idealize.ShloMosaic.Lib.Pipeline.ValueKit.Point

@[expose] public section

noncomputable section

namespace Cert.ReferenceIdeal.Value

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! The argument arrays as launched. -/
abbrev I0 (c : Dev nD) := m ((c : Thread nD τ).loc main_arg0)
abbrev I1 (c : Dev nD) := m ((c : Thread nD τ).loc main_arg1)
abbrev I2 (c : Dev nD) := m ((c : Thread nD τ).loc main_arg2)
abbrev I3 (c : Dev nD) := m ((c : Thread nD τ).loc main_arg3)
abbrev I4 (c : Dev nD) := m ((c : Thread nD τ).loc main_arg4)
abbrev I5 (c : Dev nD) := m ((c : Thread nD τ).loc main_arg5)
abbrev I6 (c : Dev nD) := m ((c : Thread nD τ).loc main_arg6)
abbrev I7 (c : Dev nD) := m ((c : Thread nD τ).loc main_arg7)
abbrev I8 (c : Dev nD) := m ((c : Thread nD τ).loc main_arg8)
abbrev I9 (c : Dev nD) := m ((c : Thread nD τ).loc main_arg9)
abbrev I10 (c : Dev nD) := m ((c : Thread nD τ).loc main_arg10)
abbrev I11 (c : Dev nD) := m ((c : Thread nD τ).loc main_arg11)
abbrev I12 (c : Dev nD) := m ((c : Thread nD τ).loc main_arg12)
abbrev I13 (c : Dev nD) := m ((c : Thread nD τ).loc main_arg13)
abbrev I14 (c : Dev nD) := m ((c : Thread nD τ).loc main_arg14)
abbrev I15 (c : Dev nD) := m ((c : Thread nD τ).loc main_arg15)
abbrev I16 (c : Dev nD) := m ((c : Thread nD τ).loc main_arg16)
abbrev I17 (c : Dev nD) := m ((c : Thread nD τ).loc main_arg17)
abbrev I18 (c : Dev nD) := m ((c : Thread nD τ).loc main_arg18)
abbrev I19 (c : Dev nD) := m ((c : Thread nD τ).loc main_arg19)

/-! ## Closed form at one grid point: every window's block is its array -/

theorem hz0 : (![0, 0, 0] : Fin 3 → Nat) = fun _ => 0 := funext fun a => by fin_cases a <;> rfl
theorem idx0 : ∀ t : Fin cfg0.N, win0_0.index t = ![0, 0, 0] := by decide +kernel
theorem emb0 (t : Fin cfg0.N) (j : S25x512x768.Idx) : ((cfg0.win 0).blk t).view.emb j = j := by
  show ((View.whole main_arg0).slice (win0_0.rect t)).emb j = j
  blk_ext [idx0 t]
theorem iblk0_eq (c : Dev nD) (t : Fin cfg0.N) : iblk m c 0 t = V m c main_arg0 := by
  funext j; show V m c main_arg0 (((cfg0.win 0).blk t).view.emb j) = V m c main_arg0 j; rw [emb0]
theorem hz1 : (![0, 0, 0] : Fin 3 → Nat) = fun _ => 0 := funext fun a => by fin_cases a <;> rfl
theorem idx1 : ∀ t : Fin cfg0.N, win0_1.index t = ![0, 0, 0] := by decide +kernel
theorem emb1 (t : Fin cfg0.N) (j : S25x512x384.Idx) : ((cfg0.win 1).blk t).view.emb j = j := by
  show ((View.whole main_arg1).slice (win0_1.rect t)).emb j = j
  blk_ext [idx1 t]
theorem iblk1_eq (c : Dev nD) (t : Fin cfg0.N) : iblk m c 1 t = V m c main_arg1 := by
  funext j; show V m c main_arg1 (((cfg0.win 1).blk t).view.emb j) = V m c main_arg1 j; rw [emb1]
theorem hz2 : (![0, 0, 0] : Fin 3 → Nat) = fun _ => 0 := funext fun a => by fin_cases a <;> rfl
theorem idx2 : ∀ t : Fin cfg0.N, win0_2.index t = ![0, 0, 0] := by decide +kernel
theorem emb2 (t : Fin cfg0.N) (j : S16x416x512.Idx) : ((cfg0.win 2).blk t).view.emb j = j := by
  show ((View.whole main_arg2).slice (win0_2.rect t)).emb j = j
  blk_ext [idx2 t]
theorem iblk2_eq (c : Dev nD) (t : Fin cfg0.N) : iblk m c 2 t = V m c main_arg2 := by
  funext j; show V m c main_arg2 (((cfg0.win 2).blk t).view.emb j) = V m c main_arg2 j; rw [emb2]
theorem hz3 : (![0, 0] : Fin 2 → Nat) = fun _ => 0 := funext fun a => by fin_cases a <;> rfl
theorem idx3 : ∀ t : Fin cfg0.N, win0_3.index t = ![0, 0] := by decide +kernel
theorem emb3 (t : Fin cfg0.N) (j : S1x384.Idx) : ((cfg0.win 3).blk t).view.emb j = j := by
  show ((View.whole main_arg3).slice (win0_3.rect t)).emb j = j
  blk_ext [idx3 t]
theorem iblk3_eq (c : Dev nD) (t : Fin cfg0.N) : iblk m c 3 t = V m c main_arg3 := by
  funext j; show V m c main_arg3 (((cfg0.win 3).blk t).view.emb j) = V m c main_arg3 j; rw [emb3]
theorem hz4 : (![0, 0] : Fin 2 → Nat) = fun _ => 0 := funext fun a => by fin_cases a <;> rfl
theorem idx4 : ∀ t : Fin cfg0.N, win0_4.index t = ![0, 0] := by decide +kernel
theorem emb4 (t : Fin cfg0.N) (j : S1x384.Idx) : ((cfg0.win 4).blk t).view.emb j = j := by
  show ((View.whole main_arg4).slice (win0_4.rect t)).emb j = j
  blk_ext [idx4 t]
theorem iblk4_eq (c : Dev nD) (t : Fin cfg0.N) : iblk m c 4 t = V m c main_arg4 := by
  funext j; show V m c main_arg4 (((cfg0.win 4).blk t).view.emb j) = V m c main_arg4 j; rw [emb4]
theorem hz5 : (![0, 0] : Fin 2 → Nat) = fun _ => 0 := funext fun a => by fin_cases a <;> rfl
theorem idx5 : ∀ t : Fin cfg0.N, win0_5.index t = ![0, 0] := by decide +kernel
theorem emb5 (t : Fin cfg0.N) (j : S384x1536.Idx) : ((cfg0.win 5).blk t).view.emb j = j := by
  show ((View.whole main_arg5).slice (win0_5.rect t)).emb j = j
  blk_ext [idx5 t]
theorem iblk5_eq (c : Dev nD) (t : Fin cfg0.N) : iblk m c 5 t = V m c main_arg5 := by
  funext j; show V m c main_arg5 (((cfg0.win 5).blk t).view.emb j) = V m c main_arg5 j; rw [emb5]
theorem hz6 : (![0, 0] : Fin 2 → Nat) = fun _ => 0 := funext fun a => by fin_cases a <;> rfl
theorem idx6 : ∀ t : Fin cfg0.N, win0_6.index t = ![0, 0] := by decide +kernel
theorem emb6 (t : Fin cfg0.N) (j : S1x768.Idx) : ((cfg0.win 6).blk t).view.emb j = j := by
  show ((View.whole main_arg6).slice (win0_6.rect t)).emb j = j
  blk_ext [idx6 t]
theorem iblk6_eq (c : Dev nD) (t : Fin cfg0.N) : iblk m c 6 t = V m c main_arg6 := by
  funext j; show V m c main_arg6 (((cfg0.win 6).blk t).view.emb j) = V m c main_arg6 j; rw [emb6]
theorem hz7 : (![0, 0] : Fin 2 → Nat) = fun _ => 0 := funext fun a => by fin_cases a <;> rfl
theorem idx7 : ∀ t : Fin cfg0.N, win0_7.index t = ![0, 0] := by decide +kernel
theorem emb7 (t : Fin cfg0.N) (j : S384x1536.Idx) : ((cfg0.win 7).blk t).view.emb j = j := by
  show ((View.whole main_arg7).slice (win0_7.rect t)).emb j = j
  blk_ext [idx7 t]
theorem iblk7_eq (c : Dev nD) (t : Fin cfg0.N) : iblk m c 7 t = V m c main_arg7 := by
  funext j; show V m c main_arg7 (((cfg0.win 7).blk t).view.emb j) = V m c main_arg7 j; rw [emb7]
theorem hz8 : (![0, 0] : Fin 2 → Nat) = fun _ => 0 := funext fun a => by fin_cases a <;> rfl
theorem idx8 : ∀ t : Fin cfg0.N, win0_8.index t = ![0, 0] := by decide +kernel
theorem emb8 (t : Fin cfg0.N) (j : S1x768.Idx) : ((cfg0.win 8).blk t).view.emb j = j := by
  show ((View.whole main_arg8).slice (win0_8.rect t)).emb j = j
  blk_ext [idx8 t]
theorem iblk8_eq (c : Dev nD) (t : Fin cfg0.N) : iblk m c 8 t = V m c main_arg8 := by
  funext j; show V m c main_arg8 (((cfg0.win 8).blk t).view.emb j) = V m c main_arg8 j; rw [emb8]
theorem hz9 : (![0, 0] : Fin 2 → Nat) = fun _ => 0 := funext fun a => by fin_cases a <;> rfl
theorem idx9 : ∀ t : Fin cfg0.N, win0_9.index t = ![0, 0] := by decide +kernel
theorem emb9 (t : Fin cfg0.N) (j : S384x1536.Idx) : ((cfg0.win 9).blk t).view.emb j = j := by
  show ((View.whole main_arg9).slice (win0_9.rect t)).emb j = j
  blk_ext [idx9 t]
theorem iblk9_eq (c : Dev nD) (t : Fin cfg0.N) : iblk m c 9 t = V m c main_arg9 := by
  funext j; show V m c main_arg9 (((cfg0.win 9).blk t).view.emb j) = V m c main_arg9 j; rw [emb9]
theorem hz10 : (![0, 0] : Fin 2 → Nat) = fun _ => 0 := funext fun a => by fin_cases a <;> rfl
theorem idx10 : ∀ t : Fin cfg0.N, win0_10.index t = ![0, 0] := by decide +kernel
theorem emb10 (t : Fin cfg0.N) (j : S2x768.Idx) : ((cfg0.win 10).blk t).view.emb j = j := by
  show ((View.whole main_arg10).slice (win0_10.rect t)).emb j = j
  blk_ext [idx10 t]
theorem iblk10_eq (c : Dev nD) (t : Fin cfg0.N) : iblk m c 10 t = V m c main_arg10 := by
  funext j; show V m c main_arg10 (((cfg0.win 10).blk t).view.emb j) = V m c main_arg10 j; rw [emb10]
theorem hz11 : (![0, 0] : Fin 2 → Nat) = fun _ => 0 := funext fun a => by fin_cases a <;> rfl
theorem idx11 : ∀ t : Fin cfg0.N, win0_11.index t = ![0, 0] := by decide +kernel
theorem emb11 (t : Fin cfg0.N) (j : S3072x768.Idx) : ((cfg0.win 11).blk t).view.emb j = j := by
  show ((View.whole main_arg11).slice (win0_11.rect t)).emb j = j
  blk_ext [idx11 t]
theorem iblk11_eq (c : Dev nD) (t : Fin cfg0.N) : iblk m c 11 t = V m c main_arg11 := by
  funext j; show V m c main_arg11 (((cfg0.win 11).blk t).view.emb j) = V m c main_arg11 j; rw [emb11]
theorem hz12 : (![0, 0, 0] : Fin 3 → Nat) = fun _ => 0 := funext fun a => by fin_cases a <;> rfl
theorem idx12 : ∀ t : Fin cfg0.N, win0_12.index t = ![0, 0, 0] := by decide +kernel
theorem emb12 (t : Fin cfg0.N) (j : S4x16x48.Idx) : ((cfg0.win 12).blk t).view.emb j = j := by
  show ((View.whole main_arg12).slice (win0_12.rect t)).emb j = j
  blk_ext [idx12 t]
theorem iblk12_eq (c : Dev nD) (t : Fin cfg0.N) : iblk m c 12 t = V m c main_arg12 := by
  funext j; show V m c main_arg12 (((cfg0.win 12).blk t).view.emb j) = V m c main_arg12 j; rw [emb12]
theorem hz13 : (![0, 0] : Fin 2 → Nat) = fun _ => 0 := funext fun a => by fin_cases a <;> rfl
theorem idx13 : ∀ t : Fin cfg0.N, win0_13.index t = ![0, 0] := by decide +kernel
theorem emb13 (t : Fin cfg0.N) (j : S16x48.Idx) : ((cfg0.win 13).blk t).view.emb j = j := by
  show ((View.whole main_arg13).slice (win0_13.rect t)).emb j = j
  blk_ext [idx13 t]
theorem iblk13_eq (c : Dev nD) (t : Fin cfg0.N) : iblk m c 13 t = V m c main_arg13 := by
  funext j; show V m c main_arg13 (((cfg0.win 13).blk t).view.emb j) = V m c main_arg13 j; rw [emb13]
theorem hz14 : (![0, 0] : Fin 2 → Nat) = fun _ => 0 := funext fun a => by fin_cases a <;> rfl
theorem idx14 : ∀ t : Fin cfg0.N, win0_14.index t = ![0, 0] := by decide +kernel
theorem emb14 (t : Fin cfg0.N) (j : S768x768.Idx) : ((cfg0.win 14).blk t).view.emb j = j := by
  show ((View.whole main_arg14).slice (win0_14.rect t)).emb j = j
  blk_ext [idx14 t]
theorem iblk14_eq (c : Dev nD) (t : Fin cfg0.N) : iblk m c 14 t = V m c main_arg14 := by
  funext j; show V m c main_arg14 (((cfg0.win 14).blk t).view.emb j) = V m c main_arg14 j; rw [emb14]
theorem hz15 : (![0, 0] : Fin 2 → Nat) = fun _ => 0 := funext fun a => by fin_cases a <;> rfl
theorem idx15 : ∀ t : Fin cfg0.N, win0_15.index t = ![0, 0] := by decide +kernel
theorem emb15 (t : Fin cfg0.N) (j : S1x768.Idx) : ((cfg0.win 15).blk t).view.emb j = j := by
  show ((View.whole main_arg15).slice (win0_15.rect t)).emb j = j
  blk_ext [idx15 t]
theorem iblk15_eq (c : Dev nD) (t : Fin cfg0.N) : iblk m c 15 t = V m c main_arg15 := by
  funext j; show V m c main_arg15 (((cfg0.win 15).blk t).view.emb j) = V m c main_arg15 j; rw [emb15]
theorem hz16 : (![0, 0, 0] : Fin 3 → Nat) = fun _ => 0 := funext fun a => by fin_cases a <;> rfl
theorem idx16 : ∀ t : Fin cfg0.N, win0_16.index t = ![0, 0, 0] := by decide +kernel
theorem emb16 (t : Fin cfg0.N) (j : S2x768x1536.Idx) : ((cfg0.win 16).blk t).view.emb j = j := by
  show ((View.whole main_arg16).slice (win0_16.rect t)).emb j = j
  blk_ext [idx16 t]
theorem iblk16_eq (c : Dev nD) (t : Fin cfg0.N) : iblk m c 16 t = V m c main_arg16 := by
  funext j; show V m c main_arg16 (((cfg0.win 16).blk t).view.emb j) = V m c main_arg16 j; rw [emb16]
theorem hz17 : (![0, 0] : Fin 2 → Nat) = fun _ => 0 := funext fun a => by fin_cases a <;> rfl
theorem idx17 : ∀ t : Fin cfg0.N, win0_17.index t = ![0, 0] := by decide +kernel
theorem emb17 (t : Fin cfg0.N) (j : S2x1536.Idx) : ((cfg0.win 17).blk t).view.emb j = j := by
  show ((View.whole main_arg17).slice (win0_17.rect t)).emb j = j
  blk_ext [idx17 t]
theorem iblk17_eq (c : Dev nD) (t : Fin cfg0.N) : iblk m c 17 t = V m c main_arg17 := by
  funext j; show V m c main_arg17 (((cfg0.win 17).blk t).view.emb j) = V m c main_arg17 j; rw [emb17]
theorem hz18 : (![0, 0] : Fin 2 → Nat) = fun _ => 0 := funext fun a => by fin_cases a <;> rfl
theorem idx18 : ∀ t : Fin cfg0.N, win0_18.index t = ![0, 0] := by decide +kernel
theorem emb18 (t : Fin cfg0.N) (j : S1536x768.Idx) : ((cfg0.win 18).blk t).view.emb j = j := by
  show ((View.whole main_arg18).slice (win0_18.rect t)).emb j = j
  blk_ext [idx18 t]
theorem iblk18_eq (c : Dev nD) (t : Fin cfg0.N) : iblk m c 18 t = V m c main_arg18 := by
  funext j; show V m c main_arg18 (((cfg0.win 18).blk t).view.emb j) = V m c main_arg18 j; rw [emb18]
theorem hz19 : (![0, 0] : Fin 2 → Nat) = fun _ => 0 := funext fun a => by fin_cases a <;> rfl
theorem idx19 : ∀ t : Fin cfg0.N, win0_19.index t = ![0, 0] := by decide +kernel
theorem emb19 (t : Fin cfg0.N) (j : S1x768.Idx) : ((cfg0.win 19).blk t).view.emb j = j := by
  show ((View.whole main_arg19).slice (win0_19.rect t)).emb j = j
  blk_ext [idx19 t]
theorem iblk19_eq (c : Dev nD) (t : Fin cfg0.N) : iblk m c 19 t = V m c main_arg19 := by
  funext j; show V m c main_arg19 (((cfg0.win 19).blk t).view.emb j) = V m c main_arg19 j; rw [emb19]
theorem hz20 : (![0, 0, 0] : Fin 3 → Nat) = fun _ => 0 := funext fun a => by fin_cases a <;> rfl
theorem idx20 : ∀ t : Fin cfg0.N, win0_20.index t = ![0, 0, 0] := by decide +kernel
theorem emb20 (t : Fin cfg0.N) (j : S25x512x768.Idx) : ((cfg0.win 20).blk t).view.emb j = j := by
  show ((View.whole main_v0_0).slice (win0_20.rect t)).emb j = j
  blk_ext [idx20 t]
theorem hz21 : (![0, 0, 0] : Fin 3 → Nat) = fun _ => 0 := funext fun a => by fin_cases a <;> rfl
theorem idx21 : ∀ t : Fin cfg0.N, win0_21.index t = ![0, 0, 0] := by decide +kernel
theorem emb21 (t : Fin cfg0.N) (j : S25x512x768.Idx) : ((cfg0.win 21).blk t).view.emb j = j := by
  show ((View.whole main_v0_1).slice (win0_21.rect t)).emb j = j
  blk_ext [idx21 t]
theorem hz22 : (![0, 0, 0] : Fin 3 → Nat) = fun _ => 0 := funext fun a => by fin_cases a <;> rfl
theorem idx22 : ∀ t : Fin cfg0.N, win0_22.index t = ![0, 0, 0] := by decide +kernel
theorem emb22 (t : Fin cfg0.N) (j : S25x512x768.Idx) : ((cfg0.win 22).blk t).view.emb j = j := by
  show ((View.whole main_v0_2).slice (win0_22.rect t)).emb j = j
  blk_ext [idx22 t]
theorem hz23 : (![0, 0] : Fin 2 → Nat) = fun _ => 0 := funext fun a => by fin_cases a <;> rfl
theorem idx23 : ∀ t : Fin cfg0.N, win0_23.index t = ![0, 0] := by decide +kernel
theorem emb23 (t : Fin cfg0.N) (j : S25x512.Idx) : ((cfg0.win 23).blk t).view.emb j = j := by
  show ((View.whole main_v0_3).slice (win0_23.rect t)).emb j = j
  blk_ext [idx23 t]
theorem hz24 : (![0, 0, 0, 0] : Fin 4 → Nat) = fun _ => 0 := funext fun a => by fin_cases a <;> rfl
theorem idx24 : ∀ t : Fin cfg0.N, win0_24.index t = ![0, 0, 0, 0] := by decide +kernel
theorem emb24 (t : Fin cfg0.N) (j : S25x16x48x512.Idx) : ((cfg0.win 24).blk t).view.emb j = j := by
  show ((View.whole main_v0_4).slice (win0_24.rect t)).emb j = j
  blk_ext [idx24 t]
theorem hz25 : (![0, 0, 0] : Fin 3 → Nat) = fun _ => 0 := funext fun a => by fin_cases a <;> rfl
theorem idx25 : ∀ t : Fin cfg0.N, win0_25.index t = ![0, 0, 0] := by decide +kernel
theorem emb25 (t : Fin cfg0.N) (j : S25x16x512.Idx) : ((cfg0.win 25).blk t).view.emb j = j := by
  show ((View.whole main_v0_5).slice (win0_25.rect t)).emb j = j
  blk_ext [idx25 t]
theorem hz26 : (![0, 0, 0, 0] : Fin 4 → Nat) = fun _ => 0 := funext fun a => by fin_cases a <;> rfl
theorem idx26 : ∀ t : Fin cfg0.N, win0_26.index t = ![0, 0, 0, 0] := by decide +kernel
theorem emb26 (t : Fin cfg0.N) (j : S25x16x48x512.Idx) : ((cfg0.win 26).blk t).view.emb j = j := by
  show ((View.whole main_v0_6).slice (win0_26.rect t)).emb j = j
  blk_ext [idx26 t]
theorem hz27 : (![0, 0, 0] : Fin 3 → Nat) = fun _ => 0 := funext fun a => by fin_cases a <;> rfl
theorem idx27 : ∀ t : Fin cfg0.N, win0_27.index t = ![0, 0, 0] := by decide +kernel
theorem emb27 (t : Fin cfg0.N) (j : S25x16x512.Idx) : ((cfg0.win 27).blk t).view.emb j = j := by
  show ((View.whole main_v0_7).slice (win0_27.rect t)).emb j = j
  blk_ext [idx27 t]
theorem hz28 : (![0, 0, 0, 0] : Fin 4 → Nat) = fun _ => 0 := funext fun a => by fin_cases a <;> rfl
theorem idx28 : ∀ t : Fin cfg0.N, win0_28.index t = ![0, 0, 0, 0] := by decide +kernel
theorem emb28 (t : Fin cfg0.N) (j : S25x16x48x512.Idx) : ((cfg0.win 28).blk t).view.emb j = j := by
  show ((View.whole main_v0_8).slice (win0_28.rect t)).emb j = j
  blk_ext [idx28 t]
theorem hz29 : (![0, 0, 0] : Fin 3 → Nat) = fun _ => 0 := funext fun a => by fin_cases a <;> rfl
theorem idx29 : ∀ t : Fin cfg0.N, win0_29.index t = ![0, 0, 0] := by decide +kernel
theorem emb29 (t : Fin cfg0.N) (j : S25x16x512.Idx) : ((cfg0.win 29).blk t).view.emb j = j := by
  show ((View.whole main_v0_9).slice (win0_29.rect t)).emb j = j
  blk_ext [idx29 t]
theorem hz30 : (![0, 0, 0, 0] : Fin 4 → Nat) = fun _ => 0 := funext fun a => by fin_cases a <;> rfl
theorem idx30 : ∀ t : Fin cfg0.N, win0_30.index t = ![0, 0, 0, 0] := by decide +kernel
theorem emb30 (t : Fin cfg0.N) (j : S25x16x48x512.Idx) : ((cfg0.win 30).blk t).view.emb j = j := by
  show ((View.whole main_v0_10).slice (win0_30.rect t)).emb j = j
  blk_ext [idx30 t]
theorem hz31 : (![0, 0] : Fin 2 → Nat) = fun _ => 0 := funext fun a => by fin_cases a <;> rfl
theorem idx31 : ∀ t : Fin cfg0.N, win0_31.index t = ![0, 0] := by decide +kernel
theorem emb31 (t : Fin cfg0.N) (j : S25x512.Idx) : ((cfg0.win 31).blk t).view.emb j = j := by
  show ((View.whole main_v0_11).slice (win0_31.rect t)).emb j = j
  blk_ext [idx31 t]
theorem hz32 : (![0, 0, 0] : Fin 3 → Nat) = fun _ => 0 := funext fun a => by fin_cases a <;> rfl
theorem idx32 : ∀ t : Fin cfg0.N, win0_32.index t = ![0, 0, 0] := by decide +kernel
theorem emb32 (t : Fin cfg0.N) (j : S25x512x768.Idx) : ((cfg0.win 32).blk t).view.emb j = j := by
  show ((View.whole main_v0_12).slice (win0_32.rect t)).emb j = j
  blk_ext [idx32 t]
theorem hz33 : (![0, 0] : Fin 2 → Nat) = fun _ => 0 := funext fun a => by fin_cases a <;> rfl
theorem idx33 : ∀ t : Fin cfg0.N, win0_33.index t = ![0, 0] := by decide +kernel
theorem emb33 (t : Fin cfg0.N) (j : S25x512.Idx) : ((cfg0.win 33).blk t).view.emb j = j := by
  show ((View.whole main_v0_13).slice (win0_33.rect t)).emb j = j
  blk_ext [idx33 t]
theorem hz34 : (![0, 0, 0] : Fin 3 → Nat) = fun _ => 0 := funext fun a => by fin_cases a <;> rfl
theorem idx34 : ∀ t : Fin cfg0.N, win0_34.index t = ![0, 0, 0] := by decide +kernel
theorem emb34 (t : Fin cfg0.N) (j : S25x512x1536.Idx) : ((cfg0.win 34).blk t).view.emb j = j := by
  show ((View.whole main_v0_14).slice (win0_34.rect t)).emb j = j
  blk_ext [idx34 t]
theorem hz35 : (![0, 0] : Fin 2 → Nat) = fun _ => 0 := funext fun a => by fin_cases a <;> rfl
theorem idx35 : ∀ t : Fin cfg0.N, win0_35.index t = ![0, 0] := by decide +kernel
theorem emb35 (t : Fin cfg0.N) (j : S25x512.Idx) : ((cfg0.win 35).blk t).view.emb j = j := by
  show ((View.whole main_v0_15).slice (win0_35.rect t)).emb j = j
  blk_ext [idx35 t]

section Values
variable (a0 : Vec F S25x512x768 .bf16) (a1 : Vec F S25x512x384 .bf16) (a2 : Vec F S16x416x512 .f32) (a3 : Vec F S1x384 .f32) (a4 : Vec F S1x384 .f32) (a5 : Vec F S384x1536 .bf16) (a6 : Vec F S1x768 .f32) (a7 : Vec F S384x1536 .bf16) (a8 : Vec F S1x768 .f32) (a9 : Vec F S384x1536 .bf16) (a10 : Vec F S2x768 .f32) (a11 : Vec F S3072x768 .fp8e4m3) (a12 : Vec F S4x16x48 .f32) (a13 : Vec F S16x48 .f32) (a14 : Vec F S768x768 .fp8e4m3) (a15 : Vec F S1x768 .f32) (a16 : Vec F S2x768x1536 .fp8e4m3) (a17 : Vec F S2x1536 .f32) (a18 : Vec F S1536x768 .fp8e4m3) (a19 : Vec F S1x768 .f32)

/-- What the window's array ends holding: `out0_20` applied to the argument arrays. -/
abbrev G20 : Of F (Vec F S25x512x768 .bf16) := fun a0 a1 a2 a3 a4 a5 a6 a7 a8 a9 a10 a11 a12 a13 a14 a15 a16 a17 a18 a19 =>
  k0_pay5 (k0_pay51 (k0_pay65 a0 a1 a2 a3 a4 a5 a6 a7 a8 a9 a10 a11 a12 a13 a14 a15 a16 a17 a18 a19) a9 (View.ld a10 r0_20)) (k0_pay52 (k0_pay64 a0 a1 a2 a3 a4 a5 a6 a7 a8 a9 a10 a11 a12 a13 a14 a15 a16 a17 a18 a19) (k0_pay88 a0 a1 a2 a3 a4 a5 a6 a7 a8 a9 a10 a11 a12 a13 a14 a15 a16 a17 a18 a19) (k0_pay89 a0 a1 a2 a3 a4 a5 a6 a7 a8 a9 a10 a11 a12 a13 a14 a15 a16 a17 a18 a19)) (k0_pay94 a0 a1 a2 a3 a4 a5 a6 a7 a8 a9 a10 a11 a12 a13 a14 a15 a16 a17 a18 a19) (k0_pay95 a0 a1 a2 a3 a4 a5 a6 a7 a8 a9 a10 a11 a12 a13 a14 a15 a16 a17 a18 a19) (Scalar.ofBits .f32 0x00000000#32) a18 a19

/-- A load of the whole of a block reads the block, and the one store through the whole rectangle leaves its payload. -/
theorem out20_eq : out0_20 (F := F) a0 a1 a2 a3 a4 a5 a6 a7 a8 a9 a10 a11 a12 a13 a14 a15 a16 a17 a18 a19 = G20 a0 a1 a2 a3 a4 a5 a6 a7 a8 a9 a10 a11 a12 a13 a14 a15 a16 a17 a18 a19 := by
  unfold out0_20
  rw [View.canon_unit_zero hz20, View.ld_unit_zero (S := S384x1536) hz9 _ a9, View.ld_unit_zero (S := S1536x768) hz18 _ a18, View.ld_unit_zero (S := S1x768) hz19 _ a19]

/-- What the window's array ends holding: `out0_21` applied to the argument arrays. -/
abbrev G21 : Of F (Vec F S25x512x768 .f32) := fun a0 a1 a2 a3 a4 a5 a6 a7 a8 a9 a10 a11 a12 a13 a14 a15 a16 a17 a18 a19 =>
  k0_pay53 (k0_pay64 a0 a1 a2 a3 a4 a5 a6 a7 a8 a9 a10 a11 a12 a13 a14 a15 a16 a17 a18 a19) (k0_pay88 a0 a1 a2 a3 a4 a5 a6 a7 a8 a9 a10 a11 a12 a13 a14 a15 a16 a17 a18 a19) (k0_pay89 a0 a1 a2 a3 a4 a5 a6 a7 a8 a9 a10 a11 a12 a13 a14 a15 a16 a17 a18 a19)

/-- The one store through the whole rectangle leaves its payload. -/
theorem out21_eq : out0_21 (F := F) a0 a1 a2 a3 a4 a5 a6 a7 a8 a9 a10 a11 a12 a13 a14 a15 a16 a17 a18 a19 = G21 a0 a1 a2 a3 a4 a5 a6 a7 a8 a9 a10 a11 a12 a13 a14 a15 a16 a17 a18 a19 := by
  unfold out0_21
  rw [View.canon_unit_zero hz21]

/-- What the window's array ends holding: `out0_22` applied to the argument arrays. -/
abbrev G22 : Of F (Vec F S25x512x768 .fp8e4m3) := fun a0 a1 a2 a3 a4 a5 a6 a7 a8 a9 a10 a11 a12 a13 a14 a15 a16 a17 a18 a19 =>
  k0_pay15 (k0_pay67 a0 a1 a2 a3 a4 a5 a6 a7 a8 a9 a10 a11 a12 a13 a14 a15 a16 a17 a18 a19) (k0_pay68 a0 a1 a2 a3 a4 a5 a6 a7 a8 a9 a10 a11 a12 a13 a14 a15 a16 a17 a18 a19) (k0_pay69 a0 a1 a2 a3 a4 a5 a6 a7 a8 a9 a10 a11 a12 a13 a14 a15 a16 a17 a18 a19) (Scalar.ofBits .f32 0x3727C5AC#32) a6

/-- A load of the whole of a block reads the block, and the one store through the whole rectangle leaves its payload. -/
theorem out22_eq : out0_22 (F := F) a0 a1 a2 a3 a4 a5 a6 a7 a8 a9 a10 a11 a12 a13 a14 a15 a16 a17 a18 a19 = G22 a0 a1 a2 a3 a4 a5 a6 a7 a8 a9 a10 a11 a12 a13 a14 a15 a16 a17 a18 a19 := by
  unfold out0_22
  rw [View.canon_unit_zero hz22, View.ld_unit_zero (S := S1x768) hz6 _ a6]

/-- What the window's array ends holding: `out0_23` applied to the argument arrays. -/
abbrev G23 : Of F (Vec F S25x512 .f32) := fun a0 a1 a2 a3 a4 a5 a6 a7 a8 a9 a10 a11 a12 a13 a14 a15 a16 a17 a18 a19 =>
  k0_pay16 (k0_pay67 a0 a1 a2 a3 a4 a5 a6 a7 a8 a9 a10 a11 a12 a13 a14 a15 a16 a17 a18 a19) (k0_pay68 a0 a1 a2 a3 a4 a5 a6 a7 a8 a9 a10 a11 a12 a13 a14 a15 a16 a17 a18 a19) (k0_pay69 a0 a1 a2 a3 a4 a5 a6 a7 a8 a9 a10 a11 a12 a13 a14 a15 a16 a17 a18 a19) (Scalar.ofBits .f32 0x3727C5AC#32) a6

/-- A load of the whole of a block reads the block, and the one store through the whole rectangle leaves its payload. -/
theorem out23_eq : out0_23 (F := F) a0 a1 a2 a3 a4 a5 a6 a7 a8 a9 a10 a11 a12 a13 a14 a15 a16 a17 a18 a19 = G23 a0 a1 a2 a3 a4 a5 a6 a7 a8 a9 a10 a11 a12 a13 a14 a15 a16 a17 a18 a19 := by
  unfold out0_23
  rw [View.canon_unit_zero hz23, View.ld_unit_zero (S := S1x768) hz6 _ a6]

/-- What the window's array ends holding: `out0_24` applied to the argument arrays. -/
abbrev G24 : Of F (Vec F S25x16x48x512 .fp8e4m3) := fun a0 a1 a2 a3 a4 a5 a6 a7 a8 a9 a10 a11 a12 a13 a14 a15 a16 a17 a18 a19 =>
  k0_pay33 (k0_pay74 a0 a1 a2 a3 a4 a5 a6 a7 a8 a9 a10 a11 a12 a13 a14 a15 a16 a17 a18 a19)

/-- The one store through the whole rectangle leaves its payload. -/
theorem out24_eq : out0_24 (F := F) a0 a1 a2 a3 a4 a5 a6 a7 a8 a9 a10 a11 a12 a13 a14 a15 a16 a17 a18 a19 = G24 a0 a1 a2 a3 a4 a5 a6 a7 a8 a9 a10 a11 a12 a13 a14 a15 a16 a17 a18 a19 := by
  unfold out0_24
  rw [View.canon_unit_zero hz24]

/-- What the window's array ends holding: `out0_25` applied to the argument arrays. -/
abbrev G25 : Of F (Vec F S25x16x512 .f32) := fun a0 a1 a2 a3 a4 a5 a6 a7 a8 a9 a10 a11 a12 a13 a14 a15 a16 a17 a18 a19 =>
  k0_pay34 (k0_pay73 a0 a1 a2 a3 a4 a5 a6 a7 a8 a9 a10 a11 a12 a13 a14 a15 a16 a17 a18 a19)

/-- The one store through the whole rectangle leaves its payload. -/
theorem out25_eq : out0_25 (F := F) a0 a1 a2 a3 a4 a5 a6 a7 a8 a9 a10 a11 a12 a13 a14 a15 a16 a17 a18 a19 = G25 a0 a1 a2 a3 a4 a5 a6 a7 a8 a9 a10 a11 a12 a13 a14 a15 a16 a17 a18 a19 := by
  unfold out0_25
  rw [View.canon_unit_zero hz25]

/-- What the window's array ends holding: `out0_26` applied to the argument arrays. -/
abbrev G26 : Of F (Vec F S25x16x48x512 .fp8e4m3) := fun a0 a1 a2 a3 a4 a5 a6 a7 a8 a9 a10 a11 a12 a13 a14 a15 a16 a17 a18 a19 =>
  k0_pay35 (k0_pay79 a0 a1 a2 a3 a4 a5 a6 a7 a8 a9 a10 a11 a12 a13 a14 a15 a16 a17 a18 a19)

/-- The one store through the whole rectangle leaves its payload. -/
theorem out26_eq : out0_26 (F := F) a0 a1 a2 a3 a4 a5 a6 a7 a8 a9 a10 a11 a12 a13 a14 a15 a16 a17 a18 a19 = G26 a0 a1 a2 a3 a4 a5 a6 a7 a8 a9 a10 a11 a12 a13 a14 a15 a16 a17 a18 a19 := by
  unfold out0_26
  rw [View.canon_unit_zero hz26]

/-- What the window's array ends holding: `out0_27` applied to the argument arrays. -/
abbrev G27 : Of F (Vec F S25x16x512 .f32) := fun a0 a1 a2 a3 a4 a5 a6 a7 a8 a9 a10 a11 a12 a13 a14 a15 a16 a17 a18 a19 =>
  k0_pay36 (k0_pay78 a0 a1 a2 a3 a4 a5 a6 a7 a8 a9 a10 a11 a12 a13 a14 a15 a16 a17 a18 a19)

/-- The one store through the whole rectangle leaves its payload. -/
theorem out27_eq : out0_27 (F := F) a0 a1 a2 a3 a4 a5 a6 a7 a8 a9 a10 a11 a12 a13 a14 a15 a16 a17 a18 a19 = G27 a0 a1 a2 a3 a4 a5 a6 a7 a8 a9 a10 a11 a12 a13 a14 a15 a16 a17 a18 a19 := by
  unfold out0_27
  rw [View.canon_unit_zero hz27]

/-- What the window's array ends holding: `out0_28` applied to the argument arrays. -/
abbrev G28 : Of F (Vec F S25x16x48x512 .fp8e4m3) := fun a0 a1 a2 a3 a4 a5 a6 a7 a8 a9 a10 a11 a12 a13 a14 a15 a16 a17 a18 a19 =>
  k0_pay37 (k0_pay81 a0 a1 a2 a3 a4 a5 a6 a7 a8 a9 a10 a11 a12 a13 a14 a15 a16 a17 a18 a19)

/-- The one store through the whole rectangle leaves its payload. -/
theorem out28_eq : out0_28 (F := F) a0 a1 a2 a3 a4 a5 a6 a7 a8 a9 a10 a11 a12 a13 a14 a15 a16 a17 a18 a19 = G28 a0 a1 a2 a3 a4 a5 a6 a7 a8 a9 a10 a11 a12 a13 a14 a15 a16 a17 a18 a19 := by
  unfold out0_28
  rw [View.canon_unit_zero hz28]

/-- What the window's array ends holding: `out0_29` applied to the argument arrays. -/
abbrev G29 : Of F (Vec F S25x16x512 .f32) := fun a0 a1 a2 a3 a4 a5 a6 a7 a8 a9 a10 a11 a12 a13 a14 a15 a16 a17 a18 a19 =>
  k0_pay38 (k0_pay80 a0 a1 a2 a3 a4 a5 a6 a7 a8 a9 a10 a11 a12 a13 a14 a15 a16 a17 a18 a19)

/-- The one store through the whole rectangle leaves its payload. -/
theorem out29_eq : out0_29 (F := F) a0 a1 a2 a3 a4 a5 a6 a7 a8 a9 a10 a11 a12 a13 a14 a15 a16 a17 a18 a19 = G29 a0 a1 a2 a3 a4 a5 a6 a7 a8 a9 a10 a11 a12 a13 a14 a15 a16 a17 a18 a19 := by
  unfold out0_29
  rw [View.canon_unit_zero hz29]

/-- What the window's array ends holding: `out0_30` applied to the argument arrays. -/
abbrev G30 : Of F (Vec F S25x16x48x512 .fp8e4m3) := fun a0 a1 a2 a3 a4 a5 a6 a7 a8 a9 a10 a11 a12 a13 a14 a15 a16 a17 a18 a19 =>
  k0_pay46 (k0_pay86 a0 a1 a2 a3 a4 a5 a6 a7 a8 a9 a10 a11 a12 a13 a14 a15 a16 a17 a18 a19) (k0_pay87 a0 a1 a2 a3 a4 a5 a6 a7 a8 a9 a10 a11 a12 a13 a14 a15 a16 a17 a18 a19)

/-- The one store through the whole rectangle leaves its payload. -/
theorem out30_eq : out0_30 (F := F) a0 a1 a2 a3 a4 a5 a6 a7 a8 a9 a10 a11 a12 a13 a14 a15 a16 a17 a18 a19 = G30 a0 a1 a2 a3 a4 a5 a6 a7 a8 a9 a10 a11 a12 a13 a14 a15 a16 a17 a18 a19 := by
  unfold out0_30
  rw [View.canon_unit_zero hz30]

/-- What the window's array ends holding: `out0_31` applied to the argument arrays. -/
abbrev G31 : Of F (Vec F S25x512 .f32) := fun a0 a1 a2 a3 a4 a5 a6 a7 a8 a9 a10 a11 a12 a13 a14 a15 a16 a17 a18 a19 =>
  k0_pay47 (k0_pay87 a0 a1 a2 a3 a4 a5 a6 a7 a8 a9 a10 a11 a12 a13 a14 a15 a16 a17 a18 a19)

/-- The one store through the whole rectangle leaves its payload. -/
theorem out31_eq : out0_31 (F := F) a0 a1 a2 a3 a4 a5 a6 a7 a8 a9 a10 a11 a12 a13 a14 a15 a16 a17 a18 a19 = G31 a0 a1 a2 a3 a4 a5 a6 a7 a8 a9 a10 a11 a12 a13 a14 a15 a16 a17 a18 a19 := by
  unfold out0_31
  rw [View.canon_unit_zero hz31]

/-- What the window's array ends holding: `out0_32` applied to the argument arrays. -/
abbrev G32 : Of F (Vec F S25x512x768 .fp8e4m3) := fun a0 a1 a2 a3 a4 a5 a6 a7 a8 a9 a10 a11 a12 a13 a14 a15 a16 a17 a18 a19 =>
  k0_pay60 (k0_pay90 a0 a1 a2 a3 a4 a5 a6 a7 a8 a9 a10 a11 a12 a13 a14 a15 a16 a17 a18 a19) (k0_pay91 a0 a1 a2 a3 a4 a5 a6 a7 a8 a9 a10 a11 a12 a13 a14 a15 a16 a17 a18 a19) (k0_pay92 a0 a1 a2 a3 a4 a5 a6 a7 a8 a9 a10 a11 a12 a13 a14 a15 a16 a17 a18 a19) (k0_pay93 a0 a1 a2 a3 a4 a5 a6 a7 a8 a9 a10 a11 a12 a13 a14 a15 a16 a17 a18 a19)

/-- The one store through the whole rectangle leaves its payload. -/
theorem out32_eq : out0_32 (F := F) a0 a1 a2 a3 a4 a5 a6 a7 a8 a9 a10 a11 a12 a13 a14 a15 a16 a17 a18 a19 = G32 a0 a1 a2 a3 a4 a5 a6 a7 a8 a9 a10 a11 a12 a13 a14 a15 a16 a17 a18 a19 := by
  unfold out0_32
  rw [View.canon_unit_zero hz32]

/-- What the window's array ends holding: `out0_33` applied to the argument arrays. -/
abbrev G33 : Of F (Vec F S25x512 .f32) := fun a0 a1 a2 a3 a4 a5 a6 a7 a8 a9 a10 a11 a12 a13 a14 a15 a16 a17 a18 a19 =>
  k0_pay61 (k0_pay91 a0 a1 a2 a3 a4 a5 a6 a7 a8 a9 a10 a11 a12 a13 a14 a15 a16 a17 a18 a19) (k0_pay92 a0 a1 a2 a3 a4 a5 a6 a7 a8 a9 a10 a11 a12 a13 a14 a15 a16 a17 a18 a19) (k0_pay93 a0 a1 a2 a3 a4 a5 a6 a7 a8 a9 a10 a11 a12 a13 a14 a15 a16 a17 a18 a19)

/-- The one store through the whole rectangle leaves its payload. -/
theorem out33_eq : out0_33 (F := F) a0 a1 a2 a3 a4 a5 a6 a7 a8 a9 a10 a11 a12 a13 a14 a15 a16 a17 a18 a19 = G33 a0 a1 a2 a3 a4 a5 a6 a7 a8 a9 a10 a11 a12 a13 a14 a15 a16 a17 a18 a19 := by
  unfold out0_33
  rw [View.canon_unit_zero hz33]

/-- What the window's array ends holding: `out0_34` applied to the argument arrays. -/
abbrev G34 : Of F (Vec F S25x512x1536 .fp8e4m3) := fun a0 a1 a2 a3 a4 a5 a6 a7 a8 a9 a10 a11 a12 a13 a14 a15 a16 a17 a18 a19 =>
  k0_pay3 (k0_pay94 a0 a1 a2 a3 a4 a5 a6 a7 a8 a9 a10 a11 a12 a13 a14 a15 a16 a17 a18 a19) (k0_pay95 a0 a1 a2 a3 a4 a5 a6 a7 a8 a9 a10 a11 a12 a13 a14 a15 a16 a17 a18 a19) (Scalar.ofBits .f32 0x00000000#32)

/-- The one store through the whole rectangle leaves its payload. -/
theorem out34_eq : out0_34 (F := F) a0 a1 a2 a3 a4 a5 a6 a7 a8 a9 a10 a11 a12 a13 a14 a15 a16 a17 a18 a19 = G34 a0 a1 a2 a3 a4 a5 a6 a7 a8 a9 a10 a11 a12 a13 a14 a15 a16 a17 a18 a19 := by
  unfold out0_34
  rw [View.canon_unit_zero hz34]

/-- What the window's array ends holding: `out0_35` applied to the argument arrays. -/
abbrev G35 : Of F (Vec F S25x512 .f32) := fun a0 a1 a2 a3 a4 a5 a6 a7 a8 a9 a10 a11 a12 a13 a14 a15 a16 a17 a18 a19 =>
  k0_pay4 (k0_pay95 a0 a1 a2 a3 a4 a5 a6 a7 a8 a9 a10 a11 a12 a13 a14 a15 a16 a17 a18 a19) (Scalar.ofBits .f32 0x00000000#32)

/-- The one store through the whole rectangle leaves its payload. -/
theorem out35_eq : out0_35 (F := F) a0 a1 a2 a3 a4 a5 a6 a7 a8 a9 a10 a11 a12 a13 a14 a15 a16 a17 a18 a19 = G35 a0 a1 a2 a3 a4 a5 a6 a7 a8 a9 a10 a11 a12 a13 a14 a15 a16 a17 a18 a19 := by
  unfold out0_35
  rw [View.canon_unit_zero hz35]

end Values

/-- A function of the input arrays, at the argument arrays as the region finds them. -/
abbrev Vat {β : Type} (c : Dev nD) (G : Of F β) : β := G (V m c main_arg0) (V m c main_arg1) (V m c main_arg2) (V m c main_arg3) (V m c main_arg4) (V m c main_arg5) (V m c main_arg6) (V m c main_arg7) (V m c main_arg8) (V m c main_arg9) (V m c main_arg10) (V m c main_arg11) (V m c main_arg12) (V m c main_arg13) (V m c main_arg14) (V m c main_arg15) (V m c main_arg16) (V m c main_arg17) (V m c main_arg18) (V m c main_arg19)
/-- A function of the input arrays, at the argument arrays as launched. -/
abbrev Iat {β : Type} (c : Dev nD) (G : Of F β) : β := G (I0 m c) (I1 m c) (I2 m c) (I3 m c) (I4 m c) (I5 m c) (I6 m c) (I7 m c) (I8 m c) (I9 m c) (I10 m c) (I11 m c) (I12 m c) (I13 m c) (I14 m c) (I15 m c) (I16 m c) (I17 m c) (I18 m c) (I19 m c)

/-- A function of the point's input blocks is that function of the arrays. -/
theorem blocks_eq {β : Type} (c : Dev nD) (t : Fin cfg0.N) (G : Of F β) :
    G (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) = Vat m c G := by
  rw [iblk0_eq, iblk1_eq, iblk2_eq, iblk3_eq, iblk4_eq, iblk5_eq, iblk6_eq, iblk7_eq, iblk8_eq, iblk9_eq, iblk10_eq, iblk11_eq, iblk12_eq, iblk13_eq, iblk14_eq, iblk15_eq, iblk16_eq, iblk17_eq, iblk18_eq, iblk19_eq]

theorem cut20_eq (t : Fin cfg0.N) (X : Vec F S25x512x768 .bf16) :
    (cfg0.win 20).cut (grid0.coords t) X = ((cfg0.win 20).blk t).view.read (Elt F) X := by
  funext j
  show X j = X (((cfg0.win 20).blk t).view.emb j)
  rw [emb20]
theorem flushed20_eq (c : Dev nD) (t : Fin cfg0.N) :
    (dats m 0 c).flushed 20 t = ((cfg0.win 20).blk t).view.read (Elt F) (Vat m c G20) := by
  show (cfg0.win 20).cut (grid0.coords t) ((dats m 0 c).after 20 t) = _
  rw [after0_20, out20_eq, blocks_eq m c t G20]
  exact cut20_eq t _
theorem covered20 (i : S25x512x768.Idx) :
    ∃ t : Fin cfg0.N, (cfg0.win 20).flush t = true ∧ i ∈ ((cfg0.win 20).blk t).view.set :=
  ⟨(⟨0, by decide⟩ : Fin cfg0.N), flush0_20 _, by have h := ((cfg0.win 20).blk (⟨0, by decide⟩ : Fin cfg0.N)).view.emb_mem_set i; rwa [emb20] at h⟩
/-- Output array 0 after the run. -/
theorem final20 (c : Dev nD) : (dats m 0 c).arrAt 20 cfg0.N = Iat m c G20 :=
  ((dats m 0 c).arrAt_eq_of_cover 20 (Vat m c G20) (fun t _ => flushed20_eq m c t) covered20).trans rfl

theorem cut21_eq (t : Fin cfg0.N) (X : Vec F S25x512x768 .f32) :
    (cfg0.win 21).cut (grid0.coords t) X = ((cfg0.win 21).blk t).view.read (Elt F) X := by
  funext j
  show X j = X (((cfg0.win 21).blk t).view.emb j)
  rw [emb21]
theorem flushed21_eq (c : Dev nD) (t : Fin cfg0.N) :
    (dats m 0 c).flushed 21 t = ((cfg0.win 21).blk t).view.read (Elt F) (Vat m c G21) := by
  show (cfg0.win 21).cut (grid0.coords t) ((dats m 0 c).after 21 t) = _
  rw [after0_21, out21_eq, blocks_eq m c t G21]
  exact cut21_eq t _
theorem covered21 (i : S25x512x768.Idx) :
    ∃ t : Fin cfg0.N, (cfg0.win 21).flush t = true ∧ i ∈ ((cfg0.win 21).blk t).view.set :=
  ⟨(⟨0, by decide⟩ : Fin cfg0.N), flush0_21 _, by have h := ((cfg0.win 21).blk (⟨0, by decide⟩ : Fin cfg0.N)).view.emb_mem_set i; rwa [emb21] at h⟩
/-- Output array 1 after the run. -/
theorem final21 (c : Dev nD) : (dats m 0 c).arrAt 21 cfg0.N = Iat m c G21 :=
  ((dats m 0 c).arrAt_eq_of_cover 21 (Vat m c G21) (fun t _ => flushed21_eq m c t) covered21).trans rfl

theorem cut22_eq (t : Fin cfg0.N) (X : Vec F S25x512x768 .fp8e4m3) :
    (cfg0.win 22).cut (grid0.coords t) X = ((cfg0.win 22).blk t).view.read (Elt F) X := by
  funext j
  show X j = X (((cfg0.win 22).blk t).view.emb j)
  rw [emb22]
theorem flushed22_eq (c : Dev nD) (t : Fin cfg0.N) :
    (dats m 0 c).flushed 22 t = ((cfg0.win 22).blk t).view.read (Elt F) (Vat m c G22) := by
  show (cfg0.win 22).cut (grid0.coords t) ((dats m 0 c).after 22 t) = _
  rw [after0_22, out22_eq, blocks_eq m c t G22]
  exact cut22_eq t _
theorem covered22 (i : S25x512x768.Idx) :
    ∃ t : Fin cfg0.N, (cfg0.win 22).flush t = true ∧ i ∈ ((cfg0.win 22).blk t).view.set :=
  ⟨(⟨0, by decide⟩ : Fin cfg0.N), flush0_22 _, by have h := ((cfg0.win 22).blk (⟨0, by decide⟩ : Fin cfg0.N)).view.emb_mem_set i; rwa [emb22] at h⟩
/-- Output array 2 after the run. -/
theorem final22 (c : Dev nD) : (dats m 0 c).arrAt 22 cfg0.N = Iat m c G22 :=
  ((dats m 0 c).arrAt_eq_of_cover 22 (Vat m c G22) (fun t _ => flushed22_eq m c t) covered22).trans rfl

theorem cut23_eq (t : Fin cfg0.N) (X : Vec F S25x512 .f32) :
    (cfg0.win 23).cut (grid0.coords t) X = ((cfg0.win 23).blk t).view.read (Elt F) X := by
  funext j
  show X j = X (((cfg0.win 23).blk t).view.emb j)
  rw [emb23]
theorem flushed23_eq (c : Dev nD) (t : Fin cfg0.N) :
    (dats m 0 c).flushed 23 t = ((cfg0.win 23).blk t).view.read (Elt F) (Vat m c G23) := by
  show (cfg0.win 23).cut (grid0.coords t) ((dats m 0 c).after 23 t) = _
  rw [after0_23, out23_eq, blocks_eq m c t G23]
  exact cut23_eq t _
theorem covered23 (i : S25x512.Idx) :
    ∃ t : Fin cfg0.N, (cfg0.win 23).flush t = true ∧ i ∈ ((cfg0.win 23).blk t).view.set :=
  ⟨(⟨0, by decide⟩ : Fin cfg0.N), flush0_23 _, by have h := ((cfg0.win 23).blk (⟨0, by decide⟩ : Fin cfg0.N)).view.emb_mem_set i; rwa [emb23] at h⟩
/-- Output array 3 after the run. -/
theorem final23 (c : Dev nD) : (dats m 0 c).arrAt 23 cfg0.N = Iat m c G23 :=
  ((dats m 0 c).arrAt_eq_of_cover 23 (Vat m c G23) (fun t _ => flushed23_eq m c t) covered23).trans rfl

theorem cut24_eq (t : Fin cfg0.N) (X : Vec F S25x16x48x512 .fp8e4m3) :
    (cfg0.win 24).cut (grid0.coords t) X = ((cfg0.win 24).blk t).view.read (Elt F) X := by
  funext j
  show X j = X (((cfg0.win 24).blk t).view.emb j)
  rw [emb24]
theorem flushed24_eq (c : Dev nD) (t : Fin cfg0.N) :
    (dats m 0 c).flushed 24 t = ((cfg0.win 24).blk t).view.read (Elt F) (Vat m c G24) := by
  show (cfg0.win 24).cut (grid0.coords t) ((dats m 0 c).after 24 t) = _
  rw [after0_24, out24_eq, blocks_eq m c t G24]
  exact cut24_eq t _
theorem covered24 (i : S25x16x48x512.Idx) :
    ∃ t : Fin cfg0.N, (cfg0.win 24).flush t = true ∧ i ∈ ((cfg0.win 24).blk t).view.set :=
  ⟨(⟨0, by decide⟩ : Fin cfg0.N), flush0_24 _, by have h := ((cfg0.win 24).blk (⟨0, by decide⟩ : Fin cfg0.N)).view.emb_mem_set i; rwa [emb24] at h⟩
/-- Output array 4 after the run. -/
theorem final24 (c : Dev nD) : (dats m 0 c).arrAt 24 cfg0.N = Iat m c G24 :=
  ((dats m 0 c).arrAt_eq_of_cover 24 (Vat m c G24) (fun t _ => flushed24_eq m c t) covered24).trans rfl

theorem cut25_eq (t : Fin cfg0.N) (X : Vec F S25x16x512 .f32) :
    (cfg0.win 25).cut (grid0.coords t) X = ((cfg0.win 25).blk t).view.read (Elt F) X := by
  funext j
  show X j = X (((cfg0.win 25).blk t).view.emb j)
  rw [emb25]
theorem flushed25_eq (c : Dev nD) (t : Fin cfg0.N) :
    (dats m 0 c).flushed 25 t = ((cfg0.win 25).blk t).view.read (Elt F) (Vat m c G25) := by
  show (cfg0.win 25).cut (grid0.coords t) ((dats m 0 c).after 25 t) = _
  rw [after0_25, out25_eq, blocks_eq m c t G25]
  exact cut25_eq t _
theorem covered25 (i : S25x16x512.Idx) :
    ∃ t : Fin cfg0.N, (cfg0.win 25).flush t = true ∧ i ∈ ((cfg0.win 25).blk t).view.set :=
  ⟨(⟨0, by decide⟩ : Fin cfg0.N), flush0_25 _, by have h := ((cfg0.win 25).blk (⟨0, by decide⟩ : Fin cfg0.N)).view.emb_mem_set i; rwa [emb25] at h⟩
/-- Output array 5 after the run. -/
theorem final25 (c : Dev nD) : (dats m 0 c).arrAt 25 cfg0.N = Iat m c G25 :=
  ((dats m 0 c).arrAt_eq_of_cover 25 (Vat m c G25) (fun t _ => flushed25_eq m c t) covered25).trans rfl

theorem cut26_eq (t : Fin cfg0.N) (X : Vec F S25x16x48x512 .fp8e4m3) :
    (cfg0.win 26).cut (grid0.coords t) X = ((cfg0.win 26).blk t).view.read (Elt F) X := by
  funext j
  show X j = X (((cfg0.win 26).blk t).view.emb j)
  rw [emb26]
theorem flushed26_eq (c : Dev nD) (t : Fin cfg0.N) :
    (dats m 0 c).flushed 26 t = ((cfg0.win 26).blk t).view.read (Elt F) (Vat m c G26) := by
  show (cfg0.win 26).cut (grid0.coords t) ((dats m 0 c).after 26 t) = _
  rw [after0_26, out26_eq, blocks_eq m c t G26]
  exact cut26_eq t _
theorem covered26 (i : S25x16x48x512.Idx) :
    ∃ t : Fin cfg0.N, (cfg0.win 26).flush t = true ∧ i ∈ ((cfg0.win 26).blk t).view.set :=
  ⟨(⟨0, by decide⟩ : Fin cfg0.N), flush0_26 _, by have h := ((cfg0.win 26).blk (⟨0, by decide⟩ : Fin cfg0.N)).view.emb_mem_set i; rwa [emb26] at h⟩
/-- Output array 6 after the run. -/
theorem final26 (c : Dev nD) : (dats m 0 c).arrAt 26 cfg0.N = Iat m c G26 :=
  ((dats m 0 c).arrAt_eq_of_cover 26 (Vat m c G26) (fun t _ => flushed26_eq m c t) covered26).trans rfl

theorem cut27_eq (t : Fin cfg0.N) (X : Vec F S25x16x512 .f32) :
    (cfg0.win 27).cut (grid0.coords t) X = ((cfg0.win 27).blk t).view.read (Elt F) X := by
  funext j
  show X j = X (((cfg0.win 27).blk t).view.emb j)
  rw [emb27]
theorem flushed27_eq (c : Dev nD) (t : Fin cfg0.N) :
    (dats m 0 c).flushed 27 t = ((cfg0.win 27).blk t).view.read (Elt F) (Vat m c G27) := by
  show (cfg0.win 27).cut (grid0.coords t) ((dats m 0 c).after 27 t) = _
  rw [after0_27, out27_eq, blocks_eq m c t G27]
  exact cut27_eq t _
theorem covered27 (i : S25x16x512.Idx) :
    ∃ t : Fin cfg0.N, (cfg0.win 27).flush t = true ∧ i ∈ ((cfg0.win 27).blk t).view.set :=
  ⟨(⟨0, by decide⟩ : Fin cfg0.N), flush0_27 _, by have h := ((cfg0.win 27).blk (⟨0, by decide⟩ : Fin cfg0.N)).view.emb_mem_set i; rwa [emb27] at h⟩
/-- Output array 7 after the run. -/
theorem final27 (c : Dev nD) : (dats m 0 c).arrAt 27 cfg0.N = Iat m c G27 :=
  ((dats m 0 c).arrAt_eq_of_cover 27 (Vat m c G27) (fun t _ => flushed27_eq m c t) covered27).trans rfl

theorem cut28_eq (t : Fin cfg0.N) (X : Vec F S25x16x48x512 .fp8e4m3) :
    (cfg0.win 28).cut (grid0.coords t) X = ((cfg0.win 28).blk t).view.read (Elt F) X := by
  funext j
  show X j = X (((cfg0.win 28).blk t).view.emb j)
  rw [emb28]
theorem flushed28_eq (c : Dev nD) (t : Fin cfg0.N) :
    (dats m 0 c).flushed 28 t = ((cfg0.win 28).blk t).view.read (Elt F) (Vat m c G28) := by
  show (cfg0.win 28).cut (grid0.coords t) ((dats m 0 c).after 28 t) = _
  rw [after0_28, out28_eq, blocks_eq m c t G28]
  exact cut28_eq t _
theorem covered28 (i : S25x16x48x512.Idx) :
    ∃ t : Fin cfg0.N, (cfg0.win 28).flush t = true ∧ i ∈ ((cfg0.win 28).blk t).view.set :=
  ⟨(⟨0, by decide⟩ : Fin cfg0.N), flush0_28 _, by have h := ((cfg0.win 28).blk (⟨0, by decide⟩ : Fin cfg0.N)).view.emb_mem_set i; rwa [emb28] at h⟩
/-- Output array 8 after the run. -/
theorem final28 (c : Dev nD) : (dats m 0 c).arrAt 28 cfg0.N = Iat m c G28 :=
  ((dats m 0 c).arrAt_eq_of_cover 28 (Vat m c G28) (fun t _ => flushed28_eq m c t) covered28).trans rfl

theorem cut29_eq (t : Fin cfg0.N) (X : Vec F S25x16x512 .f32) :
    (cfg0.win 29).cut (grid0.coords t) X = ((cfg0.win 29).blk t).view.read (Elt F) X := by
  funext j
  show X j = X (((cfg0.win 29).blk t).view.emb j)
  rw [emb29]
theorem flushed29_eq (c : Dev nD) (t : Fin cfg0.N) :
    (dats m 0 c).flushed 29 t = ((cfg0.win 29).blk t).view.read (Elt F) (Vat m c G29) := by
  show (cfg0.win 29).cut (grid0.coords t) ((dats m 0 c).after 29 t) = _
  rw [after0_29, out29_eq, blocks_eq m c t G29]
  exact cut29_eq t _
theorem covered29 (i : S25x16x512.Idx) :
    ∃ t : Fin cfg0.N, (cfg0.win 29).flush t = true ∧ i ∈ ((cfg0.win 29).blk t).view.set :=
  ⟨(⟨0, by decide⟩ : Fin cfg0.N), flush0_29 _, by have h := ((cfg0.win 29).blk (⟨0, by decide⟩ : Fin cfg0.N)).view.emb_mem_set i; rwa [emb29] at h⟩
/-- Output array 9 after the run. -/
theorem final29 (c : Dev nD) : (dats m 0 c).arrAt 29 cfg0.N = Iat m c G29 :=
  ((dats m 0 c).arrAt_eq_of_cover 29 (Vat m c G29) (fun t _ => flushed29_eq m c t) covered29).trans rfl

theorem cut30_eq (t : Fin cfg0.N) (X : Vec F S25x16x48x512 .fp8e4m3) :
    (cfg0.win 30).cut (grid0.coords t) X = ((cfg0.win 30).blk t).view.read (Elt F) X := by
  funext j
  show X j = X (((cfg0.win 30).blk t).view.emb j)
  rw [emb30]
theorem flushed30_eq (c : Dev nD) (t : Fin cfg0.N) :
    (dats m 0 c).flushed 30 t = ((cfg0.win 30).blk t).view.read (Elt F) (Vat m c G30) := by
  show (cfg0.win 30).cut (grid0.coords t) ((dats m 0 c).after 30 t) = _
  rw [after0_30, out30_eq, blocks_eq m c t G30]
  exact cut30_eq t _
theorem covered30 (i : S25x16x48x512.Idx) :
    ∃ t : Fin cfg0.N, (cfg0.win 30).flush t = true ∧ i ∈ ((cfg0.win 30).blk t).view.set :=
  ⟨(⟨0, by decide⟩ : Fin cfg0.N), flush0_30 _, by have h := ((cfg0.win 30).blk (⟨0, by decide⟩ : Fin cfg0.N)).view.emb_mem_set i; rwa [emb30] at h⟩
/-- Output array 10 after the run. -/
theorem final30 (c : Dev nD) : (dats m 0 c).arrAt 30 cfg0.N = Iat m c G30 :=
  ((dats m 0 c).arrAt_eq_of_cover 30 (Vat m c G30) (fun t _ => flushed30_eq m c t) covered30).trans rfl

theorem cut31_eq (t : Fin cfg0.N) (X : Vec F S25x512 .f32) :
    (cfg0.win 31).cut (grid0.coords t) X = ((cfg0.win 31).blk t).view.read (Elt F) X := by
  funext j
  show X j = X (((cfg0.win 31).blk t).view.emb j)
  rw [emb31]
theorem flushed31_eq (c : Dev nD) (t : Fin cfg0.N) :
    (dats m 0 c).flushed 31 t = ((cfg0.win 31).blk t).view.read (Elt F) (Vat m c G31) := by
  show (cfg0.win 31).cut (grid0.coords t) ((dats m 0 c).after 31 t) = _
  rw [after0_31, out31_eq, blocks_eq m c t G31]
  exact cut31_eq t _
theorem covered31 (i : S25x512.Idx) :
    ∃ t : Fin cfg0.N, (cfg0.win 31).flush t = true ∧ i ∈ ((cfg0.win 31).blk t).view.set :=
  ⟨(⟨0, by decide⟩ : Fin cfg0.N), flush0_31 _, by have h := ((cfg0.win 31).blk (⟨0, by decide⟩ : Fin cfg0.N)).view.emb_mem_set i; rwa [emb31] at h⟩
/-- Output array 11 after the run. -/
theorem final31 (c : Dev nD) : (dats m 0 c).arrAt 31 cfg0.N = Iat m c G31 :=
  ((dats m 0 c).arrAt_eq_of_cover 31 (Vat m c G31) (fun t _ => flushed31_eq m c t) covered31).trans rfl

theorem cut32_eq (t : Fin cfg0.N) (X : Vec F S25x512x768 .fp8e4m3) :
    (cfg0.win 32).cut (grid0.coords t) X = ((cfg0.win 32).blk t).view.read (Elt F) X := by
  funext j
  show X j = X (((cfg0.win 32).blk t).view.emb j)
  rw [emb32]
theorem flushed32_eq (c : Dev nD) (t : Fin cfg0.N) :
    (dats m 0 c).flushed 32 t = ((cfg0.win 32).blk t).view.read (Elt F) (Vat m c G32) := by
  show (cfg0.win 32).cut (grid0.coords t) ((dats m 0 c).after 32 t) = _
  rw [after0_32, out32_eq, blocks_eq m c t G32]
  exact cut32_eq t _
theorem covered32 (i : S25x512x768.Idx) :
    ∃ t : Fin cfg0.N, (cfg0.win 32).flush t = true ∧ i ∈ ((cfg0.win 32).blk t).view.set :=
  ⟨(⟨0, by decide⟩ : Fin cfg0.N), flush0_32 _, by have h := ((cfg0.win 32).blk (⟨0, by decide⟩ : Fin cfg0.N)).view.emb_mem_set i; rwa [emb32] at h⟩
/-- Output array 12 after the run. -/
theorem final32 (c : Dev nD) : (dats m 0 c).arrAt 32 cfg0.N = Iat m c G32 :=
  ((dats m 0 c).arrAt_eq_of_cover 32 (Vat m c G32) (fun t _ => flushed32_eq m c t) covered32).trans rfl

theorem cut33_eq (t : Fin cfg0.N) (X : Vec F S25x512 .f32) :
    (cfg0.win 33).cut (grid0.coords t) X = ((cfg0.win 33).blk t).view.read (Elt F) X := by
  funext j
  show X j = X (((cfg0.win 33).blk t).view.emb j)
  rw [emb33]
theorem flushed33_eq (c : Dev nD) (t : Fin cfg0.N) :
    (dats m 0 c).flushed 33 t = ((cfg0.win 33).blk t).view.read (Elt F) (Vat m c G33) := by
  show (cfg0.win 33).cut (grid0.coords t) ((dats m 0 c).after 33 t) = _
  rw [after0_33, out33_eq, blocks_eq m c t G33]
  exact cut33_eq t _
theorem covered33 (i : S25x512.Idx) :
    ∃ t : Fin cfg0.N, (cfg0.win 33).flush t = true ∧ i ∈ ((cfg0.win 33).blk t).view.set :=
  ⟨(⟨0, by decide⟩ : Fin cfg0.N), flush0_33 _, by have h := ((cfg0.win 33).blk (⟨0, by decide⟩ : Fin cfg0.N)).view.emb_mem_set i; rwa [emb33] at h⟩
/-- Output array 13 after the run. -/
theorem final33 (c : Dev nD) : (dats m 0 c).arrAt 33 cfg0.N = Iat m c G33 :=
  ((dats m 0 c).arrAt_eq_of_cover 33 (Vat m c G33) (fun t _ => flushed33_eq m c t) covered33).trans rfl

theorem cut34_eq (t : Fin cfg0.N) (X : Vec F S25x512x1536 .fp8e4m3) :
    (cfg0.win 34).cut (grid0.coords t) X = ((cfg0.win 34).blk t).view.read (Elt F) X := by
  funext j
  show X j = X (((cfg0.win 34).blk t).view.emb j)
  rw [emb34]
theorem flushed34_eq (c : Dev nD) (t : Fin cfg0.N) :
    (dats m 0 c).flushed 34 t = ((cfg0.win 34).blk t).view.read (Elt F) (Vat m c G34) := by
  show (cfg0.win 34).cut (grid0.coords t) ((dats m 0 c).after 34 t) = _
  rw [after0_34, out34_eq, blocks_eq m c t G34]
  exact cut34_eq t _
theorem covered34 (i : S25x512x1536.Idx) :
    ∃ t : Fin cfg0.N, (cfg0.win 34).flush t = true ∧ i ∈ ((cfg0.win 34).blk t).view.set :=
  ⟨(⟨0, by decide⟩ : Fin cfg0.N), flush0_34 _, by have h := ((cfg0.win 34).blk (⟨0, by decide⟩ : Fin cfg0.N)).view.emb_mem_set i; rwa [emb34] at h⟩
/-- Output array 14 after the run. -/
theorem final34 (c : Dev nD) : (dats m 0 c).arrAt 34 cfg0.N = Iat m c G34 :=
  ((dats m 0 c).arrAt_eq_of_cover 34 (Vat m c G34) (fun t _ => flushed34_eq m c t) covered34).trans rfl

theorem cut35_eq (t : Fin cfg0.N) (X : Vec F S25x512 .f32) :
    (cfg0.win 35).cut (grid0.coords t) X = ((cfg0.win 35).blk t).view.read (Elt F) X := by
  funext j
  show X j = X (((cfg0.win 35).blk t).view.emb j)
  rw [emb35]
theorem flushed35_eq (c : Dev nD) (t : Fin cfg0.N) :
    (dats m 0 c).flushed 35 t = ((cfg0.win 35).blk t).view.read (Elt F) (Vat m c G35) := by
  show (cfg0.win 35).cut (grid0.coords t) ((dats m 0 c).after 35 t) = _
  rw [after0_35, out35_eq, blocks_eq m c t G35]
  exact cut35_eq t _
theorem covered35 (i : S25x512.Idx) :
    ∃ t : Fin cfg0.N, (cfg0.win 35).flush t = true ∧ i ∈ ((cfg0.win 35).blk t).view.set :=
  ⟨(⟨0, by decide⟩ : Fin cfg0.N), flush0_35 _, by have h := ((cfg0.win 35).blk (⟨0, by decide⟩ : Fin cfg0.N)).view.emb_mem_set i; rwa [emb35] at h⟩
/-- Output array 15 after the run. -/
theorem final35 (c : Dev nD) : (dats m 0 c).arrAt 35 cfg0.N = Iat m c G35 :=
  ((dats m 0 c).arrAt_eq_of_cover 35 (Vat m c G35) (fun t _ => flushed35_eq m c t) covered35).trans rfl

/-! ## The run, read -/

set_option maxHeartbeats 1089040 in
/-- The frame run re-posted: each output array at its function of the arguments, the arguments unchanged. -/
theorem run : θ_run defs (onTc (τ := τ) (main (F := F))) ⟨m, fun _ => 0, ρ⟩ fun r => ∀ c : Dev nD,
      r.2.mem ((c : Thread nD τ).loc main_v0_0) = Iat m c G20
      ∧ r.2.mem ((c : Thread nD τ).loc main_v0_1) = Iat m c G21
      ∧ r.2.mem ((c : Thread nD τ).loc main_v0_2) = Iat m c G22
      ∧ r.2.mem ((c : Thread nD τ).loc main_v0_3) = Iat m c G23
      ∧ r.2.mem ((c : Thread nD τ).loc main_v0_4) = Iat m c G24
      ∧ r.2.mem ((c : Thread nD τ).loc main_v0_5) = Iat m c G25
      ∧ r.2.mem ((c : Thread nD τ).loc main_v0_6) = Iat m c G26
      ∧ r.2.mem ((c : Thread nD τ).loc main_v0_7) = Iat m c G27
      ∧ r.2.mem ((c : Thread nD τ).loc main_v0_8) = Iat m c G28
      ∧ r.2.mem ((c : Thread nD τ).loc main_v0_9) = Iat m c G29
      ∧ r.2.mem ((c : Thread nD τ).loc main_v0_10) = Iat m c G30
      ∧ r.2.mem ((c : Thread nD τ).loc main_v0_11) = Iat m c G31
      ∧ r.2.mem ((c : Thread nD τ).loc main_v0_12) = Iat m c G32
      ∧ r.2.mem ((c : Thread nD τ).loc main_v0_13) = Iat m c G33
      ∧ r.2.mem ((c : Thread nD τ).loc main_v0_14) = Iat m c G34
      ∧ r.2.mem ((c : Thread nD τ).loc main_v0_15) = Iat m c G35
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19) :=
  (θ_run defs _ _).mono (fun r h c => ⟨((h c).1 20).trans (final20 m c),
      ((h c).1 21).trans (final21 m c),
      ((h c).1 22).trans (final22 m c),
      ((h c).1 23).trans (final23 m c),
      ((h c).1 24).trans (final24 m c),
      ((h c).1 25).trans (final25 m c),
      ((h c).1 26).trans (final26 m c),
      ((h c).1 27).trans (final27 m c),
      ((h c).1 28).trans (final28 m c),
      ((h c).1 29).trans (final29 m c),
      ((h c).1 30).trans (final30 m c),
      ((h c).1 31).trans (final31 m c),
      ((h c).1 32).trans (final32 m c),
      ((h c).1 33).trans (final33 m c),
      ((h c).1 34).trans (final34 m c),
      ((h c).1 35).trans (final35 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      ((h c).1 8).trans (((dats m 0 c).arrAt_in 8 rfl _).trans ((A_eq m c 8).trans (V_main_arg8 m c))),
      ((h c).1 9).trans (((dats m 0 c).arrAt_in 9 rfl _).trans ((A_eq m c 9).trans (V_main_arg9 m c))),
      ((h c).1 10).trans (((dats m 0 c).arrAt_in 10 rfl _).trans ((A_eq m c 10).trans (V_main_arg10 m c))),
      ((h c).1 11).trans (((dats m 0 c).arrAt_in 11 rfl _).trans ((A_eq m c 11).trans (V_main_arg11 m c))),
      ((h c).1 12).trans (((dats m 0 c).arrAt_in 12 rfl _).trans ((A_eq m c 12).trans (V_main_arg12 m c))),
      ((h c).1 13).trans (((dats m 0 c).arrAt_in 13 rfl _).trans ((A_eq m c 13).trans (V_main_arg13 m c))),
      ((h c).1 14).trans (((dats m 0 c).arrAt_in 14 rfl _).trans ((A_eq m c 14).trans (V_main_arg14 m c))),
      ((h c).1 15).trans (((dats m 0 c).arrAt_in 15 rfl _).trans ((A_eq m c 15).trans (V_main_arg15 m c))),
      ((h c).1 16).trans (((dats m 0 c).arrAt_in 16 rfl _).trans ((A_eq m c 16).trans (V_main_arg16 m c))),
      ((h c).1 17).trans (((dats m 0 c).arrAt_in 17 rfl _).trans ((A_eq m c 17).trans (V_main_arg17 m c))),
      ((h c).1 18).trans (((dats m 0 c).arrAt_in 18 rfl _).trans ((A_eq m c 18).trans (V_main_arg18 m c))),
      ((h c).1 19).trans (((dats m 0 c).arrAt_in 19 rfl _).trans ((A_eq m c 19).trans (V_main_arg19 m c)))⟩)
    (run_main m ρ)

end Cert.ReferenceIdeal.Value

end
-- ==== Proof.RefTab.lean ====
/- Tables of the rows of the whole batch. -/
module

public import proofs.«01_k».proof.Proof.RefValue
public import proofs.«01_k».proof.Proof.Args
public import Idealize.ShloMosaic.Lib.Pipeline.ValueKit.Tiles
public import Idealize.ShloMosaic.Lib.Pointwise

@[expose] public section

set_option maxRecDepth 16384
set_option maxHeartbeats 4000000

noncomputable section

namespace Cert.ReferenceIdeal.Value

open Idealize.ShloMosaic Cert.ReferenceIdeal Cert.ReferenceIdeal.Gen Cert.Spec

/-- The batch entry of a row. -/
def rb (R : Fin 12800) : Fin 25 := ⟨R.val / 512, by omega⟩
/-- The token of a row. -/
def rn (R : Fin 12800) : Fin 512 := ⟨R.val % 512, by omega⟩
theorem rb_mk (b : Fin 25) (n : Fin 512) (h : b.val * 512 + n.val < 12800) : rb ⟨b.val * 512 + n.val, h⟩ = b := Fin.ext (by simp only [rb]; omega)
theorem rn_mk (b : Fin 25) (n : Fin 512) (h : b.val * 512 + n.val < 12800) : rn ⟨b.val * 512 + n.val, h⟩ = n := Fin.ext (by simp only [rn]; omega)

/-- The layer's arrays at a batch entry. -/
def dd : Of Ideal (Fin 25 → D) := fun a0 a1 a2 a3 a4 a5 a6 a7 a8 a9 a10 a11 a12 a13 a14 a15 a16 a17 a18 a19 => D.ofArgs a0 a1 a2 a3 a4 a5 a6 a7 a8 a9 a10 a11 a12 a13 a14 a15 a16 a17 a18 a19

theorem eps_pos : (0 : EReal) < Ideal.ofBits FTy.f32 925353388#32 := by
  rw [Ideal.ofBits]
  simp [Ideal.ieee]
  norm_cast
  positivity
theorem n384_eq : n384 = ((384 : ℝ) : EReal) := by
  rw [n384, Ideal.ofBits]
  simp [Ideal.ieee]
  rw [← EReal.coe_mul]
  norm_num
theorem n768_eq : n768 = ((768 : ℝ) : EReal) := by
  rw [n768, Ideal.ofBits]
  simp [Ideal.ieee]
  rw [← EReal.coe_mul]
  norm_num
/-- A quotient by a root is the product with the reciprocal root. -/
theorem div_sqrt (x y : EReal) (h : 0 < y) : Ideal.div x (Ideal.sqrt y) = x * Ideal.rsqrt y := by
  induction y with
  | bot => exact absurd h (by simp)
  | top => rw [Ideal.div, if_neg (by rw [Ideal.sqrt_top]; exact EReal.top_ne_zero)]; simp
  | coe r =>
    have hr : 0 < r := by exact_mod_cast h
    rw [Ideal.sqrt_coe, if_neg hr.not_gt, Ideal.rsqrt_coe, if_neg hr.not_gt, if_neg hr.ne', Ideal.div_coe (Real.sqrt_pos.mpr hr).ne', one_div]
theorem sq_nonneg' (x : EReal) : 0 ≤ x * x := by
  rcases le_total 0 x with h | h
  · exact mul_nonneg h h
  · have := mul_nonneg (EReal.neg_nonneg.mpr h) (EReal.neg_nonneg.mpr h)
    rwa [neg_mul_neg] at this
/-- A mean of squares plus the small constant is positive. -/
theorem var_pos {n : ℕ} (N : ℝ) (hN : 0 < N) (f : Fin n → EReal) : 0 < Ideal.div (∑ x, f x * f x) (N : EReal) + Ideal.ofBits FTy.f32 925353388#32 := by
  rw [Ideal.div_coe hN.ne']
  refine lt_of_lt_of_le eps_pos (le_add_of_nonneg_left (mul_nonneg (Finset.sum_nonneg fun x _ => sq_nonneg' _) ?_))
  exact_mod_cast (one_div_pos.mpr hN).le
/-- A row, centred and divided by the root of its variance. -/
def lnd {n : ℕ} (N : EReal) (f : Fin n → EReal) (l : Fin n) : EReal :=
  Ideal.div (f l - Ideal.div (∑ x, f x) N) (Ideal.sqrt (Ideal.div (∑ x, (f x - Ideal.div (∑ x, f x) N) * (f x - Ideal.div (∑ x, f x) N)) N + Ideal.ofBits FTy.f32 925353388#32))
theorem lnd_384 {n : ℕ} (f : Fin n → EReal) (l : Fin n) : lnd n384 f l = lnr n384 f l :=
  div_sqrt _ _ (by rw [n384_eq]; exact var_pos 384 (by norm_num) _)
theorem lnd_768 {n : ℕ} (f : Fin n → EReal) (l : Fin n) : lnd n768 f l = lnr n768 f l :=
  div_sqrt _ _ (by rw [n768_eq]; exact var_pos 768 (by norm_num) _)

theorem ldw2 {A B : ℕ} {e : EltTy} (X : (⟨2, ![A, B]⟩ : Shape).Idx → Elt Ideal e) (inb) : View.ld X (Rect.unit (s := ⟨2, ![A, B]⟩) ![0, 0] ![A, B] inb) = X :=
  funext fun i => View.ld_unit_apply_of X _ _ _ _ _ fun a => by fin_cases a <;> exact (Nat.zero_add _).symm
theorem ldw3 {A B C : ℕ} {e : EltTy} (X : (⟨3, ![A, B, C]⟩ : Shape).Idx → Elt Ideal e) (inb) : View.ld X (Rect.unit (s := ⟨3, ![A, B, C]⟩) ![0, 0, 0] ![A, B, C] inb) = X :=
  funext fun i => View.ld_unit_apply_of X _ _ _ _ _ fun a => by fin_cases a <;> exact (Nat.zero_add _).symm
/-- A band of rows of an array. -/
theorem ldb2 {A B C : ℕ} {e : EltTy} (X : (⟨2, ![A, B]⟩ : Shape).Idx → Elt Ideal e) (p : ℕ) (inb) (h : p + C ≤ A) :
    View.ld X (Rect.unit (s := ⟨2, ![A, B]⟩) ![p, 0] ![C, B] inb) = tab2 (a := C) (b := B) fun r l => X (ix2 (sh p h r) l) :=
  funext fun i => View.ld_unit_apply_of X _ _ _ _ _ fun a => by fin_cases a; rfl; exact (Nat.zero_add _).symm
/-- A plane of an array. -/
theorem ldb3 {A B C : ℕ} {e : EltTy} (X : (⟨3, ![A, B, C]⟩ : Shape).Idx → Elt Ideal e) (p : ℕ) (inb) (h : p < A) :
    View.ld X (Rect.unit (s := ⟨3, ![A, B, C]⟩) ![p, 0, 0] ![1, B, C] inb) = row3 fun r l => X (ix3 ⟨p, h⟩ r l) :=
  funext fun i => View.ld_unit_apply_of X _ _ _ _ _ fun a => by
    fin_cases a
    · have : (i 0).val < 1 := (i 0).isLt
      show p = p + (i 0).val; omega
    · exact (Nat.zero_add _).symm
    · exact (Nat.zero_add _).symm

/-- A table with one last column. -/
def col3 {a b : ℕ} (f : Fin a → Fin b → EReal) : (⟨3, ![a, b, 1]⟩ : Shape).Idx → EReal := fun j => f (j 0) (j 1)
theorem eq_col3 {a b : ℕ} (X : (⟨3, ![a, b, 1]⟩ : Shape).Idx → EReal) (f : Fin a → Fin b → EReal) (h : ∀ r l, X (ix3 r l 0) = f r l) : X = col3 f :=
  funext fun j => (congrArg X ((eta3 j).trans (congrArg (fun z : Fin 1 => ix3 (j 0) (j 1) z) (Subsingleton.elim (α := Fin 1) _ _)))).trans (h _ _)
theorem un2 (f : Fin 25 → Fin 512 → EReal) (h : ∀ (b : Fin 25) (n : Fin 512), b.val * 512 + n.val < 12800) :
    tab2 (fun b n => f (rb ⟨b.val * 512 + n.val, h b n⟩) (rn ⟨b.val * 512 + n.val, h b n⟩)) = all2 f := by
  refine congrArg tab2 (funext fun b => funext fun n => ?_)
  rw [rb_mk, rn_mk]
theorem un3 {k : ℕ} (f : Fin 25 → Fin 512 → Fin k → EReal) (h : ∀ (b : Fin 25) (n : Fin 512), b.val * 512 + n.val < 12800) :
    tab3 (fun b n l => f (rb ⟨b.val * 512 + n.val, h b n⟩) (rn ⟨b.val * 512 + n.val, h b n⟩) l) = all3 f := by
  refine congrArg tab3 (funext fun b => funext fun n => ?_)
  rw [rb_mk, rn_mk]
theorem un3' {k : ℕ} (f : Fin 25 → Fin k → Fin 512 → EReal) (h : ∀ (b : Fin 25) (n : Fin 512), b.val * 512 + n.val < 12800) :
    tab3 (fun b l n => f (rb ⟨b.val * 512 + n.val, h b n⟩) l (rn ⟨b.val * 512 + n.val, h b n⟩)) = all3 f := by
  refine congrArg tab3 (funext fun b => funext fun l => funext fun n => ?_)
  rw [rb_mk, rn_mk]
theorem un4 {k l : ℕ} (f : Fin 25 → Fin k → Fin l → Fin 512 → EReal) (h : ∀ (b : Fin 25) (n : Fin 512), b.val * 512 + n.val < 12800) :
    all4 (fun b i j n => f (rb ⟨b.val * 512 + n.val, h b n⟩) i j (rn ⟨b.val * 512 + n.val, h b n⟩)) = all4 f := by
  refine congrArg all4 (funext fun b => funext fun i => funext fun j => funext fun n => ?_)
  rw [rb_mk, rn_mk]
/-- An array of four axes given at its coordinates. -/
theorem eq_all4 {a b c d : ℕ} (X : (⟨4, ![a, b, c, d]⟩ : Shape).Idx → EReal) (f : Fin a → Fin b → Fin c → Fin d → EReal) (h : ∀ r l e n, X (ix4 r l e n) = f r l e n) : X = all4 f :=
  funext fun j => (congrArg X (eta4 j)).trans (h _ _ _ _)
/-- The row of a token of a batch entry. -/
theorem row_lt (b : Fin 25) (n : Fin 512) : b.val * 512 + n.val < 12800 := by omega

end Cert.ReferenceIdeal.Value

end
-- ==== Proof.RefPayA.lean ====
/- The reference's quantiser and projections, on tables of rows. -/
module

public import proofs.«01_k».proof.Proof.RefTab

@[expose] public section

set_option maxRecDepth 16384
set_option maxHeartbeats 4000000

noncomputable section

namespace Cert.ReferenceIdeal.Value

open Idealize.ShloMosaic Cert.ReferenceIdeal Cert.ReferenceIdeal.Gen Cert.Spec

/-- Scales from greatest absolute values. -/
theorem sel2 (m : Fin 12800 → EReal) : select (cmpf (F := Ideal) (φ := .f32) .oeq (col2 m) (broadcast S12800x1 (Scalar.ofBits (F := Ideal) .f32 0x00000000#32))) (broadcast S12800x1 (Scalar.ofBits (F := Ideal) .f32 0x3F800000#32))
      (divf (F := Ideal) (φ := .f32) (col2 m) (broadcast S12800x1 (Scalar.ofBits (F := Ideal) .f32 0x43E00000#32))) = col2 fun R => scl (m R) := by
  refine eq_col2 _ _ fun r => ?_
  pointwise []
  rfl
/-- Scales from greatest absolute values, by head. -/
theorem sel3 (m : Fin 12800 → Fin 16 → EReal) : select (cmpf (F := Ideal) (φ := .f32) .oeq (col3 m) (broadcast S12800x16x1 (Scalar.ofBits (F := Ideal) .f32 0x00000000#32))) (broadcast S12800x16x1 (Scalar.ofBits (F := Ideal) .f32 0x3F800000#32))
      (divf (F := Ideal) (φ := .f32) (col3 m) (broadcast S12800x16x1 (Scalar.ofBits (F := Ideal) .f32 0x43E00000#32))) = col3 fun R h => scl (m R h) := by
  refine eq_col3 _ _ fun r l => ?_
  pointwise []
  rfl
/-- Greatest absolute values of rows. -/
theorem mx2 (f : Fin 12800 → Fin 768 → EReal) : shapeCast S12800x1 (multiReduction .maximumf [1] S12800 (absf (F := Ideal) (φ := .f32) (tab2 f)) 0xFF800000#32 reduces_S12800x768_S12800 (.inl rfl) rfl) shapeCasts_S12800_S12800x1 = col2 fun R => amax (f R) := by
  refine eq_col2 _ _ fun r => ?_
  pointwise []
  rfl
/-- Greatest absolute values of rows, by head. -/
theorem mx3 (f : Fin 12800 → Fin 16 → Fin 48 → EReal) : shapeCast S12800x16x1 (multiReduction .maximumf [2] S12800x16 (absf (F := Ideal) (φ := .f32) (tab3 f)) 0xFF800000#32 reduces_S12800x16x48_S12800x16 (.inl rfl) rfl) shapeCasts_S12800x16_S12800x16x1 = col3 fun R h => amax (f R h) := by
  refine eq_col3 _ _ fun r l => ?_
  pointwise []
  rfl

/-- Scales of rows. -/
theorem s13 {v27 v33 v38 c v45} {f : Fin 12800 → Fin 768 → EReal} (h : k0_pay12 (F := Ideal) v27 v33 v38 c v45 = tab2 f) : k0_pay13 (F := Ideal) v27 v33 v38 c v45 = col2 (a := 12800) fun R => scl (amax (f R)) := by
  have e : k0_pay13 (F := Ideal) v27 v33 v38 c v45 = select (cmpf .oeq (shapeCast S12800x1 (multiReduction .maximumf [1] S12800 (absf (k0_pay12 (F := Ideal) v27 v33 v38 c v45)) 0xFF800000#32 reduces_S12800x768_S12800 (.inl rfl) rfl) shapeCasts_S12800_S12800x1) (broadcast S12800x1 (Scalar.ofBits (F := Ideal) .f32 0x00000000#32))) (broadcast S12800x1 (Scalar.ofBits (F := Ideal) .f32 0x3F800000#32)) (divf (shapeCast S12800x1 (multiReduction .maximumf [1] S12800 (absf (k0_pay12 (F := Ideal) v27 v33 v38 c v45)) 0xFF800000#32 reduces_S12800x768_S12800 (.inl rfl) rfl) shapeCasts_S12800_S12800x1) (broadcast S12800x1 (Scalar.ofBits (F := Ideal) .f32 0x43E00000#32))) := rfl
  rw [e, h, mx2, sel2]

/-- Codes of rows. -/
theorem s14 {v27 v33 v38 c v45} {f : Fin 12800 → Fin 768 → EReal} {g : Fin 12800 → EReal} (h : k0_pay12 (F := Ideal) v27 v33 v38 c v45 = tab2 f) (h3 : k0_pay13 (F := Ideal) v27 v33 v38 c v45 = col2 g) : k0_pay14 (F := Ideal) v27 v33 v38 c v45 = tab2 (a := 12800) (b := 768) fun R l => cod (f R l) (g R) := by
  unfold k0_pay14
  rw [h3, h]
  refine eq_tab2 _ _ fun r l => ?_
  pointwise []
  rfl

/-- Codes, by batch entry. -/
theorem s15 {v27 v33 v38 c v45} {f : Fin 12800 → Fin 768 → EReal} (h : k0_pay14 (F := Ideal) v27 v33 v38 c v45 = tab2 f) : k0_pay15 (F := Ideal) v27 v33 v38 c v45 = tab3 (a := 25) (b := 512) (d := 768) fun b n l => f ⟨b.val * 512 + n.val, row_lt b n⟩ l := by
  unfold k0_pay15
  rw [h]
  refine eq_tab3 _ _ fun r l e => ?_
  pointwise []
  rfl

/-- Scales, by batch entry. -/
theorem s16 {v27 v33 v38 c v45} {g : Fin 12800 → EReal} (h : k0_pay13 (F := Ideal) v27 v33 v38 c v45 = col2 g) : k0_pay16 (F := Ideal) v27 v33 v38 c v45 = tab2 (a := 25) (b := 512) fun b n => g ⟨b.val * 512 + n.val, row_lt b n⟩ := by
  unfold k0_pay16
  rw [h]
  refine eq_tab2 _ _ fun r l => ?_
  pointwise []
  rfl

/-- A projection, times the scales of the rows. -/
theorem s17 {v27 v33 v38 k v45} {c : Fin 12800 → Fin 768 → EReal} {g : Fin 12800 → EReal} (h4 : k0_pay14 (F := Ideal) v27 v33 v38 k v45 = tab2 c) (h3 : k0_pay13 (F := Ideal) v27 v33 v38 k v45 = col2 g) (w : Vec Ideal S768x768 .fp8e4m3) : k0_pay17 (F := Ideal) v27 v33 v38 k v45 w = tab3 (a := 12800) (b := 16) (d := 48) fun R h r => (∑ x, c R x * w (ix2 (hrow h r) x)) * g R := by
  unfold k0_pay17
  rw [h4, h3]
  refine eq_tab3 _ _ fun r l e => ?_
  pointwise []
  rfl

/-- The queries. -/
theorem s18 (p : Fin 12800 → Fin 16 → Fin 48 → EReal) (q : Fin 16 → Fin 48 → EReal) (b : Vec Ideal S16x48 .f32) : k0_pay18 (F := Ideal) (tab3 p) (row3 q) b = tab3 (a := 12800) (b := 16) (d := 48) fun R h r => p R h r * q h r + b (ix2 h r) := by
  unfold k0_pay18
  refine eq_tab3 _ _ fun r l e => ?_
  pointwise []
  rfl

/-- The query scales. -/
theorem s19 {x y z} {f : Fin 12800 → Fin 16 → Fin 48 → EReal} (h : k0_pay18 (F := Ideal) x y z = tab3 f) : k0_pay19 (F := Ideal) x y z = col3 (a := 12800) (b := 16) fun R h => scl (amax (f R h)) := by
  have e : k0_pay19 (F := Ideal) x y z = select (cmpf .oeq (shapeCast S12800x16x1 (multiReduction .maximumf [2] S12800x16 (absf (k0_pay18 (F := Ideal) x y z)) 0xFF800000#32 reduces_S12800x16x48_S12800x16 (.inl rfl) rfl) shapeCasts_S12800x16_S12800x16x1) (broadcast S12800x16x1 (Scalar.ofBits (F := Ideal) .f32 0x00000000#32))) (broadcast S12800x16x1 (Scalar.ofBits (F := Ideal) .f32 0x3F800000#32)) (divf (shapeCast S12800x16x1 (multiReduction .maximumf [2] S12800x16 (absf (k0_pay18 (F := Ideal) x y z)) 0xFF800000#32 reduces_S12800x16x48_S12800x16 (.inl rfl) rfl) shapeCasts_S12800x16_S12800x16x1) (broadcast S12800x16x1 (Scalar.ofBits (F := Ideal) .f32 0x43E00000#32))) := rfl
  rw [e, h, mx3, sel3]

/-- The query codes. -/
theorem s20 {x y z} {f : Fin 12800 → Fin 16 → Fin 48 → EReal} {g : Fin 12800 → Fin 16 → EReal} (h : k0_pay18 (F := Ideal) x y z = tab3 f) (h9 : k0_pay19 (F := Ideal) x y z = col3 g) : k0_pay20 (F := Ideal) x y z = tab3 (a := 12800) (b := 16) (d := 48) fun R h r => cod (f R h r) (g R h) := by
  unfold k0_pay20
  rw [h9, h]
  refine eq_tab3 _ _ fun r l e => ?_
  pointwise []
  rfl

/-- The keys. -/
theorem s21 (c : Fin 12800 → Fin 768 → EReal) (g : Fin 12800 → EReal) (w : Vec Ideal S768x768 .fp8e4m3) (q : Fin 16 → Fin 48 → EReal) : k0_pay21 (F := Ideal) (col2 g) (tab2 c) w (row3 q) = tab3 (a := 12800) (b := 16) (d := 48) fun R h r => (∑ x, c R x * w (ix2 (hrow h r) x)) * g R * q h r := by
  unfold k0_pay21
  refine eq_tab3 _ _ fun r l e => ?_
  pointwise []
  rfl

/-- The values. -/
theorem s28 (c : Fin 12800 → Fin 768 → EReal) (g : Fin 12800 → EReal) (w : Vec Ideal S768x768 .fp8e4m3) (q : Fin 16 → Fin 48 → EReal) : k0_pay28 (F := Ideal) (col2 g) (tab2 c) w (row3 q) = tab3 (a := 12800) (b := 16) (d := 48) fun R h r => (∑ x, c R x * w (ix2 (hrow h r) x)) * g R * q h r := by
  unfold k0_pay28
  refine eq_tab3 _ _ fun r l e => ?_
  pointwise []
  rfl

/-- The greatest absolute keys. -/
theorem s22 {x y z u} {f : Fin 12800 → Fin 16 → Fin 48 → EReal} (h : k0_pay21 (F := Ideal) x y z u = tab3 f) : k0_pay22 (F := Ideal) x y z u = col3 (a := 12800) (b := 16) fun R h => amax (f R h) := by
  unfold k0_pay22
  rw [h]
  refine eq_col3 _ _ fun r l => ?_
  pointwise []
  rfl

/-- The key scales. -/
theorem s26 {x y z u} {f : Fin 12800 → Fin 16 → Fin 48 → EReal} (h : k0_pay22 (F := Ideal) x y z u = col3 fun R h => amax (f R h)) : k0_pay26 (F := Ideal) (k0_pay23 (F := Ideal) x y z u) (k0_pay24 x y z u) k0_pay25 = col3 (a := 12800) (b := 16) fun R h => scl (amax (f R h)) := by
  unfold k0_pay26 k0_pay23 k0_pay24 k0_pay25
  rw [h]
  refine eq_col3 _ _ fun r l => ?_
  pointwise []
  rfl

/-- The key codes. -/
theorem s27 {x y z} {f : Fin 12800 → Fin 16 → Fin 48 → EReal} {g : Fin 12800 → Fin 16 → EReal} (h : k0_pay26 (F := Ideal) x y z = col3 g) : k0_pay27 (F := Ideal) (tab3 f) x y z = tab3 (a := 12800) (b := 16) (d := 48) fun R h r => cod (f R h r) (g R h) := by
  unfold k0_pay27
  rw [h]
  refine eq_tab3 _ _ fun r l e => ?_
  pointwise []
  rfl

/-- The value scales. -/
theorem s29 {x y z u} {f : Fin 12800 → Fin 16 → Fin 48 → EReal} (h : k0_pay28 (F := Ideal) x y z u = tab3 f) : k0_pay29 (F := Ideal) x y z u = col3 (a := 12800) (b := 16) fun R h => scl (amax (f R h)) := by
  have e : k0_pay29 (F := Ideal) x y z u = select (cmpf .oeq (shapeCast S12800x16x1 (multiReduction .maximumf [2] S12800x16 (absf (k0_pay28 (F := Ideal) x y z u)) 0xFF800000#32 reduces_S12800x16x48_S12800x16 (.inl rfl) rfl) shapeCasts_S12800x16_S12800x16x1) (broadcast S12800x16x1 (Scalar.ofBits (F := Ideal) .f32 0x00000000#32))) (broadcast S12800x16x1 (Scalar.ofBits (F := Ideal) .f32 0x3F800000#32)) (divf (shapeCast S12800x16x1 (multiReduction .maximumf [2] S12800x16 (absf (k0_pay28 (F := Ideal) x y z u)) 0xFF800000#32 reduces_S12800x16x48_S12800x16 (.inl rfl) rfl) shapeCasts_S12800x16_S12800x16x1) (broadcast S12800x16x1 (Scalar.ofBits (F := Ideal) .f32 0x43E00000#32))) := rfl
  rw [e, h, mx3, sel3]

/-- The value codes. -/
theorem s30 {x y z u} {f : Fin 12800 → Fin 16 → Fin 48 → EReal} {g : Fin 12800 → Fin 16 → EReal} (h : k0_pay28 (F := Ideal) x y z u = tab3 f) (h9 : k0_pay29 (F := Ideal) x y z u = col3 g) : k0_pay30 (F := Ideal) x y z u = tab3 (a := 12800) (b := 16) (d := 48) fun R h r => cod (f R h r) (g R h) := by
  unfold k0_pay30
  rw [h9, h]
  refine eq_tab3 _ _ fun r l e => ?_
  pointwise []
  rfl

/-- The gate projection. -/
theorem s31 (c : Fin 12800 → Fin 768 → EReal) (g : Fin 12800 → EReal) (w : Vec Ideal S768x768 .fp8e4m3) : k0_pay31 (F := Ideal) (col2 g) (tab2 c) w = tab3 (a := 12800) (b := 16) (d := 48) fun R h r => (∑ x, c R x * w (ix2 (hrow h r) x)) * g R := by
  unfold k0_pay31
  refine eq_tab3 _ _ fun r l e => ?_
  pointwise []
  rfl

/-- The gate. -/
theorem s32 (p : Fin 12800 → Fin 16 → Fin 48 → EReal) (q : Fin 16 → Fin 48 → EReal) : k0_pay32 (F := Ideal) (tab3 p) (row3 q) = tab3 (a := 12800) (b := 16) (d := 48) fun R h r => Ideal.logistic (p R h r * q h r) := by
  unfold k0_pay32
  refine eq_tab3 _ _ fun r l e => ?_
  pointwise []
  rfl

/-- Codes, by batch entry, head and channel. -/
theorem s33 (f : Fin 12800 → Fin 16 → Fin 48 → EReal) : k0_pay33 (F := Ideal) (tab3 f) = all4  fun b h r n => f ⟨b.val * 512 + n.val, row_lt b n⟩ h r := by
  refine eq_all4 _ _ fun r l e n => ?_
  pointwise [k0_pay33]
  rfl

/-- Codes, by batch entry, head and channel. -/
theorem s35 (f : Fin 12800 → Fin 16 → Fin 48 → EReal) : k0_pay35 (F := Ideal) (tab3 f) = all4  fun b h r n => f ⟨b.val * 512 + n.val, row_lt b n⟩ h r := by
  refine eq_all4 _ _ fun r l e n => ?_
  pointwise [k0_pay35]
  rfl

/-- Codes, by batch entry, head and channel. -/
theorem s37 (f : Fin 12800 → Fin 16 → Fin 48 → EReal) : k0_pay37 (F := Ideal) (tab3 f) = all4  fun b h r n => f ⟨b.val * 512 + n.val, row_lt b n⟩ h r := by
  refine eq_all4 _ _ fun r l e n => ?_
  pointwise [k0_pay37]
  rfl

/-- Scales, by batch entry and head. -/
theorem s34 (f : Fin 12800 → Fin 16 → EReal) : k0_pay34 (F := Ideal) (col3 f) = tab3 (a := 25) (b := 16) (d := 512) fun b h n => f ⟨b.val * 512 + n.val, row_lt b n⟩ h := by
  refine eq_tab3 _ _ fun r l e => ?_
  pointwise [k0_pay34]
  rfl

/-- Scales, by batch entry and head. -/
theorem s36 (f : Fin 12800 → Fin 16 → EReal) : k0_pay36 (F := Ideal) (col3 f) = tab3 (a := 25) (b := 16) (d := 512) fun b h n => f ⟨b.val * 512 + n.val, row_lt b n⟩ h := by
  refine eq_tab3 _ _ fun r l e => ?_
  pointwise [k0_pay36]
  rfl

/-- Scales, by batch entry and head. -/
theorem s38 (f : Fin 12800 → Fin 16 → EReal) : k0_pay38 (F := Ideal) (col3 f) = tab3 (a := 25) (b := 16) (d := 512) fun b h n => f ⟨b.val * 512 + n.val, row_lt b n⟩ h := by
  refine eq_tab3 _ _ fun r l e => ?_
  pointwise [k0_pay38]
  rfl

/-- Codes, by batch entry and head at once. -/
theorem s39 (f : Fin 12800 → Fin 16 → Fin 48 → EReal) : k0_pay39 (F := Ideal) (tab3 f) = tab3 (a := 400) (b := 512) (d := 48) fun B n x => f ⟨B.val / 16 * 512 + n.val, by omega⟩ ⟨B.val % 16, by omega⟩ x := by
  refine eq_tab3 _ _ fun r l e => ?_
  pointwise [k0_pay39]
  rfl

/-- Codes, by batch entry and head at once. -/
theorem s40 (f : Fin 12800 → Fin 16 → Fin 48 → EReal) : k0_pay40 (F := Ideal) (tab3 f) = tab3 (a := 400) (b := 416) (d := 48) fun B n x => f ⟨B.val / 16 * 512 + n.val, by omega⟩ ⟨B.val % 16, by omega⟩ x := by
  refine eq_tab3 _ _ fun r l e => ?_
  pointwise [k0_pay40]
  rfl

/-- Codes, by batch entry and head at once. -/
theorem s41 (f : Fin 12800 → Fin 16 → Fin 48 → EReal) : k0_pay41 (F := Ideal) (tab3 f) = tab3 (a := 400) (b := 512) (d := 48) fun B n x => f ⟨B.val / 16 * 512 + n.val, by omega⟩ ⟨B.val % 16, by omega⟩ x := by
  refine eq_tab3 _ _ fun r l e => ?_
  pointwise [k0_pay41]
  rfl

end Cert.ReferenceIdeal.Value

end
-- ==== Proof.RefPayC.lean ====
/- The reference's attention, on tables of rows. -/
module

public import proofs.«01_k».proof.Proof.RefTab

@[expose] public section

set_option maxRecDepth 16384
set_option maxHeartbeats 4000000

noncomputable section

namespace Cert.ReferenceIdeal.Value

open Idealize.ShloMosaic Cert.ReferenceIdeal Cert.ReferenceIdeal.Gen Cert.Spec

theorem tab2_at {α : Type} {a b : ℕ} (f : Fin a → Fin b → α) (i : Fin a) (j : Fin b) : tab2 f (ix2 i j) = f i j := rfl
theorem tab3_at {α : Type} {a b c : ℕ} (f : Fin a → Fin b → Fin c → α) (i : Fin a) (j : Fin b) (k : Fin c) : tab3 f (ix3 i j k) = f i j k := rfl
theorem col3_at {a b : ℕ} (f : Fin a → Fin b → EReal) (i : Fin a) (j : Fin b) (k : Fin 1) : col3 f (ix3 i j k) = f i j := rfl
/-- A scale of each query, along the keys. -/
theorem c_q (f : Fin 12800 → Fin 16 → EReal) : (broadcastTo S400x512x416 (shapeCast S400x512x1 (transpose S25x16x512x1 [0, 2, 1, 3] (shapeCast S25x512x16x1 (col3 f) shapeCasts_S12800x16x1_S25x512x16x1) transposes_S25x512x16x1_p0_2_1_3_S25x16x512x1) shapeCasts_S25x16x512x1_S400x512x1) broadcasts_S400x512x1_S400x512x416) = tab3 (fun (B : Fin 400) (n : Fin 512) (_ : Fin 416) => f ⟨B.val / 16 * 512 + n.val, by omega⟩ ⟨B.val % 16, by omega⟩) := by
  refine eq_tab3 _ _ fun r l e => ?_
  pointwise []
  rfl
/-- A scale of each key, along the queries. -/
theorem c_k (f : Fin 12800 → Fin 16 → EReal) : (broadcastTo S400x512x416 (transpose S400x1x416 [0, 2, 1] (extractStridedSlice S400x416x1 ![0, 0, 0] (shapeCast S400x512x1 (transpose S25x16x512x1 [0, 2, 1, 3] (shapeCast S25x512x16x1 (col3 f) shapeCasts_S12800x16x1_S25x512x16x1) transposes_S25x512x16x1_p0_2_1_3_S25x16x512x1) shapeCasts_S25x16x512x1_S400x512x1) slices_S400x512x1_o0_0_0_S400x416x1) transposes_S400x416x1_p0_2_1_S400x1x416) broadcasts_S400x1x416_S400x512x416) = tab3 (fun (B : Fin 400) (_ : Fin 512) (m : Fin 416) => f ⟨B.val / 16 * 512 + m.val, by omega⟩ ⟨B.val % 16, by omega⟩) := by
  refine eq_tab3 _ _ fun r l e => ?_
  pointwise []
  rfl
/-- The products of queries and keys. -/
theorem c_mm (f : Fin 400 → Fin 512 → Fin 48 → EReal) (g : Fin 400 → Fin 416 → Fin 48 → EReal) : (matmul dot_S400x512x48_S400x416x48_S400x512x416_2_2_1_1_0_0 none (tab3 f : FVec Ideal S400x512x48 .fp8e4m3) (tab3 g : FVec Ideal S400x416x48 .fp8e4m3) (constant (F := Ideal) S400x512x416 .f32 0x00000000#32)) = tab3 (fun (B : Fin 400) (n : Fin 512) (m : Fin 416) => ∑ x, f B n x * g B m x) := by
  refine eq_tab3 _ _ fun r l e => ?_
  pointwise []
  rfl
/-- The scores. -/
theorem c_s (f g k : Fin 400 → Fin 512 → Fin 416 → EReal) (bi : Vec Ideal S16x416x512 .f32) : (shapeCast S400x512x416 (addf (shapeCast S25x16x512x416 (mulf (mulf (mulf (tab3 f : FVec Ideal S400x512x416 .f32) (tab3 g : FVec Ideal S400x512x416 .f32)) (tab3 k : FVec Ideal S400x512x416 .f32)) (broadcast S400x512x416 (Scalar.ofBits (F := Ideal) .f32 0x3E553B95#32))) shapeCasts_S400x512x416_S25x16x512x416) (broadcastTo S25x16x512x416 (shapeCast S1x16x512x416 (transpose S16x512x416 [0, 2, 1] bi transposes_S16x416x512_p0_2_1_S16x512x416) shapeCasts_S16x512x416_S1x16x512x416) broadcasts_S1x16x512x416_S25x16x512x416)) shapeCasts_S25x16x512x416_S400x512x416) = tab3 (fun (B : Fin 400) (n : Fin 512) (m : Fin 416) => f B n m * g B n m * k B n m * sfac + bi (ix3 ⟨B.val % 16, by omega⟩ m n)) := by
  refine eq_tab3 _ _ fun r l e => ?_
  pointwise []
  simp only [Nat.div_add_mod', tab3_at]
  rfl
/-- The greatest scores. -/
theorem c_max (f : Fin 400 → Fin 512 → Fin 416 → EReal) : (shapeCast S400x512x1 (multiReduction .maximumf [2] S400x512 (tab3 f : FVec Ideal S400x512x416 .f32) 0xFF800000#32 reduces_S400x512x416_S400x512 (.inl rfl) rfl) shapeCasts_S400x512_S400x512x1) = col3 (fun (B : Fin 400) (n : Fin 512) => fmax (f B n)) := by
  refine eq_col3 _ _ fun r l => ?_
  pointwise []
  rfl
/-- The sums of the weights. -/
theorem c_sum (f : Fin 400 → Fin 512 → Fin 416 → EReal) : (shapeCast S400x512x1 (multiReduction .add [2] S400x512 (tab3 f : FVec Ideal S400x512x416 .f32) 0x00000000#32 reduces_S400x512x416_S400x512 (.inl rfl) rfl) shapeCasts_S400x512_S400x512x1) = col3 (fun (B : Fin 400) (n : Fin 512) => ∑ m, f B n m) := by
  refine eq_col3 _ _ fun r l => ?_
  pointwise []
  rfl
/-- The weights. -/
theorem c_exp (f : Fin 400 → Fin 512 → Fin 416 → EReal) (g : Fin 400 → Fin 512 → EReal) : (exp2 (subf (tab3 f : FVec Ideal S400x512x416 .f32) (broadcastTo S400x512x416 (ceil (col3 g : FVec Ideal S400x512x1 .f32)) broadcasts_S400x512x1_S400x512x416))) = tab3 (fun (B : Fin 400) (n : Fin 512) (m : Fin 416) => FloatOps.exp2 (F := Ideal) (φ := .f32) (f B n m - Ideal.liftRound Int.ceil (g B n))) := by
  refine eq_tab3 _ _ fun r l e => ?_
  pointwise []
  rfl
/-- The weighted values. -/
theorem c_pv (f g : Fin 400 → Fin 512 → Fin 416 → EReal) (k : Fin 400 → Fin 512 → Fin 48 → EReal) : (matmul dot_S400x512x416_S400x416x48_S400x512x48_2_1_1_2_0_0 none (truncf .bf16 (mulf (tab3 f : FVec Ideal S400x512x416 .f32) (tab3 g : FVec Ideal S400x512x416 .f32)) bitsLt_bf16_f32) (extf .bf16 (extractStridedSlice S400x416x48 ![0, 0, 0] (tab3 k : FVec Ideal S400x512x48 .fp8e4m3) slices_S400x512x48_o0_0_0_S400x416x48) bitsLt_fp8e4m3_bf16) (constant (F := Ideal) S400x512x48 .f32 0x00000000#32)) = tab3 (fun (B : Fin 400) (n : Fin 512) (r : Fin 48) => ∑ m, f B n m * g B n m * k B (lo (by decide) m) r) := by
  refine eq_tab3 _ _ fun r l e => ?_
  pointwise []
  rfl
/-- The gated attention, one row per token. -/
theorem c_fin (f : Fin 400 → Fin 512 → Fin 48 → EReal) (g : Fin 400 → Fin 512 → EReal) (k : Fin 12800 → Fin 16 → Fin 48 → EReal) : shapeCast S12800x768 (mulf (shapeCast S12800x16x48 (transpose S25x512x16x48 [0, 2, 1, 3] (shapeCast S25x16x512x48 (divf (tab3 f : FVec Ideal S400x512x48 .f32) (broadcastTo S400x512x48 (col3 g : FVec Ideal S400x512x1 .f32) broadcasts_S400x512x1_S400x512x48)) shapeCasts_S400x512x48_S25x16x512x48) transposes_S25x16x512x48_p0_2_1_3_S25x512x16x48) shapeCasts_S25x512x16x48_S12800x16x48) (tab3 k : FVec Ideal S12800x16x48 .f32)) shapeCasts_S12800x16x48_S12800x768 = tab2 (fun (R : Fin 12800) (j : Fin 768) => Ideal.div (f ⟨R.val / 512 * 16 + j.val / 48, by omega⟩ (rn R) (hp j)) (g ⟨R.val / 512 * 16 + j.val / 48, by omega⟩ (rn R)) * k R (hd j) (hp j)) := by
  refine eq_tab2 _ _ fun r l => ?_
  pointwise []
  simp only [Nat.div_add_mod', tab3_at, col3_at]
  rfl
/-- The attention, spelt out. -/
theorem c_all (v94 v120 v146 : FVec Ideal S12800x16x1 .f32) (v164 : FVec Ideal S12800x16x48 .f32) (v185 : FVec Ideal S400x512x48 .fp8e4m3) (v189 : FVec Ideal S400x416x48 .fp8e4m3) (v192 : FVec Ideal S400x512x48 .fp8e4m3) (bi : Vec Ideal S16x416x512 .f32) : k0_pay42 (F := Ideal) v94 v120 v146 v164 v185 v189 v192 bi
    = shapeCast S12800x768 (mulf (shapeCast S12800x16x48 (transpose S25x512x16x48 [0, 2, 1, 3] (shapeCast S25x16x512x48 (divf (matmul dot_S400x512x416_S400x416x48_S400x512x48_2_1_1_2_0_0 none (truncf .bf16 (mulf (exp2 (subf (shapeCast S400x512x416 (addf (shapeCast S25x16x512x416 (mulf (mulf (mulf (matmul dot_S400x512x48_S400x416x48_S400x512x416_2_2_1_1_0_0 none v185 v189 (constant (F := Ideal) S400x512x416 .f32 0x00000000#32)) (broadcastTo S400x512x416 (shapeCast S400x512x1 (transpose S25x16x512x1 [0, 2, 1, 3] (shapeCast S25x512x16x1 v94 shapeCasts_S12800x16x1_S25x512x16x1) transposes_S25x512x16x1_p0_2_1_3_S25x16x512x1) shapeCasts_S25x16x512x1_S400x512x1) broadcasts_S400x512x1_S400x512x416)) (broadcastTo S400x512x416 (transpose S400x1x416 [0, 2, 1] (extractStridedSlice S400x416x1 ![0, 0, 0] (shapeCast S400x512x1 (transpose S25x16x512x1 [0, 2, 1, 3] (shapeCast S25x512x16x1 v120 shapeCasts_S12800x16x1_S25x512x16x1) transposes_S25x512x16x1_p0_2_1_3_S25x16x512x1) shapeCasts_S25x16x512x1_S400x512x1) slices_S400x512x1_o0_0_0_S400x416x1) transposes_S400x416x1_p0_2_1_S400x1x416) broadcasts_S400x1x416_S400x512x416)) (broadcast S400x512x416 (Scalar.ofBits (F := Ideal) .f32 0x3E553B95#32))) shapeCasts_S400x512x416_S25x16x512x416) (broadcastTo S25x16x512x416 (shapeCast S1x16x512x416 (transpose S16x512x416 [0, 2, 1] bi transposes_S16x416x512_p0_2_1_S16x512x416) shapeCasts_S16x512x416_S1x16x512x416) broadcasts_S1x16x512x416_S25x16x512x416)) shapeCasts_S25x16x512x416_S400x512x416) (broadcastTo S400x512x416 (ceil (shapeCast S400x512x1 (multiReduction .maximumf [2] S400x512 (shapeCast S400x512x416 (addf (shapeCast S25x16x512x416 (mulf (mulf (mulf (matmul dot_S400x512x48_S400x416x48_S400x512x416_2_2_1_1_0_0 none v185 v189 (constant (F := Ideal) S400x512x416 .f32 0x00000000#32)) (broadcastTo S400x512x416 (shapeCast S400x512x1 (transpose S25x16x512x1 [0, 2, 1, 3] (shapeCast S25x512x16x1 v94 shapeCasts_S12800x16x1_S25x512x16x1) transposes_S25x512x16x1_p0_2_1_3_S25x16x512x1) shapeCasts_S25x16x512x1_S400x512x1) broadcasts_S400x512x1_S400x512x416)) (broadcastTo S400x512x416 (transpose S400x1x416 [0, 2, 1] (extractStridedSlice S400x416x1 ![0, 0, 0] (shapeCast S400x512x1 (transpose S25x16x512x1 [0, 2, 1, 3] (shapeCast S25x512x16x1 v120 shapeCasts_S12800x16x1_S25x512x16x1) transposes_S25x512x16x1_p0_2_1_3_S25x16x512x1) shapeCasts_S25x16x512x1_S400x512x1) slices_S400x512x1_o0_0_0_S400x416x1) transposes_S400x416x1_p0_2_1_S400x1x416) broadcasts_S400x1x416_S400x512x416)) (broadcast S400x512x416 (Scalar.ofBits (F := Ideal) .f32 0x3E553B95#32))) shapeCasts_S400x512x416_S25x16x512x416) (broadcastTo S25x16x512x416 (shapeCast S1x16x512x416 (transpose S16x512x416 [0, 2, 1] bi transposes_S16x416x512_p0_2_1_S16x512x416) shapeCasts_S16x512x416_S1x16x512x416) broadcasts_S1x16x512x416_S25x16x512x416)) shapeCasts_S25x16x512x416_S400x512x416) 0xFF800000#32 reduces_S400x512x416_S400x512 (.inl rfl) rfl) shapeCasts_S400x512_S400x512x1)) broadcasts_S400x512x1_S400x512x416))) (broadcastTo S400x512x416 (transpose S400x1x416 [0, 2, 1] (extractStridedSlice S400x416x1 ![0, 0, 0] (shapeCast S400x512x1 (transpose S25x16x512x1 [0, 2, 1, 3] (shapeCast S25x512x16x1 v146 shapeCasts_S12800x16x1_S25x512x16x1) transposes_S25x512x16x1_p0_2_1_3_S25x16x512x1) shapeCasts_S25x16x512x1_S400x512x1) slices_S400x512x1_o0_0_0_S400x416x1) transposes_S400x416x1_p0_2_1_S400x1x416) broadcasts_S400x1x416_S400x512x416)) bitsLt_bf16_f32) (extf .bf16 (extractStridedSlice S400x416x48 ![0, 0, 0] v192 slices_S400x512x48_o0_0_0_S400x416x48) bitsLt_fp8e4m3_bf16) (constant (F := Ideal) S400x512x48 .f32 0x00000000#32)) (broadcastTo S400x512x48 (shapeCast S400x512x1 (multiReduction .add [2] S400x512 (exp2 (subf (shapeCast S400x512x416 (addf (shapeCast S25x16x512x416 (mulf (mulf (mulf (matmul dot_S400x512x48_S400x416x48_S400x512x416_2_2_1_1_0_0 none v185 v189 (constant (F := Ideal) S400x512x416 .f32 0x00000000#32)) (broadcastTo S400x512x416 (shapeCast S400x512x1 (transpose S25x16x512x1 [0, 2, 1, 3] (shapeCast S25x512x16x1 v94 shapeCasts_S12800x16x1_S25x512x16x1) transposes_S25x512x16x1_p0_2_1_3_S25x16x512x1) shapeCasts_S25x16x512x1_S400x512x1) broadcasts_S400x512x1_S400x512x416)) (broadcastTo S400x512x416 (transpose S400x1x416 [0, 2, 1] (extractStridedSlice S400x416x1 ![0, 0, 0] (shapeCast S400x512x1 (transpose S25x16x512x1 [0, 2, 1, 3] (shapeCast S25x512x16x1 v120 shapeCasts_S12800x16x1_S25x512x16x1) transposes_S25x512x16x1_p0_2_1_3_S25x16x512x1) shapeCasts_S25x16x512x1_S400x512x1) slices_S400x512x1_o0_0_0_S400x416x1) transposes_S400x416x1_p0_2_1_S400x1x416) broadcasts_S400x1x416_S400x512x416)) (broadcast S400x512x416 (Scalar.ofBits (F := Ideal) .f32 0x3E553B95#32))) shapeCasts_S400x512x416_S25x16x512x416) (broadcastTo S25x16x512x416 (shapeCast S1x16x512x416 (transpose S16x512x416 [0, 2, 1] bi transposes_S16x416x512_p0_2_1_S16x512x416) shapeCasts_S16x512x416_S1x16x512x416) broadcasts_S1x16x512x416_S25x16x512x416)) shapeCasts_S25x16x512x416_S400x512x416) (broadcastTo S400x512x416 (ceil (shapeCast S400x512x1 (multiReduction .maximumf [2] S400x512 (shapeCast S400x512x416 (addf (shapeCast S25x16x512x416 (mulf (mulf (mulf (matmul dot_S400x512x48_S400x416x48_S400x512x416_2_2_1_1_0_0 none v185 v189 (constant (F := Ideal) S400x512x416 .f32 0x00000000#32)) (broadcastTo S400x512x416 (shapeCast S400x512x1 (transpose S25x16x512x1 [0, 2, 1, 3] (shapeCast S25x512x16x1 v94 shapeCasts_S12800x16x1_S25x512x16x1) transposes_S25x512x16x1_p0_2_1_3_S25x16x512x1) shapeCasts_S25x16x512x1_S400x512x1) broadcasts_S400x512x1_S400x512x416)) (broadcastTo S400x512x416 (transpose S400x1x416 [0, 2, 1] (extractStridedSlice S400x416x1 ![0, 0, 0] (shapeCast S400x512x1 (transpose S25x16x512x1 [0, 2, 1, 3] (shapeCast S25x512x16x1 v120 shapeCasts_S12800x16x1_S25x512x16x1) transposes_S25x512x16x1_p0_2_1_3_S25x16x512x1) shapeCasts_S25x16x512x1_S400x512x1) slices_S400x512x1_o0_0_0_S400x416x1) transposes_S400x416x1_p0_2_1_S400x1x416) broadcasts_S400x1x416_S400x512x416)) (broadcast S400x512x416 (Scalar.ofBits (F := Ideal) .f32 0x3E553B95#32))) shapeCasts_S400x512x416_S25x16x512x416) (broadcastTo S25x16x512x416 (shapeCast S1x16x512x416 (transpose S16x512x416 [0, 2, 1] bi transposes_S16x416x512_p0_2_1_S16x512x416) shapeCasts_S16x512x416_S1x16x512x416) broadcasts_S1x16x512x416_S25x16x512x416)) shapeCasts_S25x16x512x416_S400x512x416) 0xFF800000#32 reduces_S400x512x416_S400x512 (.inl rfl) rfl) shapeCasts_S400x512_S400x512x1)) broadcasts_S400x512x1_S400x512x416))) 0x00000000#32 reduces_S400x512x416_S400x512 (.inl rfl) rfl) shapeCasts_S400x512_S400x512x1) broadcasts_S400x512x1_S400x512x48)) shapeCasts_S400x512x48_S25x16x512x48) transposes_S25x16x512x48_p0_2_1_3_S25x512x16x48) shapeCasts_S25x512x16x48_S12800x16x48) v164) shapeCasts_S12800x16x48_S12800x768 := rfl
section
variable (Q K V : Fin 25 → Fin 16 → Fin 512 → Fin 48 → EReal) (qs ks vs : Fin 25 → Fin 16 → Fin 512 → EReal) (bi : Vec Ideal S16x416x512 .f32) (gt : Fin 25 → Fin 16 → Fin 512 → Fin 48 → EReal)
/-- The reference's scores. -/
def rsc (b : Fin 25) (h : Fin 16) (n : Fin 512) (m : Fin 416) : EReal :=
  (∑ x, Q b h n x * K b h (lo (by decide) m) x) * qs b h n * ks b h (lo (by decide) m) * sfac + bi (ix3 h m n)
/-- The reference's unnormalised weights. -/
def rp (b : Fin 25) (h : Fin 16) (n : Fin 512) (m : Fin 416) : EReal :=
  FloatOps.exp2 (F := Ideal) (φ := .f32) (rsc Q K qs ks bi b h n m - Ideal.liftRound Int.ceil (fmax fun k => rsc Q K qs ks bi b h n k))
/-- The reference's gated attention. -/
def ro (b : Fin 25) (h : Fin 16) (n : Fin 512) (r : Fin 48) : EReal :=
  Ideal.div (∑ m, rp Q K qs ks bi b h n m * vs b h (lo (by decide) m) * V b h (lo (by decide) m) r) (∑ m, rp Q K qs ks bi b h n m) * gt b h n r

/-- The batch entry of an attention problem. -/
def bb (B : Fin 400) : Fin 25 := ⟨B.val / 16, by omega⟩
/-- The head of an attention problem. -/
def bh (B : Fin 400) : Fin 16 := ⟨B.val % 16, by omega⟩
theorem rb_at (p : ℕ) (x : Fin 512) (h : p * 512 + x.val < 12800) : rb ⟨p * 512 + x.val, h⟩ = ⟨p, by omega⟩ := Fin.ext (by simp only [rb]; omega)
theorem rn_at (p : ℕ) (x : Fin 512) (h : p * 512 + x.val < 12800) : rn ⟨p * 512 + x.val, h⟩ = x := Fin.ext (by simp only [rn]; omega)
theorem rb_at' (p : ℕ) (x : Fin 416) (h : p * 512 + x.val < 12800) : rb ⟨p * 512 + x.val, h⟩ = ⟨p, by omega⟩ := Fin.ext (by simp only [rb]; omega)
theorem rn_at' (p : ℕ) (x : Fin 416) (h : p * 512 + x.val < 12800) : rn ⟨p * 512 + x.val, h⟩ = lo (by decide) x := Fin.ext (by simp only [rn, lo]; omega)
theorem rb_mod (p : ℕ) (r : Fin 12800) (h : p * 512 + r.val % 512 < 12800) : rb ⟨p * 512 + r.val % 512, h⟩ = ⟨p, by omega⟩ := Fin.ext (by simp only [rb]; omega)
theorem rn_mod (p : ℕ) (r : Fin 12800) (h : p * 512 + r.val % 512 < 12800) : rn ⟨p * 512 + r.val % 512, h⟩ = rn r := Fin.ext (by simp only [rn]; omega)
theorem bb_at (r : Fin 12800) (l : Fin 768) (h : r.val / 512 * 16 + l.val / 48 < 400) : bb ⟨r.val / 512 * 16 + l.val / 48, h⟩ = rb r := Fin.ext (by simp only [bb, rb]; omega)
theorem bh_at (r : Fin 12800) (l : Fin 768) (h : r.val / 512 * 16 + l.val / 48 < 400) : bh ⟨r.val / 512 * 16 + l.val / 48, h⟩ = hd l := Fin.ext (by simp only [bh, hd]; omega)

/-- The gated attention of every row. -/
theorem s42 : k0_pay42 (F := Ideal) (col3 fun R h => qs (rb R) h (rn R)) (col3 fun R h => ks (rb R) h (rn R)) (col3 fun R h => vs (rb R) h (rn R)) (tab3 fun R h r => gt (rb R) h (rn R) r)
      (tab3 fun B n x => Q (bb B) (bh B) n x) (tab3 fun B n x => K (bb B) (bh B) (lo (by decide) n) x) (tab3 fun B n x => V (bb B) (bh B) n x) bi
    = tab2 fun R j => ro Q K V qs ks vs bi gt (rb R) (hd j) (rn R) (hp j) := by
  rw [c_all, c_mm, c_q, c_k, c_k, c_s, c_max, c_exp, c_sum, c_pv, c_fin]
  refine congrArg tab2 (funext fun R => funext fun j => ?_)
  simp only [rb_at, rn_at, rb_at', rn_at']
  have e1 : (⟨(R.val / 512 * 16 + j.val / 48) / 16, by omega⟩ : Fin 25) = rb R := Fin.ext (by simp only [rb]; omega)
  have e2 : (⟨(R.val / 512 * 16 + j.val / 48) % 16, by omega⟩ : Fin 16) = hd j := Fin.ext (by simp only [hd]; omega)
  simp only [bb_at, bh_at, e1, e2]
  rfl
end

/-- The greatest absolute gated attention of a row. -/
theorem s43 {x0 x1 x2 x3 x4 x5 x6 x7} {f : Fin 12800 → Fin 768 → EReal} (h : k0_pay42 (F := Ideal) x0 x1 x2 x3 x4 x5 x6 x7 = tab2 f) : k0_pay43 (F := Ideal) x0 x1 x2 x3 x4 x5 x6 x7 = col2 (a := 12800) fun R => amax (f R) := by
  unfold k0_pay43
  rw [h]
  refine eq_col2 _ _ fun r => ?_
  pointwise []
  rfl

end Cert.ReferenceIdeal.Value

end
-- ==== Proof.RefPayD.lean ====
/- The reference's output projection and feed-forward block, on tables of rows. -/
module

public import proofs.«01_k».proof.Proof.RefTab

@[expose] public section

set_option maxRecDepth 16384
set_option maxHeartbeats 4000000

noncomputable section

namespace Cert.ReferenceIdeal.Value

open Idealize.ShloMosaic Cert.ReferenceIdeal Cert.ReferenceIdeal.Gen Cert.Spec

/-- Scales of rows. -/
theorem s44 (m : Fin 12800 → EReal) : k0_pay44 (F := Ideal) (col2 m) = col2 (a := 12800) fun R => scl (m R) := by
  refine eq_col2 _ _ fun r => ?_
  pointwise [k0_pay44]
  rfl

/-- Codes of rows. -/
theorem s45 (f : Fin 12800 → Fin 768 → EReal) (m : Fin 12800 → EReal) : k0_pay45 (F := Ideal) (tab2 f) (col2 m) = tab2 (a := 12800) (b := 768) fun R l => cod (f R l) (scl (m R)) := by
  unfold k0_pay45
  rw [s44]
  refine eq_tab2 _ _ fun r l => ?_
  pointwise []
  rfl

/-- Codes, by batch entry, head and channel. -/
theorem s46 (f : Fin 12800 → Fin 768 → EReal) (m : Fin 12800 → EReal) : k0_pay46 (F := Ideal) (tab2 f) (col2 m) = all4  fun b h r n => cod (f ⟨b.val * 512 + n.val, row_lt b n⟩ (hrow h r)) (scl (m ⟨b.val * 512 + n.val, row_lt b n⟩)) := by
  unfold k0_pay46
  rw [s45]
  refine eq_all4 _ _ fun r l e n => ?_
  pointwise []
  rfl

/-- Scales, by batch entry. -/
theorem s47 (m : Fin 12800 → EReal) : k0_pay47 (F := Ideal) (col2 m) = tab2 (a := 25) (b := 512) fun b n => scl (m ⟨b.val * 512 + n.val, row_lt b n⟩) := by
  unfold k0_pay47
  rw [s44]
  refine eq_tab2 _ _ fun r l => ?_
  pointwise []
  rfl

/-- The output projection. -/
theorem s48 (f : Fin 12800 → Fin 768 → EReal) (m : Fin 12800 → EReal) (w : Vec Ideal S768x768 .fp8e4m3) (q : Vec Ideal S1x768 .f32) : k0_pay48 (F := Ideal) (tab2 f) (col2 m) w q = tab2 (a := 12800) (b := 768) fun R l => (∑ x, cod (f R x) (scl (m R)) * w (ix2 x l)) * scl (m R) * q (ix2 0 l) := by
  unfold k0_pay48
  rw [s45, s44]
  refine eq_tab2 _ _ fun r l => ?_
  pointwise []
  rfl

/-- The first gate of the residual branch. -/
theorem s50 (f : Fin 12800 → Fin 384 → EReal) (w : Vec Ideal S384x1536 .bf16) (b : Fin 768 → EReal) : k0_pay50 (F := Ideal) (tab2 f) w (row2 b) = tab2 (a := 12800) (b := 768) fun R l => ∑ x, f R x * w (ix2 x (lo (by decide) l)) + b l := by
  refine eq_tab2 _ _ fun r l => ?_
  pointwise [k0_pay50, k0_pay49]
  rfl

/-- The second gate of the residual branch. -/
theorem s51 (f : Fin 12800 → Fin 384 → EReal) (w : Vec Ideal S384x1536 .bf16) (b : Fin 768 → EReal) : k0_pay51 (F := Ideal) (tab2 f) w (row2 b) = tab2 (a := 12800) (b := 768) fun R l => ∑ x, f R x * w (ix2 x (sh 768 (by decide) l)) + b l := by
  refine eq_tab2 _ _ fun r l => ?_
  pointwise [k0_pay51, k0_pay49]
  rfl

/-- The activations after attention. -/
theorem s52 (a y g : Fin 12800 → Fin 768 → EReal) : k0_pay52 (F := Ideal) (tab2 a) (tab2 y) (tab2 g) = tab2 (a := 12800) (b := 768) fun R l => a R l + Ideal.logistic (g R l) * y R l := by
  refine eq_tab2 _ _ fun r l => ?_
  pointwise [k0_pay52]
  rfl

/-- The activations after attention, by batch entry. -/
theorem s53 {x y z} {f : Fin 12800 → Fin 768 → EReal} (h : k0_pay52 (F := Ideal) x y z = tab2 f) : k0_pay53 (F := Ideal) x y z = tab3 (a := 25) (b := 512) (d := 768) fun b n l => f ⟨b.val * 512 + n.val, row_lt b n⟩ l := by
  unfold k0_pay53
  rw [h]
  refine eq_tab3 _ _ fun r l e => ?_
  pointwise []
  rfl

/-- The second modulated activations. -/
theorem s54 {x y z} {f : Fin 12800 → Fin 768 → EReal} (h : k0_pay52 (F := Ideal) x y z = tab2 f) (t : Fin 12800 → Fin 384 → EReal) (g : Vec Ideal S1x384 .f32) (w : Vec Ideal S384x1536 .bf16) (b : Vec Ideal S1x768 .f32) : k0_pay54 (F := Ideal) x (tab2 t) y z g w b = tab2 (a := 12800) (b := 768) fun R l => lnd n768 (f R) l * Ideal.logistic (∑ x, t R x * g (ix2 0 x) * w (ix2 x (lo (by decide) l)) + b (ix2 0 l)) + ∑ x, t R x * g (ix2 0 x) * w (ix2 x (sh 768 (by decide) l)) := by
  unfold k0_pay54
  rw [h]
  refine eq_tab2 _ _ fun r l => ?_
  pointwise []
  rfl

/-- Their greatest absolute values. -/
theorem s55 {x0 x1 x2 x3 x4 x5 x6} {f : Fin 12800 → Fin 768 → EReal} (h : k0_pay54 (F := Ideal) x0 x1 x2 x3 x4 x5 x6 = tab2 f) : k0_pay55 (F := Ideal) x0 x1 x2 x3 x4 x5 x6 = col2 (a := 12800) fun R => amax (f R) := by
  unfold k0_pay55
  rw [h]
  refine eq_col2 _ _ fun r => ?_
  pointwise []
  rfl

/-- Their scales. -/
theorem s58 {x0 x1 x2 x3 x4 x5 x6} {m : Fin 12800 → EReal} (h : k0_pay55 (F := Ideal) x0 x1 x2 x3 x4 x5 x6 = col2 m) : k0_pay58 (F := Ideal) (k0_pay55 (F := Ideal) x0 x1 x2 x3 x4 x5 x6) (k0_pay56 (F := Ideal) x0 x1 x2 x3 x4 x5 x6) k0_pay57 = col2 (a := 12800) fun R => scl (m R) := by
  unfold k0_pay58 k0_pay56 k0_pay57
  rw [h]
  refine eq_col2 _ _ fun r => ?_
  pointwise []
  rfl

/-- Their codes. -/
theorem s59 {x y z} (f : Fin 12800 → Fin 768 → EReal) {m : Fin 12800 → EReal} (h : k0_pay58 (F := Ideal) x y z = col2 m) : k0_pay59 (F := Ideal) (tab2 f) x y z = tab2 (a := 12800) (b := 768) fun R l => cod (f R l) (m R) := by
  unfold k0_pay59
  rw [h]
  refine eq_tab2 _ _ fun r l => ?_
  pointwise []
  rfl

/-- Their codes, by batch entry. -/
theorem s60 {x y z u} {f : Fin 12800 → Fin 768 → EReal} (h : k0_pay59 (F := Ideal) x y z u = tab2 f) : k0_pay60 (F := Ideal) x y z u = tab3 (a := 25) (b := 512) (d := 768) fun b n l => f ⟨b.val * 512 + n.val, row_lt b n⟩ l := by
  unfold k0_pay60
  rw [h]
  refine eq_tab3 _ _ fun r l e => ?_
  pointwise []
  rfl

/-- Their scales, by batch entry. -/
theorem s61 {x y z} {m : Fin 12800 → EReal} (h : k0_pay58 (F := Ideal) x y z = col2 m) : k0_pay61 (F := Ideal) x y z = tab2 (a := 25) (b := 512) fun b n => m ⟨b.val * 512 + n.val, row_lt b n⟩ := by
  unfold k0_pay61
  rw [h]
  refine eq_tab2 _ _ fun r l => ?_
  pointwise []
  rfl

/-- The feed-forward block's hidden rows. -/
theorem s62 {x y z u} {c : Fin 12800 → Fin 768 → EReal} {m : Fin 12800 → EReal} (h : k0_pay59 (F := Ideal) x y z u = tab2 c) (h8 : k0_pay58 (F := Ideal) y z u = col2 m) (w0 w1 : Fin 768 → Fin 1536 → EReal) (q0 q1 : Fin 1536 → EReal) : k0_pay62 (F := Ideal) x y z u (row3 w0) (row2 q0) (row3 w1) (row2 q1) = tab2 (a := 12800) (b := 1536) fun R l => (∑ x, c R x * w0 x l) * m R * q0 l * Ideal.logistic ((∑ x, c R x * w0 x l) * m R * q0 l) * ((∑ x, c R x * w1 x l) * m R * q1 l) := by
  unfold k0_pay62
  rw [h, h8]
  refine eq_tab2 _ _ fun r l => ?_
  pointwise []
  rfl

/-- Their greatest absolute values. -/
theorem s63 {x0 x1 x2 x3 x4 x5 x6 x7} {f : Fin 12800 → Fin 1536 → EReal} (h : k0_pay62 (F := Ideal) x0 x1 x2 x3 x4 x5 x6 x7 = tab2 f) : k0_pay63 (F := Ideal) x0 x1 x2 x3 x4 x5 x6 x7 = col2 (a := 12800) fun R => amax (f R) := by
  unfold k0_pay63
  rw [h]
  refine eq_col2 _ _ fun r => ?_
  pointwise []
  rfl

/-- Scales of the hidden rows. -/
theorem s1 (m : Fin 12800 → EReal) : k0_pay1 (F := Ideal) (col2 m) (Scalar.ofBits .f32 0x00000000#32) = col2 (a := 12800) fun R => scl (m R) := by
  refine eq_col2 _ _ fun r => ?_
  pointwise [k0_pay1]
  rfl

/-- Codes of the hidden rows. -/
theorem s2 (f : Fin 12800 → Fin 1536 → EReal) (m : Fin 12800 → EReal) : k0_pay2 (F := Ideal) (tab2 f) (col2 m) (Scalar.ofBits .f32 0x00000000#32) = tab2 (a := 12800) (b := 1536) fun R l => cod (f R l) (scl (m R)) := by
  unfold k0_pay2
  rw [s1]
  refine eq_tab2 _ _ fun r l => ?_
  pointwise []
  rfl

/-- Codes of the hidden rows, by batch entry. -/
theorem s3 (f : Fin 12800 → Fin 1536 → EReal) (m : Fin 12800 → EReal) : k0_pay3 (F := Ideal) (tab2 f) (col2 m) (Scalar.ofBits .f32 0x00000000#32) = tab3 (a := 25) (b := 512) (d := 1536) fun b n l => cod (f ⟨b.val * 512 + n.val, row_lt b n⟩ l) (scl (m ⟨b.val * 512 + n.val, row_lt b n⟩)) := by
  unfold k0_pay3
  rw [s2]
  refine eq_tab3 _ _ fun r l e => ?_
  pointwise []
  rfl

/-- Scales of the hidden rows, by batch entry. -/
theorem s4 (m : Fin 12800 → EReal) : k0_pay4 (F := Ideal) (col2 m) (Scalar.ofBits .f32 0x00000000#32) = tab2 (a := 25) (b := 512) fun b n => scl (m ⟨b.val * 512 + n.val, row_lt b n⟩) := by
  unfold k0_pay4
  rw [s1]
  refine eq_tab2 _ _ fun r l => ?_
  pointwise []
  rfl

/-- The new activations, by batch entry. -/
theorem s5 (g a : Fin 12800 → Fin 768 → EReal) (f : Fin 12800 → Fin 1536 → EReal) (m : Fin 12800 → EReal) (w : Vec Ideal S1536x768 .fp8e4m3) (q : Vec Ideal S1x768 .f32) : k0_pay5 (F := Ideal) (tab2 g) (tab2 a) (tab2 f) (col2 m) (Scalar.ofBits .f32 0x00000000#32) w q = tab3 (a := 25) (b := 512) (d := 768) fun b n l => a ⟨b.val * 512 + n.val, row_lt b n⟩ l + Ideal.logistic (g ⟨b.val * 512 + n.val, row_lt b n⟩ l) * ((∑ x, cod (f ⟨b.val * 512 + n.val, row_lt b n⟩ x) (scl (m ⟨b.val * 512 + n.val, row_lt b n⟩)) * w (ix2 x l)) * scl (m ⟨b.val * 512 + n.val, row_lt b n⟩) * q (ix2 0 l)) := by
  unfold k0_pay5
  rw [s2, s1]
  refine eq_tab3 _ _ fun r l e => ?_
  pointwise []
  rfl

end Cert.ReferenceIdeal.Value

end
-- ==== Proof.RefAt.lean ====
/- The reference's values, as the layer's formulas. -/
module

public import proofs.«01_k».proof.Proof.RefPayA
public import proofs.«01_k».proof.Proof.RefPayC
public import proofs.«01_k».proof.Proof.RefPayD

@[expose] public section

set_option maxRecDepth 16384
set_option maxHeartbeats 4000000

noncomputable section

namespace Cert.ReferenceIdeal.Value

open Idealize.ShloMosaic Cert.ReferenceIdeal Cert.ReferenceIdeal.Gen Cert.Spec

variable (a0 : Vec Ideal S25x512x768 .bf16) (a1 : Vec Ideal S25x512x384 .bf16) (a2 : Vec Ideal S16x416x512 .f32) (a3 : Vec Ideal S1x384 .f32) (a4 : Vec Ideal S1x384 .f32) (a5 : Vec Ideal S384x1536 .bf16) (a6 : Vec Ideal S1x768 .f32) (a7 : Vec Ideal S384x1536 .bf16) (a8 : Vec Ideal S1x768 .f32) (a9 : Vec Ideal S384x1536 .bf16) (a10 : Vec Ideal S2x768 .f32) (a11 : Vec Ideal S3072x768 .fp8e4m3) (a12 : Vec Ideal S4x16x48 .f32) (a13 : Vec Ideal S16x48 .f32) (a14 : Vec Ideal S768x768 .fp8e4m3) (a15 : Vec Ideal S1x768 .f32) (a16 : Vec Ideal S2x768x1536 .fp8e4m3) (a17 : Vec Ideal S2x1536 .f32) (a18 : Vec Ideal S1536x768 .fp8e4m3) (a19 : Vec Ideal S1x768 .f32)

/-- The activations, one row per token. -/
theorem n64 : (k0_pay64 a0 a1 a2 a3 a4 a5 a6 a7 a8 a9 a10 a11 a12 a13 a14 a15 a16 a17 a18 a19) = tab2 (a := 12800) (b := 768) (fun R l => (dd a0 a1 a2 a3 a4 a5 a6 a7 a8 a9 a10 a11 a12 a13 a14 a15 a16 a17 a18 a19 (rb R)).a (rn R) l) := by
  unfold k0_pay64
  rw [ldw3 a0]
  refine eq_tab2 _ _ fun r l => ?_
  pointwise [k0_pay6]
  rfl

/-- The conditioning rows. -/
theorem n65 : (k0_pay65 a0 a1 a2 a3 a4 a5 a6 a7 a8 a9 a10 a11 a12 a13 a14 a15 a16 a17 a18 a19) = tab2 (a := 12800) (b := 384) (fun R l => (dd a0 a1 a2 a3 a4 a5 a6 a7 a8 a9 a10 a11 a12 a13 a14 a15 a16 a17 a18 a19 (rb R)).s (rn R) l) := by
  unfold k0_pay65
  rw [ldw3 a1]
  refine eq_tab2 _ _ fun r l => ?_
  pointwise [k0_pay7]
  rfl

/-- The conditioning rows, read off the array. -/
theorem n65' : k0_pay7 (F := Ideal) a1 = tab2 (a := 12800) (b := 384) (fun R l => (dd a0 a1 a2 a3 a4 a5 a6 a7 a8 a9 a10 a11 a12 a13 a14 a15 a16 a17 a18 a19 (rb R)).s (rn R) l) := by
  have h := n65 a0 a1 a2 a3 a4 a5 a6 a7 a8 a9 a10 a11 a12 a13 a14 a15 a16 a17 a18 a19
  unfold k0_pay65 at h
  rw [ldw3 a1] at h
  exact h

/-- The conditioning rows, normalised. -/
theorem n66 : (k0_pay66 a0 a1 a2 a3 a4 a5 a6 a7 a8 a9 a10 a11 a12 a13 a14 a15 a16 a17 a18 a19) = tab2 (a := 12800) (b := 384) (fun R l => (dd a0 a1 a2 a3 a4 a5 a6 a7 a8 a9 a10 a11 a12 a13 a14 a15 a16 a17 a18 a19 (rb R)).sn0 (rn R) l) := by
  unfold k0_pay66 k0_pay8
  rw [ldw3 a1, n65' a0 a1 a2 a3 a4 a5 a6 a7 a8 a9 a10 a11 a12 a13 a14 a15 a16 a17 a18 a19]
  refine eq_tab2 _ _ fun r l => ?_
  pointwise []
  exact lnd_384 (fun l => (dd a0 a1 a2 a3 a4 a5 a6 a7 a8 a9 a10 a11 a12 a13 a14 a15 a16 a17 a18 a19 (rb r)).s (rn r) l) l

/-- The conditioning rows, normalised. -/
theorem n66' : k0_pay8 (F := Ideal) a1 = tab2 (a := 12800) (b := 384) (fun R l => (dd a0 a1 a2 a3 a4 a5 a6 a7 a8 a9 a10 a11 a12 a13 a14 a15 a16 a17 a18 a19 (rb R)).sn0 (rn R) l) := by
  have h := n66 a0 a1 a2 a3 a4 a5 a6 a7 a8 a9 a10 a11 a12 a13 a14 a15 a16 a17 a18 a19
  unfold k0_pay66 at h
  rw [ldw3 a1] at h
  exact h

/-- The conditioning rows through the first modulation weights. -/
theorem n67 : (k0_pay67 a0 a1 a2 a3 a4 a5 a6 a7 a8 a9 a10 a11 a12 a13 a14 a15 a16 a17 a18 a19) = tab2 (a := 12800) (b := 1536) (fun R l => ∑ x, (dd a0 a1 a2 a3 a4 a5 a6 a7 a8 a9 a10 a11 a12 a13 a14 a15 a16 a17 a18 a19 (rb R)).sn1 (rn R) x * (dd a0 a1 a2 a3 a4 a5 a6 a7 a8 a9 a10 a11 a12 a13 a14 a15 a16 a17 a18 a19 (rb R)).wa1 x l) := by
  unfold k0_pay67 k0_pay9
  rw [ldw3 a1, ldw2 a3, ldw2 a5, n66' a0 a1 a2 a3 a4 a5 a6 a7 a8 a9 a10 a11 a12 a13 a14 a15 a16 a17 a18 a19]
  refine eq_tab2 _ _ fun r l => ?_
  pointwise []
  rfl

/-- The activations, centred. -/
theorem n68 : (k0_pay68 a0 a1 a2 a3 a4 a5 a6 a7 a8 a9 a10 a11 a12 a13 a14 a15 a16 a17 a18 a19) = tab2 (a := 12800) (b := 768) (fun R l => (dd a0 a1 a2 a3 a4 a5 a6 a7 a8 a9 a10 a11 a12 a13 a14 a15 a16 a17 a18 a19 (rb R)).a (rn R) l - Ideal.div (∑ x, (dd a0 a1 a2 a3 a4 a5 a6 a7 a8 a9 a10 a11 a12 a13 a14 a15 a16 a17 a18 a19 (rb R)).a (rn R) x) n768) := by
  have h : k0_pay6 (F := Ideal) a0 = tab2 (a := 12800) (b := 768) (fun R l => (dd a0 a1 a2 a3 a4 a5 a6 a7 a8 a9 a10 a11 a12 a13 a14 a15 a16 a17 a18 a19 (rb R)).a (rn R) l) := by
    have h := n64 a0 a1 a2 a3 a4 a5 a6 a7 a8 a9 a10 a11 a12 a13 a14 a15 a16 a17 a18 a19
    unfold k0_pay64 at h
    rw [ldw3 a0] at h
    exact h
  unfold k0_pay68 k0_pay10
  rw [ldw3 a0, h]
  refine eq_tab2 _ _ fun r l => ?_
  pointwise []
  rfl

/-- The variances of the activations. -/
theorem n69 : (k0_pay69 a0 a1 a2 a3 a4 a5 a6 a7 a8 a9 a10 a11 a12 a13 a14 a15 a16 a17 a18 a19) = col2 (a := 12800) (fun R => Ideal.div (∑ x, ((dd a0 a1 a2 a3 a4 a5 a6 a7 a8 a9 a10 a11 a12 a13 a14 a15 a16 a17 a18 a19 (rb R)).a (rn R) x - Ideal.div (∑ x, (dd a0 a1 a2 a3 a4 a5 a6 a7 a8 a9 a10 a11 a12 a13 a14 a15 a16 a17 a18 a19 (rb R)).a (rn R) x) n768) * ((dd a0 a1 a2 a3 a4 a5 a6 a7 a8 a9 a10 a11 a12 a13 a14 a15 a16 a17 a18 a19 (rb R)).a (rn R) x - Ideal.div (∑ x, (dd a0 a1 a2 a3 a4 a5 a6 a7 a8 a9 a10 a11 a12 a13 a14 a15 a16 a17 a18 a19 (rb R)).a (rn R) x) n768)) n768) := by
  have h : k0_pay10 (F := Ideal) (View.ld a0 r0_0) = _ := n68 a0 a1 a2 a3 a4 a5 a6 a7 a8 a9 a10 a11 a12 a13 a14 a15 a16 a17 a18 a19
  unfold k0_pay69 k0_pay11
  rw [h]
  refine eq_col2 _ _ fun r => ?_
  pointwise []
  rfl

/-- The modulated activations. -/
theorem n12 : k0_pay12 (F := Ideal) (k0_pay67 a0 a1 a2 a3 a4 a5 a6 a7 a8 a9 a10 a11 a12 a13 a14 a15 a16 a17 a18 a19) (k0_pay68 a0 a1 a2 a3 a4 a5 a6 a7 a8 a9 a10 a11 a12 a13 a14 a15 a16 a17 a18 a19) (k0_pay69 a0 a1 a2 a3 a4 a5 a6 a7 a8 a9 a10 a11 a12 a13 a14 a15 a16 a17 a18 a19) (Scalar.ofBits .f32 0x3727C5AC#32) a6 = tab2 (a := 12800) (b := 768) (fun R l => (dd a0 a1 a2 a3 a4 a5 a6 a7 a8 a9 a10 a11 a12 a13 a14 a15 a16 a17 a18 a19 (rb R)).x1 (rn R) l) := by
  rw [n67, n68, n69]
  refine eq_tab2 _ _ fun r l => ?_
  pointwise [k0_pay12]
  exact congrArg (fun z => z * Ideal.logistic (∑ x, (dd a0 a1 a2 a3 a4 a5 a6 a7 a8 a9 a10 a11 a12 a13 a14 a15 a16 a17 a18 a19 (rb r)).sn1 (rn r) x * (dd a0 a1 a2 a3 a4 a5 a6 a7 a8 a9 a10 a11 a12 a13 a14 a15 a16 a17 a18 a19 (rb r)).wa1 x (lo (by decide) l) + (dd a0 a1 a2 a3 a4 a5 a6 a7 a8 a9 a10 a11 a12 a13 a14 a15 a16 a17 a18 a19 (rb r)).ba1 l) + ∑ x, (dd a0 a1 a2 a3 a4 a5 a6 a7 a8 a9 a10 a11 a12 a13 a14 a15 a16 a17 a18 a19 (rb r)).sn1 (rn r) x * (dd a0 a1 a2 a3 a4 a5 a6 a7 a8 a9 a10 a11 a12 a13 a14 a15 a16 a17 a18 a19 (rb r)).wa1 x (sh 768 (by decide) l)) (lnd_768 (fun l => (dd a0 a1 a2 a3 a4 a5 a6 a7 a8 a9 a10 a11 a12 a13 a14 a15 a16 a17 a18 a19 (rb r)).a (rn r) l) l)

/-- Their scales. -/
theorem n13 : k0_pay13 (F := Ideal) (k0_pay67 a0 a1 a2 a3 a4 a5 a6 a7 a8 a9 a10 a11 a12 a13 a14 a15 a16 a17 a18 a19) (k0_pay68 a0 a1 a2 a3 a4 a5 a6 a7 a8 a9 a10 a11 a12 a13 a14 a15 a16 a17 a18 a19) (k0_pay69 a0 a1 a2 a3 a4 a5 a6 a7 a8 a9 a10 a11 a12 a13 a14 a15 a16 a17 a18 a19) (Scalar.ofBits .f32 0x3727C5AC#32) a6 = col2 (a := 12800) (fun R => (dd a0 a1 a2 a3 a4 a5 a6 a7 a8 a9 a10 a11 a12 a13 a14 a15 a16 a17 a18 a19 (rb R)).x1s (rn R)) :=
  s13 (n12 a0 a1 a2 a3 a4 a5 a6 a7 a8 a9 a10 a11 a12 a13 a14 a15 a16 a17 a18 a19)

/-- Their codes. -/
theorem n14 : k0_pay14 (F := Ideal) (k0_pay67 a0 a1 a2 a3 a4 a5 a6 a7 a8 a9 a10 a11 a12 a13 a14 a15 a16 a17 a18 a19) (k0_pay68 a0 a1 a2 a3 a4 a5 a6 a7 a8 a9 a10 a11 a12 a13 a14 a15 a16 a17 a18 a19) (k0_pay69 a0 a1 a2 a3 a4 a5 a6 a7 a8 a9 a10 a11 a12 a13 a14 a15 a16 a17 a18 a19) (Scalar.ofBits .f32 0x3727C5AC#32) a6 = tab2 (a := 12800) (b := 768) (fun R l => (dd a0 a1 a2 a3 a4 a5 a6 a7 a8 a9 a10 a11 a12 a13 a14 a15 a16 a17 a18 a19 (rb R)).x1c (rn R) l) :=
  s14 (n12 a0 a1 a2 a3 a4 a5 a6 a7 a8 a9 a10 a11 a12 a13 a14 a15 a16 a17 a18 a19) (n13 a0 a1 a2 a3 a4 a5 a6 a7 a8 a9 a10 a11 a12 a13 a14 a15 a16 a17 a18 a19)

/-- The scales of the modulated activations. -/
theorem n70 : (k0_pay70 a0 a1 a2 a3 a4 a5 a6 a7 a8 a9 a10 a11 a12 a13 a14 a15 a16 a17 a18 a19) = col2 (a := 12800) (fun R => (dd a0 a1 a2 a3 a4 a5 a6 a7 a8 a9 a10 a11 a12 a13 a14 a15 a16 a17 a18 a19 (rb R)).x1s (rn R)) := by
  unfold k0_pay70
  rw [ldw2 a6]
  exact n13 a0 a1 a2 a3 a4 a5 a6 a7 a8 a9 a10 a11 a12 a13 a14 a15 a16 a17 a18 a19

/-- The codes of the modulated activations. -/
theorem n71 : (k0_pay71 a0 a1 a2 a3 a4 a5 a6 a7 a8 a9 a10 a11 a12 a13 a14 a15 a16 a17 a18 a19) = tab2 (a := 12800) (b := 768) (fun R l => (dd a0 a1 a2 a3 a4 a5 a6 a7 a8 a9 a10 a11 a12 a13 a14 a15 a16 a17 a18 a19 (rb R)).x1c (rn R) l) := by
  unfold k0_pay71
  rw [ldw2 a6]
  exact n14 a0 a1 a2 a3 a4 a5 a6 a7 a8 a9 a10 a11 a12 a13 a14 a15 a16 a17 a18 a19

/-- The rows of a band of the fused projection. -/
theorem prow_sh (p : Fin 4) (h : Fin 16) (r : Fin 48) (e) : sh (B := 3072) (768 * p.val) e (hrow h r) = prow p h r := Fin.ext (by simp only [sh, hrow, prow]; omega)

/-- The projection, its factors in the other order. -/
theorem pj_eq (d : D) (p : Fin 4) (e) (w : Vec Ideal S3072x768 .fp8e4m3) (hw : ∀ r x, d.wq r x = w (ix2 r x)) (h : Fin 16) (r : Fin 48) (n : Fin 512) :
    (∑ x, d.x1c n x * w (ix2 (sh (768 * p.val) e (hrow h r)) x)) = d.pj (prow p h r) n := by
  rw [prow_sh]
  exact Finset.sum_congr rfl fun x _ => by rw [mul_comm, hw]

/-- The query projection. -/
theorem n72 : (k0_pay72 a0 a1 a2 a3 a4 a5 a6 a7 a8 a9 a10 a11 a12 a13 a14 a15 a16 a17 a18 a19) = tab3 (a := 12800) (b := 16) (d := 48) (fun R h r => (dd a0 a1 a2 a3 a4 a5 a6 a7 a8 a9 a10 a11 a12 a13 a14 a15 a16 a17 a18 a19 (rb R)).pj (prow 0 h r) (rn R) * (dd a0 a1 a2 a3 a4 a5 a6 a7 a8 a9 a10 a11 a12 a13 a14 a15 a16 a17 a18 a19 (rb R)).x1s (rn R)) := by
  have e := s17 (n14 a0 a1 a2 a3 a4 a5 a6 a7 a8 a9 a10 a11 a12 a13 a14 a15 a16 a17 a18 a19) (n13 a0 a1 a2 a3 a4 a5 a6 a7 a8 a9 a10 a11 a12 a13 a14 a15 a16 a17 a18 a19) (tab2 (a := 768) (b := 768) fun r l => a11 (ix2 (sh 0 (by decide) r) l))
  unfold k0_pay72
  rw [ldw2 a6, ldb2 a11 0 _ (by decide)]
  refine e.trans (congrArg tab3 (funext fun R => funext fun h => funext fun r => ?_))
  exact congrArg (· * (dd a0 a1 a2 a3 a4 a5 a6 a7 a8 a9 a10 a11 a12 a13 a14 a15 a16 a17 a18 a19 (rb R)).x1s (rn R)) (pj_eq (dd a0 a1 a2 a3 a4 a5 a6 a7 a8 a9 a10 a11 a12 a13 a14 a15 a16 a17 a18 a19 (rb R)) 0 (by decide) a11 (fun _ _ => rfl) h r (rn R))

/-- The queries. -/
theorem n18 : k0_pay18 (k0_pay72 a0 a1 a2 a3 a4 a5 a6 a7 a8 a9 a10 a11 a12 a13 a14 a15 a16 a17 a18 a19) (row3 fun h r => a12 (ix3 ⟨0, by decide⟩ h r)) a13 = tab3 (a := 12800) (b := 16) (d := 48) (fun R h r => (dd a0 a1 a2 a3 a4 a5 a6 a7 a8 a9 a10 a11 a12 a13 a14 a15 a16 a17 a18 a19 (rb R)).qv h r (rn R)) := by
  rw [n72, s18]
  rfl

/-- The query scales. -/
theorem n73 : (k0_pay73 a0 a1 a2 a3 a4 a5 a6 a7 a8 a9 a10 a11 a12 a13 a14 a15 a16 a17 a18 a19) = col3 (a := 12800) (b := 16) (fun R h => (dd a0 a1 a2 a3 a4 a5 a6 a7 a8 a9 a10 a11 a12 a13 a14 a15 a16 a17 a18 a19 (rb R)).qs h (rn R)) := by
  unfold k0_pay73
  rw [ldb3 a12 0 _ (by decide), ldw2 a13]
  exact s19 (n18 a0 a1 a2 a3 a4 a5 a6 a7 a8 a9 a10 a11 a12 a13 a14 a15 a16 a17 a18 a19)

/-- The query scales. -/
theorem n19 : k0_pay19 (k0_pay72 a0 a1 a2 a3 a4 a5 a6 a7 a8 a9 a10 a11 a12 a13 a14 a15 a16 a17 a18 a19) (row3 fun h r => a12 (ix3 ⟨0, by decide⟩ h r)) a13 = col3 (a := 12800) (b := 16) (fun R h => (dd a0 a1 a2 a3 a4 a5 a6 a7 a8 a9 a10 a11 a12 a13 a14 a15 a16 a17 a18 a19 (rb R)).qs h (rn R)) :=
  s19 (n18 a0 a1 a2 a3 a4 a5 a6 a7 a8 a9 a10 a11 a12 a13 a14 a15 a16 a17 a18 a19)

/-- The query codes. -/
theorem n74 : (k0_pay74 a0 a1 a2 a3 a4 a5 a6 a7 a8 a9 a10 a11 a12 a13 a14 a15 a16 a17 a18 a19) = tab3 (a := 12800) (b := 16) (d := 48) (fun R h r => (dd a0 a1 a2 a3 a4 a5 a6 a7 a8 a9 a10 a11 a12 a13 a14 a15 a16 a17 a18 a19 (rb R)).qc h r (rn R)) := by
  unfold k0_pay74
  rw [ldb3 a12 0 _ (by decide), ldw2 a13]
  exact s20 (n18 a0 a1 a2 a3 a4 a5 a6 a7 a8 a9 a10 a11 a12 a13 a14 a15 a16 a17 a18 a19) (n19 a0 a1 a2 a3 a4 a5 a6 a7 a8 a9 a10 a11 a12 a13 a14 a15 a16 a17 a18 a19)

/-- The keys. -/
theorem n21 : k0_pay21 (k0_pay70 a0 a1 a2 a3 a4 a5 a6 a7 a8 a9 a10 a11 a12 a13 a14 a15 a16 a17 a18 a19) (k0_pay71 a0 a1 a2 a3 a4 a5 a6 a7 a8 a9 a10 a11 a12 a13 a14 a15 a16 a17 a18 a19) (View.ld a11 r0_9) (View.ld a12 r0_10) = tab3 (a := 12800) (b := 16) (d := 48) (fun R h r => (dd a0 a1 a2 a3 a4 a5 a6 a7 a8 a9 a10 a11 a12 a13 a14 a15 a16 a17 a18 a19 (rb R)).kv h r (rn R)) := by
  rw [n70, n71, ldb2 a11 768 _ (by decide), ldb3 a12 1 _ (by decide), s21]
  refine congrArg tab3 (funext fun R => funext fun h => funext fun r => ?_)
  exact congrArg (fun z => z * (dd a0 a1 a2 a3 a4 a5 a6 a7 a8 a9 a10 a11 a12 a13 a14 a15 a16 a17 a18 a19 (rb R)).x1s (rn R) * (dd a0 a1 a2 a3 a4 a5 a6 a7 a8 a9 a10 a11 a12 a13 a14 a15 a16 a17 a18 a19 (rb R)).wqs 1 h r) (pj_eq (dd a0 a1 a2 a3 a4 a5 a6 a7 a8 a9 a10 a11 a12 a13 a14 a15 a16 a17 a18 a19 (rb R)) 1 (by decide) a11 (fun _ _ => rfl) h r (rn R))

/-- The key scales. -/
theorem n78 : (k0_pay78 a0 a1 a2 a3 a4 a5 a6 a7 a8 a9 a10 a11 a12 a13 a14 a15 a16 a17 a18 a19) = col3 (a := 12800) (b := 16) (fun R h => (dd a0 a1 a2 a3 a4 a5 a6 a7 a8 a9 a10 a11 a12 a13 a14 a15 a16 a17 a18 a19 (rb R)).ks h (rn R)) :=
  s26 (s22 (n21 a0 a1 a2 a3 a4 a5 a6 a7 a8 a9 a10 a11 a12 a13 a14 a15 a16 a17 a18 a19))

/-- The key codes. -/
theorem n79 : (k0_pay79 a0 a1 a2 a3 a4 a5 a6 a7 a8 a9 a10 a11 a12 a13 a14 a15 a16 a17 a18 a19) = tab3 (a := 12800) (b := 16) (d := 48) (fun R h r => (dd a0 a1 a2 a3 a4 a5 a6 a7 a8 a9 a10 a11 a12 a13 a14 a15 a16 a17 a18 a19 (rb R)).kc h r (rn R)) := by
  unfold k0_pay79
  rw [n21]
  exact s27 (n78 a0 a1 a2 a3 a4 a5 a6 a7 a8 a9 a10 a11 a12 a13 a14 a15 a16 a17 a18 a19)

/-- The values. -/
theorem n28 : k0_pay28 (k0_pay70 a0 a1 a2 a3 a4 a5 a6 a7 a8 a9 a10 a11 a12 a13 a14 a15 a16 a17 a18 a19) (k0_pay71 a0 a1 a2 a3 a4 a5 a6 a7 a8 a9 a10 a11 a12 a13 a14 a15 a16 a17 a18 a19) (View.ld a11 r0_11) (View.ld a12 r0_12) = tab3 (a := 12800) (b := 16) (d := 48) (fun R h r => (dd a0 a1 a2 a3 a4 a5 a6 a7 a8 a9 a10 a11 a12 a13 a14 a15 a16 a17 a18 a19 (rb R)).vv h r (rn R)) := by
  rw [n70, n71, ldb2 a11 1536 _ (by decide), ldb3 a12 2 _ (by decide), s28]
  refine congrArg tab3 (funext fun R => funext fun h => funext fun r => ?_)
  exact congrArg (fun z => z * (dd a0 a1 a2 a3 a4 a5 a6 a7 a8 a9 a10 a11 a12 a13 a14 a15 a16 a17 a18 a19 (rb R)).x1s (rn R) * (dd a0 a1 a2 a3 a4 a5 a6 a7 a8 a9 a10 a11 a12 a13 a14 a15 a16 a17 a18 a19 (rb R)).wqs 2 h r) (pj_eq (dd a0 a1 a2 a3 a4 a5 a6 a7 a8 a9 a10 a11 a12 a13 a14 a15 a16 a17 a18 a19 (rb R)) 2 (by decide) a11 (fun _ _ => rfl) h r (rn R))

/-- The value scales. -/
theorem n80 : (k0_pay80 a0 a1 a2 a3 a4 a5 a6 a7 a8 a9 a10 a11 a12 a13 a14 a15 a16 a17 a18 a19) = col3 (a := 12800) (b := 16) (fun R h => (dd a0 a1 a2 a3 a4 a5 a6 a7 a8 a9 a10 a11 a12 a13 a14 a15 a16 a17 a18 a19 (rb R)).vs h (rn R)) :=
  s29 (n28 a0 a1 a2 a3 a4 a5 a6 a7 a8 a9 a10 a11 a12 a13 a14 a15 a16 a17 a18 a19)

/-- The value codes. -/
theorem n81 : (k0_pay81 a0 a1 a2 a3 a4 a5 a6 a7 a8 a9 a10 a11 a12 a13 a14 a15 a16 a17 a18 a19) = tab3 (a := 12800) (b := 16) (d := 48) (fun R h r => (dd a0 a1 a2 a3 a4 a5 a6 a7 a8 a9 a10 a11 a12 a13 a14 a15 a16 a17 a18 a19 (rb R)).vc h r (rn R)) :=
  s30 (n28 a0 a1 a2 a3 a4 a5 a6 a7 a8 a9 a10 a11 a12 a13 a14 a15 a16 a17 a18 a19) (n80 a0 a1 a2 a3 a4 a5 a6 a7 a8 a9 a10 a11 a12 a13 a14 a15 a16 a17 a18 a19)

/-- The gate. -/
theorem n82 : (k0_pay82 a0 a1 a2 a3 a4 a5 a6 a7 a8 a9 a10 a11 a12 a13 a14 a15 a16 a17 a18 a19) = tab3 (a := 12800) (b := 16) (d := 48) (fun R h r => (dd a0 a1 a2 a3 a4 a5 a6 a7 a8 a9 a10 a11 a12 a13 a14 a15 a16 a17 a18 a19 (rb R)).gt h r (rn R)) := by
  unfold k0_pay82
  rw [n70, n71, ldb2 a11 2304 _ (by decide), ldb3 a12 3 _ (by decide), s31, s32]
  refine congrArg tab3 (funext fun R => funext fun h => funext fun r => ?_)
  exact congrArg (fun z => Ideal.logistic (z * (dd a0 a1 a2 a3 a4 a5 a6 a7 a8 a9 a10 a11 a12 a13 a14 a15 a16 a17 a18 a19 (rb R)).x1s (rn R) * (dd a0 a1 a2 a3 a4 a5 a6 a7 a8 a9 a10 a11 a12 a13 a14 a15 a16 a17 a18 a19 (rb R)).wqs 3 h r)) (pj_eq (dd a0 a1 a2 a3 a4 a5 a6 a7 a8 a9 a10 a11 a12 a13 a14 a15 a16 a17 a18 a19 (rb R)) 3 (by decide) a11 (fun _ _ => rfl) h r (rn R))

/-- Codes by batch entry and head. -/
theorem n83 : (k0_pay83 a0 a1 a2 a3 a4 a5 a6 a7 a8 a9 a10 a11 a12 a13 a14 a15 a16 a17 a18 a19) = tab3 (a := 400) (b := 512) (d := 48) (fun B n x => (dd a0 a1 a2 a3 a4 a5 a6 a7 a8 a9 a10 a11 a12 a13 a14 a15 a16 a17 a18 a19 (bb B)).qc (bh B) x n) := by
  unfold k0_pay83
  rw [n74, s39]
  refine congrArg tab3 (funext fun B => funext fun n => ?_)
  rw [rb_at, rn_at]
  rfl

/-- Codes by batch entry and head. -/
theorem n84 : (k0_pay84 a0 a1 a2 a3 a4 a5 a6 a7 a8 a9 a10 a11 a12 a13 a14 a15 a16 a17 a18 a19) = tab3 (a := 400) (b := 416) (d := 48) (fun B n x => (dd a0 a1 a2 a3 a4 a5 a6 a7 a8 a9 a10 a11 a12 a13 a14 a15 a16 a17 a18 a19 (bb B)).kc (bh B) x (lo (by decide) n)) := by
  unfold k0_pay84
  rw [n79, s40]
  refine congrArg tab3 (funext fun B => funext fun n => ?_)
  rw [rb_at', rn_at']
  rfl

/-- Codes by batch entry and head. -/
theorem n85 : (k0_pay85 a0 a1 a2 a3 a4 a5 a6 a7 a8 a9 a10 a11 a12 a13 a14 a15 a16 a17 a18 a19) = tab3 (a := 400) (b := 512) (d := 48) (fun B n x => (dd a0 a1 a2 a3 a4 a5 a6 a7 a8 a9 a10 a11 a12 a13 a14 a15 a16 a17 a18 a19 (bb B)).vc (bh B) x n) := by
  unfold k0_pay85
  rw [n81, s41]
  refine congrArg tab3 (funext fun B => funext fun n => ?_)
  rw [rb_at, rn_at]
  rfl

/-- The reference's attention is the layer's. -/
theorem ro_eq (d : Fin 25 → D) (bi : Vec Ideal S16x416x512 .f32) (hb : ∀ b h m n, (d b).bias h m n = bi (ix3 h m n)) (b : Fin 25) (h : Fin 16) (n : Fin 512) (r : Fin 48) :
    ro (fun b h n x => (d b).qc h x n) (fun b h n x => (d b).kc h x n) (fun b h n x => (d b).vc h x n) (fun b h n => (d b).qs h n) (fun b h n => (d b).ks h n) (fun b h n => (d b).vs h n) bi
      (fun b h n r => (d b).gt h r n) b h n r = (d b).ov h r n := by
  have hs : ∀ m, rsc (fun b h n x => (d b).qc h x n) (fun b h n x => (d b).kc h x n) (fun b h n => (d b).qs h n) (fun b h n => (d b).ks h n) bi b h n m = (d b).sc h m n := fun m => by
    unfold rsc D.sc
    rw [hb, Finset.sum_congr rfl fun x _ => mul_comm ((d b).qc h x n) ((d b).kc h x (lo (by decide) m))]
    congr 1
    rw [mul_assoc, mul_assoc, mul_assoc, mul_assoc, mul_comm ((d b).ks h _) sfac]
  have hp : ∀ m, rp (fun b h n x => (d b).qc h x n) (fun b h n x => (d b).kc h x n) (fun b h n => (d b).qs h n) (fun b h n => (d b).ks h n) bi b h n m = (d b).p h m n := fun m => by
    unfold rp D.p D.pm
    simp only [hs]
  unfold ro D.ov D.den
  simp only [hp]
  rw [Finset.sum_congr rfl fun m _ => mul_comm ((d b).p h m n * (d b).vs h (lo (by decide) m)) ((d b).vc h r (lo (by decide) m))]

/-- The gated attention. -/
theorem n42 : k0_pay42 (k0_pay73 a0 a1 a2 a3 a4 a5 a6 a7 a8 a9 a10 a11 a12 a13 a14 a15 a16 a17 a18 a19) (k0_pay78 a0 a1 a2 a3 a4 a5 a6 a7 a8 a9 a10 a11 a12 a13 a14 a15 a16 a17 a18 a19) (k0_pay80 a0 a1 a2 a3 a4 a5 a6 a7 a8 a9 a10 a11 a12 a13 a14 a15 a16 a17 a18 a19) (k0_pay82 a0 a1 a2 a3 a4 a5 a6 a7 a8 a9 a10 a11 a12 a13 a14 a15 a16 a17 a18 a19) (k0_pay83 a0 a1 a2 a3 a4 a5 a6 a7 a8 a9 a10 a11 a12 a13 a14 a15 a16 a17 a18 a19) (k0_pay84 a0 a1 a2 a3 a4 a5 a6 a7 a8 a9 a10 a11 a12 a13 a14 a15 a16 a17 a18 a19) (k0_pay85 a0 a1 a2 a3 a4 a5 a6 a7 a8 a9 a10 a11 a12 a13 a14 a15 a16 a17 a18 a19) a2 = tab2 (a := 12800) (b := 768) (fun R j => (dd a0 a1 a2 a3 a4 a5 a6 a7 a8 a9 a10 a11 a12 a13 a14 a15 a16 a17 a18 a19 (rb R)).og j (rn R)) := by
  rw [n73, n78, n80, n82, n83, n84, n85]
  refine (s42 (fun b h n x => ((dd a0 a1 a2 a3 a4 a5 a6 a7 a8 a9 a10 a11 a12 a13 a14 a15 a16 a17 a18 a19) b).qc h x n) (fun b h n x => ((dd a0 a1 a2 a3 a4 a5 a6 a7 a8 a9 a10 a11 a12 a13 a14 a15 a16 a17 a18 a19) b).kc h x n) (fun b h n x => ((dd a0 a1 a2 a3 a4 a5 a6 a7 a8 a9 a10 a11 a12 a13 a14 a15 a16 a17 a18 a19) b).vc h x n) (fun b h n => ((dd a0 a1 a2 a3 a4 a5 a6 a7 a8 a9 a10 a11 a12 a13 a14 a15 a16 a17 a18 a19) b).qs h n) (fun b h n => ((dd a0 a1 a2 a3 a4 a5 a6 a7 a8 a9 a10 a11 a12 a13 a14 a15 a16 a17 a18 a19) b).ks h n) (fun b h n => ((dd a0 a1 a2 a3 a4 a5 a6 a7 a8 a9 a10 a11 a12 a13 a14 a15 a16 a17 a18 a19) b).vs h n) a2
      (fun b h n r => ((dd a0 a1 a2 a3 a4 a5 a6 a7 a8 a9 a10 a11 a12 a13 a14 a15 a16 a17 a18 a19) b).gt h r n)).trans (congrArg tab2 (funext fun R => funext fun j => ?_))
  exact ro_eq (dd a0 a1 a2 a3 a4 a5 a6 a7 a8 a9 a10 a11 a12 a13 a14 a15 a16 a17 a18 a19) a2 (fun _ _ _ _ => rfl) (rb R) (hd j) (rn R) (hp j)

/-- The gated attention. -/
theorem n86 : (k0_pay86 a0 a1 a2 a3 a4 a5 a6 a7 a8 a9 a10 a11 a12 a13 a14 a15 a16 a17 a18 a19) = tab2 (a := 12800) (b := 768) (fun R j => (dd a0 a1 a2 a3 a4 a5 a6 a7 a8 a9 a10 a11 a12 a13 a14 a15 a16 a17 a18 a19 (rb R)).og j (rn R)) := by
  unfold k0_pay86
  rw [ldw3 a2]
  exact n42 a0 a1 a2 a3 a4 a5 a6 a7 a8 a9 a10 a11 a12 a13 a14 a15 a16 a17 a18 a19

/-- Its greatest absolute values. -/
theorem n87 : (k0_pay87 a0 a1 a2 a3 a4 a5 a6 a7 a8 a9 a10 a11 a12 a13 a14 a15 a16 a17 a18 a19) = col2 (a := 12800) (fun R => amax (fun j => (dd a0 a1 a2 a3 a4 a5 a6 a7 a8 a9 a10 a11 a12 a13 a14 a15 a16 a17 a18 a19 (rb R)).og j (rn R))) := by
  unfold k0_pay87
  rw [ldw3 a2]
  exact s43 (n42 a0 a1 a2 a3 a4 a5 a6 a7 a8 a9 a10 a11 a12 a13 a14 a15 a16 a17 a18 a19)

/-- The output projection. -/
theorem n88 : (k0_pay88 a0 a1 a2 a3 a4 a5 a6 a7 a8 a9 a10 a11 a12 a13 a14 a15 a16 a17 a18 a19) = tab2 (a := 12800) (b := 768) (fun R l => (dd a0 a1 a2 a3 a4 a5 a6 a7 a8 a9 a10 a11 a12 a13 a14 a15 a16 a17 a18 a19 (rb R)).yo (rn R) l) := by
  unfold k0_pay88
  rw [n86, n87, ldw2 a14, ldw2 a15, s48]
  rfl

theorem ldr2 {A B : ℕ} {e : EltTy} (X : (⟨2, ![A, B]⟩ : Shape).Idx → Elt Ideal e) (p : ℕ) (inb) (h : p < A) :
    View.ld X (Rect.unit (s := ⟨2, ![A, B]⟩) ![p, 0] ![1, B] inb) = row2 fun l => X (ix2 ⟨p, h⟩ l) :=
  funext fun i => View.ld_unit_apply_of X _ _ _ _ _ fun a => by
    fin_cases a
    · have : (i 0).val < 1 := (i 0).isLt
      show p = p + (i 0).val; omega
    · exact (Nat.zero_add _).symm

/-- The first gate of the residual branch. -/
theorem n89 : (k0_pay89 a0 a1 a2 a3 a4 a5 a6 a7 a8 a9 a10 a11 a12 a13 a14 a15 a16 a17 a18 a19) = tab2 (a := 12800) (b := 768) (fun R l => ∑ x, (dd a0 a1 a2 a3 a4 a5 a6 a7 a8 a9 a10 a11 a12 a13 a14 a15 a16 a17 a18 a19 (rb R)).s (rn R) x * (dd a0 a1 a2 a3 a4 a5 a6 a7 a8 a9 a10 a11 a12 a13 a14 a15 a16 a17 a18 a19 (rb R)).wsg x (lo (by decide) l) + (dd a0 a1 a2 a3 a4 a5 a6 a7 a8 a9 a10 a11 a12 a13 a14 a15 a16 a17 a18 a19 (rb R)).bsg 0 l) := by
  unfold k0_pay89
  rw [n65, ldw2 a9, ldr2 a10 0 _ (by decide), s50]
  rfl

/-- The activations after attention. -/
theorem n52 : k0_pay52 (k0_pay64 a0 a1 a2 a3 a4 a5 a6 a7 a8 a9 a10 a11 a12 a13 a14 a15 a16 a17 a18 a19) (k0_pay88 a0 a1 a2 a3 a4 a5 a6 a7 a8 a9 a10 a11 a12 a13 a14 a15 a16 a17 a18 a19) (k0_pay89 a0 a1 a2 a3 a4 a5 a6 a7 a8 a9 a10 a11 a12 a13 a14 a15 a16 a17 a18 a19) = tab2 (a := 12800) (b := 768) (fun R l => (dd a0 a1 a2 a3 a4 a5 a6 a7 a8 a9 a10 a11 a12 a13 a14 a15 a16 a17 a18 a19 (rb R)).a1 (rn R) l) := by
  rw [n64, n88, n89, s52]
  rfl

/-- The second modulated activations. -/
theorem n54 : k0_pay54 (k0_pay64 a0 a1 a2 a3 a4 a5 a6 a7 a8 a9 a10 a11 a12 a13 a14 a15 a16 a17 a18 a19) (k0_pay66 a0 a1 a2 a3 a4 a5 a6 a7 a8 a9 a10 a11 a12 a13 a14 a15 a16 a17 a18 a19) (k0_pay88 a0 a1 a2 a3 a4 a5 a6 a7 a8 a9 a10 a11 a12 a13 a14 a15 a16 a17 a18 a19) (k0_pay89 a0 a1 a2 a3 a4 a5 a6 a7 a8 a9 a10 a11 a12 a13 a14 a15 a16 a17 a18 a19) a4 a7 a8 = tab2 (a := 12800) (b := 768) (fun R l => (dd a0 a1 a2 a3 a4 a5 a6 a7 a8 a9 a10 a11 a12 a13 a14 a15 a16 a17 a18 a19 (rb R)).x2 (rn R) l) := by
  rw [n66, s54 (n52 a0 a1 a2 a3 a4 a5 a6 a7 a8 a9 a10 a11 a12 a13 a14 a15 a16 a17 a18 a19)]
  refine congrArg tab2 (funext fun R => funext fun l => ?_)
  rw [lnd_768]
  rfl

/-- The second modulated activations. -/
theorem n90 : (k0_pay90 a0 a1 a2 a3 a4 a5 a6 a7 a8 a9 a10 a11 a12 a13 a14 a15 a16 a17 a18 a19) = tab2 (a := 12800) (b := 768) (fun R l => (dd a0 a1 a2 a3 a4 a5 a6 a7 a8 a9 a10 a11 a12 a13 a14 a15 a16 a17 a18 a19 (rb R)).x2 (rn R) l) := by
  unfold k0_pay90
  rw [ldw2 a4, ldw2 a7, ldw2 a8]
  exact n54 a0 a1 a2 a3 a4 a5 a6 a7 a8 a9 a10 a11 a12 a13 a14 a15 a16 a17 a18 a19

/-- Their scales. -/
theorem n58 : k0_pay58 (k0_pay91 a0 a1 a2 a3 a4 a5 a6 a7 a8 a9 a10 a11 a12 a13 a14 a15 a16 a17 a18 a19) (k0_pay92 a0 a1 a2 a3 a4 a5 a6 a7 a8 a9 a10 a11 a12 a13 a14 a15 a16 a17 a18 a19) (k0_pay93 a0 a1 a2 a3 a4 a5 a6 a7 a8 a9 a10 a11 a12 a13 a14 a15 a16 a17 a18 a19) = col2 (a := 12800) (fun R => (dd a0 a1 a2 a3 a4 a5 a6 a7 a8 a9 a10 a11 a12 a13 a14 a15 a16 a17 a18 a19 (rb R)).x2s (rn R)) := by
  unfold k0_pay91 k0_pay92 k0_pay93
  rw [ldw2 a4, ldw2 a7, ldw2 a8]
  exact s58 (s55 (n54 a0 a1 a2 a3 a4 a5 a6 a7 a8 a9 a10 a11 a12 a13 a14 a15 a16 a17 a18 a19))

/-- Their codes. -/
theorem n59 : k0_pay59 (k0_pay90 a0 a1 a2 a3 a4 a5 a6 a7 a8 a9 a10 a11 a12 a13 a14 a15 a16 a17 a18 a19) (k0_pay91 a0 a1 a2 a3 a4 a5 a6 a7 a8 a9 a10 a11 a12 a13 a14 a15 a16 a17 a18 a19) (k0_pay92 a0 a1 a2 a3 a4 a5 a6 a7 a8 a9 a10 a11 a12 a13 a14 a15 a16 a17 a18 a19) (k0_pay93 a0 a1 a2 a3 a4 a5 a6 a7 a8 a9 a10 a11 a12 a13 a14 a15 a16 a17 a18 a19) = tab2 (a := 12800) (b := 768) (fun R l => (dd a0 a1 a2 a3 a4 a5 a6 a7 a8 a9 a10 a11 a12 a13 a14 a15 a16 a17 a18 a19 (rb R)).x2c (rn R) l) := by
  rw [n90]
  exact s59 _ (n58 a0 a1 a2 a3 a4 a5 a6 a7 a8 a9 a10 a11 a12 a13 a14 a15 a16 a17 a18 a19)

/-- The hidden rows. -/
theorem n62 : k0_pay62 (k0_pay90 a0 a1 a2 a3 a4 a5 a6 a7 a8 a9 a10 a11 a12 a13 a14 a15 a16 a17 a18 a19) (k0_pay91 a0 a1 a2 a3 a4 a5 a6 a7 a8 a9 a10 a11 a12 a13 a14 a15 a16 a17 a18 a19) (k0_pay92 a0 a1 a2 a3 a4 a5 a6 a7 a8 a9 a10 a11 a12 a13 a14 a15 a16 a17 a18 a19) (k0_pay93 a0 a1 a2 a3 a4 a5 a6 a7 a8 a9 a10 a11 a12 a13 a14 a15 a16 a17 a18 a19) (View.ld a16 r0_21) (View.ld a17 r0_22) (View.ld a16 r0_23) (View.ld a17 r0_24) = tab2 (a := 12800) (b := 1536) (fun R l => (dd a0 a1 a2 a3 a4 a5 a6 a7 a8 a9 a10 a11 a12 a13 a14 a15 a16 a17 a18 a19 (rb R)).hv (rn R) l) := by
  rw [ldb3 a16 0 _ (by decide), ldr2 a17 0 _ (by decide), ldb3 a16 1 _ (by decide), ldr2 a17 1 _ (by decide)]
  exact s62 (n59 a0 a1 a2 a3 a4 a5 a6 a7 a8 a9 a10 a11 a12 a13 a14 a15 a16 a17 a18 a19) (n58 a0 a1 a2 a3 a4 a5 a6 a7 a8 a9 a10 a11 a12 a13 a14 a15 a16 a17 a18 a19) _ _ _ _

/-- The hidden rows. -/
theorem n94 : (k0_pay94 a0 a1 a2 a3 a4 a5 a6 a7 a8 a9 a10 a11 a12 a13 a14 a15 a16 a17 a18 a19) = tab2 (a := 12800) (b := 1536) (fun R l => (dd a0 a1 a2 a3 a4 a5 a6 a7 a8 a9 a10 a11 a12 a13 a14 a15 a16 a17 a18 a19 (rb R)).hv (rn R) l) :=
  n62 a0 a1 a2 a3 a4 a5 a6 a7 a8 a9 a10 a11 a12 a13 a14 a15 a16 a17 a18 a19

/-- Their greatest absolute values. -/
theorem n95 : (k0_pay95 a0 a1 a2 a3 a4 a5 a6 a7 a8 a9 a10 a11 a12 a13 a14 a15 a16 a17 a18 a19) = col2 (a := 12800) (fun R => amax ((dd a0 a1 a2 a3 a4 a5 a6 a7 a8 a9 a10 a11 a12 a13 a14 a15 a16 a17 a18 a19 (rb R)).hv (rn R))) :=
  s63 (n62 a0 a1 a2 a3 a4 a5 a6 a7 a8 a9 a10 a11 a12 a13 a14 a15 a16 a17 a18 a19)

/-- The new activations. -/
theorem g20 : G20 (F := Ideal) a0 a1 a2 a3 a4 a5 a6 a7 a8 a9 a10 a11 a12 a13 a14 a15 a16 a17 a18 a19 = all3 fun b => (dd a0 a1 a2 a3 a4 a5 a6 a7 a8 a9 a10 a11 a12 a13 a14 a15 a16 a17 a18 a19 b).y := by
  unfold G20
  rw [n65, ldr2 a10 1 _ (by decide), s51, n52, n94, n95, s5]
  exact (un3 (fun b => (dd a0 a1 a2 a3 a4 a5 a6 a7 a8 a9 a10 a11 a12 a13 a14 a15 a16 a17 a18 a19 b).y) row_lt)

/-- The activations after attention. -/
theorem g21 : G21 (F := Ideal) a0 a1 a2 a3 a4 a5 a6 a7 a8 a9 a10 a11 a12 a13 a14 a15 a16 a17 a18 a19 = all3 fun b => (dd a0 a1 a2 a3 a4 a5 a6 a7 a8 a9 a10 a11 a12 a13 a14 a15 a16 a17 a18 a19 b).a1 := by
  unfold G21
  exact (s53 (n52 a0 a1 a2 a3 a4 a5 a6 a7 a8 a9 a10 a11 a12 a13 a14 a15 a16 a17 a18 a19)).trans (un3 (fun b => (dd a0 a1 a2 a3 a4 a5 a6 a7 a8 a9 a10 a11 a12 a13 a14 a15 a16 a17 a18 a19 b).a1) row_lt)

/-- The first codes. -/
theorem g22 : G22 (F := Ideal) a0 a1 a2 a3 a4 a5 a6 a7 a8 a9 a10 a11 a12 a13 a14 a15 a16 a17 a18 a19 = all3 fun b => (dd a0 a1 a2 a3 a4 a5 a6 a7 a8 a9 a10 a11 a12 a13 a14 a15 a16 a17 a18 a19 b).x1c := by
  unfold G22
  exact (s15 (n14 a0 a1 a2 a3 a4 a5 a6 a7 a8 a9 a10 a11 a12 a13 a14 a15 a16 a17 a18 a19)).trans (un3 (fun b => (dd a0 a1 a2 a3 a4 a5 a6 a7 a8 a9 a10 a11 a12 a13 a14 a15 a16 a17 a18 a19 b).x1c) row_lt)

/-- The first scales. -/
theorem g23 : G23 (F := Ideal) a0 a1 a2 a3 a4 a5 a6 a7 a8 a9 a10 a11 a12 a13 a14 a15 a16 a17 a18 a19 = all2 fun b => (dd a0 a1 a2 a3 a4 a5 a6 a7 a8 a9 a10 a11 a12 a13 a14 a15 a16 a17 a18 a19 b).x1s := by
  unfold G23
  exact (s16 (n13 a0 a1 a2 a3 a4 a5 a6 a7 a8 a9 a10 a11 a12 a13 a14 a15 a16 a17 a18 a19)).trans (un2 (fun b => (dd a0 a1 a2 a3 a4 a5 a6 a7 a8 a9 a10 a11 a12 a13 a14 a15 a16 a17 a18 a19 b).x1s) row_lt)

/-- The query codes. -/
theorem g24 : G24 (F := Ideal) a0 a1 a2 a3 a4 a5 a6 a7 a8 a9 a10 a11 a12 a13 a14 a15 a16 a17 a18 a19 = all4 fun b => (dd a0 a1 a2 a3 a4 a5 a6 a7 a8 a9 a10 a11 a12 a13 a14 a15 a16 a17 a18 a19 b).qc := by
  unfold G24
  rw [n74, s33]
  exact (un4 (fun b => (dd a0 a1 a2 a3 a4 a5 a6 a7 a8 a9 a10 a11 a12 a13 a14 a15 a16 a17 a18 a19 b).qc) row_lt)

/-- The key codes. -/
theorem g26 : G26 (F := Ideal) a0 a1 a2 a3 a4 a5 a6 a7 a8 a9 a10 a11 a12 a13 a14 a15 a16 a17 a18 a19 = all4 fun b => (dd a0 a1 a2 a3 a4 a5 a6 a7 a8 a9 a10 a11 a12 a13 a14 a15 a16 a17 a18 a19 b).kc := by
  unfold G26
  rw [n79, s35]
  exact (un4 (fun b => (dd a0 a1 a2 a3 a4 a5 a6 a7 a8 a9 a10 a11 a12 a13 a14 a15 a16 a17 a18 a19 b).kc) row_lt)

/-- The value codes. -/
theorem g28 : G28 (F := Ideal) a0 a1 a2 a3 a4 a5 a6 a7 a8 a9 a10 a11 a12 a13 a14 a15 a16 a17 a18 a19 = all4 fun b => (dd a0 a1 a2 a3 a4 a5 a6 a7 a8 a9 a10 a11 a12 a13 a14 a15 a16 a17 a18 a19 b).vc := by
  unfold G28
  rw [n81, s37]
  exact (un4 (fun b => (dd a0 a1 a2 a3 a4 a5 a6 a7 a8 a9 a10 a11 a12 a13 a14 a15 a16 a17 a18 a19 b).vc) row_lt)

/-- The query scales. -/
theorem g25 : G25 (F := Ideal) a0 a1 a2 a3 a4 a5 a6 a7 a8 a9 a10 a11 a12 a13 a14 a15 a16 a17 a18 a19 = all3 fun b => (dd a0 a1 a2 a3 a4 a5 a6 a7 a8 a9 a10 a11 a12 a13 a14 a15 a16 a17 a18 a19 b).qs := by
  unfold G25
  rw [n73, s34]
  exact (un3' (fun b => (dd a0 a1 a2 a3 a4 a5 a6 a7 a8 a9 a10 a11 a12 a13 a14 a15 a16 a17 a18 a19 b).qs) row_lt)

/-- The key scales. -/
theorem g27 : G27 (F := Ideal) a0 a1 a2 a3 a4 a5 a6 a7 a8 a9 a10 a11 a12 a13 a14 a15 a16 a17 a18 a19 = all3 fun b => (dd a0 a1 a2 a3 a4 a5 a6 a7 a8 a9 a10 a11 a12 a13 a14 a15 a16 a17 a18 a19 b).ks := by
  unfold G27
  rw [n78, s36]
  exact (un3' (fun b => (dd a0 a1 a2 a3 a4 a5 a6 a7 a8 a9 a10 a11 a12 a13 a14 a15 a16 a17 a18 a19 b).ks) row_lt)

/-- The value scales. -/
theorem g29 : G29 (F := Ideal) a0 a1 a2 a3 a4 a5 a6 a7 a8 a9 a10 a11 a12 a13 a14 a15 a16 a17 a18 a19 = all3 fun b => (dd a0 a1 a2 a3 a4 a5 a6 a7 a8 a9 a10 a11 a12 a13 a14 a15 a16 a17 a18 a19 b).vs := by
  unfold G29
  rw [n80, s38]
  exact (un3' (fun b => (dd a0 a1 a2 a3 a4 a5 a6 a7 a8 a9 a10 a11 a12 a13 a14 a15 a16 a17 a18 a19 b).vs) row_lt)

/-- The attention codes. -/
theorem g30 : G30 (F := Ideal) a0 a1 a2 a3 a4 a5 a6 a7 a8 a9 a10 a11 a12 a13 a14 a15 a16 a17 a18 a19 = all4 fun b => (fun h r n => (dd a0 a1 a2 a3 a4 a5 a6 a7 a8 a9 a10 a11 a12 a13 a14 a15 a16 a17 a18 a19 b).ogc (hrow h r) n) := by
  unfold G30
  rw [n86, n87, s46]
  exact (un4 (fun b h r n => (dd a0 a1 a2 a3 a4 a5 a6 a7 a8 a9 a10 a11 a12 a13 a14 a15 a16 a17 a18 a19 b).ogc (hrow h r) n) row_lt)

/-- The attention scales. -/
theorem g31 : G31 (F := Ideal) a0 a1 a2 a3 a4 a5 a6 a7 a8 a9 a10 a11 a12 a13 a14 a15 a16 a17 a18 a19 = all2 fun b => (dd a0 a1 a2 a3 a4 a5 a6 a7 a8 a9 a10 a11 a12 a13 a14 a15 a16 a17 a18 a19 b).ogs := by
  unfold G31
  rw [n87, s47]
  exact (un2 (fun b => (dd a0 a1 a2 a3 a4 a5 a6 a7 a8 a9 a10 a11 a12 a13 a14 a15 a16 a17 a18 a19 b).ogs) row_lt)

/-- The second codes. -/
theorem g32 : G32 (F := Ideal) a0 a1 a2 a3 a4 a5 a6 a7 a8 a9 a10 a11 a12 a13 a14 a15 a16 a17 a18 a19 = all3 fun b => (dd a0 a1 a2 a3 a4 a5 a6 a7 a8 a9 a10 a11 a12 a13 a14 a15 a16 a17 a18 a19 b).x2c := by
  unfold G32
  exact (s60 (n59 a0 a1 a2 a3 a4 a5 a6 a7 a8 a9 a10 a11 a12 a13 a14 a15 a16 a17 a18 a19)).trans (un3 (fun b => (dd a0 a1 a2 a3 a4 a5 a6 a7 a8 a9 a10 a11 a12 a13 a14 a15 a16 a17 a18 a19 b).x2c) row_lt)

/-- The second scales. -/
theorem g33 : G33 (F := Ideal) a0 a1 a2 a3 a4 a5 a6 a7 a8 a9 a10 a11 a12 a13 a14 a15 a16 a17 a18 a19 = all2 fun b => (dd a0 a1 a2 a3 a4 a5 a6 a7 a8 a9 a10 a11 a12 a13 a14 a15 a16 a17 a18 a19 b).x2s := by
  unfold G33
  exact (s61 (n58 a0 a1 a2 a3 a4 a5 a6 a7 a8 a9 a10 a11 a12 a13 a14 a15 a16 a17 a18 a19)).trans (un2 (fun b => (dd a0 a1 a2 a3 a4 a5 a6 a7 a8 a9 a10 a11 a12 a13 a14 a15 a16 a17 a18 a19 b).x2s) row_lt)

/-- The hidden codes. -/
theorem g34 : G34 (F := Ideal) a0 a1 a2 a3 a4 a5 a6 a7 a8 a9 a10 a11 a12 a13 a14 a15 a16 a17 a18 a19 = all3 fun b => (dd a0 a1 a2 a3 a4 a5 a6 a7 a8 a9 a10 a11 a12 a13 a14 a15 a16 a17 a18 a19 b).hc := by
  unfold G34
  rw [n94, n95, s3]
  exact (un3 (fun b => (dd a0 a1 a2 a3 a4 a5 a6 a7 a8 a9 a10 a11 a12 a13 a14 a15 a16 a17 a18 a19 b).hc) row_lt)

/-- The hidden scales. -/
theorem g35 : G35 (F := Ideal) a0 a1 a2 a3 a4 a5 a6 a7 a8 a9 a10 a11 a12 a13 a14 a15 a16 a17 a18 a19 = all2 fun b => (dd a0 a1 a2 a3 a4 a5 a6 a7 a8 a9 a10 a11 a12 a13 a14 a15 a16 a17 a18 a19 b).hs := by
  unfold G35
  rw [n95, s4]
  exact (un2 (fun b => (dd a0 a1 a2 a3 a4 a5 a6 a7 a8 a9 a10 a11 a12 a13 a14 a15 a16 a17 a18 a19 b).hs) row_lt)

end Cert.ReferenceIdeal.Value

end
-- ==== Proof.Agree.lean ====
/- The kernel and the reference leave the same sixteen results. -/
module

public import proofs.«01_k».proof.Defs
public import proofs.«01_k».proof.Proof.KFrame
public import proofs.«01_k».proof.Proof.KFinal
public import proofs.«01_k».proof.Proof.RefAt

@[expose] public section

set_option maxRecDepth 16384
set_option maxHeartbeats 8000000

noncomputable section

namespace Cert.KernelIdeal.Hand

open Idealize.ShloMosaic Idealize.ShloMosaic.TcCoe Idealize.SL.Sem
open Cert.KernelIdeal Cert.KernelIdeal.Gen Cert.Spec
open Idealize.ShloMosaic.Pipeline (Dat RDat)

variable (m : (ℓ : Loc nD τ sig) → Buf (Elt Ideal) ℓ)

/-- An array whose blocks the run's data state exactly ends at the contents the data give. -/
theorem exact_of {c : Dev nD} {w : Fin cfg0.W} (ho : ovr m c w = none) {G}
    (h : (rdat m c).ArrAt w cfg0.N G) : G = (dats m c).arrAt w cfg0.N :=
  (dats m c).toR_arrAt w _ G (((dats m c).toR.override_arrAt ho _ G).mp h)

/-- The sixteen results of a run that ended as the run's data say, as the layer's formulas. -/
theorem results {r : PUnit × MemSt nD τ sig (Elt Ideal)} (h : RDat.FramePost (cfgs 0) (rdat m) (V m) r) (c : Dev nD) :
      r.2.mem ((c.tc : Thread nD τ).loc main_v4_0) = (all3 fun b => (kA m c b).y)
      ∧ r.2.mem ((c.tc : Thread nD τ).loc main_v4_1) = (all3 fun b => (kA m c b).a1)
      ∧ r.2.mem ((c.tc : Thread nD τ).loc main_v4_2) = (all3 fun b => (kA m c b).x1c)
      ∧ r.2.mem ((c.tc : Thread nD τ).loc main_v4_3) = (all2 fun b => (kA m c b).x1s)
      ∧ r.2.mem ((c.tc : Thread nD τ).loc main_v4_4) = (all4 fun b => (kA m c b).qc)
      ∧ r.2.mem ((c.tc : Thread nD τ).loc main_v4_5) = (all3 fun b => (kA m c b).qs)
      ∧ r.2.mem ((c.tc : Thread nD τ).loc main_v4_6) = (all4 fun b => (kA m c b).kc)
      ∧ r.2.mem ((c.tc : Thread nD τ).loc main_v4_7) = (all3 fun b => (kA m c b).ks)
      ∧ r.2.mem ((c.tc : Thread nD τ).loc main_v4_8) = (all4 fun b => (kA m c b).vc)
      ∧ r.2.mem ((c.tc : Thread nD τ).loc main_v4_9) = (all3 fun b => (kA m c b).vs)
      ∧ r.2.mem ((c.tc : Thread nD τ).loc main_v4_10) = (all4 fun b => fun h r n => (kA m c b).ogc (hrow h r) n)
      ∧ r.2.mem ((c.tc : Thread nD τ).loc main_v4_11) = (all2 fun b => (kA m c b).ogs)
      ∧ r.2.mem ((c.tc : Thread nD τ).loc main_v4_12) = (all3 fun b => (kA m c b).x2c)
      ∧ r.2.mem ((c.tc : Thread nD τ).loc main_v4_13) = (all2 fun b => (kA m c b).x2s)
      ∧ r.2.mem ((c.tc : Thread nD τ).loc main_v4_14) = (all3 fun b => (kA m c b).hc)
      ∧ r.2.mem ((c.tc : Thread nD τ).loc main_v4_15) = (all2 fun b => (kA m c b).hs) :=
  ⟨(exact_of m rfl ((h c).1 20)).trans (arr_20 m c),
   (exact_of m rfl ((h c).1 21)).trans (arr_21 m c),
   (exact_of m rfl ((h c).1 22)).trans (arr_22 m c),
   arr_23 m c _ ((h c).1 23),
   (exact_of m rfl ((h c).1 24)).trans (arr_24 m c),
   (exact_of m rfl ((h c).1 25)).trans (arr_25 m c),
   (exact_of m rfl ((h c).1 26)).trans (arr_26 m c),
   (exact_of m rfl ((h c).1 27)).trans (arr_27 m c),
   (exact_of m rfl ((h c).1 28)).trans (arr_28 m c),
   (exact_of m rfl ((h c).1 29)).trans (arr_29 m c),
   (exact_of m rfl ((h c).1 30)).trans (arr_30 m c),
   arr_31 m c _ ((h c).1 31),
   (exact_of m rfl ((h c).1 32)).trans (arr_32 m c),
   arr_33 m c _ ((h c).1 33),
   (exact_of m rfl ((h c).1 34)).trans (arr_34 m c),
   arr_35 m c _ ((h c).1 35)⟩

end Cert.KernelIdeal.Hand

namespace Cert.Agree

open Idealize.ShloMosaic Idealize.ShloMosaic.TcCoe Idealize.SL.Sem Cert.Spec
open Cert.KernelIdeal.Hand (kA)
open Cert.ReferenceIdeal.Value

/-- On arguments the reference shares with the kernel, both compute from the same arrays of the layer. -/
theorem same (m : (ℓ : Loc Cert.KernelIdeal.nD Cert.KernelIdeal.τ Cert.KernelIdeal.sig) → Buf (Elt Ideal) ℓ) (c : Dev Cert.KernelIdeal.nD)
    {a0 a1 a2 a3 a4 a5 a6 a7 a8 a9 a10 a11 a12 a13 a14 a15 a16 a17 a18 a19}
    (h0 : a0 = m ((c.tc : Thread Cert.KernelIdeal.nD Cert.KernelIdeal.τ).loc Cert.KernelIdeal.main_arg0))
    (h1 : a1 = m ((c.tc : Thread Cert.KernelIdeal.nD Cert.KernelIdeal.τ).loc Cert.KernelIdeal.main_arg1))
    (h2 : a2 = m ((c.tc : Thread Cert.KernelIdeal.nD Cert.KernelIdeal.τ).loc Cert.KernelIdeal.main_arg2))
    (h3 : a3 = m ((c.tc : Thread Cert.KernelIdeal.nD Cert.KernelIdeal.τ).loc Cert.KernelIdeal.main_arg3))
    (h4 : a4 = m ((c.tc : Thread Cert.KernelIdeal.nD Cert.KernelIdeal.τ).loc Cert.KernelIdeal.main_arg4))
    (h5 : a5 = m ((c.tc : Thread Cert.KernelIdeal.nD Cert.KernelIdeal.τ).loc Cert.KernelIdeal.main_arg5))
    (h6 : a6 = m ((c.tc : Thread Cert.KernelIdeal.nD Cert.KernelIdeal.τ).loc Cert.KernelIdeal.main_arg6))
    (h7 : a7 = m ((c.tc : Thread Cert.KernelIdeal.nD Cert.KernelIdeal.τ).loc Cert.KernelIdeal.main_arg7))
    (h8 : a8 = m ((c.tc : Thread Cert.KernelIdeal.nD Cert.KernelIdeal.τ).loc Cert.KernelIdeal.main_arg8))
    (h9 : a9 = m ((c.tc : Thread Cert.KernelIdeal.nD Cert.KernelIdeal.τ).loc Cert.KernelIdeal.main_arg9))
    (h10 : a10 = m ((c.tc : Thread Cert.KernelIdeal.nD Cert.KernelIdeal.τ).loc Cert.KernelIdeal.main_arg10))
    (h11 : a11 = m ((c.tc : Thread Cert.KernelIdeal.nD Cert.KernelIdeal.τ).loc Cert.KernelIdeal.main_arg11))
    (h12 : a12 = m ((c.tc : Thread Cert.KernelIdeal.nD Cert.KernelIdeal.τ).loc Cert.KernelIdeal.main_arg12))
    (h13 : a13 = m ((c.tc : Thread Cert.KernelIdeal.nD Cert.KernelIdeal.τ).loc Cert.KernelIdeal.main_arg13))
    (h14 : a14 = m ((c.tc : Thread Cert.KernelIdeal.nD Cert.KernelIdeal.τ).loc Cert.KernelIdeal.main_arg14))
    (h15 : a15 = m ((c.tc : Thread Cert.KernelIdeal.nD Cert.KernelIdeal.τ).loc Cert.KernelIdeal.main_arg15))
    (h16 : a16 = m ((c.tc : Thread Cert.KernelIdeal.nD Cert.KernelIdeal.τ).loc Cert.KernelIdeal.main_arg16))
    (h17 : a17 = m ((c.tc : Thread Cert.KernelIdeal.nD Cert.KernelIdeal.τ).loc Cert.KernelIdeal.main_arg17))
    (h18 : a18 = m ((c.tc : Thread Cert.KernelIdeal.nD Cert.KernelIdeal.τ).loc Cert.KernelIdeal.main_arg18))
    (h19 : a19 = m ((c.tc : Thread Cert.KernelIdeal.nD Cert.KernelIdeal.τ).loc Cert.KernelIdeal.main_arg19))
    : dd a0 a1 a2 a3 a4 a5 a6 a7 a8 a9 a10 a11 a12 a13 a14 a15 a16 a17 a18 a19 = kA m c := by
  subst h0 h1 h2 h3 h4 h5 h6 h7 h8 h9 h10 h11 h12 h13 h14 h15 h16 h17 h18 h19
  rfl

/-- Over the extended reals, the kernel and the reference end with equal results on equal arguments. -/
theorem algebraic : Cert.algebraic_KernelIdeal_ReferenceIdeal (hKernelIdeal := Cert.KernelIdeal.Gen.facts) (hReferenceIdeal := Cert.ReferenceIdeal.Gen.facts) := by
  intro m g m' g' _ hm
  refine ⟨fun c => (all3 fun b => (kA m c b).y),
    fun c => (all3 fun b => (kA m c b).a1),
    fun c => (all3 fun b => (kA m c b).x1c),
    fun c => (all2 fun b => (kA m c b).x1s),
    fun c => (all4 fun b => (kA m c b).qc),
    fun c => (all3 fun b => (kA m c b).qs),
    fun c => (all4 fun b => (kA m c b).kc),
    fun c => (all3 fun b => (kA m c b).ks),
    fun c => (all4 fun b => (kA m c b).vc),
    fun c => (all3 fun b => (kA m c b).vs),
    fun c => (all4 fun b => fun h r n => (kA m c b).ogc (hrow h r) n),
    fun c => (all2 fun b => (kA m c b).ogs),
    fun c => (all3 fun b => (kA m c b).x2c),
    fun c => (all2 fun b => (kA m c b).x2s),
    fun c => (all3 fun b => (kA m c b).hc),
    fun c => (all2 fun b => (kA m c b).hs),
    (θ_run _ _ _).mono (fun r h c => ?_) (Cert.KernelIdeal.Hand.run_main_quiescent m g),
    (θ_run _ _ _).mono (fun r h c => ?_) (Cert.ReferenceIdeal.Value.run m' g')⟩
  · obtain ⟨p0, p1, p2, p3, p4, p5, p6, p7, p8, p9, p10, p11, p12, p13, p14, p15⟩ := Cert.KernelIdeal.Hand.results m h.1 c
    exact ⟨p0, p1, p2, p3, p4, p5, p6, p7, p8, p9, p10, p11, p12, p13, p14, p15, Cert.KernelIdeal.Hand.args_kept m h.1 c⟩
  · obtain ⟨h0, h1, h2, h3, h4, h5, h6, h7, h8, h9, h10, h11, h12, h13, h14, h15, h16, h17, h18, h19⟩ := hm c
    have e := same m c h0 h1 h2 h3 h4 h5 h6 h7 h8 h9 h10 h11 h12 h13 h14 h15 h16 h17 h18 h19
    obtain ⟨p0, p1, p2, p3, p4, p5, p6, p7, p8, p9, p10, p11, p12, p13, p14, p15, q⟩ := h c
    exact ⟨p0.trans ((g20 _ _ _ _ _ _ _ _ _ _ _ _ _ _ _ _ _ _ _ _).trans (congrArg (fun d : Fin 25 → D => all3 fun b => (d b).y) e)),
      p1.trans ((g21 _ _ _ _ _ _ _ _ _ _ _ _ _ _ _ _ _ _ _ _).trans (congrArg (fun d : Fin 25 → D => all3 fun b => (d b).a1) e)),
      p2.trans ((g22 _ _ _ _ _ _ _ _ _ _ _ _ _ _ _ _ _ _ _ _).trans (congrArg (fun d : Fin 25 → D => all3 fun b => (d b).x1c) e)),
      p3.trans ((g23 _ _ _ _ _ _ _ _ _ _ _ _ _ _ _ _ _ _ _ _).trans (congrArg (fun d : Fin 25 → D => all2 fun b => (d b).x1s) e)),
      p4.trans ((g24 _ _ _ _ _ _ _ _ _ _ _ _ _ _ _ _ _ _ _ _).trans (congrArg (fun d : Fin 25 → D => all4 fun b => (d b).qc) e)),
      p5.trans ((g25 _ _ _ _ _ _ _ _ _ _ _ _ _ _ _ _ _ _ _ _).trans (congrArg (fun d : Fin 25 → D => all3 fun b => (d b).qs) e)),
      p6.trans ((g26 _ _ _ _ _ _ _ _ _ _ _ _ _ _ _ _ _ _ _ _).trans (congrArg (fun d : Fin 25 → D => all4 fun b => (d b).kc) e)),
      p7.trans ((g27 _ _ _ _ _ _ _ _ _ _ _ _ _ _ _ _ _ _ _ _).trans (congrArg (fun d : Fin 25 → D => all3 fun b => (d b).ks) e)),
      p8.trans ((g28 _ _ _ _ _ _ _ _ _ _ _ _ _ _ _ _ _ _ _ _).trans (congrArg (fun d : Fin 25 → D => all4 fun b => (d b).vc) e)),
      p9.trans ((g29 _ _ _ _ _ _ _ _ _ _ _ _ _ _ _ _ _ _ _ _).trans (congrArg (fun d : Fin 25 → D => all3 fun b => (d b).vs) e)),
      p10.trans ((g30 _ _ _ _ _ _ _ _ _ _ _ _ _ _ _ _ _ _ _ _).trans (congrArg (fun d : Fin 25 → D => all4 fun b => fun h r n => (d b).ogc (hrow h r) n) e)),
      p11.trans ((g31 _ _ _ _ _ _ _ _ _ _ _ _ _ _ _ _ _ _ _ _).trans (congrArg (fun d : Fin 25 → D => all2 fun b => (d b).ogs) e)),
      p12.trans ((g32 _ _ _ _ _ _ _ _ _ _ _ _ _ _ _ _ _ _ _ _).trans (congrArg (fun d : Fin 25 → D => all3 fun b => (d b).x2c) e)),
      p13.trans ((g33 _ _ _ _ _ _ _ _ _ _ _ _ _ _ _ _ _ _ _ _).trans (congrArg (fun d : Fin 25 → D => all2 fun b => (d b).x2s) e)),
      p14.trans ((g34 _ _ _ _ _ _ _ _ _ _ _ _ _ _ _ _ _ _ _ _).trans (congrArg (fun d : Fin 25 → D => all3 fun b => (d b).hc) e)),
      p15.trans ((g35 _ _ _ _ _ _ _ _ _ _ _ _ _ _ _ _ _ _ _ _).trans (congrArg (fun d : Fin 25 → D => all2 fun b => (d b).hs) e)),
      q⟩

end Cert.Agree

end
-- ==== Proof.lean ====
/- The claims about the layer: every program runs to its end and leaves its arguments as they were, the ideal
   program is the kernel's, and over the extended reals the kernel's sixteen results are the reference's. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.KernelFrame
public import proofs.«01_k».proof.Proof.KFrame
public import proofs.«01_k».proof.Proof.RefFrame
public import proofs.«01_k».proof.Proof.Agree
public import Idealize.ShloMosaic.Adequacy
public import Idealize.ShloMosaic.Init

@[expose] public section

noncomputable section

namespace Cert.Proof

open Idealize.ShloMosaic Idealize.SL.Sem

/-- The claims: the three frames, that the ideal program is the kernel, and that the kernel and the reference agree. -/
theorem claim : Cert.Claim := ⟨Cert.Kernel.Gen.facts, Cert.KernelIdeal.Gen.facts, Cert.ReferenceIdeal.Gen.facts,
  fun m ρ _ => Cert.Kernel.Gen.frame m ρ,
  fun m ρ _ => Cert.KernelIdeal.Hand.frame m ρ,
  fun m ρ _ => Cert.ReferenceIdeal.Gen.frame m ρ,
  trivial,
  Cert.Agree.algebraic⟩

end Cert.Proof

end
